-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3)
      ∧ r.2.mem ((c.tc : Thread Cert.Kernel32.nD Cert.Kernel32.τ).loc Cert.Kernel32.main_arg4) = m ((c.tc : Thread Cert.Kernel32.nD Cert.Kernel32.τ).loc Cert.Kernel32.main_arg4))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
      ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3)
      ∧ r.2.mem ((c.tc : Thread Cert.Reference32Ideal.nD Cert.Reference32Ideal.τ).loc Cert.Reference32Ideal.main_arg4) = m ((c.tc : Thread Cert.Reference32Ideal.nD Cert.Reference32Ideal.τ).loc Cert.Reference32Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v102_0)) (v1 : (c : Dev Cert.KernelIdeal.nD) → Buf (Elt Ideal) ((c.tc : Thread Cert.KernelIdeal.nD Cert.KernelIdeal.τ).loc Cert.KernelIdeal.main_v102_1)) (v2 : (c : Dev Cert.KernelIdeal.nD) → Buf (Elt Ideal) ((c.tc : Thread Cert.KernelIdeal.nD Cert.KernelIdeal.τ).loc Cert.KernelIdeal.main_v102_2)) (v3 : (c : Dev Cert.KernelIdeal.nD) → Buf (Elt Ideal) ((c.tc : Thread Cert.KernelIdeal.nD Cert.KernelIdeal.τ).loc Cert.KernelIdeal.main_v102_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102_0) = v0 c
          ∧ r.2.mem ((c.tc : Thread Cert.KernelIdeal.nD Cert.KernelIdeal.τ).loc Cert.KernelIdeal.main_v102_1) = v1 c
          ∧ r.2.mem ((c.tc : Thread Cert.KernelIdeal.nD Cert.KernelIdeal.τ).loc Cert.KernelIdeal.main_v102_2) = v2 c
          ∧ r.2.mem ((c.tc : Thread Cert.KernelIdeal.nD Cert.KernelIdeal.τ).loc Cert.KernelIdeal.main_v102_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_v87) = v2 c
          ∧ r.2.mem ((c.tc : Thread Cert.ReferenceIdeal.nD Cert.ReferenceIdeal.τ).loc Cert.ReferenceIdeal.main_v88) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_v32) = v1 c
          ∧ r.2.mem ((c.tc : Thread Cert.Reference2Ideal.nD Cert.Reference2Ideal.τ).loc Cert.Reference2Ideal.main_v33) = v2 c
          ∧ r.2.mem ((c.tc : Thread Cert.Reference2Ideal.nD Cert.Reference2Ideal.τ).loc Cert.Reference2Ideal.main_v34) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v29)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v29) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v1) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v2) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v0) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v2) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v0) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v2) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v2) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v34) = v0 c
          ∧ r.2.mem ((c.tc : Thread Cert.Reference27Ideal.nD Cert.Reference27Ideal.τ).loc Cert.Reference27Ideal.main_v17) = v1 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v17) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v12) = v0 c
          ∧ r.2.mem ((c.tc : Thread Cert.Reference29Ideal.nD Cert.Reference29Ideal.τ).loc Cert.Reference29Ideal.main_v14) = v1 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v48) = v0 c
          ∧ r.2.mem ((c.tc : Thread Cert.Reference30Ideal.nD Cert.Reference30Ideal.τ).loc Cert.Reference30Ideal.main_v32) = v1 c
          ∧ r.2.mem ((c.tc : Thread Cert.Reference30Ideal.nD Cert.Reference30Ideal.τ).loc Cert.Reference30Ideal.main_v49) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v19) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)
      ∧ m' ((c.tc : Thread Cert.Reference32Ideal.nD Cert.Reference32Ideal.τ).loc Cert.Reference32Ideal.main_arg4) = m ((c.tc : Thread Cert.Kernel32Ideal.nD Cert.Kernel32Ideal.τ).loc Cert.Kernel32Ideal.main_arg4)) →
    ∃ (v0 : (c : Dev Cert.Kernel32Ideal.nD) → Buf (Elt Ideal) ((c.tc : Thread Cert.Kernel32Ideal.nD Cert.Kernel32Ideal.τ).loc Cert.Kernel32Ideal.main_v5_0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v5_0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
          ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v41) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3)
          ∧ r.2.mem ((c.tc : Thread Cert.Reference32Ideal.nD Cert.Reference32Ideal.τ).loc Cert.Reference32Ideal.main_arg4) = m' ((c.tc : Thread Cert.Reference32Ideal.nD Cert.Reference32Ideal.τ).loc Cert.Reference32Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
-- ==== Pre_finite.lean ====
abbrev S8192x1024 : Shape := ⟨2, ![8192, 1024]⟩
abbrev S16x8192 : Shape := ⟨2, ![16, 8192]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S16x8192 : S_.BroadcastsInDim S16x8192 (![] : Fin 0 → Fin S16x8192.rank)
  reducesTo_S16x8192_S_d0_1 : S16x8192.ReducesTo [0, 1] S_

variable [Facts]

def fn_part1 {F : FTy → Type} [FloatOps F] (main_arg4 : FVec F S8192x1024 .f32) (main_v13 : IVec S_ 1) (main_v16 : IVec S16x8192 1) : IVec S_ 1 :=
  let main_c_5 : IVec S_ 1 := constantI S_ 1 1#1
  let main_v17 : IVec S_ 1 := (fun x v => Host.reduce IntOp.andi x v reducesTo_S16x8192_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S8192x1024 .f32) (main_arg1 : FVec F S8192x1024 .f32) (main_arg2 : FVec F S8192x1024 .f32) (main_arg3 : FVec F S16x8192 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S16x8192 .f32 := Host.absf main_arg3
  let main_cst_4 : FVec F S_ .f32 := constant S_ .f32 0x7F800000#32
  let main_v15 : FVec F S16x8192 .f32 := broadcastInDim S16x8192 ![] bcast_S_S16x8192 main_cst_4
  let main_v16 : IVec S16x8192 1 := cmpf .olt main_v14 main_v15
  fn_part1 (F := F) main_arg4 main_v13 main_v16
-- ==== Kernel.lean ====
abbrev S8192x1024 : Shape := ⟨2, ![8192, 1024]⟩
abbrev S16x8192 : Shape := ⟨2, ![16, 8192]⟩
abbrev S8192x16x64 : Shape := ⟨3, ![8192, 16, 64]⟩
abbrev S_ : Shape := ⟨0, ![]⟩
abbrev S16x8192x8192 : Shape := ⟨3, ![16, 8192, 8192]⟩
abbrev S16x8192x1 : Shape := ⟨3, ![16, 8192, 1]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x64x8192 : Shape := ⟨3, ![16, 64, 8192]⟩
abbrev S8192x8x6 : Shape := ⟨3, ![8192, 8, 6]⟩
abbrev S8192x8x116 : Shape := ⟨3, ![8192, 8, 116]⟩
abbrev S16x3x8192 : Shape := ⟨3, ![16, 3, 8192]⟩
abbrev S8x6x8192 : Shape := ⟨3, ![8, 6, 8192]⟩
abbrev S8192x8x128 : Shape := ⟨3, ![8192, 8, 128]⟩
abbrev S8x2x8x1x1024 : Shape := ⟨5, ![8, 2, 8, 1, 1024]⟩
abbrev S1024x128 : Shape := ⟨2, ![1024, 128]⟩
abbrev S8192x128 : Shape := ⟨2, ![8192, 128]⟩
abbrev S1x2x8x1x1024 : Shape := ⟨5, ![1, 2, 8, 1, 1024]⟩
abbrev S8x128x1024 : Shape := ⟨3, ![8, 128, 1024]⟩
abbrev S128x1024 : Shape := ⟨2, ![128, 1024]⟩
abbrev S1024 : Shape := ⟨1, ![1024]⟩
abbrev S1024x1 : Shape := ⟨2, ![1024, 1]⟩
abbrev S1024x256 : Shape := ⟨2, ![1024, 256]⟩
abbrev S1024x1024 : Shape := ⟨2, ![1024, 1024]⟩
abbrev S1x1x1x1x1024 : Shape := ⟨5, ![1, 1, 1, 1, 1024]⟩
abbrev S1x1024 : Shape := ⟨2, ![1, 1024]⟩
abbrev S1x128x1024 : Shape := ⟨3, ![1, 128, 1024]⟩

abbrev nBuf : Space → Nat
  | .hbm => 130
  | .vmem => 24
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S16x8192, .f32⟩
  | 4 => ⟨S8192x1024, .f32⟩
  | 5 => ⟨S8192x16x64, .f32⟩
  | 6 => ⟨S_, .f32⟩
  | 7 => ⟨S8192x16x64, .f32⟩
  | 8 => ⟨S8192x16x64, .f32⟩
  | 9 => ⟨S8192x16x64, .f32⟩
  | 10 => ⟨S16x8192x8192, .f32⟩
  | 11 => ⟨S16x8192x1, .f32⟩
  | 12 => ⟨S16x1x8192, .f32⟩
  | 13 => ⟨S16x8192x8192, .f32⟩
  | 14 => ⟨S16x8192x8192, .f32⟩
  | 15 => ⟨S16x8192x8192, .f32⟩
  | 16 => ⟨S16x8192x8192, .f32⟩
  | 17 => ⟨S8192, .i32⟩
  | 18 => ⟨S1x8192, .i32⟩
  | 19 => ⟨S8192x1, .i32⟩
  | 20 => ⟨S8192x8192, .i32⟩
  | 21 => ⟨S8192x8192, .i32⟩
  | 22 => ⟨S8192x8192, .i1⟩
  | 23 => ⟨S_, .f32⟩
  | 24 => ⟨S_, .f32⟩
  | 25 => ⟨S16x8192x8192, .i1⟩
  | 26 => ⟨S16x8192x8192, .f32⟩
  | 27 => ⟨S16x8192x8192, .f32⟩
  | 28 => ⟨S_, .f32⟩
  | 29 => ⟨S16x8192, .f32⟩
  | 30 => ⟨S_, .f32⟩
  | 31 => ⟨S16x8192, .f32⟩
  | 32 => ⟨S16x8192, .f32⟩
  | 33 => ⟨S16x8192x1, .f32⟩
  | 34 => ⟨S16x8192x8192, .f32⟩
  | 35 => ⟨S16x8192x8192, .f32⟩
  | 36 => ⟨S16x8192x8192, .f32⟩
  | 37 => ⟨S_, .f32⟩
  | 38 => ⟨S16x8192, .f32⟩
  | 39 => ⟨S16x8192x1, .f32⟩
  | 40 => ⟨S16x8192x8192, .f32⟩
  | 41 => ⟨S16x8192x8192, .f32⟩
  | 42 => ⟨S8192x16x64, .f32⟩
  | 43 => ⟨S16x64x8192, .f32⟩
  | 44 => ⟨S8192x16x64, .f32⟩
  | 45 => ⟨S8192x1024, .f32⟩
  | 46 => ⟨S8192x16x64, .f32⟩
  | 47 => ⟨S_, .f32⟩
  | 48 => ⟨S8192x16x64, .f32⟩
  | 49 => ⟨S8192x16x64, .f32⟩
  | 50 => ⟨S8192x16x64, .f32⟩
  | 51 => ⟨S16x8192x8192, .f32⟩
  | 52 => ⟨S16x8192x1, .f32⟩
  | 53 => ⟨S16x1x8192, .f32⟩
  | 54 => ⟨S16x8192x8192, .f32⟩
  | 55 => ⟨S16x8192x8192, .f32⟩
  | 56 => ⟨S16x8192x8192, .f32⟩
  | 57 => ⟨S16x8192x8192, .f32⟩
  | 58 => ⟨S8192, .i32⟩
  | 59 => ⟨S1x8192, .i32⟩
  | 60 => ⟨S8192x1, .i32⟩
  | 61 => ⟨S8192x8192, .i32⟩
  | 62 => ⟨S8192x8192, .i32⟩
  | 63 => ⟨S8192x8192, .i1⟩
  | 64 => ⟨S_, .f32⟩
  | 65 => ⟨S_, .f32⟩
  | 66 => ⟨S16x8192x8192, .i1⟩
  | 67 => ⟨S16x8192x8192, .f32⟩
  | 68 => ⟨S16x8192x8192, .f32⟩
  | 69 => ⟨S_, .f32⟩
  | 70 => ⟨S16x8192, .f32⟩
  | 71 => ⟨S16x8192x1, .f32⟩
  | 72 => ⟨S16x8192x8192, .f32⟩
  | 73 => ⟨S16x8192x8192, .f32⟩
  | 74 => ⟨S16x8192x8192, .f32⟩
  | 75 => ⟨S_, .f32⟩
  | 76 => ⟨S16x8192, .f32⟩
  | 77 => ⟨S16x8192, .f32⟩
  | 78 => ⟨S16x8192, .f32⟩
  | 79 => ⟨S16x8192, .f32⟩
  | 80 => ⟨S_, .bf16⟩
  | 81 => ⟨S8192x8x6, .bf16⟩
  | 82 => ⟨S_, .bf16⟩
  | 83 => ⟨S8192x8x116, .bf16⟩
  | 84 => ⟨S16x8192, .f32⟩
  | 85 => ⟨S16x8192, .bf16⟩
  | 86 => ⟨S16x8192, .f32⟩
  | 87 => ⟨S16x8192, .f32⟩
  | 88 => ⟨S16x8192, .bf16⟩
  | 89 => ⟨S16x8192, .f32⟩
  | 90 => ⟨S16x8192, .f32⟩
  | 91 => ⟨S16x8192, .bf16⟩
  | 92 => ⟨S16x1x8192, .bf16⟩
  | 93 => ⟨S16x1x8192, .bf16⟩
  | 94 => ⟨S16x1x8192, .bf16⟩
  | 95 => ⟨S16x3x8192, .bf16⟩
  | 96 => ⟨S8x6x8192, .bf16⟩
  | 97 => ⟨S8192x8x6, .bf16⟩
  | 98 => ⟨S8192x8x128, .bf16⟩
  | 99 => ⟨S8192x1024, .bf16⟩
  | 100 => ⟨S_, .bf16⟩
  | 101 => ⟨S8192x8x6, .bf16⟩
  | 102 => ⟨S16x8192, .f32⟩
  | 103 => ⟨S16x8192, .bf16⟩
  | 104 => ⟨S16x8192, .f32⟩
  | 105 => ⟨S16x8192, .f32⟩
  | 106 => ⟨S16x8192, .bf16⟩
  | 107 => ⟨S16x8192, .f32⟩
  | 108 => ⟨S16x8192, .f32⟩
  | 109 => ⟨S16x8192, .bf16⟩
  | 110 => ⟨S16x1x8192, .bf16⟩
  | 111 => ⟨S16x1x8192, .bf16⟩
  | 112 => ⟨S16x1x8192, .bf16⟩
  | 113 => ⟨S16x3x8192, .bf16⟩
  | 114 => ⟨S8x6x8192, .bf16⟩
  | 115 => ⟨S8192x8x6, .bf16⟩
  | 116 => ⟨S8192x8x128, .bf16⟩
  | 117 => ⟨S8192x1024, .bf16⟩
  | 118 => ⟨S_, .f32⟩
  | 119 => ⟨S8192x1024, .f32⟩
  | 120 => ⟨S8192x1024, .f32⟩
  | 121 => ⟨S8192x1024, .bf16⟩
  | 122 => ⟨S8192x1024, .bf16⟩
  | 123 => ⟨S8192x1024, .bf16⟩
  | 124 => ⟨S8192x1024, .bf16⟩
  | 125 => ⟨S8192x1024, .bf16⟩
  | 126 => ⟨S8192x1024, .bf16⟩
  | 127 => ⟨S8192x1024, .bf16⟩
  | _ => ⟨S8192x1024, .f32⟩

abbrev hbmTy0_1 (i : Nat) : BufTy := match i % 128 with
  | 0 => ⟨S8192x1024, .bf16⟩
  | 1 => ⟨S8x2x8x1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S1024x128, .bf16⟩
  | .local _ .vmem, ⟨1, _⟩ => ⟨S1024x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S8192x128, .bf16⟩
  | .local _ .vmem, ⟨7, _⟩ => ⟨S8192x128, .bf16⟩
  | .local _ .vmem, ⟨8, _⟩ => ⟨S1024x128, .bf16⟩
  | .local _ .vmem, ⟨9, _⟩ => ⟨S1024x128, .bf16⟩
  | .local _ .vmem, ⟨10, _⟩ => ⟨S1024x128, .bf16⟩
  | .local _ .vmem, ⟨11, _⟩ => ⟨S1024x128, .bf16⟩
  | .local _ .vmem, ⟨12, _⟩ => ⟨S1024x128, .bf16⟩
  | .local _ .vmem, ⟨13, _⟩ => ⟨S1024x128, .bf16⟩
  | .local _ .vmem, ⟨14, _⟩ => ⟨S1024x128, .bf16⟩
  | .local _ .vmem, ⟨15, _⟩ => ⟨S1024x128, .bf16⟩
  | .local _ .vmem, ⟨16, _⟩ => ⟨S8192x128, .bf16⟩
  | .local _ .vmem, ⟨17, _⟩ => ⟨S8192x128, .bf16⟩
  | .local _ .vmem, ⟨18, _⟩ => ⟨S8192x128, .bf16⟩
  | .local _ .vmem, ⟨19, _⟩ => ⟨S8192x128, .bf16⟩
  | .local _ .vmem, ⟨20, _⟩ => ⟨S1x2x8x1x1024, .f32⟩
  | .local _ .vmem, ⟨21, _⟩ => ⟨S1x2x8x1x1024, .f32⟩
  | .local _ .vmem, ⟨22, _⟩ => ⟨S8x128x1024, .f32⟩
  | .local _ .vmem, ⟨23, _⟩ => ⟨S8x128x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_5 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v50 : Ref sig .tc := ⟨.hbm, 68, rfl⟩
abbrev main_cst_6 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_7 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_8 : Ref sig .tc := ⟨.hbm, 80, rfl⟩
abbrev main_v60 : Ref sig .tc := ⟨.hbm, 81, rfl⟩
abbrev main_cst_9 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_10 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_cst_11 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102_0 : Ref sig .tc := ⟨.hbm, 126, rfl⟩
abbrev main_v102_1 : Ref sig .tc := ⟨.hbm, 127, rfl⟩
abbrev main_v102_2 : Ref sig .tc := ⟨.hbm, 128, rfl⟩
abbrev main_v102_3 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_40 : BitVec 32 := 0#32
  let arg1 : BitVec 32 := BitVec.ofNat 32 (i 1).val
  let v161 : BitVec 32 := Scalar.subi arg1 c0_i32_40
  let c1_i32_41 : BitVec 32 := 1#32
  let v163 : BitVec 32 := Scalar.divsi v161 c1_i32_41
  let v164 : BitVec 32 := Scalar.muli v163 c1_i32_41
  let v165 : BitVec 32 := Scalar.addi c0_i32_40 v164
  let c1_i32_42 : BitVec 32 := 1#32
  ⟨c0_i32_40, v165, c1_i32_42⟩
def k0_mult1 (i : grid0.Coords) (k0_t1 : Fin (k0_t1_loop i).trips) : BitVec 32 :=
  let c0_i32_40 : BitVec 32 := 0#32
  let c1_i32_42 : BitVec 32 := 1#32
  let arg15 : BitVec 32 := Scf.iv c0_i32_40 c1_i32_42 k0_t1
  let c1024_i32_108 : BitVec 32 := 1024#32
  let v287 : BitVec 32 := Scalar.muli arg15 c1024_i32_108
  v287
def k0_off1 (i : grid0.Coords) (k0_t1 : Fin (k0_t1_loop i).trips) : Fin 2 → Nat :=
  let c0_i32_40 : BitVec 32 := 0#32
  let c1_i32_42 : BitVec 32 := 1#32
  let arg15 : BitVec 32 := Scf.iv c0_i32_40 c1_i32_42 k0_t1
  let c1024_i32_108 : BitVec 32 := 1024#32
  let v287 : BitVec 32 := Scalar.muli arg15 c1024_i32_108
  let v288 : BitVec 32 := v287
  let v289 : Index := Scalar.indexCast v288
  let c0_109 : Index := 0#32
  ![v289.toNat, 0]
def k0_off2 (i : grid0.Coords) (k0_t1 : Fin (k0_t1_loop i).trips) : Fin 5 → Nat :=
  let c0_116 : Index := 0#32
  let c0_117 : Index := 0#32
  let c0_i32_40 : BitVec 32 := 0#32
  let c1_i32_42 : BitVec 32 := 1#32
  let arg15 : BitVec 32 := Scf.iv c0_i32_40 c1_i32_42 k0_t1
  let v308 : Index := Scalar.indexCast arg15
  let c0_118 : Index := 0#32
  let c0_119 : Index := 0#32
  ![0, 0, v308.toNat, 0, 0]
def k0_off3 (i : grid0.Coords) (k0_t1 : Fin (k0_t1_loop i).trips) : Fin 5 → Nat :=
  let c0_132 : Index := 0#32
  let c1_133 : Index := 1#32
  let c0_i32_40 : BitVec 32 := 0#32
  let c1_i32_42 : BitVec 32 := 1#32
  let arg15 : BitVec 32 := Scf.iv c0_i32_40 c1_i32_42 k0_t1
  let v336 : Index := Scalar.indexCast arg15
  let c0_134 : Index := 0#32
  let c0_135 : Index := 0#32
  ![0, 1, v336.toNat, 0, 0]
def k0_off4 (i : grid0.Coords) (k0_t1 : Fin (k0_t1_loop i).trips) : Fin 3 → Nat :=
  let c0_i32_40 : BitVec 32 := 0#32
  let c1_i32_42 : BitVec 32 := 1#32
  let arg15 : BitVec 32 := Scf.iv c0_i32_40 c1_i32_42 k0_t1
  let v354 : Index := Scalar.indexCast arg15
  let c0_144 : Index := 0#32
  let c0_145 : Index := 0#32
  ![v354.toNat, 0, 0]
@[reducible] def k0_t2_loop (i : grid0.Coords) : Scf.Loop 32 :=
  let c0_i32_40 : BitVec 32 := 0#32
  let arg1 : BitVec 32 := BitVec.ofNat 32 (i 1).val
  let v161 : BitVec 32 := Scalar.subi arg1 c0_i32_40
  let c1_i32_41 : BitVec 32 := 1#32
  let v163 : BitVec 32 := Scalar.divsi v161 c1_i32_41
  let v164 : BitVec 32 := Scalar.muli v163 c1_i32_41
  let v165 : BitVec 32 := Scalar.addi c0_i32_40 v164
  let v162 : BitVec 32 := Scalar.addi c0_i32_40 v161
  let c1_i32_43 : BitVec 32 := 1#32
  ⟨v165, v162, c1_i32_43⟩
def k0_mult2 (i : grid0.Coords) (k0_t2 : Fin (k0_t2_loop i).trips) : BitVec 32 :=
  let c0_i32_40 : BitVec 32 := 0#32
  let arg1 : BitVec 32 := BitVec.ofNat 32 (i 1).val
  let v161 : BitVec 32 := Scalar.subi arg1 c0_i32_40
  let c1_i32_41 : BitVec 32 := 1#32
  let v163 : BitVec 32 := Scalar.divsi v161 c1_i32_41
  let v164 : BitVec 32 := Scalar.muli v163 c1_i32_41
  let v165 : BitVec 32 := Scalar.addi c0_i32_40 v164
  let c1_i32_43 : BitVec 32 := 1#32
  let arg15 : BitVec 32 := Scf.iv v165 c1_i32_43 k0_t2
  let c1024_i32_108 : BitVec 32 := 1024#32
  let v287 : BitVec 32 := Scalar.muli arg15 c1024_i32_108
  v287
def k0_off5 (i : grid0.Coords) (k0_t2 : Fin (k0_t2_loop i).trips) : Fin 2 → Nat :=
  let c0_i32_40 : BitVec 32 := 0#32
  let arg1 : BitVec 32 := BitVec.ofNat 32 (i 1).val
  let v161 : BitVec 32 := Scalar.subi arg1 c0_i32_40
  let c1_i32_41 : BitVec 32 := 1#32
  let v163 : BitVec 32 := Scalar.divsi v161 c1_i32_41
  let v164 : BitVec 32 := Scalar.muli v163 c1_i32_41
  let v165 : BitVec 32 := Scalar.addi c0_i32_40 v164
  let c1_i32_43 : BitVec 32 := 1#32
  let arg15 : BitVec 32 := Scf.iv v165 c1_i32_43 k0_t2
  let c1024_i32_108 : BitVec 32 := 1024#32
  let v287 : BitVec 32 := Scalar.muli arg15 c1024_i32_108
  let v288 : BitVec 32 := v287
  let v289 : Index := Scalar.indexCast v288
  let c0_109 : Index := 0#32
  ![v289.toNat, 0]
def k0_off6 (i : grid0.Coords) (k0_t2 : Fin (k0_t2_loop i).trips) : Fin 5 → Nat :=
  let c0_116 : Index := 0#32
  let c0_117 : Index := 0#32
  let c0_i32_40 : BitVec 32 := 0#32
  let arg1 : BitVec 32 := BitVec.ofNat 32 (i 1).val
  let v161 : BitVec 32 := Scalar.subi arg1 c0_i32_40
  let c1_i32_41 : BitVec 32 := 1#32
  let v163 : BitVec 32 := Scalar.divsi v161 c1_i32_41
  let v164 : BitVec 32 := Scalar.muli v163 c1_i32_41
  let v165 : BitVec 32 := Scalar.addi c0_i32_40 v164
  let c1_i32_43 : BitVec 32 := 1#32
  let arg15 : BitVec 32 := Scf.iv v165 c1_i32_43 k0_t2
  let v308 : Index := Scalar.indexCast arg15
  let c0_118 : Index := 0#32
  let c0_119 : Index := 0#32
  ![0, 0, v308.toNat, 0, 0]
def k0_off7 (i : grid0.Coords) (k0_t2 : Fin (k0_t2_loop i).trips) : Fin 5 → Nat :=
  let c0_132 : Index := 0#32
  let c1_133 : Index := 1#32
  let c0_i32_40 : BitVec 32 := 0#32
  let arg1 : BitVec 32 := BitVec.ofNat 32 (i 1).val
  let v161 : BitVec 32 := Scalar.subi arg1 c0_i32_40
  let c1_i32_41 : BitVec 32 := 1#32
  let v163 : BitVec 32 := Scalar.divsi v161 c1_i32_41
  let v164 : BitVec 32 := Scalar.muli v163 c1_i32_41
  let v165 : BitVec 32 := Scalar.addi c0_i32_40 v164
  let c1_i32_43 : BitVec 32 := 1#32
  let arg15 : BitVec 32 := Scf.iv v165 c1_i32_43 k0_t2
  let v336 : Index := Scalar.indexCast arg15
  let c0_134 : Index := 0#32
  let c0_135 : Index := 0#32
  ![0, 1, v336.toNat, 0, 0]
def k0_off8 (i : grid0.Coords) (k0_t2 : Fin (k0_t2_loop i).trips) : Fin 3 → Nat :=
  let c0_i32_40 : BitVec 32 := 0#32
  let arg1 : BitVec 32 := BitVec.ofNat 32 (i 1).val
  let v161 : BitVec 32 := Scalar.subi arg1 c0_i32_40
  let c1_i32_41 : BitVec 32 := 1#32
  let v163 : BitVec 32 := Scalar.divsi v161 c1_i32_41
  let v164 : BitVec 32 := Scalar.muli v163 c1_i32_41
  let v165 : BitVec 32 := Scalar.addi c0_i32_40 v164
  let c1_i32_43 : BitVec 32 := 1#32
  let arg15 : BitVec 32 := Scf.iv v165 c1_i32_43 k0_t2
  let v354 : Index := Scalar.indexCast arg15
  let c0_144 : Index := 0#32
  let c0_145 : Index := 0#32
  ![v354.toNat, 0, 0]
def k0_mult3 (i : grid0.Coords) : BitVec 32 :=
  let arg1 : BitVec 32 := BitVec.ofNat 32 (i 1).val
  let c1024_i32 : BitVec 32 := 1024#32
  let v168 : BitVec 32 := Scalar.muli arg1 c1024_i32
  v168
def k0_off9 (i : grid0.Coords) : Fin 2 → Nat :=
  let arg1 : BitVec 32 := BitVec.ofNat 32 (i 1).val
  let c1024_i32 : BitVec 32 := 1024#32
  let v168 : BitVec 32 := Scalar.muli arg1 c1024_i32
  let v169 : BitVec 32 := v168
  let v170 : Index := Scalar.indexCast v169
  let c0_44 : Index := 0#32
  ![v170.toNat, 0]
def k0_off10 (i : grid0.Coords) : Fin 5 → Nat :=
  let c0_52 : Index := 0#32
  let c0_53 : Index := 0#32
  let arg1 : BitVec 32 := BitVec.ofNat 32 (i 1).val
  let v191 : Index := Scalar.indexCast arg1
  let c0_54 : Index := 0#32
  let c0_55 : Index := 0#32
  ![0, 0, v191.toNat, 0, 0]
def k0_off11 (i : grid0.Coords) : Fin 5 → Nat :=
  let c0_69 : Index := 0#32
  let c1 : Index := 1#32
  let arg1 : BitVec 32 := BitVec.ofNat 32 (i 1).val
  let v221 : Index := Scalar.indexCast arg1
  let c0_70 : Index := 0#32
  let c0_71 : Index := 0#32
  ![0, 1, v221.toNat, 0, 0]
def k0_off12 (i : grid0.Coords) : Fin 3 → Nat :=
  let arg1 : BitVec 32 := BitVec.ofNat 32 (i 1).val
  let v239 : Index := Scalar.indexCast arg1
  let c0_80 : Index := 0#32
  let c0_81 : Index := 0#32
  ![v239.toNat, 0, 0]
def k0_cond2 (i : grid0.Coords) : BitVec 1 :=
  let arg1 : BitVec 32 := BitVec.ofNat 32 (i 1).val
  let c7_i32 : BitVec 32 := 7#32
  let v284 : BitVec 1 := Scalar.cmpi .eq arg1 c7_i32
  let v285 : BitVec 32 := Scalar.extui v284
  let c0_i32_107 : BitVec 32 := 0#32
  let v286 : BitVec 1 := Scalar.cmpi .ne v285 c0_i32_107
  v286

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8192x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8192x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x2x8x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S8192x1024 : Shape := ⟨2, ![8192, 1024]⟩
abbrev S16x8192 : Shape := ⟨2, ![16, 8192]⟩
abbrev S8192x16x64 : Shape := ⟨3, ![8192, 16, 64]⟩
abbrev S_ : Shape := ⟨0, ![]⟩
abbrev S16x8192x8192 : Shape := ⟨3, ![16, 8192, 8192]⟩
abbrev S16x8192x1 : Shape := ⟨3, ![16, 8192, 1]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x64x8192 : Shape := ⟨3, ![16, 64, 8192]⟩
abbrev S16x8192x64 : Shape := ⟨3, ![16, 8192, 64]⟩
abbrev S8x2x8x1x1024 : Shape := ⟨5, ![8, 2, 8, 1, 1024]⟩

abbrev nBuf : Space → Nat
  | .hbm => 120
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S16x8192, .f32⟩
  | .hbm, ⟨4, _⟩ => ⟨S8192x1024, .f32⟩
  | .hbm, ⟨5, _⟩ => ⟨S8192x16x64, .f32⟩
  | .hbm, ⟨6, _⟩ => ⟨S_, .f32⟩
  | .hbm, ⟨7, _⟩ => ⟨S8192x16x64, .f32⟩
  | .hbm, ⟨8, _⟩ => ⟨S8192x16x64, .f32⟩
  | .hbm, ⟨9, _⟩ => ⟨S8192x16x64, .f32⟩
  | .hbm, ⟨10, _⟩ => ⟨S16x8192x8192, .f32⟩
  | .hbm, ⟨11, _⟩ => ⟨S16x8192x1, .f32⟩
  | .hbm, ⟨12, _⟩ => ⟨S16x1x8192, .f32⟩
  | .hbm, ⟨13, _⟩ => ⟨S16x8192x8192, .f32⟩
  | .hbm, ⟨14, _⟩ => ⟨S16x8192x8192, .f32⟩
  | .hbm, ⟨15, _⟩ => ⟨S16x8192x8192, .f32⟩
  | .hbm, ⟨16, _⟩ => ⟨S16x8192x8192, .f32⟩
  | .hbm, ⟨17, _⟩ => ⟨S8192, .i32⟩
  | .hbm, ⟨18, _⟩ => ⟨S1x8192, .i32⟩
  | .hbm, ⟨19, _⟩ => ⟨S8192x1, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S_, .f32⟩
  | .hbm, ⟨24, _⟩ => ⟨S_, .f32⟩
  | .hbm, ⟨25, _⟩ => ⟨S16x8192x8192, .i1⟩
  | .hbm, ⟨26, _⟩ => ⟨S16x8192x8192, .f32⟩
  | .hbm, ⟨27, _⟩ => ⟨S16x8192x8192, .f32⟩
  | .hbm, ⟨28, _⟩ => ⟨S_, .f32⟩
  | .hbm, ⟨29, _⟩ => ⟨S16x8192x8192, .f32⟩
  | .hbm, ⟨30, _⟩ => ⟨S_, .f32⟩
  | .hbm, ⟨31, _⟩ => ⟨S16x8192, .f32⟩
  | .hbm, ⟨32, _⟩ => ⟨S16x8192x1, .f32⟩
  | .hbm, ⟨33, _⟩ => ⟨S16x8192x8192, .f32⟩
  | .hbm, ⟨34, _⟩ => ⟨S16x8192x8192, .i1⟩
  | .hbm, ⟨35, _⟩ => ⟨S16x8192x8192, .f32⟩
  | .hbm, ⟨36, _⟩ => ⟨S_, .f32⟩
  | .hbm, ⟨37, _⟩ => ⟨S16x8192, .f32⟩
  | .hbm, ⟨38, _⟩ => ⟨S_, .f32⟩
  | .hbm, ⟨39, _⟩ => ⟨S16x8192, .f32⟩
  | .hbm, ⟨40, _⟩ => ⟨S16x8192, .f32⟩
  | .hbm, ⟨41, _⟩ => ⟨S_, .f32⟩
  | .hbm, ⟨42, _⟩ => ⟨S16x8192, .f32⟩
  | .hbm, ⟨43, _⟩ => ⟨S16x8192, .i1⟩
  | .hbm, ⟨44, _⟩ => ⟨S_, .f32⟩
  | .hbm, ⟨45, _⟩ => ⟨S16x8192, .f32⟩
  | .hbm, ⟨46, _⟩ => ⟨S16x8192, .i1⟩
  | .hbm, ⟨47, _⟩ => ⟨S_, .f32⟩
  | .hbm, ⟨48, _⟩ => ⟨S16x8192, .f32⟩
  | .hbm, ⟨49, _⟩ => ⟨S_, .f32⟩
  | .hbm, ⟨50, _⟩ => ⟨S16x8192, .f32⟩
  | .hbm, ⟨51, _⟩ => ⟨S_, .f32⟩
  | .hbm, ⟨52, _⟩ => ⟨S16x8192, .f32⟩
  | .hbm, ⟨53, _⟩ => ⟨S16x8192, .f32⟩
  | .hbm, ⟨54, _⟩ => ⟨S16x8192, .f32⟩
  | .hbm, ⟨55, _⟩ => ⟨S16x8192x1, .f32⟩
  | .hbm, ⟨56, _⟩ => ⟨S16x8192x8192, .f32⟩
  | .hbm, ⟨57, _⟩ => ⟨S16x8192x8192, .f32⟩
  | .hbm, ⟨58, _⟩ => ⟨S16x8192x8192, .f32⟩
  | .hbm, ⟨59, _⟩ => ⟨S_, .f32⟩
  | .hbm, ⟨60, _⟩ => ⟨S16x8192, .f32⟩
  | .hbm, ⟨61, _⟩ => ⟨S16x8192x1, .f32⟩
  | .hbm, ⟨62, _⟩ => ⟨S16x8192x8192, .f32⟩
  | .hbm, ⟨63, _⟩ => ⟨S16x8192x8192, .f32⟩
  | .hbm, ⟨64, _⟩ => ⟨S16x8192x1, .f32⟩
  | .hbm, ⟨65, _⟩ => ⟨S_, .f32⟩
  | .hbm, ⟨66, _⟩ => ⟨S16x8192x1, .f32⟩
  | .hbm, ⟨67, _⟩ => ⟨S16x8192x1, .f32⟩
  | .hbm, ⟨68, _⟩ => ⟨S8192x16x64, .f32⟩
  | .hbm, ⟨69, _⟩ => ⟨S16x64x8192, .f32⟩
  | .hbm, ⟨70, _⟩ => ⟨S8192x16x64, .f32⟩
  | .hbm, ⟨71, _⟩ => ⟨S8192x1024, .f32⟩
  | .hbm, ⟨72, _⟩ => ⟨S8192x16x64, .f32⟩
  | .hbm, ⟨73, _⟩ => ⟨S16x64x8192, .f32⟩
  | .hbm, ⟨74, _⟩ => ⟨S16x8192x8192, .f32⟩
  | .hbm, ⟨75, _⟩ => ⟨S16x64x8192, .f32⟩
  | .hbm, ⟨76, _⟩ => ⟨S8192x16x64, .f32⟩
  | .hbm, ⟨77, _⟩ => ⟨S8192x1024, .f32⟩
  | .hbm, ⟨78, _⟩ => ⟨S16x8192x8192, .f32⟩
  | .hbm, ⟨79, _⟩ => ⟨S16x8192x8192, .f32⟩
  | .hbm, ⟨80, _⟩ => ⟨S16x8192x8192, .f32⟩
  | .hbm, ⟨81, _⟩ => ⟨S_, .f32⟩
  | .hbm, ⟨82, _⟩ => ⟨S16x8192, .f32⟩
  | .hbm, ⟨83, _⟩ => ⟨S16x8192x1, .f32⟩
  | .hbm, ⟨84, _⟩ => ⟨S16x8192x1, .f32⟩
  | .hbm, ⟨85, _⟩ => ⟨S16x8192x8192, .f32⟩
  | .hbm, ⟨86, _⟩ => ⟨S16x8192x8192, .f32⟩
  | .hbm, ⟨87, _⟩ => ⟨S_, .f32⟩
  | .hbm, ⟨88, _⟩ => ⟨S16x8192, .f32⟩
  | .hbm, ⟨89, _⟩ => ⟨S16x8192x8192, .f32⟩
  | .hbm, ⟨90, _⟩ => ⟨S16x8192x8192, .f32⟩
  | .hbm, ⟨91, _⟩ => ⟨S16x8192x8192, .f32⟩
  | .hbm, ⟨92, _⟩ => ⟨S_, .f32⟩
  | .hbm, ⟨93, _⟩ => ⟨S16x8192x8192, .f32⟩
  | .hbm, ⟨94, _⟩ => ⟨S16x8192x8192, .f32⟩
  | .hbm, ⟨95, _⟩ => ⟨S_, .f32⟩
  | .hbm, ⟨96, _⟩ => ⟨S16x8192, .f32⟩
  | .hbm, ⟨97, _⟩ => ⟨S16x8192x1, .f32⟩
  | .hbm, ⟨98, _⟩ => ⟨S16x8192x8192, .f32⟩
  | .hbm, ⟨99, _⟩ => ⟨S_, .f32⟩
  | .hbm, ⟨100, _⟩ => ⟨S16x8192, .f32⟩
  | .hbm, ⟨101, _⟩ => ⟨S16x1x8192, .f32⟩
  | .hbm, ⟨102, _⟩ => ⟨S_, .f32⟩
  | .hbm, ⟨103, _⟩ => ⟨S16x8192, .f32⟩
  | .hbm, ⟨104, _⟩ => ⟨S_, .f32⟩
  | .hbm, ⟨105, _⟩ => ⟨S16x8192, .f32⟩
  | .hbm, ⟨106, _⟩ => ⟨S16x8192, .f32⟩
  | .hbm, ⟨107, _⟩ => ⟨S16x8192x64, .f32⟩
  | .hbm, ⟨108, _⟩ => ⟨S8192x16x64, .f32⟩
  | .hbm, ⟨109, _⟩ => ⟨S16x8192x64, .f32⟩
  | .hbm, ⟨110, _⟩ => ⟨S8192x16x64, .f32⟩
  | .hbm, ⟨111, _⟩ => ⟨S8192x1024, .f32⟩
  | .hbm, ⟨112, _⟩ => ⟨S_, .f32⟩
  | .hbm, ⟨113, _⟩ => ⟨S8192x16x64, .f32⟩
  | .hbm, ⟨114, _⟩ => ⟨S8192x16x64, .f32⟩
  | .hbm, ⟨115, _⟩ => ⟨S8192x1024, .f32⟩
  | .hbm, ⟨116, _⟩ => ⟨S8192x1024, .bf16⟩
  | .hbm, ⟨117, _⟩ => ⟨S8192x1024, .bf16⟩
  | .hbm, ⟨118, _⟩ => ⟨S8192x1024, .bf16⟩
  | .hbm, ⟨119, _⟩ => ⟨S8x2x8x1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_call0_v0 : Ref sig .tc := ⟨.hbm, 24, rfl⟩
abbrev main_v17_1 : Ref sig .tc := ⟨.hbm, 25, rfl⟩
abbrev main_call0_v2 : Ref sig .tc := ⟨.hbm, 26, rfl⟩
abbrev main_v17_0 : Ref sig .tc := ⟨.hbm, 27, rfl⟩
abbrev main_call0_cst : Ref sig .tc := ⟨.hbm, 28, rfl⟩
abbrev main_v17_2 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_12 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_call1_cst : Ref sig .tc := ⟨.hbm, 92, rfl⟩
abbrev main_call1_v0 : Ref sig .tc := ⟨.hbm, 93, rfl⟩
abbrev main_v68 : Ref sig .tc := ⟨.hbm, 94, rfl⟩
abbrev main_cst_13 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_14 : Ref sig .tc := ⟨.hbm, 99, rfl⟩
abbrev main_v72 : Ref sig .tc := ⟨.hbm, 100, rfl⟩
abbrev main_v73 : Ref sig .tc := ⟨.hbm, 101, rfl⟩
abbrev main_cst_15 : Ref sig .tc := ⟨.hbm, 102, rfl⟩
abbrev main_v74 : Ref sig .tc := ⟨.hbm, 103, rfl⟩
abbrev main_cst_16 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_17 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩

abbrev nD : Nat := 1
abbrev τ : Topo := Topo.v7x

variable {F : FTy → Type} [FloatOps F]
-- ==== Kernel2.lean ====
abbrev S8192x1024 : Shape := ⟨2, ![8192, 1024]⟩
abbrev S8192x9216 : Shape := ⟨2, ![8192, 9216]⟩
abbrev S256x1024 : Shape := ⟨2, ![256, 1024]⟩

abbrev nBuf : Space → Nat
  | .hbm => 8
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x9216, .f32⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S8192x1024 : Shape := ⟨2, ![8192, 1024]⟩
abbrev S8192x9216 : Shape := ⟨2, ![8192, 9216]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x9216, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .bf16⟩
  | .hbm, ⟨42, _⟩ => ⟨S8192x1024, .bf16⟩
  | .hbm, ⟨43, _⟩ => ⟨S8192x1024, .bf16⟩
  | .hbm, ⟨44, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Kernel3.lean ====
abbrev S8192x1024 : Shape := ⟨2, ![8192, 1024]⟩
abbrev S1024x5632 : Shape := ⟨2, ![1024, 5632]⟩
abbrev S8192x5632 : Shape := ⟨2, ![8192, 5632]⟩
abbrev S1024x1408 : Shape := ⟨2, ![1024, 1408]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x5632, .bf16⟩
  | .hbm, ⟨4, _⟩ => ⟨S1024x5632, .bf16⟩
  | .hbm, ⟨5, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x5632, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel4.lean ====
abbrev S8192x1024 : Shape := ⟨2, ![8192, 1024]⟩
abbrev S1024x5632 : Shape := ⟨2, ![1024, 5632]⟩
abbrev S8192x5632 : Shape := ⟨2, ![8192, 5632]⟩
abbrev S1024x8192 : Shape := ⟨2, ![1024, 8192]⟩
abbrev S1024x2048 : Shape := ⟨2, ![1024, 2048]⟩
abbrev S2048x1408 : Shape := ⟨2, ![2048, 1408]⟩
abbrev S1024x1408 : Shape := ⟨2, ![1024, 1408]⟩

abbrev nBuf : Space → Nat
  | .hbm => 7
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x1024, .bf16⟩
  | .hbm, ⟨4, _⟩ => ⟨S1024x8192, .bf16⟩
  | .hbm, ⟨5, _⟩ => ⟨S8192x5632, .bf16⟩
  | .hbm, ⟨6, _⟩ => ⟨S1024x5632, .f32⟩
  | .local _ .vmem, ⟨0, _⟩ => ⟨S1024x2048, .bf16⟩
  | .local _ .vmem, ⟨1, _⟩ => ⟨S1024x2048, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S1024x5632 : Shape := ⟨2, ![1024, 5632]⟩
abbrev S8192x5632 : Shape := ⟨2, ![8192, 5632]⟩
abbrev S5632x1024 : Shape := ⟨2, ![5632, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x5632, .f32⟩
  | .hbm, ⟨4, _⟩ => ⟨S5632x1024, .f32⟩
  | .hbm, ⟨5, _⟩ => ⟨S1024x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S8192x2816 : Shape := ⟨2, ![8192, 2816]⟩
abbrev S2816x1024 : Shape := ⟨2, ![2816, 1024]⟩
abbrev S8192x1024 : Shape := ⟨2, ![8192, 1024]⟩
abbrev S1024x1024 : Shape := ⟨2, ![1024, 1024]⟩
abbrev S1024x2816 : Shape := ⟨2, ![1024, 2816]⟩

abbrev nBuf : Space → Nat
  | .hbm => 5
  | .vmem => 5
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S2816x1024, .bf16⟩
  | .hbm, ⟨4, _⟩ => ⟨S8192x2816, .bf16⟩
  | .local _ .vmem, ⟨0, _⟩ => ⟨S1024x1024, .f32⟩
  | .local _ .vmem, ⟨1, _⟩ => ⟨S1024x1024, .f32⟩
  | .local _ .vmem, ⟨2, _⟩ => ⟨S2816x1024, .bf16⟩
  | .local _ .vmem, ⟨3, _⟩ => ⟨S1024x2816, .bf16⟩
  | .local _ .vmem, ⟨4, _⟩ => ⟨S1024x2816, .bf16⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S8192x2816, .f32⟩
  | .hbm, ⟨5, _⟩ => ⟨S8192x2816, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x2816, .bf16⟩
  | .hbm, ⟨4, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩

abbrev nBuf : Space → Nat
  | .hbm => 6
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S1024x2816, .f32⟩
  | .hbm, ⟨5, _⟩ => ⟨S2816x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024x1024, .bf16⟩
  | .hbm, ⟨4, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩
abbrev S1024x8192 : Shape := ⟨2, ![1024, 8192]⟩
abbrev S1024x2048 : Shape := ⟨2, ![1024, 2048]⟩
abbrev S2048x1024 : Shape := ⟨2, ![2048, 1024]⟩

abbrev nBuf : Space → Nat
  | .hbm => 7
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x8192, .bf16⟩
  | .hbm, ⟨5, _⟩ => ⟨S8192x1024, .bf16⟩
  | .hbm, ⟨6, _⟩ => ⟨S1024x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel10.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x1024, .bf16⟩
  | .hbm, ⟨3, _⟩ => ⟨S1024x5632, .bf16⟩
  | .hbm, ⟨4, _⟩ => ⟨S8192x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel11.lean ====
abbrev S8192x1024 : Shape := ⟨2, ![8192, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel12.lean ====
abbrev S8192x1024 : Shape := ⟨2, ![8192, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel13.lean ====
abbrev S8192x2816 : Shape := ⟨2, ![8192, 2816]⟩
abbrev S2816x1024 : Shape := ⟨2, ![2816, 1024]⟩
abbrev S8192x1024 : Shape := ⟨2, ![8192, 1024]⟩
abbrev S512x2816 : Shape := ⟨2, ![512, 2816]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x2816, .bf16⟩
  | .hbm, ⟨4, _⟩ => ⟨S2816x1024, .bf16⟩
  | .hbm, ⟨5, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel14.lean ====
abbrev S8192x1024 : Shape := ⟨2, ![8192, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel15.lean ====
abbrev S8192x1024 : Shape := ⟨2, ![8192, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel16.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S8192x1024, .bf16⟩
  | .hbm, ⟨5, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel17.lean ====
abbrev S1024x2308 : Shape := ⟨2, ![1024, 2308]⟩
abbrev S128x2308 : Shape := ⟨2, ![128, 2308]⟩

abbrev nBuf : Space → Nat
  | .hbm => 7
  | .vmem => 14
  | .smem => 0
  | _ => 0

abbrev bufTy : (tb : Table) → Fin (tcTables nBuf tb) → BufTy
  | .hbm, ⟨0, _⟩ => ⟨S1024x2308, .f32⟩
  | .hbm, ⟨1, _⟩ => ⟨S1024x2308, .f32⟩
  | .hbm, ⟨2, _⟩ => ⟨S1024x2308, .f32⟩
  | .hbm, ⟨3, _⟩ => ⟨S1024x2308, .f32⟩
  | .hbm, ⟨4, _⟩ => ⟨S1024x2308, .f32⟩
  | .hbm, ⟨5, _⟩ => ⟨S1024x2308, .f32⟩
  | .hbm, ⟨6, _⟩ => ⟨S1024x2308, .f32⟩
  | .local _ .vmem, ⟨0, _⟩ => ⟨S128x2308, .f32⟩
  | .local _ .vmem, ⟨1, _⟩ => ⟨S128x2308, .f32⟩
  | .local _ .vmem, ⟨2, _⟩ => ⟨S128x2308, .f32⟩
  | .local _ .vmem, ⟨3, _⟩ => ⟨S128x2308, .f32⟩
  | .local _ .vmem, ⟨4, _⟩ => ⟨S128x2308, .f32⟩
  | .local _ .vmem, ⟨5, _⟩ => ⟨S128x2308, .f32⟩
  | .local _ .vmem, ⟨6, _⟩ => ⟨S128x2308, .f32⟩
  | .local _ .vmem, ⟨7, _⟩ => ⟨S128x2308, .f32⟩
  | .local _ .vmem, ⟨8, _⟩ => ⟨S128x2308, .f32⟩
  | .local _ .vmem, ⟨9, _⟩ => ⟨S128x2308, .f32⟩
  | .local _ .vmem, ⟨10, _⟩ => ⟨S128x2308, .f32⟩
  | .local _ .vmem, ⟨11, _⟩ => ⟨S128x2308, .f32⟩
  | .local _ .vmem, ⟨12, _⟩ => ⟨S128x2308, .f32⟩
  | .local _ .vmem, ⟨13, _⟩ => ⟨S128x2308, .f32⟩
  | _, _ => ⟨S1024x2308, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2308 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2308 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2308 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2308 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2308 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2308 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2308 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S1024x2308 : Shape := ⟨2, ![1024, 2308]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x2308, .f32⟩
  | .hbm, ⟨1, _⟩ => ⟨S1024x2308, .f32⟩
  | .hbm, ⟨2, _⟩ => ⟨S1024x2308, .f32⟩
  | .hbm, ⟨3, _⟩ => ⟨S1024x2308, .f32⟩
  | .hbm, ⟨4, _⟩ => ⟨S_, .f32⟩
  | .hbm, ⟨5, _⟩ => ⟨S1024x2308, .f32⟩
  | .hbm, ⟨6, _⟩ => ⟨S1024x2308, .f32⟩
  | .hbm, ⟨7, _⟩ => ⟨S_, .f32⟩
  | .hbm, ⟨8, _⟩ => ⟨S1024x2308, .f32⟩
  | .hbm, ⟨9, _⟩ => ⟨S1024x2308, .f32⟩
  | .hbm, ⟨10, _⟩ => ⟨S1024x2308, .f32⟩
  | .hbm, ⟨11, _⟩ => ⟨S_, .f32⟩
  | .hbm, ⟨12, _⟩ => ⟨S1024x2308, .f32⟩
  | .hbm, ⟨13, _⟩ => ⟨S1024x2308, .f32⟩
  | .hbm, ⟨14, _⟩ => ⟨S1024x2308, .f32⟩
  | .hbm, ⟨15, _⟩ => ⟨S_, .f32⟩
  | .hbm, ⟨16, _⟩ => ⟨S1024x2308, .f32⟩
  | .hbm, ⟨17, _⟩ => ⟨S1024x2308, .f32⟩
  | .hbm, ⟨18, _⟩ => ⟨S1024x2308, .f32⟩
  | .hbm, ⟨19, _⟩ => ⟨S_, .f32⟩
  | .hbm, ⟨20, _⟩ => ⟨S1024x2308, .f32⟩
  | .hbm, ⟨21, _⟩ => ⟨S1024x2308, .f32⟩
  | .hbm, ⟨22, _⟩ => ⟨S_, .f32⟩
  | .hbm, ⟨23, _⟩ => ⟨S1024x2308, .f32⟩
  | .hbm, ⟨24, _⟩ => ⟨S1024x2308, .f32⟩
  | .hbm, ⟨25, _⟩ => ⟨S1024x2308, .f32⟩
  | .hbm, ⟨26, _⟩ => ⟨S_, .f32⟩
  | .hbm, ⟨27, _⟩ => ⟨S1024x2308, .f32⟩
  | .hbm, ⟨28, _⟩ => ⟨S1024x2308, .f32⟩
  | .hbm, ⟨29, _⟩ => ⟨S1024x2308, .f32⟩
  | .hbm, ⟨30, _⟩ => ⟨S_, .f32⟩
  | .hbm, ⟨31, _⟩ => ⟨S1024x2308, .f32⟩
  | .hbm, ⟨32, _⟩ => ⟨S1024x2308, .f32⟩
  | .hbm, ⟨33, _⟩ => ⟨S1024x2308, .f32⟩
  | .hbm, ⟨34, _⟩ => ⟨S_, .f32⟩
  | .hbm, ⟨35, _⟩ => ⟨S1024x2308, .f32⟩
  | .hbm, ⟨36, _⟩ => ⟨S1024x2308, .f32⟩
  | _, _ => ⟨S1024x2308, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S256x1024 : Shape := ⟨2, ![256, 1024]⟩
abbrev S32x1024 : Shape := ⟨2, ![32, 1024]⟩

abbrev nBuf : Space → Nat
  | .hbm => 7
  | .vmem => 14
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference18Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S1024x1408 : Shape := ⟨2, ![1024, 1408]⟩
abbrev S128x1408 : Shape := ⟨2, ![128, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference19Ideal.lean ====
abbrev S1024x1408 : Shape := ⟨2, ![1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S704x1024 : Shape := ⟨2, ![704, 1024]⟩
abbrev S88x1024 : Shape := ⟨2, ![88, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S88x1024, .f32⟩
  | .local _ .vmem, ⟨1, _⟩ => ⟨S88x1024, .f32⟩
  | .local _ .vmem, ⟨2, _⟩ => ⟨S88x1024, .f32⟩
  | .local _ .vmem, ⟨3, _⟩ => ⟨S88x1024, .f32⟩
  | .local _ .vmem, ⟨4, _⟩ => ⟨S88x1024, .f32⟩
  | .local _ .vmem, ⟨5, _⟩ => ⟨S88x1024, .f32⟩
  | .local _ .vmem, ⟨6, _⟩ => ⟨S88x1024, .f32⟩
  | .local _ .vmem, ⟨7, _⟩ => ⟨S88x1024, .f32⟩
  | .local _ .vmem, ⟨8, _⟩ => ⟨S88x1024, .f32⟩
  | .local _ .vmem, ⟨9, _⟩ => ⟨S88x1024, .f32⟩
  | .local _ .vmem, ⟨10, _⟩ => ⟨S88x1024, .f32⟩
  | .local _ .vmem, ⟨11, _⟩ => ⟨S88x1024, .f32⟩
  | .local _ .vmem, ⟨12, _⟩ => ⟨S88x1024, .f32⟩
  | .local _ .vmem, ⟨13, _⟩ => ⟨S88x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S88x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S88x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S88x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S88x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S88x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S88x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S88x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference20Ideal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S3x1408 : Shape := ⟨2, ![3, 1408]⟩

abbrev nBuf : Space → Nat
  | .hbm => 7
  | .vmem => 7
  | .smem => 0
  | _ => 0

abbrev bufTy : (tb : Table) → Fin (tcTables nBuf tb) → BufTy
  | .hbm, ⟨0, _⟩ => ⟨S3x1408, .f32⟩
  | .hbm, ⟨1, _⟩ => ⟨S3x1408, .f32⟩
  | .hbm, ⟨2, _⟩ => ⟨S3x1408, .f32⟩
  | .hbm, ⟨3, _⟩ => ⟨S3x1408, .f32⟩
  | .hbm, ⟨4, _⟩ => ⟨S3x1408, .f32⟩
  | .hbm, ⟨5, _⟩ => ⟨S3x1408, .f32⟩
  | .hbm, ⟨6, _⟩ => ⟨S3x1408, .f32⟩
  | .local _ .vmem, ⟨0, _⟩ => ⟨S3x1408, .f32⟩
  | .local _ .vmem, ⟨1, _⟩ => ⟨S3x1408, .f32⟩
  | .local _ .vmem, ⟨2, _⟩ => ⟨S3x1408, .f32⟩
  | .local _ .vmem, ⟨3, _⟩ => ⟨S3x1408, .f32⟩
  | .local _ .vmem, ⟨4, _⟩ => ⟨S3x1408, .f32⟩
  | .local _ .vmem, ⟨5, _⟩ => ⟨S3x1408, .f32⟩
  | .local _ .vmem, ⟨6, _⟩ => ⟨S3x1408, .f32⟩
  | _, _ => ⟨S3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference21Ideal.lean ====
abbrev S3x1408 : Shape := ⟨2, ![3, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x1408, .f32⟩
  | .hbm, ⟨1, _⟩ => ⟨S3x1408, .f32⟩
  | .hbm, ⟨2, _⟩ => ⟨S3x1408, .f32⟩
  | .hbm, ⟨3, _⟩ => ⟨S3x1408, .f32⟩
  | .hbm, ⟨4, _⟩ => ⟨S_, .f32⟩
  | .hbm, ⟨5, _⟩ => ⟨S3x1408, .f32⟩
  | .hbm, ⟨6, _⟩ => ⟨S3x1408, .f32⟩
  | .hbm, ⟨7, _⟩ => ⟨S_, .f32⟩
  | .hbm, ⟨8, _⟩ => ⟨S3x1408, .f32⟩
  | .hbm, ⟨9, _⟩ => ⟨S3x1408, .f32⟩
  | .hbm, ⟨10, _⟩ => ⟨S3x1408, .f32⟩
  | .hbm, ⟨11, _⟩ => ⟨S_, .f32⟩
  | .hbm, ⟨12, _⟩ => ⟨S3x1408, .f32⟩
  | .hbm, ⟨13, _⟩ => ⟨S3x1408, .f32⟩
  | .hbm, ⟨14, _⟩ => ⟨S3x1408, .f32⟩
  | .hbm, ⟨15, _⟩ => ⟨S_, .f32⟩
  | .hbm, ⟨16, _⟩ => ⟨S3x1408, .f32⟩
  | .hbm, ⟨17, _⟩ => ⟨S3x1408, .f32⟩
  | .hbm, ⟨18, _⟩ => ⟨S3x1408, .f32⟩
  | .hbm, ⟨19, _⟩ => ⟨S_, .f32⟩
  | .hbm, ⟨20, _⟩ => ⟨S3x1408, .f32⟩
  | .hbm, ⟨21, _⟩ => ⟨S3x1408, .f32⟩
  | .hbm, ⟨22, _⟩ => ⟨S_, .f32⟩
  | .hbm, ⟨23, _⟩ => ⟨S3x1408, .f32⟩
  | .hbm, ⟨24, _⟩ => ⟨S3x1408, .f32⟩
  | .hbm, ⟨25, _⟩ => ⟨S3x1408, .f32⟩
  | .hbm, ⟨26, _⟩ => ⟨S_, .f32⟩
  | .hbm, ⟨27, _⟩ => ⟨S3x1408, .f32⟩
  | .hbm, ⟨28, _⟩ => ⟨S3x1408, .f32⟩
  | .hbm, ⟨29, _⟩ => ⟨S3x1408, .f32⟩
  | .hbm, ⟨30, _⟩ => ⟨S_, .f32⟩
  | .hbm, ⟨31, _⟩ => ⟨S3x1408, .f32⟩
  | .hbm, ⟨32, _⟩ => ⟨S3x1408, .f32⟩
  | .hbm, ⟨33, _⟩ => ⟨S3x1408, .f32⟩
  | .hbm, ⟨34, _⟩ => ⟨S_, .f32⟩
  | .hbm, ⟨35, _⟩ => ⟨S3x1408, .f32⟩
  | .hbm, ⟨36, _⟩ => ⟨S3x1408, .f32⟩
  | _, _ => ⟨S3x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S88x128 : Shape := ⟨2, ![88, 128]⟩

abbrev nBuf : Space → Nat
  | .hbm => 7
  | .vmem => 7
  | .smem => 0
  | _ => 0

abbrev bufTy : (tb : Table) → Fin (tcTables nBuf tb) → BufTy
  | .hbm, ⟨0, _⟩ => ⟨S88x128, .f32⟩
  | .hbm, ⟨1, _⟩ => ⟨S88x128, .f32⟩
  | .hbm, ⟨2, _⟩ => ⟨S88x128, .f32⟩
  | .hbm, ⟨3, _⟩ => ⟨S88x128, .f32⟩
  | .hbm, ⟨4, _⟩ => ⟨S88x128, .f32⟩
  | .hbm, ⟨5, _⟩ => ⟨S88x128, .f32⟩
  | .hbm, ⟨6, _⟩ => ⟨S88x128, .f32⟩
  | .local _ .vmem, ⟨0, _⟩ => ⟨S88x128, .f32⟩
  | .local _ .vmem, ⟨1, _⟩ => ⟨S88x128, .f32⟩
  | .local _ .vmem, ⟨2, _⟩ => ⟨S88x128, .f32⟩
  | .local _ .vmem, ⟨3, _⟩ => ⟨S88x128, .f32⟩
  | .local _ .vmem, ⟨4, _⟩ => ⟨S88x128, .f32⟩
  | .local _ .vmem, ⟨5, _⟩ => ⟨S88x128, .f32⟩
  | .local _ .vmem, ⟨6, _⟩ => ⟨S88x128, .f32⟩
  | _, _ => ⟨S88x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S88x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S88x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S88x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S88x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S88x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S88x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S88x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference22Ideal.lean ====
abbrev S88x128 : Shape := ⟨2, ![88, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S88x128, .f32⟩
  | .hbm, ⟨1, _⟩ => ⟨S88x128, .f32⟩
  | .hbm, ⟨2, _⟩ => ⟨S88x128, .f32⟩
  | .hbm, ⟨3, _⟩ => ⟨S88x128, .f32⟩
  | .hbm, ⟨4, _⟩ => ⟨S_, .f32⟩
  | .hbm, ⟨5, _⟩ => ⟨S88x128, .f32⟩
  | .hbm, ⟨6, _⟩ => ⟨S88x128, .f32⟩
  | .hbm, ⟨7, _⟩ => ⟨S_, .f32⟩
  | .hbm, ⟨8, _⟩ => ⟨S88x128, .f32⟩
  | .hbm, ⟨9, _⟩ => ⟨S88x128, .f32⟩
  | .hbm, ⟨10, _⟩ => ⟨S88x128, .f32⟩
  | .hbm, ⟨11, _⟩ => ⟨S_, .f32⟩
  | .hbm, ⟨12, _⟩ => ⟨S88x128, .f32⟩
  | .hbm, ⟨13, _⟩ => ⟨S88x128, .f32⟩
  | .hbm, ⟨14, _⟩ => ⟨S88x128, .f32⟩
  | .hbm, ⟨15, _⟩ => ⟨S_, .f32⟩
  | .hbm, ⟨16, _⟩ => ⟨S88x128, .f32⟩
  | .hbm, ⟨17, _⟩ => ⟨S88x128, .f32⟩
  | .hbm, ⟨18, _⟩ => ⟨S88x128, .f32⟩
  | .hbm, ⟨19, _⟩ => ⟨S_, .f32⟩
  | .hbm, ⟨20, _⟩ => ⟨S88x128, .f32⟩
  | .hbm, ⟨21, _⟩ => ⟨S88x128, .f32⟩
  | .hbm, ⟨22, _⟩ => ⟨S_, .f32⟩
  | .hbm, ⟨23, _⟩ => ⟨S88x128, .f32⟩
  | .hbm, ⟨24, _⟩ => ⟨S88x128, .f32⟩
  | .hbm, ⟨25, _⟩ => ⟨S88x128, .f32⟩
  | .hbm, ⟨26, _⟩ => ⟨S_, .f32⟩
  | .hbm, ⟨27, _⟩ => ⟨S88x128, .f32⟩
  | .hbm, ⟨28, _⟩ => ⟨S88x128, .f32⟩
  | .hbm, ⟨29, _⟩ => ⟨S88x128, .f32⟩
  | .hbm, ⟨30, _⟩ => ⟨S_, .f32⟩
  | .hbm, ⟨31, _⟩ => ⟨S88x128, .f32⟩
  | .hbm, ⟨32, _⟩ => ⟨S88x128, .f32⟩
  | .hbm, ⟨33, _⟩ => ⟨S88x128, .f32⟩
  | .hbm, ⟨34, _⟩ => ⟨S_, .f32⟩
  | .hbm, ⟨35, _⟩ => ⟨S88x128, .f32⟩
  | .hbm, ⟨36, _⟩ => ⟨S88x128, .f32⟩
  | _, _ => ⟨S88x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S8192x1024 : Shape := ⟨2, ![8192, 1024]⟩
abbrev S1024x9232 : Shape := ⟨2, ![1024, 9232]⟩
abbrev S8192x9232 : Shape := ⟨2, ![8192, 9232]⟩
abbrev S1024x7168 : Shape := ⟨2, ![1024, 7168]⟩
abbrev S1024x2048 : Shape := ⟨2, ![1024, 2048]⟩
abbrev S1024x9216 : Shape := ⟨2, ![1024, 9216]⟩
abbrev S1024x16 : Shape := ⟨2, ![1024, 16]⟩
abbrev S_ : Shape := ⟨0, ![]⟩
abbrev S1024x112 : Shape := ⟨2, ![1024, 112]⟩
abbrev S1024x128 : Shape := ⟨2, ![1024, 128]⟩
abbrev S8192x16 : Shape := ⟨2, ![8192, 16]⟩
abbrev S8192x112 : Shape := ⟨2, ![8192, 112]⟩
abbrev S8192x128 : Shape := ⟨2, ![8192, 128]⟩
abbrev S1024x1024 : Shape := ⟨2, ![1024, 1024]⟩

abbrev nBuf : Space → Nat
  | .hbm => 35
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S1024x9232, .f32⟩
  | .hbm, ⟨2, _⟩ => ⟨S8192x9232, .f32⟩
  | .hbm, ⟨3, _⟩ => ⟨S8192x1024, .f32⟩
  | .hbm, ⟨4, _⟩ => ⟨S8192x1024, .bf16⟩
  | .hbm, ⟨5, _⟩ => ⟨S8192x1024, .f32⟩
  | .hbm, ⟨6, _⟩ => ⟨S8192x1024, .bf16⟩
  | .hbm, ⟨7, _⟩ => ⟨S8192x1024, .f32⟩
  | .hbm, ⟨8, _⟩ => ⟨S8192x1024, .bf16⟩
  | .hbm, ⟨9, _⟩ => ⟨S8192x1024, .f32⟩
  | .hbm, ⟨10, _⟩ => ⟨S8192x1024, .bf16⟩
  | .hbm, ⟨11, _⟩ => ⟨S8192x1024, .f32⟩
  | .hbm, ⟨12, _⟩ => ⟨S8192x1024, .bf16⟩
  | .hbm, ⟨13, _⟩ => ⟨S8192x1024, .f32⟩
  | .hbm, ⟨14, _⟩ => ⟨S8192x1024, .bf16⟩
  | .hbm, ⟨15, _⟩ => ⟨S8192x1024, .f32⟩
  | .hbm, ⟨16, _⟩ => ⟨S8192x1024, .bf16⟩
  | .hbm, ⟨17, _⟩ => ⟨S8192x1024, .f32⟩
  | .hbm, ⟨18, _⟩ => ⟨S8192x1024, .bf16⟩
  | .hbm, ⟨19, _⟩ => ⟨S8192x1024, .f32⟩
  | .hbm, ⟨20, _⟩ => ⟨S8192x1024, .bf16⟩
  | .hbm, ⟨21, _⟩ => ⟨S1024x7168, .f32⟩
  | .hbm, ⟨22, _⟩ => ⟨S1024x2048, .f32⟩
  | .hbm, ⟨23, _⟩ => ⟨S1024x9216, .f32⟩
  | .hbm, ⟨24, _⟩ => ⟨S1024x9216, .bf16⟩
  | .hbm, ⟨25, _⟩ => ⟨S1024x16, .f32⟩
  | .hbm, ⟨26, _⟩ => ⟨S_, .f32⟩
  | .hbm, ⟨27, _⟩ => ⟨S1024x112, .f32⟩
  | .hbm, ⟨28, _⟩ => ⟨S1024x128, .f32⟩
  | .hbm, ⟨29, _⟩ => ⟨S1024x128, .bf16⟩
  | .hbm, ⟨30, _⟩ => ⟨S8192x16, .f32⟩
  | .hbm, ⟨31, _⟩ => ⟨S_, .f32⟩
  | .hbm, ⟨32, _⟩ => ⟨S8192x112, .f32⟩
  | .hbm, ⟨33, _⟩ => ⟨S8192x128, .f32⟩
  | .hbm, ⟨34, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x128, .f32⟩
  | .local _ .vmem, ⟨21, _⟩ => ⟨S1024x128, .f32⟩
  | .local _ .vmem, ⟨22, _⟩ => ⟨S1024x128, .bf16⟩
  | .local _ .vmem, ⟨23, _⟩ => ⟨S1024x1024, .f32⟩
  | .local _ .vmem, ⟨24, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_cst : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨3, ![8, 1, 10], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg2 : BitVec 32 := BitVec.ofNat 32 (i 2).val
  let c2_i32 : BitVec 32 := 2#32
  let v6 : BitVec 1 := Scalar.cmpi .eq arg2 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_3 : BitVec 32 := 0#32
  let v11 : BitVec 1 := Scalar.cmpi .ne v10 c0_i32_3
  v11

def k0_cond5 (i : grid0.Coords) : BitVec 1 :=
  let arg2 : BitVec 32 := BitVec.ofNat 32 (i 2).val
  let c4_i32 : BitVec 32 := 4#32
  let v12 : BitVec 1 := Scalar.cmpi .eq arg2 c4_i32
  let v13 : BitVec 32 := Scalar.extui v12
  let c0_i32_4 : BitVec 32 := 0#32
  let v14 : BitVec 1 := Scalar.cmpi .ne v13 c0_i32_4
  v14

def k0_cond6 (i : grid0.Coords) : BitVec 1 :=
  let arg2 : BitVec 32 := BitVec.ofNat 32 (i 2).val
  let c5_i32 : BitVec 32 := 5#32
  let v15 : BitVec 1 := Scalar.cmpi .eq arg2 c5_i32
  let v16 : BitVec 32 := Scalar.extui v15
  let c0_i32_5 : BitVec 32 := 0#32
  let v17 : BitVec 1 := Scalar.cmpi .ne v16 c0_i32_5
  v17

def k0_cond7 (i : grid0.Coords) : BitVec 1 :=
  let arg2 : BitVec 32 := BitVec.ofNat 32 (i 2).val
  let c6_i32 : BitVec 32 := 6#32
  let v18 : BitVec 1 := Scalar.cmpi .eq arg2 c6_i32
  let v19 : BitVec 32 := Scalar.extui v18
  let c0_i32_6 : BitVec 32 := 0#32
  let v20 : BitVec 1 := Scalar.cmpi .ne v19 c0_i32_6
  v20

def k0_cond8 (i : grid0.Coords) : BitVec 1 :=
  let arg2 : BitVec 32 := BitVec.ofNat 32 (i 2).val
  let c7_i32 : BitVec 32 := 7#32
  let v21 : BitVec 1 := Scalar.cmpi .eq arg2 c7_i32
  let v22 : BitVec 32 := Scalar.extui v21
  let c0_i32_7 : BitVec 32 := 0#32
  let v23 : BitVec 1 := Scalar.cmpi .ne v22 c0_i32_7
  v23

def k0_cond9 (i : grid0.Coords) : BitVec 1 :=
  let arg2 : BitVec 32 := BitVec.ofNat 32 (i 2).val
  let c8_i32 : BitVec 32 := 8#32
  let v24 : BitVec 1 := Scalar.cmpi .eq arg2 c8_i32
  let v25 : BitVec 32 := Scalar.extui v24
  let c0_i32_8 : BitVec 32 := 0#32
  let v26 : BitVec 1 := Scalar.cmpi .ne v25 c0_i32_8
  v26

def k0_cond10 (i : grid0.Coords) : BitVec 1 :=
  let arg2 : BitVec 32 := BitVec.ofNat 32 (i 2).val
  let c9_i32 : BitVec 32 := 9#32
  let v27 : BitVec 1 := Scalar.cmpi .eq arg2 c9_i32
  let v28 : BitVec 32 := Scalar.extui v27
  let c0_i32_9 : BitVec 32 := 0#32
  let v29 : BitVec 1 := Scalar.cmpi .ne v28 c0_i32_9
  v29

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.minsi arg2 c8_i32
  let c0_i32 : BitVec 32 := 0#32
  ![arg1.toNat, v0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, true, false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== Reference23Ideal.lean ====
abbrev S8192x1024 : Shape := ⟨2, ![8192, 1024]⟩
abbrev S1024x9232 : Shape := ⟨2, ![1024, 9232]⟩
abbrev S8192x9232 : Shape := ⟨2, ![8192, 9232]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x9232, .f32⟩
  | .hbm, ⟨2, _⟩ => ⟨S8192x9232, .f32⟩
  | .hbm, ⟨3, _⟩ => ⟨S8192x9232, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel24.lean ====
abbrev S8192x1024 : Shape := ⟨2, ![8192, 1024]⟩
abbrev S1024x9216 : Shape := ⟨2, ![1024, 9216]⟩
abbrev S8192x9216 : Shape := ⟨2, ![8192, 9216]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x9216, .f32⟩
  | .hbm, ⟨2, _⟩ => ⟨S8192x1024, .bf16⟩
  | .hbm, ⟨3, _⟩ => ⟨S1024x9216, .bf16⟩
  | .hbm, ⟨4, _⟩ => ⟨S8192x9216, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S8192x1024 : Shape := ⟨2, ![8192, 1024]⟩
abbrev S1024x9216 : Shape := ⟨2, ![1024, 9216]⟩
abbrev S8192x9216 : Shape := ⟨2, ![8192, 9216]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x9216, .f32⟩
  | .hbm, ⟨2, _⟩ => ⟨S8192x9216, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel25.lean ====
abbrev S8192x1024 : Shape := ⟨2, ![8192, 1024]⟩
abbrev S1024x128 : Shape := ⟨2, ![1024, 128]⟩
abbrev S8192x128 : Shape := ⟨2, ![8192, 128]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x128, .f32⟩
  | .hbm, ⟨2, _⟩ => ⟨S8192x1024, .bf16⟩
  | .hbm, ⟨3, _⟩ => ⟨S1024x128, .bf16⟩
  | .hbm, ⟨4, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S8192x1024 : Shape := ⟨2, ![8192, 1024]⟩
abbrev S1024x128 : Shape := ⟨2, ![1024, 128]⟩
abbrev S8192x128 : Shape := ⟨2, ![8192, 128]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x128, .f32⟩
  | .hbm, ⟨2, _⟩ => ⟨S8192x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel26.lean ====
abbrev S8192x1024 : Shape := ⟨2, ![8192, 1024]⟩
abbrev S1024x128 : Shape := ⟨2, ![1024, 128]⟩
abbrev S8192x128 : Shape := ⟨2, ![8192, 128]⟩
abbrev S1024x8192 : Shape := ⟨2, ![1024, 8192]⟩
abbrev S1024x2048 : Shape := ⟨2, ![1024, 2048]⟩
abbrev S2048x128 : Shape := ⟨2, ![2048, 128]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x128, .f32⟩
  | .hbm, ⟨2, _⟩ => ⟨S8192x128, .f32⟩
  | .hbm, ⟨3, _⟩ => ⟨S8192x1024, .bf16⟩
  | .hbm, ⟨4, _⟩ => ⟨S1024x8192, .bf16⟩
  | .hbm, ⟨5, _⟩ => ⟨S1024x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .f32⟩
  | .local _ .vmem, ⟨3, _⟩ => ⟨S2048x128, .f32⟩
  | .local _ .vmem, ⟨4, _⟩ => ⟨S1024x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference26Ideal.lean ====
abbrev S8192x1024 : Shape := ⟨2, ![8192, 1024]⟩
abbrev S1024x128 : Shape := ⟨2, ![1024, 128]⟩
abbrev S8192x128 : Shape := ⟨2, ![8192, 128]⟩
abbrev S128x1024 : Shape := ⟨2, ![128, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x128, .f32⟩
  | .hbm, ⟨2, _⟩ => ⟨S8192x128, .f32⟩
  | .hbm, ⟨3, _⟩ => ⟨S8192x128, .f32⟩
  | .hbm, ⟨4, _⟩ => ⟨S128x1024, .f32⟩
  | .hbm, ⟨5, _⟩ => ⟨S1024x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel27.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference27Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel28.lean ====
abbrev S8192x1024 : Shape := ⟨2, ![8192, 1024]⟩
abbrev S8192x9216 : Shape := ⟨2, ![8192, 9216]⟩
abbrev S256x1024 : Shape := ⟨2, ![256, 1024]⟩

abbrev nBuf : Space → Nat
  | .hbm => 4
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x9216, .f32⟩
  | .hbm, ⟨3, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference28Ideal.lean ====
abbrev S8192x1024 : Shape := ⟨2, ![8192, 1024]⟩
abbrev S8192x9216 : Shape := ⟨2, ![8192, 9216]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x9216, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel29.lean ====
abbrev S8192x1024 : Shape := ⟨2, ![8192, 1024]⟩
abbrev S1x1024 : Shape := ⟨2, ![1, 1024]⟩
abbrev S1024x8192 : Shape := ⟨2, ![1024, 8192]⟩
abbrev S256x1024 : Shape := ⟨2, ![256, 1024]⟩
abbrev S1024x256 : Shape := ⟨2, ![1024, 256]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .hbm, ⟨3, _⟩ => ⟨S1024x8192, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S1024x256, .bf16⟩
  | .local _ .vmem, ⟨6, _⟩ => ⟨S1024x256, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference29Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x8192 : Shape := ⟨2, ![1024, 8192]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | .hbm, ⟨18, _⟩ => ⟨S1024x8192, .f32⟩
  | .hbm, ⟨19, _⟩ => ⟨S1024x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel30.lean ====
abbrev S8192x1024 : Shape := ⟨2, ![8192, 1024]⟩
abbrev S1x1024 : Shape := ⟨2, ![1, 1024]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S1x1024, .f32⟩
  | .hbm, ⟨5, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference30Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x128 : Shape := ⟨2, ![1, 128]⟩

abbrev nBuf : Space → Nat
  | .hbm => 69
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel31.lean ====
abbrev S8192x1024 : Shape := ⟨2, ![8192, 1024]⟩
abbrev S8192x9216 : Shape := ⟨2, ![8192, 9216]⟩
abbrev S1x128 : Shape := ⟨2, ![1, 128]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x9216, .f32⟩
  | .hbm, ⟨2, _⟩ => ⟨S1x128, .f32⟩
  | .hbm, ⟨3, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x128, .f32⟩
  | .local _ .vmem, ⟨5, _⟩ => ⟨S256x1024, .bf16⟩
  | .local _ .vmem, ⟨6, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference31Ideal.lean ====
abbrev S8192x1024 : Shape := ⟨2, ![8192, 1024]⟩
abbrev S8192x9216 : Shape := ⟨2, ![8192, 9216]⟩
abbrev S1x128 : Shape := ⟨2, ![1, 128]⟩
abbrev S_ : Shape := ⟨0, ![]⟩
abbrev S8192x8x128 : Shape := ⟨3, ![8192, 8, 128]⟩
abbrev S8192x8 : Shape := ⟨2, ![8192, 8]⟩
abbrev S8192x8x1 : Shape := ⟨3, ![8192, 8, 1]⟩
abbrev S1x1x128 : Shape := ⟨3, ![1, 1, 128]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x9216, .f32⟩
  | .hbm, ⟨2, _⟩ => ⟨S1x128, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x8x128, .f32⟩
  | .hbm, ⟨14, _⟩ => ⟨S8192x8x128, .f32⟩
  | .hbm, ⟨15, _⟩ => ⟨S8192x8x128, .f32⟩
  | .hbm, ⟨16, _⟩ => ⟨S_, .f32⟩
  | .hbm, ⟨17, _⟩ => ⟨S8192x8, .f32⟩
  | .hbm, ⟨18, _⟩ => ⟨S8192x8x1, .f32⟩
  | .hbm, ⟨19, _⟩ => ⟨S_, .f32⟩
  | .hbm, ⟨20, _⟩ => ⟨S8192x8x1, .f32⟩
  | .hbm, ⟨21, _⟩ => ⟨S8192x8x1, .f32⟩
  | .hbm, ⟨22, _⟩ => ⟨S_, .f32⟩
  | .hbm, ⟨23, _⟩ => ⟨S8192x8x1, .f32⟩
  | .hbm, ⟨24, _⟩ => ⟨S8192x8x1, .f32⟩
  | .hbm, ⟨25, _⟩ => ⟨S8192x8x1, .f32⟩
  | .hbm, ⟨26, _⟩ => ⟨S8192x8x128, .f32⟩
  | .hbm, ⟨27, _⟩ => ⟨S8192x8x128, .f32⟩
  | .hbm, ⟨28, _⟩ => ⟨S1x1x128, .f32⟩
  | .hbm, ⟨29, _⟩ => ⟨S8192x8x128, .f32⟩
  | .hbm, ⟨30, _⟩ => ⟨S8192x8x128, .f32⟩
  | .hbm, ⟨31, _⟩ => ⟨S8192x8x128, .f32⟩
  | .hbm, ⟨32, _⟩ => ⟨S8192x1024, .f32⟩
  | .hbm, ⟨33, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== Kernel32.lean ====
abbrev S8192x5632 : Shape := ⟨2, ![8192, 5632]⟩
abbrev S8192x2816 : Shape := ⟨2, ![8192, 2816]⟩
abbrev S3x5632 : Shape := ⟨2, ![3, 5632]⟩
abbrev S_ : Shape := ⟨0, ![]⟩
abbrev S5x5632 : Shape := ⟨2, ![5, 5632]⟩
abbrev S8x5632 : Shape := ⟨2, ![8, 5632]⟩
abbrev S1x5632 : Shape := ⟨2, ![1, 5632]⟩
abbrev S256x5632 : Shape := ⟨2, ![256, 5632]⟩
abbrev S256x2816 : Shape := ⟨2, ![256, 2816]⟩
abbrev S8x2816 : Shape := ⟨2, ![8, 2816]⟩
abbrev S264x5632 : Shape := ⟨2, ![264, 5632]⟩
abbrev S264x2816 : Shape := ⟨2, ![264, 2816]⟩
abbrev S5632 : Shape := ⟨1, ![5632]⟩

abbrev nBuf : Space → Nat
  | .hbm => 14
  | .vmem => 21
  | .smem => 0
  | _ => 0

abbrev bufTy : (tb : Table) → Fin (tcTables nBuf tb) → BufTy
  | .hbm, ⟨0, _⟩ => ⟨S8192x5632, .f32⟩
  | .hbm, ⟨1, _⟩ => ⟨S8192x2816, .f32⟩
  | .hbm, ⟨2, _⟩ => ⟨S8192x2816, .f32⟩
  | .hbm, ⟨3, _⟩ => ⟨S8192x2816, .f32⟩
  | .hbm, ⟨4, _⟩ => ⟨S3x5632, .f32⟩
  | .hbm, ⟨5, _⟩ => ⟨S_, .f32⟩
  | .hbm, ⟨6, _⟩ => ⟨S5x5632, .f32⟩
  | .hbm, ⟨7, _⟩ => ⟨S8x5632, .f32⟩
  | .hbm, ⟨8, _⟩ => ⟨S8192x2816, .bf16⟩
  | .hbm, ⟨9, _⟩ => ⟨S8192x2816, .bf16⟩
  | .hbm, ⟨10, _⟩ => ⟨S8192x2816, .bf16⟩
  | .hbm, ⟨11, _⟩ => ⟨S8192x5632, .bf16⟩
  | .hbm, ⟨12, _⟩ => ⟨S8x5632, .f32⟩
  | .hbm, ⟨13, _⟩ => ⟨S1x5632, .f32⟩
  | .local _ .vmem, ⟨0, _⟩ => ⟨S256x5632, .f32⟩
  | .local _ .vmem, ⟨1, _⟩ => ⟨S256x5632, .f32⟩
  | .local _ .vmem, ⟨2, _⟩ => ⟨S8x5632, .f32⟩
  | .local _ .vmem, ⟨3, _⟩ => ⟨S8x5632, .f32⟩
  | .local _ .vmem, ⟨4, _⟩ => ⟨S256x2816, .bf16⟩
  | .local _ .vmem, ⟨5, _⟩ => ⟨S256x2816, .bf16⟩
  | .local _ .vmem, ⟨6, _⟩ => ⟨S8x2816, .bf16⟩
  | .local _ .vmem, ⟨7, _⟩ => ⟨S8x2816, .bf16⟩
  | .local _ .vmem, ⟨8, _⟩ => ⟨S256x2816, .bf16⟩
  | .local _ .vmem, ⟨9, _⟩ => ⟨S256x2816, .bf16⟩
  | .local _ .vmem, ⟨10, _⟩ => ⟨S8x2816, .bf16⟩
  | .local _ .vmem, ⟨11, _⟩ => ⟨S8x2816, .bf16⟩
  | .local _ .vmem, ⟨12, _⟩ => ⟨S256x2816, .bf16⟩
  | .local _ .vmem, ⟨13, _⟩ => ⟨S256x2816, .bf16⟩
  | .local _ .vmem, ⟨14, _⟩ => ⟨S8x2816, .bf16⟩
  | .local _ .vmem, ⟨15, _⟩ => ⟨S8x2816, .bf16⟩
  | .local _ .vmem, ⟨16, _⟩ => ⟨S8x5632, .f32⟩
  | .local _ .vmem, ⟨17, _⟩ => ⟨S256x5632, .bf16⟩
  | .local _ .vmem, ⟨18, _⟩ => ⟨S256x5632, .bf16⟩
  | .local _ .vmem, ⟨19, _⟩ => ⟨S8x5632, .f32⟩
  | .local _ .vmem, ⟨20, _⟩ => ⟨S1x5632, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem11_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference32Ideal.lean ====
abbrev S8192x5632 : Shape := ⟨2, ![8192, 5632]⟩
abbrev S8192x2816 : Shape := ⟨2, ![8192, 2816]⟩
abbrev S3x5632 : Shape := ⟨2, ![3, 5632]⟩
abbrev S_ : Shape := ⟨0, ![]⟩
abbrev S2x5632 : Shape := ⟨2, ![2, 5632]⟩
abbrev S8194x5632 : Shape := ⟨2, ![8194, 5632]⟩
abbrev S1x5632 : Shape := ⟨2, ![1, 5632]⟩
abbrev S5632 : Shape := ⟨1, ![5632]⟩

abbrev nBuf : Space → Nat
  | .hbm => 53
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x2816, .f32⟩
  | .hbm, ⟨2, _⟩ => ⟨S8192x2816, .f32⟩
  | .hbm, ⟨3, _⟩ => ⟨S8192x2816, .f32⟩
  | .hbm, ⟨4, _⟩ => ⟨S3x5632, .f32⟩
  | .hbm, ⟨5, _⟩ => ⟨S_, .f32⟩
  | .hbm, ⟨6, _⟩ => ⟨S2x5632, .f32⟩
  | .hbm, ⟨7, _⟩ => ⟨S8194x5632, .f32⟩
  | .hbm, ⟨8, _⟩ => ⟨S_, .f32⟩
  | .hbm, ⟨9, _⟩ => ⟨S2x5632, .f32⟩
  | .hbm, ⟨10, _⟩ => ⟨S1x5632, .f32⟩
  | .hbm, ⟨11, _⟩ => ⟨S5632, .f32⟩
  | .hbm, ⟨12, _⟩ => ⟨S8192x5632, .f32⟩
  | .hbm, ⟨13, _⟩ => ⟨S1x5632, .f32⟩
  | .hbm, ⟨14, _⟩ => ⟨S8192x5632, .f32⟩
  | .hbm, ⟨15, _⟩ => ⟨S8192x5632, .f32⟩
  | .hbm, ⟨16, _⟩ => ⟨S_, .f32⟩
  | .hbm, ⟨17, _⟩ => ⟨S8192x5632, .f32⟩
  | .hbm, ⟨18, _⟩ => ⟨S8192x5632, .f32⟩
  | .hbm, ⟨19, _⟩ => ⟨S1x5632, .f32⟩
  | .hbm, ⟨20, _⟩ => ⟨S5632, .f32⟩
  | .hbm, ⟨21, _⟩ => ⟨S8192x5632, .f32⟩
  | .hbm, ⟨22, _⟩ => ⟨S1x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S1x5632, .f32⟩
  | .hbm, ⟨27, _⟩ => ⟨S5632, .f32⟩
  | .hbm, ⟨28, _⟩ => ⟨S8192x5632, .f32⟩
  | .hbm, ⟨29, _⟩ => ⟨S1x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x2816, .f32⟩
  | .hbm, ⟨34, _⟩ => ⟨S8192x2816, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S_, .f32⟩
  | .hbm, ⟨39, _⟩ => ⟨S8194x5632, .f32⟩
  | .hbm, ⟨40, _⟩ => ⟨S8192x5632, .f32⟩
  | .hbm, ⟨41, _⟩ => ⟨S8192x5632, .f32⟩
  | .hbm, ⟨42, _⟩ => ⟨S_, .f32⟩
  | .hbm, ⟨43, _⟩ => ⟨S8194x5632, .f32⟩
  | .hbm, ⟨44, _⟩ => ⟨S8194x5632, .f32⟩
  | .hbm, ⟨45, _⟩ => ⟨S8192x5632, .f32⟩
  | .hbm, ⟨46, _⟩ => ⟨S8192x5632, .f32⟩
  | .hbm, ⟨47, _⟩ => ⟨S_, .f32⟩
  | .hbm, ⟨48, _⟩ => ⟨S8194x5632, .f32⟩
  | .hbm, ⟨49, _⟩ => ⟨S8194x5632, .f32⟩
  | .hbm, ⟨50, _⟩ => ⟨S2x5632, .f32⟩
  | .hbm, ⟨51, _⟩ => ⟨S8192x5632, .f32⟩
  | .hbm, ⟨52, _⟩ => ⟨S8192x5632, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== Proof.Frames.lean ====
/-
  The frames of the three programs, and the named constant's claim.
-/
module

public import proofs.«01_k».proof.Defs
public import proofs.«01_k».proof.Proof.Gen.Kernel.Frame
public import proofs.«01_k».proof.Proof.Gen.KernelIdeal.Frame
public import proofs.«01_k».proof.Proof.Gen.ReferenceIdeal.Run

@[expose] public section

noncomputable section

namespace Cert.Proof

open Idealize.ShloMosaic Idealize.SL.Sem

attribute [local instance] Cert.Kernel.Gen.facts Cert.KernelIdeal.Gen.facts Cert.ReferenceIdeal.Gen.facts

theorem frame_Kernel : Cert.quiescent_Kernel := fun m ρ _ =>
  Cert.Kernel.Gen.frame (F := Bits) m ρ

theorem frame_KernelIdeal : Cert.quiescent_KernelIdeal := fun m ρ _ =>
  Cert.KernelIdeal.Gen.frame (F := Ideal) m ρ

/-- The reference declares no semaphore. -/
theorem frame_ReferenceIdeal : Cert.quiescent_ReferenceIdeal := fun m ρ _ =>
  (θ_run Cert.ReferenceIdeal.defs _ _).mono
    (fun r h => ⟨fun c => (h c).2.2.2.2, sem_eq_zero_of_no_sems (by decide) r.2⟩)
    (Cert.ReferenceIdeal.Value.run (F := Ideal) m ρ)

theorem preserves : Cert.preserves_Kernel_KernelIdeal :=
  IdealRules.named_const.statement _ _ _ _ _ rfl

end Cert.Proof

end
-- ==== Proof.Up.lean ====
/-
  Real matrices as arrays of extended reals, and the kernel's vector operations on them. Every lemma says that an
  operation on arrays of real entries gives the array of the corresponding real expression.
-/
module

public import proofs.«01_k».proof.KernelIdeal
public import proofs.«01_k».proof.Proof.Gen.KernelIdeal
public import Idealize.ShloMosaic.Lib.Pointwise
public import Idealize.ShloMosaic.Lib.WritesUnit
public import Idealize.ShloMosaic.Lib.Pipeline.Value

@[expose] public section

set_option maxRecDepth 16384

noncomputable section

namespace Cert.Fox

open Idealize.ShloMosaic Idealize.ShloMosaic.TcCoe Cert.KernelIdeal

/-- A real matrix as an array. -/
def up {a b : ℕ} {φ : FTy} (f : Fin a → Fin b → ℝ) : FVec Ideal ⟨2, ![a, b]⟩ φ := fun i => ((f (i 0) (i 1) : ℝ) : EReal)

theorem up_ix {a b : ℕ} {φ : FTy} (f : Fin a → Fin b → ℝ) (x : Fin a) (y : Fin b) :
    up (φ := φ) f (ix2 x y) = ((f x y : ℝ) : EReal) := rfl

/-- A finite sum of reals, read as an extended real. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Two matrices of 128 columns side by side. -/
def beside {a : ℕ} (f g : Fin a → Fin 128 → ℝ) : Fin a → Fin 256 → ℝ := fun x l =>
  if h : l.val < 128 then f x ⟨l.val, h⟩ else g x ⟨l.val - 128, by omega⟩

theorem sum_beside {a b : ℕ} (f g : Fin a → Fin 128 → ℝ) (f' g' : Fin b → Fin 128 → ℝ) (x : Fin a) (y : Fin b) :
    (∑ l : Fin 256, beside f g x l * beside f' g' y l) = (∑ l : Fin 128, f x l * f' y l) + ∑ l : Fin 128, g x l * g' y l := by
  rw [show (∑ l : Fin 256, beside f g x l * beside f' g' y l) = ∑ l : Fin (128 + 128), beside f g x l * beside f' g' y l from rfl,
    Fin.sum_univ_add]
  congr 1

theorem concat_up (f g : Fin 1024 → Fin 128 → ℝ)
    (h : Shape.Concatenates [S1024x128, S1024x128] S1024x256 1) :
    concatenate S1024x256 1 [⟨S1024x128, up (φ := .bf16) f⟩, ⟨S1024x128, up (φ := .bf16) g⟩] h = up (beside f g) := by
  funext j
  idx_vars j
  pointwise
  rw [up_ix]
  unfold beside
  split <;> rfl

theorem concat_of (f g : Fin 1024 → Fin 128 → ℝ) {X Y : S1024x128.Idx → Ideal .bf16} (hX : X = up (φ := .bf16) f) (hY : Y = up (φ := .bf16) g)
    (h : Shape.Concatenates [S1024x128, S1024x128] S1024x256 1) :
    concatenate S1024x256 1 [⟨S1024x128, X⟩, ⟨S1024x128, Y⟩] h = up (beside f g) := by
  subst hX hY
  exact concat_up f g h

theorem matmul_nt (A : Fin 1024 → Fin 256 → ℝ) (B : Fin 1024 → Fin 256 → ℝ) :
    matmul (F := Ideal) dot_S1024x256_S1024x256_S1024x1024_1_1_0_0_n_n none (up (φ := .bf16) A) (up (φ := .bf16) B) (constant S1024x1024 .f32 0x00000000#32)
      = up fun x y => ∑ l : Fin 256, A x l * B y l := by
  funext j
  idx_vars j
  pointwise [dot_S1024x256_S1024x256_S1024x1024_1_1_0_0_n_n]
  simp only [up_ix, coe_sum, EReal.coe_mul]

theorem matmul_t (A : Fin 128 → Fin 1024 → ℝ) (B : Fin 1024 → Fin 1024 → ℝ) :
    matmul (F := Ideal) dot_S128x1024_S1024x1024_S128x1024_1_0_0_1_n_n none (up (φ := .bf16) A) (up (φ := .bf16) B) (constant S128x1024 .f32 0x00000000#32)
      = up fun x y => ∑ l : Fin 1024, A x l * B l y := by
  funext j
  idx_vars j
  pointwise [dot_S128x1024_S1024x1024_S128x1024_1_0_0_1_n_n]
  simp only [up_ix, coe_sum, EReal.coe_mul]

theorem matmul_q (A : Fin 1024 → Fin 1024 → ℝ) (B : Fin 1024 → Fin 128 → ℝ) :
    matmul (F := Ideal) dot_S1024x1024_S1024x128_S1024x128_1_0_0_1_n_n none (up (φ := .bf16) A) (up (φ := .bf16) B) (constant S1024x128 .f32 0x00000000#32)
      = up fun x y => ∑ l : Fin 1024, A x l * B l y := by
  funext j
  idx_vars j
  pointwise [dot_S1024x1024_S1024x128_S1024x128_1_0_0_1_n_n]
  simp only [up_ix, coe_sum, EReal.coe_mul]

section Elementwise

variable {a b : ℕ} {φ : FTy} (f g : Fin a → Fin b → ℝ)

theorem mulf_up : mulf (F := Ideal) (up (φ := φ) f) (up g) = up fun x y => f x y * g x y := by
  funext j; exact (EReal.coe_mul _ _).symm

theorem addf_up : addf (F := Ideal) (up (φ := φ) f) (up g) = up fun x y => f x y + g x y := by
  funext j; exact (EReal.coe_add _ _).symm

theorem subf_up : subf (F := Ideal) (up (φ := φ) f) (up g) = up fun x y => f x y - g x y := by
  funext j; exact (EReal.coe_sub _ _).symm

theorem exp_up : exp (F := Ideal) (up (φ := φ) f) = up fun x y => Real.exp (f x y) := rfl

theorem truncf_up (h : FTy.bits .bf16 < FTy.bits .f32) : truncf (F := Ideal) .bf16 (up (φ := .f32) f) h = up f := rfl

theorem extf_up (h : FTy.bits .bf16 < FTy.bits .f32) : extf (F := Ideal) .f32 (up (φ := .bf16) f) h = up f := rfl

end Elementwise

/-! ## Sums over an axis -/

theorem zero_up {a b : ℕ} : broadcast (⟨2, ![a, b]⟩ : Shape) (Scalar.ofBits (F := Ideal) .f32 0x00000000#32) = up fun _ _ => 0 := by
  funext j
  show Ideal.ofBits .f32 0x00000000#32 = ((0 : ℝ) : EReal)
  rw [Ideal.ofBits_zero_f32, EReal.coe_zero]

theorem colsum_up (M : Fin 1024 → Fin 1024 → ℝ) (h : S1024x1024.Reduces [0] S1024) (hi) (hf) (hc : S1024.ShapeCasts S1x1024) :
    shapeCast S1x1024 (multiReduction (F := Ideal) .add [0] S1024 (up (φ := .f32) M) 0x00000000#32 h hi hf) hc
      = up (φ := .f32) fun _ s => ∑ x : Fin 1024, M x s := by
  funext j
  idx_vars j
  pointwise
  simp only [up_ix, coe_sum]

theorem rowsum_up (M : Fin 1024 → Fin 1024 → ℝ) (h : S1024x1024.Reduces [1] S1024) (hi) (hf) (hc : S1024.ShapeCasts S1024x1) :
    shapeCast S1024x1 (multiReduction (F := Ideal) .add [1] S1024 (up (φ := .f32) M) 0x00000000#32 h hi hf) hc
      = up (φ := .f32) fun x _ => ∑ s : Fin 1024, M x s := by
  funext j
  idx_vars j
  pointwise
  simp only [up_ix, coe_sum]

/-! ## Blocks of rows, and the slots of the accumulators -/

/-- Row `s` of block `j`. -/
def row (j : Fin 8) (s : Fin 1024) : Fin 8192 := ⟨1024 * j.val + s.val, by omega⟩

/-- The rows of block `j`. -/
def rows {b : ℕ} (K : Fin 8192 → Fin b → ℝ) (j : Fin 8) : Fin 1024 → Fin b → ℝ := fun s => K (row j s)

/-- An accumulator of eight slots of 128 by 1024. -/
def up3 (D : Fin 8 → Fin 128 → Fin 1024 → ℝ) : FVec Ideal S8x128x1024 .f32 := fun i => ((D (i 0) (i 1) (i 2) : ℝ) : EReal)

/-- The rows of decay gradients of two heads, in eight slots. -/
def up5 (C : Fin 2 → Fin 8 → Fin 1024 → ℝ) : FVec Ideal S1x2x8x1x1024 .f32 := fun i => ((C (i 1) (i 2) (i 4) : ℝ) : EReal)

section Memory

variable {κ : Kind} {sp : Space}

theorem read_rows (v : View sig κ sp S8192x128 .bf16) (f : BufTy.Contents (Elt Ideal) v.ty) (K : Fin 8192 → Fin 128 → ℝ)
    (h : v.read (Elt Ideal) f = up (φ := .bf16) K) (j : Fin 8) {off : Fin 2 → ℕ} (inb) (hoff : off = ![1024 * j.val, 0]) :
    (v.readAt (Elt Ideal) (Rect.unit (s := S8192x128) off ![1024, 128] inb).toLoadRect f : S1024x128.Idx → Ideal .bf16)
      = up (φ := .bf16) (rows K j) := by
  subst hoff
  rw [View.readAt_eq_ld, h]
  funext x
  show ((K _ _ : ℝ) : EReal) = ((K _ _ : ℝ) : EReal)
  congr 2
  · apply Fin.ext
    show 1024 * j.val + 1 * (x 0).val = 1024 * j.val + (x 0).val
    rw [Nat.one_mul]
  · apply Fin.ext
    show 0 + 1 * (x 1).val = (x 1).val
    omega

theorem load_rows (v : View sig κ sp S8192x128 .bf16) (f : BufTy.Contents (Elt Ideal) v.ty) (K : Fin 8192 → Fin 128 → ℝ)
    (h : v.read (Elt Ideal) f = up (φ := .bf16) K) (j : Fin 8) {off : Fin 2 → ℕ} (inb) (hoff : off = ![1024 * j.val, 0])
    (hc : S1024x128.ShapeCasts S1024x128) :
    shapeCast (s := S1024x128) (α := Ideal .bf16) S1024x128 (v.readAt (Elt Ideal) (Rect.unit (s := S8192x128) off ![1024, 128] inb).toLoadRect f) hc
      = up (φ := .bf16) (rows K j) :=
  (shapeCast_self _ hc).trans (read_rows v f K h j inb hoff)

theorem read_slot (v : View sig κ sp S8x128x1024 .f32) (f : BufTy.Contents (Elt Ideal) v.ty) (D : Fin 8 → Fin 128 → Fin 1024 → ℝ)
    (h : v.read (Elt Ideal) f = up3 D) (j : Fin 8) {off : Fin 3 → ℕ} (inb) (hoff : off = ![j.val, 0, 0]) :
    (v.readAt (Elt Ideal) (Rect.unit (s := S8x128x1024) off ![1, 128, 1024] inb).toLoadRect f : S1x128x1024.Idx → Ideal .f32)
      = fun x => ((D j (x 1) (x 2) : ℝ) : EReal) := by
  subst hoff
  rw [View.readAt_eq_ld, h]
  funext x
  show ((D _ _ _ : ℝ) : EReal) = ((D _ _ _ : ℝ) : EReal)
  congr 2
  · apply Fin.ext
    show j.val + 1 * (x 0).val = j.val
    have : (x 0).val < 1 := (x 0).isLt
    omega
  · apply Fin.ext
    show 0 + 1 * (x 1).val = (x 1).val
    omega
  · apply Fin.ext
    show 0 + 1 * (x 2).val = (x 2).val
    omega

theorem cast_slot (M : Fin 128 → Fin 1024 → ℝ) (hc : S1x128x1024.ShapeCasts S128x1024) :
    shapeCast (α := Ideal .f32) S128x1024 (fun x : S1x128x1024.Idx => ((M (x 1) (x 2) : ℝ) : EReal)) hc = up (φ := .f32) M := by
  funext y
  idx_vars y
  pointwise
  rfl

theorem load_slot (v : View sig κ sp S8x128x1024 .f32) (f : BufTy.Contents (Elt Ideal) v.ty) (D : Fin 8 → Fin 128 → Fin 1024 → ℝ)
    (h : v.read (Elt Ideal) f = up3 D) (j : Fin 8) {off : Fin 3 → ℕ} (inb) (hoff : off = ![j.val, 0, 0])
    (hc : S1x128x1024.ShapeCasts S128x1024) :
    shapeCast (s := S1x128x1024) (α := Ideal .f32) S128x1024 (v.readAt (Elt Ideal) (Rect.unit (s := S8x128x1024) off ![1, 128, 1024] inb).toLoadRect f) hc
      = up (φ := .f32) (D j) :=
  (congrArg (fun X : S1x128x1024.Idx → Ideal .f32 => shapeCast S128x1024 X hc) (read_slot v f D h j inb hoff)).trans (cast_slot (D j) hc)

theorem read_dc (v : View sig κ sp S1x2x8x1x1024 .f32) (f : BufTy.Contents (Elt Ideal) v.ty) (C : Fin 2 → Fin 8 → Fin 1024 → ℝ)
    (h : v.read (Elt Ideal) f = up5 C) (z : Fin 2) (j : Fin 8) {off : Fin 5 → ℕ} (inb) (hoff : off = ![0, z.val, j.val, 0, 0]) :
    (v.readAt (Elt Ideal) (Rect.unit (s := S1x2x8x1x1024) off ![1, 1, 1, 1, 1024] inb).toLoadRect f : S1x1x1x1x1024.Idx → Ideal .f32)
      = fun x => ((C z j (x 4) : ℝ) : EReal) := by
  subst hoff
  rw [View.readAt_eq_ld, h]
  funext x
  show ((C _ _ _ : ℝ) : EReal) = ((C _ _ _ : ℝ) : EReal)
  congr 2
  · apply Fin.ext
    show z.val + 1 * (x 1).val = z.val
    have : (x 1).val < 1 := (x 1).isLt
    omega
  · apply Fin.ext
    show j.val + 1 * (x 2).val = j.val
    have : (x 2).val < 1 := (x 2).isLt
    omega
  · apply Fin.ext
    show 0 + 1 * (x 4).val = (x 4).val
    omega

theorem cast_dc (r : Fin 1024 → ℝ) (hc : S1x1x1x1x1024.ShapeCasts S1x1024) :
    shapeCast (α := Ideal .f32) S1x1024 (fun x : S1x1x1x1x1024.Idx => ((r (x 4) : ℝ) : EReal)) hc = up (φ := .f32) fun _ => r := by
  funext y
  idx_vars y
  pointwise
  rfl

theorem load_dc (v : View sig κ sp S1x2x8x1x1024 .f32) (f : BufTy.Contents (Elt Ideal) v.ty) (C : Fin 2 → Fin 8 → Fin 1024 → ℝ)
    (h : v.read (Elt Ideal) f = up5 C) (z : Fin 2) (j : Fin 8) {off : Fin 5 → ℕ} (inb) (hoff : off = ![0, z.val, j.val, 0, 0])
    (hc : S1x1x1x1x1024.ShapeCasts S1x1024) :
    shapeCast (s := S1x1x1x1x1024) (α := Ideal .f32) S1x1024 (v.readAt (Elt Ideal) (Rect.unit (s := S1x2x8x1x1024) off ![1, 1, 1, 1, 1024] inb).toLoadRect f) hc
      = up (φ := .f32) fun _ => C z j :=
  (congrArg (fun X : S1x1x1x1x1024.Idx → Ideal .f32 => shapeCast S1x1024 X hc) (read_dc v f C h z j inb hoff)).trans (cast_dc (C z j) hc)

theorem store_slot (v : View sig κ sp S8x128x1024 .f32) (f : BufTy.Contents (Elt Ideal) v.ty) (L : List (View.Piece (Elt Ideal) S8x128x1024 .f32))
    (D : Fin 8 → Fin 128 → Fin 1024 → ℝ)
    (h : v.read (Elt Ideal) (v.writes (Elt Ideal) f L) = up3 D) (j : Fin 8) {off : Fin 3 → ℕ} (inb) (hoff : off = ![j.val, 0, 0])
    (M : Fin 128 → Fin 1024 → ℝ) (w : (Rect.unit (s := S8x128x1024) off ![1, 128, 1024] inb).shape.Idx → Elt Ideal .f32)
    (hw : ∀ x y, w (ix3 0 x y) = ((M x y : ℝ) : EReal)) :
    v.read (Elt Ideal) (v.writes (Elt Ideal) f ((⟨Rect.unit (s := S8x128x1024) off ![1, 128, 1024] inb, w⟩ : View.Piece (Elt Ideal) S8x128x1024 .f32) :: L))
      = up3 (Function.update D j M) := by
  have key : ∀ (i : Fin 8) (x : Fin 128) (y : Fin 1024), v.read (Elt Ideal) (v.writes (Elt Ideal) f
      ((⟨Rect.unit (s := S8x128x1024) off ![1, 128, 1024] inb, w⟩ : View.Piece (Elt Ideal) S8x128x1024 .f32) :: L)) (ix3 i x y)
        = ((Function.update D j M i x y : ℝ) : EReal) := by
    intro i x y
    by_cases hj : i = j
    · rw [View.read_writes_cons_unit_of_mem v f inb w L (ix3 i x y) (ix3 0 x y) hoff
        (fun a => by
          match a with
          | ⟨0, _⟩ => show i.val = j.val + 0; rw [hj]; rfl
          | ⟨1, _⟩ => show x.val = 0 + x.val; omega
          | ⟨2, _⟩ => show y.val = 0 + y.val; omega)]
      rw [hj, Function.update_self]
      exact hw x y
    · rw [View.read_writes_cons_unit_of_not_mem v f inb w L (ix3 i x y) hoff 0
        (by
          show i.val < j.val ∨ j.val + 1 ≤ i.val
          have : i.val ≠ j.val := fun e => hj (Fin.ext e)
          omega)]
      rw [h, Function.update_of_ne hj]
      rfl
  funext y
  exact (congrArg _ (eq_ix3 y)).trans (key _ _ _)

/-- Slot `(z, j)` replaced by `r`. -/
def putDc (C : Fin 2 → Fin 8 → Fin 1024 → ℝ) (z : Fin 2) (j : Fin 8) (r : Fin 1024 → ℝ) : Fin 2 → Fin 8 → Fin 1024 → ℝ :=
  Function.update C z (Function.update (C z) j r)

theorem store_dc (v : View sig κ sp S1x2x8x1x1024 .f32) (f : BufTy.Contents (Elt Ideal) v.ty) (L : List (View.Piece (Elt Ideal) S1x2x8x1x1024 .f32))
    (C : Fin 2 → Fin 8 → Fin 1024 → ℝ)
    (h : v.read (Elt Ideal) (v.writes (Elt Ideal) f L) = up5 C) (z : Fin 2) (j : Fin 8) {off : Fin 5 → ℕ} (inb) (hoff : off = ![0, z.val, j.val, 0, 0])
    (r : Fin 1024 → ℝ) (w : (Rect.unit (s := S1x2x8x1x1024) off ![1, 1, 1, 1, 1024] inb).shape.Idx → Elt Ideal .f32)
    (hw : ∀ x, w (ix5 0 0 0 0 x) = ((r x : ℝ) : EReal)) :
    v.read (Elt Ideal) (v.writes (Elt Ideal) f ((⟨Rect.unit (s := S1x2x8x1x1024) off ![1, 1, 1, 1, 1024] inb, w⟩ : View.Piece (Elt Ideal) S1x2x8x1x1024 .f32) :: L))
      = up5 (putDc C z j r) := by
  have key : ∀ (a : Fin 1) (u : Fin 2) (i : Fin 8) (d : Fin 1) (y : Fin 1024), v.read (Elt Ideal) (v.writes (Elt Ideal) f
      ((⟨Rect.unit (s := S1x2x8x1x1024) off ![1, 1, 1, 1, 1024] inb, w⟩ : View.Piece (Elt Ideal) S1x2x8x1x1024 .f32) :: L)) (ix5 a u i d y)
        = ((putDc C z j r u i y : ℝ) : EReal) := by
    intro a u i d y
    by_cases hz : u = z
    · by_cases hj : i = j
      · rw [View.read_writes_cons_unit_of_mem v f inb w L (ix5 a u i d y) (ix5 0 0 0 0 y) hoff
          (fun b => by
            match b with
            | ⟨0, _⟩ => show a.val = 0 + 0; omega
            | ⟨1, _⟩ => show u.val = z.val + 0; rw [hz]; rfl
            | ⟨2, _⟩ => show i.val = j.val + 0; rw [hj]; rfl
            | ⟨3, _⟩ => show d.val = 0 + 0; omega
            | ⟨4, _⟩ => show y.val = 0 + y.val; omega)]
        rw [putDc, hz, Function.update_self, hj, Function.update_self]
        exact hw y
      · rw [View.read_writes_cons_unit_of_not_mem v f inb w L (ix5 a u i d y) hoff 2
          (by
            show i.val < j.val ∨ j.val + 1 ≤ i.val
            have : i.val ≠ j.val := fun e => hj (Fin.ext e)
            omega)]
        rw [h, putDc, hz, Function.update_self, Function.update_of_ne hj]
        rfl
    · rw [View.read_writes_cons_unit_of_not_mem v f inb w L (ix5 a u i d y) hoff 1
        (by
          show u.val < z.val ∨ z.val + 1 ≤ u.val
          have : u.val ≠ z.val := fun e => hz (Fin.ext e)
          omega)]
      rw [h, putDc, Function.update_of_ne hz]
      rfl
  funext y
  exact (congrArg _ (eq_ix5 y)).trans (key _ _ _ _ _)

end Memory

theorem castSlot_apply (M : Fin 128 → Fin 1024 → ℝ) (hc : S128x1024.ShapeCasts S1x128x1024) (x : Fin 128) (y : Fin 1024) :
    shapeCast (α := Ideal .f32) S1x128x1024 (up (φ := .f32) M) hc (ix3 0 x y) = ((M x y : ℝ) : EReal) := by
  pointwise
  rfl

theorem castDc_apply (M : Fin 1 → Fin 1024 → ℝ) (hc : S1x1024.ShapeCasts S1x1x1x1x1024) (x : Fin 1024) :
    shapeCast (α := Ideal .f32) S1x1x1x1x1024 (up (φ := .f32) M) hc (ix5 0 0 0 0 x) = ((M 0 x : ℝ) : EReal) := by
  pointwise
  rfl

theorem castDc_of {X : FVec Ideal S1x1024 .f32} {M : Fin 1 → Fin 1024 → ℝ} (hX : X = up M) (hc : S1x1024.ShapeCasts S1x1x1x1x1024) (x : Fin 1024) :
    shapeCast (α := Ideal .f32) S1x1x1x1x1024 X hc (ix5 0 0 0 0 x) = ((M 0 x : ℝ) : EReal) := by
  subst hX
  exact castDc_apply M hc x

/-- A row of decay gradients with a block's column sums taken off. -/
theorem addDc_up (r : Fin 1024 → ℝ) (M : Fin 1024 → Fin 1024 → ℝ) (h : S1024x1024.Reduces [0] S1024) (hi) (hf) (hc : S1024.ShapeCasts S1x1024) :
    addf (F := Ideal) (up (φ := .f32) fun _ => r) (subf (broadcast S1x1024 (Scalar.ofBits (F := Ideal) .f32 0x00000000#32))
        (shapeCast S1x1024 (multiReduction (F := Ideal) .add [0] S1024 (up (φ := .f32) M) 0x00000000#32 h hi hf) hc))
      = up fun _ s => r s + (0 - ∑ x, M x s) := by
  rw [colsum_up, zero_up, subf_up, addf_up]

end Cert.Fox

end
-- ==== Proof.Block.lean ====
/-
  One step of the kernel on a block of queries and a block of keys, over the reals.
-/
module

public import proofs.«01_k».proof.Proof.Up

@[expose] public section

noncomputable section

namespace Cert.Fox

/-- The lanes by which the kernel's value rows are lengthened: six ones. -/
def ones : Fin 1024 → Fin 128 → ℝ := fun _ l => if l.val < 6 then 1 else 0

/-- Block `j` of the key rows, lengthened by its decays. -/
def keysAt (K KA : Fin 8192 → Fin 128 → ℝ) (j : Fin 8) : Fin 1024 → Fin 256 → ℝ := beside (rows K j) (rows KA j)

/-- Block `j` of the value rows, lengthened by ones. -/
def valsAt (V : Fin 8192 → Fin 128 → ℝ) (j : Fin 8) : Fin 1024 → Fin 256 → ℝ := beside (rows V j) ones

/-- The softmax weights of a block. -/
def prob (A KK : Fin 1024 → Fin 256 → ℝ) : Fin 1024 → Fin 1024 → ℝ := fun x s => Real.exp (∑ l, A x l * KK s l)

/-- The gradient of the scores of a block of weights. -/
def ds (p : Fin 1024 → Fin 1024 → ℝ) (B VV : Fin 1024 → Fin 256 → ℝ) : Fin 1024 → Fin 1024 → ℝ := fun x s => p x s * ∑ l, B x l * VV s l

/-- The query gradient with a block's part added. -/
def addQ (q : Fin 1024 → Fin 128 → ℝ) (M : Fin 1024 → Fin 1024 → ℝ) (k : Fin 1024 → Fin 128 → ℝ) : Fin 1024 → Fin 128 → ℝ :=
  fun x y => q x y + ∑ s, M x s * k s y

/-- The row sums with a block's part added. -/
def addR (r : Fin 1024 → Fin 1 → ℝ) (M : Fin 1024 → Fin 1024 → ℝ) : Fin 1024 → Fin 1 → ℝ := fun x z => r x z + ∑ s, M x s

/-- A slot of a transposed gradient with both heads' parts added. -/
def addT (D : Fin 128 → Fin 1024 → ℝ) (T0 T1 : Fin 128 → Fin 1024 → ℝ) (M0 M1 : Fin 1024 → Fin 1024 → ℝ) : Fin 128 → Fin 1024 → ℝ :=
  fun y s => D y s + ((∑ x, T0 y x * M0 x s) + ∑ x, T1 y x * M1 x s)

/-- A slot of the decay gradients with a block's column sums taken off. -/
def subC (r : Fin 1024 → ℝ) (M : Fin 1024 → Fin 1024 → ℝ) : Fin 1024 → ℝ := fun s => r s + (0 - ∑ x, M x s)

/-- The weights of query block against key block `j`. -/
def probAt (A : Fin 1024 → Fin 256 → ℝ) (K KA : Fin 8192 → Fin 128 → ℝ) (j : Fin 8) : Fin 1024 → Fin 1024 → ℝ :=
  prob A (keysAt K KA j)

/-- The gradient of the scores of query block against key block `j`. -/
def dsAt (A B : Fin 1024 → Fin 256 → ℝ) (K V KA : Fin 8192 → Fin 128 → ℝ) (j : Fin 8) : Fin 1024 → Fin 1024 → ℝ :=
  ds (prob A (keysAt K KA j)) B (valsAt V j)

/-- A sum over the blocks before `n`. -/
def below (f : Fin 8 → ℝ) (n : ℕ) : ℝ := ∑ j : Fin 8, if j.val < n then f j else 0

theorem below_zero (f : Fin 8 → ℝ) : below f 0 = 0 := by simp [below]

theorem below_succ (f : Fin 8 → ℝ) (j : Fin 8) : below f (j.val + 1) = below f j.val + f j := by
  unfold below
  have h : ∀ i : Fin 8, (if i.val < j.val + 1 then f i else 0) = (if i.val < j.val then f i else 0) + (if i = j then f i else 0) := by
    intro i
    by_cases h1 : i.val < j.val
    · have h2 : i ≠ j := fun e => by subst e; exact lt_irrefl _ h1
      simp [h1, h2, Nat.lt_succ_of_lt h1]
    · by_cases h2 : i = j
      · subst h2; simp
      · have h3 : ¬ i.val < j.val + 1 := fun h => h2 (Fin.ext (by omega))
        simp [h1, h2, h3]
  rw [Finset.sum_congr rfl fun i _ => h i, Finset.sum_add_distrib, Finset.sum_ite_eq' Finset.univ j f]
  simp

/-- The query gradient collected over the key blocks before `n`. -/
def sumQ (M : Fin 8 → Fin 1024 → Fin 1024 → ℝ) (K : Fin 8192 → Fin 128 → ℝ) (n : ℕ) : Fin 1024 → Fin 128 → ℝ :=
  fun x y => below (fun j => ∑ s, M j x s * rows K j s y) n

/-- The row sums collected over the key blocks before `n`. -/
def sumR (M : Fin 8 → Fin 1024 → Fin 1024 → ℝ) (n : ℕ) : Fin 1024 → Fin 1 → ℝ :=
  fun x _ => below (fun j => ∑ s, M j x s) n

/-- The transposed gradients after the key blocks before `n`. -/
def afterT (D : Fin 8 → Fin 128 → Fin 1024 → ℝ) (T0 T1 : Fin 128 → Fin 1024 → ℝ) (M0 M1 : Fin 8 → Fin 1024 → Fin 1024 → ℝ) (n : ℕ) :
    Fin 8 → Fin 128 → Fin 1024 → ℝ :=
  fun j => if j.val < n then addT (D j) T0 T1 (M0 j) (M1 j) else D j

/-- The decay gradients after the key blocks before `n`. -/
def afterC (C : Fin 2 → Fin 8 → Fin 1024 → ℝ) (M0 M1 : Fin 8 → Fin 1024 → Fin 1024 → ℝ) (n : ℕ) : Fin 2 → Fin 8 → Fin 1024 → ℝ :=
  fun z j => if j.val < n then subC (C z j) (if z = 0 then M0 j else M1 j) else C z j

section Steps

variable (M M0 M1 : Fin 8 → Fin 1024 → Fin 1024 → ℝ) (K : Fin 8192 → Fin 128 → ℝ) (D : Fin 8 → Fin 128 → Fin 1024 → ℝ)
  (T0 T1 : Fin 128 → Fin 1024 → ℝ) (C : Fin 2 → Fin 8 → Fin 1024 → ℝ) (j : Fin 8)

theorem sumQ_zero : sumQ M K 0 = fun _ _ => 0 := funext fun _ => funext fun _ => below_zero _

theorem sumR_zero : sumR M 0 = fun _ _ => 0 := funext fun _ => funext fun _ => below_zero _

theorem afterT_zero : afterT D T0 T1 M0 M1 0 = D := rfl

theorem afterC_zero : afterC C M0 M1 0 = C := rfl

theorem sumQ_succ : sumQ M K (j.val + 1) = addQ (sumQ M K j.val) (M j) (rows K j) :=
  funext fun _ => funext fun _ => below_succ _ j

theorem sumR_succ : sumR M (j.val + 1) = addR (sumR M j.val) (M j) :=
  funext fun _ => funext fun _ => below_succ _ j

theorem afterT_succ : afterT D T0 T1 M0 M1 (j.val + 1)
    = Function.update (afterT D T0 T1 M0 M1 j.val) j (addT (afterT D T0 T1 M0 M1 j.val j) T0 T1 (M0 j) (M1 j)) := by
  funext i
  by_cases h : i = j
  · subst h
    rw [Function.update_self]
    simp [afterT]
  · rw [Function.update_of_ne h]
    have h1 : i.val < j.val + 1 ↔ i.val < j.val := ⟨fun e => by have : i.val ≠ j.val := fun e => h (Fin.ext e); omega, Nat.lt_succ_of_lt⟩
    simp only [afterT, h1]

theorem afterC_succ : afterC C M0 M1 (j.val + 1)
    = putDc (putDc (afterC C M0 M1 j.val) 0 j (subC (afterC C M0 M1 j.val 0 j) (M0 j))) 1 j (subC (afterC C M0 M1 j.val 1 j) (M1 j)) := by
  funext z i
  by_cases h : i = j
  · subst h
    match z with
    | 0 => simp [afterC, putDc]
    | 1 => simp [afterC, putDc]
  · have h1 : i.val < j.val + 1 ↔ i.val < j.val := ⟨fun e => by have : i.val ≠ j.val := fun e => h (Fin.ext e); omega, Nat.lt_succ_of_lt⟩
    match z with
    | 0 => simp only [afterC, h1]; simp [putDc, afterC, h]
    | 1 => simp only [afterC, h1]; simp [putDc, afterC, h]

end Steps

/-- The rows of head `z` of a pair: its 64 lanes of 128, the other head's lanes zero. -/
def half (z : Fin 2) (Q : Fin 1024 → Fin 128 → ℝ) : Fin 1024 → Fin 128 → ℝ := fun x l => if l.val < 64 ↔ z = 0 then Q x l else 0

/-- The lanes by which the query rows of head `z` are lengthened. -/
def qaux (z : Fin 2) (LA : Fin 1024 → Fin 128 → ℝ) : Fin 1024 → Fin 128 → ℝ := fun x l =>
  (if 3 * z.val ≤ l.val ∧ l.val < 3 * z.val + 3 then 1 else 0) + (if 6 + 3 * z.val ≤ l.val ∧ l.val < 9 + 3 * z.val then LA x l else 0)

/-- The row sums of the output's gradient times the output, of head `z`. -/
def delta (z : Fin 2) (DO O : Fin 1024 → Fin 128 → ℝ) : Fin 1024 → ℝ := fun x => ∑ l, half z (fun x l => DO x l * O x l) x l

/-- The lanes by which the rows of the output's gradient are lengthened. -/
def daux (z : Fin 2) (d : Fin 1024 → ℝ) : Fin 1024 → Fin 128 → ℝ := fun x l => if l.val = 3 * z.val then - d x else 0

/-- The lengthened query rows of head `z`. -/
def qext (z : Fin 2) (Q LA : Fin 1024 → Fin 128 → ℝ) : Fin 1024 → Fin 256 → ℝ := beside (half z Q) (qaux z LA)

/-- The lengthened rows of the output's gradient of head `z`. -/
def doext (z : Fin 2) (DO O : Fin 1024 → Fin 128 → ℝ) : Fin 1024 → Fin 256 → ℝ := beside (half z DO) (daux z (delta z DO O))

/-- The weights of the block on the diagonal. -/
def causal (p : Fin 1024 → Fin 1024 → ℝ) : Fin 1024 → Fin 1024 → ℝ := fun x s => if s.val ≤ x.val then p x s else 0

/-- A matrix turned about its diagonal. -/
def flip (f : Fin 1024 → Fin 128 → ℝ) : Fin 128 → Fin 1024 → ℝ := fun y x => f x y

end Cert.Fox

end
-- ==== Proof.Trip.lean ====
/-
  One trip of the kernel's loop over the key blocks before the diagonal, over the reals.
-/
module

public import proofs.«01_k».proof.Proof.Up
public import proofs.«01_k».proof.Proof.Block
public import proofs.«01_k».proof.Proof.Gen.KernelIdeal.Loops

@[expose] public section

set_option maxRecDepth 16384

noncomputable section

namespace Cert.Fox

open Idealize.ShloMosaic Idealize.ShloMosaic.TcCoe Cert.KernelIdeal Cert.KernelIdeal.Gen

set_option maxHeartbeats 4000000 in
theorem trip_carry (𝒱 : Variants) (c : Dev nD) (bd : Option 𝒱.V) (i : grid0.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S1x2x8x1x1024 .f32) (harg12 : arg12.IsWhole) (arg13 : Memref sig .tc .vmem S8x128x1024 .f32) (harg13 : arg13.IsWhole) (arg14 : Memref sig .tc .vmem S8x128x1024 .f32) (harg14 : arg14.IsWhole) (arg1 : BitVec 32) (v3 : IVec S1024x128 32) (v17 : FVec Ideal S1024x128 .bf16) (v122 : FVec Ideal S1024x1 .bf16) (v129 : FVec Ideal S1024x128 .f32) (v131 : IVec S1024x128 1) (cst_31 : Ideal .f32) (v133 : FVec Ideal S1024x1 .f32) (X_arg3 : BufTy.Contents (Elt Ideal) arg3.view.ty) (X_arg4 : BufTy.Contents (Elt Ideal) arg4.view.ty) (X_arg5 : BufTy.Contents (Elt Ideal) arg5.view.ty) (k : Fin (k0_t1_loop i).trips)
  (T0 T1 U0 U1 : Fin 128 → Fin 1024 → ℝ) (A0 B0 A1 B1 : Fin 1024 → Fin 256 → ℝ) (K V KA : Fin 8192 → Fin 128 → ℝ)
  (hB1 : k0_pay85 v3 v17 v122 v129 v131 cst_31 v133 = up B1) (hO : k0_pay86 v3 = up ones)
  (h3 : arg3.view.read (Elt Ideal) X_arg3 = up (φ := .bf16) K) (h4 : arg4.view.read (Elt Ideal) X_arg4 = up (φ := .bf16) V) (h5 : arg5.view.read (Elt Ideal) X_arg5 = up (φ := .bf16) KA)
  (G12 : BufTy.Contents (Elt Ideal) arg12.view.ty) (G13 : BufTy.Contents (Elt Ideal) arg13.view.ty) (G14 : BufTy.Contents (Elt Ideal) arg14.view.ty)
  (L12 : List (View.Piece (Elt Ideal) S1x2x8x1x1024 .f32)) (L13 L14 : List (View.Piece (Elt Ideal) S8x128x1024 .f32))
  (C : Fin 2 → Fin 8 → Fin 1024 → ℝ) (D E : Fin 8 → Fin 128 → Fin 1024 → ℝ)
  (h12 : arg12.view.read (Elt Ideal) (arg12.view.writes (Elt Ideal) G12 L12) = up5 C)
  (h13 : arg13.view.read (Elt Ideal) (arg13.view.writes (Elt Ideal) G13 L13) = up3 D)
  (h14 : arg14.view.read (Elt Ideal) (arg14.view.writes (Elt Ideal) G14 L14) = up3 E)
  (q0 q1 : Fin 1024 → Fin 128 → ℝ) (r0 r1 : Fin 1024 → Fin 1 → ℝ) (j : Fin 8) (hj : j.val = k.val) :
    tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v3 v17 (up (φ := .bf16) T0) (up (φ := .bf16) T1) (up (φ := .bf16) U0) (up (φ := .bf16) U1) (up (φ := .bf16) A0) (up (φ := .bf16) B0) (up (φ := .bf16) A1) v122 v129 v131 cst_31 v133 X_arg3 X_arg4 X_arg5 k (up (φ := .f32) q0, up (φ := .f32) r0, up (φ := .f32) q1, up (φ := .f32) r1) (arg12.view.writes (Elt Ideal) G12 L12) (arg13.view.writes (Elt Ideal) G13 L13) (arg14.view.writes (Elt Ideal) G14 L14)
      = (up (addQ q0 (ds (prob A0 (keysAt K KA j)) B0 (valsAt V j)) (rows K j)), up (addR r0 (ds (prob A0 (keysAt K KA j)) B0 (valsAt V j))),
         up (addQ q1 (ds (prob A1 (keysAt K KA j)) B1 (valsAt V j)) (rows K j)), up (addR r1 (ds (prob A1 (keysAt K KA j)) B1 (valsAt V j)))) := by
  unfold tripR_k0_t1 trip_k0_t1
  dsimp only
  sl_unfold_run_names
  have e3 := load_rows arg3.view X_arg3 K h3 j (k0_off1_inb i k) ((k0_off1_eq i k).trans (by rw [hj])) shapeCasts_S1024x128_S1024x128
  have e4 := load_rows arg4.view X_arg4 V h4 j (k0_off1_inb i k) ((k0_off1_eq i k).trans (by rw [hj])) shapeCasts_S1024x128_S1024x128
  have e5 := load_rows arg5.view X_arg5 KA h5 j (k0_off1_inb i k) ((k0_off1_eq i k).trans (by rw [hj])) shapeCasts_S1024x128_S1024x128
  have c0 := concat_of _ _ e3 e5 concatenates_S1024x128_S1024x128_S1024x256_d1
  have c1 := concat_of _ _ e4 hO concatenates_S1024x128_S1024x128_S1024x256_d1
  simp only [c0, c1, e3, e4, e5, hB1, hO, concat_up, matmul_nt, matmul_t, matmul_q, mulf_up, addf_up, exp_up, truncf_up, rowsum_up]
  refine Prod.ext rfl (Prod.ext ?_ (Prod.ext rfl ?_))
  · exact (congrArg (addf (up r0)) (rowsum_up _ _ _ _ _)).trans (addf_up _ _)
  · exact (congrArg (addf (up r1)) (rowsum_up _ _ _ _ _)).trans (addf_up _ _)

set_option maxHeartbeats 4000000 in
theorem trip_dv (𝒱 : Variants) (c : Dev nD) (bd : Option 𝒱.V) (i : grid0.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S1x2x8x1x1024 .f32) (harg12 : arg12.IsWhole) (arg13 : Memref sig .tc .vmem S8x128x1024 .f32) (harg13 : arg13.IsWhole) (arg14 : Memref sig .tc .vmem S8x128x1024 .f32) (harg14 : arg14.IsWhole) (arg1 : BitVec 32) (v3 : IVec S1024x128 32) (v17 : FVec Ideal S1024x128 .bf16) (v122 : FVec Ideal S1024x1 .bf16) (v129 : FVec Ideal S1024x128 .f32) (v131 : IVec S1024x128 1) (cst_31 : Ideal .f32) (v133 : FVec Ideal S1024x1 .f32) (X_arg3 : BufTy.Contents (Elt Ideal) arg3.view.ty) (X_arg4 : BufTy.Contents (Elt Ideal) arg4.view.ty) (X_arg5 : BufTy.Contents (Elt Ideal) arg5.view.ty) (k : Fin (k0_t1_loop i).trips)
  (T0 T1 U0 U1 : Fin 128 → Fin 1024 → ℝ) (A0 B0 A1 B1 : Fin 1024 → Fin 256 → ℝ) (K V KA : Fin 8192 → Fin 128 → ℝ)
  (hB1 : k0_pay85 v3 v17 v122 v129 v131 cst_31 v133 = up B1) (hO : k0_pay86 v3 = up ones)
  (h3 : arg3.view.read (Elt Ideal) X_arg3 = up (φ := .bf16) K) (h4 : arg4.view.read (Elt Ideal) X_arg4 = up (φ := .bf16) V) (h5 : arg5.view.read (Elt Ideal) X_arg5 = up (φ := .bf16) KA)
  (G12 : BufTy.Contents (Elt Ideal) arg12.view.ty) (G13 : BufTy.Contents (Elt Ideal) arg13.view.ty) (G14 : BufTy.Contents (Elt Ideal) arg14.view.ty)
  (L12 : List (View.Piece (Elt Ideal) S1x2x8x1x1024 .f32)) (L13 L14 : List (View.Piece (Elt Ideal) S8x128x1024 .f32))
  (C : Fin 2 → Fin 8 → Fin 1024 → ℝ) (D E : Fin 8 → Fin 128 → Fin 1024 → ℝ)
  (h12 : arg12.view.read (Elt Ideal) (arg12.view.writes (Elt Ideal) G12 L12) = up5 C)
  (h13 : arg13.view.read (Elt Ideal) (arg13.view.writes (Elt Ideal) G13 L13) = up3 D)
  (h14 : arg14.view.read (Elt Ideal) (arg14.view.writes (Elt Ideal) G14 L14) = up3 E)
  (q0 q1 : Fin 1024 → Fin 128 → ℝ) (r0 r1 : Fin 1024 → Fin 1 → ℝ) (j : Fin 8) (hj : j.val = k.val) :
    arg14.view.read (Elt Ideal) (arg14.view.writes (Elt Ideal) G14 ((tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v3 v17 (up (φ := .bf16) T0) (up (φ := .bf16) T1) (up (φ := .bf16) U0) (up (φ := .bf16) U1) (up (φ := .bf16) A0) (up (φ := .bf16) B0) (up (φ := .bf16) A1) v122 v129 v131 cst_31 v133 X_arg3 X_arg4 X_arg5 k (up (φ := .f32) q0, up (φ := .f32) r0, up (φ := .f32) q1, up (φ := .f32) r1) (arg12.view.writes (Elt Ideal) G12 L12) (arg13.view.writes (Elt Ideal) G13 L13) (arg14.view.writes (Elt Ideal) G14 L14)).2.2 ++ L14))
      = up3 (Function.update E j (addT (E j) U0 U1 (prob A0 (keysAt K KA j)) (prob A1 (keysAt K KA j)))) := by
  unfold tripL_k0_t1 trip_k0_t1
  dsimp only
  sl_unfold_run_names
  have e3 := load_rows arg3.view X_arg3 K h3 j (k0_off1_inb i k) ((k0_off1_eq i k).trans (by rw [hj])) shapeCasts_S1024x128_S1024x128
  have e5 := load_rows arg5.view X_arg5 KA h5 j (k0_off1_inb i k) ((k0_off1_eq i k).trans (by rw [hj])) shapeCasts_S1024x128_S1024x128
  have s14 := load_slot arg14.view _ E h14 j (k0_off4_inb i k) ((k0_off4_eq i k).trans (by rw [hj])) shapeCasts_S1x128x1024_S128x1024
  have c0 := concat_of _ _ e3 e5 concatenates_S1024x128_S1024x128_S1024x256_d1
  unfold k0_pay92
  simp only [c0, e3, e5, s14, matmul_nt, matmul_t, mulf_up, addf_up, exp_up, truncf_up]
  refine store_slot arg14.view G14 L14 E h14 j (k0_off4_inb i k) ((k0_off4_eq i k).trans (by rw [hj])) _ _ ?_
  intro x y
  exact castSlot_apply _ _ x y

set_option maxHeartbeats 4000000 in
theorem trip_dk (𝒱 : Variants) (c : Dev nD) (bd : Option 𝒱.V) (i : grid0.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S1x2x8x1x1024 .f32) (harg12 : arg12.IsWhole) (arg13 : Memref sig .tc .vmem S8x128x1024 .f32) (harg13 : arg13.IsWhole) (arg14 : Memref sig .tc .vmem S8x128x1024 .f32) (harg14 : arg14.IsWhole) (arg1 : BitVec 32) (v3 : IVec S1024x128 32) (v17 : FVec Ideal S1024x128 .bf16) (v122 : FVec Ideal S1024x1 .bf16) (v129 : FVec Ideal S1024x128 .f32) (v131 : IVec S1024x128 1) (cst_31 : Ideal .f32) (v133 : FVec Ideal S1024x1 .f32) (X_arg3 : BufTy.Contents (Elt Ideal) arg3.view.ty) (X_arg4 : BufTy.Contents (Elt Ideal) arg4.view.ty) (X_arg5 : BufTy.Contents (Elt Ideal) arg5.view.ty) (k : Fin (k0_t1_loop i).trips)
  (T0 T1 U0 U1 : Fin 128 → Fin 1024 → ℝ) (A0 B0 A1 B1 : Fin 1024 → Fin 256 → ℝ) (K V KA : Fin 8192 → Fin 128 → ℝ)
  (hB1 : k0_pay85 v3 v17 v122 v129 v131 cst_31 v133 = up B1) (hO : k0_pay86 v3 = up ones)
  (h3 : arg3.view.read (Elt Ideal) X_arg3 = up (φ := .bf16) K) (h4 : arg4.view.read (Elt Ideal) X_arg4 = up (φ := .bf16) V) (h5 : arg5.view.read (Elt Ideal) X_arg5 = up (φ := .bf16) KA)
  (G12 : BufTy.Contents (Elt Ideal) arg12.view.ty) (G13 : BufTy.Contents (Elt Ideal) arg13.view.ty) (G14 : BufTy.Contents (Elt Ideal) arg14.view.ty)
  (L12 : List (View.Piece (Elt Ideal) S1x2x8x1x1024 .f32)) (L13 L14 : List (View.Piece (Elt Ideal) S8x128x1024 .f32))
  (C : Fin 2 → Fin 8 → Fin 1024 → ℝ) (D E : Fin 8 → Fin 128 → Fin 1024 → ℝ)
  (h12 : arg12.view.read (Elt Ideal) (arg12.view.writes (Elt Ideal) G12 L12) = up5 C)
  (h13 : arg13.view.read (Elt Ideal) (arg13.view.writes (Elt Ideal) G13 L13) = up3 D)
  (h14 : arg14.view.read (Elt Ideal) (arg14.view.writes (Elt Ideal) G14 L14) = up3 E)
  (q0 q1 : Fin 1024 → Fin 128 → ℝ) (r0 r1 : Fin 1024 → Fin 1 → ℝ) (j : Fin 8) (hj : j.val = k.val) :
    arg13.view.read (Elt Ideal) (arg13.view.writes (Elt Ideal) G13 ((tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v3 v17 (up (φ := .bf16) T0) (up (φ := .bf16) T1) (up (φ := .bf16) U0) (up (φ := .bf16) U1) (up (φ := .bf16) A0) (up (φ := .bf16) B0) (up (φ := .bf16) A1) v122 v129 v131 cst_31 v133 X_arg3 X_arg4 X_arg5 k (up (φ := .f32) q0, up (φ := .f32) r0, up (φ := .f32) q1, up (φ := .f32) r1) (arg12.view.writes (Elt Ideal) G12 L12) (arg13.view.writes (Elt Ideal) G13 L13) (arg14.view.writes (Elt Ideal) G14 L14)).2.1 ++ L13))
      = up3 (Function.update D j (addT (D j) T0 T1 (ds (prob A0 (keysAt K KA j)) B0 (valsAt V j)) (ds (prob A1 (keysAt K KA j)) B1 (valsAt V j)))) := by
  unfold tripL_k0_t1 trip_k0_t1
  dsimp only
  sl_unfold_run_names
  have e3 := load_rows arg3.view X_arg3 K h3 j (k0_off1_inb i k) ((k0_off1_eq i k).trans (by rw [hj])) shapeCasts_S1024x128_S1024x128
  have e4 := load_rows arg4.view X_arg4 V h4 j (k0_off1_inb i k) ((k0_off1_eq i k).trans (by rw [hj])) shapeCasts_S1024x128_S1024x128
  have e5 := load_rows arg5.view X_arg5 KA h5 j (k0_off1_inb i k) ((k0_off1_eq i k).trans (by rw [hj])) shapeCasts_S1024x128_S1024x128
  have s13 := load_slot arg13.view _ D h13 j (k0_off4_inb i k) ((k0_off4_eq i k).trans (by rw [hj])) shapeCasts_S1x128x1024_S128x1024
  have c0 := concat_of _ _ e3 e5 concatenates_S1024x128_S1024x128_S1024x256_d1
  have c1 := concat_of _ _ e4 hO concatenates_S1024x128_S1024x128_S1024x256_d1
  simp only [c0, c1, e3, e5, s13, hB1, matmul_nt, matmul_t, mulf_up, addf_up, exp_up, truncf_up]
  refine store_slot arg13.view G13 L13 D h13 j (k0_off4_inb i k) ((k0_off4_eq i k).trans (by rw [hj])) _ _ ?_
  intro x y
  exact castSlot_apply _ _ x y

set_option maxHeartbeats 4000000 in
theorem trip_dc (𝒱 : Variants) (c : Dev nD) (bd : Option 𝒱.V) (i : grid0.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S1x2x8x1x1024 .f32) (harg12 : arg12.IsWhole) (arg13 : Memref sig .tc .vmem S8x128x1024 .f32) (harg13 : arg13.IsWhole) (arg14 : Memref sig .tc .vmem S8x128x1024 .f32) (harg14 : arg14.IsWhole) (arg1 : BitVec 32) (v3 : IVec S1024x128 32) (v17 : FVec Ideal S1024x128 .bf16) (v122 : FVec Ideal S1024x1 .bf16) (v129 : FVec Ideal S1024x128 .f32) (v131 : IVec S1024x128 1) (cst_31 : Ideal .f32) (v133 : FVec Ideal S1024x1 .f32) (X_arg3 : BufTy.Contents (Elt Ideal) arg3.view.ty) (X_arg4 : BufTy.Contents (Elt Ideal) arg4.view.ty) (X_arg5 : BufTy.Contents (Elt Ideal) arg5.view.ty) (k : Fin (k0_t1_loop i).trips)
  (T0 T1 U0 U1 : Fin 128 → Fin 1024 → ℝ) (A0 B0 A1 B1 : Fin 1024 → Fin 256 → ℝ) (K V KA : Fin 8192 → Fin 128 → ℝ)
  (hB1 : k0_pay85 v3 v17 v122 v129 v131 cst_31 v133 = up B1) (hO : k0_pay86 v3 = up ones)
  (h3 : arg3.view.read (Elt Ideal) X_arg3 = up (φ := .bf16) K) (h4 : arg4.view.read (Elt Ideal) X_arg4 = up (φ := .bf16) V) (h5 : arg5.view.read (Elt Ideal) X_arg5 = up (φ := .bf16) KA)
  (G12 : BufTy.Contents (Elt Ideal) arg12.view.ty) (G13 : BufTy.Contents (Elt Ideal) arg13.view.ty) (G14 : BufTy.Contents (Elt Ideal) arg14.view.ty)
  (L12 : List (View.Piece (Elt Ideal) S1x2x8x1x1024 .f32)) (L13 L14 : List (View.Piece (Elt Ideal) S8x128x1024 .f32))
  (C : Fin 2 → Fin 8 → Fin 1024 → ℝ) (D E : Fin 8 → Fin 128 → Fin 1024 → ℝ)
  (h12 : arg12.view.read (Elt Ideal) (arg12.view.writes (Elt Ideal) G12 L12) = up5 C)
  (h13 : arg13.view.read (Elt Ideal) (arg13.view.writes (Elt Ideal) G13 L13) = up3 D)
  (h14 : arg14.view.read (Elt Ideal) (arg14.view.writes (Elt Ideal) G14 L14) = up3 E)
  (q0 q1 : Fin 1024 → Fin 128 → ℝ) (r0 r1 : Fin 1024 → Fin 1 → ℝ) (j : Fin 8) (hj : j.val = k.val) :
    arg12.view.read (Elt Ideal) (arg12.view.writes (Elt Ideal) G12 ((tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v3 v17 (up (φ := .bf16) T0) (up (φ := .bf16) T1) (up (φ := .bf16) U0) (up (φ := .bf16) U1) (up (φ := .bf16) A0) (up (φ := .bf16) B0) (up (φ := .bf16) A1) v122 v129 v131 cst_31 v133 X_arg3 X_arg4 X_arg5 k (up (φ := .f32) q0, up (φ := .f32) r0, up (φ := .f32) q1, up (φ := .f32) r1) (arg12.view.writes (Elt Ideal) G12 L12) (arg13.view.writes (Elt Ideal) G13 L13) (arg14.view.writes (Elt Ideal) G14 L14)).1 ++ L12))
      = up5 (putDc (putDc C 0 j (subC (C 0 j) (ds (prob A0 (keysAt K KA j)) B0 (valsAt V j)))) 1 j (subC (C 1 j) (ds (prob A1 (keysAt K KA j)) B1 (valsAt V j)))) := by
  unfold tripL_k0_t1 trip_k0_t1
  dsimp only
  sl_unfold_run_names
  have e3 := load_rows arg3.view X_arg3 K h3 j (k0_off1_inb i k) ((k0_off1_eq i k).trans (by rw [hj])) shapeCasts_S1024x128_S1024x128
  have e4 := load_rows arg4.view X_arg4 V h4 j (k0_off1_inb i k) ((k0_off1_eq i k).trans (by rw [hj])) shapeCasts_S1024x128_S1024x128
  have e5 := load_rows arg5.view X_arg5 KA h5 j (k0_off1_inb i k) ((k0_off1_eq i k).trans (by rw [hj])) shapeCasts_S1024x128_S1024x128
  have s0 := load_dc arg12.view _ C h12 0 j (k0_off2_inb i k) ((k0_off2_eq i k).trans (by rw [hj]; rfl)) shapeCasts_S1x1x1x1x1024_S1x1024
  have s1 := load_dc arg12.view _ C h12 1 j (k0_off3_inb i k) ((k0_off3_eq i k).trans (by rw [hj]; rfl)) shapeCasts_S1x1x1x1x1024_S1x1024
  have c0 := concat_of _ _ e3 e5 concatenates_S1024x128_S1024x128_S1024x256_d1
  have c1 := concat_of _ _ e4 hO concatenates_S1024x128_S1024x128_S1024x256_d1
  simp only [c0, c1, e3, e5, s0, s1, hB1, matmul_nt, mulf_up, addf_up, exp_up, truncf_up]
  refine store_dc arg12.view G12 _ _ (store_dc arg12.view G12 L12 C h12 0 j (k0_off2_inb i k) ((k0_off2_eq i k).trans (by rw [hj]; rfl)) (subC (C 0 j) (ds (prob A0 (keysAt K KA j)) B0 (valsAt V j))) _ ?_)
    1 j (k0_off3_inb i k) ((k0_off3_eq i k).trans (by rw [hj]; rfl)) _ _ ?_
  · intro x
    exact castDc_of (addDc_up _ _ _ _ _ _) _ x
  · intro x
    exact castDc_of (addDc_up _ _ _ _ _ _) _ x

end Cert.Fox

end
-- ==== Proof.Loop.lean ====
/-
  The kernel's loop over the key blocks before the diagonal, over the reals.
-/
module

public import proofs.«01_k».proof.Proof.Trip

@[expose] public section

set_option maxRecDepth 16384

noncomputable section

namespace Cert.Fox

open Idealize.ShloMosaic Idealize.ShloMosaic.TcCoe Cert.KernelIdeal Cert.KernelIdeal.Gen

/-- What the loop carries and has written before trip `n`. -/
structure LoopAt {κ : Kind} {sp₁ sp₂ sp₃ : Space} (a12 : View sig κ sp₁ S1x2x8x1x1024 .f32) (a13 : View sig κ sp₂ S8x128x1024 .f32) (a14 : View sig κ sp₃ S8x128x1024 .f32)
    (T0 T1 U0 U1 : Fin 128 → Fin 1024 → ℝ) (A0 B0 A1 B1 : Fin 1024 → Fin 256 → ℝ) (K V KA : Fin 8192 → Fin 128 → ℝ)
    (G12 : BufTy.Contents (Elt Ideal) a12.ty) (G13 : BufTy.Contents (Elt Ideal) a13.ty) (G14 : BufTy.Contents (Elt Ideal) a14.ty)
    (C : Fin 2 → Fin 8 → Fin 1024 → ℝ) (D E : Fin 8 → Fin 128 → Fin 1024 → ℝ) (n : ℕ)
    (st : (FVec Ideal S1024x128 .f32 × FVec Ideal S1024x1 .f32 × FVec Ideal S1024x128 .f32 × FVec Ideal S1024x1 .f32) × List (View.Piece (Elt Ideal) S1x2x8x1x1024 .f32) × List (View.Piece (Elt Ideal) S8x128x1024 .f32) × List (View.Piece (Elt Ideal) S8x128x1024 .f32)) : Prop where
  carry : st.1 = (up (sumQ (dsAt A0 B0 K V KA) K n), up (sumR (dsAt A0 B0 K V KA) n), up (sumQ (dsAt A1 B1 K V KA) K n), up (sumR (dsAt A1 B1 K V KA) n))
  dc : a12.read (Elt Ideal) (a12.writes (Elt Ideal) G12 st.2.1) = up5 (afterC C (dsAt A0 B0 K V KA) (dsAt A1 B1 K V KA) n)
  dk : a13.read (Elt Ideal) (a13.writes (Elt Ideal) G13 st.2.2.1) = up3 (afterT D T0 T1 (dsAt A0 B0 K V KA) (dsAt A1 B1 K V KA) n)
  dv : a14.read (Elt Ideal) (a14.writes (Elt Ideal) G14 st.2.2.2) = up3 (afterT E U0 U1 (probAt A0 K KA) (probAt A1 K KA) n)

set_option maxHeartbeats 4000000 in
theorem loop_at (𝒱 : Variants) (c : Dev nD) (bd : Option 𝒱.V) (i : grid0.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S1x2x8x1x1024 .f32) (harg12 : arg12.IsWhole) (arg13 : Memref sig .tc .vmem S8x128x1024 .f32) (harg13 : arg13.IsWhole) (arg14 : Memref sig .tc .vmem S8x128x1024 .f32) (harg14 : arg14.IsWhole) (arg1 : BitVec 32) (v3 : IVec S1024x128 32) (v17 : FVec Ideal S1024x128 .bf16) (v122 : FVec Ideal S1024x1 .bf16) (v129 : FVec Ideal S1024x128 .f32) (v131 : IVec S1024x128 1) (cst_31 : Ideal .f32) (v133 : FVec Ideal S1024x1 .f32) (X_arg3 : BufTy.Contents (Elt Ideal) arg3.view.ty) (X_arg4 : BufTy.Contents (Elt Ideal) arg4.view.ty) (X_arg5 : BufTy.Contents (Elt Ideal) arg5.view.ty)
  (T0 T1 U0 U1 : Fin 128 → Fin 1024 → ℝ) (A0 B0 A1 B1 : Fin 1024 → Fin 256 → ℝ) (K V KA : Fin 8192 → Fin 128 → ℝ)
  (hB1 : k0_pay85 v3 v17 v122 v129 v131 cst_31 v133 = up B1) (hO : k0_pay86 v3 = up ones)
  (h3 : arg3.view.read (Elt Ideal) X_arg3 = up (φ := .bf16) K) (h4 : arg4.view.read (Elt Ideal) X_arg4 = up (φ := .bf16) V) (h5 : arg5.view.read (Elt Ideal) X_arg5 = up (φ := .bf16) KA)
  (G12 : BufTy.Contents (Elt Ideal) arg12.view.ty) (G13 : BufTy.Contents (Elt Ideal) arg13.view.ty) (G14 : BufTy.Contents (Elt Ideal) arg14.view.ty)
  (C : Fin 2 → Fin 8 → Fin 1024 → ℝ) (D E : Fin 8 → Fin 128 → Fin 1024 → ℝ)
  (h12 : arg12.view.read (Elt Ideal) G12 = up5 C)
  (h13 : arg13.view.read (Elt Ideal) G13 = up3 D)
  (h14 : arg14.view.read (Elt Ideal) G14 = up3 E) (hle : (k0_t1_loop i).trips ≤ 8) : ∀ n, n ≤ (k0_t1_loop i).trips →
  LoopAt (arg12.view) (arg13.view) (arg14.view) T0 T1 U0 U1 A0 B0 A1 B1 K V KA G12 G13 G14 C D E n
      (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v3 v17 (up (φ := .bf16) T0) (up (φ := .bf16) T1) (up (φ := .bf16) U0) (up (φ := .bf16) U1) (up (φ := .bf16) A0) (up (φ := .bf16) B0) (up (φ := .bf16) A1) v122 v129 v131 cst_31 v133 X_arg3 X_arg4 X_arg5 G12 G13 G14 (up (φ := .f32) (fun _ _ => 0), up (φ := .f32) (fun _ _ => 0), up (φ := .f32) (fun _ _ => 0), up (φ := .f32) (fun _ _ => 0)) n) := by
  intro n
  induction n with
  | zero =>
    intro _
    exact ⟨by rw [sumQ_zero, sumR_zero, sumQ_zero, sumR_zero]; rfl, by rw [afterC_zero]; exact h12, by rw [afterT_zero]; exact h13, by rw [afterT_zero]; exact h14⟩
  | succ n ih =>
    intro hn
    have ih := ih (Nat.le_of_succ_le hn)
    have hlt : n < 8 := Nat.lt_of_lt_of_le hn hle
    rw [st_k0_t1_succ (k := ⟨n, hn⟩)]
    dsimp only
    generalize st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v3 v17 (up (φ := .bf16) T0) (up (φ := .bf16) T1) (up (φ := .bf16) U0) (up (φ := .bf16) U1) (up (φ := .bf16) A0) (up (φ := .bf16) B0) (up (φ := .bf16) A1) v122 v129 v131 cst_31 v133 X_arg3 X_arg4 X_arg5 G12 G13 G14 (up (φ := .f32) (fun _ _ => 0), up (φ := .f32) (fun _ _ => 0), up (φ := .f32) (fun _ _ => 0), up (φ := .f32) (fun _ _ => 0)) n = s at ih ⊢
    obtain ⟨acc, L12, L13, L14⟩ := s
    obtain ⟨hc, g12, g13, g14⟩ := ih
    dsimp only at hc g12 g13 g14 ⊢
    subst hc
    refine ⟨?_, ?_, ?_, ?_⟩
    · rw [sumQ_succ _ _ ⟨n, hlt⟩, sumR_succ _ ⟨n, hlt⟩, sumQ_succ _ _ ⟨n, hlt⟩, sumR_succ _ ⟨n, hlt⟩]
      exact trip_carry 𝒱 c bd i arg2 harg2 arg3 harg3 arg4 harg4 arg5 harg5 arg6 harg6 arg7 harg7 arg8 harg8 arg9 harg9 arg10 harg10 arg11 harg11 arg12 harg12 arg13 harg13 arg14 harg14 arg1 v3 v17 v122 v129 v131 cst_31 v133 X_arg3 X_arg4 X_arg5 ⟨n, hn⟩ T0 T1 U0 U1 A0 B0 A1 B1 K V KA hB1 hO h3 h4 h5 G12 G13 G14 L12 L13 L14 _ _ _ g12 g13 g14 _ _ _ _ ⟨n, hlt⟩ rfl
    · rw [afterC_succ _ _ C ⟨n, hlt⟩]
      exact trip_dc 𝒱 c bd i arg2 harg2 arg3 harg3 arg4 harg4 arg5 harg5 arg6 harg6 arg7 harg7 arg8 harg8 arg9 harg9 arg10 harg10 arg11 harg11 arg12 harg12 arg13 harg13 arg14 harg14 arg1 v3 v17 v122 v129 v131 cst_31 v133 X_arg3 X_arg4 X_arg5 ⟨n, hn⟩ T0 T1 U0 U1 A0 B0 A1 B1 K V KA hB1 hO h3 h4 h5 G12 G13 G14 L12 L13 L14 _ _ _ g12 g13 g14 _ _ _ _ ⟨n, hlt⟩ rfl
    · rw [afterT_succ _ _ D _ _ ⟨n, hlt⟩]
      exact trip_dk 𝒱 c bd i arg2 harg2 arg3 harg3 arg4 harg4 arg5 harg5 arg6 harg6 arg7 harg7 arg8 harg8 arg9 harg9 arg10 harg10 arg11 harg11 arg12 harg12 arg13 harg13 arg14 harg14 arg1 v3 v17 v122 v129 v131 cst_31 v133 X_arg3 X_arg4 X_arg5 ⟨n, hn⟩ T0 T1 U0 U1 A0 B0 A1 B1 K V KA hB1 hO h3 h4 h5 G12 G13 G14 L12 L13 L14 _ _ _ g12 g13 g14 _ _ _ _ ⟨n, hlt⟩ rfl
    · rw [afterT_succ _ _ E _ _ ⟨n, hlt⟩]
      exact trip_dv 𝒱 c bd i arg2 harg2 arg3 harg3 arg4 harg4 arg5 harg5 arg6 harg6 arg7 harg7 arg8 harg8 arg9 harg9 arg10 harg10 arg11 harg11 arg12 harg12 arg13 harg13 arg14 harg14 arg1 v3 v17 v122 v129 v131 cst_31 v133 X_arg3 X_arg4 X_arg5 ⟨n, hn⟩ T0 T1 U0 U1 A0 B0 A1 B1 K V KA hB1 hO h3 h4 h5 G12 G13 G14 L12 L13 L14 _ _ _ g12 g13 g14 _ _ _ _ ⟨n, hlt⟩ rfl

end Cert.Fox

end
-- ==== Proof.Prep.lean ====
/-
  The values the kernel prepares before its loop, over the reals.
-/
module

public import proofs.«01_k».proof.Proof.Block
public import proofs.«01_k».proof.Proof.Gen.KernelIdeal.Skeleton

@[expose] public section

set_option maxRecDepth 16384

noncomputable section

namespace Cert.Fox

open Idealize.ShloMosaic Idealize.ShloMosaic.TcCoe Cert.KernelIdeal Cert.KernelIdeal.Gen

/-- A mask that depends on the lane alone. -/
def Mask (c : IVec S1024x128 1) (P : Fin 128 → Prop) [DecidablePred P] : Prop := ∀ x l, c (ix2 x l) = if P l then 1#1 else 0#1

theorem select_up {φ : FTy} {c : IVec S1024x128 1} {P : Fin 128 → Prop} [DecidablePred P] (h : Mask c P) (f g : Fin 1024 → Fin 128 → ℝ) :
    select c (up (φ := φ) f) (up (φ := φ) g) = up fun x l => if P l then f x l else g x l := by
  have key : ∀ x l, select c (up (φ := φ) f) (up (φ := φ) g) (ix2 x l) = (((if P l then f x l else g x l : ℝ)) : EReal) := by
    intro x l
    show (if c (ix2 x l) = 1#1 then _ else _) = _
    rw [h x l]
    by_cases hp : P l
    · simp only [hp, if_true]; rfl
    · simp only [hp, if_false]; rfl
  funext y
  exact (congrArg _ (eq_ix2 y)).trans (key _ _)

theorem lane_apply (x : Fin 1024) (l : Fin 128) : (iota .tc S1024x128 32 [1] iota_S1024x128_d1_w32) (ix2 x l) = BitVec.ofNat 32 l.val := by
  pointwise

theorem mask_low : Mask k0_pay57 (fun l => l.val < 64) := by
  intro x l
  show IntOp.cmpi .slt ((iota .tc S1024x128 32 [1] iota_S1024x128_d1_w32) (ix2 x l)) 64#32 = _
  rw [lane_apply]
  revert l
  decide +kernel

theorem mask_at (c : IVec S1024x128 1) (P : Fin 128 → Prop) [DecidablePred P] (g : BitVec 32 → BitVec 1)
    (hc : ∀ x l, c (ix2 x l) = g ((iota .tc S1024x128 32 [1] iota_S1024x128_d1_w32) (ix2 x l))) (h : ∀ l : Fin 128, g (BitVec.ofNat 32 l.val) = if P l then 1#1 else 0#1) : Mask c P := by
  intro x l
  rw [hc, lane_apply]
  exact h l

section
variable {φ : FTy}

theorem castSelf_up {a b : ℕ} (f : Fin a → Fin b → ℝ) (h : (⟨2, ![a, b]⟩ : Shape).ShapeCasts ⟨2, ![a, b]⟩) :
    shapeCast (⟨2, ![a, b]⟩ : Shape) (up (φ := φ) f) h = up f := by
  exact shapeCast_self _ _

theorem bf_zero_up : broadcast S1024x128 (Scalar.ofBits (F := Ideal) .bf16 0x0000#16) = up (φ := .bf16) fun _ _ => 0 := by
  funext i
  show Ideal.ofBits .bf16 0x0000#16 = ((0 : ℝ) : EReal)
  simp [Ideal.ofBits, Ideal.ieee]

theorem bit_zero_up {a b : ℕ} : broadcast (⟨2, ![a, b]⟩ : Shape) (FloatOps.ofBits (F := Ideal) .f32 0x00000000#32) = up (φ := .f32) fun _ _ => 0 := by
  funext i
  exact Ideal.ofBits_zero_f32

theorem one_up {a b : ℕ} : broadcast (⟨2, ![a, b]⟩ : Shape) (Scalar.ofBits (F := Ideal) .f32 0x3F800000#32) = up (φ := .f32) fun _ _ => 1 := by
  funext i
  exact Ideal.ofBits_one_f32

theorem spread_up (r : Fin 1024 → Fin 1 → ℝ) (h : S1024x1.Broadcasts S1024x128) :
    broadcastTo (s := S1024x1) (α := Ideal φ) S1024x128 (up (φ := φ) r) h = up fun x _ => r x 0 := by
  funext i
  idx_vars i
  pointwise
  rfl

theorem turn_up (f : Fin 1024 → Fin 128 → ℝ) (h) :
    transpose (s := S1024x128) (α := Ideal .f32) S128x1024 [1, 0] (up (φ := .f32) f) h = up (flip f) := by
  funext i
  idx_vars i
  pointwise
  rfl

theorem lanesum_up (M : Fin 1024 → Fin 128 → ℝ) (h : S1024x128.Reduces [1] S1024) (hi) (hf) (hc : S1024.ShapeCasts S1024x1) :
    shapeCast (α := Ideal .f32) S1024x1 (multiReduction (F := Ideal) (φ := .f32) .add [1] S1024 (up (φ := .f32) M) 0x00000000#32 h hi hf) hc
      = up (φ := .f32) fun x _ => ∑ l, M x l := by
  funext i
  idx_vars i
  pointwise
  simp only [up_ix, coe_sum]

end

theorem pay58_up (Q : Fin 1024 → Fin 128 → ℝ) : k0_pay58 (up (φ := .bf16) Q) = up (φ := .bf16) Q := by
  unfold k0_pay58
  exact castSelf_up _ _

theorem pay59_up (Q : Fin 1024 → Fin 128 → ℝ) : k0_pay59 (up (φ := .bf16) Q) = up (φ := .bf16) Q := by
  unfold k0_pay59
  exact castSelf_up _ _

theorem pay60_up (LA : Fin 1024 → Fin 128 → ℝ) : k0_pay60 (up (φ := .bf16) LA) = up (φ := .f32) LA := by
  unfold k0_pay60
  simp only
  rw [show shapeCast S1024x128 (up (φ := .bf16) LA) shapeCasts_S1024x128_S1024x128 = up LA from castSelf_up _ _]
  rfl

theorem pay61_up : k0_pay61 (F := Ideal) = up (φ := .bf16) fun _ _ => 0 := by
  unfold k0_pay61
  exact bf_zero_up

theorem half_zero (Q : Fin 1024 → Fin 128 → ℝ) : (fun x l => if l.val < 64 then Q x l else 0) = half 0 Q := by
  funext x l
  simp [half]

theorem half_one (Q : Fin 1024 → Fin 128 → ℝ) : (fun x l => if l.val < 64 then 0 else Q x l) = half 1 Q := by
  funext x l
  by_cases h : l.val < 64 <;> simp [half, h]

theorem pay62_up (Q : Fin 1024 → Fin 128 → ℝ) : k0_pay62 (up (φ := .bf16) Q) = up (φ := .bf16) (half 0 Q) := by
  unfold k0_pay62
  simp only
  rw [pay58_up, pay61_up, ← half_zero]
  exact select_up mask_low _ _

theorem pay63_up (Q : Fin 1024 → Fin 128 → ℝ) : k0_pay63 (up (φ := .bf16) Q) = up (φ := .bf16) (half 1 Q) := by
  unfold k0_pay63
  simp only
  rw [pay58_up, pay61_up, ← half_one]
  exact select_up mask_low _ _

theorem pay64_up (Q : Fin 1024 → Fin 128 → ℝ) : k0_pay64 (up (φ := .bf16) Q) = up (φ := .bf16) (half 0 Q) := by
  unfold k0_pay64
  simp only
  rw [pay59_up, pay61_up, ← half_zero]
  exact select_up mask_low _ _

theorem pay65_up (Q : Fin 1024 → Fin 128 → ℝ) : k0_pay65 (up (φ := .bf16) Q) = up (φ := .bf16) (half 1 Q) := by
  unfold k0_pay65
  simp only
  rw [pay59_up, pay61_up, ← half_one]
  exact select_up mask_low _ _

theorem pay66_up (Q : Fin 1024 → Fin 128 → ℝ) : k0_pay66 (up (φ := .bf16) Q) = up (φ := .bf16) (flip (half 0 Q)) := by
  unfold k0_pay66
  simp only
  rw [pay62_up, extf_up, turn_up, truncf_up]

theorem pay67_up (Q : Fin 1024 → Fin 128 → ℝ) : k0_pay67 (up (φ := .bf16) Q) = up (φ := .bf16) (flip (half 1 Q)) := by
  unfold k0_pay67
  simp only
  rw [pay63_up, extf_up, turn_up, truncf_up]

theorem pay68_up (Q : Fin 1024 → Fin 128 → ℝ) : k0_pay68 (up (φ := .bf16) Q) = up (φ := .bf16) (flip (half 0 Q)) := by
  unfold k0_pay68
  simp only
  rw [pay64_up, extf_up, turn_up, truncf_up]

theorem pay69_up (Q : Fin 1024 → Fin 128 → ℝ) : k0_pay69 (up (φ := .bf16) Q) = up (φ := .bf16) (flip (half 1 Q)) := by
  unfold k0_pay69
  simp only
  rw [pay65_up, extf_up, turn_up, truncf_up]

theorem pay70_up (DO O : Fin 1024 → Fin 128 → ℝ) :
    k0_pay70 (up (φ := .bf16) DO) (up (φ := .bf16) O) = up (φ := .f32) fun x l => DO x l * O x l := by
  unfold k0_pay70
  simp only
  rw [pay59_up, show shapeCast S1024x128 (up (φ := .bf16) O) shapeCasts_S1024x128_S1024x128 = up O from castSelf_up _ _]
  exact mulf_up _ _

theorem pay71_up (DO O : Fin 1024 → Fin 128 → ℝ) :
    k0_pay71 (up (φ := .bf16) DO) (up (φ := .bf16) O) = up (φ := .f32) fun x _ => delta 0 DO O x := by
  have e : select k0_pay57 (k0_pay70 (up (φ := .bf16) DO) (up (φ := .bf16) O)) (broadcast S1024x128 (Scalar.ofBits (F := Ideal) .f32 0x00000000#32))
      = up (φ := .f32) (half 0 fun x l => DO x l * O x l) := by
    rw [pay70_up, show broadcast S1024x128 (Scalar.ofBits (F := Ideal) .f32 0x00000000#32) = up (φ := .f32) fun _ _ => 0 from zero_up, ← half_zero]
    exact select_up mask_low _ _
  unfold k0_pay71
  simp only
  rw [e]
  exact lanesum_up _ _ _ _ _

theorem mask_high : Mask (xori k0_pay57 (constantI S1024x128 1 1#1)) (fun l => ¬ l.val < 64) := by
  intro x l
  show k0_pay57 (ix2 x l) ^^^ 1#1 = _
  rw [mask_low x l]
  by_cases h : l.val < 64 <;> simp [h]

theorem pay77_up (DO O : Fin 1024 → Fin 128 → ℝ) :
    k0_pay77 k0_pay57 (up (φ := .f32) fun x l => DO x l * O x l) = up (φ := .f32) fun x _ => 0 - delta 1 DO O x := by
  have e : select (xori k0_pay57 (constantI S1024x128 1 1#1)) (up (φ := .f32) fun x l => DO x l * O x l) (broadcast S1024x128 (Scalar.ofBits (F := Ideal) .f32 0x00000000#32))
      = up (φ := .f32) (half 1 fun x l => DO x l * O x l) := by
    rw [show broadcast S1024x128 (Scalar.ofBits (F := Ideal) .f32 0x00000000#32) = up (φ := .f32) fun _ _ => 0 from zero_up, ← half_one]
    refine (select_up mask_high _ _).trans (congrArg _ ?_)
    funext x l
    simp only [ite_not]
  unfold k0_pay77
  simp only
  rw [e]
  refine (congrArg₂ _ zero_up (lanesum_up _ _ _ _ _)).trans ?_
  exact subf_up _ _

theorem pay78_up (DO O : Fin 1024 → Fin 128 → ℝ) :
    k0_pay78 k0_pay57 (up (φ := .f32) fun x l => DO x l * O x l) = up (φ := .bf16) fun x _ => 0 - delta 1 DO O x := by
  unfold k0_pay78
  simp only
  rw [pay77_up, truncf_up]

theorem pay79_up (DO O : Fin 1024 → Fin 128 → ℝ) :
    k0_pay79 k0_pay57 (up (φ := .f32) fun x l => DO x l * O x l) = up (φ := .f32) fun _ _ => 0 := by
  unfold k0_pay79
  simp only
  rw [pay77_up, pay78_up, extf_up]
  refine (subf_up _ _).trans ?_
  simp only [sub_self]

theorem pay80_up (DO O : Fin 1024 → Fin 128 → ℝ) :
    k0_pay80 k0_pay57 (up (φ := .f32) fun x l => DO x l * O x l) = up (φ := .bf16) fun _ _ => 0 := by
  unfold k0_pay80
  simp only
  rw [pay79_up, truncf_up]

theorem pay81_up (DO O : Fin 1024 → Fin 128 → ℝ) :
    k0_pay81 k0_pay57 (up (φ := .f32) fun x l => DO x l * O x l) = up (φ := .bf16) fun _ _ => 0 := by
  unfold k0_pay81
  simp only
  rw [pay79_up, pay80_up, extf_up]
  rw [show subf (F := Ideal) (up (φ := .f32) fun (_ : Fin 1024) (_ : Fin 1) => (0 : ℝ)) (up fun _ _ => 0) = up fun _ _ => 0 - 0 from subf_up _ _, truncf_up]
  simp only [sub_self]

theorem pay82_up (DO O : Fin 1024 → Fin 128 → ℝ) :
    k0_pay82 (iota .tc S1024x128 32 [1] iota_S1024x128_d1_w32) k0_pay57 (up (φ := .f32) fun x l => DO x l * O x l)
      = up (φ := .f32) fun x l => if l.val = 3 then 0 - delta 1 DO O x else 0 := by
  have hm : Mask (cmpi .eq (iota .tc S1024x128 32 [1] iota_S1024x128_d1_w32) (broadcast S1024x128 3#32)) (fun l => l.val = 3) :=
    mask_at _ _ (fun b => IntOp.cmpi .eq b 3#32) (fun _ _ => rfl) (by decide +kernel)
  unfold k0_pay82
  simp only
  rw [pay78_up, extf_up, castSelf_up, spread_up, show broadcast S1024x128 (Scalar.ofBits (F := Ideal) .f32 0x00000000#32) = up (φ := .f32) fun _ _ => 0 from zero_up]
  exact select_up hm _ _

theorem pay84_up (DO O : Fin 1024 → Fin 128 → ℝ) :
    k0_pay84 k0_pay57 (up (φ := .f32) fun x l => DO x l * O x l) = up (φ := .f32) fun _ _ => 0 := by
  unfold k0_pay84
  simp only
  rw [pay80_up, extf_up]
  exact castSelf_up _ _

theorem pay85_up (DO : Fin 1024 → Fin 128 → ℝ) (d : Fin 1024 → ℝ) :
    k0_pay85 (F := Ideal) (iota .tc S1024x128 32 [1] iota_S1024x128_d1_w32) (up (φ := .bf16) (half 1 DO)) (up (φ := .bf16) fun _ _ => 0) (up (φ := .f32) fun x l => if l.val = 3 then 0 - d x else 0)
      (k0_pay83 (iota .tc S1024x128 32 [1] iota_S1024x128_d1_w32)) (FloatOps.ofBits .f32 0#32) (up (φ := .f32) fun _ _ => 0) = up (φ := .bf16) (beside (half 1 DO) (daux 1 d)) := by
  have hm4 : Mask (k0_pay83 (iota .tc S1024x128 32 [1] iota_S1024x128_d1_w32)) (fun l => l.val = 4) :=
    mask_at _ _ (fun b => IntOp.cmpi .eq b 4#32) (fun _ _ => rfl) (by decide +kernel)
  have hm5 : Mask (cmpi .eq (iota .tc S1024x128 32 [1] iota_S1024x128_d1_w32) (broadcast S1024x128 5#32)) (fun l => l.val = 5) :=
    mask_at _ _ (fun b => IntOp.cmpi .eq b 5#32) (fun _ _ => rfl) (by decide +kernel)
  unfold k0_pay85
  simp only
  refine concat_of _ _ rfl ?_ _
  rw [extf_up, castSelf_up, spread_up, show broadcast S1024x128 (Scalar.ofBits (F := Ideal) .f32 0x00000000#32) = up (φ := .f32) fun _ _ => 0 from zero_up]
  rw [select_up hm5, select_up hm4, addf_up, addf_up, truncf_up]
  simp only [ite_self, add_zero]
  congr 1
  funext x l
  simp [daux]

theorem pay86_up : k0_pay86 (F := Ideal) (iota .tc S1024x128 32 [1] iota_S1024x128_d1_w32) = up (φ := .bf16) ones := by
  have hm : Mask (cmpi .slt (iota .tc S1024x128 32 [1] iota_S1024x128_d1_w32) (broadcast S1024x128 6#32)) (fun l => l.val < 6) :=
    mask_at _ _ (fun b => IntOp.cmpi .slt b 6#32) (fun _ _ => rfl) (by decide +kernel)
  unfold k0_pay86
  simp only
  rw [show broadcast S1024x128 (Scalar.ofBits (F := Ideal) .f32 0x00000000#32) = up (φ := .f32) fun _ _ => 0 from zero_up,
    show broadcast S1024x128 (Scalar.ofBits (F := Ideal) .f32 0x3F800000#32) = up (φ := .f32) fun _ _ => 1 from one_up, select_up hm, truncf_up]
  rfl

theorem pay73_up (LA Q : Fin 1024 → Fin 128 → ℝ) :
    k0_pay73 (F := Ideal) (iota .tc S1024x128 32 [1] iota_S1024x128_d1_w32) (up (φ := .f32) LA) (up (φ := .bf16) (half 0 Q)) k0_pay72 3#32 = up (φ := .bf16) (qext 0 Q LA) := by
  have hm1 : Mask (andi k0_pay72 (cmpi .slt (iota .tc S1024x128 32 [1] iota_S1024x128_d1_w32) (broadcast S1024x128 3#32))) (fun l => 3 * (0 : Fin 2).val ≤ l.val ∧ l.val < 3 * (0 : Fin 2).val + 3) :=
    mask_at _ _ (fun b => IntOp.cmpi .sge b 0#32 &&& IntOp.cmpi .slt b 3#32) (fun _ _ => rfl) (by decide +kernel)
  have hm2 : Mask (andi (cmpi .sge (iota .tc S1024x128 32 [1] iota_S1024x128_d1_w32) (broadcast S1024x128 6#32)) (cmpi .slt (iota .tc S1024x128 32 [1] iota_S1024x128_d1_w32) (broadcast S1024x128 9#32)))
      (fun l => 6 + 3 * (0 : Fin 2).val ≤ l.val ∧ l.val < 9 + 3 * (0 : Fin 2).val) :=
    mask_at _ _ (fun b => IntOp.cmpi .sge b 6#32 &&& IntOp.cmpi .slt b 9#32) (fun _ _ => rfl) (by decide +kernel)
  unfold k0_pay73
  simp only
  refine concat_of _ _ rfl ?_ _
  rw [show broadcast S1024x128 (Scalar.ofBits (F := Ideal) .f32 0x00000000#32) = up (φ := .f32) fun _ _ => 0 from zero_up,
    show broadcast S1024x128 (Scalar.ofBits (F := Ideal) .f32 0x3F800000#32) = up (φ := .f32) fun _ _ => 1 from one_up, select_up hm1, select_up hm2, addf_up, truncf_up]
  rfl

theorem pay76_up (LA Q : Fin 1024 → Fin 128 → ℝ) :
    k0_pay76 (F := Ideal) (iota .tc S1024x128 32 [1] iota_S1024x128_d1_w32) (up (φ := .f32) LA) (up (φ := .bf16) (half 1 Q)) = up (φ := .bf16) (qext 1 Q LA) := by
  have hm1 : Mask (andi (cmpi .sge (iota .tc S1024x128 32 [1] iota_S1024x128_d1_w32) (broadcast S1024x128 3#32)) (cmpi .slt (iota .tc S1024x128 32 [1] iota_S1024x128_d1_w32) (broadcast S1024x128 6#32)))
      (fun l => 3 * (1 : Fin 2).val ≤ l.val ∧ l.val < 3 * (1 : Fin 2).val + 3) :=
    mask_at _ _ (fun b => IntOp.cmpi .sge b 3#32 &&& IntOp.cmpi .slt b 6#32) (fun _ _ => rfl) (by decide +kernel)
  have hm2 : Mask (andi (cmpi .sge (iota .tc S1024x128 32 [1] iota_S1024x128_d1_w32) (broadcast S1024x128 9#32)) (cmpi .slt (iota .tc S1024x128 32 [1] iota_S1024x128_d1_w32) (broadcast S1024x128 12#32)))
      (fun l => 6 + 3 * (1 : Fin 2).val ≤ l.val ∧ l.val < 9 + 3 * (1 : Fin 2).val) :=
    mask_at _ _ (fun b => IntOp.cmpi .sge b 9#32 &&& IntOp.cmpi .slt b 12#32) (fun _ _ => rfl) (by decide +kernel)
  unfold k0_pay76
  simp only
  refine concat_of _ _ rfl ?_ _
  rw [show broadcast S1024x128 (Scalar.ofBits (F := Ideal) .f32 0x00000000#32) = up (φ := .f32) fun _ _ => 0 from zero_up,
    show broadcast S1024x128 (Scalar.ofBits (F := Ideal) .f32 0x3F800000#32) = up (φ := .f32) fun _ _ => 1 from one_up, select_up hm1, select_up hm2, addf_up, truncf_up]
  rfl

theorem pay74_up (d : Fin 1024 → ℝ) : k0_pay74 (F := Ideal) (iota .tc S1024x128 32 [1] iota_S1024x128_d1_w32) (up (φ := .f32) fun x _ => d x) = up (φ := .f32) (daux 0 d) := by
  have hm0 : Mask (cmpi .eq (iota .tc S1024x128 32 [1] iota_S1024x128_d1_w32) (broadcast S1024x128 0#32)) (fun l => l.val = 0) :=
    mask_at _ _ (fun b => IntOp.cmpi .eq b 0#32) (fun _ _ => rfl) (by decide +kernel)
  have hm1 : Mask (cmpi .eq (iota .tc S1024x128 32 [1] iota_S1024x128_d1_w32) (broadcast S1024x128 1#32)) (fun l => l.val = 1) :=
    mask_at _ _ (fun b => IntOp.cmpi .eq b 1#32) (fun _ _ => rfl) (by decide +kernel)
  have hm2 : Mask (cmpi .eq (iota .tc S1024x128 32 [1] iota_S1024x128_d1_w32) (broadcast S1024x128 2#32)) (fun l => l.val = 2) :=
    mask_at _ _ (fun b => IntOp.cmpi .eq b 2#32) (fun _ _ => rfl) (by decide +kernel)
  unfold k0_pay74
  simp only
  rw [show broadcast S1024x128 (Scalar.ofBits (F := Ideal) .f32 0x00000000#32) = up (φ := .f32) fun _ _ => 0 from zero_up,
    show broadcast S1024x1 (Scalar.ofBits (F := Ideal) .f32 0x00000000#32) = up (φ := .f32) fun _ _ => 0 from zero_up]
  simp only [subf_up, extf_up, truncf_up, castSelf_up, spread_up, select_up hm0, select_up hm1, select_up hm2, addf_up, sub_self, sub_zero, ite_self, add_zero]
  congr 1
  funext x l
  simp [daux]

theorem pay75_up (DO O : Fin 1024 → Fin 128 → ℝ) :
    k0_pay75 (F := Ideal) (up (φ := .bf16) (half 0 DO)) (up (φ := .f32) (daux 0 (delta 0 DO O))) = up (φ := .bf16) (doext 0 DO O) := by
  unfold k0_pay75
  simp only
  exact concat_of _ _ rfl rfl _

end Cert.Fox

end
-- ==== Proof.Diag.lean ====
/-
  The kernel's step on the block of the diagonal, over the reals.
-/
module

public import proofs.«01_k».proof.Proof.Prep

@[expose] public section

set_option maxRecDepth 16384

noncomputable section

namespace Cert.Fox

open Idealize.ShloMosaic Idealize.ShloMosaic.TcCoe Cert.KernelIdeal Cert.KernelIdeal.Gen

theorem mask_below (x s : Fin 1024) : k0_pay87 (ix2 x s) = if s.val ≤ x.val then 1#1 else 0#1 := by
  have e0 : iota .tc S1024x1024 32 [0] iota_S1024x1024_d0_w32 (ix2 x s) = BitVec.ofNat 32 x.val := by pointwise
  have e1 : iota .tc S1024x1024 32 [1] iota_S1024x1024_d1_w32 (ix2 x s) = BitVec.ofNat 32 s.val := by pointwise
  show IntOp.cmpi .sge (iota .tc S1024x1024 32 [0] iota_S1024x1024_d0_w32 (ix2 x s)) (iota .tc S1024x1024 32 [1] iota_S1024x1024_d1_w32 (ix2 x s)) = _
  rw [e0, e1]
  have hx : (BitVec.ofNat 32 x.val).toInt = (x.val : ℤ) := by
    rw [BitVec.toInt_eq_toNat_of_lt] <;> simp [BitVec.toNat_ofNat] <;> omega
  have hs : (BitVec.ofNat 32 s.val).toInt = (s.val : ℤ) := by
    rw [BitVec.toInt_eq_toNat_of_lt] <;> simp [BitVec.toNat_ofNat] <;> omega
  show BitVec.ofBool ((BitVec.ofNat 32 s.val).sle (BitVec.ofNat 32 x.val)) = _
  unfold BitVec.sle
  rw [hx, hs]
  by_cases h : s.val ≤ x.val
  · simp [h]
  · simp [h]

theorem mask_bot : Named.named (F := Ideal) (φ := .f32) Cert.KernelIdeal.κ "mask" 0xF149F2CA#32 = (⊥ : EReal) :=
  IdealRules.named_const.ideal_named_scalar _ _ _ _ rfl

theorem causal_up (M : Fin 1024 → Fin 1024 → ℝ) :
    exp (F := Ideal) (select k0_pay87 (up (φ := .f32) M) (broadcast S1024x1024 (Named.named (F := Ideal) (φ := .f32) Cert.KernelIdeal.κ "mask" 0xF149F2CA#32)))
      = up (φ := .f32) (causal fun x s => Real.exp (M x s)) := by
  have key : ∀ x s, exp (F := Ideal) (select k0_pay87 (up (φ := .f32) M) (broadcast S1024x1024 (Named.named (F := Ideal) (φ := .f32) Cert.KernelIdeal.κ "mask" 0xF149F2CA#32))) (ix2 x s)
      = ((causal (fun x s => Real.exp (M x s)) x s : ℝ) : EReal) := by
    intro x s
    show Ideal.exp (if k0_pay87 (ix2 x s) = 1#1 then ((M x s : ℝ) : EReal) else Named.named (F := Ideal) (φ := .f32) Cert.KernelIdeal.κ "mask" 0xF149F2CA#32) = _
    rw [mask_below, mask_bot]
    by_cases h : s.val ≤ x.val
    · simp only [h, if_true, causal]; rfl
    · simp only [h, if_false, causal]; exact Ideal.exp_bot
  funext y
  exact (congrArg _ (eq_ix2 y)).trans (key _ _)

/-- The weights of the block of the diagonal. -/
def probD (A : Fin 1024 → Fin 256 → ℝ) (K KA : Fin 8192 → Fin 128 → ℝ) (j : Fin 8) : Fin 1024 → Fin 1024 → ℝ :=
  causal (prob A (keysAt K KA j))

/-- The gradient of the scores of the block of the diagonal. -/
def dsD (A B : Fin 1024 → Fin 256 → ℝ) (K V KA : Fin 8192 → Fin 128 → ℝ) (j : Fin 8) : Fin 1024 → Fin 1024 → ℝ :=
  ds (probD A K KA j) B (valsAt V j)

section
variable (A B : Fin 1024 → Fin 256 → ℝ) (K V KA : Fin 8192 → Fin 128 → ℝ) (j : Fin 8) {v177 : Vec Ideal S1024x128 .bf16}
  (h5 : shapeCast S1024x128 v177 shapeCasts_S1024x128_S1024x128 = up (φ := .bf16) (rows KA j))

include h5

theorem pay96_up : k0_pay96 (F := Ideal) (up (φ := .bf16) (rows K j)) v177 = up (φ := .bf16) (keysAt K KA j) := by
  unfold k0_pay96
  exact concat_of _ _ rfl h5 _

omit h5 in
theorem pay97_up : k0_pay97 (F := Ideal) (up (φ := .bf16) ones) (up (φ := .bf16) (rows V j)) = up (φ := .bf16) (valsAt V j) := by
  unfold k0_pay97
  exact concat_of _ _ rfl rfl _

theorem pay98_up : k0_pay98 (F := Ideal) (up (φ := .bf16) A) k0_pay87 (up (φ := .bf16) (rows K j)) v177 = up (φ := .f32) (probD A K KA j) := by
  unfold k0_pay98
  simp only
  rw [pay96_up K KA j h5, matmul_nt]
  exact causal_up _

theorem pay105_up : k0_pay105 (F := Ideal) (up (φ := .bf16) A) k0_pay87 (up (φ := .bf16) (rows K j)) v177 = up (φ := .f32) (probD A K KA j) := by
  unfold k0_pay105
  simp only
  rw [pay96_up K KA j h5, matmul_nt]
  exact causal_up _

theorem pay99_up : k0_pay99 (F := Ideal) (up (φ := .bf16) A) (up (φ := .bf16) B) (up (φ := .bf16) ones) k0_pay87 (up (φ := .bf16) (rows K j)) (up (φ := .bf16) (rows V j)) v177
    = up (φ := .f32) (dsD A B K V KA j) := by
  unfold k0_pay99
  simp only
  rw [pay98_up A K KA j h5, pay97_up, matmul_nt]
  exact mulf_up _ _

theorem pay106_up : k0_pay106 (F := Ideal) (up (φ := .bf16) A) (up (φ := .bf16) B) (up (φ := .bf16) ones) k0_pay87 (up (φ := .bf16) (rows K j)) (up (φ := .bf16) (rows V j)) v177
    = up (φ := .f32) (dsD A B K V KA j) := by
  unfold k0_pay106
  simp only
  rw [pay105_up A K KA j h5, pay97_up, matmul_nt]
  exact mulf_up _ _

theorem pay107_up : k0_pay107 (F := Ideal) (up (φ := .bf16) A) (up (φ := .bf16) B) (up (φ := .bf16) ones) k0_pay87 (up (φ := .bf16) (rows K j)) (up (φ := .bf16) (rows V j)) v177
    = up (φ := .bf16) (dsD A B K V KA j) := by
  unfold k0_pay107
  simp only
  rw [pay106_up A B K V KA j h5, truncf_up]

theorem pay100_up (T : Fin 128 → Fin 1024 → ℝ) :
    k0_pay100 (F := Ideal) (up (φ := .bf16) T) (up (φ := .bf16) A) (up (φ := .bf16) B) (up (φ := .bf16) ones) k0_pay87 (up (φ := .bf16) (rows K j)) (up (φ := .bf16) (rows V j)) v177
      = up (φ := .f32) fun y s => ∑ x, T y x * dsD A B K V KA j x s := by
  unfold k0_pay100
  simp only
  rw [pay99_up A B K V KA j h5, truncf_up]
  exact matmul_t _ _

theorem pay101_up (T : Fin 128 → Fin 1024 → ℝ) :
    k0_pay101 (F := Ideal) (up (φ := .bf16) T) (up (φ := .bf16) A) k0_pay87 (up (φ := .bf16) (rows K j)) v177
      = up (φ := .f32) fun y s => ∑ x, T y x * probD A K KA j x s := by
  unfold k0_pay101
  simp only
  rw [pay98_up A K KA j h5, truncf_up]
  exact matmul_t _ _

theorem pay102_up (r : Fin 1024 → ℝ) {v192 : Vec Ideal S1x1x1x1x1024 .f32}
    (hr : shapeCast S1x1024 v192 shapeCasts_S1x1x1x1x1024_S1x1024 = up (φ := .f32) fun _ s => r s) (s : Fin 1024) :
    k0_pay102 (F := Ideal) (up (φ := .bf16) A) (up (φ := .bf16) B) (up (φ := .bf16) ones) k0_pay87 (up (φ := .bf16) (rows K j)) (up (φ := .bf16) (rows V j)) v177 v192 (ix5 0 0 0 0 s)
      = ((subC r (dsD A B K V KA j) s : ℝ) : EReal) := by
  unfold k0_pay102
  simp only
  rw [pay99_up A B K V KA j h5, hr]
  exact castDc_of (addDc_up _ _ _ _ _ _) _ s

theorem pay103_up (q : Fin 1024 → Fin 128 → ℝ) :
    k0_pay103 (F := Ideal) (up (φ := .bf16) A) (up (φ := .bf16) B) (up (φ := .bf16) ones) k0_pay87 (up (φ := .f32) q) (up (φ := .bf16) (rows K j)) (up (φ := .bf16) (rows V j)) v177
      = up (φ := .f32) (addQ q (dsD A B K V KA j) (rows K j)) := by
  unfold k0_pay103
  simp only
  rw [pay99_up A B K V KA j h5, truncf_up, matmul_q]
  exact addf_up _ _

theorem pay104_up (r : Fin 1024 → Fin 1 → ℝ) :
    k0_pay104 (F := Ideal) (up (φ := .bf16) A) (up (φ := .bf16) B) (up (φ := .bf16) ones) k0_pay87 (up (φ := .f32) r) (up (φ := .bf16) (rows K j)) (up (φ := .bf16) (rows V j)) v177
      = up (φ := .f32) (addR r (dsD A B K V KA j)) := by
  unfold k0_pay104
  simp only
  rw [pay99_up A B K V KA j h5]
  exact (congrArg (addf (up r)) (rowsum_up _ _ _ _ _)).trans (addf_up _ _)

end

theorem pay108_up (M : Fin 1024 → Fin 1024 → ℝ) (r : Fin 1024 → ℝ) {v222 : Vec Ideal S1x1x1x1x1024 .f32}
    (hr : shapeCast S1x1024 v222 shapeCasts_S1x1x1x1x1024_S1x1024 = up (φ := .f32) fun _ s => r s) (s : Fin 1024) :
    k0_pay108 (F := Ideal) (up (φ := .f32) M) v222 (ix5 0 0 0 0 s) = ((subC r M s : ℝ) : EReal) := by
  unfold k0_pay108
  simp only
  rw [hr]
  exact castDc_of (addDc_up _ _ _ _ _ _) _ s

theorem pay109_up (q : Fin 1024 → Fin 128 → ℝ) (k : Fin 1024 → Fin 128 → ℝ) (M : Fin 1024 → Fin 1024 → ℝ) :
    k0_pay109 (F := Ideal) (up (φ := .f32) q) (up (φ := .bf16) k) (up (φ := .f32) M) = up (φ := .f32) (addQ q M k) := by
  unfold k0_pay109
  simp only
  rw [truncf_up, matmul_q]
  exact addf_up _ _

theorem pay110_up (r : Fin 1024 → Fin 1 → ℝ) (M : Fin 1024 → Fin 1024 → ℝ) :
    k0_pay110 (F := Ideal) (up (φ := .f32) r) (up (φ := .f32) M) = up (φ := .f32) (addR r M) := by
  unfold k0_pay110
  exact (congrArg (addf (up r)) (rowsum_up _ _ _ _ _)).trans (addf_up _ _)

theorem pay111_up (T0 T1 : Fin 128 → Fin 1024 → ℝ) (M0 M1 : Fin 1024 → Fin 1024 → ℝ) (D : Fin 128 → Fin 1024 → ℝ) {v240 : Vec Ideal S1x128x1024 .f32}
    (hD : shapeCast S128x1024 v240 shapeCasts_S1x128x1024_S128x1024 = up (φ := .f32) D) (x : Fin 128) (y : Fin 1024) :
    k0_pay111 (F := Ideal) (up (φ := .bf16) T1) (up (φ := .f32) fun y s => ∑ x, T0 y x * M0 x s) (up (φ := .bf16) M1) v240 (ix3 0 x y)
      = ((addT D T0 T1 M0 M1 x y : ℝ) : EReal) := by
  unfold k0_pay111
  rw [hD, matmul_t, addf_up, addf_up]
  exact castSlot_apply _ _ x y

theorem pay112_up (T0 T1 : Fin 128 → Fin 1024 → ℝ) (M0 M1 : Fin 1024 → Fin 1024 → ℝ) (D : Fin 128 → Fin 1024 → ℝ) {v248 : Vec Ideal S1x128x1024 .f32}
    (hD : shapeCast S128x1024 v248 shapeCasts_S1x128x1024_S128x1024 = up (φ := .f32) D) :
    k0_pay112 (F := Ideal) (up (φ := .bf16) T1) (up (φ := .f32) fun y s => ∑ x, T0 y x * M0 x s) (up (φ := .f32) M1) v248
      = up (φ := .f32) (addT D T0 T1 M0 M1) := by
  unfold k0_pay112
  simp only
  rw [hD, truncf_up, matmul_t, addf_up, addf_up]
  rfl

theorem pay113_up (D : Fin 128 → Fin 1024 → ℝ) (x : Fin 128) (y : Fin 1024) : k0_pay113 (F := Ideal) (up (φ := .f32) D) (ix3 0 x y) = ((D x y : ℝ) : EReal) := by
  unfold k0_pay113
  exact castSlot_apply _ _ x y

theorem turnRow_up (r : Fin 1024 → Fin 1 → ℝ) (h) (h') (h'') :
    extractStridedSlice (α := Ideal .f32) S1x1024 ![0, 0] (transpose (α := Ideal .f32) S128x1024 [1, 0] (broadcastTo (s := S1024x1) (α := Ideal .f32) S1024x128 (up (φ := .f32) r) h) h') h''
      = up (φ := .f32) fun _ s => r s 0 := by
  rw [spread_up, turn_up]
  funext i
  idx_vars i
  pointwise
  rfl

theorem pay114_up (r : Fin 1024 → Fin 1 → ℝ) (C : Fin 1024 → ℝ) {v256 : Vec Ideal S1x1x1x1x1024 .f32}
    (hr : shapeCast S1x1024 v256 shapeCasts_S1x1x1x1x1024_S1x1024 = up (φ := .f32) fun _ s => C s) (s : Fin 1024) :
    k0_pay114 (F := Ideal) (up (φ := .f32) r) v256 (ix5 0 0 0 0 s) = ((C s + r s 0 : ℝ) : EReal) := by
  unfold k0_pay114
  simp only
  rw [hr, castSelf_up]
  exact castDc_of ((congrArg _ (turnRow_up _ _ _ _)).trans (addf_up _ _)) _ s

theorem pay115_up (r : Fin 1024 → Fin 1 → ℝ) (C : Fin 1024 → ℝ) {v256 : Vec Ideal S1x1x1x1x1024 .f32}
    (hr : shapeCast S1x1024 v256 shapeCasts_S1x1x1x1x1024_S1x1024 = up (φ := .f32) fun _ s => C s) (s : Fin 1024) :
    k0_pay115 (F := Ideal) (up (φ := .f32) r) v256 (ix5 0 0 0 0 s) = ((C s + r s 0 : ℝ) : EReal) := by
  unfold k0_pay115
  simp only
  rw [hr, castSelf_up]
  exact castDc_of ((congrArg _ (turnRow_up _ _ _ _)).trans (addf_up _ _)) _ s

theorem eighth : Ideal.ofBits .f32 0x3E000000#32 = ((1 / 8 : ℝ) : EReal) := by
  simp [Ideal.ofBits, Ideal.ieee]
  rw [← EReal.coe_mul]
  norm_num

theorem pay116_up (q0 q1 : Fin 1024 → Fin 128 → ℝ) :
    k0_pay116 (F := Ideal) k0_pay57 (up (φ := .f32) q0) (up (φ := .f32) q1) = up (φ := .bf16) fun x l => (if l.val < 64 then q0 x l else q1 x l) * (1 / 8) := by
  have e : broadcast S1024x128 (Scalar.ofBits (F := Ideal) .f32 0x3E000000#32) = up (φ := .f32) fun _ _ => (1 / 8 : ℝ) := by
    funext i
    exact eighth
  unfold k0_pay116
  simp only
  rw [e, select_up mask_low, mulf_up, truncf_up]

/-- The slots of a transposed gradient after a block of queries. -/
def stepT (D : Fin 8 → Fin 128 → Fin 1024 → ℝ) (T0 T1 : Fin 128 → Fin 1024 → ℝ) (M0 M1 : Fin 8 → Fin 1024 → Fin 1024 → ℝ)
    (W0 W1 : Fin 1024 → Fin 1024 → ℝ) (j : Fin 8) : Fin 8 → Fin 128 → Fin 1024 → ℝ :=
  Function.update (afterT D T0 T1 M0 M1 j.val) j (addT (afterT D T0 T1 M0 M1 j.val j) T0 T1 W0 W1)

/-- The slots of the decay gradients with the column sums of a block of queries taken off. -/
def stepS (C : Fin 2 → Fin 8 → Fin 1024 → ℝ) (M0 M1 : Fin 8 → Fin 1024 → Fin 1024 → ℝ) (W0 W1 : Fin 1024 → Fin 1024 → ℝ) (j : Fin 8) :
    Fin 2 → Fin 8 → Fin 1024 → ℝ :=
  putDc (putDc (afterC C M0 M1 j.val) 0 j (subC (afterC C M0 M1 j.val 0 j) W0)) 1 j (subC (putDc (afterC C M0 M1 j.val) 0 j (subC (afterC C M0 M1 j.val 0 j) W0) 1 j) W1)

/-- The slots of the decay gradients after a block of queries. -/
def stepC (C : Fin 2 → Fin 8 → Fin 1024 → ℝ) (M0 M1 : Fin 8 → Fin 1024 → Fin 1024 → ℝ) (W0 W1 : Fin 1024 → Fin 1024 → ℝ) (j : Fin 8) :
    Fin 2 → Fin 8 → Fin 1024 → ℝ :=
  putDc (putDc (stepS C M0 M1 W0 W1 j) 0 j (fun s => stepS C M0 M1 W0 W1 j 0 j s + addR (sumR M0 j.val) W0 s 0)) 1 j
    (fun s => putDc (stepS C M0 M1 W0 W1 j) 0 j (fun s => stepS C M0 M1 W0 W1 j 0 j s + addR (sumR M0 j.val) W0 s 0) 1 j s + addR (sumR M1 j.val) W1 s 0)

/-- The query gradient of a block of queries. -/
def stepQ (M0 M1 : Fin 8 → Fin 1024 → Fin 1024 → ℝ) (W0 W1 : Fin 1024 → Fin 1024 → ℝ) (K : Fin 8192 → Fin 128 → ℝ) (j : Fin 8) :
    Fin 1024 → Fin 128 → ℝ := fun x l =>
  (if l.val < 64 then addQ (sumQ M0 K j.val) W0 (rows K j) x l else addQ (sumQ M1 K j.val) W1 (rows K j) x l) * (1 / 8)

end Cert.Fox

end
-- ==== Proof.Case.lean ====
/-
  What the three cases of the kernel's body share.
-/
module

public import Idealize.ShloMosaic.Lib.WholeRead
public import proofs.«01_k».proof.Proof.Loop
public import proofs.«01_k».proof.Proof.Diag
public import proofs.«01_k».proof.Proof.Gen.KernelIdeal.Frame

@[expose] public section

set_option maxRecDepth 16384

noncomputable section

namespace Cert.Fox

open Idealize.ShloMosaic Idealize.ShloMosaic.TcCoe Cert.KernelIdeal Cert.KernelIdeal.Gen

theorem load_whole {κ : Kind} {sp : Space} {m : Memref sig κ sp S1024x128 .bf16} (h : m.IsWhole) (X : Vec Ideal S1024x128 .bf16) (inb) :
    m.view.readAt (Elt Ideal) (Rect.unit (s := S1024x128) ![0, 0] ![1024, 128] inb).toLoadRect (h.unread X) = X := by
  funext y
  refine (h.readAt_unread X _ y).trans (congrArg X ?_)
  funext d
  refine Fin.ext ?_
  revert d
  show ∀ d : Fin 2, _
  intro d
  fin_cases d <;> simp [LoadRect.idx, Rect.toLoadRect, Rect.unit]

theorem trips_one (i : grid0.Coords) : Scf.trips (0#32) (Scalar.addi (0#32) (Scalar.muli (Scalar.divsi (Scalar.subi (BitVec.ofNat 32 (i 1).val) 0#32) 1#32) 1#32)) 1#32 = (i 1).val := by
  have h : ∀ n : Fin 8, Scf.trips (0#32) (Scalar.addi (0#32) (Scalar.muli (Scalar.divsi (Scalar.subi (BitVec.ofNat 32 n.val) 0#32) 1#32) 1#32)) 1#32 = n.val := by decide +kernel
  exact h (i 1)

theorem trips_two (i : grid0.Coords) : Scf.trips (Scalar.addi (0#32) (Scalar.muli (Scalar.divsi (Scalar.subi (BitVec.ofNat 32 (i 1).val) 0#32) 1#32) 1#32)) (Scalar.addi (0#32) (Scalar.subi (BitVec.ofNat 32 (i 1).val) 0#32)) 1#32 = 0 := by
  have h : ∀ n : Fin 8, Scf.trips (Scalar.addi (0#32) (Scalar.muli (Scalar.divsi (Scalar.subi (BitVec.ofNat 32 n.val) 0#32) 1#32) 1#32)) (Scalar.addi (0#32) (Scalar.subi (BitVec.ofNat 32 n.val) 0#32)) 1#32 = 0 := by decide +kernel
  exact h (i 1)

theorem trips_eq (i : grid0.Coords) : (k0_t1_loop i).trips = (i 1).val := trips_one i

theorem trips_le (i : grid0.Coords) : (k0_t1_loop i).trips ≤ 8 := by
  rw [trips_eq]
  exact Nat.le_of_lt (i 1).isLt

theorem pay88_up : k0_pay88 (F := Ideal) = up (φ := .f32) fun _ _ => 0 := by unfold k0_pay88; exact zero_up

theorem pay89_up : k0_pay89 (F := Ideal) = up (φ := .f32) fun _ _ => 0 := by unfold k0_pay89; exact zero_up

theorem pay90_up : k0_pay90 (F := Ideal) = up (φ := .f32) fun _ _ => 0 := by unfold k0_pay90; exact zero_up

theorem pay91_up : k0_pay91 (F := Ideal) = up (φ := .f32) fun _ _ => 0 := by unfold k0_pay91; exact zero_up

theorem store_whole {κ : Kind} {sp : Space} (v : View sig κ sp S1024x128 .bf16) (f : BufTy.Contents (Elt Ideal) v.ty)
    (inb) (w : (Rect.unit (s := S1024x128) ![0, 0] ![1024, 128] inb).shape.Idx → Elt Ideal .bf16) (L : List (View.Piece (Elt Ideal) S1024x128 .bf16)) :
    v.read (Elt Ideal) (v.writes (Elt Ideal) f ((⟨Rect.unit (s := S1024x128) ![0, 0] ![1024, 128] inb, w⟩ : View.Piece (Elt Ideal) S1024x128 .bf16) :: L)) = w := by
  funext y
  refine View.read_writes_cons_unit_of_mem v f inb w L y y rfl ?_
  intro a
  match a with
  | ⟨0, _⟩ => show (y 0).val = 0 + (y 0).val; omega
  | ⟨1, _⟩ => show (y 1).val = 0 + (y 1).val; omega

theorem cov_second {κ : Kind} {sp : Space} {s : Shape} {e : EltTy} (v : View sig κ sp s e) (f : BufTy.Contents (Elt Ideal) v.ty)
    (p : View.Piece (Elt Ideal) s e) (r : Rect s) (w : r.shape.Idx → Elt Ideal e) (L : List (View.Piece (Elt Ideal) s e)) :
    v.readCov (p :: ⟨r, w⟩ :: L) r.toLoadRect = v.readAt (Elt Ideal) r.toLoadRect (v.writes (Elt Ideal) f (p :: ⟨r, w⟩ :: L)) :=
  (View.readAt_writes_of_cover v f _ _ fun y => ⟨⟨r, w⟩, List.mem_cons_of_mem _ List.mem_cons_self, r.toLoadRect.idx_mem y⟩).symm

end Cert.Fox

end
-- ==== Proof.Slots.lean ====
/-
  The eight slots of an accumulator written out as eight blocks of rows, each slot turned.
-/
module

public import proofs.«01_k».proof.Proof.Case

@[expose] public section

noncomputable section

namespace Cert.Fox

open Idealize.ShloMosaic Idealize.ShloMosaic.TcCoe Cert.KernelIdeal Cert.KernelIdeal.Gen

/-- The rows of eight turned slots. -/
def slots (S : Fin 8 → Fin 128 → Fin 1024 → ℝ) : Fin 8192 → Fin 128 → ℝ := fun r l =>
  S ⟨r.val / 1024, by have := r.isLt; omega⟩ l ⟨r.val % 1024, by omega⟩

theorem rows_slots (S : Fin 8 → Fin 128 → Fin 1024 → ℝ) (j : Fin 8) : rows (slots S) j = fun x l => S j l x := by
  funext x l
  have hj := j.isLt
  have hx := x.isLt
  unfold rows slots row
  have h1 : (1024 * j.val + x.val) / 1024 = j.val := by omega
  have h2 : (1024 * j.val + x.val) % 1024 = x.val := by omega
  exact congrArg₂ (fun a b => S a l b) (Fin.ext h1) (Fin.ext h2)

theorem unturn_up (M : Fin 128 → Fin 1024 → ℝ) (h) :
    transpose (s := S128x1024) (α := Ideal .f32) S1024x128 [1, 0] (up (φ := .f32) M) h = up fun x l => M l x := by
  funext i
  idx_vars i
  pointwise
  rfl

/-- Rows of decay gradients that are zero. -/
def no3 : Fin 2 → Fin 8 → Fin 1024 → ℝ := fun _ _ _ => 0

/-- Slots that are zero. -/
def no8 : Fin 8 → Fin 128 → Fin 1024 → ℝ := fun _ _ _ => 0

theorem pay54_up : k0_pay54 (F := Ideal) = up3 no8 := by
  unfold k0_pay54
  funext i
  exact Ideal.ofBits_zero_f32

theorem pay55_up : k0_pay55 (F := Ideal) = up3 no8 := by
  unfold k0_pay55
  funext i
  exact Ideal.ofBits_zero_f32

theorem pay56_up : k0_pay56 (F := Ideal) = up5 no3 := by
  unfold k0_pay56
  funext i
  exact Ideal.ofBits_zero_f32

section Rows

variable {κ : Kind} {sp : Space}

/-- What a list of stores leaves over unset contents is the same through any view. -/
theorem other_view {s : Shape} {e : EltTy} {κ' : Kind} {sp' : Space} (v : View sig κ sp s e) (w : View sig κ' sp' s e)
    (L : List (View.Piece (Elt Ideal) s e)) {R : s.Idx → Elt Ideal e} (h : v.read (Elt Ideal) (v.writes (Elt Ideal) v.junk L) = R) :
    w.read (Elt Ideal) (w.writes (Elt Ideal) w.junk L) = R := by
  rw [← h]
  funext y
  exact (View.read_writes_junk_apply_eq_canon w y L).trans (View.read_writes_junk_apply_eq_canon v y L).symm

theorem fill5 (v : View sig κ sp S1x2x8x1x1024 .f32) (f : BufTy.Contents (Elt Ideal) v.ty) (inb) {w : FVec Ideal S1x2x8x1x1024 .f32} (hw : w = up5 no3) :
    v.read (Elt Ideal) (v.writes (Elt Ideal) f [(⟨Rect.unit (s := S1x2x8x1x1024) ![0, 0, 0, 0, 0] ![1, 2, 8, 1, 1024] inb, w⟩ : View.Piece (Elt Ideal) S1x2x8x1x1024 .f32)])
      = up5 no3 := by
  rw [← hw]
  funext y
  refine View.read_writes_cons_unit_of_mem v f inb _ [] y y rfl ?_
  intro a
  match a with
  | ⟨0, _⟩ => show (y 0).val = 0 + (y 0).val; omega
  | ⟨1, _⟩ => show (y 1).val = 0 + (y 1).val; omega
  | ⟨2, _⟩ => show (y 2).val = 0 + (y 2).val; omega
  | ⟨3, _⟩ => show (y 3).val = 0 + (y 3).val; omega
  | ⟨4, _⟩ => show (y 4).val = 0 + (y 4).val; omega

theorem fill3 (v : View sig κ sp S8x128x1024 .f32) (f : BufTy.Contents (Elt Ideal) v.ty) (inb) {w : FVec Ideal S8x128x1024 .f32} (hw : w = up3 no8) :
    v.read (Elt Ideal) (v.writes (Elt Ideal) f [(⟨Rect.unit (s := S8x128x1024) ![0, 0, 0] ![8, 128, 1024] inb, w⟩ : View.Piece (Elt Ideal) S8x128x1024 .f32)])
      = up3 no8 := by
  rw [← hw]
  funext y
  refine View.read_writes_cons_unit_of_mem v f inb _ [] y y rfl ?_
  intro a
  match a with
  | ⟨0, _⟩ => show (y 0).val = 0 + (y 0).val; omega
  | ⟨1, _⟩ => show (y 1).val = 0 + (y 1).val; omega
  | ⟨2, _⟩ => show (y 2).val = 0 + (y 2).val; omega

theorem turned (v : View sig κ sp S8x128x1024 .f32) (f : BufTy.Contents (Elt Ideal) v.ty) (S : Fin 8 → Fin 128 → Fin 1024 → ℝ)
    (h : v.read (Elt Ideal) f = up3 S) (j : Fin 8) {off : Fin 3 → ℕ} (inb) (hoff : off = ![j.val, 0, 0]) :
    truncf (F := Ideal) .bf16 (transpose (s := S128x1024) (α := Ideal .f32) S1024x128 [1, 0]
      (shapeCast (s := S1x128x1024) (α := Ideal .f32) S128x1024 (v.readAt (Elt Ideal) (Rect.unit (s := S8x128x1024) off ![1, 128, 1024] inb).toLoadRect f) shapeCasts_S1x128x1024_S128x1024)
      transposes_S128x1024_p1_0_S1024x128) bitsLt_bf16_f32 = up (φ := .bf16) (rows (slots S) j) := by
  rw [load_slot v f S h j inb hoff shapeCasts_S1x128x1024_S128x1024, unturn_up, rows_slots]
  rfl

/-- The first `n` rows hold `D`. -/
def Holds (v : View sig κ sp S8192x128 .bf16) (f : BufTy.Contents (Elt Ideal) v.ty) (D : Fin 8192 → Fin 128 → ℝ) (n : ℕ) : Prop :=
  ∀ x l, x.val < n → v.read (Elt Ideal) f (ix2 x l) = ((D x l : ℝ) : EReal)

theorem holds_none (v : View sig κ sp S8192x128 .bf16) (f : BufTy.Contents (Elt Ideal) v.ty) (D : Fin 8192 → Fin 128 → ℝ) : Holds v f D 0 :=
  fun _ _ h => absurd h (Nat.not_lt_zero _)

theorem holds_next (v : View sig κ sp S8192x128 .bf16) (f : BufTy.Contents (Elt Ideal) v.ty) (L : List (View.Piece (Elt Ideal) S8192x128 .bf16))
    (D : Fin 8192 → Fin 128 → ℝ) (j : Fin 8) {n m : ℕ} (hn : n = 1024 * j.val) (hm : m = 1024 * j.val + 1024)
    (h : Holds v (v.writes (Elt Ideal) f L) D n) {off : Fin 2 → ℕ} (inb) (hoff : off = ![1024 * j.val, 0])
    (w : (Rect.unit (s := S8192x128) off ![1024, 128] inb).shape.Idx → Elt Ideal .bf16) (hw : w = up (φ := .bf16) (rows D j)) :
    Holds v (v.writes (Elt Ideal) f ((⟨Rect.unit (s := S8192x128) off ![1024, 128] inb, w⟩ : View.Piece (Elt Ideal) S8192x128 .bf16) :: L)) D m := by
  intro x l hx
  by_cases hlt : x.val < 1024 * j.val
  · rw [View.read_writes_cons_unit_of_not_mem v f inb w L (ix2 x l) hoff 0
      (by
        show x.val < 1024 * j.val ∨ 1024 * j.val + 1024 ≤ x.val
        exact Or.inl hlt)]
    exact h x l (by omega)
  · have hs : x.val - 1024 * j.val < 1024 := by omega
    rw [View.read_writes_cons_unit_of_mem v f inb w L (ix2 x l) (ix2 ⟨x.val - 1024 * j.val, hs⟩ l) hoff
      (fun a => by
        match a with
        | ⟨0, _⟩ => show x.val = 1024 * j.val + (x.val - 1024 * j.val); omega
        | ⟨1, _⟩ => show l.val = 0 + l.val; omega), hw]
    show ((D (row j ⟨x.val - 1024 * j.val, hs⟩) l : ℝ) : EReal) = _
    congr 3
    exact Fin.ext (by show 1024 * j.val + (x.val - 1024 * j.val) = x.val; omega)

theorem holds_all (v : View sig κ sp S8192x128 .bf16) (f : BufTy.Contents (Elt Ideal) v.ty) (D : Fin 8192 → Fin 128 → ℝ)
    (h : Holds v f D 8192) : v.read (Elt Ideal) f = up (φ := .bf16) D := by
  funext y
  exact (congrArg _ (eq_ix2 y)).trans (h _ _ (y 0).isLt)

end Rows

end Cert.Fox

end
-- ==== Proof.CaseA.lean ====
/-
  The first block of queries of a pair of heads.
-/
module

public import proofs.«01_k».proof.Proof.Slots

@[expose] public section

set_option maxRecDepth 16384

noncomputable section

namespace Cert.Fox

open Idealize.ShloMosaic Idealize.ShloMosaic.TcCoe Cert.KernelIdeal Cert.KernelIdeal.Gen

set_option maxHeartbeats 4000000 in
theorem s0_A (c : Dev nD) (i : grid0.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S1x2x8x1x1024 .f32) (harg12 : arg12.IsWhole) (arg13 : Memref sig .tc .vmem S8x128x1024 .f32) (harg13 : arg13.IsWhole) (arg14 : Memref sig .tc .vmem S8x128x1024 .f32) (harg14 : arg14.IsWhole) (hc0 : cond0_0 i) (hc1 : ¬cond0_1 i) (Q O LA DO : Fin 1024 → Fin 128 → ℝ) (K V KA : Fin 8192 → Fin 128 → ℝ) (j : Fin 8) (hj : j.val = (i 1).val) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 hc0 hc1 (up (φ := .bf16) Q) (up (φ := .bf16) K) (up (φ := .bf16) V) (up (φ := .bf16) KA) (up (φ := .bf16) O) (up (φ := .bf16) LA) (up (φ := .bf16) DO)
      = up3 (stepT no8 (flip (half 0 Q)) (flip (half 1 Q)) (dsAt (qext 0 Q LA) (doext 0 DO O) K V KA) (dsAt (qext 1 Q LA) (doext 1 DO O) K V KA) (dsD (qext 0 Q LA) (doext 0 DO O) K V KA j) (dsD (qext 1 Q LA) (doext 1 DO O) K V KA j) j) := by
  unfold sout0_A_0 kernelRun0_A
  dsimp only
  sl_unfold_run_names
  simp only [load_whole, pay60_up, pay62_up, pay63_up, pay64_up, pay65_up, pay66_up, pay67_up, pay68_up, pay69_up, pay70_up, pay71_up, pay81_up, pay84_up, pay88_up, pay89_up, pay90_up, pay91_up, trips_one, trips_two]
  rw [pay73_up, pay74_up, pay75_up, pay76_up, pay82_up]
  have L := loop_at Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (iota .tc S1024x128 32 [1] iota_S1024x128_d1_w32) (up (φ := .bf16) (half 1 DO)) (up (φ := .bf16) fun _ _ => 0) (up (φ := .f32) fun x l => if l.val = 3 then 0 - delta 1 DO O x else 0) (k0_pay83 (iota .tc S1024x128 32 [1] iota_S1024x128_d1_w32)) (FloatOps.ofBits .f32 0#32) (up (φ := .f32) fun _ _ => 0) (harg3.unread (up (φ := .bf16) K)) (harg4.unread (up (φ := .bf16) V)) (harg5.unread (up (φ := .bf16) KA)) (flip (half 0 Q)) (flip (half 1 Q)) (flip (half 0 DO)) (flip (half 1 DO)) (qext 0 Q LA) (doext 0 DO O) (qext 1 Q LA) (doext 1 DO O) K V KA (pay85_up _ _) pay86_up (harg3.read_unread _) (harg4.read_unread _) (harg5.read_unread _) (arg12.view.writes (Elt Ideal) arg12.view.junk [⟨Rect.unit ![0, 0, 0, 0, 0] ![1, 2, 8, 1, 1024] inb_S1x2x8x1x1024_S1x2x8x1x1024_0_0_0_0_0, (k0_pay56 (F := Ideal))⟩]) (arg13.view.writes (Elt Ideal) arg13.view.junk [⟨Rect.unit ![0, 0, 0] ![8, 128, 1024] inb_S8x128x1024_S8x128x1024_0_0_0, (k0_pay54 (F := Ideal))⟩]) (arg14.view.writes (Elt Ideal) arg14.view.junk [⟨Rect.unit ![0, 0, 0] ![8, 128, 1024] inb_S8x128x1024_S8x128x1024_0_0_0, (k0_pay55 (F := Ideal))⟩]) no3 no8 no8 (fill5 arg12.view arg12.view.junk inb_S1x2x8x1x1024_S1x2x8x1x1024_0_0_0_0_0 (w := k0_pay56 (F := Ideal)) pay56_up) (fill3 arg13.view arg13.view.junk inb_S8x128x1024_S8x128x1024_0_0_0 (w := k0_pay54 (F := Ideal)) pay54_up) (fill3 arg14.view arg14.view.junk inb_S8x128x1024_S8x128x1024_0_0_0 (w := k0_pay55 (F := Ideal)) pay55_up) (trips_le i) (i 1).val (Nat.le_of_eq (trips_eq i).symm)
  generalize st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (iota .tc S1024x128 32 [1] iota_S1024x128_d1_w32) (up (φ := .bf16) (half 1 DO)) (up (φ := .bf16) (flip (half 0 Q))) (up (φ := .bf16) (flip (half 1 Q))) (up (φ := .bf16) (flip (half 0 DO))) (up (φ := .bf16) (flip (half 1 DO))) (up (φ := .bf16) (qext 0 Q LA)) (up (φ := .bf16) (doext 0 DO O)) (up (φ := .bf16) (qext 1 Q LA)) (up (φ := .bf16) fun _ _ => 0) (up (φ := .f32) fun x l => if l.val = 3 then 0 - delta 1 DO O x else 0) (k0_pay83 (iota .tc S1024x128 32 [1] iota_S1024x128_d1_w32)) (FloatOps.ofBits .f32 0#32) (up (φ := .f32) fun _ _ => 0) (harg3.unread (up (φ := .bf16) K)) (harg4.unread (up (φ := .bf16) V)) (harg5.unread (up (φ := .bf16) KA)) (arg12.view.writes (Elt Ideal) arg12.view.junk [⟨Rect.unit ![0, 0, 0, 0, 0] ![1, 2, 8, 1, 1024] inb_S1x2x8x1x1024_S1x2x8x1x1024_0_0_0_0_0, (k0_pay56 (F := Ideal))⟩]) (arg13.view.writes (Elt Ideal) arg13.view.junk [⟨Rect.unit ![0, 0, 0] ![8, 128, 1024] inb_S8x128x1024_S8x128x1024_0_0_0, (k0_pay54 (F := Ideal))⟩]) (arg14.view.writes (Elt Ideal) arg14.view.junk [⟨Rect.unit ![0, 0, 0] ![8, 128, 1024] inb_S8x128x1024_S8x128x1024_0_0_0, (k0_pay55 (F := Ideal))⟩]) ((up (φ := .f32) fun _ _ => 0), (up (φ := .f32) fun _ _ => 0), (up (φ := .f32) fun _ _ => 0), (up (φ := .f32) fun _ _ => 0)) (i 1).val = st at L ⊢
  obtain ⟨acc, L12, L13, L14⟩ := st
  obtain ⟨hc, g12, g13, g14⟩ := L
  dsimp only at hc g12 g13 g14 ⊢
  subst hc
  rw [st_k0_t2.eq_1]
  dsimp only [List.nil_append]
  have e3 : k0_pay94 (View.readAt (Elt Ideal) arg3.view (Rect.unit (s := S8192x128) (k0_off9 i) ![1024, 128] (k0_off9_inb i)).toLoadRect (harg3.unread (up (φ := .bf16) K))) = up (φ := .bf16) (rows K j) := by
    unfold k0_pay94
    exact load_rows arg3.view _ K (harg3.read_unread _) j (k0_off9_inb i) ((k0_off9_eq i).trans (by rw [hj])) _
  have e4 : k0_pay95 (View.readAt (Elt Ideal) arg4.view (Rect.unit (s := S8192x128) (k0_off9 i) ![1024, 128] (k0_off9_inb i)).toLoadRect (harg4.unread (up (φ := .bf16) V))) = up (φ := .bf16) (rows V j) := by
    unfold k0_pay95
    exact load_rows arg4.view _ V (harg4.read_unread _) j (k0_off9_inb i) ((k0_off9_eq i).trans (by rw [hj])) _
  have e5 := load_rows arg5.view (harg5.unread (up (φ := .bf16) KA)) KA (harg5.read_unread (Val := Elt Ideal) (up (φ := .bf16) KA)) j (k0_off9_inb i) ((k0_off9_eq i).trans (by rw [hj])) shapeCasts_S1024x128_S1024x128
  rw [← View.writes_append] at g12 g13 g14
  rw [← hj] at g12 g13 g14
  try rw [← hj]
  rw [e3, e4, pay85_up, pay86_up, pay100_up _ _ _ _ _ _ e5, pay107_up _ _ _ _ _ _ e5]
  refine store_slot _ _ _ _ (other_view arg13.view _ _ g13) j (k0_off12_inb i) ((k0_off12_eq i).trans (by rw [hj])) _ _ ?_
  intro x y
  exact pay111_up _ _ _ _ _ (load_slot arg13.view _ _ g13 j (k0_off12_inb i) ((k0_off12_eq i).trans (by rw [hj])) shapeCasts_S1x128x1024_S128x1024) x y

set_option maxHeartbeats 4000000 in
theorem s1_A (c : Dev nD) (i : grid0.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S1x2x8x1x1024 .f32) (harg12 : arg12.IsWhole) (arg13 : Memref sig .tc .vmem S8x128x1024 .f32) (harg13 : arg13.IsWhole) (arg14 : Memref sig .tc .vmem S8x128x1024 .f32) (harg14 : arg14.IsWhole) (hc0 : cond0_0 i) (hc1 : ¬cond0_1 i) (Q O LA DO : Fin 1024 → Fin 128 → ℝ) (K V KA : Fin 8192 → Fin 128 → ℝ) (j : Fin 8) (hj : j.val = (i 1).val) :
    sout0_A_1 (F := Ideal) c i arg2 harg2 arg3 harg3 arg4 harg4 arg5 harg5 arg6 harg6 arg7 harg7 arg8 harg8 arg9 harg9 arg10 harg10 arg11 harg11 arg12 harg12 arg13 harg13 arg14 harg14 hc0 hc1 (up (φ := .bf16) Q) (up (φ := .bf16) K) (up (φ := .bf16) V) (up (φ := .bf16) KA) (up (φ := .bf16) O) (up (φ := .bf16) LA) (up (φ := .bf16) DO)
      = up3 (stepT no8 (flip (half 0 DO)) (flip (half 1 DO)) (probAt (qext 0 Q LA) K KA) (probAt (qext 1 Q LA) K KA) (probD (qext 0 Q LA) K KA j) (probD (qext 1 Q LA) K KA j) j) := by
  unfold sout0_A_1 kernelRun0_A
  dsimp only
  sl_unfold_run_names
  simp only [load_whole, pay60_up, pay62_up, pay63_up, pay64_up, pay65_up, pay66_up, pay67_up, pay68_up, pay69_up, pay70_up, pay71_up, pay81_up, pay84_up, pay88_up, pay89_up, pay90_up, pay91_up, trips_one, trips_two]
  rw [pay73_up, pay74_up, pay75_up, pay76_up, pay82_up]
  have L := loop_at Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (iota .tc S1024x128 32 [1] iota_S1024x128_d1_w32) (up (φ := .bf16) (half 1 DO)) (up (φ := .bf16) fun _ _ => 0) (up (φ := .f32) fun x l => if l.val = 3 then 0 - delta 1 DO O x else 0) (k0_pay83 (iota .tc S1024x128 32 [1] iota_S1024x128_d1_w32)) (FloatOps.ofBits .f32 0#32) (up (φ := .f32) fun _ _ => 0) (harg3.unread (up (φ := .bf16) K)) (harg4.unread (up (φ := .bf16) V)) (harg5.unread (up (φ := .bf16) KA)) (flip (half 0 Q)) (flip (half 1 Q)) (flip (half 0 DO)) (flip (half 1 DO)) (qext 0 Q LA) (doext 0 DO O) (qext 1 Q LA) (doext 1 DO O) K V KA (pay85_up _ _) pay86_up (harg3.read_unread _) (harg4.read_unread _) (harg5.read_unread _) (arg12.view.writes (Elt Ideal) arg12.view.junk [⟨Rect.unit ![0, 0, 0, 0, 0] ![1, 2, 8, 1, 1024] inb_S1x2x8x1x1024_S1x2x8x1x1024_0_0_0_0_0, (k0_pay56 (F := Ideal))⟩]) (arg13.view.writes (Elt Ideal) arg13.view.junk [⟨Rect.unit ![0, 0, 0] ![8, 128, 1024] inb_S8x128x1024_S8x128x1024_0_0_0, (k0_pay54 (F := Ideal))⟩]) (arg14.view.writes (Elt Ideal) arg14.view.junk [⟨Rect.unit ![0, 0, 0] ![8, 128, 1024] inb_S8x128x1024_S8x128x1024_0_0_0, (k0_pay55 (F := Ideal))⟩]) no3 no8 no8 (fill5 arg12.view arg12.view.junk inb_S1x2x8x1x1024_S1x2x8x1x1024_0_0_0_0_0 (w := k0_pay56 (F := Ideal)) pay56_up) (fill3 arg13.view arg13.view.junk inb_S8x128x1024_S8x128x1024_0_0_0 (w := k0_pay54 (F := Ideal)) pay54_up) (fill3 arg14.view arg14.view.junk inb_S8x128x1024_S8x128x1024_0_0_0 (w := k0_pay55 (F := Ideal)) pay55_up) (trips_le i) (i 1).val (Nat.le_of_eq (trips_eq i).symm)
  generalize st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (iota .tc S1024x128 32 [1] iota_S1024x128_d1_w32) (up (φ := .bf16) (half 1 DO)) (up (φ := .bf16) (flip (half 0 Q))) (up (φ := .bf16) (flip (half 1 Q))) (up (φ := .bf16) (flip (half 0 DO))) (up (φ := .bf16) (flip (half 1 DO))) (up (φ := .bf16) (qext 0 Q LA)) (up (φ := .bf16) (doext 0 DO O)) (up (φ := .bf16) (qext 1 Q LA)) (up (φ := .bf16) fun _ _ => 0) (up (φ := .f32) fun x l => if l.val = 3 then 0 - delta 1 DO O x else 0) (k0_pay83 (iota .tc S1024x128 32 [1] iota_S1024x128_d1_w32)) (FloatOps.ofBits .f32 0#32) (up (φ := .f32) fun _ _ => 0) (harg3.unread (up (φ := .bf16) K)) (harg4.unread (up (φ := .bf16) V)) (harg5.unread (up (φ := .bf16) KA)) (arg12.view.writes (Elt Ideal) arg12.view.junk [⟨Rect.unit ![0, 0, 0, 0, 0] ![1, 2, 8, 1, 1024] inb_S1x2x8x1x1024_S1x2x8x1x1024_0_0_0_0_0, (k0_pay56 (F := Ideal))⟩]) (arg13.view.writes (Elt Ideal) arg13.view.junk [⟨Rect.unit ![0, 0, 0] ![8, 128, 1024] inb_S8x128x1024_S8x128x1024_0_0_0, (k0_pay54 (F := Ideal))⟩]) (arg14.view.writes (Elt Ideal) arg14.view.junk [⟨Rect.unit ![0, 0, 0] ![8, 128, 1024] inb_S8x128x1024_S8x128x1024_0_0_0, (k0_pay55 (F := Ideal))⟩]) ((up (φ := .f32) fun _ _ => 0), (up (φ := .f32) fun _ _ => 0), (up (φ := .f32) fun _ _ => 0), (up (φ := .f32) fun _ _ => 0)) (i 1).val = st at L ⊢
  obtain ⟨acc, L12, L13, L14⟩ := st
  obtain ⟨hc, g12, g13, g14⟩ := L
  dsimp only at hc g12 g13 g14 ⊢
  subst hc
  rw [st_k0_t2.eq_1]
  dsimp only [List.nil_append]
  have e3 : k0_pay94 (View.readAt (Elt Ideal) arg3.view (Rect.unit (s := S8192x128) (k0_off9 i) ![1024, 128] (k0_off9_inb i)).toLoadRect (harg3.unread (up (φ := .bf16) K))) = up (φ := .bf16) (rows K j) := by
    unfold k0_pay94
    exact load_rows arg3.view _ K (harg3.read_unread _) j (k0_off9_inb i) ((k0_off9_eq i).trans (by rw [hj])) _
  have e4 : k0_pay95 (View.readAt (Elt Ideal) arg4.view (Rect.unit (s := S8192x128) (k0_off9 i) ![1024, 128] (k0_off9_inb i)).toLoadRect (harg4.unread (up (φ := .bf16) V))) = up (φ := .bf16) (rows V j) := by
    unfold k0_pay95
    exact load_rows arg4.view _ V (harg4.read_unread _) j (k0_off9_inb i) ((k0_off9_eq i).trans (by rw [hj])) _
  have e5 := load_rows arg5.view (harg5.unread (up (φ := .bf16) KA)) KA (harg5.read_unread (Val := Elt Ideal) (up (φ := .bf16) KA)) j (k0_off9_inb i) ((k0_off9_eq i).trans (by rw [hj])) shapeCasts_S1024x128_S1024x128
  rw [← View.writes_append] at g12 g13 g14
  rw [← hj] at g12 g13 g14
  try rw [← hj]
  rw [e3, pay101_up _ _ _ _ e5, pay105_up _ _ _ _ e5, pay112_up _ _ _ _ _ (load_slot arg14.view _ _ g14 j (k0_off12_inb i) ((k0_off12_eq i).trans (by rw [hj])) shapeCasts_S1x128x1024_S128x1024)]
  refine store_slot _ _ _ _ (other_view arg14.view _ _ g14) j (k0_off12_inb i) ((k0_off12_eq i).trans (by rw [hj])) _ _ ?_
  intro x y
  exact pay113_up _ x y

set_option maxHeartbeats 4000000 in
theorem dq_A (c : Dev nD) (i : grid0.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S1x2x8x1x1024 .f32) (harg12 : arg12.IsWhole) (arg13 : Memref sig .tc .vmem S8x128x1024 .f32) (harg13 : arg13.IsWhole) (arg14 : Memref sig .tc .vmem S8x128x1024 .f32) (harg14 : arg14.IsWhole) (hc0 : cond0_0 i) (hc1 : ¬cond0_1 i) (Q O LA DO : Fin 1024 → Fin 128 → ℝ) (K V KA : Fin 8192 → Fin 128 → ℝ) (j : Fin 8) (hj : j.val = (i 1).val) :
    out0_A_7 (F := Ideal) c i arg2 harg2 arg3 harg3 arg4 harg4 arg5 harg5 arg6 harg6 arg7 harg7 arg8 harg8 arg9 harg9 arg10 harg10 arg11 harg11 arg12 harg12 arg13 harg13 arg14 harg14 hc0 hc1 (up (φ := .bf16) Q) (up (φ := .bf16) K) (up (φ := .bf16) V) (up (φ := .bf16) KA) (up (φ := .bf16) O) (up (φ := .bf16) LA) (up (φ := .bf16) DO)
      = up (φ := .bf16) (stepQ (dsAt (qext 0 Q LA) (doext 0 DO O) K V KA) (dsAt (qext 1 Q LA) (doext 1 DO O) K V KA) (dsD (qext 0 Q LA) (doext 0 DO O) K V KA j) (dsD (qext 1 Q LA) (doext 1 DO O) K V KA j) K j) := by
  unfold out0_A_7 kernelRun0_A
  dsimp only
  sl_unfold_run_names
  simp only [load_whole, pay60_up, pay62_up, pay63_up, pay64_up, pay65_up, pay66_up, pay67_up, pay68_up, pay69_up, pay70_up, pay71_up, pay81_up, pay84_up, pay88_up, pay89_up, pay90_up, pay91_up, trips_one, trips_two]
  rw [pay73_up, pay74_up, pay75_up, pay76_up, pay82_up]
  have L := loop_at Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (iota .tc S1024x128 32 [1] iota_S1024x128_d1_w32) (up (φ := .bf16) (half 1 DO)) (up (φ := .bf16) fun _ _ => 0) (up (φ := .f32) fun x l => if l.val = 3 then 0 - delta 1 DO O x else 0) (k0_pay83 (iota .tc S1024x128 32 [1] iota_S1024x128_d1_w32)) (FloatOps.ofBits .f32 0#32) (up (φ := .f32) fun _ _ => 0) (harg3.unread (up (φ := .bf16) K)) (harg4.unread (up (φ := .bf16) V)) (harg5.unread (up (φ := .bf16) KA)) (flip (half 0 Q)) (flip (half 1 Q)) (flip (half 0 DO)) (flip (half 1 DO)) (qext 0 Q LA) (doext 0 DO O) (qext 1 Q LA) (doext 1 DO O) K V KA (pay85_up _ _) pay86_up (harg3.read_unread _) (harg4.read_unread _) (harg5.read_unread _) (arg12.view.writes (Elt Ideal) arg12.view.junk [⟨Rect.unit ![0, 0, 0, 0, 0] ![1, 2, 8, 1, 1024] inb_S1x2x8x1x1024_S1x2x8x1x1024_0_0_0_0_0, (k0_pay56 (F := Ideal))⟩]) (arg13.view.writes (Elt Ideal) arg13.view.junk [⟨Rect.unit ![0, 0, 0] ![8, 128, 1024] inb_S8x128x1024_S8x128x1024_0_0_0, (k0_pay54 (F := Ideal))⟩]) (arg14.view.writes (Elt Ideal) arg14.view.junk [⟨Rect.unit ![0, 0, 0] ![8, 128, 1024] inb_S8x128x1024_S8x128x1024_0_0_0, (k0_pay55 (F := Ideal))⟩]) no3 no8 no8 (fill5 arg12.view arg12.view.junk inb_S1x2x8x1x1024_S1x2x8x1x1024_0_0_0_0_0 (w := k0_pay56 (F := Ideal)) pay56_up) (fill3 arg13.view arg13.view.junk inb_S8x128x1024_S8x128x1024_0_0_0 (w := k0_pay54 (F := Ideal)) pay54_up) (fill3 arg14.view arg14.view.junk inb_S8x128x1024_S8x128x1024_0_0_0 (w := k0_pay55 (F := Ideal)) pay55_up) (trips_le i) (i 1).val (Nat.le_of_eq (trips_eq i).symm)
  generalize st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (iota .tc S1024x128 32 [1] iota_S1024x128_d1_w32) (up (φ := .bf16) (half 1 DO)) (up (φ := .bf16) (flip (half 0 Q))) (up (φ := .bf16) (flip (half 1 Q))) (up (φ := .bf16) (flip (half 0 DO))) (up (φ := .bf16) (flip (half 1 DO))) (up (φ := .bf16) (qext 0 Q LA)) (up (φ := .bf16) (doext 0 DO O)) (up (φ := .bf16) (qext 1 Q LA)) (up (φ := .bf16) fun _ _ => 0) (up (φ := .f32) fun x l => if l.val = 3 then 0 - delta 1 DO O x else 0) (k0_pay83 (iota .tc S1024x128 32 [1] iota_S1024x128_d1_w32)) (FloatOps.ofBits .f32 0#32) (up (φ := .f32) fun _ _ => 0) (harg3.unread (up (φ := .bf16) K)) (harg4.unread (up (φ := .bf16) V)) (harg5.unread (up (φ := .bf16) KA)) (arg12.view.writes (Elt Ideal) arg12.view.junk [⟨Rect.unit ![0, 0, 0, 0, 0] ![1, 2, 8, 1, 1024] inb_S1x2x8x1x1024_S1x2x8x1x1024_0_0_0_0_0, (k0_pay56 (F := Ideal))⟩]) (arg13.view.writes (Elt Ideal) arg13.view.junk [⟨Rect.unit ![0, 0, 0] ![8, 128, 1024] inb_S8x128x1024_S8x128x1024_0_0_0, (k0_pay54 (F := Ideal))⟩]) (arg14.view.writes (Elt Ideal) arg14.view.junk [⟨Rect.unit ![0, 0, 0] ![8, 128, 1024] inb_S8x128x1024_S8x128x1024_0_0_0, (k0_pay55 (F := Ideal))⟩]) ((up (φ := .f32) fun _ _ => 0), (up (φ := .f32) fun _ _ => 0), (up (φ := .f32) fun _ _ => 0), (up (φ := .f32) fun _ _ => 0)) (i 1).val = st at L ⊢
  obtain ⟨acc, L12, L13, L14⟩ := st
  obtain ⟨hc, g12, g13, g14⟩ := L
  dsimp only at hc g12 g13 g14 ⊢
  subst hc
  rw [st_k0_t2.eq_1]
  dsimp only [List.nil_append]
  have e3 : k0_pay94 (View.readAt (Elt Ideal) arg3.view (Rect.unit (s := S8192x128) (k0_off9 i) ![1024, 128] (k0_off9_inb i)).toLoadRect (harg3.unread (up (φ := .bf16) K))) = up (φ := .bf16) (rows K j) := by
    unfold k0_pay94
    exact load_rows arg3.view _ K (harg3.read_unread _) j (k0_off9_inb i) ((k0_off9_eq i).trans (by rw [hj])) _
  have e4 : k0_pay95 (View.readAt (Elt Ideal) arg4.view (Rect.unit (s := S8192x128) (k0_off9 i) ![1024, 128] (k0_off9_inb i)).toLoadRect (harg4.unread (up (φ := .bf16) V))) = up (φ := .bf16) (rows V j) := by
    unfold k0_pay95
    exact load_rows arg4.view _ V (harg4.read_unread _) j (k0_off9_inb i) ((k0_off9_eq i).trans (by rw [hj])) _
  have e5 := load_rows arg5.view (harg5.unread (up (φ := .bf16) KA)) KA (harg5.read_unread (Val := Elt Ideal) (up (φ := .bf16) KA)) j (k0_off9_inb i) ((k0_off9_eq i).trans (by rw [hj])) shapeCasts_S1024x128_S1024x128
  rw [← View.writes_append] at g12 g13 g14
  rw [← hj] at g12 g13 g14
  try rw [← hj]
  rw [e3, e4, pay85_up, pay86_up, pay103_up _ _ _ _ _ _ e5, pay106_up _ _ _ _ _ _ e5, pay109_up, pay116_up]
  exact store_whole _ _ _ _ _

set_option maxHeartbeats 4000000 in
theorem dc_A (c : Dev nD) (i : grid0.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S1x2x8x1x1024 .f32) (harg12 : arg12.IsWhole) (arg13 : Memref sig .tc .vmem S8x128x1024 .f32) (harg13 : arg13.IsWhole) (arg14 : Memref sig .tc .vmem S8x128x1024 .f32) (harg14 : arg14.IsWhole) (hc0 : cond0_0 i) (hc1 : ¬cond0_1 i) (Q O LA DO : Fin 1024 → Fin 128 → ℝ) (K V KA : Fin 8192 → Fin 128 → ℝ) (j : Fin 8) (hj : j.val = (i 1).val) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 hc0 hc1 (up (φ := .bf16) Q) (up (φ := .bf16) K) (up (φ := .bf16) V) (up (φ := .bf16) KA) (up (φ := .bf16) O) (up (φ := .bf16) LA) (up (φ := .bf16) DO)
      = up5 (stepC no3 (dsAt (qext 0 Q LA) (doext 0 DO O) K V KA) (dsAt (qext 1 Q LA) (doext 1 DO O) K V KA) (dsD (qext 0 Q LA) (doext 0 DO O) K V KA j) (dsD (qext 1 Q LA) (doext 1 DO O) K V KA j) j) := by
  unfold out0_A_10 kernelRun0_A
  dsimp only
  sl_unfold_run_names
  simp only [load_whole, pay60_up, pay62_up, pay63_up, pay64_up, pay65_up, pay66_up, pay67_up, pay68_up, pay69_up, pay70_up, pay71_up, pay81_up, pay84_up, pay88_up, pay89_up, pay90_up, pay91_up, trips_one, trips_two]
  rw [pay73_up, pay74_up, pay75_up, pay76_up, pay82_up]
  have L := loop_at Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (iota .tc S1024x128 32 [1] iota_S1024x128_d1_w32) (up (φ := .bf16) (half 1 DO)) (up (φ := .bf16) fun _ _ => 0) (up (φ := .f32) fun x l => if l.val = 3 then 0 - delta 1 DO O x else 0) (k0_pay83 (iota .tc S1024x128 32 [1] iota_S1024x128_d1_w32)) (FloatOps.ofBits .f32 0#32) (up (φ := .f32) fun _ _ => 0) (harg3.unread (up (φ := .bf16) K)) (harg4.unread (up (φ := .bf16) V)) (harg5.unread (up (φ := .bf16) KA)) (flip (half 0 Q)) (flip (half 1 Q)) (flip (half 0 DO)) (flip (half 1 DO)) (qext 0 Q LA) (doext 0 DO O) (qext 1 Q LA) (doext 1 DO O) K V KA (pay85_up _ _) pay86_up (harg3.read_unread _) (harg4.read_unread _) (harg5.read_unread _) (arg12.view.writes (Elt Ideal) arg12.view.junk [⟨Rect.unit ![0, 0, 0, 0, 0] ![1, 2, 8, 1, 1024] inb_S1x2x8x1x1024_S1x2x8x1x1024_0_0_0_0_0, (k0_pay56 (F := Ideal))⟩]) (arg13.view.writes (Elt Ideal) arg13.view.junk [⟨Rect.unit ![0, 0, 0] ![8, 128, 1024] inb_S8x128x1024_S8x128x1024_0_0_0, (k0_pay54 (F := Ideal))⟩]) (arg14.view.writes (Elt Ideal) arg14.view.junk [⟨Rect.unit ![0, 0, 0] ![8, 128, 1024] inb_S8x128x1024_S8x128x1024_0_0_0, (k0_pay55 (F := Ideal))⟩]) no3 no8 no8 (fill5 arg12.view arg12.view.junk inb_S1x2x8x1x1024_S1x2x8x1x1024_0_0_0_0_0 (w := k0_pay56 (F := Ideal)) pay56_up) (fill3 arg13.view arg13.view.junk inb_S8x128x1024_S8x128x1024_0_0_0 (w := k0_pay54 (F := Ideal)) pay54_up) (fill3 arg14.view arg14.view.junk inb_S8x128x1024_S8x128x1024_0_0_0 (w := k0_pay55 (F := Ideal)) pay55_up) (trips_le i) (i 1).val (Nat.le_of_eq (trips_eq i).symm)
  generalize st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (iota .tc S1024x128 32 [1] iota_S1024x128_d1_w32) (up (φ := .bf16) (half 1 DO)) (up (φ := .bf16) (flip (half 0 Q))) (up (φ := .bf16) (flip (half 1 Q))) (up (φ := .bf16) (flip (half 0 DO))) (up (φ := .bf16) (flip (half 1 DO))) (up (φ := .bf16) (qext 0 Q LA)) (up (φ := .bf16) (doext 0 DO O)) (up (φ := .bf16) (qext 1 Q LA)) (up (φ := .bf16) fun _ _ => 0) (up (φ := .f32) fun x l => if l.val = 3 then 0 - delta 1 DO O x else 0) (k0_pay83 (iota .tc S1024x128 32 [1] iota_S1024x128_d1_w32)) (FloatOps.ofBits .f32 0#32) (up (φ := .f32) fun _ _ => 0) (harg3.unread (up (φ := .bf16) K)) (harg4.unread (up (φ := .bf16) V)) (harg5.unread (up (φ := .bf16) KA)) (arg12.view.writes (Elt Ideal) arg12.view.junk [⟨Rect.unit ![0, 0, 0, 0, 0] ![1, 2, 8, 1, 1024] inb_S1x2x8x1x1024_S1x2x8x1x1024_0_0_0_0_0, (k0_pay56 (F := Ideal))⟩]) (arg13.view.writes (Elt Ideal) arg13.view.junk [⟨Rect.unit ![0, 0, 0] ![8, 128, 1024] inb_S8x128x1024_S8x128x1024_0_0_0, (k0_pay54 (F := Ideal))⟩]) (arg14.view.writes (Elt Ideal) arg14.view.junk [⟨Rect.unit ![0, 0, 0] ![8, 128, 1024] inb_S8x128x1024_S8x128x1024_0_0_0, (k0_pay55 (F := Ideal))⟩]) ((up (φ := .f32) fun _ _ => 0), (up (φ := .f32) fun _ _ => 0), (up (φ := .f32) fun _ _ => 0), (up (φ := .f32) fun _ _ => 0)) (i 1).val = st at L ⊢
  obtain ⟨acc, L12, L13, L14⟩ := st
  obtain ⟨hc, g12, g13, g14⟩ := L
  dsimp only at hc g12 g13 g14 ⊢
  subst hc
  rw [st_k0_t2.eq_1]
  dsimp only [List.nil_append]
  have e3 : k0_pay94 (View.readAt (Elt Ideal) arg3.view (Rect.unit (s := S8192x128) (k0_off9 i) ![1024, 128] (k0_off9_inb i)).toLoadRect (harg3.unread (up (φ := .bf16) K))) = up (φ := .bf16) (rows K j) := by
    unfold k0_pay94
    exact load_rows arg3.view _ K (harg3.read_unread _) j (k0_off9_inb i) ((k0_off9_eq i).trans (by rw [hj])) _
  have e4 : k0_pay95 (View.readAt (Elt Ideal) arg4.view (Rect.unit (s := S8192x128) (k0_off9 i) ![1024, 128] (k0_off9_inb i)).toLoadRect (harg4.unread (up (φ := .bf16) V))) = up (φ := .bf16) (rows V j) := by
    unfold k0_pay95
    exact load_rows arg4.view _ V (harg4.read_unread _) j (k0_off9_inb i) ((k0_off9_eq i).trans (by rw [hj])) _
  have e5 := load_rows arg5.view (harg5.unread (up (φ := .bf16) KA)) KA (harg5.read_unread (Val := Elt Ideal) (up (φ := .bf16) KA)) j (k0_off9_inb i) ((k0_off9_eq i).trans (by rw [hj])) shapeCasts_S1024x128_S1024x128
  rw [← View.writes_append] at g12 g13 g14
  rw [← hj] at g12 g13 g14
  try rw [← hj]
  rw [e3, e4, pay85_up, pay86_up, pay106_up _ _ _ _ _ _ e5, pay104_up _ _ _ _ _ _ e5, pay110_up]
  rw [cov_second arg12.view arg12.view.junk]
  rw [cov_second arg12.view arg12.view.junk]
  have g1 := store_dc arg12.view _ _ _ g12 0 j (k0_off10_inb i) ((k0_off10_eq i).trans (by rw [hj]; rfl)) _ _ (pay102_up (qext 0 Q LA) (doext 0 DO O) K V KA j e5 _ (load_dc arg12.view _ _ g12 0 j (k0_off10_inb i) ((k0_off10_eq i).trans (by rw [hj]; rfl)) shapeCasts_S1x1x1x1x1024_S1x1024))
  have g2 := store_dc arg12.view _ _ _ g1 1 j (k0_off11_inb i) ((k0_off11_eq i).trans (by rw [hj]; rfl)) _ _ (pay108_up (dsD (qext 1 Q LA) (doext 1 DO O) K V KA j) _ (load_dc arg12.view _ _ g1 1 j (k0_off11_inb i) ((k0_off11_eq i).trans (by rw [hj]; rfl)) shapeCasts_S1x1x1x1x1024_S1x1024))
  have g3 := store_dc arg12.view _ _ _ g2 0 j (k0_off10_inb i) ((k0_off10_eq i).trans (by rw [hj]; rfl)) _ _ (pay114_up (addR (sumR (dsAt (qext 0 Q LA) (doext 0 DO O) K V KA) j.val) (dsD (qext 0 Q LA) (doext 0 DO O) K V KA j)) _ (load_dc arg12.view _ _ g2 0 j (k0_off10_inb i) ((k0_off10_eq i).trans (by rw [hj]; rfl)) shapeCasts_S1x1x1x1x1024_S1x1024))
  exact store_dc _ _ _ _ (other_view arg12.view _ _ g3) 1 j (k0_off11_inb i) ((k0_off11_eq i).trans (by rw [hj]; rfl)) _ _ (pay115_up (addR (sumR (dsAt (qext 1 Q LA) (doext 1 DO O) K V KA) j.val) (dsD (qext 1 Q LA) (doext 1 DO O) K V KA j)) _ (load_dc arg12.view _ _ g3 1 j (k0_off11_inb i) ((k0_off11_eq i).trans (by rw [hj]; rfl)) shapeCasts_S1x1x1x1x1024_S1x1024))

end Cert.Fox

end
-- ==== Proof.CaseB.lean ====
/-
  The blocks of queries between the first and the last.
-/
module

public import proofs.«01_k».proof.Proof.Slots

@[expose] public section

set_option maxRecDepth 16384

noncomputable section

namespace Cert.Fox

open Idealize.ShloMosaic Idealize.ShloMosaic.TcCoe Cert.KernelIdeal Cert.KernelIdeal.Gen

set_option maxHeartbeats 4000000 in
theorem s0_B (c : Dev nD) (i : grid0.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S1x2x8x1x1024 .f32) (harg12 : arg12.IsWhole) (arg13 : Memref sig .tc .vmem S8x128x1024 .f32) (harg13 : arg13.IsWhole) (arg14 : Memref sig .tc .vmem S8x128x1024 .f32) (harg14 : arg14.IsWhole) (hc0 : ¬cond0_0 i) (hc1 : ¬cond0_1 i) (Q O LA DO : Fin 1024 → Fin 128 → ℝ) (K V KA : Fin 8192 → Fin 128 → ℝ) (C : Fin 2 → Fin 8 → Fin 1024 → ℝ) (D E : Fin 8 → Fin 128 → Fin 1024 → ℝ) (j : Fin 8) (hj : j.val = (i 1).val) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 hc0 hc1 (up (φ := .bf16) Q) (up (φ := .bf16) K) (up (φ := .bf16) V) (up (φ := .bf16) KA) (up (φ := .bf16) O) (up (φ := .bf16) LA) (up (φ := .bf16) DO) (up5 C) (up3 D) (up3 E)
      = up3 (stepT D (flip (half 0 Q)) (flip (half 1 Q)) (dsAt (qext 0 Q LA) (doext 0 DO O) K V KA) (dsAt (qext 1 Q LA) (doext 1 DO O) K V KA) (dsD (qext 0 Q LA) (doext 0 DO O) K V KA j) (dsD (qext 1 Q LA) (doext 1 DO O) K V KA j) j) := by
  unfold sout0_B_0 kernelRun0_B
  dsimp only
  sl_unfold_run_names
  simp only [load_whole, pay60_up, pay62_up, pay63_up, pay64_up, pay65_up, pay66_up, pay67_up, pay68_up, pay69_up, pay70_up, pay71_up, pay81_up, pay84_up, pay88_up, pay89_up, pay90_up, pay91_up, trips_one, trips_two]
  rw [pay73_up, pay74_up, pay75_up, pay76_up, pay82_up]
  have L := loop_at Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (iota .tc S1024x128 32 [1] iota_S1024x128_d1_w32) (up (φ := .bf16) (half 1 DO)) (up (φ := .bf16) fun _ _ => 0) (up (φ := .f32) fun x l => if l.val = 3 then 0 - delta 1 DO O x else 0) (k0_pay83 (iota .tc S1024x128 32 [1] iota_S1024x128_d1_w32)) (FloatOps.ofBits .f32 0#32) (up (φ := .f32) fun _ _ => 0) (harg3.unread (up (φ := .bf16) K)) (harg4.unread (up (φ := .bf16) V)) (harg5.unread (up (φ := .bf16) KA)) (flip (half 0 Q)) (flip (half 1 Q)) (flip (half 0 DO)) (flip (half 1 DO)) (qext 0 Q LA) (doext 0 DO O) (qext 1 Q LA) (doext 1 DO O) K V KA (pay85_up _ _) pay86_up (harg3.read_unread _) (harg4.read_unread _) (harg5.read_unread _) (harg12.unread (up5 C)) (harg13.unread (up3 D)) (harg14.unread (up3 E)) C D E (harg12.read_unread _) (harg13.read_unread _) (harg14.read_unread _) (trips_le i) (i 1).val (Nat.le_of_eq (trips_eq i).symm)
  generalize st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (iota .tc S1024x128 32 [1] iota_S1024x128_d1_w32) (up (φ := .bf16) (half 1 DO)) (up (φ := .bf16) (flip (half 0 Q))) (up (φ := .bf16) (flip (half 1 Q))) (up (φ := .bf16) (flip (half 0 DO))) (up (φ := .bf16) (flip (half 1 DO))) (up (φ := .bf16) (qext 0 Q LA)) (up (φ := .bf16) (doext 0 DO O)) (up (φ := .bf16) (qext 1 Q LA)) (up (φ := .bf16) fun _ _ => 0) (up (φ := .f32) fun x l => if l.val = 3 then 0 - delta 1 DO O x else 0) (k0_pay83 (iota .tc S1024x128 32 [1] iota_S1024x128_d1_w32)) (FloatOps.ofBits .f32 0#32) (up (φ := .f32) fun _ _ => 0) (harg3.unread (up (φ := .bf16) K)) (harg4.unread (up (φ := .bf16) V)) (harg5.unread (up (φ := .bf16) KA)) (harg12.unread (up5 C)) (harg13.unread (up3 D)) (harg14.unread (up3 E)) ((up (φ := .f32) fun _ _ => 0), (up (φ := .f32) fun _ _ => 0), (up (φ := .f32) fun _ _ => 0), (up (φ := .f32) fun _ _ => 0)) (i 1).val = st at L ⊢
  obtain ⟨acc, L12, L13, L14⟩ := st
  obtain ⟨hc, g12, g13, g14⟩ := L
  dsimp only at hc g12 g13 g14 ⊢
  subst hc
  rw [st_k0_t2.eq_1]
  dsimp only [List.nil_append]
  have e3 : k0_pay94 (View.readAt (Elt Ideal) arg3.view (Rect.unit (s := S8192x128) (k0_off9 i) ![1024, 128] (k0_off9_inb i)).toLoadRect (harg3.unread (up (φ := .bf16) K))) = up (φ := .bf16) (rows K j) := by
    unfold k0_pay94
    exact load_rows arg3.view _ K (harg3.read_unread _) j (k0_off9_inb i) ((k0_off9_eq i).trans (by rw [hj])) _
  have e4 : k0_pay95 (View.readAt (Elt Ideal) arg4.view (Rect.unit (s := S8192x128) (k0_off9 i) ![1024, 128] (k0_off9_inb i)).toLoadRect (harg4.unread (up (φ := .bf16) V))) = up (φ := .bf16) (rows V j) := by
    unfold k0_pay95
    exact load_rows arg4.view _ V (harg4.read_unread _) j (k0_off9_inb i) ((k0_off9_eq i).trans (by rw [hj])) _
  have e5 := load_rows arg5.view (harg5.unread (up (φ := .bf16) KA)) KA (harg5.read_unread (Val := Elt Ideal) (up (φ := .bf16) KA)) j (k0_off9_inb i) ((k0_off9_eq i).trans (by rw [hj])) shapeCasts_S1024x128_S1024x128
  rw [← hj] at g12 g13 g14
  try rw [← hj]
  rw [e3, e4, pay85_up, pay86_up, pay100_up _ _ _ _ _ _ e5, pay107_up _ _ _ _ _ _ e5]
  refine store_slot arg13.view _ _ _ g13 j (k0_off12_inb i) ((k0_off12_eq i).trans (by rw [hj])) _ _ ?_
  intro x y
  exact pay111_up _ _ _ _ _ (load_slot arg13.view _ _ g13 j (k0_off12_inb i) ((k0_off12_eq i).trans (by rw [hj])) shapeCasts_S1x128x1024_S128x1024) x y

set_option maxHeartbeats 4000000 in
theorem s1_B (c : Dev nD) (i : grid0.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S1x2x8x1x1024 .f32) (harg12 : arg12.IsWhole) (arg13 : Memref sig .tc .vmem S8x128x1024 .f32) (harg13 : arg13.IsWhole) (arg14 : Memref sig .tc .vmem S8x128x1024 .f32) (harg14 : arg14.IsWhole) (hc0 : ¬cond0_0 i) (hc1 : ¬cond0_1 i) (Q O LA DO : Fin 1024 → Fin 128 → ℝ) (K V KA : Fin 8192 → Fin 128 → ℝ) (C : Fin 2 → Fin 8 → Fin 1024 → ℝ) (D E : Fin 8 → Fin 128 → Fin 1024 → ℝ) (j : Fin 8) (hj : j.val = (i 1).val) :
    sout0_B_1 (F := Ideal) c i arg2 harg2 arg3 harg3 arg4 harg4 arg5 harg5 arg6 harg6 arg7 harg7 arg8 harg8 arg9 harg9 arg10 harg10 arg11 harg11 arg12 harg12 arg13 harg13 arg14 harg14 hc0 hc1 (up (φ := .bf16) Q) (up (φ := .bf16) K) (up (φ := .bf16) V) (up (φ := .bf16) KA) (up (φ := .bf16) O) (up (φ := .bf16) LA) (up (φ := .bf16) DO) (up5 C) (up3 D) (up3 E)
      = up3 (stepT E (flip (half 0 DO)) (flip (half 1 DO)) (probAt (qext 0 Q LA) K KA) (probAt (qext 1 Q LA) K KA) (probD (qext 0 Q LA) K KA j) (probD (qext 1 Q LA) K KA j) j) := by
  unfold sout0_B_1 kernelRun0_B
  dsimp only
  sl_unfold_run_names
  simp only [load_whole, pay60_up, pay62_up, pay63_up, pay64_up, pay65_up, pay66_up, pay67_up, pay68_up, pay69_up, pay70_up, pay71_up, pay81_up, pay84_up, pay88_up, pay89_up, pay90_up, pay91_up, trips_one, trips_two]
  rw [pay73_up, pay74_up, pay75_up, pay76_up, pay82_up]
  have L := loop_at Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (iota .tc S1024x128 32 [1] iota_S1024x128_d1_w32) (up (φ := .bf16) (half 1 DO)) (up (φ := .bf16) fun _ _ => 0) (up (φ := .f32) fun x l => if l.val = 3 then 0 - delta 1 DO O x else 0) (k0_pay83 (iota .tc S1024x128 32 [1] iota_S1024x128_d1_w32)) (FloatOps.ofBits .f32 0#32) (up (φ := .f32) fun _ _ => 0) (harg3.unread (up (φ := .bf16) K)) (harg4.unread (up (φ := .bf16) V)) (harg5.unread (up (φ := .bf16) KA)) (flip (half 0 Q)) (flip (half 1 Q)) (flip (half 0 DO)) (flip (half 1 DO)) (qext 0 Q LA) (doext 0 DO O) (qext 1 Q LA) (doext 1 DO O) K V KA (pay85_up _ _) pay86_up (harg3.read_unread _) (harg4.read_unread _) (harg5.read_unread _) (harg12.unread (up5 C)) (harg13.unread (up3 D)) (harg14.unread (up3 E)) C D E (harg12.read_unread _) (harg13.read_unread _) (harg14.read_unread _) (trips_le i) (i 1).val (Nat.le_of_eq (trips_eq i).symm)
  generalize st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (iota .tc S1024x128 32 [1] iota_S1024x128_d1_w32) (up (φ := .bf16) (half 1 DO)) (up (φ := .bf16) (flip (half 0 Q))) (up (φ := .bf16) (flip (half 1 Q))) (up (φ := .bf16) (flip (half 0 DO))) (up (φ := .bf16) (flip (half 1 DO))) (up (φ := .bf16) (qext 0 Q LA)) (up (φ := .bf16) (doext 0 DO O)) (up (φ := .bf16) (qext 1 Q LA)) (up (φ := .bf16) fun _ _ => 0) (up (φ := .f32) fun x l => if l.val = 3 then 0 - delta 1 DO O x else 0) (k0_pay83 (iota .tc S1024x128 32 [1] iota_S1024x128_d1_w32)) (FloatOps.ofBits .f32 0#32) (up (φ := .f32) fun _ _ => 0) (harg3.unread (up (φ := .bf16) K)) (harg4.unread (up (φ := .bf16) V)) (harg5.unread (up (φ := .bf16) KA)) (harg12.unread (up5 C)) (harg13.unread (up3 D)) (harg14.unread (up3 E)) ((up (φ := .f32) fun _ _ => 0), (up (φ := .f32) fun _ _ => 0), (up (φ := .f32) fun _ _ => 0), (up (φ := .f32) fun _ _ => 0)) (i 1).val = st at L ⊢
  obtain ⟨acc, L12, L13, L14⟩ := st
  obtain ⟨hc, g12, g13, g14⟩ := L
  dsimp only at hc g12 g13 g14 ⊢
  subst hc
  rw [st_k0_t2.eq_1]
  dsimp only [List.nil_append]
  have e3 : k0_pay94 (View.readAt (Elt Ideal) arg3.view (Rect.unit (s := S8192x128) (k0_off9 i) ![1024, 128] (k0_off9_inb i)).toLoadRect (harg3.unread (up (φ := .bf16) K))) = up (φ := .bf16) (rows K j) := by
    unfold k0_pay94
    exact load_rows arg3.view _ K (harg3.read_unread _) j (k0_off9_inb i) ((k0_off9_eq i).trans (by rw [hj])) _
  have e4 : k0_pay95 (View.readAt (Elt Ideal) arg4.view (Rect.unit (s := S8192x128) (k0_off9 i) ![1024, 128] (k0_off9_inb i)).toLoadRect (harg4.unread (up (φ := .bf16) V))) = up (φ := .bf16) (rows V j) := by
    unfold k0_pay95
    exact load_rows arg4.view _ V (harg4.read_unread _) j (k0_off9_inb i) ((k0_off9_eq i).trans (by rw [hj])) _
  have e5 := load_rows arg5.view (harg5.unread (up (φ := .bf16) KA)) KA (harg5.read_unread (Val := Elt Ideal) (up (φ := .bf16) KA)) j (k0_off9_inb i) ((k0_off9_eq i).trans (by rw [hj])) shapeCasts_S1024x128_S1024x128
  rw [← hj] at g12 g13 g14
  try rw [← hj]
  rw [e3, pay101_up _ _ _ _ e5, pay105_up _ _ _ _ e5, pay112_up _ _ _ _ _ (load_slot arg14.view _ _ g14 j (k0_off12_inb i) ((k0_off12_eq i).trans (by rw [hj])) shapeCasts_S1x128x1024_S128x1024)]
  refine store_slot arg14.view _ _ _ g14 j (k0_off12_inb i) ((k0_off12_eq i).trans (by rw [hj])) _ _ ?_
  intro x y
  exact pay113_up _ x y

set_option maxHeartbeats 4000000 in
theorem dq_B (c : Dev nD) (i : grid0.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S1x2x8x1x1024 .f32) (harg12 : arg12.IsWhole) (arg13 : Memref sig .tc .vmem S8x128x1024 .f32) (harg13 : arg13.IsWhole) (arg14 : Memref sig .tc .vmem S8x128x1024 .f32) (harg14 : arg14.IsWhole) (hc0 : ¬cond0_0 i) (hc1 : ¬cond0_1 i) (Q O LA DO : Fin 1024 → Fin 128 → ℝ) (K V KA : Fin 8192 → Fin 128 → ℝ) (C : Fin 2 → Fin 8 → Fin 1024 → ℝ) (D E : Fin 8 → Fin 128 → Fin 1024 → ℝ) (j : Fin 8) (hj : j.val = (i 1).val) :
    out0_B_7 (F := Ideal) c i arg2 harg2 arg3 harg3 arg4 harg4 arg5 harg5 arg6 harg6 arg7 harg7 arg8 harg8 arg9 harg9 arg10 harg10 arg11 harg11 arg12 harg12 arg13 harg13 arg14 harg14 hc0 hc1 (up (φ := .bf16) Q) (up (φ := .bf16) K) (up (φ := .bf16) V) (up (φ := .bf16) KA) (up (φ := .bf16) O) (up (φ := .bf16) LA) (up (φ := .bf16) DO) (up5 C) (up3 D) (up3 E)
      = up (φ := .bf16) (stepQ (dsAt (qext 0 Q LA) (doext 0 DO O) K V KA) (dsAt (qext 1 Q LA) (doext 1 DO O) K V KA) (dsD (qext 0 Q LA) (doext 0 DO O) K V KA j) (dsD (qext 1 Q LA) (doext 1 DO O) K V KA j) K j) := by
  unfold out0_B_7 kernelRun0_B
  dsimp only
  sl_unfold_run_names
  simp only [load_whole, pay60_up, pay62_up, pay63_up, pay64_up, pay65_up, pay66_up, pay67_up, pay68_up, pay69_up, pay70_up, pay71_up, pay81_up, pay84_up, pay88_up, pay89_up, pay90_up, pay91_up, trips_one, trips_two]
  rw [pay73_up, pay74_up, pay75_up, pay76_up, pay82_up]
  have L := loop_at Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (iota .tc S1024x128 32 [1] iota_S1024x128_d1_w32) (up (φ := .bf16) (half 1 DO)) (up (φ := .bf16) fun _ _ => 0) (up (φ := .f32) fun x l => if l.val = 3 then 0 - delta 1 DO O x else 0) (k0_pay83 (iota .tc S1024x128 32 [1] iota_S1024x128_d1_w32)) (FloatOps.ofBits .f32 0#32) (up (φ := .f32) fun _ _ => 0) (harg3.unread (up (φ := .bf16) K)) (harg4.unread (up (φ := .bf16) V)) (harg5.unread (up (φ := .bf16) KA)) (flip (half 0 Q)) (flip (half 1 Q)) (flip (half 0 DO)) (flip (half 1 DO)) (qext 0 Q LA) (doext 0 DO O) (qext 1 Q LA) (doext 1 DO O) K V KA (pay85_up _ _) pay86_up (harg3.read_unread _) (harg4.read_unread _) (harg5.read_unread _) (harg12.unread (up5 C)) (harg13.unread (up3 D)) (harg14.unread (up3 E)) C D E (harg12.read_unread _) (harg13.read_unread _) (harg14.read_unread _) (trips_le i) (i 1).val (Nat.le_of_eq (trips_eq i).symm)
  generalize st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (iota .tc S1024x128 32 [1] iota_S1024x128_d1_w32) (up (φ := .bf16) (half 1 DO)) (up (φ := .bf16) (flip (half 0 Q))) (up (φ := .bf16) (flip (half 1 Q))) (up (φ := .bf16) (flip (half 0 DO))) (up (φ := .bf16) (flip (half 1 DO))) (up (φ := .bf16) (qext 0 Q LA)) (up (φ := .bf16) (doext 0 DO O)) (up (φ := .bf16) (qext 1 Q LA)) (up (φ := .bf16) fun _ _ => 0) (up (φ := .f32) fun x l => if l.val = 3 then 0 - delta 1 DO O x else 0) (k0_pay83 (iota .tc S1024x128 32 [1] iota_S1024x128_d1_w32)) (FloatOps.ofBits .f32 0#32) (up (φ := .f32) fun _ _ => 0) (harg3.unread (up (φ := .bf16) K)) (harg4.unread (up (φ := .bf16) V)) (harg5.unread (up (φ := .bf16) KA)) (harg12.unread (up5 C)) (harg13.unread (up3 D)) (harg14.unread (up3 E)) ((up (φ := .f32) fun _ _ => 0), (up (φ := .f32) fun _ _ => 0), (up (φ := .f32) fun _ _ => 0), (up (φ := .f32) fun _ _ => 0)) (i 1).val = st at L ⊢
  obtain ⟨acc, L12, L13, L14⟩ := st
  obtain ⟨hc, g12, g13, g14⟩ := L
  dsimp only at hc g12 g13 g14 ⊢
  subst hc
  rw [st_k0_t2.eq_1]
  dsimp only [List.nil_append]
  have e3 : k0_pay94 (View.readAt (Elt Ideal) arg3.view (Rect.unit (s := S8192x128) (k0_off9 i) ![1024, 128] (k0_off9_inb i)).toLoadRect (harg3.unread (up (φ := .bf16) K))) = up (φ := .bf16) (rows K j) := by
    unfold k0_pay94
    exact load_rows arg3.view _ K (harg3.read_unread _) j (k0_off9_inb i) ((k0_off9_eq i).trans (by rw [hj])) _
  have e4 : k0_pay95 (View.readAt (Elt Ideal) arg4.view (Rect.unit (s := S8192x128) (k0_off9 i) ![1024, 128] (k0_off9_inb i)).toLoadRect (harg4.unread (up (φ := .bf16) V))) = up (φ := .bf16) (rows V j) := by
    unfold k0_pay95
    exact load_rows arg4.view _ V (harg4.read_unread _) j (k0_off9_inb i) ((k0_off9_eq i).trans (by rw [hj])) _
  have e5 := load_rows arg5.view (harg5.unread (up (φ := .bf16) KA)) KA (harg5.read_unread (Val := Elt Ideal) (up (φ := .bf16) KA)) j (k0_off9_inb i) ((k0_off9_eq i).trans (by rw [hj])) shapeCasts_S1024x128_S1024x128
  rw [← hj] at g12 g13 g14
  try rw [← hj]
  rw [e3, e4, pay85_up, pay86_up, pay103_up _ _ _ _ _ _ e5, pay106_up _ _ _ _ _ _ e5, pay109_up, pay116_up]
  exact store_whole _ _ _ _ _

set_option maxHeartbeats 4000000 in
theorem dc_B (c : Dev nD) (i : grid0.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S1x2x8x1x1024 .f32) (harg12 : arg12.IsWhole) (arg13 : Memref sig .tc .vmem S8x128x1024 .f32) (harg13 : arg13.IsWhole) (arg14 : Memref sig .tc .vmem S8x128x1024 .f32) (harg14 : arg14.IsWhole) (hc0 : ¬cond0_0 i) (hc1 : ¬cond0_1 i) (Q O LA DO : Fin 1024 → Fin 128 → ℝ) (K V KA : Fin 8192 → Fin 128 → ℝ) (C : Fin 2 → Fin 8 → Fin 1024 → ℝ) (D E : Fin 8 → Fin 128 → Fin 1024 → ℝ) (j : Fin 8) (hj : j.val = (i 1).val) :
    out0_B_10 (F := Ideal) c i arg2 harg2 arg3 harg3 arg4 harg4 arg5 harg5 arg6 harg6 arg7 harg7 arg8 harg8 arg9 harg9 arg10 harg10 arg11 harg11 arg12 harg12 arg13 harg13 arg14 harg14 hc0 hc1 (up (φ := .bf16) Q) (up (φ := .bf16) K) (up (φ := .bf16) V) (up (φ := .bf16) KA) (up (φ := .bf16) O) (up (φ := .bf16) LA) (up (φ := .bf16) DO) (up5 C) (up3 D) (up3 E)
      = up5 (stepC C (dsAt (qext 0 Q LA) (doext 0 DO O) K V KA) (dsAt (qext 1 Q LA) (doext 1 DO O) K V KA) (dsD (qext 0 Q LA) (doext 0 DO O) K V KA j) (dsD (qext 1 Q LA) (doext 1 DO O) K V KA j) j) := by
  unfold out0_B_10 kernelRun0_B
  dsimp only
  sl_unfold_run_names
  simp only [load_whole, pay60_up, pay62_up, pay63_up, pay64_up, pay65_up, pay66_up, pay67_up, pay68_up, pay69_up, pay70_up, pay71_up, pay81_up, pay84_up, pay88_up, pay89_up, pay90_up, pay91_up, trips_one, trips_two]
  rw [pay73_up, pay74_up, pay75_up, pay76_up, pay82_up]
  have L := loop_at Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (iota .tc S1024x128 32 [1] iota_S1024x128_d1_w32) (up (φ := .bf16) (half 1 DO)) (up (φ := .bf16) fun _ _ => 0) (up (φ := .f32) fun x l => if l.val = 3 then 0 - delta 1 DO O x else 0) (k0_pay83 (iota .tc S1024x128 32 [1] iota_S1024x128_d1_w32)) (FloatOps.ofBits .f32 0#32) (up (φ := .f32) fun _ _ => 0) (harg3.unread (up (φ := .bf16) K)) (harg4.unread (up (φ := .bf16) V)) (harg5.unread (up (φ := .bf16) KA)) (flip (half 0 Q)) (flip (half 1 Q)) (flip (half 0 DO)) (flip (half 1 DO)) (qext 0 Q LA) (doext 0 DO O) (qext 1 Q LA) (doext 1 DO O) K V KA (pay85_up _ _) pay86_up (harg3.read_unread _) (harg4.read_unread _) (harg5.read_unread _) (harg12.unread (up5 C)) (harg13.unread (up3 D)) (harg14.unread (up3 E)) C D E (harg12.read_unread _) (harg13.read_unread _) (harg14.read_unread _) (trips_le i) (i 1).val (Nat.le_of_eq (trips_eq i).symm)
  generalize st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (iota .tc S1024x128 32 [1] iota_S1024x128_d1_w32) (up (φ := .bf16) (half 1 DO)) (up (φ := .bf16) (flip (half 0 Q))) (up (φ := .bf16) (flip (half 1 Q))) (up (φ := .bf16) (flip (half 0 DO))) (up (φ := .bf16) (flip (half 1 DO))) (up (φ := .bf16) (qext 0 Q LA)) (up (φ := .bf16) (doext 0 DO O)) (up (φ := .bf16) (qext 1 Q LA)) (up (φ := .bf16) fun _ _ => 0) (up (φ := .f32) fun x l => if l.val = 3 then 0 - delta 1 DO O x else 0) (k0_pay83 (iota .tc S1024x128 32 [1] iota_S1024x128_d1_w32)) (FloatOps.ofBits .f32 0#32) (up (φ := .f32) fun _ _ => 0) (harg3.unread (up (φ := .bf16) K)) (harg4.unread (up (φ := .bf16) V)) (harg5.unread (up (φ := .bf16) KA)) (harg12.unread (up5 C)) (harg13.unread (up3 D)) (harg14.unread (up3 E)) ((up (φ := .f32) fun _ _ => 0), (up (φ := .f32) fun _ _ => 0), (up (φ := .f32) fun _ _ => 0), (up (φ := .f32) fun _ _ => 0)) (i 1).val = st at L ⊢
  obtain ⟨acc, L12, L13, L14⟩ := st
  obtain ⟨hc, g12, g13, g14⟩ := L
  dsimp only at hc g12 g13 g14 ⊢
  subst hc
  rw [st_k0_t2.eq_1]
  dsimp only [List.nil_append]
  have e3 : k0_pay94 (View.readAt (Elt Ideal) arg3.view (Rect.unit (s := S8192x128) (k0_off9 i) ![1024, 128] (k0_off9_inb i)).toLoadRect (harg3.unread (up (φ := .bf16) K))) = up (φ := .bf16) (rows K j) := by
    unfold k0_pay94
    exact load_rows arg3.view _ K (harg3.read_unread _) j (k0_off9_inb i) ((k0_off9_eq i).trans (by rw [hj])) _
  have e4 : k0_pay95 (View.readAt (Elt Ideal) arg4.view (Rect.unit (s := S8192x128) (k0_off9 i) ![1024, 128] (k0_off9_inb i)).toLoadRect (harg4.unread (up (φ := .bf16) V))) = up (φ := .bf16) (rows V j) := by
    unfold k0_pay95
    exact load_rows arg4.view _ V (harg4.read_unread _) j (k0_off9_inb i) ((k0_off9_eq i).trans (by rw [hj])) _
  have e5 := load_rows arg5.view (harg5.unread (up (φ := .bf16) KA)) KA (harg5.read_unread (Val := Elt Ideal) (up (φ := .bf16) KA)) j (k0_off9_inb i) ((k0_off9_eq i).trans (by rw [hj])) shapeCasts_S1024x128_S1024x128
  rw [← hj] at g12 g13 g14
  try rw [← hj]
  rw [e3, e4, pay85_up, pay86_up, pay106_up _ _ _ _ _ _ e5, pay104_up _ _ _ _ _ _ e5, pay110_up]
  rw [cov_second arg12.view (harg12.unread (up5 C))]
  rw [cov_second arg12.view (harg12.unread (up5 C))]
  have g1 := store_dc arg12.view _ _ _ g12 0 j (k0_off10_inb i) ((k0_off10_eq i).trans (by rw [hj]; rfl)) _ _ (pay102_up (qext 0 Q LA) (doext 0 DO O) K V KA j e5 _ (load_dc arg12.view _ _ g12 0 j (k0_off10_inb i) ((k0_off10_eq i).trans (by rw [hj]; rfl)) shapeCasts_S1x1x1x1x1024_S1x1024))
  have g2 := store_dc arg12.view _ _ _ g1 1 j (k0_off11_inb i) ((k0_off11_eq i).trans (by rw [hj]; rfl)) _ _ (pay108_up (dsD (qext 1 Q LA) (doext 1 DO O) K V KA j) _ (load_dc arg12.view _ _ g1 1 j (k0_off11_inb i) ((k0_off11_eq i).trans (by rw [hj]; rfl)) shapeCasts_S1x1x1x1x1024_S1x1024))
  have g3 := store_dc arg12.view _ _ _ g2 0 j (k0_off10_inb i) ((k0_off10_eq i).trans (by rw [hj]; rfl)) _ _ (pay114_up (addR (sumR (dsAt (qext 0 Q LA) (doext 0 DO O) K V KA) j.val) (dsD (qext 0 Q LA) (doext 0 DO O) K V KA j)) _ (load_dc arg12.view _ _ g2 0 j (k0_off10_inb i) ((k0_off10_eq i).trans (by rw [hj]; rfl)) shapeCasts_S1x1x1x1x1024_S1x1024))
  exact store_dc arg12.view _ _ _ g3 1 j (k0_off11_inb i) ((k0_off11_eq i).trans (by rw [hj]; rfl)) _ _ (pay115_up (addR (sumR (dsAt (qext 1 Q LA) (doext 1 DO O) K V KA) j.val) (dsD (qext 1 Q LA) (doext 1 DO O) K V KA j)) _ (load_dc arg12.view _ _ g3 1 j (k0_off11_inb i) ((k0_off11_eq i).trans (by rw [hj]; rfl)) shapeCasts_S1x1x1x1x1024_S1x1024))

end Cert.Fox

end
-- ==== Proof.CaseC.lean ====
/-
  The last block of queries of a pair of heads, which also writes the gradients of the keys and the values.
-/
module

public import proofs.«01_k».proof.Proof.Slots

@[expose] public section

set_option maxRecDepth 16384

noncomputable section

namespace Cert.Fox

open Idealize.ShloMosaic Idealize.ShloMosaic.TcCoe Cert.KernelIdeal Cert.KernelIdeal.Gen

set_option maxHeartbeats 4000000 in
theorem s0_C (c : Dev nD) (i : grid0.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S1x2x8x1x1024 .f32) (harg12 : arg12.IsWhole) (arg13 : Memref sig .tc .vmem S8x128x1024 .f32) (harg13 : arg13.IsWhole) (arg14 : Memref sig .tc .vmem S8x128x1024 .f32) (harg14 : arg14.IsWhole) (hc0 : ¬cond0_0 i) (hc1 : cond0_1 i) (Q O LA DO : Fin 1024 → Fin 128 → ℝ) (K V KA : Fin 8192 → Fin 128 → ℝ) (C : Fin 2 → Fin 8 → Fin 1024 → ℝ) (D E : Fin 8 → Fin 128 → Fin 1024 → ℝ) (j : Fin 8) (hj : j.val = (i 1).val) :
    sout0_C_0 (F := Ideal) c i arg2 harg2 arg3 harg3 arg4 harg4 arg5 harg5 arg6 harg6 arg7 harg7 arg8 harg8 arg9 harg9 arg10 harg10 arg11 harg11 arg12 harg12 arg13 harg13 arg14 harg14 hc0 hc1 (up (φ := .bf16) Q) (up (φ := .bf16) K) (up (φ := .bf16) V) (up (φ := .bf16) KA) (up (φ := .bf16) O) (up (φ := .bf16) LA) (up (φ := .bf16) DO) (up5 C) (up3 D) (up3 E)
      = up3 (stepT D (flip (half 0 Q)) (flip (half 1 Q)) (dsAt (qext 0 Q LA) (doext 0 DO O) K V KA) (dsAt (qext 1 Q LA) (doext 1 DO O) K V KA) (dsD (qext 0 Q LA) (doext 0 DO O) K V KA j) (dsD (qext 1 Q LA) (doext 1 DO O) K V KA j) j) := by
  unfold sout0_C_0 kernelRun0_C
  dsimp only
  sl_unfold_run_names
  simp only [load_whole, pay60_up, pay62_up, pay63_up, pay64_up, pay65_up, pay66_up, pay67_up, pay68_up, pay69_up, pay70_up, pay71_up, pay81_up, pay84_up, pay88_up, pay89_up, pay90_up, pay91_up, trips_one, trips_two]
  rw [pay73_up, pay74_up, pay75_up, pay76_up, pay82_up]
  have L := loop_at Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (iota .tc S1024x128 32 [1] iota_S1024x128_d1_w32) (up (φ := .bf16) (half 1 DO)) (up (φ := .bf16) fun _ _ => 0) (up (φ := .f32) fun x l => if l.val = 3 then 0 - delta 1 DO O x else 0) (k0_pay83 (iota .tc S1024x128 32 [1] iota_S1024x128_d1_w32)) (FloatOps.ofBits .f32 0#32) (up (φ := .f32) fun _ _ => 0) (harg3.unread (up (φ := .bf16) K)) (harg4.unread (up (φ := .bf16) V)) (harg5.unread (up (φ := .bf16) KA)) (flip (half 0 Q)) (flip (half 1 Q)) (flip (half 0 DO)) (flip (half 1 DO)) (qext 0 Q LA) (doext 0 DO O) (qext 1 Q LA) (doext 1 DO O) K V KA (pay85_up _ _) pay86_up (harg3.read_unread _) (harg4.read_unread _) (harg5.read_unread _) (harg12.unread (up5 C)) (harg13.unread (up3 D)) (harg14.unread (up3 E)) C D E (harg12.read_unread _) (harg13.read_unread _) (harg14.read_unread _) (trips_le i) (i 1).val (Nat.le_of_eq (trips_eq i).symm)
  generalize st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (iota .tc S1024x128 32 [1] iota_S1024x128_d1_w32) (up (φ := .bf16) (half 1 DO)) (up (φ := .bf16) (flip (half 0 Q))) (up (φ := .bf16) (flip (half 1 Q))) (up (φ := .bf16) (flip (half 0 DO))) (up (φ := .bf16) (flip (half 1 DO))) (up (φ := .bf16) (qext 0 Q LA)) (up (φ := .bf16) (doext 0 DO O)) (up (φ := .bf16) (qext 1 Q LA)) (up (φ := .bf16) fun _ _ => 0) (up (φ := .f32) fun x l => if l.val = 3 then 0 - delta 1 DO O x else 0) (k0_pay83 (iota .tc S1024x128 32 [1] iota_S1024x128_d1_w32)) (FloatOps.ofBits .f32 0#32) (up (φ := .f32) fun _ _ => 0) (harg3.unread (up (φ := .bf16) K)) (harg4.unread (up (φ := .bf16) V)) (harg5.unread (up (φ := .bf16) KA)) (harg12.unread (up5 C)) (harg13.unread (up3 D)) (harg14.unread (up3 E)) ((up (φ := .f32) fun _ _ => 0), (up (φ := .f32) fun _ _ => 0), (up (φ := .f32) fun _ _ => 0), (up (φ := .f32) fun _ _ => 0)) (i 1).val = st at L ⊢
  obtain ⟨acc, L12, L13, L14⟩ := st
  obtain ⟨hc, g12, g13, g14⟩ := L
  dsimp only at hc g12 g13 g14 ⊢
  subst hc
  rw [st_k0_t2.eq_1]
  dsimp only [List.nil_append]
  have e3 : k0_pay94 (View.readAt (Elt Ideal) arg3.view (Rect.unit (s := S8192x128) (k0_off9 i) ![1024, 128] (k0_off9_inb i)).toLoadRect (harg3.unread (up (φ := .bf16) K))) = up (φ := .bf16) (rows K j) := by
    unfold k0_pay94
    exact load_rows arg3.view _ K (harg3.read_unread _) j (k0_off9_inb i) ((k0_off9_eq i).trans (by rw [hj])) _
  have e4 : k0_pay95 (View.readAt (Elt Ideal) arg4.view (Rect.unit (s := S8192x128) (k0_off9 i) ![1024, 128] (k0_off9_inb i)).toLoadRect (harg4.unread (up (φ := .bf16) V))) = up (φ := .bf16) (rows V j) := by
    unfold k0_pay95
    exact load_rows arg4.view _ V (harg4.read_unread _) j (k0_off9_inb i) ((k0_off9_eq i).trans (by rw [hj])) _
  have e5 := load_rows arg5.view (harg5.unread (up (φ := .bf16) KA)) KA (harg5.read_unread (Val := Elt Ideal) (up (φ := .bf16) KA)) j (k0_off9_inb i) ((k0_off9_eq i).trans (by rw [hj])) shapeCasts_S1024x128_S1024x128
  rw [← hj] at g12 g13 g14
  try rw [← hj]
  rw [e3, e4, pay85_up, pay86_up, pay100_up _ _ _ _ _ _ e5, pay107_up _ _ _ _ _ _ e5]
  refine store_slot arg13.view _ _ _ g13 j (k0_off12_inb i) ((k0_off12_eq i).trans (by rw [hj])) _ _ ?_
  intro x y
  exact pay111_up _ _ _ _ _ (load_slot arg13.view _ _ g13 j (k0_off12_inb i) ((k0_off12_eq i).trans (by rw [hj])) shapeCasts_S1x128x1024_S128x1024) x y

set_option maxHeartbeats 4000000 in
theorem s1_C (c : Dev nD) (i : grid0.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S1x2x8x1x1024 .f32) (harg12 : arg12.IsWhole) (arg13 : Memref sig .tc .vmem S8x128x1024 .f32) (harg13 : arg13.IsWhole) (arg14 : Memref sig .tc .vmem S8x128x1024 .f32) (harg14 : arg14.IsWhole) (hc0 : ¬cond0_0 i) (hc1 : cond0_1 i) (Q O LA DO : Fin 1024 → Fin 128 → ℝ) (K V KA : Fin 8192 → Fin 128 → ℝ) (C : Fin 2 → Fin 8 → Fin 1024 → ℝ) (D E : Fin 8 → Fin 128 → Fin 1024 → ℝ) (j : Fin 8) (hj : j.val = (i 1).val) :
    sout0_C_1 (F := Ideal) c i arg2 harg2 arg3 harg3 arg4 harg4 arg5 harg5 arg6 harg6 arg7 harg7 arg8 harg8 arg9 harg9 arg10 harg10 arg11 harg11 arg12 harg12 arg13 harg13 arg14 harg14 hc0 hc1 (up (φ := .bf16) Q) (up (φ := .bf16) K) (up (φ := .bf16) V) (up (φ := .bf16) KA) (up (φ := .bf16) O) (up (φ := .bf16) LA) (up (φ := .bf16) DO) (up5 C) (up3 D) (up3 E)
      = up3 (stepT E (flip (half 0 DO)) (flip (half 1 DO)) (probAt (qext 0 Q LA) K KA) (probAt (qext 1 Q LA) K KA) (probD (qext 0 Q LA) K KA j) (probD (qext 1 Q LA) K KA j) j) := by
  unfold sout0_C_1 kernelRun0_C
  dsimp only
  sl_unfold_run_names
  simp only [load_whole, pay60_up, pay62_up, pay63_up, pay64_up, pay65_up, pay66_up, pay67_up, pay68_up, pay69_up, pay70_up, pay71_up, pay81_up, pay84_up, pay88_up, pay89_up, pay90_up, pay91_up, trips_one, trips_two]
  rw [pay73_up, pay74_up, pay75_up, pay76_up, pay82_up]
  have L := loop_at Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (iota .tc S1024x128 32 [1] iota_S1024x128_d1_w32) (up (φ := .bf16) (half 1 DO)) (up (φ := .bf16) fun _ _ => 0) (up (φ := .f32) fun x l => if l.val = 3 then 0 - delta 1 DO O x else 0) (k0_pay83 (iota .tc S1024x128 32 [1] iota_S1024x128_d1_w32)) (FloatOps.ofBits .f32 0#32) (up (φ := .f32) fun _ _ => 0) (harg3.unread (up (φ := .bf16) K)) (harg4.unread (up (φ := .bf16) V)) (harg5.unread (up (φ := .bf16) KA)) (flip (half 0 Q)) (flip (half 1 Q)) (flip (half 0 DO)) (flip (half 1 DO)) (qext 0 Q LA) (doext 0 DO O) (qext 1 Q LA) (doext 1 DO O) K V KA (pay85_up _ _) pay86_up (harg3.read_unread _) (harg4.read_unread _) (harg5.read_unread _) (harg12.unread (up5 C)) (harg13.unread (up3 D)) (harg14.unread (up3 E)) C D E (harg12.read_unread _) (harg13.read_unread _) (harg14.read_unread _) (trips_le i) (i 1).val (Nat.le_of_eq (trips_eq i).symm)
  generalize st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (iota .tc S1024x128 32 [1] iota_S1024x128_d1_w32) (up (φ := .bf16) (half 1 DO)) (up (φ := .bf16) (flip (half 0 Q))) (up (φ := .bf16) (flip (half 1 Q))) (up (φ := .bf16) (flip (half 0 DO))) (up (φ := .bf16) (flip (half 1 DO))) (up (φ := .bf16) (qext 0 Q LA)) (up (φ := .bf16) (doext 0 DO O)) (up (φ := .bf16) (qext 1 Q LA)) (up (φ := .bf16) fun _ _ => 0) (up (φ := .f32) fun x l => if l.val = 3 then 0 - delta 1 DO O x else 0) (k0_pay83 (iota .tc S1024x128 32 [1] iota_S1024x128_d1_w32)) (FloatOps.ofBits .f32 0#32) (up (φ := .f32) fun _ _ => 0) (harg3.unread (up (φ := .bf16) K)) (harg4.unread (up (φ := .bf16) V)) (harg5.unread (up (φ := .bf16) KA)) (harg12.unread (up5 C)) (harg13.unread (up3 D)) (harg14.unread (up3 E)) ((up (φ := .f32) fun _ _ => 0), (up (φ := .f32) fun _ _ => 0), (up (φ := .f32) fun _ _ => 0), (up (φ := .f32) fun _ _ => 0)) (i 1).val = st at L ⊢
  obtain ⟨acc, L12, L13, L14⟩ := st
  obtain ⟨hc, g12, g13, g14⟩ := L
  dsimp only at hc g12 g13 g14 ⊢
  subst hc
  rw [st_k0_t2.eq_1]
  dsimp only [List.nil_append]
  have e3 : k0_pay94 (View.readAt (Elt Ideal) arg3.view (Rect.unit (s := S8192x128) (k0_off9 i) ![1024, 128] (k0_off9_inb i)).toLoadRect (harg3.unread (up (φ := .bf16) K))) = up (φ := .bf16) (rows K j) := by
    unfold k0_pay94
    exact load_rows arg3.view _ K (harg3.read_unread _) j (k0_off9_inb i) ((k0_off9_eq i).trans (by rw [hj])) _
  have e4 : k0_pay95 (View.readAt (Elt Ideal) arg4.view (Rect.unit (s := S8192x128) (k0_off9 i) ![1024, 128] (k0_off9_inb i)).toLoadRect (harg4.unread (up (φ := .bf16) V))) = up (φ := .bf16) (rows V j) := by
    unfold k0_pay95
    exact load_rows arg4.view _ V (harg4.read_unread _) j (k0_off9_inb i) ((k0_off9_eq i).trans (by rw [hj])) _
  have e5 := load_rows arg5.view (harg5.unread (up (φ := .bf16) KA)) KA (harg5.read_unread (Val := Elt Ideal) (up (φ := .bf16) KA)) j (k0_off9_inb i) ((k0_off9_eq i).trans (by rw [hj])) shapeCasts_S1024x128_S1024x128
  rw [← hj] at g12 g13 g14
  try rw [← hj]
  rw [e3, pay101_up _ _ _ _ e5, pay105_up _ _ _ _ e5, pay112_up _ _ _ _ _ (load_slot arg14.view _ _ g14 j (k0_off12_inb i) ((k0_off12_eq i).trans (by rw [hj])) shapeCasts_S1x128x1024_S128x1024)]
  refine store_slot arg14.view _ _ _ g14 j (k0_off12_inb i) ((k0_off12_eq i).trans (by rw [hj])) _ _ ?_
  intro x y
  exact pay113_up _ x y

set_option maxHeartbeats 4000000 in
theorem dq_C (c : Dev nD) (i : grid0.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S1x2x8x1x1024 .f32) (harg12 : arg12.IsWhole) (arg13 : Memref sig .tc .vmem S8x128x1024 .f32) (harg13 : arg13.IsWhole) (arg14 : Memref sig .tc .vmem S8x128x1024 .f32) (harg14 : arg14.IsWhole) (hc0 : ¬cond0_0 i) (hc1 : cond0_1 i) (Q O LA DO : Fin 1024 → Fin 128 → ℝ) (K V KA : Fin 8192 → Fin 128 → ℝ) (C : Fin 2 → Fin 8 → Fin 1024 → ℝ) (D E : Fin 8 → Fin 128 → Fin 1024 → ℝ) (j : Fin 8) (hj : j.val = (i 1).val) :
    out0_C_7 (F := Ideal) c i arg2 harg2 arg3 harg3 arg4 harg4 arg5 harg5 arg6 harg6 arg7 harg7 arg8 harg8 arg9 harg9 arg10 harg10 arg11 harg11 arg12 harg12 arg13 harg13 arg14 harg14 hc0 hc1 (up (φ := .bf16) Q) (up (φ := .bf16) K) (up (φ := .bf16) V) (up (φ := .bf16) KA) (up (φ := .bf16) O) (up (φ := .bf16) LA) (up (φ := .bf16) DO) (up5 C) (up3 D) (up3 E)
      = up (φ := .bf16) (stepQ (dsAt (qext 0 Q LA) (doext 0 DO O) K V KA) (dsAt (qext 1 Q LA) (doext 1 DO O) K V KA) (dsD (qext 0 Q LA) (doext 0 DO O) K V KA j) (dsD (qext 1 Q LA) (doext 1 DO O) K V KA j) K j) := by
  unfold out0_C_7 kernelRun0_C
  dsimp only
  sl_unfold_run_names
  simp only [load_whole, pay60_up, pay62_up, pay63_up, pay64_up, pay65_up, pay66_up, pay67_up, pay68_up, pay69_up, pay70_up, pay71_up, pay81_up, pay84_up, pay88_up, pay89_up, pay90_up, pay91_up, trips_one, trips_two]
  rw [pay73_up, pay74_up, pay75_up, pay76_up, pay82_up]
  have L := loop_at Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (iota .tc S1024x128 32 [1] iota_S1024x128_d1_w32) (up (φ := .bf16) (half 1 DO)) (up (φ := .bf16) fun _ _ => 0) (up (φ := .f32) fun x l => if l.val = 3 then 0 - delta 1 DO O x else 0) (k0_pay83 (iota .tc S1024x128 32 [1] iota_S1024x128_d1_w32)) (FloatOps.ofBits .f32 0#32) (up (φ := .f32) fun _ _ => 0) (harg3.unread (up (φ := .bf16) K)) (harg4.unread (up (φ := .bf16) V)) (harg5.unread (up (φ := .bf16) KA)) (flip (half 0 Q)) (flip (half 1 Q)) (flip (half 0 DO)) (flip (half 1 DO)) (qext 0 Q LA) (doext 0 DO O) (qext 1 Q LA) (doext 1 DO O) K V KA (pay85_up _ _) pay86_up (harg3.read_unread _) (harg4.read_unread _) (harg5.read_unread _) (harg12.unread (up5 C)) (harg13.unread (up3 D)) (harg14.unread (up3 E)) C D E (harg12.read_unread _) (harg13.read_unread _) (harg14.read_unread _) (trips_le i) (i 1).val (Nat.le_of_eq (trips_eq i).symm)
  generalize st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (iota .tc S1024x128 32 [1] iota_S1024x128_d1_w32) (up (φ := .bf16) (half 1 DO)) (up (φ := .bf16) (flip (half 0 Q))) (up (φ := .bf16) (flip (half 1 Q))) (up (φ := .bf16) (flip (half 0 DO))) (up (φ := .bf16) (flip (half 1 DO))) (up (φ := .bf16) (qext 0 Q LA)) (up (φ := .bf16) (doext 0 DO O)) (up (φ := .bf16) (qext 1 Q LA)) (up (φ := .bf16) fun _ _ => 0) (up (φ := .f32) fun x l => if l.val = 3 then 0 - delta 1 DO O x else 0) (k0_pay83 (iota .tc S1024x128 32 [1] iota_S1024x128_d1_w32)) (FloatOps.ofBits .f32 0#32) (up (φ := .f32) fun _ _ => 0) (harg3.unread (up (φ := .bf16) K)) (harg4.unread (up (φ := .bf16) V)) (harg5.unread (up (φ := .bf16) KA)) (harg12.unread (up5 C)) (harg13.unread (up3 D)) (harg14.unread (up3 E)) ((up (φ := .f32) fun _ _ => 0), (up (φ := .f32) fun _ _ => 0), (up (φ := .f32) fun _ _ => 0), (up (φ := .f32) fun _ _ => 0)) (i 1).val = st at L ⊢
  obtain ⟨acc, L12, L13, L14⟩ := st
  obtain ⟨hc, g12, g13, g14⟩ := L
  dsimp only at hc g12 g13 g14 ⊢
  subst hc
  rw [st_k0_t2.eq_1]
  dsimp only [List.nil_append]
  have e3 : k0_pay94 (View.readAt (Elt Ideal) arg3.view (Rect.unit (s := S8192x128) (k0_off9 i) ![1024, 128] (k0_off9_inb i)).toLoadRect (harg3.unread (up (φ := .bf16) K))) = up (φ := .bf16) (rows K j) := by
    unfold k0_pay94
    exact load_rows arg3.view _ K (harg3.read_unread _) j (k0_off9_inb i) ((k0_off9_eq i).trans (by rw [hj])) _
  have e4 : k0_pay95 (View.readAt (Elt Ideal) arg4.view (Rect.unit (s := S8192x128) (k0_off9 i) ![1024, 128] (k0_off9_inb i)).toLoadRect (harg4.unread (up (φ := .bf16) V))) = up (φ := .bf16) (rows V j) := by
    unfold k0_pay95
    exact load_rows arg4.view _ V (harg4.read_unread _) j (k0_off9_inb i) ((k0_off9_eq i).trans (by rw [hj])) _
  have e5 := load_rows arg5.view (harg5.unread (up (φ := .bf16) KA)) KA (harg5.read_unread (Val := Elt Ideal) (up (φ := .bf16) KA)) j (k0_off9_inb i) ((k0_off9_eq i).trans (by rw [hj])) shapeCasts_S1024x128_S1024x128
  rw [← hj] at g12 g13 g14
  try rw [← hj]
  rw [e3, e4, pay85_up, pay86_up, pay103_up _ _ _ _ _ _ e5, pay106_up _ _ _ _ _ _ e5, pay109_up, pay116_up]
  exact store_whole _ _ _ _ _

set_option maxHeartbeats 4000000 in
theorem dc_C (c : Dev nD) (i : grid0.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S1x2x8x1x1024 .f32) (harg12 : arg12.IsWhole) (arg13 : Memref sig .tc .vmem S8x128x1024 .f32) (harg13 : arg13.IsWhole) (arg14 : Memref sig .tc .vmem S8x128x1024 .f32) (harg14 : arg14.IsWhole) (hc0 : ¬cond0_0 i) (hc1 : cond0_1 i) (Q O LA DO : Fin 1024 → Fin 128 → ℝ) (K V KA : Fin 8192 → Fin 128 → ℝ) (C : Fin 2 → Fin 8 → Fin 1024 → ℝ) (D E : Fin 8 → Fin 128 → Fin 1024 → ℝ) (j : Fin 8) (hj : j.val = (i 1).val) :
    out0_C_10 (F := Ideal) c i arg2 harg2 arg3 harg3 arg4 harg4 arg5 harg5 arg6 harg6 arg7 harg7 arg8 harg8 arg9 harg9 arg10 harg10 arg11 harg11 arg12 harg12 arg13 harg13 arg14 harg14 hc0 hc1 (up (φ := .bf16) Q) (up (φ := .bf16) K) (up (φ := .bf16) V) (up (φ := .bf16) KA) (up (φ := .bf16) O) (up (φ := .bf16) LA) (up (φ := .bf16) DO) (up5 C) (up3 D) (up3 E)
      = up5 (stepC C (dsAt (qext 0 Q LA) (doext 0 DO O) K V KA) (dsAt (qext 1 Q LA) (doext 1 DO O) K V KA) (dsD (qext 0 Q LA) (doext 0 DO O) K V KA j) (dsD (qext 1 Q LA) (doext 1 DO O) K V KA j) j) := by
  unfold out0_C_10 kernelRun0_C
  dsimp only
  sl_unfold_run_names
  simp only [load_whole, pay60_up, pay62_up, pay63_up, pay64_up, pay65_up, pay66_up, pay67_up, pay68_up, pay69_up, pay70_up, pay71_up, pay81_up, pay84_up, pay88_up, pay89_up, pay90_up, pay91_up, trips_one, trips_two]
  rw [pay73_up, pay74_up, pay75_up, pay76_up, pay82_up]
  have L := loop_at Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (iota .tc S1024x128 32 [1] iota_S1024x128_d1_w32) (up (φ := .bf16) (half 1 DO)) (up (φ := .bf16) fun _ _ => 0) (up (φ := .f32) fun x l => if l.val = 3 then 0 - delta 1 DO O x else 0) (k0_pay83 (iota .tc S1024x128 32 [1] iota_S1024x128_d1_w32)) (FloatOps.ofBits .f32 0#32) (up (φ := .f32) fun _ _ => 0) (harg3.unread (up (φ := .bf16) K)) (harg4.unread (up (φ := .bf16) V)) (harg5.unread (up (φ := .bf16) KA)) (flip (half 0 Q)) (flip (half 1 Q)) (flip (half 0 DO)) (flip (half 1 DO)) (qext 0 Q LA) (doext 0 DO O) (qext 1 Q LA) (doext 1 DO O) K V KA (pay85_up _ _) pay86_up (harg3.read_unread _) (harg4.read_unread _) (harg5.read_unread _) (harg12.unread (up5 C)) (harg13.unread (up3 D)) (harg14.unread (up3 E)) C D E (harg12.read_unread _) (harg13.read_unread _) (harg14.read_unread _) (trips_le i) (i 1).val (Nat.le_of_eq (trips_eq i).symm)
  generalize st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (iota .tc S1024x128 32 [1] iota_S1024x128_d1_w32) (up (φ := .bf16) (half 1 DO)) (up (φ := .bf16) (flip (half 0 Q))) (up (φ := .bf16) (flip (half 1 Q))) (up (φ := .bf16) (flip (half 0 DO))) (up (φ := .bf16) (flip (half 1 DO))) (up (φ := .bf16) (qext 0 Q LA)) (up (φ := .bf16) (doext 0 DO O)) (up (φ := .bf16) (qext 1 Q LA)) (up (φ := .bf16) fun _ _ => 0) (up (φ := .f32) fun x l => if l.val = 3 then 0 - delta 1 DO O x else 0) (k0_pay83 (iota .tc S1024x128 32 [1] iota_S1024x128_d1_w32)) (FloatOps.ofBits .f32 0#32) (up (φ := .f32) fun _ _ => 0) (harg3.unread (up (φ := .bf16) K)) (harg4.unread (up (φ := .bf16) V)) (harg5.unread (up (φ := .bf16) KA)) (harg12.unread (up5 C)) (harg13.unread (up3 D)) (harg14.unread (up3 E)) ((up (φ := .f32) fun _ _ => 0), (up (φ := .f32) fun _ _ => 0), (up (φ := .f32) fun _ _ => 0), (up (φ := .f32) fun _ _ => 0)) (i 1).val = st at L ⊢
  obtain ⟨acc, L12, L13, L14⟩ := st
  obtain ⟨hc, g12, g13, g14⟩ := L
  dsimp only at hc g12 g13 g14 ⊢
  subst hc
  rw [st_k0_t2.eq_1]
  dsimp only [List.nil_append]
  have e3 : k0_pay94 (View.readAt (Elt Ideal) arg3.view (Rect.unit (s := S8192x128) (k0_off9 i) ![1024, 128] (k0_off9_inb i)).toLoadRect (harg3.unread (up (φ := .bf16) K))) = up (φ := .bf16) (rows K j) := by
    unfold k0_pay94
    exact load_rows arg3.view _ K (harg3.read_unread _) j (k0_off9_inb i) ((k0_off9_eq i).trans (by rw [hj])) _
  have e4 : k0_pay95 (View.readAt (Elt Ideal) arg4.view (Rect.unit (s := S8192x128) (k0_off9 i) ![1024, 128] (k0_off9_inb i)).toLoadRect (harg4.unread (up (φ := .bf16) V))) = up (φ := .bf16) (rows V j) := by
    unfold k0_pay95
    exact load_rows arg4.view _ V (harg4.read_unread _) j (k0_off9_inb i) ((k0_off9_eq i).trans (by rw [hj])) _
  have e5 := load_rows arg5.view (harg5.unread (up (φ := .bf16) KA)) KA (harg5.read_unread (Val := Elt Ideal) (up (φ := .bf16) KA)) j (k0_off9_inb i) ((k0_off9_eq i).trans (by rw [hj])) shapeCasts_S1024x128_S1024x128
  rw [← hj] at g12 g13 g14
  try rw [← hj]
  rw [e3, e4, pay85_up, pay86_up, pay106_up _ _ _ _ _ _ e5, pay104_up _ _ _ _ _ _ e5, pay110_up]
  rw [cov_second arg12.view (harg12.unread (up5 C))]
  rw [cov_second arg12.view (harg12.unread (up5 C))]
  have g1 := store_dc arg12.view _ _ _ g12 0 j (k0_off10_inb i) ((k0_off10_eq i).trans (by rw [hj]; rfl)) _ _ (pay102_up (qext 0 Q LA) (doext 0 DO O) K V KA j e5 _ (load_dc arg12.view _ _ g12 0 j (k0_off10_inb i) ((k0_off10_eq i).trans (by rw [hj]; rfl)) shapeCasts_S1x1x1x1x1024_S1x1024))
  have g2 := store_dc arg12.view _ _ _ g1 1 j (k0_off11_inb i) ((k0_off11_eq i).trans (by rw [hj]; rfl)) _ _ (pay108_up (dsD (qext 1 Q LA) (doext 1 DO O) K V KA j) _ (load_dc arg12.view _ _ g1 1 j (k0_off11_inb i) ((k0_off11_eq i).trans (by rw [hj]; rfl)) shapeCasts_S1x1x1x1x1024_S1x1024))
  have g3 := store_dc arg12.view _ _ _ g2 0 j (k0_off10_inb i) ((k0_off10_eq i).trans (by rw [hj]; rfl)) _ _ (pay114_up (addR (sumR (dsAt (qext 0 Q LA) (doext 0 DO O) K V KA) j.val) (dsD (qext 0 Q LA) (doext 0 DO O) K V KA j)) _ (load_dc arg12.view _ _ g2 0 j (k0_off10_inb i) ((k0_off10_eq i).trans (by rw [hj]; rfl)) shapeCasts_S1x1x1x1x1024_S1x1024))
  exact store_dc arg12.view _ _ _ g3 1 j (k0_off11_inb i) ((k0_off11_eq i).trans (by rw [hj]; rfl)) _ _ (pay115_up (addR (sumR (dsAt (qext 1 Q LA) (doext 1 DO O) K V KA) j.val) (dsD (qext 1 Q LA) (doext 1 DO O) K V KA j)) _ (load_dc arg12.view _ _ g3 1 j (k0_off11_inb i) ((k0_off11_eq i).trans (by rw [hj]; rfl)) shapeCasts_S1x1x1x1x1024_S1x1024))

set_option maxHeartbeats 4000000 in
theorem dk_C (c : Dev nD) (i : grid0.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S1x2x8x1x1024 .f32) (harg12 : arg12.IsWhole) (arg13 : Memref sig .tc .vmem S8x128x1024 .f32) (harg13 : arg13.IsWhole) (arg14 : Memref sig .tc .vmem S8x128x1024 .f32) (harg14 : arg14.IsWhole) (hc0 : ¬cond0_0 i) (hc1 : cond0_1 i) (Q O LA DO : Fin 1024 → Fin 128 → ℝ) (K V KA : Fin 8192 → Fin 128 → ℝ) (C : Fin 2 → Fin 8 → Fin 1024 → ℝ) (D E : Fin 8 → Fin 128 → Fin 1024 → ℝ) (j : Fin 8) (hj : j.val = (i 1).val) :
    out0_C_8 (F := Ideal) c i arg2 harg2 arg3 harg3 arg4 harg4 arg5 harg5 arg6 harg6 arg7 harg7 arg8 harg8 arg9 harg9 arg10 harg10 arg11 harg11 arg12 harg12 arg13 harg13 arg14 harg14 hc0 hc1 (up (φ := .bf16) Q) (up (φ := .bf16) K) (up (φ := .bf16) V) (up (φ := .bf16) KA) (up (φ := .bf16) O) (up (φ := .bf16) LA) (up (φ := .bf16) DO) (up5 C) (up3 D) (up3 E)
      = up (φ := .bf16) (slots (stepT D (flip (half 0 Q)) (flip (half 1 Q)) (dsAt (qext 0 Q LA) (doext 0 DO O) K V KA) (dsAt (qext 1 Q LA) (doext 1 DO O) K V KA) (dsD (qext 0 Q LA) (doext 0 DO O) K V KA j) (dsD (qext 1 Q LA) (doext 1 DO O) K V KA j) j)) := by
  unfold out0_C_8 kernelRun0_C
  dsimp only
  sl_unfold_run_names
  simp only [load_whole, pay60_up, pay62_up, pay63_up, pay64_up, pay65_up, pay66_up, pay67_up, pay68_up, pay69_up, pay70_up, pay71_up, pay81_up, pay84_up, pay88_up, pay89_up, pay90_up, pay91_up, trips_one, trips_two]
  rw [pay73_up, pay74_up, pay75_up, pay76_up, pay82_up]
  have L := loop_at Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (iota .tc S1024x128 32 [1] iota_S1024x128_d1_w32) (up (φ := .bf16) (half 1 DO)) (up (φ := .bf16) fun _ _ => 0) (up (φ := .f32) fun x l => if l.val = 3 then 0 - delta 1 DO O x else 0) (k0_pay83 (iota .tc S1024x128 32 [1] iota_S1024x128_d1_w32)) (FloatOps.ofBits .f32 0#32) (up (φ := .f32) fun _ _ => 0) (harg3.unread (up (φ := .bf16) K)) (harg4.unread (up (φ := .bf16) V)) (harg5.unread (up (φ := .bf16) KA)) (flip (half 0 Q)) (flip (half 1 Q)) (flip (half 0 DO)) (flip (half 1 DO)) (qext 0 Q LA) (doext 0 DO O) (qext 1 Q LA) (doext 1 DO O) K V KA (pay85_up _ _) pay86_up (harg3.read_unread _) (harg4.read_unread _) (harg5.read_unread _) (harg12.unread (up5 C)) (harg13.unread (up3 D)) (harg14.unread (up3 E)) C D E (harg12.read_unread _) (harg13.read_unread _) (harg14.read_unread _) (trips_le i) (i 1).val (Nat.le_of_eq (trips_eq i).symm)
  generalize st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (iota .tc S1024x128 32 [1] iota_S1024x128_d1_w32) (up (φ := .bf16) (half 1 DO)) (up (φ := .bf16) (flip (half 0 Q))) (up (φ := .bf16) (flip (half 1 Q))) (up (φ := .bf16) (flip (half 0 DO))) (up (φ := .bf16) (flip (half 1 DO))) (up (φ := .bf16) (qext 0 Q LA)) (up (φ := .bf16) (doext 0 DO O)) (up (φ := .bf16) (qext 1 Q LA)) (up (φ := .bf16) fun _ _ => 0) (up (φ := .f32) fun x l => if l.val = 3 then 0 - delta 1 DO O x else 0) (k0_pay83 (iota .tc S1024x128 32 [1] iota_S1024x128_d1_w32)) (FloatOps.ofBits .f32 0#32) (up (φ := .f32) fun _ _ => 0) (harg3.unread (up (φ := .bf16) K)) (harg4.unread (up (φ := .bf16) V)) (harg5.unread (up (φ := .bf16) KA)) (harg12.unread (up5 C)) (harg13.unread (up3 D)) (harg14.unread (up3 E)) ((up (φ := .f32) fun _ _ => 0), (up (φ := .f32) fun _ _ => 0), (up (φ := .f32) fun _ _ => 0), (up (φ := .f32) fun _ _ => 0)) (i 1).val = st at L ⊢
  obtain ⟨acc, L12, L13, L14⟩ := st
  obtain ⟨hc, g12, g13, g14⟩ := L
  dsimp only at hc g12 g13 g14 ⊢
  subst hc
  rw [st_k0_t2.eq_1]
  dsimp only [List.nil_append]
  have e3 : k0_pay94 (View.readAt (Elt Ideal) arg3.view (Rect.unit (s := S8192x128) (k0_off9 i) ![1024, 128] (k0_off9_inb i)).toLoadRect (harg3.unread (up (φ := .bf16) K))) = up (φ := .bf16) (rows K j) := by
    unfold k0_pay94
    exact load_rows arg3.view _ K (harg3.read_unread _) j (k0_off9_inb i) ((k0_off9_eq i).trans (by rw [hj])) _
  have e4 : k0_pay95 (View.readAt (Elt Ideal) arg4.view (Rect.unit (s := S8192x128) (k0_off9 i) ![1024, 128] (k0_off9_inb i)).toLoadRect (harg4.unread (up (φ := .bf16) V))) = up (φ := .bf16) (rows V j) := by
    unfold k0_pay95
    exact load_rows arg4.view _ V (harg4.read_unread _) j (k0_off9_inb i) ((k0_off9_eq i).trans (by rw [hj])) _
  have e5 := load_rows arg5.view (harg5.unread (up (φ := .bf16) KA)) KA (harg5.read_unread (Val := Elt Ideal) (up (φ := .bf16) KA)) j (k0_off9_inb i) ((k0_off9_eq i).trans (by rw [hj])) shapeCasts_S1024x128_S1024x128
  rw [← hj] at g12 g13 g14
  try rw [← hj]
  rw [e3, e4, pay85_up, pay86_up, pay100_up _ _ _ _ _ _ e5, pay107_up _ _ _ _ _ _ e5]
  have gS := fun (w : (Rect.unit (s := S8x128x1024) (k0_off12 i) ![1, 128, 1024] (k0_off12_inb i)).shape.Idx → Elt Ideal .f32) hw =>
    store_slot arg13.view _ _ _ g13 j (k0_off12_inb i) ((k0_off12_eq i).trans (by rw [hj])) (addT (afterT D (flip (half 0 Q)) (flip (half 1 Q)) (dsAt (qext 0 Q LA) (doext 0 DO O) K V KA) (dsAt (qext 1 Q LA) (doext 1 DO O) K V KA) j.val j) (flip (half 0 Q)) (flip (half 1 Q)) (dsD (qext 0 Q LA) (doext 0 DO O) K V KA j) (dsD (qext 1 Q LA) (doext 1 DO O) K V KA j)) w hw
  refine holds_all _ _ _ ?_
  refine holds_next _ _ _ _ 7 (n := 7168) rfl rfl ?_ _ rfl _ (turned arg13.view _ _ (gS _ fun x y => pay111_up _ _ _ _ _ (load_slot arg13.view _ _ g13 j (k0_off12_inb i) ((k0_off12_eq i).trans (by rw [hj])) shapeCasts_S1x128x1024_S128x1024) x y) 7 _ rfl)
  refine holds_next _ _ _ _ 6 (n := 6144) rfl rfl ?_ _ rfl _ (turned arg13.view _ _ (gS _ fun x y => pay111_up _ _ _ _ _ (load_slot arg13.view _ _ g13 j (k0_off12_inb i) ((k0_off12_eq i).trans (by rw [hj])) shapeCasts_S1x128x1024_S128x1024) x y) 6 _ rfl)
  refine holds_next _ _ _ _ 5 (n := 5120) rfl rfl ?_ _ rfl _ (turned arg13.view _ _ (gS _ fun x y => pay111_up _ _ _ _ _ (load_slot arg13.view _ _ g13 j (k0_off12_inb i) ((k0_off12_eq i).trans (by rw [hj])) shapeCasts_S1x128x1024_S128x1024) x y) 5 _ rfl)
  refine holds_next _ _ _ _ 4 (n := 4096) rfl rfl ?_ _ rfl _ (turned arg13.view _ _ (gS _ fun x y => pay111_up _ _ _ _ _ (load_slot arg13.view _ _ g13 j (k0_off12_inb i) ((k0_off12_eq i).trans (by rw [hj])) shapeCasts_S1x128x1024_S128x1024) x y) 4 _ rfl)
  refine holds_next _ _ _ _ 3 (n := 3072) rfl rfl ?_ _ rfl _ (turned arg13.view _ _ (gS _ fun x y => pay111_up _ _ _ _ _ (load_slot arg13.view _ _ g13 j (k0_off12_inb i) ((k0_off12_eq i).trans (by rw [hj])) shapeCasts_S1x128x1024_S128x1024) x y) 3 _ rfl)
  refine holds_next _ _ _ _ 2 (n := 2048) rfl rfl ?_ _ rfl _ (turned arg13.view _ _ (gS _ fun x y => pay111_up _ _ _ _ _ (load_slot arg13.view _ _ g13 j (k0_off12_inb i) ((k0_off12_eq i).trans (by rw [hj])) shapeCasts_S1x128x1024_S128x1024) x y) 2 _ rfl)
  refine holds_next _ _ _ _ 1 (n := 1024) rfl rfl ?_ _ rfl _ (turned arg13.view _ _ (gS _ fun x y => pay111_up _ _ _ _ _ (load_slot arg13.view _ _ g13 j (k0_off12_inb i) ((k0_off12_eq i).trans (by rw [hj])) shapeCasts_S1x128x1024_S128x1024) x y) 1 _ rfl)
  refine holds_next _ _ _ _ 0 (n := 0) rfl rfl ?_ _ rfl _ (turned arg13.view _ _ (gS _ fun x y => pay111_up _ _ _ _ _ (load_slot arg13.view _ _ g13 j (k0_off12_inb i) ((k0_off12_eq i).trans (by rw [hj])) shapeCasts_S1x128x1024_S128x1024) x y) 0 _ rfl)
  exact holds_none _ _ _

set_option maxHeartbeats 4000000 in
theorem dv_C (c : Dev nD) (i : grid0.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S1x2x8x1x1024 .f32) (harg12 : arg12.IsWhole) (arg13 : Memref sig .tc .vmem S8x128x1024 .f32) (harg13 : arg13.IsWhole) (arg14 : Memref sig .tc .vmem S8x128x1024 .f32) (harg14 : arg14.IsWhole) (hc0 : ¬cond0_0 i) (hc1 : cond0_1 i) (Q O LA DO : Fin 1024 → Fin 128 → ℝ) (K V KA : Fin 8192 → Fin 128 → ℝ) (C : Fin 2 → Fin 8 → Fin 1024 → ℝ) (D E : Fin 8 → Fin 128 → Fin 1024 → ℝ) (j : Fin 8) (hj : j.val = (i 1).val) :
    out0_C_9 (F := Ideal) c i arg2 harg2 arg3 harg3 arg4 harg4 arg5 harg5 arg6 harg6 arg7 harg7 arg8 harg8 arg9 harg9 arg10 harg10 arg11 harg11 arg12 harg12 arg13 harg13 arg14 harg14 hc0 hc1 (up (φ := .bf16) Q) (up (φ := .bf16) K) (up (φ := .bf16) V) (up (φ := .bf16) KA) (up (φ := .bf16) O) (up (φ := .bf16) LA) (up (φ := .bf16) DO) (up5 C) (up3 D) (up3 E)
      = up (φ := .bf16) (slots (stepT E (flip (half 0 DO)) (flip (half 1 DO)) (probAt (qext 0 Q LA) K KA) (probAt (qext 1 Q LA) K KA) (probD (qext 0 Q LA) K KA j) (probD (qext 1 Q LA) K KA j) j)) := by
  unfold out0_C_9 kernelRun0_C
  dsimp only
  sl_unfold_run_names
  simp only [load_whole, pay60_up, pay62_up, pay63_up, pay64_up, pay65_up, pay66_up, pay67_up, pay68_up, pay69_up, pay70_up, pay71_up, pay81_up, pay84_up, pay88_up, pay89_up, pay90_up, pay91_up, trips_one, trips_two]
  rw [pay73_up, pay74_up, pay75_up, pay76_up, pay82_up]
  have L := loop_at Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (iota .tc S1024x128 32 [1] iota_S1024x128_d1_w32) (up (φ := .bf16) (half 1 DO)) (up (φ := .bf16) fun _ _ => 0) (up (φ := .f32) fun x l => if l.val = 3 then 0 - delta 1 DO O x else 0) (k0_pay83 (iota .tc S1024x128 32 [1] iota_S1024x128_d1_w32)) (FloatOps.ofBits .f32 0#32) (up (φ := .f32) fun _ _ => 0) (harg3.unread (up (φ := .bf16) K)) (harg4.unread (up (φ := .bf16) V)) (harg5.unread (up (φ := .bf16) KA)) (flip (half 0 Q)) (flip (half 1 Q)) (flip (half 0 DO)) (flip (half 1 DO)) (qext 0 Q LA) (doext 0 DO O) (qext 1 Q LA) (doext 1 DO O) K V KA (pay85_up _ _) pay86_up (harg3.read_unread _) (harg4.read_unread _) (harg5.read_unread _) (harg12.unread (up5 C)) (harg13.unread (up3 D)) (harg14.unread (up3 E)) C D E (harg12.read_unread _) (harg13.read_unread _) (harg14.read_unread _) (trips_le i) (i 1).val (Nat.le_of_eq (trips_eq i).symm)
  generalize st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (iota .tc S1024x128 32 [1] iota_S1024x128_d1_w32) (up (φ := .bf16) (half 1 DO)) (up (φ := .bf16) (flip (half 0 Q))) (up (φ := .bf16) (flip (half 1 Q))) (up (φ := .bf16) (flip (half 0 DO))) (up (φ := .bf16) (flip (half 1 DO))) (up (φ := .bf16) (qext 0 Q LA)) (up (φ := .bf16) (doext 0 DO O)) (up (φ := .bf16) (qext 1 Q LA)) (up (φ := .bf16) fun _ _ => 0) (up (φ := .f32) fun x l => if l.val = 3 then 0 - delta 1 DO O x else 0) (k0_pay83 (iota .tc S1024x128 32 [1] iota_S1024x128_d1_w32)) (FloatOps.ofBits .f32 0#32) (up (φ := .f32) fun _ _ => 0) (harg3.unread (up (φ := .bf16) K)) (harg4.unread (up (φ := .bf16) V)) (harg5.unread (up (φ := .bf16) KA)) (harg12.unread (up5 C)) (harg13.unread (up3 D)) (harg14.unread (up3 E)) ((up (φ := .f32) fun _ _ => 0), (up (φ := .f32) fun _ _ => 0), (up (φ := .f32) fun _ _ => 0), (up (φ := .f32) fun _ _ => 0)) (i 1).val = st at L ⊢
  obtain ⟨acc, L12, L13, L14⟩ := st
  obtain ⟨hc, g12, g13, g14⟩ := L
  dsimp only at hc g12 g13 g14 ⊢
  subst hc
  rw [st_k0_t2.eq_1]
  dsimp only [List.nil_append]
  have e3 : k0_pay94 (View.readAt (Elt Ideal) arg3.view (Rect.unit (s := S8192x128) (k0_off9 i) ![1024, 128] (k0_off9_inb i)).toLoadRect (harg3.unread (up (φ := .bf16) K))) = up (φ := .bf16) (rows K j) := by
    unfold k0_pay94
    exact load_rows arg3.view _ K (harg3.read_unread _) j (k0_off9_inb i) ((k0_off9_eq i).trans (by rw [hj])) _
  have e4 : k0_pay95 (View.readAt (Elt Ideal) arg4.view (Rect.unit (s := S8192x128) (k0_off9 i) ![1024, 128] (k0_off9_inb i)).toLoadRect (harg4.unread (up (φ := .bf16) V))) = up (φ := .bf16) (rows V j) := by
    unfold k0_pay95
    exact load_rows arg4.view _ V (harg4.read_unread _) j (k0_off9_inb i) ((k0_off9_eq i).trans (by rw [hj])) _
  have e5 := load_rows arg5.view (harg5.unread (up (φ := .bf16) KA)) KA (harg5.read_unread (Val := Elt Ideal) (up (φ := .bf16) KA)) j (k0_off9_inb i) ((k0_off9_eq i).trans (by rw [hj])) shapeCasts_S1024x128_S1024x128
  rw [← hj] at g12 g13 g14
  try rw [← hj]
  rw [e3, pay101_up _ _ _ _ e5, pay105_up _ _ _ _ e5, pay112_up _ _ _ _ _ (load_slot arg14.view _ _ g14 j (k0_off12_inb i) ((k0_off12_eq i).trans (by rw [hj])) shapeCasts_S1x128x1024_S128x1024)]
  have gS := fun (w : (Rect.unit (s := S8x128x1024) (k0_off12 i) ![1, 128, 1024] (k0_off12_inb i)).shape.Idx → Elt Ideal .f32) hw =>
    store_slot arg14.view _ _ _ g14 j (k0_off12_inb i) ((k0_off12_eq i).trans (by rw [hj])) (addT (afterT E (flip (half 0 DO)) (flip (half 1 DO)) (probAt (qext 0 Q LA) K KA) (probAt (qext 1 Q LA) K KA) j.val j) (flip (half 0 DO)) (flip (half 1 DO)) (probD (qext 0 Q LA) K KA j) (probD (qext 1 Q LA) K KA j)) w hw
  refine holds_all _ _ _ ?_
  refine holds_next _ _ _ _ 7 (n := 7168) rfl rfl ?_ _ rfl _ (turned arg14.view _ _ (gS _ fun x y => pay113_up _ x y) 7 _ rfl)
  refine holds_next _ _ _ _ 6 (n := 6144) rfl rfl ?_ _ rfl _ (turned arg14.view _ _ (gS _ fun x y => pay113_up _ x y) 6 _ rfl)
  refine holds_next _ _ _ _ 5 (n := 5120) rfl rfl ?_ _ rfl _ (turned arg14.view _ _ (gS _ fun x y => pay113_up _ x y) 5 _ rfl)
  refine holds_next _ _ _ _ 4 (n := 4096) rfl rfl ?_ _ rfl _ (turned arg14.view _ _ (gS _ fun x y => pay113_up _ x y) 4 _ rfl)
  refine holds_next _ _ _ _ 3 (n := 3072) rfl rfl ?_ _ rfl _ (turned arg14.view _ _ (gS _ fun x y => pay113_up _ x y) 3 _ rfl)
  refine holds_next _ _ _ _ 2 (n := 2048) rfl rfl ?_ _ rfl _ (turned arg14.view _ _ (gS _ fun x y => pay113_up _ x y) 2 _ rfl)
  refine holds_next _ _ _ _ 1 (n := 1024) rfl rfl ?_ _ rfl _ (turned arg14.view _ _ (gS _ fun x y => pay113_up _ x y) 1 _ rfl)
  refine holds_next _ _ _ _ 0 (n := 0) rfl rfl ?_ _ rfl _ (turned arg14.view _ _ (gS _ fun x y => pay113_up _ x y) 0 _ rfl)
  exact holds_none _ _ _

end Cert.Fox

end
-- ==== Proof.Grid.lean ====
/-
  The grid of the kernel: what its arrays hold after every point.
-/
module

public import proofs.«01_k».proof.Proof.CaseA
public import proofs.«01_k».proof.Proof.CaseB
public import proofs.«01_k».proof.Proof.CaseC
public import proofs.«01_k».proof.Proof.Gen.KernelIdeal.Value

@[expose] public section

set_option maxRecDepth 16384

noncomputable section

namespace Cert.Fox

open Idealize.ShloMosaic Idealize.ShloMosaic.TcCoe Cert.KernelIdeal Cert.KernelIdeal.Gen Cert.KernelIdeal.Value

/-- What the kernel reads for one pair of heads: the query blocks, the output blocks, the lanes of the query blocks and
    the blocks of the output's gradient; the rows of keys, of values, and the lanes of the keys. -/
structure In where
  Q : Fin 8 → Fin 1024 → Fin 128 → ℝ
  O : Fin 8 → Fin 1024 → Fin 128 → ℝ
  LA : Fin 8 → Fin 1024 → Fin 128 → ℝ
  DO : Fin 8 → Fin 1024 → Fin 128 → ℝ
  K : Fin 8192 → Fin 128 → ℝ
  V : Fin 8192 → Fin 128 → ℝ
  KA : Fin 8192 → Fin 128 → ℝ

namespace In

variable (I : In)

/-- The query rows of head `z`, lengthened. -/
abbrev A (z : Fin 2) (i : Fin 8) : Fin 1024 → Fin 256 → ℝ := qext z (I.Q i) (I.LA i)

/-- The rows of the output's gradient of head `z`, lengthened. -/
abbrev B (z : Fin 2) (i : Fin 8) : Fin 1024 → Fin 256 → ℝ := doext z (I.DO i) (I.O i)

/-- The slots of the transposed key gradients before query block `n`. -/
def dk : ℕ → Fin 8 → Fin 128 → Fin 1024 → ℝ
  | 0 => no8
  | n + 1 => if h : n < 8 then stepT (dk n) (flip (half 0 (I.Q ⟨n, h⟩))) (flip (half 1 (I.Q ⟨n, h⟩)))
      (dsAt (I.A 0 ⟨n, h⟩) (I.B 0 ⟨n, h⟩) I.K I.V I.KA) (dsAt (I.A 1 ⟨n, h⟩) (I.B 1 ⟨n, h⟩) I.K I.V I.KA)
      (dsD (I.A 0 ⟨n, h⟩) (I.B 0 ⟨n, h⟩) I.K I.V I.KA ⟨n, h⟩) (dsD (I.A 1 ⟨n, h⟩) (I.B 1 ⟨n, h⟩) I.K I.V I.KA ⟨n, h⟩) ⟨n, h⟩ else dk n

/-- The slots of the transposed value gradients before query block `n`. -/
def dv : ℕ → Fin 8 → Fin 128 → Fin 1024 → ℝ
  | 0 => no8
  | n + 1 => if h : n < 8 then stepT (dv n) (flip (half 0 (I.DO ⟨n, h⟩))) (flip (half 1 (I.DO ⟨n, h⟩)))
      (probAt (I.A 0 ⟨n, h⟩) I.K I.KA) (probAt (I.A 1 ⟨n, h⟩) I.K I.KA)
      (probD (I.A 0 ⟨n, h⟩) I.K I.KA ⟨n, h⟩) (probD (I.A 1 ⟨n, h⟩) I.K I.KA ⟨n, h⟩) ⟨n, h⟩ else dv n

/-- The rows of decay gradients before query block `n`. -/
def dc : ℕ → Fin 2 → Fin 8 → Fin 1024 → ℝ
  | 0 => no3
  | n + 1 => if h : n < 8 then stepC (dc n)
      (dsAt (I.A 0 ⟨n, h⟩) (I.B 0 ⟨n, h⟩) I.K I.V I.KA) (dsAt (I.A 1 ⟨n, h⟩) (I.B 1 ⟨n, h⟩) I.K I.V I.KA)
      (dsD (I.A 0 ⟨n, h⟩) (I.B 0 ⟨n, h⟩) I.K I.V I.KA ⟨n, h⟩) (dsD (I.A 1 ⟨n, h⟩) (I.B 1 ⟨n, h⟩) I.K I.V I.KA ⟨n, h⟩) ⟨n, h⟩ else dc n

/-- The gradient of query block `i`. -/
def dq (i : Fin 8) : Fin 1024 → Fin 128 → ℝ :=
  stepQ (dsAt (I.A 0 i) (I.B 0 i) I.K I.V I.KA) (dsAt (I.A 1 i) (I.B 1 i) I.K I.V I.KA)
    (dsD (I.A 0 i) (I.B 0 i) I.K I.V I.KA i) (dsD (I.A 1 i) (I.B 1 i) I.K I.V I.KA i) I.K i

theorem dk_succ (i : Fin 8) : I.dk (i.val + 1) = stepT (I.dk i.val) (flip (half 0 (I.Q i))) (flip (half 1 (I.Q i)))
      (dsAt (I.A 0 i) (I.B 0 i) I.K I.V I.KA) (dsAt (I.A 1 i) (I.B 1 i) I.K I.V I.KA)
      (dsD (I.A 0 i) (I.B 0 i) I.K I.V I.KA i) (dsD (I.A 1 i) (I.B 1 i) I.K I.V I.KA i) i := dif_pos i.isLt

theorem dv_succ (i : Fin 8) : I.dv (i.val + 1) = stepT (I.dv i.val) (flip (half 0 (I.DO i))) (flip (half 1 (I.DO i)))
      (probAt (I.A 0 i) I.K I.KA) (probAt (I.A 1 i) I.K I.KA)
      (probD (I.A 0 i) I.K I.KA i) (probD (I.A 1 i) I.K I.KA i) i := dif_pos i.isLt

theorem dc_succ (i : Fin 8) : I.dc (i.val + 1) = stepC (I.dc i.val)
      (dsAt (I.A 0 i) (I.B 0 i) I.K I.V I.KA) (dsAt (I.A 1 i) (I.B 1 i) I.K I.V I.KA)
      (dsD (I.A 0 i) (I.B 0 i) I.K I.V I.KA i) (dsD (I.A 1 i) (I.B 1 i) I.K I.V I.KA i) i := dif_pos i.isLt

end In

/-- The arrays one point of the grid leaves. -/
abbrev Left := Vec Ideal S1024x128 .bf16 × Vec Ideal S8192x128 .bf16 × Vec Ideal S8192x128 .bf16 × Vec Ideal S1x2x8x1x1024 .f32
  × Vec Ideal S8x128x1024 .f32 × Vec Ideal S8x128x1024 .f32

/-- What is carried on after `n` query blocks. -/
def Carried (I : In) (n : ℕ) (s : Left) : Prop :=
  s.2.2.2.1 = up5 (I.dc n) ∧ s.2.2.2.2.1 = up3 (I.dk n) ∧ s.2.2.2.2.2 = up3 (I.dv n)

/-- What point `i` of a pair of heads leaves. -/
structure After (I : In) (i : Fin 8) (s : Left) : Prop where
  q : s.1 = up (φ := .bf16) (I.dq i)
  carried : Carried I (i.val + 1) s
  k : i.val = 7 → s.2.1 = up (φ := .bf16) (slots (I.dk 8))
  v : i.val = 7 → s.2.2.1 = up (φ := .bf16) (slots (I.dv 8))

variable (m : (ℓ : Loc nD τ sig) → Buf (Elt Ideal) ℓ) (c : Dev nD)

/-- The blocks point `t` reads. -/
structure Reads (I : In) (i : Fin 8) (t : Fin cfg0.N) : Prop where
  q : (iblk m c 0 t : Vec Ideal S1024x128 .bf16) = up (φ := .bf16) (I.Q i)
  k : (iblk m c 1 t : Vec Ideal S8192x128 .bf16) = up (φ := .bf16) I.K
  v : (iblk m c 2 t : Vec Ideal S8192x128 .bf16) = up (φ := .bf16) I.V
  ka : (iblk m c 3 t : Vec Ideal S8192x128 .bf16) = up (φ := .bf16) I.KA
  o : (iblk m c 4 t : Vec Ideal S1024x128 .bf16) = up (φ := .bf16) (I.O i)
  la : (iblk m c 5 t : Vec Ideal S1024x128 .bf16) = up (φ := .bf16) (I.LA i)
  do' : (iblk m c 6 t : Vec Ideal S1024x128 .bf16) = up (φ := .bf16) (I.DO i)

theorem coord_one : ∀ t : Fin cfg0.N, ((grid0.coords t) 1).val = t.val % 8 := by decide +kernel

variable {m c} {I : In} {i : Fin 8} {t : Fin cfg0.N}

set_option maxHeartbeats 4000000 in
theorem step_first (R : Reads m c I i t) (ht : t.val % 8 = i.val) (h0 : t.val % 8 = 0) (acc : Left) :
    After I i (stAt0 m c t.val t.isLt acc) := by
  have h1 : ¬ t.val % 8 = 7 := by omega
  have hj : i.val = ((grid0.coords t) 1).val := by rw [coord_one, ht]
  have hi : i.val = 0 := by omega
  rw [stAt0_A m c t acc h0 h1, R.q, R.k, R.v, R.ka, R.o, R.la, R.do']
  have e := dq_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (I.Q i) (I.O i) (I.LA i) (I.DO i) I.K I.V I.KA i hj
  refine ⟨?_, ⟨?_, ?_, ?_⟩, fun h => by omega, fun h => by omega⟩
  · dsimp only
    exact e
  · rw [I.dc_succ, hi]
    dsimp only
    exact dc_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (I.Q i) (I.O i) (I.LA i) (I.DO i) I.K I.V I.KA i hj
  · rw [I.dk_succ, hi]
    dsimp only
    exact s0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (I.Q i) (I.O i) (I.LA i) (I.DO i) I.K I.V I.KA i hj
  · rw [I.dv_succ, hi]
    dsimp only
    exact s1_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (I.Q i) (I.O i) (I.LA i) (I.DO i) I.K I.V I.KA i hj

set_option maxHeartbeats 4000000 in
theorem step_middle (R : Reads m c I i t) (ht : t.val % 8 = i.val) (h0 : ¬ t.val % 8 = 0) (h1 : ¬ t.val % 8 = 7) (acc : Left)
    (hacc : Carried I i.val acc) : After I i (stAt0 m c t.val t.isLt acc) := by
  have hj : i.val = ((grid0.coords t) 1).val := by rw [coord_one, ht]
  obtain ⟨e1, e2, e3⟩ := hacc
  rw [stAt0_B m c t acc h0 h1, R.q, R.k, R.v, R.ka, R.o, R.la, R.do', e1, e2, e3]
  have e := dq_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (I.Q i) (I.O i) (I.LA i) (I.DO i) I.K I.V I.KA (I.dc i.val) (I.dk i.val) (I.dv i.val) i hj
  refine ⟨?_, ⟨?_, ?_, ?_⟩, fun h => by omega, fun h => by omega⟩
  · dsimp only
    exact e
  · rw [I.dc_succ]
    dsimp only
    exact dc_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (I.Q i) (I.O i) (I.LA i) (I.DO i) I.K I.V I.KA (I.dc i.val) (I.dk i.val) (I.dv i.val) i hj
  · rw [I.dk_succ]
    dsimp only
    exact s0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (I.Q i) (I.O i) (I.LA i) (I.DO i) I.K I.V I.KA (I.dc i.val) (I.dk i.val) (I.dv i.val) i hj
  · rw [I.dv_succ]
    dsimp only
    exact s1_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (I.Q i) (I.O i) (I.LA i) (I.DO i) I.K I.V I.KA (I.dc i.val) (I.dk i.val) (I.dv i.val) i hj

set_option maxHeartbeats 4000000 in
theorem step_last (R : Reads m c I i t) (ht : t.val % 8 = i.val) (h0 : ¬ t.val % 8 = 0) (h1 : t.val % 8 = 7) (acc : Left)
    (hacc : Carried I i.val acc) : After I i (stAt0 m c t.val t.isLt acc) := by
  have hj : i.val = ((grid0.coords t) 1).val := by rw [coord_one, ht]
  have hi : I.dk 8 = I.dk (i.val + 1) ∧ I.dv 8 = I.dv (i.val + 1) := by
    have : i.val + 1 = 8 := by omega
    rw [this]; exact ⟨rfl, rfl⟩
  obtain ⟨e1, e2, e3⟩ := hacc
  rw [stAt0_C m c t acc h0 h1, R.q, R.k, R.v, R.ka, R.o, R.la, R.do', e1, e2, e3]
  have e := dq_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (I.Q i) (I.O i) (I.LA i) (I.DO i) I.K I.V I.KA (I.dc i.val) (I.dk i.val) (I.dv i.val) i hj
  refine ⟨?_, ⟨?_, ?_, ?_⟩, fun _ => ?_, fun _ => ?_⟩
  · dsimp only
    exact e
  · rw [I.dc_succ]
    dsimp only
    exact dc_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (I.Q i) (I.O i) (I.LA i) (I.DO i) I.K I.V I.KA (I.dc i.val) (I.dk i.val) (I.dv i.val) i hj
  · rw [I.dk_succ]
    dsimp only
    exact s0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (I.Q i) (I.O i) (I.LA i) (I.DO i) I.K I.V I.KA (I.dc i.val) (I.dk i.val) (I.dv i.val) i hj
  · rw [I.dv_succ]
    dsimp only
    exact s1_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (I.Q i) (I.O i) (I.LA i) (I.DO i) I.K I.V I.KA (I.dc i.val) (I.dk i.val) (I.dv i.val) i hj
  · rw [hi.1, I.dk_succ]
    dsimp only
    exact dk_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (I.Q i) (I.O i) (I.LA i) (I.DO i) I.K I.V I.KA (I.dc i.val) (I.dk i.val) (I.dv i.val) i hj
  · rw [hi.2, I.dv_succ]
    dsimp only
    exact dv_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (I.Q i) (I.O i) (I.LA i) (I.DO i) I.K I.V I.KA (I.dc i.val) (I.dk i.val) (I.dv i.val) i hj

/-- Every point leaves what its query block and the carried sums give. -/
theorem after_all (P : Fin 8 → In)
    (R : ∀ (t : Fin cfg0.N) (p i : Fin 8), t.val = 8 * p.val + i.val → Reads m c (P p) i t) :
    ∀ (n : ℕ) (h : 0 + n < cfg0.N) (p i : Fin 8), n = 8 * p.val + i.val →
      After (P p) i (Pipeline.accAt (fun n h => stAt0 m c n h junk0) (stAt0 m c) 0 n h)
  | 0, h, p, i, e => step_first (t := ⟨0, h⟩) (R ⟨0, h⟩ p i e) (by show 0 % 8 = i.val; omega) (by rfl) junk0
  | n + 1, h, p, i, e => by
    rw [Pipeline.accAt_succ]
    have hi := i.isLt
    have hp := p.isLt
    have hn : 0 + (n + 1) = 8 * p.val + i.val := by omega
    have ht : (0 + (n + 1)) % 8 = i.val := by omega
    have Rt := R ⟨0 + (n + 1), h⟩ p i hn
    by_cases h0 : i.val = 0
    · exact step_first Rt ht (by show (0 + (n + 1)) % 8 = 0; omega) _
    · have ih := after_all P R n (Nat.lt_of_succ_lt h) p ⟨i.val - 1, by omega⟩ (by show n = 8 * p.val + (i.val - 1); omega)
      have hc : Carried (P p) i.val (Pipeline.accAt (fun n h => stAt0 m c n h junk0) (stAt0 m c) 0 n (Nat.lt_of_succ_lt h)) := by
        have := ih.carried
        have e' : (⟨i.val - 1, by omega⟩ : Fin 8).val + 1 = i.val := by show i.val - 1 + 1 = i.val; omega
        rwa [e'] at this
      by_cases h1 : i.val = 7
      · exact step_last Rt ht (by show ¬ (0 + (n + 1)) % 8 = 0; omega) (by show (0 + (n + 1)) % 8 = 7; omega) _ hc
      · exact step_middle Rt ht (by show ¬ (0 + (n + 1)) % 8 = 0; omega) (by show ¬ (0 + (n + 1)) % 8 = 7; omega) _ hc

end Cert.Fox

end
-- ==== Proof.Sums.lean ====
/-
  The sums one grid point adds, with the blocks before the diagonal, on it and after it put in one sum.
-/
module

public import proofs.«01_k».proof.Proof.Grid

@[expose] public section

noncomputable section

namespace Cert.Fox

open Idealize.ShloMosaic

/-- A sum over all positions is a sum over blocks and the positions in a block. -/
theorem sum_rows (f : Fin 8192 → ℝ) : ∑ t, f t = ∑ i : Fin 8, ∑ x : Fin 1024, f (row i x) := by
  rw [← (finProdFinEquiv (m := 8) (n := 1024)).sum_comp f, Fintype.sum_prod_type]
  refine Finset.sum_congr rfl fun i _ => Finset.sum_congr rfl fun x _ => congrArg f (Fin.ext ?_)
  show x.val + 1024 * i.val = 1024 * i.val + x.val
  omega

theorem below_all (f : Fin 8 → ℝ) : below f 8 = ∑ j, f j := Finset.sum_congr rfl fun j _ => if_pos j.isLt

/-- The blocks before `i` and block `i` are all the blocks, when the later ones are zero. -/
theorem below_add (f g : Fin 8 → ℝ) (i : Fin 8) (h : ∀ j, j.val < i.val → f j = g j) (h' : ∀ j, i.val < j.val → g j = 0) :
    below f i.val + g i = ∑ j, g j := by
  have e : below f i.val = below g i.val := Finset.sum_congr rfl fun j _ => by
    by_cases hj : j.val < i.val
    · rw [if_pos hj, if_pos hj, h j hj]
    · rw [if_neg hj, if_neg hj]
  rw [e, ← below_succ]
  refine Finset.sum_congr rfl fun j _ => ?_
  by_cases hj : j.val < i.val + 1
  · exact if_pos hj
  · rw [if_neg hj, h' j (by omega)]

/-- Weights of the blocks of keys: `M` before the diagonal, `W` on it, zero after it. -/
structure Joins (i : Fin 8) (M : Fin 8 → Fin 1024 → Fin 1024 → ℝ) (W : Fin 1024 → Fin 1024 → ℝ) (G : Fin 8 → Fin 1024 → Fin 1024 → ℝ) : Prop where
  before : ∀ j, j.val < i.val → M j = G j
  at_ : W = G i
  after : ∀ j, i.val < j.val → G j = fun _ _ => 0

variable {i : Fin 8} {M0 M1 : Fin 8 → Fin 1024 → Fin 1024 → ℝ} {W0 W1 : Fin 1024 → Fin 1024 → ℝ} {G0 G1 : Fin 8 → Fin 1024 → Fin 1024 → ℝ}

theorem rowsum_join (h : Joins i M0 W0 G0) (s : Fin 1024) (z : Fin 1) :
    addR (sumR M0 i.val) W0 s z = ∑ j, ∑ u, G0 j s u := by
  show below (fun j => ∑ u, M0 j s u) i.val + ∑ u, W0 s u = _
  rw [h.at_]
  refine below_add _ (fun j => ∑ u, G0 j s u) i (fun j hj => ?_) (fun j hj => ?_)
  · rw [h.before j hj]
  · show ∑ u, G0 j s u = 0
    rw [h.after j hj]
    exact Finset.sum_const_zero

theorem sumQ_join (K : Fin 8192 → Fin 128 → ℝ) (h : Joins i M0 W0 G0) (x : Fin 1024) (l : Fin 128) :
    addQ (sumQ M0 K i.val) W0 (rows K i) x l = ∑ j, ∑ s, G0 j x s * K (row j s) l := by
  show below (fun j => ∑ s, M0 j x s * rows K j s l) i.val + ∑ s, W0 x s * rows K i s l = _
  rw [h.at_]
  refine below_add _ (fun j => ∑ s, G0 j x s * rows K j s l) i (fun j hj => ?_) (fun j hj => ?_)
  · rw [h.before j hj]
  · show ∑ s, G0 j x s * rows K j s l = 0
    rw [h.after j hj]
    exact Finset.sum_eq_zero fun s _ => zero_mul _

theorem stepQ_join (K : Fin 8192 → Fin 128 → ℝ) (h0 : Joins i M0 W0 G0) (h1 : Joins i M1 W1 G1) (x : Fin 1024) (l : Fin 128) :
    stepQ M0 M1 W0 W1 K i x l = (∑ j, ∑ s, (if l.val < 64 then G0 j x s else G1 j x s) * K (row j s) l) * (1 / 8) := by
  unfold stepQ
  rw [sumQ_join K h0, sumQ_join K h1]
  by_cases hl : l.val < 64
  · simp only [if_pos hl]
  · simp only [if_neg hl]

theorem stepT_join (D : Fin 8 → Fin 128 → Fin 1024 → ℝ) (T0 T1 : Fin 128 → Fin 1024 → ℝ) (h0 : Joins i M0 W0 G0) (h1 : Joins i M1 W1 G1) :
    stepT D T0 T1 M0 M1 W0 W1 i = fun j => addT (D j) T0 T1 (G0 j) (G1 j) := by
  funext j
  unfold stepT
  by_cases hj : j = i
  · subst hj
    rw [Function.update_self, h0.at_, h1.at_]
    simp only [afterT, if_neg (lt_irrefl _)]
  · rw [Function.update_of_ne hj]
    by_cases hl : j.val < i.val
    · simp only [afterT, if_pos hl, h0.before j hl, h1.before j hl]
    · have hg : i.val < j.val := by
        have : j.val ≠ i.val := fun e => hj (Fin.ext e)
        omega
      simp only [afterT, if_neg hl, h0.after j hg, h1.after j hg]
      funext y s
      simp [addT]

theorem subC_zero (r : Fin 1024 → ℝ) : subC r (fun _ _ => 0) = r := by
  funext s
  simp [subC]

theorem stepS_join (C : Fin 2 → Fin 8 → Fin 1024 → ℝ) (h0 : Joins i M0 W0 G0) (h1 : Joins i M1 W1 G1) :
    stepS C M0 M1 W0 W1 i = fun z j => subC (C z j) (if z = 0 then G0 j else G1 j) := by
  funext z j
  unfold stepS
  by_cases hj : j = i
  · subst hj
    match z with
    | 0 => simp [putDc, afterC, h0.at_]
    | 1 => simp [putDc, afterC, h1.at_]
  · by_cases hl : j.val < i.val
    · match z with
      | 0 => simp [putDc, afterC, hj, hl, h0.before j hl]
      | 1 => simp [putDc, afterC, hj, hl, h1.before j hl]
    · have hg : i.val < j.val := by
        have : j.val ≠ i.val := fun e => hj (Fin.ext e)
        omega
      match z with
      | 0 => simp [putDc, afterC, hj, hl, h0.after j hg, subC_zero]
      | 1 => simp [putDc, afterC, hj, hl, h1.after j hg, subC_zero]

theorem stepC_join (C : Fin 2 → Fin 8 → Fin 1024 → ℝ) (h0 : Joins i M0 W0 G0) (h1 : Joins i M1 W1 G1) :
    stepC C M0 M1 W0 W1 i = fun z j s => subC (C z j) (if z = 0 then G0 j else G1 j) s
      + if j = i then ∑ j', ∑ u, (if z = 0 then G0 j' else G1 j') s u else 0 := by
  unfold stepC
  rw [stepS_join C h0 h1]
  funext z j s
  by_cases hj : j = i
  · subst hj
    match z with
    | 0 => simp [putDc, rowsum_join h0]
    | 1 => simp [putDc, rowsum_join h1]
  · match z with
    | 0 => simp [putDc, hj]
    | 1 => simp [putDc, hj]

end Cert.Fox

end
-- ==== Proof.Spec.lean ====
/-
  The attention with decaying scores and its gradient, over the real numbers.
-/
module

public import proofs.«01_k».proof.Proof.Sums

@[expose] public section

noncomputable section

namespace Cert.Fox

/-- Lane `d` of head `h`. -/
def lane (h : Fin 16) (d : Fin 64) : Fin 1024 := ⟨64 * h.val + d.val, by omega⟩

/-- Lane `l` of pair `p`. -/
def wide (p : Fin 8) (l : Fin 128) : Fin 1024 := ⟨128 * p.val + l.val, by omega⟩

/-- Head `z` of pair `p`. -/
def head (p : Fin 8) (z : Fin 2) : Fin 16 := ⟨2 * p.val + z.val, by omega⟩

/-- Lane `d` of head `z` of a pair. -/
def side (z : Fin 2) (d : Fin 64) : Fin 128 := ⟨64 * z.val + d.val, by omega⟩

theorem wide_side (p : Fin 8) (z : Fin 2) (d : Fin 64) : wide p (side z d) = lane (head p z) d :=
  Fin.ext (by show 128 * p.val + (64 * z.val + d.val) = 64 * (2 * p.val + z.val) + d.val; omega)

/-- The attention's arguments and the gradient of its result. -/
structure Args where
  q : Fin 8192 → Fin 1024 → ℝ
  k : Fin 8192 → Fin 1024 → ℝ
  v : Fin 8192 → Fin 1024 → ℝ
  c : Fin 16 → Fin 8192 → ℝ
  g : Fin 8192 → Fin 1024 → ℝ

namespace Args

variable (a : Args)

/-- The score of query `t` and key `u`. -/
def score (h : Fin 16) (t u : Fin 8192) : ℝ := (∑ d, a.q t (lane h d) * (1 / 8) * a.k u (lane h d)) + (a.c h t - a.c h u)

/-- The weight of key `u`, not yet scaled. -/
def ex (h : Fin 16) (t u : Fin 8192) : ℝ := if u.val ≤ t.val then Real.exp (a.score h t u) else 0

/-- The sum of the weights. -/
def tot (h : Fin 16) (t : Fin 8192) : ℝ := ∑ u, a.ex h t u

/-- The weight of key `u` for query `t`. -/
def pr (h : Fin 16) (t u : Fin 8192) : ℝ := a.ex h t u / a.tot h t

/-- The attention's result. -/
def out (h : Fin 16) (t : Fin 8192) (d : Fin 64) : ℝ := ∑ u, a.pr h t u * a.v u (lane h d)

/-- The gradient of the weights. -/
def dp (h : Fin 16) (t u : Fin 8192) : ℝ := ∑ d, a.g t (lane h d) * a.v u (lane h d)

/-- The gradient of the scores. -/
def dsc (h : Fin 16) (t u : Fin 8192) : ℝ := a.pr h t u * (a.dp h t u - ∑ u', a.pr h t u' * a.dp h t u')

/-- The gradient of the queries. -/
def gq (t : Fin 8192) (h : Fin 16) (d : Fin 64) : ℝ := (∑ u, a.dsc h t u * a.k u (lane h d)) * (1 / 8)

/-- The gradient of the keys. -/
def gk (u : Fin 8192) (h : Fin 16) (d : Fin 64) : ℝ := ∑ t, a.q t (lane h d) * (1 / 8) * a.dsc h t u

/-- The gradient of the values. -/
def gv (u : Fin 8192) (h : Fin 16) (d : Fin 64) : ℝ := ∑ t, a.g t (lane h d) * a.pr h t u

/-- The gradient of the decays. -/
def gc (h : Fin 16) (s : Fin 8192) : ℝ := (∑ u, a.dsc h s u) - ∑ t, a.dsc h t s

theorem ex_nonneg (h : Fin 16) (t u : Fin 8192) : 0 ≤ a.ex h t u := by
  unfold ex
  split
  · exact (Real.exp_pos _).le
  · exact le_rfl

theorem tot_pos (h : Fin 16) (t : Fin 8192) : 0 < a.tot h t :=
  lt_of_lt_of_le (by unfold ex; rw [if_pos le_rfl]; exact Real.exp_pos _)
    (Finset.single_le_sum (f := fun u => a.ex h t u) (fun u _ => a.ex_nonneg h t u) (Finset.mem_univ t))

theorem pr_after (h : Fin 16) (t u : Fin 8192) (hu : t.val < u.val) : a.pr h t u = 0 := by
  unfold pr ex
  rw [if_neg (by omega), zero_div]

theorem dsc_after (h : Fin 16) (t u : Fin 8192) (hu : t.val < u.val) : a.dsc h t u = 0 := by
  unfold dsc
  rw [a.pr_after h t u hu, zero_mul]

/-- The row sum of the result times its gradient is the row sum of the weights times theirs. -/
theorem out_dot (h : Fin 16) (t : Fin 8192) : ∑ d, a.g t (lane h d) * a.out h t d = ∑ u, a.pr h t u * a.dp h t u := by
  unfold out dp
  simp only [Finset.mul_sum]
  rw [Finset.sum_comm]
  exact Finset.sum_congr rfl fun u _ => Finset.sum_congr rfl fun d _ => by ring

/-- The logarithm of the sum of the weights, less the query's own decay. -/
def lse (h : Fin 16) (t : Fin 8192) : ℝ := Real.log (a.tot h t) - a.c h t

theorem exp_lse (h : Fin 16) (t u : Fin 8192) (hu : u.val ≤ t.val) :
    Real.exp ((∑ d, a.q t (lane h d) * (1 / 8) * a.k u (lane h d)) + (- a.c h u + - a.lse h t)) = a.pr h t u := by
  unfold pr ex lse
  have e := Real.exp_log (a.tot_pos h t)
  rw [if_pos hu]
  conv_rhs => rw [← e, ← Real.exp_sub]
  congr 1
  unfold score
  ring

end Args

end Cert.Fox

end
-- ==== Proof.Link.lean ====
/-
  What the kernel reads, and its sums as the attention's gradient.
-/
module

public import proofs.«01_k».proof.Proof.Spec

@[expose] public section

set_option maxRecDepth 16384

noncomputable section

namespace Cert.Fox

/-- The lanes of the keys of a pair. -/
def kaLane (c0 c1 : ℝ) (l : Fin 128) : ℝ :=
  if l.val = 0 then - c0 else if l.val = 3 then - c1 else if 6 ≤ l.val ∧ l.val < 12 then 1 else 0

/-- The lanes of the queries of a pair. -/
def laLane (e0 e1 : ℝ) (l : Fin 128) : ℝ := if l.val = 6 then - e0 else if l.val = 9 then - e1 else 0

theorem sum_side (z : Fin 2) (f : Fin 128 → ℝ) : (∑ l : Fin 128, if l.val < 64 ↔ z = 0 then f l else 0) = ∑ d : Fin 64, f (side z d) := by
  rw [← (finProdFinEquiv (m := 2) (n := 64)).sum_comp, Fintype.sum_prod_type, Fin.sum_univ_two]
  have e : ∀ (y : Fin 2) (d : Fin 64), (finProdFinEquiv (y, d) : Fin 128) = side y d := fun y d =>
    Fin.ext (by show d.val + 64 * y.val = 64 * y.val + d.val; omega)
  have lo : ∀ d : Fin 64, (side 0 d).val < 64 := fun d => by show 64 * 0 + d.val < 64; omega
  have hi : ∀ d : Fin 64, ¬ (side 1 d).val < 64 := fun d => by show ¬ 64 * 1 + d.val < 64; omega
  match z with
  | 0 => simp only [e, lo, hi]; simp
  | 1 => simp only [e, lo, hi]; simp

theorem sum_half_mul (z : Fin 2) (X Y : Fin 1024 → Fin 128 → ℝ) (x s : Fin 1024) :
    (∑ l, half z X x l * Y s l) = ∑ d, X x (side z d) * Y s (side z d) := by
  rw [← sum_side z fun l => X x l * Y s l]
  refine Finset.sum_congr rfl fun l _ => ?_
  unfold half
  split <;> simp

theorem sum_one {n : ℕ} (b : Fin n) (f : Fin n → ℝ) : (∑ l, if l = b then f l else 0) = f b := by simp

theorem lanes_dot (z : Fin 2) (e0 e1 c0 c1 : ℝ) (LA KA : Fin 1024 → Fin 128 → ℝ) (x s : Fin 1024)
    (hL : LA x = laLane e0 e1) (hK : KA s = kaLane c0 c1) :
    (∑ l, qaux z LA x l * KA s l) = - (if z = 0 then c0 else c1) + - (if z = 0 then e0 else e1) := by
  have key : ∀ l : Fin 128, qaux z LA x l * KA s l
      = (if l = (⟨3 * z.val, by omega⟩ : Fin 128) then - (if z = 0 then c0 else c1) else 0)
        + (if l = (⟨6 + 3 * z.val, by omega⟩ : Fin 128) then - (if z = 0 then e0 else e1) else 0) := by
    intro l
    unfold qaux
    rw [hL, hK]
    unfold laLane kaLane
    simp only [Fin.ext_iff]
    obtain ⟨l, hl⟩ := l
    dsimp only
    match z with
    | 0 =>
      simp only [Fin.isValue, Fin.val_zero, Nat.mul_zero, Nat.add_zero, if_true]
      by_cases h0 : l = 0
      · subst h0; simp
      by_cases h6 : l = 6
      · subst h6; simp
      by_cases h3 : l < 3
      · simp [h0, h6, show ¬ l = 3 by omega, show ¬ (6 ≤ l) by omega]
      · by_cases h9 : 6 ≤ l ∧ l < 9
        · simp [h0, h6, h3, show ¬ l = 3 by omega, show ¬ l = 9 by omega, h9.1]
        · have h9' : ¬ (6 ≤ l ∧ l < 6 + 3) := h9
          simp [h0, h6, h3, h9]
    | 1 =>
      simp only [Fin.isValue, Fin.val_one, Nat.mul_one, one_ne_zero, if_false]
      by_cases h0 : l = 3
      · subst h0; simp
      by_cases h6 : l = 9
      · subst h6; simp
      by_cases h3 : 3 ≤ l ∧ l < 6
      · simp [h0, h6, h3.1, show ¬ l = 0 by omega, show ¬ (6 ≤ l) by omega]
      · by_cases h9 : 9 ≤ l ∧ l < 12
        · simp [h0, h6, show ¬ l = 6 by omega, show ¬ l < 6 by omega, h9.1, h9.2]
        · simp [h0, h6, h3, h9]
  rw [Finset.sum_congr rfl fun l _ => key l, Finset.sum_add_distrib, sum_one, sum_one]

theorem ones_dot (z : Fin 2) (d : Fin 1024 → ℝ) (x s : Fin 1024) : (∑ l, daux z d x l * ones s l) = - d x := by
  have key : ∀ l : Fin 128, daux z d x l * ones s l = if l = (⟨3 * z.val, by omega⟩ : Fin 128) then - d x else 0 := by
    intro l
    unfold daux ones
    simp only [Fin.ext_iff]
    by_cases h : l.val = 3 * z.val
    · have : l.val < 6 := by omega
      simp [h, this, show 3 * z.val < 6 by omega]
    · simp [h]
  rw [Finset.sum_congr rfl fun l _ => key l, sum_one]

namespace Args

variable (a : Args)

/-- The result as one array. -/
def res (t : Fin 8192) (l : Fin 1024) : ℝ := a.out ⟨l.val / 64, by omega⟩ t ⟨l.val % 64, by omega⟩

theorem res_lane (t : Fin 8192) (h : Fin 16) (d : Fin 64) : a.res t (lane h d) = a.out h t d := by
  have h1 : (64 * h.val + d.val) / 64 = h.val := by omega
  have h2 : (64 * h.val + d.val) % 64 = d.val := by omega
  exact congrArg₂ (fun x y => a.out x t y) (Fin.ext h1) (Fin.ext h2)

/-- What the kernel reads for pair `p`. -/
def input (p : Fin 8) : In where
  Q i x l := a.q (row i x) (wide p l) * (1 / 8)
  O i x l := a.res (row i x) (wide p l)
  LA i x := laLane (a.lse (head p 0) (row i x)) (a.lse (head p 1) (row i x))
  DO i x l := a.g (row i x) (wide p l)
  K s l := a.k s (wide p l)
  V s l := a.v s (wide p l)
  KA s := kaLane (a.c (head p 0) s) (a.c (head p 1) s)

variable (p : Fin 8) (z : Fin 2) (i j : Fin 8) (x s : Fin 1024)

theorem pick (f : Fin 16 → ℝ) : (if z = 0 then f (head p 0) else f (head p 1)) = f (head p z) := by
  match z with
  | 0 => rfl
  | 1 => rfl

theorem prob_at (h : (row j s).val ≤ (row i x).val) :
    prob ((a.input p).A z i) (keysAt (a.input p).K (a.input p).KA j) x s = a.pr (head p z) (row i x) (row j s) := by
  unfold prob In.A qext keysAt
  rw [sum_beside, sum_half_mul, lanes_dot z _ _ _ _ _ _ x s rfl rfl, pick p z fun h => a.c h (row j s), pick p z fun h => a.lse h (row i x)]
  rw [← a.exp_lse (head p z) (row i x) (row j s) h]
  simp only [← wide_side]
  rfl

theorem score_at : (∑ l, (a.input p).B z i x l * valsAt (a.input p).V j s l)
    = a.dp (head p z) (row i x) (row j s) - ∑ u, a.pr (head p z) (row i x) u * a.dp (head p z) (row i x) u := by
  unfold In.B doext valsAt
  rw [sum_beside, sum_half_mul, ones_dot, ← a.out_dot, sub_eq_add_neg]
  unfold dp delta half
  rw [sum_side]
  simp only [← wide_side, ← res_lane]
  rfl

/-- The weights of query block `i` and key block `j`. -/
def prB : Fin 8 → Fin 1024 → Fin 1024 → ℝ := fun j x s => a.pr (head p z) (row i x) (row j s)

/-- The score gradients of query block `i` and key block `j`. -/
def dsB : Fin 8 → Fin 1024 → Fin 1024 → ℝ := fun j x s => a.dsc (head p z) (row i x) (row j s)

theorem row_lt (h : j.val < i.val) : (row j s).val < (row i x).val := by
  show 1024 * j.val + s.val < 1024 * i.val + x.val
  omega

theorem joins_pr : Joins i (probAt ((a.input p).A z i) (a.input p).K (a.input p).KA) (probD ((a.input p).A z i) (a.input p).K (a.input p).KA i)
    (a.prB p z i) where
  before j h := by
    funext x s
    exact a.prob_at p z i j x s (row_lt i j x s h).le
  at_ := by
    funext x s
    unfold probD causal prB
    by_cases h : s.val ≤ x.val
    · rw [if_pos h]
      exact a.prob_at p z i i x s (by show 1024 * i.val + s.val ≤ 1024 * i.val + x.val; omega)
    · rw [if_neg h, a.pr_after]
      show 1024 * i.val + x.val < 1024 * i.val + s.val
      omega
  after j h := by
    funext x s
    exact a.pr_after _ _ _ (row_lt j i s x h)

theorem joins_ds : Joins i (dsAt ((a.input p).A z i) ((a.input p).B z i) (a.input p).K (a.input p).V (a.input p).KA)
    (dsD ((a.input p).A z i) ((a.input p).B z i) (a.input p).K (a.input p).V (a.input p).KA i) (a.dsB p z i) where
  before j h := by
    funext x s
    unfold dsAt ds
    rw [a.score_at]
    exact congrArg (· * _) (congrFun (congrFun ((a.joins_pr p z i).before j h) x) s)
  at_ := by
    funext x s
    unfold dsD ds
    rw [a.score_at]
    exact congrArg (· * _) (congrFun (congrFun (a.joins_pr p z i).at_ x) s)
  after j h := by
    funext x s
    exact a.dsc_after _ _ _ (row_lt j i s x h)

end Args

end Cert.Fox

end
-- ==== Proof.Total.lean ====
/-
  The kernel's arrays after the last point, as the attention's gradient.
-/
module

public import proofs.«01_k».proof.Proof.Link

@[expose] public section

set_option maxRecDepth 16384

noncomputable section

namespace Cert.Fox

open Idealize.ShloMosaic Idealize.ShloMosaic.TcCoe Cert.KernelIdeal Cert.KernelIdeal.Gen Cert.KernelIdeal.Value

namespace Args

variable (a : Args) (p : Fin 8)

theorem dk_sum : ∀ n, n ≤ 8 → (a.input p).dk n = fun j y s => below (fun i =>
    (∑ x, half 0 ((a.input p).Q i) x y * a.dsB p 0 i j x s) + ∑ x, half 1 ((a.input p).Q i) x y * a.dsB p 1 i j x s) n
  | 0, _ => by
    funext j y s
    exact (below_zero _).symm
  | n + 1, h => by
    have e := (a.input p).dk_succ ⟨n, h⟩
    dsimp only at e
    rw [e, stepT_join _ _ _ (a.joins_ds p 0 ⟨n, h⟩) (a.joins_ds p 1 ⟨n, h⟩), dk_sum n (Nat.le_of_succ_le h)]
    funext j y s
    exact (below_succ _ ⟨n, h⟩).symm

theorem dv_sum : ∀ n, n ≤ 8 → (a.input p).dv n = fun j y s => below (fun i =>
    (∑ x, half 0 ((a.input p).DO i) x y * a.prB p 0 i j x s) + ∑ x, half 1 ((a.input p).DO i) x y * a.prB p 1 i j x s) n
  | 0, _ => by
    funext j y s
    exact (below_zero _).symm
  | n + 1, h => by
    have e := (a.input p).dv_succ ⟨n, h⟩
    dsimp only at e
    rw [e, stepT_join _ _ _ (a.joins_pr p 0 ⟨n, h⟩) (a.joins_pr p 1 ⟨n, h⟩), dv_sum n (Nat.le_of_succ_le h)]
    funext j y s
    exact (below_succ _ ⟨n, h⟩).symm

theorem dc_sum : ∀ n, n ≤ 8 → (a.input p).dc n = fun z j s => below (fun i => - (∑ x, a.dsB p z i j x s)
      + if j = i then ∑ j', ∑ u, a.dsB p z i j' s u else 0) n
  | 0, _ => by
    funext z j s
    exact (below_zero _).symm
  | n + 1, h => by
    have e := (a.input p).dc_succ ⟨n, h⟩
    dsimp only at e
    rw [e, stepC_join _ (a.joins_ds p 0 ⟨n, h⟩) (a.joins_ds p 1 ⟨n, h⟩), dc_sum n (Nat.le_of_succ_le h)]
    funext z j s
    refine Eq.trans ?_ (below_succ _ ⟨n, h⟩).symm
    match z with
    | 0 => simp only [subC, if_true]; ring
    | 1 => simp only [subC, one_ne_zero, if_false]; ring

theorem half_side (y z : Fin 2) (X : Fin 1024 → Fin 128 → ℝ) (x : Fin 1024) (d : Fin 64) :
    half y X x (side z d) = if y = z then X x (side z d) else 0 := by
  have lo : (side 0 d).val < 64 := by show 64 * 0 + d.val < 64; omega
  have hi : ¬ (side 1 d).val < 64 := by show ¬ 64 * 1 + d.val < 64; omega
  unfold half
  match y, z with
  | 0, 0 => simp [lo]
  | 0, 1 => simp [hi]
  | 1, 0 => simp [lo]
  | 1, 1 => simp [hi]

theorem two_heads (z : Fin 2) (X : Fin 1024 → Fin 128 → ℝ) (M : Fin 2 → Fin 1024 → ℝ) (d : Fin 64) :
    (∑ x, half 0 X x (side z d) * M 0 x) + (∑ x, half 1 X x (side z d) * M 1 x) = ∑ x, X x (side z d) * M z x := by
  simp only [half_side]
  match z with
  | 0 => simp
  | 1 => simp

variable (z : Fin 2) (d : Fin 64) (j : Fin 8) (s : Fin 1024)

theorem dk_at : (a.input p).dk 8 j (side z d) s = a.gk (row j s) (head p z) d := by
  rw [a.dk_sum p 8 le_rfl]
  dsimp only
  rw [below_all]
  unfold gk
  rw [sum_rows]
  refine Finset.sum_congr rfl fun i _ => ?_
  rw [two_heads z ((a.input p).Q i) (fun z x => a.dsB p z i j x s) d]
  simp only [← wide_side]
  rfl

theorem dv_at : (a.input p).dv 8 j (side z d) s = a.gv (row j s) (head p z) d := by
  rw [a.dv_sum p 8 le_rfl]
  dsimp only
  rw [below_all]
  unfold gv
  rw [sum_rows]
  refine Finset.sum_congr rfl fun i _ => ?_
  rw [two_heads z ((a.input p).DO i) (fun z x => a.prB p z i j x s) d]
  simp only [← wide_side]
  rfl

theorem dc_at : (a.input p).dc 8 z j s = a.gc (head p z) (row j s) := by
  rw [a.dc_sum p 8 le_rfl]
  dsimp only
  rw [below_all, Finset.sum_add_distrib, Finset.sum_neg_distrib, Finset.sum_ite_eq]
  unfold gc
  rw [sum_rows, sum_rows, if_pos (Finset.mem_univ _), sub_eq_add_neg, add_comm]
  rfl

theorem dq_at (i : Fin 8) (x : Fin 1024) : (a.input p).dq i x (side z d) = a.gq (row i x) (head p z) d := by
  unfold In.dq
  rw [stepQ_join _ (a.joins_ds p 0 i) (a.joins_ds p 1 i)]
  unfold gq
  rw [sum_rows]
  have lo : (side 0 d).val < 64 := by show 64 * 0 + d.val < 64; omega
  have hi : ¬ (side 1 d).val < 64 := by show ¬ 64 * 1 + d.val < 64; omega
  simp only [← wide_side]
  match z with
  | 0 => simp only [if_pos lo]; rfl
  | 1 => simp only [if_neg hi]; rfl

end Args

section Final

variable {m : (ℓ : Loc nD τ sig) → Buf (Elt Ideal) ℓ} {c : Dev nD} {P : Fin 8 → In}
  (R : ∀ (t : Fin cfg0.N) (p i : Fin 8), t.val = 8 * p.val + i.val → Reads m c (P p) i t)

include R

theorem G7_at (i : Fin 8) (x : Fin 1024) (p : Fin 8) (l : Fin 128) :
    G7 m c (ix2 (row i x) (wide p l)) = (((P p).dq i x l : ℝ) : EReal) := by
  have hp : pt7Of (ix2 (row i x) (wide p l)) = 8 * p.val + i.val := by
    show 1 * ((1024 * i.val + x.val) / 1024 - 0) + 8 * ((128 * p.val + l.val) / 128 - 0) = _
    omega
  have hN : cfg0.N = 64 := N_0
  unfold G7
  rw [dif_pos (by rw [hp, hN]; omega), (after_all P R _ _ p i hp).q]
  have h1 : (1024 * i.val + x.val) % 1024 = x.val := by omega
  have h2 : (128 * p.val + l.val) % 128 = l.val := by omega
  exact congrArg₂ (fun x l => (((P p).dq i x l : ℝ) : EReal)) (Fin.ext h1) (Fin.ext h2)

theorem G8_at (j : Fin 8) (s : Fin 1024) (p : Fin 8) (l : Fin 128) :
    G8 m c (ix2 (row j s) (wide p l)) = (((P p).dk 8 j l s : ℝ) : EReal) := by
  have hp : pt8Of (ix2 (row j s) (wide p l)) = 8 * p.val + (7 : Fin 8).val := by
    show 8 * (8 * ((1024 * j.val + s.val) / 8192 - 0) + 1 * ((128 * p.val + l.val) / 128 - 0)) + 7 = 8 * p.val + 7
    omega
  have hN : cfg0.N = 64 := N_0
  unfold G8
  rw [dif_pos (by rw [hp, hN]; show 8 * p.val + 7 < 64; omega), (after_all P R _ _ p 7 hp).k rfl]
  have h1 : (1024 * j.val + s.val) % 8192 / 1024 = j.val := by omega
  have h2 : (1024 * j.val + s.val) % 8192 % 1024 = s.val := by omega
  have h3 : (128 * p.val + l.val) % 128 = l.val := by omega
  show (((P p).dk 8 _ _ _ : ℝ) : EReal) = _
  congr 2
  · exact Fin.ext h1
  · exact Fin.ext h3
  · exact Fin.ext h2

theorem G9_at (j : Fin 8) (s : Fin 1024) (p : Fin 8) (l : Fin 128) :
    G9 m c (ix2 (row j s) (wide p l)) = (((P p).dv 8 j l s : ℝ) : EReal) := by
  have hp : pt9Of (ix2 (row j s) (wide p l)) = 8 * p.val + (7 : Fin 8).val := by
    show 8 * (8 * ((1024 * j.val + s.val) / 8192 - 0) + 1 * ((128 * p.val + l.val) / 128 - 0)) + 7 = 8 * p.val + 7
    omega
  have hN : cfg0.N = 64 := N_0
  unfold G9
  rw [dif_pos (by rw [hp, hN]; show 8 * p.val + 7 < 64; omega), (after_all P R _ _ p 7 hp).v rfl]
  have h1 : (1024 * j.val + s.val) % 8192 / 1024 = j.val := by omega
  have h2 : (1024 * j.val + s.val) % 8192 % 1024 = s.val := by omega
  have h3 : (128 * p.val + l.val) % 128 = l.val := by omega
  show (((P p).dv 8 _ _ _ : ℝ) : EReal) = _
  congr 2
  · exact Fin.ext h1
  · exact Fin.ext h3
  · exact Fin.ext h2

theorem G10_at (p : Fin 8) (z : Fin 2) (j : Fin 8) (o : Fin 1) (s : Fin 1024) :
    G10 m c (ix5 p z j o s) = (((P p).dc 8 z j s : ℝ) : EReal) := by
  have hp : pt10Of (ix5 p z j o s) = 8 * p.val + (7 : Fin 8).val := by
    show 8 * (1 * (p.val / 1 - 0) + 1 * (z.val / 2 - 0) + 1 * (j.val / 8 - 0) + 1 * (o.val / 1 - 0) + 1 * (s.val / 1024 - 0)) + 7 = 8 * p.val + 7
    omega
  have hN : cfg0.N = 64 := N_0
  unfold G10
  rw [dif_pos (by rw [hp, hN]; show 8 * p.val + 7 < 64; omega), (after_all P R _ _ p 7 hp).carried.1]
  have h1 : z.val % 2 = z.val := by omega
  have h2 : j.val % 8 = j.val := by omega
  have h3 : s.val % 1024 = s.val := by omega
  show (((P p).dc 8 _ _ _ : ℝ) : EReal) = _
  congr 2
  · exact Fin.ext h1
  · exact Fin.ext h2
  · exact Fin.ext h3

end Final

end Cert.Fox

end
-- ==== Proof.Host.lean ====
/-
  The attention and its gradient as whole-array operations, and their values over real arguments.
-/
module

public import proofs.«01_k».proof.Proof.Spec
public import proofs.«01_k».proof.Proof.Up
public import proofs.«01_k».proof.Proof.Gen.ReferenceIdeal.Run

@[expose] public section

set_option maxRecDepth 16384

noncomputable section

namespace Cert.Fox

open Idealize.ShloMosaic Idealize.ShloMosaic.TcCoe Cert.ReferenceIdeal Cert.ReferenceIdeal.Gen

/-- A three-axis array of real numbers. -/
def cube {a b c : ℕ} {φ : FTy} (f : Fin a → Fin b → Fin c → ℝ) : FVec Ideal ⟨3, ![a, b, c]⟩ φ :=
  fun i => ((f (i 0) (i 1) (i 2) : ℝ) : EReal)

namespace Host

section Ops

variable (q k v g : FVec Ideal S8192x1024 .f32) (c : FVec Ideal S16x8192 .f32) (x y : FVec Ideal S16x8192x8192 .f32)

/-- The lanes by head. -/
def byHead : FVec Ideal S8192x16x64 .f32 := shapeCast _ q shapeCasts_S8192x1024_S8192x16x64

/-- The queries by head, scaled. -/
def scaled : FVec Ideal S8192x16x64 .f32 :=
  mulf (byHead q) (broadcastInDim S8192x16x64 ![] bcast_S_S8192x16x64 (constant S_ .f32 0x3E000000#32))

/-- The scores before the mask. -/
def scores : FVec Ideal S16x8192x8192 .f32 :=
  addf (Host.dotGeneral dot_S8192x16x64_S8192x16x64_S16x8192x8192_2_2_0_0_1_1 none (scaled q) (byHead k))
    (subf (broadcastInDim S16x8192x8192 ![0, 1, 2] bcast_S16x8192x1_S16x8192x8192_0_1_2 (broadcastInDim S16x8192x1 ![0, 1] bcast_S16x8192_S16x8192x1_0_1 c))
      (broadcastInDim S16x8192x8192 ![0, 1, 2] bcast_S16x1x8192_S16x8192x8192_0_1_2 (broadcastInDim S16x1x8192 ![0, 2] bcast_S16x8192_S16x1x8192_0_2 c)))

/-- Which keys a query sees. -/
def seen : IVec S16x8192x8192 1 :=
  broadcastInDim S16x8192x8192 ![1, 2] bcast_S8192x8192_S16x8192x8192_1_2
    (cmpi .sle (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0))))

/-- The masked scores. -/
def masked : FVec Ideal S16x8192x8192 .f32 :=
  select seen x (broadcastInDim S16x8192x8192 ![] bcast_S_S16x8192x8192 (id (constant S_ .f32 0xFF800000#32)))

/-- The largest score of each row. -/
def top : FVec Ideal S16x8192 .f32 :=
  Host.reduce FloatOps.maximumf x (constant S_ .f32 0xFF800000#32) reducesTo_S16x8192x8192_S16x8192_d2 h_S_

/-- The largest score of each row, from below. -/
def low : FVec Ideal S16x8192 .f32 :=
  maximumf (broadcastInDim S16x8192 ![] bcast_S_S16x8192 (constant S_ .f32 0xFF800000#32)) (top x)

/-- A row's number along the row. -/
def along : FVec Ideal S16x8192x8192 .f32 :=
  broadcastInDim S16x8192x8192 ![0, 1, 2] bcast_S16x8192x1_S16x8192x8192_0_1_2 (broadcastInDim S16x8192x1 ![0, 1] bcast_S16x8192_S16x8192x1_0_1 c)

/-- The weights of scores `x` under rows' largest `c`. -/
def weights : FVec Ideal S16x8192x8192 .f32 := Host.exp (subf x (along c))

/-- The sums of the rows. -/
def total : FVec Ideal S16x8192 .f32 :=
  Host.reduceAdd x (constant S_ .f32 0x00000000#32) reducesTo_S16x8192x8192_S16x8192_d2 h_S_

/-- Each row over its sum. -/
def shares : FVec Ideal S16x8192x8192 .f32 := Host.divf x (along (total x))

/-- The attention's result from its weights `x`. -/
def result : FVec Ideal S8192x1024 .f32 :=
  shapeCast _ (transpose S8192x16x64 [2, 0, 1]
    (Host.dotGeneral dot_S8192x16x64_S16x8192x8192_S16x64x8192_0_2_2_1_1_0 none (byHead v) x) transposes_S16x64x8192_S8192x16x64_2_0_1)
    shapeCasts_S8192x16x64_S8192x1024

/-- The result's gradient, by head, its rows last. -/
def turned : FVec Ideal S16x64x8192 .f32 := transpose S16x64x8192 [1, 2, 0] (byHead g) transposes_S8192x16x64_S16x64x8192_1_2_0

/-- The gradient of the weights. -/
def dshares : FVec Ideal S16x8192x8192 .f32 :=
  Host.dotGeneral dot_S16x64x8192_S8192x16x64_S16x8192x8192_1_2_2_0_0_1 none (turned g) (byHead v)

/-- The gradient of the values from the weights `x`. -/
def dvalues : FVec Ideal S8192x1024 .bf16 :=
  truncf .bf16 (shapeCast _ (transpose S8192x16x64 [2, 0, 1]
    (Host.dotGeneral dot_S16x64x8192_S16x8192x8192_S16x64x8192_2_1_1_2_0_0 none (turned g) x) transposes_S16x64x8192_S8192x16x64_2_0_1)
    shapeCasts_S8192x16x64_S8192x1024) bitsLt_bf16_f32

/-- The sums of the rows of `x`, one column. -/
def column : FVec Ideal S16x8192x1 .f32 := broadcastInDim S16x8192x1 ![0, 1] bcast_S16x8192_S16x8192x1_0_1 c

/-- The part of the scores' gradient that goes through the rows' sums. -/
def through : FVec Ideal S16x8192 .f32 :=
  Host.reduceAdd (Host.negf (shapeCast S16x8192x1 (total (mulf (mulf y
    (broadcastInDim S16x8192x8192 ![0, 1, 2] bcast_S16x8192x1_S16x8192x8192_0_1_2
      (Host.divf (broadcastInDim S16x8192x1 ![] bcast_S_S16x8192x1 (constant S_ .f32 0x3F800000#32)) (mulf (column (total x)) (column (total x)))))) x))
    shapeCasts_S16x8192_S16x8192x1)) (constant S_ .f32 0x00000000#32) reducesTo_S16x8192x1_S16x8192_d2 h_S_

/-- The gradient of the scores, from the weights `x` not yet scaled and the gradient `y` of the scaled ones. -/
def dscores : FVec Ideal S16x8192x8192 .f32 :=
  select seen
    (mulf (addf (Host.divf y (along (total x))) (broadcastInDim S16x8192x8192 ![0, 1] bcast_S16x8192_S16x8192x8192_0_1 (through x y))) x)
    (broadcastInDim S16x8192x8192 ![] bcast_S_S16x8192x8192 (constant S_ .f32 0x00000000#32))

/-- The gradient of the decays from that of the scores. -/
def ddecays : FVec Ideal S8x2x8x1x1024 .f32 :=
  shapeCast _ (addf
    (Host.reduceAdd (shapeCast S16x1x8192 (Host.reduceAdd (Host.negf x) (constant S_ .f32 0x00000000#32) reducesTo_S16x8192x8192_S16x8192_d1 h_S_) shapeCasts_S16x8192_S16x1x8192)
      (constant S_ .f32 0x00000000#32) reducesTo_S16x1x8192_S16x8192_d1 h_S_)
    (Host.reduceAdd (shapeCast S16x8192x1 (total x) shapeCasts_S16x8192_S16x8192x1)
      (constant S_ .f32 0x00000000#32) reducesTo_S16x8192x1_S16x8192_d2 h_S_)) shapeCasts_S16x8192_S8x2x8x1x1024

/-- The gradient of the keys from that of the scores. -/
def dkeys : FVec Ideal S8192x1024 .bf16 :=
  truncf .bf16 (shapeCast _ (transpose S8192x16x64 [1, 0, 2]
    (Host.dotGeneral dot_S16x8192x8192_S8192x16x64_S16x8192x64_1_0_2_2_0_1 none x (scaled q)) transposes_S16x8192x64_S8192x16x64_1_0_2)
    shapeCasts_S8192x16x64_S8192x1024) bitsLt_bf16_f32

/-- The gradient of the queries from that of the scores. -/
def dqueries : FVec Ideal S8192x1024 .bf16 :=
  truncf .bf16 (shapeCast _ (mulf (transpose S8192x16x64 [1, 0, 2]
    (Host.dotGeneral dot_S16x8192x8192_S8192x16x64_S16x8192x64_2_0_1_2_0_1 none x (byHead k)) transposes_S16x8192x64_S8192x16x64_1_0_2)
    (broadcastInDim S8192x16x64 ![] bcast_S_S8192x16x64 (constant S_ .f32 0x3E000000#32)))
    shapeCasts_S8192x16x64_S8192x1024) bitsLt_bf16_f32

end Ops

theorem lane_eq (h : Fin 16) (d : Fin 64) (p : h.val * 64 + d.val < 1024) : (⟨h.val * 64 + d.val, p⟩ : Fin 1024) = lane h d :=
  Fin.ext (by show h.val * 64 + d.val = 64 * h.val + d.val; omega)

theorem lane_div (h : Fin 16) (d : Fin 64) (p : (lane h d).val / 64 < 16) : (⟨(lane h d).val / 64, p⟩ : Fin 16) = h :=
  Fin.ext (by show (64 * h.val + d.val) / 64 = h.val; omega)

theorem lane_mod (h : Fin 16) (d : Fin 64) (p : (lane h d).val % 64 < 64) : (⟨(lane h d).val % 64, p⟩ : Fin 64) = d :=
  Fin.ext (by show (64 * h.val + d.val) % 64 = d.val; omega)

theorem eighth : Ideal.ofBits .f32 0x3E000000#32 = ((1 / 8 : ℝ) : EReal) := by
  simp [Ideal.ofBits, Ideal.ieee, -EReal.coe_mul]; norm_num

theorem least : Ideal.ofBits .f32 0xFF800000#32 = (⊥ : EReal) := by
  simp [Ideal.ofBits, Ideal.ieee]

theorem div_real (x y : ℝ) (h : y ≠ 0) : Ideal.div (x : EReal) (y : EReal) = ((x / y : ℝ) : EReal) := by
  rw [Ideal.div_coe h, ← EReal.coe_mul]
  congr 1
  ring

theorem byHead_up (f : Fin 8192 → Fin 1024 → ℝ) : byHead (up f) = cube fun t h d => f t (lane h d) := by
  funext j
  idx_vars j
  unfold byHead
  pointwise
  rw [lane_eq]
  rfl

theorem scaled_up (f : Fin 8192 → Fin 1024 → ℝ) : scaled (up f) = cube fun t h d => f t (lane h d) * (1 / 8) := by
  unfold scaled
  rw [byHead_up]
  funext j
  idx_vars j
  pointwise
  rw [eighth]
  exact (EReal.coe_mul _ _).symm

theorem scores_up (a : Args) : scores (up a.q) (up a.k) (up a.c) = cube a.score := by
  unfold scores
  rw [byHead_up, scaled_up]
  funext j
  idx_vars j
  pointwise
  show _ = ((a.score j0 j1 j2 : ℝ) : EReal)
  unfold Args.score
  rw [EReal.coe_add, EReal.coe_sub, coe_sum]
  simp only [EReal.coe_mul]
  rfl

theorem seen_at (h : Fin 16) (t u : Fin 8192) : seen (ix3 h t u) = if u.val ≤ t.val then 1#1 else 0#1 := by
  unfold seen
  pointwise
  have hx : (BitVec.ofNat 32 t.val).toInt = (t.val : ℤ) := by
    rw [BitVec.toInt_eq_toNat_of_lt] <;> simp [BitVec.toNat_ofNat] <;> omega
  have hs : (BitVec.ofNat 32 u.val).toInt = (u.val : ℤ) := by
    rw [BitVec.toInt_eq_toNat_of_lt] <;> simp [BitVec.toNat_ofNat] <;> omega
  show BitVec.ofBool ((BitVec.ofNat 32 u.val).sle (BitVec.ofNat 32 t.val)) = _
  unfold BitVec.sle
  rw [hx, hs]
  by_cases h : u.val ≤ t.val
  · simp [h]
  · simp [h]

theorem masked_at (s : Fin 16 → Fin 8192 → Fin 8192 → ℝ) (h : Fin 16) (t u : Fin 8192) :
    masked (cube s) (ix3 h t u) = if u.val ≤ t.val then ((s h t u : ℝ) : EReal) else ⊥ := by
  show (if seen (ix3 h t u) = 1#1 then ((s h t u : ℝ) : EReal) else Ideal.ofBits .f32 0xFF800000#32) = _
  rw [seen_at, least]
  by_cases hu : u.val ≤ t.val <;> simp [hu]

theorem top_at (x : FVec Ideal S16x8192x8192 .f32) (h : Fin 16) (t : Fin 8192) :
    top x (ix2 h t) = Finset.fold max (⊥ : EReal) (fun u => (x (ix3 h t u) : EReal)) Finset.univ := by
  unfold top
  pointwise
  rw [least]

/-- The largest masked score of every row is a real number. -/
theorem top_real (s : Fin 16 → Fin 8192 → Fin 8192 → ℝ) : ∃ M : Fin 16 → Fin 8192 → ℝ, top (masked (cube s)) = up M := by
  refine ⟨fun h t => (top (masked (cube s)) (ix2 h t) : EReal).toReal, ?_⟩
  funext j
  idx_vars j
  have e := top_at (masked (cube s)) j0 j1
  refine (EReal.coe_toReal ?_ ?_).symm
  · refine ne_of_lt ?_
    rw [e, Finset.fold_max_lt]
    refine ⟨bot_lt_top, fun u _ => ?_⟩
    rw [masked_at]
    split
    · exact EReal.coe_lt_top _
    · exact bot_lt_top
  · refine ne_of_gt ?_
    rw [e, Finset.lt_fold_max]
    refine Or.inr ⟨j1, Finset.mem_univ _, ?_⟩
    rw [masked_at, if_pos le_rfl]
    exact EReal.bot_lt_coe _

theorem low_up (x : FVec Ideal S16x8192x8192 .f32) (M : Fin 16 → Fin 8192 → ℝ) (h : top x = up M) : low x = up M := by
  unfold low
  rw [h]
  funext j
  idx_vars j
  pointwise
  rw [least]
  exact max_eq_right bot_le

theorem along_up (f : Fin 16 → Fin 8192 → ℝ) : along (up f) = cube fun h t _ => f h t := by
  funext j
  idx_vars j
  unfold along
  pointwise
  rfl

theorem total_up (f : Fin 16 → Fin 8192 → Fin 8192 → ℝ) : total (cube f) = up fun h t => ∑ u, f h t u := by
  funext j
  idx_vars j
  unfold total
  pointwise
  exact (coe_sum _ _).symm

theorem weights_up (s : Fin 16 → Fin 8192 → Fin 8192 → ℝ) (M : Fin 16 → Fin 8192 → ℝ) :
    weights (up M) (masked (cube s)) = cube fun h t u => (if u.val ≤ t.val then Real.exp (s h t u) else 0) * Real.exp (- M h t) := by
  unfold weights
  rw [along_up]
  funext j
  idx_vars j
  show Ideal.exp (masked (cube s) (ix3 j0 j1 j2) - ((M j0 j1 : ℝ) : EReal)) = (((if j2.val ≤ j1.val then Real.exp (s j0 j1 j2) else 0) * Real.exp (- M j0 j1) : ℝ) : EReal)
  rw [masked_at]
  by_cases hu : j2.val ≤ j1.val
  · rw [if_pos hu, if_pos hu, ← EReal.coe_sub, ← Real.exp_add]
    rfl
  · rw [if_neg hu, if_neg hu, EReal.bot_sub, zero_mul]
    exact Ideal.exp_bot

/-- The weights not yet scaled, under any numbers of the rows. -/
def _root_.Cert.Fox.Args.under (a : Args) (M : Fin 16 → Fin 8192 → ℝ) (h : Fin 16) (t u : Fin 8192) : ℝ := a.ex h t u * Real.exp (- M h t)

variable (a : Args) (M : Fin 16 → Fin 8192 → ℝ)

theorem under_up : weights (up M) (masked (scores (up a.q) (up a.k) (up a.c))) = cube (a.under M) := by
  rw [scores_up, weights_up]
  rfl

theorem under_sum (h : Fin 16) (t : Fin 8192) : ∑ u, a.under M h t u = a.tot h t * Real.exp (- M h t) := by
  unfold Args.under Args.tot
  rw [Finset.sum_mul]

theorem under_ne (h : Fin 16) (t : Fin 8192) : a.tot h t * Real.exp (- M h t) ≠ 0 :=
  (mul_pos (a.tot_pos h t) (Real.exp_pos _)).ne'

theorem shares_up : shares (cube (a.under M)) = cube a.pr := by
  unfold shares
  rw [total_up, along_up]
  funext j
  idx_vars j
  show Ideal.div ((a.under M j0 j1 j2 : ℝ) : EReal) ((∑ u, a.under M j0 j1 u : ℝ) : EReal) = ((a.pr j0 j1 j2 : ℝ) : EReal)
  rw [under_sum, div_real _ _ (under_ne a M j0 j1)]
  unfold Args.under Args.pr
  rw [mul_div_mul_right _ _ (Real.exp_pos _).ne']

theorem result_at (t : Fin 8192) (h : Fin 16) (d : Fin 64) :
    result (up a.v) (cube a.pr) (ix2 t (lane h d)) = ((a.out h t d : ℝ) : EReal) := by
  unfold result
  rw [byHead_up]
  pointwise
  rw [lane_div, lane_mod]
  unfold Args.out
  rw [coe_sum]
  exact Finset.sum_congr rfl fun u _ => (mul_comm _ _).trans (EReal.coe_mul _ _).symm

theorem turned_up (f : Fin 8192 → Fin 1024 → ℝ) : turned (up f) = cube fun h d t => f t (lane h d) := by
  unfold turned
  rw [byHead_up]
  funext j
  idx_vars j
  pointwise
  rfl

theorem dshares_up : dshares (up a.v) (up a.g) = cube a.dp := by
  unfold dshares
  rw [byHead_up, turned_up]
  funext j
  idx_vars j
  pointwise
  show _ = ((a.dp j0 j1 j2 : ℝ) : EReal)
  unfold Args.dp
  rw [coe_sum]
  exact Finset.sum_congr rfl fun d _ => (EReal.coe_mul _ _).symm

theorem dvalues_at (u : Fin 8192) (h : Fin 16) (d : Fin 64) :
    dvalues (up a.g) (cube a.pr) (ix2 u (lane h d)) = ((a.gv u h d : ℝ) : EReal) := by
  unfold dvalues
  rw [turned_up]
  pointwise
  rw [lane_div, lane_mod]
  unfold Args.gv
  rw [coe_sum]
  exact Finset.sum_congr rfl fun t _ => (EReal.coe_mul _ _).symm

theorem through_up : through (cube (a.under M)) (cube a.dp) = up fun h t => - ∑ u, a.dp h t u * (1 / ((a.tot h t * Real.exp (- M h t)) * (a.tot h t * Real.exp (- M h t)))) * a.under M h t u := by
  unfold through
  rw [total_up]
  simp only [under_sum]
  funext j
  idx_vars j
  unfold total column
  pointwise
  show (∑ x : Fin 1, -∑ u : Fin 8192, ((a.dp j0 j1 u : ℝ) : EReal) * Ideal.div ((1 : ℝ) : EReal) (((a.tot j0 j1 * Real.exp (- M j0 j1) : ℝ) : EReal) * ((a.tot j0 j1 * Real.exp (- M j0 j1) : ℝ) : EReal)) * ((a.under M j0 j1 u : ℝ) : EReal)) = ((_ : ℝ) : EReal)
  rw [Fin.sum_univ_one, ← EReal.coe_mul, div_real _ _ (mul_ne_zero (under_ne a M j0 j1) (under_ne a M j0 j1)), EReal.coe_neg, coe_sum]
  simp only [EReal.coe_mul]
  rfl

/-- The gradient of a score, as the division's two parts give it. -/
theorem dsc_eq (h : Fin 16) (t u : Fin 8192) :
    (a.dp h t u / (a.tot h t * Real.exp (- M h t)) + - ∑ u, a.dp h t u * (1 / ((a.tot h t * Real.exp (- M h t)) * (a.tot h t * Real.exp (- M h t)))) * a.under M h t u)
      * a.under M h t u = a.dsc h t u := by
  have hT := (a.tot_pos h t).ne'
  have hE := (Real.exp_pos (- M h t)).ne'
  have e : ∑ u, a.dp h t u * (1 / ((a.tot h t * Real.exp (- M h t)) * (a.tot h t * Real.exp (- M h t)))) * a.under M h t u
      = (∑ u, a.pr h t u * a.dp h t u) / (a.tot h t * Real.exp (- M h t)) := by
    rw [Finset.sum_div]
    refine Finset.sum_congr rfl fun u _ => ?_
    unfold Args.under Args.pr
    field_simp
  rw [e]
  unfold Args.dsc
  generalize ∑ u, a.pr h t u * a.dp h t u = r
  unfold Args.under Args.pr
  field_simp
  ring

theorem dscores_up : dscores (cube (a.under M)) (cube a.dp) = cube a.dsc := by
  unfold dscores
  rw [through_up, total_up, along_up]
  simp only [under_sum]
  funext j
  idx_vars j
  pointwise
  show Scalar.select (seen (ix3 j0 j1 j2)) ((Ideal.div ((a.dp j0 j1 j2 : ℝ) : EReal) ((a.tot j0 j1 * Real.exp (- M j0 j1) : ℝ) : EReal) + ((_ : ℝ) : EReal)) * ((a.under M j0 j1 j2 : ℝ) : EReal)) (0 : EReal) = ((a.dsc j0 j1 j2 : ℝ) : EReal)
  rw [seen_at]
  by_cases hu : j2.val ≤ j1.val
  · rw [if_pos hu, div_real _ _ (under_ne a M j0 j1), ← EReal.coe_add, ← EReal.coe_mul]
    show ((_ : ℝ) : EReal) = _
    congr 1
    exact dsc_eq a M j0 j1 j2
  · rw [if_neg hu, a.dsc_after j0 j1 j2 (by omega)]
    rfl

theorem ddecays_at (p : Fin 8) (z : Fin 2) (j : Fin 8) (o : Fin 1) (s : Fin 1024) :
    ddecays (cube a.dsc) (ix5 p z j o s) = ((a.gc (head p z) (row j s) : ℝ) : EReal) := by
  unfold ddecays
  rw [total_up]
  pointwise
  rw [show ∀ q, (⟨p.val * 2 + z.val, q⟩ : Fin 16) = head p z from fun q => Fin.ext (by show p.val * 2 + z.val = 2 * p.val + z.val; omega),
    show ∀ q, (⟨j.val * 1024 + s.val, q⟩ : Fin 8192) = row j s from fun q => Fin.ext (by show j.val * 1024 + s.val = 1024 * j.val + s.val; omega)]
  rw [Fin.sum_univ_one, Fin.sum_univ_one]
  unfold Args.gc
  show (∑ t : Fin 8192, -((a.dsc (head p z) t (row j s) : ℝ) : EReal)) + ((∑ u : Fin 8192, a.dsc (head p z) (row j s) u : ℝ) : EReal) = _
  simp only [← EReal.coe_neg]
  rw [← coe_sum, ← EReal.coe_add]
  congr 1
  rw [Finset.sum_neg_distrib]
  ring

theorem dkeys_at (u : Fin 8192) (h : Fin 16) (d : Fin 64) :
    dkeys (up a.q) (cube a.dsc) (ix2 u (lane h d)) = ((a.gk u h d : ℝ) : EReal) := by
  unfold dkeys
  rw [scaled_up]
  pointwise
  rw [lane_div, lane_mod]
  unfold Args.gk
  rw [coe_sum]
  exact Finset.sum_congr rfl fun t _ => (mul_comm _ _).trans (EReal.coe_mul _ _).symm

theorem dqueries_at (t : Fin 8192) (h : Fin 16) (d : Fin 64) :
    dqueries (up a.k) (cube a.dsc) (ix2 t (lane h d)) = ((a.gq t h d : ℝ) : EReal) := by
  unfold dqueries
  rw [byHead_up]
  pointwise
  rw [lane_div, lane_mod, eighth]
  unfold Args.gq
  rw [EReal.coe_mul, coe_sum]
  exact congrArg (fun z : EReal => z * ((1 / 8 : ℝ) : EReal)) (Finset.sum_congr rfl fun u _ => (EReal.coe_mul _ _).symm)

end Host

end Cert.Fox

end
-- ==== Proof.Operands.lean ====
/-
  What the host operations put into the kernel's operands, over real arguments.
-/
module

public import proofs.«01_k».proof.Proof.Total
public import proofs.«01_k».proof.Proof.Host
import Idealize.ShloMosaic.Lib.StableHlo.ReadAt

@[expose] public section

set_option maxRecDepth 16384

noncomputable section

namespace Cert.Fox

open Idealize.ShloMosaic Idealize.ShloMosaic.TcCoe Cert.KernelIdeal Cert.KernelIdeal.Gen

namespace Host

section Ops

variable (x : FVec Ideal S16x8192 .f32)

/-- The high part of a number's three parts. -/
def part0 : FVec Ideal S16x8192 .bf16 := truncf .bf16 x bitsLt_bf16_f32

/-- What the high part leaves. -/
def rest : FVec Ideal S16x8192 .f32 := subf x (extf .f32 (part0 x) bitsLt_bf16_f32)

/-- The three parts of the heads of each pair, by row. -/
def parts : FVec Ideal S8192x8x6 .bf16 :=
  transpose S8192x8x6 [2, 0, 1] (shapeCast S8x6x8192 (concatenate S16x3x8192 1
    [⟨S16x1x8192, broadcastInDim S16x1x8192 ![0, 2] bcast_S16x8192_S16x1x8192_0_2 (part0 x)⟩,
      ⟨S16x1x8192, broadcastInDim S16x1x8192 ![0, 2] bcast_S16x8192_S16x1x8192_0_2 (part0 (rest x))⟩,
      ⟨S16x1x8192, broadcastInDim S16x1x8192 ![0, 2] bcast_S16x8192_S16x1x8192_0_2 (part0 (rest (rest x)))⟩] concatenates_S16x1x8192_S16x1x8192_S16x1x8192_S16x3x8192_d1)
    shapeCasts_S16x3x8192_S8x6x8192) transposes_S8x6x8192_S8192x8x6_2_0_1

/-- The remaining lanes, all zero. -/
def blank : FVec Ideal S8192x8x116 .bf16 := broadcastInDim S8192x8x116 ![] bcast_S_S8192x8x116 (constant S_ .bf16 0x0000#16)

/-- The lanes that meet the keys: the parts, then ones. -/
def keyLanes : FVec Ideal S8192x1024 .bf16 :=
  shapeCast _ (concatenate S8192x8x128 2 [⟨S8192x8x6, parts (Host.negf x)⟩,
    ⟨S8192x8x6, broadcastInDim S8192x8x6 ![] bcast_S_S8192x8x6 (constant S_ .bf16 0x3F80#16)⟩, ⟨S8192x8x116, blank⟩]
    concatenates_S8192x8x6_S8192x8x6_S8192x8x116_S8192x8x128_d2) shapeCasts_S8192x8x128_S8192x1024

/-- The lanes that meet the queries: zeros, then the parts. -/
def queryLanes : FVec Ideal S8192x1024 .bf16 :=
  shapeCast _ (concatenate S8192x8x128 2 [⟨S8192x8x6, broadcastInDim S8192x8x6 ![] bcast_S_S8192x8x6 (constant S_ .bf16 0x0000#16)⟩,
    ⟨S8192x8x6, parts (Host.negf x)⟩, ⟨S8192x8x116, blank⟩]
    concatenates_S8192x8x6_S8192x8x6_S8192x8x116_S8192x8x128_d2) shapeCasts_S8192x8x128_S8192x1024

/-- The logarithm of a row's sum, from the scores `y`, less the row's own decay. -/
def logs (y : FVec Ideal S16x8192x8192 .f32) : FVec Ideal S16x8192 .f32 :=
  subf (addf (Host.log (total (weights (top y) y))) (top y)) x

end Ops

end Host

section Terms

variable (m : (ℓ : Loc nD τ sig) → Buf (Elt Ideal) ℓ) (c : Dev nD)

/-- The masked scores of the kernel's arguments. -/
def kerScores : FVec Ideal S16x8192x8192 .f32 :=
  Host.masked (Host.scores (m ((c.tc : Thread nD τ).loc main_arg0)) (m ((c.tc : Thread nD τ).loc main_arg1)) (m ((c.tc : Thread nD τ).loc main_arg3)))

set_option maxHeartbeats 4000000 in
theorem V_q : V m c main_v97 = (truncf .bf16 (mulf (F := Ideal) (m ((c.tc : Thread nD τ).loc main_arg0) : FVec Ideal S8192x1024 .f32) (broadcastInDim S8192x1024 ![] bcast_S_S8192x1024 (constant S_ .f32 0x3E000000#32))) bitsLt_bf16_f32 : FVec Ideal S8192x1024 .bf16) := by
  unfold V
  after_reads_simp

set_option maxHeartbeats 4000000 in
theorem V_k : V m c main_v98 = (truncf (F := Ideal) .bf16 (m ((c.tc : Thread nD τ).loc main_arg1) : FVec Ideal S8192x1024 .f32) bitsLt_bf16_f32 : FVec Ideal S8192x1024 .bf16) := by
  unfold V
  after_reads_simp

set_option maxHeartbeats 4000000 in
theorem V_v : V m c main_v99 = (truncf (F := Ideal) .bf16 (m ((c.tc : Thread nD τ).loc main_arg2) : FVec Ideal S8192x1024 .f32) bitsLt_bf16_f32 : FVec Ideal S8192x1024 .bf16) := by
  unfold V
  after_reads_simp

set_option maxHeartbeats 4000000 in
theorem V_do : V m c main_v101 = (truncf (F := Ideal) .bf16 (m ((c.tc : Thread nD τ).loc main_arg4) : FVec Ideal S8192x1024 .f32) bitsLt_bf16_f32 : FVec Ideal S8192x1024 .bf16) := by
  unfold V
  after_reads_simp

set_option maxHeartbeats 4000000 in
theorem V_o : V m c main_v100 = (truncf (F := Ideal) .bf16 (Host.result (m ((c.tc : Thread nD τ).loc main_arg2))
    (Host.shares (Host.weights (Host.low (kerScores m c)) (kerScores m c)))) bitsLt_bf16_f32 : FVec Ideal S8192x1024 .bf16) := by
  unfold V
  after_reads_simp
  rfl

set_option maxHeartbeats 4000000 in
theorem V_ka : V m c main_v77 = Host.keyLanes (m ((c.tc : Thread nD τ).loc main_arg3)) := by
  unfold V
  after_reads_simp
  rfl

/-- Three arrays put together, each known. -/
theorem three_parts {φ : FTy} {S s0 s1 s2 : Shape} {d : Fin S.rank} {X X' : FVec Ideal s0 φ} {Y Y' : FVec Ideal s1 φ} {Z Z' : FVec Ideal s2 φ}
    (hX : X = X') (hY : Y = Y') (hZ : Z = Z') (h : Shape.Concatenates [s0, s1, s2] S d) :
    (concatenate S d [⟨s0, X⟩, ⟨s1, Y⟩, ⟨s2, Z⟩] h : FVec Ideal S φ) = concatenate S d [⟨s0, X'⟩, ⟨s1, Y'⟩, ⟨s2, Z'⟩] h := by
  subst hX hY hZ
  rfl

set_option maxHeartbeats 4000000 in
theorem V_la : V m c main_v94 = Host.queryLanes (Host.logs (m ((c.tc : Thread nD τ).loc main_arg3)) (kerScores m c)) := by
  unfold V
  after_reads_simp
  refine congrArg (fun z : FVec Ideal S8192x8x128 .bf16 => (shapeCast S8192x1024 z shapeCasts_S8192x8x128_S8192x1024 : FVec Ideal S8192x1024 .bf16)) (three_parts (φ := .bf16) ?_ ?_ ?_ _)
  · change StableHlo.upto _ _ _ (Proc.tc.devRef main_v78) = _
    after_reads_simp
  · change StableHlo.upto _ _ _ (Proc.tc.devRef main_v92) = _
    after_reads_simp
    refine congrArg (fun z : FVec Ideal S16x3x8192 .bf16 => (transpose S8192x8x6 [2, 0, 1] (shapeCast S8x6x8192 z shapeCasts_S16x3x8192_S8x6x8192) transposes_S8x6x8192_S8192x8x6_2_0_1 : FVec Ideal S8192x8x6 .bf16)) (three_parts (φ := .bf16) ?_ ?_ ?_ _)
    · change StableHlo.upto _ _ _ (Proc.tc.devRef main_v87) = _
      after_reads_simp
      rfl
    · change StableHlo.upto _ _ _ (Proc.tc.devRef main_v88) = _
      after_reads_simp
      rfl
    · change StableHlo.upto _ _ _ (Proc.tc.devRef main_v89) = _
      after_reads_simp
      rfl
  · change StableHlo.upto _ _ _ (Proc.tc.devRef main_v61) = _
    after_reads_simp
    rfl

end Terms

namespace Host

theorem parts_up (f : Fin 16 → Fin 8192 → ℝ) (s : Fin 8192) (p : Fin 8) (l : Fin 6) :
    parts (up f) (ix3 s p l) = ((if l.val = 0 then f (head p 0) s else if l.val = 3 then f (head p 1) s else 0 : ℝ) : EReal) := by
  have h0 : part0 (up f) = up f := rfl
  have h1 : rest (up f) = up fun _ _ => 0 := by
    unfold rest
    rw [h0]
    funext j
    exact (EReal.coe_sub _ _).symm.trans (by rw [sub_self]; rfl)
  have h2 : part0 (up fun _ _ => 0) = up (φ := .bf16) (fun (_ : Fin 16) (_ : Fin 8192) => 0) := rfl
  have h3 : rest (up fun _ _ => 0) = up fun _ _ => 0 := by
    unfold rest
    rw [h2]
    funext j
    exact (EReal.coe_sub _ _).symm.trans (by rw [sub_self]; rfl)
  unfold parts
  rw [h1, h3, h2, h0]
  pointwise
  have e : ∀ q, (⟨p.val * 2 + l.val / 3, q⟩ : Fin 16) = head p ⟨l.val / 3, by omega⟩ := fun q => Fin.ext (by show p.val * 2 + l.val / 3 = 2 * p.val + l.val / 3; omega)
  have e1 : ∀ q, up (φ := .bf16) f (ix2 ⟨p.val * 2 + l.val / 3, q⟩ s) = ((f (head p ⟨l.val / 3, by omega⟩) s : ℝ) : EReal) := fun q => by rw [e]; rfl
  by_cases hl : l.val % 3 < 1
  · rw [dif_pos hl, e1]
    by_cases hz : l.val = 0
    · rw [if_pos hz, show (⟨l.val / 3, by omega⟩ : Fin 2) = 0 from Fin.ext (by show l.val / 3 = 0; omega)]
    · rw [if_neg hz, if_pos (show l.val = 3 by omega), show (⟨l.val / 3, by omega⟩ : Fin 2) = 1 from Fin.ext (by show l.val / 3 = 1; omega)]
  · have hv : (if l.val = 0 then f (head p 0) s else if l.val = 3 then f (head p 1) s else 0 : ℝ) = 0 := by
      rw [if_neg (by omega), if_neg (by omega)]
    rw [hv, dif_neg hl]
    split <;> rfl

theorem blank_at (j : S8192x8x116.Idx) : blank j = ((0 : ℝ) : EReal) := by
  show Ideal.ofBits .bf16 0x0000#16 = _
  rw [Ideal.ofBits_zero_bf16]
  rfl

theorem keyLanes_at (f : Fin 16 → Fin 8192 → ℝ) (s : Fin 8192) (p : Fin 8) (l : Fin 128) :
    keyLanes (up f) (ix2 s (wide p l)) = ((kaLane (f (head p 0) s) (f (head p 1) s) l : ℝ) : EReal) := by
  have hn : Host.negf (up (φ := .f32) f) = up (φ := .f32) fun h t => - f h t := by
    funext j
    exact (EReal.coe_neg _).symm
  unfold keyLanes
  rw [hn]
  pointwise
  have ew : ((wide p l).val % 128) = l.val := by show (128 * p.val + l.val) % 128 = l.val; omega
  have ed : ∀ q, (⟨(wide p l).val / 128, q⟩ : Fin 8) = p := fun q => Fin.ext (by show (128 * p.val + l.val) / 128 = p.val; omega)
  by_cases h6 : l.val < 6
  · rw [dif_pos (by omega)]
    refine (congrArg (parts _) (congrArg₂ (ix3 s) (ed _) (Fin.ext ew : _ = (⟨l.val, h6⟩ : Fin 6)))).trans ?_
    rw [parts_up]
    unfold kaLane
    by_cases hz : l.val = 0
    · rw [if_pos hz, if_pos hz]
    · rw [if_neg hz, if_neg hz]
      by_cases h3 : l.val = 3
      · rw [if_pos h3, if_pos h3]
      · rw [if_neg h3, if_neg h3, if_neg (by omega)]
  · have hv : kaLane (f (head p 0) s) (f (head p 1) s) l = if l.val < 12 then 1 else 0 := by
      unfold kaLane
      rw [if_neg (by omega), if_neg (by omega)]
      by_cases h12 : l.val < 12
      · rw [if_pos (by omega), if_pos h12]
      · rw [if_neg (by omega), if_neg h12]
    rw [hv, dif_neg (by omega)]
    by_cases h12 : l.val < 12
    · rw [dif_pos (by omega), show (if l.val < 12 then (1 : ℝ) else 0) = 1 from if_pos h12]
      rfl
    · rw [dif_neg (by omega), show (if l.val < 12 then (1 : ℝ) else 0) = 0 from if_neg h12]
      exact blank_at _

theorem queryLanes_at (f : Fin 16 → Fin 8192 → ℝ) (s : Fin 8192) (p : Fin 8) (l : Fin 128) :
    queryLanes (up f) (ix2 s (wide p l)) = ((laLane (f (head p 0) s) (f (head p 1) s) l : ℝ) : EReal) := by
  have hn : Host.negf (up (φ := .f32) f) = up (φ := .f32) fun h t => - f h t := by
    funext j
    exact (EReal.coe_neg _).symm
  unfold queryLanes
  rw [hn]
  pointwise
  have ew : ((wide p l).val % 128) = l.val := by show (128 * p.val + l.val) % 128 = l.val; omega
  have ed : ∀ q, (⟨(wide p l).val / 128, q⟩ : Fin 8) = p := fun q => Fin.ext (by show (128 * p.val + l.val) / 128 = p.val; omega)
  have hv : ¬ (6 ≤ l.val ∧ l.val < 12) → laLane (f (head p 0) s) (f (head p 1) s) l = 0 := fun h => by
    unfold laLane
    rw [if_neg (by omega), if_neg (by omega)]
  by_cases h6 : l.val < 6
  · rw [hv (by omega), dif_pos (by omega)]
    rfl
  · rw [dif_neg (by omega)]
    by_cases h12 : l.val < 12
    · rw [dif_pos (by omega)]
      refine (congrArg (parts _) (congrArg₂ (ix3 s) (ed _) (Fin.ext (by show (wide p l).val % 128 - 6 = l.val - 6; omega) : _ = (⟨l.val - 6, by omega⟩ : Fin 6)))).trans ?_
      rw [parts_up]
      unfold laLane
      by_cases hz : l.val = 6
      · rw [if_pos hz, if_pos (by show l.val - 6 = 0; omega)]
      · rw [if_neg hz, if_neg (by show ¬ l.val - 6 = 0; omega)]
        by_cases h3 : l.val = 9
        · rw [if_pos h3, if_pos (by show l.val - 6 = 3; omega)]
        · rw [if_neg h3, if_neg (by show ¬ l.val - 6 = 3; omega)]
    · rw [hv (by omega), dif_neg (by omega)]
      exact blank_at _

theorem log_real (x : ℝ) (h : 0 < x) : Ideal.log (x : EReal) = ((Real.log x : ℝ) : EReal) := if_neg (not_le.mpr h)

theorem logs_up (a : Args) : logs (up a.c) (masked (scores (up a.q) (up a.k) (up a.c))) = up a.lse := by
  obtain ⟨M, hM⟩ := top_real a.score
  rw [← scores_up a] at hM
  unfold logs
  rw [hM, under_up, total_up]
  simp only [under_sum]
  funext j
  idx_vars j
  show Ideal.log ((a.tot j0 j1 * Real.exp (- M j0 j1) : ℝ) : EReal) + ((M j0 j1 : ℝ) : EReal) - ((a.c j0 j1 : ℝ) : EReal) = ((a.lse j0 j1 : ℝ) : EReal)
  rw [log_real _ (mul_pos (a.tot_pos j0 j1) (Real.exp_pos _)), ← EReal.coe_add, ← EReal.coe_sub, Real.log_mul (a.tot_pos j0 j1).ne' (Real.exp_pos _).ne', Real.log_exp]
  unfold Args.lse
  congr 1
  ring

end Host

end Cert.Fox

end
-- ==== Proof.Arrive.lean ====
/-
  What the kernel's blocks hold at every grid point, over real arguments.
-/
module

public import proofs.«01_k».proof.Proof.Operands
import Idealize.ShloMosaic.Lib.Pipeline.ValueKit

@[expose] public section

set_option maxRecDepth 16384

noncomputable section

namespace Cert.Fox

open Idealize.ShloMosaic Idealize.ShloMosaic.TcCoe Cert.KernelIdeal Cert.KernelIdeal.Gen

variable (m : (ℓ : Loc nD τ sig) → Buf (Elt Ideal) ℓ) (c : Dev nD) (a : Args)

/-- Where the windows' blocks lie. -/
theorem index_at : ∀ t : Fin cfg0.N, win0_0.index t = ![t.val % 8, t.val / 8] ∧ win0_1.index t = ![0, t.val / 8]
    ∧ win0_2.index t = ![0, t.val / 8] ∧ win0_3.index t = ![0, t.val / 8] ∧ win0_4.index t = ![t.val % 8, t.val / 8]
    ∧ win0_5.index t = ![t.val % 8, t.val / 8] ∧ win0_6.index t = ![t.val % 8, t.val / 8] :=
  (by decide +kernel : ∀ t : Fin grid0.N, _)

/-- The arguments hold the real numbers of `a`. -/
structure KerArgs : Prop where
  q : m ((c.tc : Thread nD τ).loc main_arg0) = up (φ := .f32) a.q
  k : m ((c.tc : Thread nD τ).loc main_arg1) = up (φ := .f32) a.k
  v : m ((c.tc : Thread nD τ).loc main_arg2) = up (φ := .f32) a.v
  decay : m ((c.tc : Thread nD τ).loc main_arg3) = up (φ := .f32) a.c
  g : m ((c.tc : Thread nD τ).loc main_arg4) = up (φ := .f32) a.g

section Blocks

variable (t : Fin cfg0.N) (p i : Fin 8) (ht : t.val = 8 * p.val + i.val) (x : Fin 1024) (s : Fin 8192) (l : Fin 128)
include ht

theorem block0 : (iblk m c 0 t : Vec Ideal S1024x128 .bf16) (ix2 x l) = (V m c main_v97 : Vec Ideal S8192x1024 .bf16) (ix2 (row i x) (wide p l)) := by
  have h0 : t.val % 8 = i.val := by omega
  have h1 : t.val / 8 = p.val := by omega
  blk_ext [iblk, index_at t, h0, h1, row, wide]

theorem block1 : (iblk m c 1 t : Vec Ideal S8192x128 .bf16) (ix2 s l) = (V m c main_v98 : Vec Ideal S8192x1024 .bf16) (ix2 s (wide p l)) := by
  have h1 : t.val / 8 = p.val := by omega
  blk_ext [iblk, index_at t, h1, wide]

theorem block2 : (iblk m c 2 t : Vec Ideal S8192x128 .bf16) (ix2 s l) = (V m c main_v99 : Vec Ideal S8192x1024 .bf16) (ix2 s (wide p l)) := by
  have h1 : t.val / 8 = p.val := by omega
  blk_ext [iblk, index_at t, h1, wide]

theorem block3 : (iblk m c 3 t : Vec Ideal S8192x128 .bf16) (ix2 s l) = (V m c main_v77 : Vec Ideal S8192x1024 .bf16) (ix2 s (wide p l)) := by
  have h1 : t.val / 8 = p.val := by omega
  blk_ext [iblk, index_at t, h1, wide]

theorem block4 : (iblk m c 4 t : Vec Ideal S1024x128 .bf16) (ix2 x l) = (V m c main_v100 : Vec Ideal S8192x1024 .bf16) (ix2 (row i x) (wide p l)) := by
  have h0 : t.val % 8 = i.val := by omega
  have h1 : t.val / 8 = p.val := by omega
  blk_ext [iblk, index_at t, h0, h1, row, wide]

theorem block5 : (iblk m c 5 t : Vec Ideal S1024x128 .bf16) (ix2 x l) = (V m c main_v94 : Vec Ideal S8192x1024 .bf16) (ix2 (row i x) (wide p l)) := by
  have h0 : t.val % 8 = i.val := by omega
  have h1 : t.val / 8 = p.val := by omega
  blk_ext [iblk, index_at t, h0, h1, row, wide]

theorem block6 : (iblk m c 6 t : Vec Ideal S1024x128 .bf16) (ix2 x l) = (V m c main_v101 : Vec Ideal S8192x1024 .bf16) (ix2 (row i x) (wide p l)) := by
  have h0 : t.val % 8 = i.val := by omega
  have h1 : t.val / 8 = p.val := by omega
  blk_ext [iblk, index_at t, h0, h1, row, wide]

end Blocks

section Values

variable {m c a} (H : KerArgs m c a)
include H

theorem kerScores_eq : kerScores m c = Host.masked (Host.scores (up a.q) (up a.k) (up a.c)) := by
  unfold kerScores
  rw [H.q, H.k, H.decay]

theorem shares_eq : Host.shares (Host.weights (Host.low (kerScores m c)) (kerScores m c)) = cube a.pr := by
  obtain ⟨M, hM⟩ := Host.top_real a.score
  rw [kerScores_eq H]
  rw [← Host.scores_up a] at hM
  rw [Host.low_up _ M hM, Host.under_up, Host.shares_up]

theorem at_q (s : Fin 8192) (l : Fin 1024) : (V m c main_v97 : Vec Ideal S8192x1024 .bf16) (ix2 s l) = ((a.q s l * (1 / 8) : ℝ) : EReal) := by
  rw [V_q, H.q]
  show ((a.q s l : ℝ) : EReal) * Ideal.ofBits .f32 0x3E000000#32 = _
  rw [Host.eighth, EReal.coe_mul]

theorem at_k (s : Fin 8192) (l : Fin 1024) : (V m c main_v98 : Vec Ideal S8192x1024 .bf16) (ix2 s l) = ((a.k s l : ℝ) : EReal) := by
  rw [V_k, H.k]
  rfl

theorem at_v (s : Fin 8192) (l : Fin 1024) : (V m c main_v99 : Vec Ideal S8192x1024 .bf16) (ix2 s l) = ((a.v s l : ℝ) : EReal) := by
  rw [V_v, H.v]
  rfl

theorem at_do (s : Fin 8192) (l : Fin 1024) : (V m c main_v101 : Vec Ideal S8192x1024 .bf16) (ix2 s l) = ((a.g s l : ℝ) : EReal) := by
  rw [V_do, H.g]
  rfl

theorem at_o (s : Fin 8192) (l : Fin 1024) : (V m c main_v100 : Vec Ideal S8192x1024 .bf16) (ix2 s l) = ((a.res s l : ℝ) : EReal) := by
  rw [V_o, H.v, shares_eq H]
  obtain ⟨h, d, rfl⟩ : ∃ h d, l = lane h d := ⟨⟨l.val / 64, by omega⟩, ⟨l.val % 64, by omega⟩, Fin.ext (by show l.val = 64 * (l.val / 64) + l.val % 64; omega)⟩
  rw [a.res_lane]
  exact Host.result_at a s h d

theorem at_ka (s : Fin 8192) (p : Fin 8) (l : Fin 128) :
    (V m c main_v77 : Vec Ideal S8192x1024 .bf16) (ix2 s (wide p l)) = ((kaLane (a.c (head p 0) s) (a.c (head p 1) s) l : ℝ) : EReal) := by
  rw [V_ka, H.decay]
  exact Host.keyLanes_at a.c s p l

theorem at_la (s : Fin 8192) (p : Fin 8) (l : Fin 128) :
    (V m c main_v94 : Vec Ideal S8192x1024 .bf16) (ix2 s (wide p l)) = ((laLane (a.lse (head p 0) s) (a.lse (head p 1) s) l : ℝ) : EReal) := by
  rw [V_la, kerScores_eq H, H.decay, Host.logs_up]
  exact Host.queryLanes_at a.lse s p l

theorem reads (t : Fin cfg0.N) (p i : Fin 8) (ht : t.val = 8 * p.val + i.val) : Reads m c (a.input p) i t where
  q := by
    funext j
    idx_vars j
    exact (block0 m c t p i ht j0 j1).trans (at_q H _ _)
  k := by
    funext j
    idx_vars j
    exact (block1 m c t p i ht j0 j1).trans (at_k H _ _)
  v := by
    funext j
    idx_vars j
    exact (block2 m c t p i ht j0 j1).trans (at_v H _ _)
  ka := by
    funext j
    idx_vars j
    exact (block3 m c t p i ht j0 j1).trans (at_ka H _ _ _)
  o := by
    funext j
    idx_vars j
    exact (block4 m c t p i ht j0 j1).trans (at_o H _ _)
  la := by
    funext j
    idx_vars j
    exact (block5 m c t p i ht j0 j1).trans (at_la H _ _ _)
  do' := by
    funext j
    idx_vars j
    exact (block6 m c t p i ht j0 j1).trans (at_do H _ _)

end Values

end Cert.Fox

end
-- ==== Proof.RefSide.lean ====
/-
  The reference's results, read as the attention's gradient over real arguments.
-/
module

public import proofs.«01_k».proof.Proof.Host

@[expose] public section

set_option maxRecDepth 16384

noncomputable section

namespace Cert.Fox

open Idealize.ShloMosaic Idealize.ShloMosaic.TcCoe Cert.ReferenceIdeal Cert.ReferenceIdeal.Gen Cert.ReferenceIdeal.Value

section Terms

variable (m : (ℓ : Loc nD τ sig) → Buf (Elt Ideal) ℓ) (c : Dev nD)

/-- The masked scores of the reference's arguments. -/
def refScores : FVec Ideal S16x8192x8192 .f32 :=
  Host.masked (Host.scores (m ((c.tc : Thread nD τ).loc main_arg0)) (m ((c.tc : Thread nD τ).loc main_arg1)) (m ((c.tc : Thread nD τ).loc main_arg3)))

/-- The weights of the reference's arguments. -/
def refWeights : FVec Ideal S16x8192x8192 .f32 := Host.weights (Host.low (refScores m c)) (refScores m c)

/-- The gradient of the weights, of the reference's arguments. -/
def refGrad : FVec Ideal S16x8192x8192 .f32 :=
  Host.dshares (m ((c.tc : Thread nD τ).loc main_arg2)) (m ((c.tc : Thread nD τ).loc main_arg4))

theorem ref_v : res_main_v87 m c = Host.dvalues (m ((c.tc : Thread nD τ).loc main_arg4)) (Host.shares (refWeights m c)) := rfl

theorem ref_q : res_main_v85 m c = Host.dqueries (m ((c.tc : Thread nD τ).loc main_arg1)) (Host.dscores (refWeights m c) (refGrad m c)) := rfl

theorem ref_k : res_main_v86 m c = Host.dkeys (m ((c.tc : Thread nD τ).loc main_arg0)) (Host.dscores (refWeights m c) (refGrad m c)) := rfl

theorem ref_c : res_main_v88 m c = Host.ddecays (Host.dscores (refWeights m c) (refGrad m c)) := rfl

end Terms

section Real

variable (m : (ℓ : Loc nD τ sig) → Buf (Elt Ideal) ℓ) (c : Dev nD) (a : Args)

/-- The arguments hold the real numbers of `a`. -/
structure RefArgs : Prop where
  q : m ((c.tc : Thread nD τ).loc main_arg0) = up (φ := .f32) a.q
  k : m ((c.tc : Thread nD τ).loc main_arg1) = up (φ := .f32) a.k
  v : m ((c.tc : Thread nD τ).loc main_arg2) = up (φ := .f32) a.v
  decay : m ((c.tc : Thread nD τ).loc main_arg3) = up (φ := .f32) a.c
  g : m ((c.tc : Thread nD τ).loc main_arg4) = up (φ := .f32) a.g

variable {m c a} (H : RefArgs m c a)
include H

theorem refScores_eq : refScores m c = Host.masked (Host.scores (up a.q) (up a.k) (up a.c)) := by
  unfold refScores
  rw [H.q, H.k, H.decay]

theorem refWeights_eq : ∃ M, refWeights m c = cube (a.under M) := by
  obtain ⟨M, hM⟩ := Host.top_real a.score
  refine ⟨M, ?_⟩
  unfold refWeights
  rw [refScores_eq H]
  rw [← Host.scores_up a] at hM
  rw [Host.low_up _ M hM]
  exact Host.under_up a M

theorem refGrad_eq : refGrad m c = cube a.dp := by
  unfold refGrad
  rw [H.v, H.g]
  exact Host.dshares_up a

theorem ref_v_at (u : Fin 8192) (h : Fin 16) (d : Fin 64) : (res_main_v87 m c : FVec Ideal S8192x1024 .bf16) (ix2 u (lane h d)) = ((a.gv u h d : ℝ) : EReal) := by
  obtain ⟨M, hM⟩ := refWeights_eq H
  rw [ref_v, H.g, hM, Host.shares_up]
  exact Host.dvalues_at a u h d

theorem ref_ds : Host.dscores (refWeights m c) (refGrad m c) = cube a.dsc := by
  obtain ⟨M, hM⟩ := refWeights_eq H
  rw [hM, refGrad_eq H]
  exact Host.dscores_up a M

theorem ref_k_at (u : Fin 8192) (h : Fin 16) (d : Fin 64) : (res_main_v86 m c : FVec Ideal S8192x1024 .bf16) (ix2 u (lane h d)) = ((a.gk u h d : ℝ) : EReal) := by
  rw [ref_k, H.q, ref_ds H]
  exact Host.dkeys_at a u h d

theorem ref_q_at (t : Fin 8192) (h : Fin 16) (d : Fin 64) : (res_main_v85 m c : FVec Ideal S8192x1024 .bf16) (ix2 t (lane h d)) = ((a.gq t h d : ℝ) : EReal) := by
  rw [ref_q, H.k, ref_ds H]
  exact Host.dqueries_at a t h d

theorem ref_c_at (p : Fin 8) (z : Fin 2) (j : Fin 8) (o : Fin 1) (s : Fin 1024) :
    (res_main_v88 m c : FVec Ideal S8x2x8x1x1024 .f32) (ix5 p z j o s) = ((a.gc (head p z) (row j s) : ℝ) : EReal) := by
  rw [ref_c, ref_ds H]
  exact Host.ddecays_at a p z j o s

end Real

end Cert.Fox

end
-- ==== Proof.Finite.lean ====
/-
  Arguments that are finite hold real numbers.
-/
module

public import proofs.«01_k».proof.Defs
public import proofs.«01_k».proof.Proof.Arrive
public import proofs.«01_k».proof.Proof.RefSide
import Idealize.ShloMosaic.Lib.ReduceAll

@[expose] public section

set_option maxRecDepth 16384

noncomputable section

namespace Cert.Proof

open Idealize.ShloMosaic Idealize.ShloMosaic.TcCoe Cert.Fox

theorem facts_finite : Cert.Pre_finite.Facts where
  bcast_S_S8192x1024 := by decide
  reducesTo_S8192x1024_S_d0_1 := by decide
  h_S_ := by decide
  bcast_S_S16x8192 := by decide
  reducesTo_S16x8192_S_d0_1 := by decide

theorem greatest : Ideal.ofBits .f32 0x7F800000#32 = (⊤ : EReal) := by
  simp [Ideal.ofBits, Ideal.ieee]

theorem real_of (x : EReal) (h : Ideal.cmp .olt (max x (-x)) (Ideal.ofBits .f32 0x7F800000#32) = 1#1) : x ≠ ⊥ ∧ x ≠ ⊤ := by
  rw [greatest] at h
  have h' : max x (-x) < ⊤ := by
    by_contra hn
    have : Ideal.cmp .olt (max x (-x)) ⊤ = 0#1 := by
      show BitVec.ofBool (decide (max x (-x) < ⊤)) = 0#1
      rw [decide_eq_false hn]
      rfl
    rw [this] at h
    exact absurd h (by decide)
  constructor
  · rintro rfl
    exact absurd h' (by simp)
  · rintro rfl
    exact absurd h' (by simp)

/-- An array whose entries are finite is an array of real numbers. -/
theorem up_of {a b : ℕ} (x : FVec Ideal ⟨2, ![a, b]⟩ .f32)
    (h : ∀ i, Ideal.cmp .olt (max (x i) (-(x i))) (Ideal.ofBits .f32 0x7F800000#32) = 1#1) : ∃ f : Fin a → Fin b → ℝ, x = up (φ := .f32) f := by
  refine ⟨fun i j => (x (ix2 i j) : EReal).toReal, ?_⟩
  funext j
  obtain ⟨x0, y0, rfl⟩ : ∃ (x0 : Fin a) (y0 : Fin b), j = ix2 x0 y0 := ⟨j 0, j 1, eq_ix2 j⟩
  have e := real_of _ (h (ix2 x0 y0))
  exact (EReal.coe_toReal e.2 e.1).symm

theorem args_of [Cert.Pre_finite.Facts] (q k v : FVec Ideal Cert.Pre_finite.S8192x1024 .f32) (d : FVec Ideal Cert.Pre_finite.S16x8192 .f32) (g : FVec Ideal Cert.Pre_finite.S8192x1024 .f32)
    (h : Cert.Pre_finite.fn (F := Ideal) q k v d g = fun _ => 1#1) :
    ∃ a : Args, q = up (φ := .f32) a.q ∧ k = up (φ := .f32) a.k ∧ v = up (φ := .f32) a.v ∧ d = up (φ := .f32) a.c ∧ g = up (φ := .f32) a.g := by
  have h0 := congrFun h (fun i => i.elim0)
  dsimp only [Cert.Pre_finite.fn, Cert.Pre_finite.fn_part1] at h0
  obtain ⟨h1, hg⟩ := IntOp.andi_eq_one.1 h0
  obtain ⟨h2, hd⟩ := IntOp.andi_eq_one.1 h1
  obtain ⟨h3, hv⟩ := IntOp.andi_eq_one.1 h2
  obtain ⟨hq, hk⟩ := IntOp.andi_eq_one.1 h3
  obtain ⟨fq, eq⟩ := up_of q fun i => Host.reduce_andi_all _ _ _ _ _ hq i
  obtain ⟨fk, ek⟩ := up_of k fun i => Host.reduce_andi_all _ _ _ _ _ hk i
  obtain ⟨fv, ev⟩ := up_of v fun i => Host.reduce_andi_all _ _ _ _ _ hv i
  obtain ⟨fd, ed⟩ := up_of d fun i => Host.reduce_andi_all _ _ _ _ _ hd i
  obtain ⟨fg, eg⟩ := up_of g fun i => Host.reduce_andi_all _ _ _ _ _ hg i
  exact ⟨⟨fq, fk, fv, fd, fg⟩, eq, ek, ev, ed, eg⟩

end Cert.Proof

end
-- ==== Proof.Finish.lean ====
/-
  From finite arguments the kernel and the reference end with the same four arrays.
-/
module

public import proofs.«01_k».proof.Proof.Finite
public import proofs.«01_k».proof.Proof.Frames
public import proofs.«01_k».proof.Proof.Total

@[expose] public section

set_option maxRecDepth 16384

noncomputable section

namespace Cert.Proof

open Idealize.ShloMosaic Idealize.ShloMosaic.TcCoe Idealize.SL.Sem Cert.Fox

/-- A row of 8192 as a block and a row of the block. -/
theorem split_row (t : Fin 8192) : ∃ (i : Fin 8) (x : Fin 1024), t = row i x :=
  ⟨⟨t.val / 1024, by omega⟩, ⟨t.val % 1024, by omega⟩, Fin.ext (by show t.val = 1024 * (t.val / 1024) + t.val % 1024; omega)⟩

/-- A lane of 1024 as a pair of heads, a side and a lane of the head. -/
theorem split_lane (l : Fin 1024) : ∃ (p : Fin 8) (z : Fin 2) (d : Fin 64), l = lane (head p z) d :=
  ⟨⟨l.val / 128, by omega⟩, ⟨l.val / 64 % 2, by omega⟩, ⟨l.val % 64, by omega⟩,
    Fin.ext (by show l.val = 64 * (2 * (l.val / 128) + l.val / 64 % 2) + l.val % 64; omega)⟩

/-- Two arrays of 8192 rows of sixteen heads of 64 lanes are equal if they agree at every block, head and lane. -/
theorem ext_heads {φ : FTy} (X Y : FVec Ideal ⟨2, ![8192, 1024]⟩ φ)
    (h : ∀ (i : Fin 8) (x : Fin 1024) (p : Fin 8) (z : Fin 2) (d : Fin 64), X (ix2 (row i x) (lane (head p z) d)) = Y (ix2 (row i x) (lane (head p z) d))) :
    X = Y := by
  funext j
  obtain ⟨t, l, rfl⟩ : ∃ (t : Fin 8192) (l : Fin 1024), j = ix2 t l := ⟨j 0, j 1, eq_ix2 j⟩
  obtain ⟨i, x, rfl⟩ := split_row t
  obtain ⟨p, z, d, rfl⟩ := split_lane l
  exact h i x p z d

section Same

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}
  {c : Dev Cert.KernelIdeal.nD} {a : Args} (H : KerArgs m c a) (H' : RefArgs m' c a)

include H H'

theorem same_q : (Cert.ReferenceIdeal.Value.res_main_v85 m' c : FVec Ideal ⟨2, ![8192, 1024]⟩ .bf16) = Cert.KernelIdeal.Value.G7 m c :=
  ext_heads (φ := .bf16) _ _ fun i x p z d => by
    refine (ref_q_at H' (row i x) (head p z) d).trans ?_
    rw [← wide_side]
    refine ((G7_at (P := a.input) (fun t p i ht => reads H t p i ht) i x p (side z d)).trans ?_).symm
    exact congrArg (fun r : ℝ => (r : EReal)) (a.dq_at p z d i x)

theorem same_k : (Cert.ReferenceIdeal.Value.res_main_v86 m' c : FVec Ideal ⟨2, ![8192, 1024]⟩ .bf16) = Cert.KernelIdeal.Value.G8 m c :=
  ext_heads (φ := .bf16) _ _ fun j s p z d => by
    refine (ref_k_at H' (row j s) (head p z) d).trans ?_
    rw [← wide_side]
    refine ((G8_at (P := a.input) (fun t p i ht => reads H t p i ht) j s p (side z d)).trans ?_).symm
    exact congrArg (fun r : ℝ => (r : EReal)) (a.dk_at p z d j s)

theorem same_v : (Cert.ReferenceIdeal.Value.res_main_v87 m' c : FVec Ideal ⟨2, ![8192, 1024]⟩ .bf16) = Cert.KernelIdeal.Value.G9 m c :=
  ext_heads (φ := .bf16) _ _ fun j s p z d => by
    refine (ref_v_at H' (row j s) (head p z) d).trans ?_
    rw [← wide_side]
    refine ((G9_at (P := a.input) (fun t p i ht => reads H t p i ht) j s p (side z d)).trans ?_).symm
    exact congrArg (fun r : ℝ => (r : EReal)) (a.dv_at p z d j s)

theorem same_c : (Cert.ReferenceIdeal.Value.res_main_v88 m' c : FVec Ideal ⟨5, ![8, 2, 8, 1, 1024]⟩ .f32) = Cert.KernelIdeal.Value.G10 m c := by
  funext j
  obtain ⟨p, z, b, o, s, rfl⟩ : ∃ (p : Fin 8) (z : Fin 2) (b : Fin 8) (o : Fin 1) (s : Fin 1024), j = ix5 p z b o s := ⟨j 0, j 1, j 2, j 3, j 4, eq_ix5 j⟩
  refine (ref_c_at H' p z b o s).trans ?_
  refine ((G10_at (P := a.input) (fun t p i ht => reads H t p i ht) p z b o s).trans ?_).symm
  exact congrArg (fun r : ℝ => (r : EReal)) (a.dc_at p z b s)

end Same

theorem algebraic : algebraic_KernelIdeal_ReferenceIdeal_pre_finite (hKernelIdeal := Cert.KernelIdeal.Gen.facts)
    (hReferenceIdeal := Cert.ReferenceIdeal.Gen.facts) (hPre_finite := facts_finite) := by
  intro m g m' g' hpre hm
  refine ⟨Cert.KernelIdeal.Value.G7 m, Cert.KernelIdeal.Value.G8 m, Cert.KernelIdeal.Value.G9 m, Cert.KernelIdeal.Value.G10 m,
    Cert.KernelIdeal.Value.run m g, (θ_run (Cert.ReferenceIdeal.defs (F := Ideal)) _ _).mono (fun r h c => ?_) (Cert.ReferenceIdeal.Value.run m' g')⟩
  obtain ⟨a, eq, ek, ev, ed, eg⟩ := @args_of facts_finite _ _ _ _ _ (hpre c)
  obtain ⟨m0, m1, m2, m3, m4⟩ := hm c
  have H : KerArgs m c a := ⟨eq, ek, ev, ed, eg⟩
  have H' : RefArgs m' c a := ⟨m0.trans eq, m1.trans ek, m2.trans ev, m3.trans ed, m4.trans eg⟩
  obtain ⟨h0, h1, h2, h3, hargs⟩ := h c
  exact ⟨h0.trans (same_q H H'), h1.trans (same_k H H'), h2.trans (same_v H H'), h3.trans (same_c H H'), hargs⟩

end Cert.Proof

end
-- ==== Proof.Products.lean ====
/-
  Products summed block by block along the contracted axis.
-/
module

public import Idealize.ShloMosaic.Lib.Pointwise
public import Idealize.ShloMosaic.Lib.WritesUnit
public import Idealize.ShloMosaic.Lib.WholeRead
public import Idealize.ShloMosaic.Lib.VecWindow
public import Idealize.ShloMosaic.Lib.Pipeline.Value
public import Idealize.ShloMosaic.Lib.Pipeline.ValueKit

@[expose] public section

noncomputable section

namespace Cert.Products

open Idealize.ShloMosaic

/-- A quantity that starts afresh at the multiples of `J` and otherwise adds to what it was is the sum of the run's addends. -/
theorem run_sum {N J : ℕ} (f : (n : ℕ) → n < N → EReal) (M : ℕ → EReal)
    (h0 : ∀ (n : ℕ) (h : n < N), n % J = 0 → f n h = M n)
    (hs : ∀ (n : ℕ) (h : n < N), ¬ n % J = 0 → f n h = f (n - 1) (Nat.lt_of_le_of_lt (Nat.sub_le _ _) h) + M n) (q : ℕ) :
    ∀ (j : ℕ) (_ : j < J) (h : J * q + j < N), f (J * q + j) h = ∑ s ∈ Finset.range (j + 1), M (J * q + s)
  | 0, _, h => by
    rw [Finset.sum_range_one]
    exact h0 _ h (Nat.mul_mod_right J q)
  | j + 1, hj, h => by
    have hm : ¬ (J * q + (j + 1)) % J = 0 := by
      rw [Nat.mul_add_mod, Nat.mod_eq_of_lt hj]
      omega
    rw [hs _ h hm, Finset.sum_range_succ _ (j + 1)]
    exact congrArg (· + _) (run_sum f M h0 hs q j (Nat.lt_of_succ_lt hj) (Nat.lt_of_succ_lt h))

/-- A sum of `n` blocks of `b` is the sum over all. -/
theorem sum_blocks (b : ℕ) (f : ℕ → EReal) : ∀ n : ℕ, ∑ s ∈ Finset.range n, ∑ k : Fin b, f (b * s + k.val) = ∑ k ∈ Finset.range (b * n), f k
  | 0 => by simp
  | n + 1 => by
    rw [Finset.sum_range_succ, sum_blocks b f n, Nat.mul_succ, Finset.sum_range_add]
    exact congrArg (_ + ·) (Fin.sum_univ_eq_sum_range (fun k => f (b * n + k)) b)

/-- The same, over the indices of the whole axis. -/
theorem sum_axis (n b : ℕ) (N : ℕ) (hN : N = b * n) (f : Fin N → EReal) (g : ℕ → Fin b → EReal)
    (hg : ∀ (s : ℕ) (k : Fin b) (h : b * s + k.val < N), s < n → g s k = f ⟨b * s + k.val, h⟩) :
    ∑ s ∈ Finset.range n, ∑ k : Fin b, g s k = ∑ k : Fin N, f k := by
  subst hN
  have e := sum_blocks b (fun k => if h : k < b * n then f ⟨k, h⟩ else 0) n
  rw [Finset.sum_congr rfl (fun s hs => Finset.sum_congr rfl fun k _ => show g s k = (if h : b * s + k.val < b * n then f ⟨b * s + k.val, h⟩ else 0) from ?_), e,
    ← Fin.sum_univ_eq_sum_range (fun k => if h : k < b * n then f ⟨k, h⟩ else 0)]
  · exact Finset.sum_congr rfl fun k _ => dif_pos k.isLt
  · have hs' : s < n := Finset.mem_range.1 hs
    have hlt : b * s + k.val < b * n := by
      have := Nat.mul_le_mul_left b (Nat.succ_le_of_lt hs')
      rw [Nat.mul_succ] at this
      omega
    rw [dif_pos hlt]
    exact hg s k hlt hs'

end Cert.Products

end
-- ==== Proof.InRight.lean ====
/-
  The gradient of one ninth of the input projection's weights: a product summed over four blocks of rows.
-/
module

public import proofs.«01_k».proof.Defs
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Products
import Idealize.ShloMosaic.Lib.StableHlo.ReadAt

@[expose] public section

set_option maxRecDepth 16384

noncomputable section

namespace Cert.InRight

open Idealize.ShloMosaic Idealize.ShloMosaic.TcCoe Idealize.SL.Sem Cert.Kernel9Ideal Cert.Kernel9Ideal.Gen Cert.Products

theorem first (c : Dev nD) (t : Fin cfg0.N) (h0 : cond0_0 (grid0.coords t)) (h1 : ¬cond0_1 (grid0.coords t)) (x0 : Vec Ideal S1024x2048 .bf16) (x1 : Vec Ideal S2048x1024 .bf16) :
    out0_A_2 (F := Ideal) c (grid0.coords t) (ms0_0 t) (hs0_0 t) (ms0_1 t) (hs0_1 t) (ms0_2 t) (hs0_2 t) h0 h1 x0 x1 = k0_pay1 x0 x1 := by
  unfold out0_A_2 kernelRun0_A
  dsimp only
  sl_unfold_run_names
  refine (View.read_writes_full _ _ _ _ _).trans ?_
  rw [View.readAt_full, View.readAt_full, (hs0_0 t).read_unread, (hs0_1 t).read_unread]

theorem next (c : Dev nD) (t : Fin cfg0.N) (h0 : ¬cond0_0 (grid0.coords t)) (h1 : cond0_1 (grid0.coords t)) (x0 : Vec Ideal S1024x2048 .bf16) (x1 : Vec Ideal S2048x1024 .bf16) (xo : Vec Ideal S1024x1024 .f32) :
    out0_B_2 (F := Ideal) c (grid0.coords t) (ms0_0 t) (hs0_0 t) (ms0_1 t) (hs0_1 t) (ms0_2 t) (hs0_2 t) h0 h1 x0 x1 xo = k0_pay2 x0 x1 xo := by
  unfold out0_B_2 kernelRun0_B
  dsimp only
  sl_unfold_run_names
  refine (View.read_writes_full _ _ _ _ _).trans ?_
  rw [View.readAt_full, View.readAt_full, View.readAt_full, (hs0_0 t).read_unread, (hs0_1 t).read_unread, (hs0_2 t).read_unread]

theorem pay1_at (x0 : Vec Ideal S1024x2048 .bf16) (x1 : Vec Ideal S2048x1024 .bf16) (x : Fin 1024) (y : Fin 1024) :
    (k0_pay1 x0 x1 : FVec Ideal S1024x1024 .f32) (ix2 x y) = ∑ k : Fin 2048, x0 (ix2 x k) * x1 (ix2 k y) := by
  unfold k0_pay1
  pointwise
  try simp

theorem pay2_at (x0 : Vec Ideal S1024x2048 .bf16) (x1 : Vec Ideal S2048x1024 .bf16) (xo : Vec Ideal S1024x1024 .f32) (x : Fin 1024) (y : Fin 1024) :
    (k0_pay2 x0 x1 xo : FVec Ideal S1024x1024 .f32) (ix2 x y) = xo (ix2 x y) + ∑ k : Fin 2048, x0 (ix2 x k) * x1 (ix2 k y) := by
  rw [← pay1_at]
  unfold k0_pay2
  pointwise

variable (m : (ℓ : Loc nD τ sig) → Buf (Elt Ideal) ℓ) (c : Dev nD)

theorem index_at : ∀ t : Fin cfg0.N, win0_0.index t = ![t.val / 4, t.val % 4] ∧ win0_1.index t = ![t.val % 4, 0] ∧ win0_2.index t = ![t.val / 4, 0] :=
  (by decide +kernel : ∀ t : Fin grid0.N, _)

theorem disjoint2 : ∀ t t' : Fin cfg0.N, (cfg0.win 2).flush t = true → (cfg0.win 2).flush t' = true → t ≠ t' →
    Disjoint ((cfg0.win 2).blk t).view.set ((cfg0.win 2).blk t').view.set := by
  intro t t' hf hf' hne
  refine (cfg0.win 2).disjoint_blk fun h => hne ?_
  have e : win0_2.index t = win0_2.index t' := h
  rw [(index_at t).2.2, (index_at t').2.2] at e
  have e0 : t.val / 4 = t'.val / 4 := congrFun e 0
  have r := (flush0_2 t).1 hf
  have r' := (flush0_2 t').1 hf'
  exact Fin.ext (by omega)

/-- The two factors as the call takes them. -/
abbrev A : FVec Ideal S1024x8192 .bf16 := V m c main_v1
abbrev B : FVec Ideal S8192x1024 .bf16 := V m c main_v2

/-- The blocks of a grid step. -/
def bA (t : Fin cfg0.N) : FVec Ideal S1024x2048 .bf16 := iblk m c 0 t
def bB (t : Fin cfg0.N) : FVec Ideal S2048x1024 .bf16 := iblk m c 1 t

/-- What a grid step adds. -/
def part (x y : ℕ) (n : ℕ) (k : Fin 2048) : EReal :=
  if h : x < 1024 ∧ y < 1024 ∧ 2048 * n + k.val < 8192 then A m c (ix2 ⟨x, h.1⟩ ⟨2048 * n + k.val, h.2.2⟩) * B m c (ix2 ⟨2048 * n + k.val, h.2.2⟩ ⟨y, h.2.1⟩) else 0

theorem part_at (t : Fin cfg0.N) (x : Fin 1024) (y : Fin 1024) (k : Fin 2048) :
    bA m c t (ix2 x k) * bB m c t (ix2 k y)
      = part m c (1024 * (t.val / 4) + x.val) (y.val) (t.val % 4) k := by
  have hN : cfg0.N = 4 := N_0
  have ht := t.isLt
  have e0 : t.val / 4 < 1 := by omega
  unfold part
  rw [dif_pos ⟨by omega, by omega, by omega⟩]
  refine congrArg₂ (· * ·) ?_ ?_
  · unfold bA
    blk_ext [iblk, index_at t]
  · unfold bB
    blk_ext [iblk, index_at t]

theorem outs_at (q j : ℕ) (hj : j < 4) (h : 4 * q + j < cfg0.N) (x : Fin 1024) (y : Fin 1024) :
    (outsAt0 m c (4 * q + j) h : Vec Ideal S1024x1024 .f32) (ix2 x y) = ∑ s ∈ Finset.range (j + 1), ∑ k, part m c (1024 * q + x.val) (y.val) s k := by
  refine (run_sum (J := 4) (fun n h => (outsAt0 m c n h : Vec Ideal S1024x1024 .f32) (ix2 x y))
    (fun n => ∑ k, part m c (1024 * (n / 4) + x.val) (y.val) (n % 4) k) ?_ ?_ q j hj h).trans ?_
  · intro n h h0
    have h1 : ¬ 1 ≤ n := by have h4 : n < 4 := h; omega
    refine (congrFun ((outsAt0_A m c ⟨n, h⟩ h0 h1).trans (first c ⟨n, h⟩ _ _ _ _)) (ix2 x y)).trans ?_
    rw [pay1_at]
    exact Finset.sum_congr rfl fun k _ => part_at m c ⟨n, h⟩ x y k
  · intro n h h0
    have h1 : 1 ≤ n := by have h4 : n < 4 := h; omega
    refine (congrFun ((outsAt0_B m c ⟨n, h⟩ h0 h1).trans (next c ⟨n, h⟩ _ _ _ _ _)) (ix2 x y)).trans ?_
    rw [pay2_at]
    exact congrArg (_ + ·) (Finset.sum_congr rfl fun k _ => part_at m c ⟨n, h⟩ x y k)
  · refine Finset.sum_congr rfl fun s hs => ?_
    have hs' := Finset.mem_range.1 hs
    rw [show (4 * q + s) / 4 = q by omega, show (4 * q + s) % 4 = s by omega]

/-- The result of the call, at an index. -/
theorem result_at (r : Fin 1024) (y : Fin 1024) :
    ((dats m 0 c).arrAt 2 cfg0.N : Vec Ideal S1024x1024 .f32) (ix2 r y) = ∑ k : Fin 8192, A m c (ix2 r k) * B m c (ix2 k y) := by
  have hN : cfg0.N = 4 := N_0
  have hr : 4 * (r.val / 1024) + 3 < cfg0.N := by omega
  have hf : (cfg0.win 2).flush ⟨4 * (r.val / 1024) + 3, hr⟩ = true := (flush0_2 _).2 (by show (4 * (r.val / 1024) + 3) % 4 = 3; omega)
  have e := congrFun ((dats m 0 c).read_blk_arrAt_eq_flushed 2 disjoint2 cfg0.N _ hr hf) (ix2 ⟨r.val % 1024, by omega⟩ y)
  have h0 : (4 * (r.val / 1024) + 3) / 4 = r.val / 1024 := by omega
  have hd : 1024 * (r.val / 1024) + r.val % 1024 = r.val := by omega
  have e1 : ((cfg0.win 2).blk ⟨4 * (r.val / 1024) + 3, hr⟩).view.read (Elt Ideal) ((dats m 0 c).arrAt 2 cfg0.N) (ix2 ⟨r.val % 1024, by omega⟩ y)
      = ((dats m 0 c).arrAt 2 cfg0.N : Vec Ideal S1024x1024 .f32) (ix2 r y) := by
    blk_ext [index_at ⟨4 * (r.val / 1024) + 3, hr⟩, h0, hd]
  rw [e1] at e
  refine e.trans ?_
  rw [Value.flushed2]
  refine (outs_at m c (r.val / 1024) 3 (by omega) hr ⟨r.val % 1024, by omega⟩ y).trans ?_
  refine sum_axis 4 2048 8192 rfl _ _ fun s k h hs => ?_
  unfold part
  dsimp only
  simp only [hd]
  exact dif_pos ⟨r.isLt, y.isLt, h⟩

/-- The two factors as the arguments give them. -/
abbrev inA : FVec Ideal S8192x1024 .f32 := m ((c.tc : Thread nD τ).loc main_arg0)
abbrev inB : FVec Ideal S8192x1024 .f32 := m ((c.tc : Thread nD τ).loc main_arg2)

theorem A_at (r : Fin 1024) (k : Fin 8192) : A m c (ix2 r k) = inA m c (ix2 k r) := by
  unfold A V
  after_reads_simp
  pointwise

theorem B_at (r : Fin 8192) (k : Fin 1024) : B m c (ix2 r k) = inB m c (ix2 r k) := by
  unfold B V
  after_reads_simp
  pointwise

theorem value_at (r : Fin 1024) (y : Fin 1024) :
    @Eq EReal (((dats m 0 c).arrAt 2 cfg0.N : Vec Ideal S1024x1024 .f32) (ix2 r y))
      (∑ k : Fin 8192, inA m c (ix2 k r) * inB m c (ix2 k y)) := by
  rw [result_at]
  exact Finset.sum_congr rfl fun k _ => by rw [A_at, B_at]

end Cert.InRight

namespace Cert.Proof

open Idealize.ShloMosaic Idealize.SL.Sem

section

attribute [local instance] Cert.Kernel9.Gen.facts Cert.Kernel9Ideal.Gen.facts Cert.Reference9Ideal.Gen.facts

theorem frame_Kernel9 : Cert.quiescent_Kernel9 := fun m ρ _ => Cert.Kernel9.Gen.frame (F := Bits) m ρ

theorem frame_Kernel9Ideal : Cert.quiescent_Kernel9Ideal := fun m ρ _ => Cert.Kernel9Ideal.Gen.frame (F := Ideal) m ρ

/-- The reference declares no semaphore. -/
theorem frame_Reference9Ideal : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem preserves9 : Cert.preserves_Kernel9_Kernel9Ideal := trivial

end

theorem algebraic9 : algebraic_Kernel9Ideal_Reference9Ideal (hKernel9Ideal := Cert.Kernel9Ideal.Gen.facts)
    (hReference9Ideal := Cert.Reference9Ideal.Gen.facts) := by
  intro m g m' g' hpre hm
  refine ⟨fun c => (Cert.Kernel9Ideal.Gen.dats m 0 c).arrAt 2 Cert.Kernel9Ideal.cfg0.N, Cert.Kernel9Ideal.Value.run_blocks m g,
    (θ_run (Cert.Reference9Ideal.defs (F := Ideal)) _ _).mono (fun r h c => ⟨?_, (h c).2⟩) (Cert.Reference9Ideal.Value.run m' g')⟩
  refine (h c).1.trans ?_
  obtain ⟨m0, m1, m2⟩ := hm c
  funext j
  obtain ⟨x, y, rfl⟩ : ∃ (x : Fin 1024) (y : Fin 1024), j = ix2 x y := ⟨j 0, j 1, eq_ix2 j⟩
  refine Eq.trans ?_ (Cert.InRight.value_at m c x y).symm
  rw [m0, m2]
  pointwise
  exact Finset.sum_congr rfl fun k _ => mul_comm _ _

end Cert.Proof

end
-- ==== Proof.OutRight.lean ====
/-
  The gradient of the output projection's weights: a product summed over four blocks of rows.
-/
module

public import proofs.«01_k».proof.Defs
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Products
import Idealize.ShloMosaic.Lib.StableHlo.ReadAt

@[expose] public section

set_option maxRecDepth 16384

noncomputable section

namespace Cert.OutRight

open Idealize.ShloMosaic Idealize.ShloMosaic.TcCoe Idealize.SL.Sem Cert.Kernel8Ideal Cert.Kernel8Ideal.Gen Cert.Products

theorem first (c : Dev nD) (t : Fin cfg0.N) (h0 : cond0_0 (grid0.coords t)) (h1 : ¬cond0_1 (grid0.coords t)) (x0 : Vec Ideal S2048x1024 .bf16) (x1 : Vec Ideal S2048x1024 .f32) :
    out0_A_2 (F := Ideal) c (grid0.coords t) (ms0_0 t) (hs0_0 t) (ms0_1 t) (hs0_1 t) (ms0_2 t) (hs0_2 t) h0 h1 x0 x1 = k0_pay1 x0 x1 := by
  unfold out0_A_2 kernelRun0_A
  dsimp only
  sl_unfold_run_names
  refine (View.read_writes_full _ _ _ _ _).trans ?_
  rw [View.readAt_full, View.readAt_full, (hs0_0 t).read_unread, (hs0_1 t).read_unread]

theorem next (c : Dev nD) (t : Fin cfg0.N) (h0 : ¬cond0_0 (grid0.coords t)) (h1 : cond0_1 (grid0.coords t)) (x0 : Vec Ideal S2048x1024 .bf16) (x1 : Vec Ideal S2048x1024 .f32) (xo : Vec Ideal S1024x1024 .f32) :
    out0_B_2 (F := Ideal) c (grid0.coords t) (ms0_0 t) (hs0_0 t) (ms0_1 t) (hs0_1 t) (ms0_2 t) (hs0_2 t) h0 h1 x0 x1 xo = k0_pay2 x0 x1 xo := by
  unfold out0_B_2 kernelRun0_B
  dsimp only
  sl_unfold_run_names
  refine (View.read_writes_full _ _ _ _ _).trans ?_
  rw [View.readAt_full, View.readAt_full, View.readAt_full, (hs0_0 t).read_unread, (hs0_1 t).read_unread, (hs0_2 t).read_unread]

theorem pay1_at (x0 : Vec Ideal S2048x1024 .bf16) (x1 : Vec Ideal S2048x1024 .f32) (x : Fin 1024) (y : Fin 1024) :
    (k0_pay1 x0 x1 : FVec Ideal S1024x1024 .f32) (ix2 x y) = ∑ k : Fin 2048, x0 (ix2 k x) * x1 (ix2 k y) := by
  unfold k0_pay1
  pointwise
  try simp

theorem pay2_at (x0 : Vec Ideal S2048x1024 .bf16) (x1 : Vec Ideal S2048x1024 .f32) (xo : Vec Ideal S1024x1024 .f32) (x : Fin 1024) (y : Fin 1024) :
    (k0_pay2 x0 x1 xo : FVec Ideal S1024x1024 .f32) (ix2 x y) = xo (ix2 x y) + ∑ k : Fin 2048, x0 (ix2 k x) * x1 (ix2 k y) := by
  rw [← pay1_at]
  unfold k0_pay2
  pointwise

variable (m : (ℓ : Loc nD τ sig) → Buf (Elt Ideal) ℓ) (c : Dev nD)

theorem index_at : ∀ t : Fin cfg0.N, win0_0.index t = ![t.val % 4, t.val / 4] ∧ win0_1.index t = ![t.val % 4, 0] ∧ win0_2.index t = ![t.val / 4, 0] :=
  (by decide +kernel : ∀ t : Fin grid0.N, _)

theorem disjoint2 : ∀ t t' : Fin cfg0.N, (cfg0.win 2).flush t = true → (cfg0.win 2).flush t' = true → t ≠ t' →
    Disjoint ((cfg0.win 2).blk t).view.set ((cfg0.win 2).blk t').view.set := by
  intro t t' hf hf' hne
  refine (cfg0.win 2).disjoint_blk fun h => hne ?_
  have e : win0_2.index t = win0_2.index t' := h
  rw [(index_at t).2.2, (index_at t').2.2] at e
  have e0 : t.val / 4 = t'.val / 4 := congrFun e 0
  have r := (flush0_2 t).1 hf
  have r' := (flush0_2 t').1 hf'
  exact Fin.ext (by omega)

/-- The two factors as the call takes them. -/
abbrev A : FVec Ideal S8192x1024 .bf16 := V m c main_v0
abbrev B : FVec Ideal S8192x1024 .f32 := V m c main_arg2

/-- The blocks of a grid step. -/
def bA (t : Fin cfg0.N) : FVec Ideal S2048x1024 .bf16 := iblk m c 0 t
def bB (t : Fin cfg0.N) : FVec Ideal S2048x1024 .f32 := iblk m c 1 t

/-- What a grid step adds. -/
def part (x y : ℕ) (n : ℕ) (k : Fin 2048) : EReal :=
  if h : x < 1024 ∧ y < 1024 ∧ 2048 * n + k.val < 8192 then A m c (ix2 ⟨2048 * n + k.val, h.2.2⟩ ⟨x, h.1⟩) * B m c (ix2 ⟨2048 * n + k.val, h.2.2⟩ ⟨y, h.2.1⟩) else 0

theorem part_at (t : Fin cfg0.N) (x : Fin 1024) (y : Fin 1024) (k : Fin 2048) :
    bA m c t (ix2 k x) * bB m c t (ix2 k y)
      = part m c (1024 * (t.val / 4) + x.val) (y.val) (t.val % 4) k := by
  have hN : cfg0.N = 4 := N_0
  have ht := t.isLt
  have e0 : t.val / 4 < 1 := by omega
  unfold part
  rw [dif_pos ⟨by omega, by omega, by omega⟩]
  refine congrArg₂ (· * ·) ?_ ?_
  · unfold bA
    blk_ext [iblk, index_at t]
  · unfold bB
    blk_ext [iblk, index_at t]

theorem outs_at (q j : ℕ) (hj : j < 4) (h : 4 * q + j < cfg0.N) (x : Fin 1024) (y : Fin 1024) :
    (outsAt0 m c (4 * q + j) h : Vec Ideal S1024x1024 .f32) (ix2 x y) = ∑ s ∈ Finset.range (j + 1), ∑ k, part m c (1024 * q + x.val) (y.val) s k := by
  refine (run_sum (J := 4) (fun n h => (outsAt0 m c n h : Vec Ideal S1024x1024 .f32) (ix2 x y))
    (fun n => ∑ k, part m c (1024 * (n / 4) + x.val) (y.val) (n % 4) k) ?_ ?_ q j hj h).trans ?_
  · intro n h h0
    have h1 : ¬ 1 ≤ n := by have h4 : n < 4 := h; omega
    refine (congrFun ((outsAt0_A m c ⟨n, h⟩ h0 h1).trans (first c ⟨n, h⟩ _ _ _ _)) (ix2 x y)).trans ?_
    rw [pay1_at]
    exact Finset.sum_congr rfl fun k _ => part_at m c ⟨n, h⟩ x y k
  · intro n h h0
    have h1 : 1 ≤ n := by have h4 : n < 4 := h; omega
    refine (congrFun ((outsAt0_B m c ⟨n, h⟩ h0 h1).trans (next c ⟨n, h⟩ _ _ _ _ _)) (ix2 x y)).trans ?_
    rw [pay2_at]
    exact congrArg (_ + ·) (Finset.sum_congr rfl fun k _ => part_at m c ⟨n, h⟩ x y k)
  · refine Finset.sum_congr rfl fun s hs => ?_
    have hs' := Finset.mem_range.1 hs
    rw [show (4 * q + s) / 4 = q by omega, show (4 * q + s) % 4 = s by omega]

/-- The result of the call, at an index. -/
theorem result_at (r : Fin 1024) (y : Fin 1024) :
    ((dats m 0 c).arrAt 2 cfg0.N : Vec Ideal S1024x1024 .f32) (ix2 r y) = ∑ k : Fin 8192, A m c (ix2 k r) * B m c (ix2 k y) := by
  have hN : cfg0.N = 4 := N_0
  have hr : 4 * (r.val / 1024) + 3 < cfg0.N := by omega
  have hf : (cfg0.win 2).flush ⟨4 * (r.val / 1024) + 3, hr⟩ = true := (flush0_2 _).2 (by show (4 * (r.val / 1024) + 3) % 4 = 3; omega)
  have e := congrFun ((dats m 0 c).read_blk_arrAt_eq_flushed 2 disjoint2 cfg0.N _ hr hf) (ix2 ⟨r.val % 1024, by omega⟩ y)
  have h0 : (4 * (r.val / 1024) + 3) / 4 = r.val / 1024 := by omega
  have hd : 1024 * (r.val / 1024) + r.val % 1024 = r.val := by omega
  have e1 : ((cfg0.win 2).blk ⟨4 * (r.val / 1024) + 3, hr⟩).view.read (Elt Ideal) ((dats m 0 c).arrAt 2 cfg0.N) (ix2 ⟨r.val % 1024, by omega⟩ y)
      = ((dats m 0 c).arrAt 2 cfg0.N : Vec Ideal S1024x1024 .f32) (ix2 r y) := by
    blk_ext [index_at ⟨4 * (r.val / 1024) + 3, hr⟩, h0, hd]
  rw [e1] at e
  refine e.trans ?_
  rw [Value.flushed2]
  refine (outs_at m c (r.val / 1024) 3 (by omega) hr ⟨r.val % 1024, by omega⟩ y).trans ?_
  refine sum_axis 4 2048 8192 rfl _ _ fun s k h hs => ?_
  unfold part
  dsimp only
  simp only [hd]
  exact dif_pos ⟨r.isLt, y.isLt, h⟩

/-- The two factors as the arguments give them. -/
abbrev inA : FVec Ideal S8192x1024 .f32 := m ((c.tc : Thread nD τ).loc main_arg0)
abbrev inB : FVec Ideal S8192x1024 .f32 := m ((c.tc : Thread nD τ).loc main_arg2)

theorem A_at (r : Fin 8192) (k : Fin 1024) : A m c (ix2 r k) = inA m c (ix2 r k) := by
  unfold A V
  after_reads_simp
  pointwise

theorem B_at (r : Fin 8192) (k : Fin 1024) : B m c (ix2 r k) = inB m c (ix2 r k) := by
  exact congrFun (V_main_arg2 m c) _

theorem value_at (r : Fin 1024) (y : Fin 1024) :
    @Eq EReal (((dats m 0 c).arrAt 2 cfg0.N : Vec Ideal S1024x1024 .f32) (ix2 r y))
      (∑ k : Fin 8192, inA m c (ix2 k r) * inB m c (ix2 k y)) := by
  rw [result_at]
  exact Finset.sum_congr rfl fun k _ => by rw [A_at, B_at]

end Cert.OutRight

namespace Cert.Proof

open Idealize.ShloMosaic Idealize.SL.Sem

section

attribute [local instance] Cert.Kernel8.Gen.facts Cert.Kernel8Ideal.Gen.facts Cert.Reference8Ideal.Gen.facts

theorem frame_Kernel8 : Cert.quiescent_Kernel8 := fun m ρ _ => Cert.Kernel8.Gen.frame (F := Bits) m ρ

theorem frame_Kernel8Ideal : Cert.quiescent_Kernel8Ideal := fun m ρ _ => Cert.Kernel8Ideal.Gen.frame (F := Ideal) m ρ

/-- The reference declares no semaphore. -/
theorem frame_Reference8Ideal : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem preserves8 : Cert.preserves_Kernel8_Kernel8Ideal := trivial

end

theorem algebraic8 : algebraic_Kernel8Ideal_Reference8Ideal (hKernel8Ideal := Cert.Kernel8Ideal.Gen.facts)
    (hReference8Ideal := Cert.Reference8Ideal.Gen.facts) := by
  intro m g m' g' hpre hm
  refine ⟨fun c => (Cert.Kernel8Ideal.Gen.dats m 0 c).arrAt 2 Cert.Kernel8Ideal.cfg0.N, Cert.Kernel8Ideal.Value.run_blocks m g,
    (θ_run (Cert.Reference8Ideal.defs (F := Ideal)) _ _).mono (fun r h c => ⟨?_, (h c).2⟩) (Cert.Reference8Ideal.Value.run m' g')⟩
  refine (h c).1.trans ?_
  obtain ⟨m0, m1, m2⟩ := hm c
  funext j
  obtain ⟨x, y, rfl⟩ : ∃ (x : Fin 1024) (y : Fin 1024), j = ix2 x y := ⟨j 0, j 1, eq_ix2 j⟩
  refine Eq.trans ?_ (Cert.OutRight.value_at m c x y).symm
  rw [m0, m2]
  pointwise
  exact Finset.sum_congr rfl fun k _ => mul_comm _ _

end Cert.Proof

end
-- ==== Proof.OutLeft.lean ====
/-
  The gradient of the rows that the output projection takes: a product, one grid step a block of rows.
-/
module

public import proofs.«01_k».proof.Defs
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Products
import Idealize.ShloMosaic.Lib.StableHlo.ReadAt

@[expose] public section

set_option maxRecDepth 16384

noncomputable section

namespace Cert.OutLeft

open Idealize.ShloMosaic Idealize.ShloMosaic.TcCoe Idealize.SL.Sem Cert.Kernel7Ideal Cert.Kernel7Ideal.Gen Cert.Products

theorem only (x0 : Vec Ideal S1024x1024 .f32) (x1 : Vec Ideal S1024x1024 .bf16) : out0_2 (F := Ideal) x0 x1 = k0_pay1 x0 x1 := by
  unfold out0_2
  rw [View.canon_unit_zero (by decide), View.ld_unit_zero (by decide), View.ld_unit_zero (by decide)]

theorem pay1_at (x0 : Vec Ideal S1024x1024 .f32) (x1 : Vec Ideal S1024x1024 .bf16) (x : Fin 1024) (y : Fin 1024) :
    (k0_pay1 x0 x1 : FVec Ideal S1024x1024 .f32) (ix2 x y) = ∑ k : Fin 1024, x0 (ix2 x k) * x1 (ix2 y k) := by
  unfold k0_pay1
  pointwise
  try simp

variable (m : (ℓ : Loc nD τ sig) → Buf (Elt Ideal) ℓ) (c : Dev nD)

theorem index_at : ∀ t : Fin cfg0.N, win0_0.index t = ![t.val, 0] ∧ win0_1.index t = ![0, 0] ∧ win0_2.index t = ![t.val, 0] :=
  (by decide +kernel : ∀ t : Fin grid0.N, _)

/-- The two factors as the call takes them. -/
abbrev A : FVec Ideal S8192x1024 .f32 := V m c main_arg2
abbrev B : FVec Ideal S1024x1024 .bf16 := V m c main_v0

/-- The blocks of a grid step. -/
def bA (t : Fin cfg0.N) : FVec Ideal S1024x1024 .f32 := iblk m c 0 t
def bB (t : Fin cfg0.N) : FVec Ideal S1024x1024 .bf16 := iblk m c 1 t

/-- The result of the call, at an index. -/
theorem result_at (r : Fin 8192) (y : Fin 1024) :
    ((dats m 0 c).arrAt 2 cfg0.N : Vec Ideal S8192x1024 .f32) (ix2 r y) = ∑ k : Fin 1024, A m c (ix2 r k) * B m c (ix2 y k) := by
  have hN : cfg0.N = 8 := N_0
  have hr : r.val / 1024 < cfg0.N := by omega
  have hd : 1024 * (r.val / 1024) + r.val % 1024 = r.val := by omega
  have e := congrFun (Value.blocks2 m c ⟨r.val / 1024, hr⟩ (flush0_2 _)) (ix2 ⟨r.val % 1024, by omega⟩ y)
  have e1 : ((cfg0.win 2).blk ⟨r.val / 1024, hr⟩).view.read (Elt Ideal) ((dats m 0 c).arrAt 2 cfg0.N) (ix2 ⟨r.val % 1024, by omega⟩ y)
      = ((dats m 0 c).arrAt 2 cfg0.N : Vec Ideal S8192x1024 .f32) (ix2 r y) := by
    blk_ext [index_at ⟨r.val / 1024, hr⟩, hd]
  rw [e1] at e
  refine e.trans ?_
  rw [Value.flushed2]
  refine (congrFun (only (bA m c ⟨r.val / 1024, hr⟩) (bB m c ⟨r.val / 1024, hr⟩)) (ix2 ⟨r.val % 1024, by omega⟩ y)).trans ?_
  rw [pay1_at]
  refine Finset.sum_congr rfl fun k _ => congrArg₂ (· * ·) ?_ ?_
  · unfold bA
    blk_ext [iblk, index_at ⟨r.val / 1024, hr⟩, hd]
  · unfold bB
    blk_ext [iblk, index_at ⟨r.val / 1024, hr⟩]

/-- The two factors as the arguments give them. -/
abbrev inA : FVec Ideal S8192x1024 .f32 := m ((c.tc : Thread nD τ).loc main_arg2)
abbrev inB : FVec Ideal S1024x1024 .f32 := m ((c.tc : Thread nD τ).loc main_arg1)

theorem A_at (r : Fin 8192) (k : Fin 1024) : A m c (ix2 r k) = inA m c (ix2 r k) := by
  exact congrFun (V_main_arg2 m c) _

theorem B_at (r : Fin 1024) (k : Fin 1024) : B m c (ix2 r k) = inB m c (ix2 r k) := by
  unfold B V
  after_reads_simp
  pointwise

theorem value_at (r : Fin 8192) (y : Fin 1024) :
    @Eq EReal (((dats m 0 c).arrAt 2 cfg0.N : Vec Ideal S8192x1024 .f32) (ix2 r y))
      (∑ k : Fin 1024, inA m c (ix2 r k) * inB m c (ix2 y k)) := by
  rw [result_at]
  exact Finset.sum_congr rfl fun k _ => by rw [A_at, B_at]

end Cert.OutLeft

namespace Cert.Proof

open Idealize.ShloMosaic Idealize.SL.Sem

section

attribute [local instance] Cert.Kernel7.Gen.facts Cert.Kernel7Ideal.Gen.facts Cert.Reference7Ideal.Gen.facts

theorem frame_Kernel7 : Cert.quiescent_Kernel7 := fun m ρ _ => Cert.Kernel7.Gen.frame (F := Bits) m ρ

theorem frame_Kernel7Ideal : Cert.quiescent_Kernel7Ideal := fun m ρ _ => Cert.Kernel7Ideal.Gen.frame (F := Ideal) m ρ

/-- The reference declares no semaphore. -/
theorem frame_Reference7Ideal : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem preserves7 : Cert.preserves_Kernel7_Kernel7Ideal := trivial

end

theorem algebraic7 : algebraic_Kernel7Ideal_Reference7Ideal (hKernel7Ideal := Cert.Kernel7Ideal.Gen.facts)
    (hReference7Ideal := Cert.Reference7Ideal.Gen.facts) := by
  intro m g m' g' hpre hm
  refine ⟨fun c => (Cert.Kernel7Ideal.Gen.dats m 0 c).arrAt 2 Cert.Kernel7Ideal.cfg0.N, Cert.Kernel7Ideal.Value.run_blocks m g,
    (θ_run (Cert.Reference7Ideal.defs (F := Ideal)) _ _).mono (fun r h c => ⟨?_, (h c).2⟩) (Cert.Reference7Ideal.Value.run m' g')⟩
  refine (h c).1.trans ?_
  obtain ⟨m0, m1, m2⟩ := hm c
  funext j
  obtain ⟨x, y, rfl⟩ : ∃ (x : Fin 8192) (y : Fin 1024), j = ix2 x y := ⟨j 0, j 1, eq_ix2 j⟩
  refine Eq.trans ?_ (Cert.OutLeft.value_at m c x y).symm
  rw [m2, m1]
  pointwise
  try rfl

end Cert.Proof

end
-- ==== Proof.DownRight.lean ====
/-
  The gradient of the down projection's weights: a product summed over eight blocks of rows.
-/
module

public import proofs.«01_k».proof.Defs
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Products
import Idealize.ShloMosaic.Lib.StableHlo.ReadAt

@[expose] public section

set_option maxRecDepth 16384

noncomputable section

namespace Cert.DownRight

open Idealize.ShloMosaic Idealize.ShloMosaic.TcCoe Idealize.SL.Sem Cert.Kernel6Ideal Cert.Kernel6Ideal.Gen Cert.Products

theorem first (c : Dev nD) (t : Fin cfg0.N) (h0 : cond0_0 (grid0.coords t)) (h1 : ¬cond0_1 (grid0.coords t)) (x0 : Vec Ideal S1024x1408 .bf16) (x1 : Vec Ideal S1024x1024 .f32) :
    out0_A_2 (F := Ideal) c (grid0.coords t) (ms0_0 t) (hs0_0 t) (ms0_1 t) (hs0_1 t) (ms0_2 t) (hs0_2 t) h0 h1 x0 x1 = k0_pay1 x0 x1 := by
  unfold out0_A_2 kernelRun0_A
  dsimp only
  sl_unfold_run_names
  refine (View.read_writes_full _ _ _ _ _).trans ?_
  rw [View.readAt_full, View.readAt_full, (hs0_0 t).read_unread, (hs0_1 t).read_unread]

theorem next (c : Dev nD) (t : Fin cfg0.N) (h0 : ¬cond0_0 (grid0.coords t)) (h1 : cond0_1 (grid0.coords t)) (x0 : Vec Ideal S1024x1408 .bf16) (x1 : Vec Ideal S1024x1024 .f32) (xo : Vec Ideal S1408x1024 .f32) :
    out0_B_2 (F := Ideal) c (grid0.coords t) (ms0_0 t) (hs0_0 t) (ms0_1 t) (hs0_1 t) (ms0_2 t) (hs0_2 t) h0 h1 x0 x1 xo = k0_pay2 x0 x1 xo := by
  unfold out0_B_2 kernelRun0_B
  dsimp only
  sl_unfold_run_names
  refine (View.read_writes_full _ _ _ _ _).trans ?_
  rw [View.readAt_full, View.readAt_full, View.readAt_full, (hs0_0 t).read_unread, (hs0_1 t).read_unread, (hs0_2 t).read_unread]

theorem pay1_at (x0 : Vec Ideal S1024x1408 .bf16) (x1 : Vec Ideal S1024x1024 .f32) (x : Fin 1408) (y : Fin 1024) :
    (k0_pay1 x0 x1 : FVec Ideal S1408x1024 .f32) (ix2 x y) = ∑ k : Fin 1024, x0 (ix2 k x) * x1 (ix2 k y) := by
  unfold k0_pay1
  pointwise
  try simp

theorem pay2_at (x0 : Vec Ideal S1024x1408 .bf16) (x1 : Vec Ideal S1024x1024 .f32) (xo : Vec Ideal S1408x1024 .f32) (x : Fin 1408) (y : Fin 1024) :
    (k0_pay2 x0 x1 xo : FVec Ideal S1408x1024 .f32) (ix2 x y) = xo (ix2 x y) + ∑ k : Fin 1024, x0 (ix2 k x) * x1 (ix2 k y) := by
  rw [← pay1_at]
  unfold k0_pay2
  pointwise

variable (m : (ℓ : Loc nD τ sig) → Buf (Elt Ideal) ℓ) (c : Dev nD)

theorem index_at : ∀ t : Fin cfg0.N, win0_0.index t = ![t.val % 8, t.val / 8] ∧ win0_1.index t = ![t.val % 8, 0] ∧ win0_2.index t = ![t.val / 8, 0] :=
  (by decide +kernel : ∀ t : Fin grid0.N, _)

theorem disjoint2 : ∀ t t' : Fin cfg0.N, (cfg0.win 2).flush t = true → (cfg0.win 2).flush t' = true → t ≠ t' →
    Disjoint ((cfg0.win 2).blk t).view.set ((cfg0.win 2).blk t').view.set := by
  intro t t' hf hf' hne
  refine (cfg0.win 2).disjoint_blk fun h => hne ?_
  have e : win0_2.index t = win0_2.index t' := h
  rw [(index_at t).2.2, (index_at t').2.2] at e
  have e0 : t.val / 8 = t'.val / 8 := congrFun e 0
  have r := (flush0_2 t).1 hf
  have r' := (flush0_2 t').1 hf'
  exact Fin.ext (by omega)

/-- The two factors as the call takes them. -/
abbrev A : FVec Ideal S8192x2816 .bf16 := V m c main_v0
abbrev B : FVec Ideal S8192x1024 .f32 := V m c main_arg2

/-- The blocks of a grid step. -/
def bA (t : Fin cfg0.N) : FVec Ideal S1024x1408 .bf16 := iblk m c 0 t
def bB (t : Fin cfg0.N) : FVec Ideal S1024x1024 .f32 := iblk m c 1 t

/-- What a grid step adds. -/
def part (x y : ℕ) (n : ℕ) (k : Fin 1024) : EReal :=
  if h : x < 2816 ∧ y < 1024 ∧ 1024 * n + k.val < 8192 then A m c (ix2 ⟨1024 * n + k.val, h.2.2⟩ ⟨x, h.1⟩) * B m c (ix2 ⟨1024 * n + k.val, h.2.2⟩ ⟨y, h.2.1⟩) else 0

theorem part_at (t : Fin cfg0.N) (x : Fin 1408) (y : Fin 1024) (k : Fin 1024) :
    bA m c t (ix2 k x) * bB m c t (ix2 k y)
      = part m c (1408 * (t.val / 8) + x.val) (y.val) (t.val % 8) k := by
  have hN : cfg0.N = 16 := N_0
  have ht := t.isLt
  have e0 : t.val / 8 < 2 := by omega
  unfold part
  rw [dif_pos ⟨by omega, by omega, by omega⟩]
  refine congrArg₂ (· * ·) ?_ ?_
  · unfold bA
    blk_ext [iblk, index_at t]
  · unfold bB
    blk_ext [iblk, index_at t]

theorem outs_at (q j : ℕ) (hj : j < 8) (h : 8 * q + j < cfg0.N) (x : Fin 1408) (y : Fin 1024) :
    (outsAt0 m c (8 * q + j) h : Vec Ideal S1408x1024 .f32) (ix2 x y) = ∑ s ∈ Finset.range (j + 1), ∑ k, part m c (1408 * q + x.val) (y.val) s k := by
  refine (run_sum (J := 8) (fun n h => (outsAt0 m c n h : Vec Ideal S1408x1024 .f32) (ix2 x y))
    (fun n => ∑ k, part m c (1408 * (n / 8) + x.val) (y.val) (n % 8) k) ?_ ?_ q j hj h).trans ?_
  · intro n h h0
    have h1 : ¬ 1 ≤ n % 8 := by omega
    refine (congrFun ((outsAt0_A m c ⟨n, h⟩ h0 h1).trans (first c ⟨n, h⟩ _ _ _ _)) (ix2 x y)).trans ?_
    rw [pay1_at]
    exact Finset.sum_congr rfl fun k _ => part_at m c ⟨n, h⟩ x y k
  · intro n h h0
    have h1 : 1 ≤ n % 8 := by omega
    refine (congrFun ((outsAt0_B m c ⟨n, h⟩ h0 h1).trans (next c ⟨n, h⟩ _ _ _ _ _)) (ix2 x y)).trans ?_
    rw [pay2_at]
    exact congrArg (_ + ·) (Finset.sum_congr rfl fun k _ => part_at m c ⟨n, h⟩ x y k)
  · refine Finset.sum_congr rfl fun s hs => ?_
    have hs' := Finset.mem_range.1 hs
    rw [show (8 * q + s) / 8 = q by omega, show (8 * q + s) % 8 = s by omega]

/-- The result of the call, at an index. -/
theorem result_at (r : Fin 2816) (y : Fin 1024) :
    ((dats m 0 c).arrAt 2 cfg0.N : Vec Ideal S2816x1024 .f32) (ix2 r y) = ∑ k : Fin 8192, A m c (ix2 k r) * B m c (ix2 k y) := by
  have hN : cfg0.N = 16 := N_0
  have hr : 8 * (r.val / 1408) + 7 < cfg0.N := by omega
  have hf : (cfg0.win 2).flush ⟨8 * (r.val / 1408) + 7, hr⟩ = true := (flush0_2 _).2 (by show (8 * (r.val / 1408) + 7) % 8 = 7; omega)
  have e := congrFun ((dats m 0 c).read_blk_arrAt_eq_flushed 2 disjoint2 cfg0.N _ hr hf) (ix2 ⟨r.val % 1408, by omega⟩ y)
  have h0 : (8 * (r.val / 1408) + 7) / 8 = r.val / 1408 := by omega
  have hd : 1408 * (r.val / 1408) + r.val % 1408 = r.val := by omega
  have e1 : ((cfg0.win 2).blk ⟨8 * (r.val / 1408) + 7, hr⟩).view.read (Elt Ideal) ((dats m 0 c).arrAt 2 cfg0.N) (ix2 ⟨r.val % 1408, by omega⟩ y)
      = ((dats m 0 c).arrAt 2 cfg0.N : Vec Ideal S2816x1024 .f32) (ix2 r y) := by
    blk_ext [index_at ⟨8 * (r.val / 1408) + 7, hr⟩, h0, hd]
  rw [e1] at e
  refine e.trans ?_
  rw [Value.flushed2]
  refine (outs_at m c (r.val / 1408) 7 (by omega) hr ⟨r.val % 1408, by omega⟩ y).trans ?_
  refine sum_axis 8 1024 8192 rfl _ _ fun s k h hs => ?_
  unfold part
  dsimp only
  simp only [hd]
  exact dif_pos ⟨r.isLt, y.isLt, h⟩

/-- The two factors as the arguments give them. -/
abbrev inA : FVec Ideal S8192x2816 .f32 := m ((c.tc : Thread nD τ).loc main_arg0)
abbrev inB : FVec Ideal S8192x1024 .f32 := m ((c.tc : Thread nD τ).loc main_arg2)

theorem A_at (r : Fin 8192) (k : Fin 2816) : A m c (ix2 r k) = inA m c (ix2 r k) := by
  unfold A V
  after_reads_simp
  pointwise

theorem B_at (r : Fin 8192) (k : Fin 1024) : B m c (ix2 r k) = inB m c (ix2 r k) := by
  exact congrFun (V_main_arg2 m c) _

theorem value_at (r : Fin 2816) (y : Fin 1024) :
    @Eq EReal (((dats m 0 c).arrAt 2 cfg0.N : Vec Ideal S2816x1024 .f32) (ix2 r y))
      (∑ k : Fin 8192, inA m c (ix2 k r) * inB m c (ix2 k y)) := by
  rw [result_at]
  exact Finset.sum_congr rfl fun k _ => by rw [A_at, B_at]

end Cert.DownRight

namespace Cert.Proof

open Idealize.ShloMosaic Idealize.SL.Sem

section

attribute [local instance] Cert.Kernel6.Gen.facts Cert.Kernel6Ideal.Gen.facts Cert.Reference6Ideal.Gen.facts

theorem frame_Kernel6 : Cert.quiescent_Kernel6 := fun m ρ _ => Cert.Kernel6.Gen.frame (F := Bits) m ρ

theorem frame_Kernel6Ideal : Cert.quiescent_Kernel6Ideal := fun m ρ _ => Cert.Kernel6Ideal.Gen.frame (F := Ideal) m ρ

/-- The reference declares no semaphore. -/
theorem frame_Reference6Ideal : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem preserves6 : Cert.preserves_Kernel6_Kernel6Ideal := trivial

end

theorem algebraic6 : algebraic_Kernel6Ideal_Reference6Ideal (hKernel6Ideal := Cert.Kernel6Ideal.Gen.facts)
    (hReference6Ideal := Cert.Reference6Ideal.Gen.facts) := by
  intro m g m' g' hpre hm
  refine ⟨fun c => (Cert.Kernel6Ideal.Gen.dats m 0 c).arrAt 2 Cert.Kernel6Ideal.cfg0.N, Cert.Kernel6Ideal.Value.run_blocks m g,
    (θ_run (Cert.Reference6Ideal.defs (F := Ideal)) _ _).mono (fun r h c => ⟨?_, (h c).2⟩) (Cert.Reference6Ideal.Value.run m' g')⟩
  refine (h c).1.trans ?_
  obtain ⟨m0, m1, m2⟩ := hm c
  funext j
  obtain ⟨x, y, rfl⟩ : ∃ (x : Fin 2816) (y : Fin 1024), j = ix2 x y := ⟨j 0, j 1, eq_ix2 j⟩
  refine Eq.trans ?_ (Cert.DownRight.value_at m c x y).symm
  rw [m0, m2]
  pointwise
  exact Finset.sum_congr rfl fun k _ => mul_comm _ _

end Cert.Proof

end
-- ==== Proof.DownLeft.lean ====
/-
  The gradient of the rows that the down projection takes: a product, one grid step a block of rows.
-/
module

public import proofs.«01_k».proof.Defs
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Products
import Idealize.ShloMosaic.Lib.StableHlo.ReadAt

@[expose] public section

set_option maxRecDepth 16384

noncomputable section

namespace Cert.DownLeft

open Idealize.ShloMosaic Idealize.ShloMosaic.TcCoe Idealize.SL.Sem Cert.Kernel5Ideal Cert.Kernel5Ideal.Gen Cert.Products

theorem only (x0 : Vec Ideal S1024x1024 .f32) (x1 : Vec Ideal S2816x1024 .bf16) : out0_2 (F := Ideal) x0 x1 = k0_pay1 x0 x1 := by
  unfold out0_2
  rw [View.canon_unit_zero (by decide), View.ld_unit_zero (by decide), View.ld_unit_zero (by decide)]

theorem pay1_at (x0 : Vec Ideal S1024x1024 .f32) (x1 : Vec Ideal S2816x1024 .bf16) (x : Fin 1024) (y : Fin 2816) :
    (k0_pay1 x0 x1 : FVec Ideal S1024x2816 .bf16) (ix2 x y) = ∑ k : Fin 1024, x0 (ix2 x k) * x1 (ix2 y k) := by
  unfold k0_pay1
  pointwise
  try simp

variable (m : (ℓ : Loc nD τ sig) → Buf (Elt Ideal) ℓ) (c : Dev nD)

theorem index_at : ∀ t : Fin cfg0.N, win0_0.index t = ![t.val, 0] ∧ win0_1.index t = ![0, 0] ∧ win0_2.index t = ![t.val, 0] :=
  (by decide +kernel : ∀ t : Fin grid0.N, _)

/-- The two factors as the call takes them. -/
abbrev A : FVec Ideal S8192x1024 .f32 := V m c main_arg2
abbrev B : FVec Ideal S2816x1024 .bf16 := V m c main_v0

/-- The blocks of a grid step. -/
def bA (t : Fin cfg0.N) : FVec Ideal S1024x1024 .f32 := iblk m c 0 t
def bB (t : Fin cfg0.N) : FVec Ideal S2816x1024 .bf16 := iblk m c 1 t

/-- The result of the call, at an index. -/
theorem result_at (r : Fin 8192) (y : Fin 2816) :
    ((dats m 0 c).arrAt 2 cfg0.N : Vec Ideal S8192x2816 .bf16) (ix2 r y) = ∑ k : Fin 1024, A m c (ix2 r k) * B m c (ix2 y k) := by
  have hN : cfg0.N = 8 := N_0
  have hr : r.val / 1024 < cfg0.N := by omega
  have hd : 1024 * (r.val / 1024) + r.val % 1024 = r.val := by omega
  have e := congrFun (Value.blocks2 m c ⟨r.val / 1024, hr⟩ (flush0_2 _)) (ix2 ⟨r.val % 1024, by omega⟩ y)
  have e1 : ((cfg0.win 2).blk ⟨r.val / 1024, hr⟩).view.read (Elt Ideal) ((dats m 0 c).arrAt 2 cfg0.N) (ix2 ⟨r.val % 1024, by omega⟩ y)
      = ((dats m 0 c).arrAt 2 cfg0.N : Vec Ideal S8192x2816 .bf16) (ix2 r y) := by
    blk_ext [index_at ⟨r.val / 1024, hr⟩, hd]
  rw [e1] at e
  refine e.trans ?_
  rw [Value.flushed2]
  refine (congrFun (only (bA m c ⟨r.val / 1024, hr⟩) (bB m c ⟨r.val / 1024, hr⟩)) (ix2 ⟨r.val % 1024, by omega⟩ y)).trans ?_
  rw [pay1_at]
  refine Finset.sum_congr rfl fun k _ => congrArg₂ (· * ·) ?_ ?_
  · unfold bA
    blk_ext [iblk, index_at ⟨r.val / 1024, hr⟩, hd]
  · unfold bB
    blk_ext [iblk, index_at ⟨r.val / 1024, hr⟩]

/-- The two factors as the arguments give them. -/
abbrev inA : FVec Ideal S8192x1024 .f32 := m ((c.tc : Thread nD τ).loc main_arg2)
abbrev inB : FVec Ideal S2816x1024 .f32 := m ((c.tc : Thread nD τ).loc main_arg1)

theorem A_at (r : Fin 8192) (k : Fin 1024) : A m c (ix2 r k) = inA m c (ix2 r k) := by
  exact congrFun (V_main_arg2 m c) _

theorem B_at (r : Fin 2816) (k : Fin 1024) : B m c (ix2 r k) = inB m c (ix2 r k) := by
  unfold B V
  after_reads_simp
  pointwise

theorem value_at (r : Fin 8192) (y : Fin 2816) :
    @Eq EReal (((dats m 0 c).arrAt 2 cfg0.N : Vec Ideal S8192x2816 .bf16) (ix2 r y))
      (∑ k : Fin 1024, inA m c (ix2 r k) * inB m c (ix2 y k)) := by
  rw [result_at]
  exact Finset.sum_congr rfl fun k _ => by rw [A_at, B_at]

end Cert.DownLeft

namespace Cert.Proof

open Idealize.ShloMosaic Idealize.SL.Sem

section

attribute [local instance] Cert.Kernel5.Gen.facts Cert.Kernel5Ideal.Gen.facts Cert.Reference5Ideal.Gen.facts

theorem frame_Kernel5 : Cert.quiescent_Kernel5 := fun m ρ _ => Cert.Kernel5.Gen.frame (F := Bits) m ρ

theorem frame_Kernel5Ideal : Cert.quiescent_Kernel5Ideal := fun m ρ _ => Cert.Kernel5Ideal.Gen.frame (F := Ideal) m ρ

/-- The reference declares no semaphore. -/
theorem frame_Reference5Ideal : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem preserves5 : Cert.preserves_Kernel5_Kernel5Ideal := trivial

end

theorem algebraic5 : algebraic_Kernel5Ideal_Reference5Ideal (hKernel5Ideal := Cert.Kernel5Ideal.Gen.facts)
    (hReference5Ideal := Cert.Reference5Ideal.Gen.facts) := by
  intro m g m' g' hpre hm
  refine ⟨fun c => (Cert.Kernel5Ideal.Gen.dats m 0 c).arrAt 2 Cert.Kernel5Ideal.cfg0.N, Cert.Kernel5Ideal.Value.run_blocks m g,
    (θ_run (Cert.Reference5Ideal.defs (F := Ideal)) _ _).mono (fun r h c => ⟨?_, (h c).2⟩) (Cert.Reference5Ideal.Value.run m' g')⟩
  refine (h c).1.trans ?_
  obtain ⟨m0, m1, m2⟩ := hm c
  funext j
  obtain ⟨x, y, rfl⟩ : ∃ (x : Fin 8192) (y : Fin 2816), j = ix2 x y := ⟨j 0, j 1, eq_ix2 j⟩
  refine Eq.trans ?_ (Cert.DownLeft.value_at m c x y).symm
  rw [m2, m1]
  pointwise
  try rfl

end Cert.Proof

end
-- ==== Proof.UpRight.lean ====
/-
  The gradient of the up projection's weights: a product summed over four blocks of rows, a column block at a time.
-/
module

public import proofs.«01_k».proof.Defs
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Products
import Idealize.ShloMosaic.Lib.StableHlo.ReadAt

@[expose] public section

set_option maxRecDepth 16384

noncomputable section

namespace Cert.UpRight

open Idealize.ShloMosaic Idealize.ShloMosaic.TcCoe Idealize.SL.Sem Cert.Kernel4Ideal Cert.Kernel4Ideal.Gen Cert.Products

theorem first (c : Dev nD) (t : Fin cfg0.N) (h0 : cond0_0 (grid0.coords t)) (h1 : ¬cond0_1 (grid0.coords t)) (x0 : Vec Ideal S1024x2048 .bf16) (x1 : Vec Ideal S2048x1408 .bf16) :
    out0_A_2 (F := Ideal) c (grid0.coords t) (ms0_0 t) (hs0_0 t) (ms0_1 t) (hs0_1 t) (ms0_2 t) (hs0_2 t) h0 h1 x0 x1 = k0_pay1 x0 x1 := by
  unfold out0_A_2 kernelRun0_A
  dsimp only
  sl_unfold_run_names
  refine (View.read_writes_full _ _ _ _ _).trans ?_
  rw [View.readAt_full, View.readAt_full, (hs0_0 t).read_unread, (hs0_1 t).read_unread]

theorem next (c : Dev nD) (t : Fin cfg0.N) (h0 : ¬cond0_0 (grid0.coords t)) (h1 : cond0_1 (grid0.coords t)) (x0 : Vec Ideal S1024x2048 .bf16) (x1 : Vec Ideal S2048x1408 .bf16) (xo : Vec Ideal S1024x1408 .f32) :
    out0_B_2 (F := Ideal) c (grid0.coords t) (ms0_0 t) (hs0_0 t) (ms0_1 t) (hs0_1 t) (ms0_2 t) (hs0_2 t) h0 h1 x0 x1 xo = k0_pay2 x0 x1 xo := by
  unfold out0_B_2 kernelRun0_B
  dsimp only
  sl_unfold_run_names
  refine (View.read_writes_full _ _ _ _ _).trans ?_
  rw [View.readAt_full, View.readAt_full, View.readAt_full, (hs0_0 t).read_unread, (hs0_1 t).read_unread, (hs0_2 t).read_unread]

theorem pay1_at (x0 : Vec Ideal S1024x2048 .bf16) (x1 : Vec Ideal S2048x1408 .bf16) (x : Fin 1024) (y : Fin 1408) :
    (k0_pay1 x0 x1 : FVec Ideal S1024x1408 .f32) (ix2 x y) = ∑ k : Fin 2048, x0 (ix2 x k) * x1 (ix2 k y) := by
  unfold k0_pay1
  pointwise
  try simp

theorem pay2_at (x0 : Vec Ideal S1024x2048 .bf16) (x1 : Vec Ideal S2048x1408 .bf16) (xo : Vec Ideal S1024x1408 .f32) (x : Fin 1024) (y : Fin 1408) :
    (k0_pay2 x0 x1 xo : FVec Ideal S1024x1408 .f32) (ix2 x y) = xo (ix2 x y) + ∑ k : Fin 2048, x0 (ix2 x k) * x1 (ix2 k y) := by
  rw [← pay1_at]
  unfold k0_pay2
  pointwise

variable (m : (ℓ : Loc nD τ sig) → Buf (Elt Ideal) ℓ) (c : Dev nD)

theorem index_at : ∀ t : Fin cfg0.N, win0_0.index t = ![0, t.val % 4] ∧ win0_1.index t = ![t.val % 4, t.val / 4] ∧ win0_2.index t = ![0, t.val / 4] :=
  (by decide +kernel : ∀ t : Fin grid0.N, _)

theorem disjoint2 : ∀ t t' : Fin cfg0.N, (cfg0.win 2).flush t = true → (cfg0.win 2).flush t' = true → t ≠ t' →
    Disjoint ((cfg0.win 2).blk t).view.set ((cfg0.win 2).blk t').view.set := by
  intro t t' hf hf' hne
  refine (cfg0.win 2).disjoint_blk fun h => hne ?_
  have e : win0_2.index t = win0_2.index t' := h
  rw [(index_at t).2.2, (index_at t').2.2] at e
  have e0 : t.val / 4 = t'.val / 4 := congrFun e 1
  have r := (flush0_2 t).1 hf
  have r' := (flush0_2 t').1 hf'
  exact Fin.ext (by omega)

/-- The two factors as the call takes them. -/
abbrev A : FVec Ideal S1024x8192 .bf16 := V m c main_v1
abbrev B : FVec Ideal S8192x5632 .bf16 := V m c main_v2

/-- The blocks of a grid step. -/
def bA (t : Fin cfg0.N) : FVec Ideal S1024x2048 .bf16 := iblk m c 0 t
def bB (t : Fin cfg0.N) : FVec Ideal S2048x1408 .bf16 := iblk m c 1 t

/-- What a grid step adds. -/
def part (x y : ℕ) (n : ℕ) (k : Fin 2048) : EReal :=
  if h : x < 1024 ∧ y < 5632 ∧ 2048 * n + k.val < 8192 then A m c (ix2 ⟨x, h.1⟩ ⟨2048 * n + k.val, h.2.2⟩) * B m c (ix2 ⟨2048 * n + k.val, h.2.2⟩ ⟨y, h.2.1⟩) else 0

theorem part_at (t : Fin cfg0.N) (x : Fin 1024) (y : Fin 1408) (k : Fin 2048) :
    bA m c t (ix2 x k) * bB m c t (ix2 k y)
      = part m c (x.val) (1408 * (t.val / 4) + y.val) (t.val % 4) k := by
  have hN : cfg0.N = 16 := N_0
  have ht := t.isLt
  have e0 : t.val / 4 < 4 := by omega
  unfold part
  rw [dif_pos ⟨by omega, by omega, by omega⟩]
  refine congrArg₂ (· * ·) ?_ ?_
  · unfold bA
    blk_ext [iblk, index_at t]
  · unfold bB
    blk_ext [iblk, index_at t]

theorem outs_at (q j : ℕ) (hj : j < 4) (h : 4 * q + j < cfg0.N) (x : Fin 1024) (y : Fin 1408) :
    (outsAt0 m c (4 * q + j) h : Vec Ideal S1024x1408 .f32) (ix2 x y) = ∑ s ∈ Finset.range (j + 1), ∑ k, part m c (x.val) (1408 * q + y.val) s k := by
  refine (run_sum (J := 4) (fun n h => (outsAt0 m c n h : Vec Ideal S1024x1408 .f32) (ix2 x y))
    (fun n => ∑ k, part m c (x.val) (1408 * (n / 4) + y.val) (n % 4) k) ?_ ?_ q j hj h).trans ?_
  · intro n h h0
    have h1 : ¬ 1 ≤ n % 4 := by omega
    refine (congrFun ((outsAt0_A m c ⟨n, h⟩ h0 h1).trans (first c ⟨n, h⟩ _ _ _ _)) (ix2 x y)).trans ?_
    rw [pay1_at]
    exact Finset.sum_congr rfl fun k _ => part_at m c ⟨n, h⟩ x y k
  · intro n h h0
    have h1 : 1 ≤ n % 4 := by omega
    refine (congrFun ((outsAt0_B m c ⟨n, h⟩ h0 h1).trans (next c ⟨n, h⟩ _ _ _ _ _)) (ix2 x y)).trans ?_
    rw [pay2_at]
    exact congrArg (_ + ·) (Finset.sum_congr rfl fun k _ => part_at m c ⟨n, h⟩ x y k)
  · refine Finset.sum_congr rfl fun s hs => ?_
    have hs' := Finset.mem_range.1 hs
    rw [show (4 * q + s) / 4 = q by omega, show (4 * q + s) % 4 = s by omega]

/-- The result of the call, at an index. -/
theorem result_at (r : Fin 1024) (y : Fin 5632) :
    ((dats m 0 c).arrAt 2 cfg0.N : Vec Ideal S1024x5632 .f32) (ix2 r y) = ∑ k : Fin 8192, A m c (ix2 r k) * B m c (ix2 k y) := by
  have hN : cfg0.N = 16 := N_0
  have hr : 4 * (y.val / 1408) + 3 < cfg0.N := by omega
  have hf : (cfg0.win 2).flush ⟨4 * (y.val / 1408) + 3, hr⟩ = true := (flush0_2 _).2 (by show (4 * (y.val / 1408) + 3) % 4 = 3; omega)
  have e := congrFun ((dats m 0 c).read_blk_arrAt_eq_flushed 2 disjoint2 cfg0.N _ hr hf) (ix2 r ⟨y.val % 1408, by omega⟩)
  have h0 : (4 * (y.val / 1408) + 3) / 4 = y.val / 1408 := by omega
  have hd : 1408 * (y.val / 1408) + y.val % 1408 = y.val := by omega
  have e1 : ((cfg0.win 2).blk ⟨4 * (y.val / 1408) + 3, hr⟩).view.read (Elt Ideal) ((dats m 0 c).arrAt 2 cfg0.N) (ix2 r ⟨y.val % 1408, by omega⟩)
      = ((dats m 0 c).arrAt 2 cfg0.N : Vec Ideal S1024x5632 .f32) (ix2 r y) := by
    blk_ext [index_at ⟨4 * (y.val / 1408) + 3, hr⟩, h0, hd]
  rw [e1] at e
  refine e.trans ?_
  rw [Value.flushed2]
  refine (outs_at m c (y.val / 1408) 3 (by omega) hr r ⟨y.val % 1408, by omega⟩).trans ?_
  refine sum_axis 4 2048 8192 rfl _ _ fun s k h hs => ?_
  unfold part
  dsimp only
  simp only [hd]
  exact dif_pos ⟨r.isLt, y.isLt, h⟩

/-- The two factors as the arguments give them. -/
abbrev inA : FVec Ideal S8192x1024 .f32 := m ((c.tc : Thread nD τ).loc main_arg0)
abbrev inB : FVec Ideal S8192x5632 .f32 := m ((c.tc : Thread nD τ).loc main_arg2)

theorem A_at (r : Fin 1024) (k : Fin 8192) : A m c (ix2 r k) = inA m c (ix2 k r) := by
  unfold A V
  after_reads_simp
  pointwise

theorem B_at (r : Fin 8192) (k : Fin 5632) : B m c (ix2 r k) = inB m c (ix2 r k) := by
  unfold B V
  after_reads_simp
  pointwise

theorem value_at (r : Fin 1024) (y : Fin 5632) :
    @Eq EReal (((dats m 0 c).arrAt 2 cfg0.N : Vec Ideal S1024x5632 .f32) (ix2 r y))
      (∑ k : Fin 8192, inA m c (ix2 k r) * inB m c (ix2 k y)) := by
  rw [result_at]
  exact Finset.sum_congr rfl fun k _ => by rw [A_at, B_at]

end Cert.UpRight

namespace Cert.Proof

open Idealize.ShloMosaic Idealize.SL.Sem

section

attribute [local instance] Cert.Kernel4.Gen.facts Cert.Kernel4Ideal.Gen.facts Cert.Reference4Ideal.Gen.facts

theorem frame_Kernel4 : Cert.quiescent_Kernel4 := fun m ρ _ => Cert.Kernel4.Gen.frame (F := Bits) m ρ

theorem frame_Kernel4Ideal : Cert.quiescent_Kernel4Ideal := fun m ρ _ => Cert.Kernel4Ideal.Gen.frame (F := Ideal) m ρ

/-- The reference declares no semaphore. -/
theorem frame_Reference4Ideal : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem preserves4 : Cert.preserves_Kernel4_Kernel4Ideal := trivial

end

theorem algebraic4 : algebraic_Kernel4Ideal_Reference4Ideal (hKernel4Ideal := Cert.Kernel4Ideal.Gen.facts)
    (hReference4Ideal := Cert.Reference4Ideal.Gen.facts) := by
  intro m g m' g' hpre hm
  refine ⟨fun c => (Cert.Kernel4Ideal.Gen.dats m 0 c).arrAt 2 Cert.Kernel4Ideal.cfg0.N, Cert.Kernel4Ideal.Value.run_blocks m g,
    (θ_run (Cert.Reference4Ideal.defs (F := Ideal)) _ _).mono (fun r h c => ⟨?_, (h c).2⟩) (Cert.Reference4Ideal.Value.run m' g')⟩
  refine (h c).1.trans ?_
  obtain ⟨m0, m1, m2⟩ := hm c
  funext j
  obtain ⟨x, y, rfl⟩ : ∃ (x : Fin 1024) (y : Fin 5632), j = ix2 x y := ⟨j 0, j 1, eq_ix2 j⟩
  refine Eq.trans ?_ (Cert.UpRight.value_at m c x y).symm
  rw [m0, m2]
  pointwise
  exact Finset.sum_congr rfl fun k _ => mul_comm _ _

end Cert.Proof

end
-- ==== Proof.UpLeft.lean ====
/-
  The gradient of the rows that the up projection takes: a product summed over four blocks of lanes.
-/
module

public import proofs.«01_k».proof.Defs
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Products
import Idealize.ShloMosaic.Lib.StableHlo.ReadAt

@[expose] public section

set_option maxRecDepth 16384

noncomputable section

namespace Cert.UpLeft

open Idealize.ShloMosaic Idealize.ShloMosaic.TcCoe Idealize.SL.Sem Cert.Kernel3Ideal Cert.Kernel3Ideal.Gen Cert.Products

theorem first (c : Dev nD) (t : Fin cfg0.N) (h0 : cond0_0 (grid0.coords t)) (h1 : ¬cond0_1 (grid0.coords t)) (x0 : Vec Ideal S1024x1408 .bf16) (x1 : Vec Ideal S1024x1408 .bf16) :
    out0_A_2 (F := Ideal) c (grid0.coords t) (ms0_0 t) (hs0_0 t) (ms0_1 t) (hs0_1 t) (ms0_2 t) (hs0_2 t) h0 h1 x0 x1 = k0_pay1 x0 x1 := by
  unfold out0_A_2 kernelRun0_A
  dsimp only
  sl_unfold_run_names
  refine (View.read_writes_full _ _ _ _ _).trans ?_
  rw [View.readAt_full, View.readAt_full, (hs0_0 t).read_unread, (hs0_1 t).read_unread]

theorem next (c : Dev nD) (t : Fin cfg0.N) (h0 : ¬cond0_0 (grid0.coords t)) (h1 : cond0_1 (grid0.coords t)) (x0 : Vec Ideal S1024x1408 .bf16) (x1 : Vec Ideal S1024x1408 .bf16) (xo : Vec Ideal S1024x1024 .f32) :
    out0_B_2 (F := Ideal) c (grid0.coords t) (ms0_0 t) (hs0_0 t) (ms0_1 t) (hs0_1 t) (ms0_2 t) (hs0_2 t) h0 h1 x0 x1 xo = k0_pay2 x0 x1 xo := by
  unfold out0_B_2 kernelRun0_B
  dsimp only
  sl_unfold_run_names
  refine (View.read_writes_full _ _ _ _ _).trans ?_
  rw [View.readAt_full, View.readAt_full, View.readAt_full, (hs0_0 t).read_unread, (hs0_1 t).read_unread, (hs0_2 t).read_unread]

theorem pay1_at (x0 : Vec Ideal S1024x1408 .bf16) (x1 : Vec Ideal S1024x1408 .bf16) (x : Fin 1024) (y : Fin 1024) :
    (k0_pay1 x0 x1 : FVec Ideal S1024x1024 .f32) (ix2 x y) = ∑ k : Fin 1408, x0 (ix2 x k) * x1 (ix2 y k) := by
  unfold k0_pay1
  pointwise
  try simp

theorem pay2_at (x0 : Vec Ideal S1024x1408 .bf16) (x1 : Vec Ideal S1024x1408 .bf16) (xo : Vec Ideal S1024x1024 .f32) (x : Fin 1024) (y : Fin 1024) :
    (k0_pay2 x0 x1 xo : FVec Ideal S1024x1024 .f32) (ix2 x y) = xo (ix2 x y) + ∑ k : Fin 1408, x0 (ix2 x k) * x1 (ix2 y k) := by
  rw [← pay1_at]
  unfold k0_pay2
  pointwise

variable (m : (ℓ : Loc nD τ sig) → Buf (Elt Ideal) ℓ) (c : Dev nD)

theorem index_at : ∀ t : Fin cfg0.N, win0_0.index t = ![t.val / 4, t.val % 4] ∧ win0_1.index t = ![0, t.val % 4] ∧ win0_2.index t = ![t.val / 4, 0] :=
  (by decide +kernel : ∀ t : Fin grid0.N, _)

theorem disjoint2 : ∀ t t' : Fin cfg0.N, (cfg0.win 2).flush t = true → (cfg0.win 2).flush t' = true → t ≠ t' →
    Disjoint ((cfg0.win 2).blk t).view.set ((cfg0.win 2).blk t').view.set := by
  intro t t' hf hf' hne
  refine (cfg0.win 2).disjoint_blk fun h => hne ?_
  have e : win0_2.index t = win0_2.index t' := h
  rw [(index_at t).2.2, (index_at t').2.2] at e
  have e0 : t.val / 4 = t'.val / 4 := congrFun e 0
  have r := (flush0_2 t).1 hf
  have r' := (flush0_2 t').1 hf'
  exact Fin.ext (by omega)

/-- The two factors as the call takes them. -/
abbrev A : FVec Ideal S8192x5632 .bf16 := V m c main_v0
abbrev B : FVec Ideal S1024x5632 .bf16 := V m c main_v1

/-- The blocks of a grid step. -/
def bA (t : Fin cfg0.N) : FVec Ideal S1024x1408 .bf16 := iblk m c 0 t
def bB (t : Fin cfg0.N) : FVec Ideal S1024x1408 .bf16 := iblk m c 1 t

/-- What a grid step adds. -/
def part (x y : ℕ) (n : ℕ) (k : Fin 1408) : EReal :=
  if h : x < 8192 ∧ y < 1024 ∧ 1408 * n + k.val < 5632 then A m c (ix2 ⟨x, h.1⟩ ⟨1408 * n + k.val, h.2.2⟩) * B m c (ix2 ⟨y, h.2.1⟩ ⟨1408 * n + k.val, h.2.2⟩) else 0

theorem part_at (t : Fin cfg0.N) (x : Fin 1024) (y : Fin 1024) (k : Fin 1408) :
    bA m c t (ix2 x k) * bB m c t (ix2 y k)
      = part m c (1024 * (t.val / 4) + x.val) (y.val) (t.val % 4) k := by
  have hN : cfg0.N = 32 := N_0
  have ht := t.isLt
  have e0 : t.val / 4 < 8 := by omega
  unfold part
  rw [dif_pos ⟨by omega, by omega, by omega⟩]
  refine congrArg₂ (· * ·) ?_ ?_
  · unfold bA
    blk_ext [iblk, index_at t]
  · unfold bB
    blk_ext [iblk, index_at t]

theorem outs_at (q j : ℕ) (hj : j < 4) (h : 4 * q + j < cfg0.N) (x : Fin 1024) (y : Fin 1024) :
    (outsAt0 m c (4 * q + j) h : Vec Ideal S1024x1024 .f32) (ix2 x y) = ∑ s ∈ Finset.range (j + 1), ∑ k, part m c (1024 * q + x.val) (y.val) s k := by
  refine (run_sum (J := 4) (fun n h => (outsAt0 m c n h : Vec Ideal S1024x1024 .f32) (ix2 x y))
    (fun n => ∑ k, part m c (1024 * (n / 4) + x.val) (y.val) (n % 4) k) ?_ ?_ q j hj h).trans ?_
  · intro n h h0
    have h1 : ¬ 1 ≤ n % 4 := by omega
    refine (congrFun ((outsAt0_A m c ⟨n, h⟩ h0 h1).trans (first c ⟨n, h⟩ _ _ _ _)) (ix2 x y)).trans ?_
    rw [pay1_at]
    exact Finset.sum_congr rfl fun k _ => part_at m c ⟨n, h⟩ x y k
  · intro n h h0
    have h1 : 1 ≤ n % 4 := by omega
    refine (congrFun ((outsAt0_B m c ⟨n, h⟩ h0 h1).trans (next c ⟨n, h⟩ _ _ _ _ _)) (ix2 x y)).trans ?_
    rw [pay2_at]
    exact congrArg (_ + ·) (Finset.sum_congr rfl fun k _ => part_at m c ⟨n, h⟩ x y k)
  · refine Finset.sum_congr rfl fun s hs => ?_
    have hs' := Finset.mem_range.1 hs
    rw [show (4 * q + s) / 4 = q by omega, show (4 * q + s) % 4 = s by omega]

/-- The result of the call, at an index. -/
theorem result_at (r : Fin 8192) (y : Fin 1024) :
    ((dats m 0 c).arrAt 2 cfg0.N : Vec Ideal S8192x1024 .f32) (ix2 r y) = ∑ k : Fin 5632, A m c (ix2 r k) * B m c (ix2 y k) := by
  have hN : cfg0.N = 32 := N_0
  have hr : 4 * (r.val / 1024) + 3 < cfg0.N := by omega
  have hf : (cfg0.win 2).flush ⟨4 * (r.val / 1024) + 3, hr⟩ = true := (flush0_2 _).2 (by show (4 * (r.val / 1024) + 3) % 4 = 3; omega)
  have e := congrFun ((dats m 0 c).read_blk_arrAt_eq_flushed 2 disjoint2 cfg0.N _ hr hf) (ix2 ⟨r.val % 1024, by omega⟩ y)
  have h0 : (4 * (r.val / 1024) + 3) / 4 = r.val / 1024 := by omega
  have hd : 1024 * (r.val / 1024) + r.val % 1024 = r.val := by omega
  have e1 : ((cfg0.win 2).blk ⟨4 * (r.val / 1024) + 3, hr⟩).view.read (Elt Ideal) ((dats m 0 c).arrAt 2 cfg0.N) (ix2 ⟨r.val % 1024, by omega⟩ y)
      = ((dats m 0 c).arrAt 2 cfg0.N : Vec Ideal S8192x1024 .f32) (ix2 r y) := by
    blk_ext [index_at ⟨4 * (r.val / 1024) + 3, hr⟩, h0, hd]
  rw [e1] at e
  refine e.trans ?_
  rw [Value.flushed2]
  refine (outs_at m c (r.val / 1024) 3 (by omega) hr ⟨r.val % 1024, by omega⟩ y).trans ?_
  refine sum_axis 4 1408 5632 rfl _ _ fun s k h hs => ?_
  unfold part
  dsimp only
  simp only [hd]
  exact dif_pos ⟨r.isLt, y.isLt, h⟩

/-- The two factors as the arguments give them. -/
abbrev inA : FVec Ideal S8192x5632 .f32 := m ((c.tc : Thread nD τ).loc main_arg2)
abbrev inB : FVec Ideal S1024x5632 .f32 := m ((c.tc : Thread nD τ).loc main_arg1)

theorem A_at (r : Fin 8192) (k : Fin 5632) : A m c (ix2 r k) = inA m c (ix2 r k) := by
  unfold A V
  after_reads_simp
  pointwise

theorem B_at (r : Fin 1024) (k : Fin 5632) : B m c (ix2 r k) = inB m c (ix2 r k) := by
  unfold B V
  after_reads_simp
  pointwise

theorem value_at (r : Fin 8192) (y : Fin 1024) :
    @Eq EReal (((dats m 0 c).arrAt 2 cfg0.N : Vec Ideal S8192x1024 .f32) (ix2 r y))
      (∑ k : Fin 5632, inA m c (ix2 r k) * inB m c (ix2 y k)) := by
  rw [result_at]
  exact Finset.sum_congr rfl fun k _ => by rw [A_at, B_at]

end Cert.UpLeft

namespace Cert.Proof

open Idealize.ShloMosaic Idealize.SL.Sem

section

attribute [local instance] Cert.Kernel3.Gen.facts Cert.Kernel3Ideal.Gen.facts Cert.Reference3Ideal.Gen.facts

theorem frame_Kernel3 : Cert.quiescent_Kernel3 := fun m ρ _ => Cert.Kernel3.Gen.frame (F := Bits) m ρ

theorem frame_Kernel3Ideal : Cert.quiescent_Kernel3Ideal := fun m ρ _ => Cert.Kernel3Ideal.Gen.frame (F := Ideal) m ρ

/-- The reference declares no semaphore. -/
theorem frame_Reference3Ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem preserves3 : Cert.preserves_Kernel3_Kernel3Ideal := trivial

end

theorem algebraic3 : algebraic_Kernel3Ideal_Reference3Ideal (hKernel3Ideal := Cert.Kernel3Ideal.Gen.facts)
    (hReference3Ideal := Cert.Reference3Ideal.Gen.facts) := by
  intro m g m' g' hpre hm
  refine ⟨fun c => (Cert.Kernel3Ideal.Gen.dats m 0 c).arrAt 2 Cert.Kernel3Ideal.cfg0.N, Cert.Kernel3Ideal.Value.run_blocks m g,
    (θ_run (Cert.Reference3Ideal.defs (F := Ideal)) _ _).mono (fun r h c => ⟨?_, (h c).2⟩) (Cert.Reference3Ideal.Value.run m' g')⟩
  refine (h c).1.trans ?_
  obtain ⟨m0, m1, m2⟩ := hm c
  funext j
  obtain ⟨x, y, rfl⟩ : ∃ (x : Fin 8192) (y : Fin 1024), j = ix2 x y := ⟨j 0, j 1, eq_ix2 j⟩
  refine Eq.trans ?_ (Cert.UpLeft.value_at m c x y).symm
  rw [m2, m1]
  pointwise
  try rfl

end Cert.Proof

end
-- ==== Proof.Merge.lean ====
/-
  The gradient of the merge of the two branches under their gates: four results, element by element.
-/
module

public import proofs.«01_k».proof.Defs
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
import Idealize.ShloMosaic.Lib.StableHlo.ReadAt
public import Idealize.ShloMosaic.Lib.Pipeline.ValueKit

@[expose] public section

set_option maxRecDepth 16384

noncomputable section

namespace Cert.Merge

open Idealize.ShloMosaic Idealize.ShloMosaic.TcCoe Idealize.SL.Sem Cert.Kernel2Ideal Cert.Kernel2Ideal.Gen

/-- The gate at an element. -/
def gate (x : EReal) : EReal := Ideal.div 1 (1 + Ideal.exp (-x))

theorem pay3_at (x : Vec Ideal S256x1024 .f32) (p : Fin 256) (l : Fin 1024) : (k0_pay3 x : FVec Ideal S256x1024 .f32) (ix2 p l) = gate (x (ix2 p l)) := by
  unfold k0_pay3 gate
  pointwise
  simp

theorem pay4_at (x : Vec Ideal S256x1024 .f32) (p : Fin 256) (l : Fin 1024) : (k0_pay4 x : FVec Ideal S256x1024 .f32) (ix2 p l) = gate (x (ix2 p l)) := by
  unfold k0_pay4 gate
  pointwise
  simp

theorem index_at : ∀ t : Fin cfg0.N, win0_0.index t = ![t.val, 0] ∧ win0_1.index t = ![t.val, 0] ∧ win0_2.index t = ![t.val, 0] ∧ win0_3.index t = ![t.val, 7]
    ∧ win0_4.index t = ![t.val, 8] ∧ win0_5.index t = ![t.val, 0] ∧ win0_6.index t = ![t.val, 0] ∧ win0_7.index t = ![t.val, 0] ∧ win0_8.index t = ![t.val, 0] :=
  (by decide +kernel : ∀ t : Fin grid0.N, _)

variable (m : (ℓ : Loc nD τ sig) → Buf (Elt Ideal) ℓ) (c : Dev nD)

/-- The arguments. -/
abbrev dm : FVec Ideal S8192x1024 .f32 := m ((c.tc : Thread nD τ).loc main_arg0)
abbrev pa : FVec Ideal S8192x1024 .f32 := m ((c.tc : Thread nD τ).loc main_arg1)
abbrev pb : FVec Ideal S8192x1024 .f32 := m ((c.tc : Thread nD τ).loc main_arg2)
abbrev proj : FVec Ideal S8192x9216 .f32 := m ((c.tc : Thread nD τ).loc main_arg3)

/-- The blocks of a grid step. -/
def b0 (t : Fin cfg0.N) : FVec Ideal S256x1024 .f32 := iblk m c 0 t
def b1 (t : Fin cfg0.N) : FVec Ideal S256x1024 .f32 := iblk m c 1 t
def b2 (t : Fin cfg0.N) : FVec Ideal S256x1024 .f32 := iblk m c 2 t
def b3 (t : Fin cfg0.N) : FVec Ideal S256x1024 .f32 := iblk m c 3 t
def b4 (t : Fin cfg0.N) : FVec Ideal S256x1024 .f32 := iblk m c 4 t

variable (r : Fin 8192) (l : Fin 1024)

section

variable (t : Fin cfg0.N) (p : Fin 256) (h : 256 * t.val + p.val = r.val)

include h

theorem b0_at : b0 m c t (ix2 p l) = dm m c (ix2 r (l : Fin 1024)) := by
  refine Eq.trans ?_ (congrFun (V_main_arg0 m c) _)
  unfold b0
  blk_ext [iblk, index_at t, h]

theorem b1_at : b1 m c t (ix2 p l) = pa m c (ix2 r (l : Fin 1024)) := by
  refine Eq.trans ?_ (congrFun (V_main_arg1 m c) _)
  unfold b1
  blk_ext [iblk, index_at t, h]

theorem b2_at : b2 m c t (ix2 p l) = pb m c (ix2 r (l : Fin 1024)) := by
  refine Eq.trans ?_ (congrFun (V_main_arg2 m c) _)
  unfold b2
  blk_ext [iblk, index_at t, h]

theorem b3_at : b3 m c t (ix2 p l) = proj m c (ix2 r (⟨7168 + l.val, by omega⟩ : Fin 9216)) := by
  refine Eq.trans ?_ (congrFun (V_main_arg3 m c) _)
  unfold b3
  blk_ext [iblk, index_at t, h]

theorem b4_at : b4 m c t (ix2 p l) = proj m c (ix2 r (⟨8192 + l.val, by omega⟩ : Fin 9216)) := by
  refine Eq.trans ?_ (congrFun (V_main_arg3 m c) _)
  unfold b4
  blk_ext [iblk, index_at t, h]

end

theorem value5_at : @Eq EReal (((dats m 0 c).arrAt 5 cfg0.N : Vec Ideal S8192x1024 .bf16) (ix2 r l))
    (dm m c (ix2 r l) * gate (proj m c (ix2 r ⟨7168 + l.val, by omega⟩))) := by
  have hN : cfg0.N = 32 := N_0
  have hr : r.val / 256 < cfg0.N := by omega
  have hd : 256 * (r.val / 256) + r.val % 256 = r.val := by omega
  have e := congrFun (Value.blocks5 m c ⟨r.val / 256, hr⟩ (flush0_5 _)) (ix2 ⟨r.val % 256, by omega⟩ l)
  have e1 : ((cfg0.win 5).blk ⟨r.val / 256, hr⟩).view.read (Elt Ideal) ((dats m 0 c).arrAt 5 cfg0.N) (ix2 ⟨r.val % 256, by omega⟩ l)
      = ((dats m 0 c).arrAt 5 cfg0.N : Vec Ideal S8192x1024 .bf16) (ix2 r l) := by
    blk_ext [index_at ⟨r.val / 256, hr⟩, hd]
  rw [e1] at e
  refine e.trans ?_
  rw [Value.flushed5]
  show (out0_5 (F := Ideal) (b0 m c ⟨r.val / 256, hr⟩) (b1 m c ⟨r.val / 256, hr⟩) (b2 m c ⟨r.val / 256, hr⟩) (b3 m c ⟨r.val / 256, hr⟩) (b4 m c ⟨r.val / 256, hr⟩) : Vec Ideal S256x1024 .bf16) (ix2 ⟨r.val % 256, by omega⟩ l) = _
  unfold out0_5
  rw [View.canon_unit_zero (by decide), View.ld_unit_zero (by decide), View.ld_unit_zero (by decide)]
  unfold k0_pay7
  pointwise
  rw [pay3_at, b0_at m c r l _ _ hd, b3_at m c r l _ _ hd]

theorem value6_at : @Eq EReal (((dats m 0 c).arrAt 6 cfg0.N : Vec Ideal S8192x1024 .bf16) (ix2 r l))
    (dm m c (ix2 r l) * gate (proj m c (ix2 r ⟨8192 + l.val, by omega⟩))) := by
  have hN : cfg0.N = 32 := N_0
  have hr : r.val / 256 < cfg0.N := by omega
  have hd : 256 * (r.val / 256) + r.val % 256 = r.val := by omega
  have e := congrFun (Value.blocks6 m c ⟨r.val / 256, hr⟩ (flush0_6 _)) (ix2 ⟨r.val % 256, by omega⟩ l)
  have e1 : ((cfg0.win 6).blk ⟨r.val / 256, hr⟩).view.read (Elt Ideal) ((dats m 0 c).arrAt 6 cfg0.N) (ix2 ⟨r.val % 256, by omega⟩ l)
      = ((dats m 0 c).arrAt 6 cfg0.N : Vec Ideal S8192x1024 .bf16) (ix2 r l) := by
    blk_ext [index_at ⟨r.val / 256, hr⟩, hd]
  rw [e1] at e
  refine e.trans ?_
  rw [Value.flushed6]
  show (out0_6 (F := Ideal) (b0 m c ⟨r.val / 256, hr⟩) (b1 m c ⟨r.val / 256, hr⟩) (b2 m c ⟨r.val / 256, hr⟩) (b3 m c ⟨r.val / 256, hr⟩) (b4 m c ⟨r.val / 256, hr⟩) : Vec Ideal S256x1024 .bf16) (ix2 ⟨r.val % 256, by omega⟩ l) = _
  unfold out0_6
  rw [View.canon_unit_zero (by decide), View.ld_unit_zero (by decide), View.ld_unit_zero (by decide)]
  unfold k0_pay8
  pointwise
  rw [pay4_at, b0_at m c r l _ _ hd, b4_at m c r l _ _ hd]

theorem value7_at : @Eq EReal (((dats m 0 c).arrAt 7 cfg0.N : Vec Ideal S8192x1024 .bf16) (ix2 r l))
    (dm m c (ix2 r l) * pa m c (ix2 r l) * (gate (proj m c (ix2 r ⟨7168 + l.val, by omega⟩)) * (1 - gate (proj m c (ix2 r ⟨7168 + l.val, by omega⟩))))) := by
  have hN : cfg0.N = 32 := N_0
  have hr : r.val / 256 < cfg0.N := by omega
  have hd : 256 * (r.val / 256) + r.val % 256 = r.val := by omega
  have e := congrFun (Value.blocks7 m c ⟨r.val / 256, hr⟩ (flush0_7 _)) (ix2 ⟨r.val % 256, by omega⟩ l)
  have e1 : ((cfg0.win 7).blk ⟨r.val / 256, hr⟩).view.read (Elt Ideal) ((dats m 0 c).arrAt 7 cfg0.N) (ix2 ⟨r.val % 256, by omega⟩ l)
      = ((dats m 0 c).arrAt 7 cfg0.N : Vec Ideal S8192x1024 .bf16) (ix2 r l) := by
    blk_ext [index_at ⟨r.val / 256, hr⟩, hd]
  rw [e1] at e
  refine e.trans ?_
  rw [Value.flushed7]
  show (out0_7 (F := Ideal) (b0 m c ⟨r.val / 256, hr⟩) (b1 m c ⟨r.val / 256, hr⟩) (b2 m c ⟨r.val / 256, hr⟩) (b3 m c ⟨r.val / 256, hr⟩) (b4 m c ⟨r.val / 256, hr⟩) : Vec Ideal S256x1024 .bf16) (ix2 ⟨r.val % 256, by omega⟩ l) = _
  unfold out0_7
  rw [View.canon_unit_zero (by decide), View.ld_unit_zero (by decide), View.ld_unit_zero (by decide), View.ld_unit_zero (by decide)]
  unfold k0_pay1 k0_pay5
  pointwise
  rw [pay3_at, b0_at m c r l _ _ hd, b1_at m c r l _ _ hd, b3_at m c r l _ _ hd]
  simp [mul_assoc]

theorem value8_at : @Eq EReal (((dats m 0 c).arrAt 8 cfg0.N : Vec Ideal S8192x1024 .bf16) (ix2 r l))
    (dm m c (ix2 r l) * pb m c (ix2 r l) * (gate (proj m c (ix2 r ⟨8192 + l.val, by omega⟩)) * (1 - gate (proj m c (ix2 r ⟨8192 + l.val, by omega⟩))))) := by
  have hN : cfg0.N = 32 := N_0
  have hr : r.val / 256 < cfg0.N := by omega
  have hd : 256 * (r.val / 256) + r.val % 256 = r.val := by omega
  have e := congrFun (Value.blocks8 m c ⟨r.val / 256, hr⟩ (flush0_8 _)) (ix2 ⟨r.val % 256, by omega⟩ l)
  have e1 : ((cfg0.win 8).blk ⟨r.val / 256, hr⟩).view.read (Elt Ideal) ((dats m 0 c).arrAt 8 cfg0.N) (ix2 ⟨r.val % 256, by omega⟩ l)
      = ((dats m 0 c).arrAt 8 cfg0.N : Vec Ideal S8192x1024 .bf16) (ix2 r l) := by
    blk_ext [index_at ⟨r.val / 256, hr⟩, hd]
  rw [e1] at e
  refine e.trans ?_
  rw [Value.flushed8]
  show (out0_8 (F := Ideal) (b0 m c ⟨r.val / 256, hr⟩) (b1 m c ⟨r.val / 256, hr⟩) (b2 m c ⟨r.val / 256, hr⟩) (b3 m c ⟨r.val / 256, hr⟩) (b4 m c ⟨r.val / 256, hr⟩) : Vec Ideal S256x1024 .bf16) (ix2 ⟨r.val % 256, by omega⟩ l) = _
  unfold out0_8
  rw [View.canon_unit_zero (by decide), View.ld_unit_zero (by decide), View.ld_unit_zero (by decide), View.ld_unit_zero (by decide)]
  unfold k0_pay2 k0_pay6
  pointwise
  rw [pay4_at, b0_at m c r l _ _ hd, b2_at m c r l _ _ hd, b4_at m c r l _ _ hd]
  simp [mul_assoc]

end Cert.Merge

namespace Cert.Proof

open Idealize.ShloMosaic Idealize.SL.Sem

section

attribute [local instance] Cert.Kernel2.Gen.facts Cert.Kernel2Ideal.Gen.facts Cert.Reference2Ideal.Gen.facts

theorem frame_Kernel2 : Cert.quiescent_Kernel2 := fun m ρ _ => Cert.Kernel2.Gen.frame (F := Bits) m ρ

theorem frame_Kernel2Ideal : Cert.quiescent_Kernel2Ideal := fun m ρ _ => Cert.Kernel2Ideal.Gen.frame (F := Ideal) m ρ

/-- The reference declares no semaphore. -/
theorem frame_Reference2Ideal : Cert.quiescent_Reference2Ideal := fun m ρ _ =>
  (θ_run Cert.Reference2Ideal.defs _ _).mono (fun r h => ⟨fun c => (h c).2.2.2.2, sem_eq_zero_of_no_sems (by decide) r.2⟩)
    (Cert.Reference2Ideal.Value.run (F := Ideal) m ρ)

theorem preserves2 : Cert.preserves_Kernel2_Kernel2Ideal := trivial

end

theorem algebraic2 : algebraic_Kernel2Ideal_Reference2Ideal (hKernel2Ideal := Cert.Kernel2Ideal.Gen.facts)
    (hReference2Ideal := Cert.Reference2Ideal.Gen.facts) := by
  intro m g m' g' hpre hm
  refine ⟨fun c => (Cert.Kernel2Ideal.Gen.dats m 0 c).arrAt 5 Cert.Kernel2Ideal.cfg0.N, fun c => (Cert.Kernel2Ideal.Gen.dats m 0 c).arrAt 6 Cert.Kernel2Ideal.cfg0.N,
    fun c => (Cert.Kernel2Ideal.Gen.dats m 0 c).arrAt 7 Cert.Kernel2Ideal.cfg0.N, fun c => (Cert.Kernel2Ideal.Gen.dats m 0 c).arrAt 8 Cert.Kernel2Ideal.cfg0.N,
    Cert.Kernel2Ideal.Value.run_blocks m g,
    (θ_run (Cert.Reference2Ideal.defs (F := Ideal)) _ _).mono (fun r h c => ⟨?_, ?_, ?_, ?_, (h c).2.2.2.2⟩) (Cert.Reference2Ideal.Value.run m' g')⟩
  · refine ((h c).1).trans ?_
    obtain ⟨m0, m1, m2, m3⟩ := hm c
    funext j
    obtain ⟨x, y, rfl⟩ : ∃ (x : Fin 8192) (y : Fin 1024), j = ix2 x y := ⟨j 0, j 1, eq_ix2 j⟩
    refine Eq.trans ?_ (Cert.Merge.value5_at m c x y).symm
    rw [m0, m3]
    unfold Cert.Merge.gate
    pointwise
    rw [mul_comm]
  · refine ((h c).2.1).trans ?_
    obtain ⟨m0, m1, m2, m3⟩ := hm c
    funext j
    obtain ⟨x, y, rfl⟩ : ∃ (x : Fin 8192) (y : Fin 1024), j = ix2 x y := ⟨j 0, j 1, eq_ix2 j⟩
    refine Eq.trans ?_ (Cert.Merge.value6_at m c x y).symm
    rw [m0, m3]
    unfold Cert.Merge.gate
    pointwise
    rw [mul_comm]
  · refine ((h c).2.2.1).trans ?_
    obtain ⟨m0, m1, m2, m3⟩ := hm c
    funext j
    obtain ⟨x, y, rfl⟩ : ∃ (x : Fin 8192) (y : Fin 1024), j = ix2 x y := ⟨j 0, j 1, eq_ix2 j⟩
    refine Eq.trans ?_ (Cert.Merge.value7_at m c x y).symm
    rw [m0, m1, m3]
    unfold Cert.Merge.gate
    pointwise

  · refine ((h c).2.2.2.1).trans ?_
    obtain ⟨m0, m1, m2, m3⟩ := hm c
    funext j
    obtain ⟨x, y, rfl⟩ : ∃ (x : Fin 8192) (y : Fin 1024), j = ix2 x y := ⟨j 0, j 1, eq_ix2 j⟩
    refine Eq.trans ?_ (Cert.Merge.value8_at m c x y).symm
    rw [m0, m2, m3]
    unfold Cert.Merge.gate
    pointwise

end Cert.Proof

end
-- ==== Proof.UpForward.lean ====
/-
  The up projection: a product, one grid step a block of rows and a block of columns.
-/
module

public import proofs.«01_k».proof.Defs
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Products
import Idealize.ShloMosaic.Lib.StableHlo.ReadAt

@[expose] public section

set_option maxRecDepth 16384

noncomputable section

namespace Cert.UpForward

open Idealize.ShloMosaic Idealize.ShloMosaic.TcCoe Idealize.SL.Sem Cert.Kernel10Ideal Cert.Kernel10Ideal.Gen Cert.Products

theorem only (x0 : Vec Ideal S1024x1024 .bf16) (x1 : Vec Ideal S1024x1408 .bf16) : out0_2 (F := Ideal) x0 x1 = k0_pay1 x0 x1 := by
  unfold out0_2
  rw [View.canon_unit_zero (by decide), View.ld_unit_zero (by decide), View.ld_unit_zero (by decide)]

theorem pay1_at (x0 : Vec Ideal S1024x1024 .bf16) (x1 : Vec Ideal S1024x1408 .bf16) (x : Fin 1024) (y : Fin 1408) :
    (k0_pay1 x0 x1 : FVec Ideal S1024x1408 .f32) (ix2 x y) = ∑ k : Fin 1024, x0 (ix2 x k) * x1 (ix2 k y) := by
  unfold k0_pay1
  pointwise
  try simp

variable (m : (ℓ : Loc nD τ sig) → Buf (Elt Ideal) ℓ) (c : Dev nD)

theorem index_at : ∀ t : Fin cfg0.N, win0_0.index t = ![t.val / 4, 0] ∧ win0_1.index t = ![0, t.val % 4] ∧ win0_2.index t = ![t.val / 4, t.val % 4] :=
  (by decide +kernel : ∀ t : Fin grid0.N, _)

/-- The two factors as the call takes them. -/
abbrev A : FVec Ideal S8192x1024 .bf16 := V m c main_v0
abbrev B : FVec Ideal S1024x5632 .bf16 := V m c main_v1

/-- The blocks of a grid step. -/
def bA (t : Fin cfg0.N) : FVec Ideal S1024x1024 .bf16 := iblk m c 0 t
def bB (t : Fin cfg0.N) : FVec Ideal S1024x1408 .bf16 := iblk m c 1 t

/-- The result of the call, at an index. -/
theorem result_at (r : Fin 8192) (y : Fin 5632) :
    @Eq EReal (((dats m 0 c).arrAt 2 cfg0.N : Vec Ideal S8192x5632 .f32) (ix2 r y)) (∑ k : Fin 1024, A m c (ix2 r k) * B m c (ix2 k y)) := by
  have hN : cfg0.N = 32 := N_0
  have hr : 4 * (r.val / 1024) + y.val / 1408 < cfg0.N := by omega
  have hd : 1024 * (r.val / 1024) + r.val % 1024 = r.val := by omega
  have h1 : (4 * (r.val / 1024) + y.val / 1408) / 4 = r.val / 1024 := by omega
  have h2 : (4 * (r.val / 1024) + y.val / 1408) % 4 = y.val / 1408 := by omega
  have hy : 1408 * (y.val / 1408) + y.val % 1408 = y.val := by omega
  have e := congrFun (Value.blocks2 m c ⟨4 * (r.val / 1024) + y.val / 1408, hr⟩ (flush0_2 _)) (ix2 ⟨r.val % 1024, by omega⟩ ⟨y.val % 1408, by omega⟩)
  have e1 : ((cfg0.win 2).blk ⟨4 * (r.val / 1024) + y.val / 1408, hr⟩).view.read (Elt Ideal) ((dats m 0 c).arrAt 2 cfg0.N) (ix2 ⟨r.val % 1024, by omega⟩ ⟨y.val % 1408, by omega⟩)
      = ((dats m 0 c).arrAt 2 cfg0.N : Vec Ideal S8192x5632 .f32) (ix2 r y) := by
    blk_ext [index_at ⟨4 * (r.val / 1024) + y.val / 1408, hr⟩, h1, h2, hd, hy]
  rw [e1] at e
  refine e.trans ?_
  rw [Value.flushed2]
  refine (congrFun (only (bA m c ⟨4 * (r.val / 1024) + y.val / 1408, hr⟩) (bB m c ⟨4 * (r.val / 1024) + y.val / 1408, hr⟩)) (ix2 ⟨r.val % 1024, by omega⟩ ⟨y.val % 1408, by omega⟩)).trans ?_
  rw [pay1_at]
  refine Finset.sum_congr rfl fun k _ => congrArg₂ (· * ·) ?_ ?_
  · unfold bA
    blk_ext [iblk, index_at ⟨4 * (r.val / 1024) + y.val / 1408, hr⟩, h1, hd]
  · unfold bB
    blk_ext [iblk, index_at ⟨4 * (r.val / 1024) + y.val / 1408, hr⟩, h1, h2, hy]

/-- The two factors as the arguments give them. -/
abbrev inA : FVec Ideal S8192x1024 .f32 := m ((c.tc : Thread nD τ).loc main_arg0)
abbrev inB : FVec Ideal S1024x5632 .f32 := m ((c.tc : Thread nD τ).loc main_arg1)

theorem A_at (r : Fin 8192) (k : Fin 1024) : A m c (ix2 r k) = inA m c (ix2 r k) := by
  unfold A V
  after_reads_simp
  pointwise

theorem B_at (r : Fin 1024) (k : Fin 5632) : B m c (ix2 r k) = inB m c (ix2 r k) := by
  unfold B V
  after_reads_simp
  pointwise

theorem value_at (r : Fin 8192) (y : Fin 5632) :
    @Eq EReal (((dats m 0 c).arrAt 2 cfg0.N : Vec Ideal S8192x5632 .f32) (ix2 r y))
      (∑ k : Fin 1024, inA m c (ix2 r k) * inB m c (ix2 k y)) := by
  rw [result_at]
  exact Finset.sum_congr rfl fun k _ => by rw [A_at, B_at]

end Cert.UpForward

namespace Cert.Proof

open Idealize.ShloMosaic Idealize.SL.Sem

section

attribute [local instance] Cert.Kernel10.Gen.facts Cert.Kernel10Ideal.Gen.facts Cert.Reference10Ideal.Gen.facts

theorem frame_Kernel10 : Cert.quiescent_Kernel10 := fun m ρ _ => Cert.Kernel10.Gen.frame (F := Bits) m ρ

theorem frame_Kernel10Ideal : Cert.quiescent_Kernel10Ideal := fun m ρ _ => Cert.Kernel10Ideal.Gen.frame (F := Ideal) m ρ

/-- The reference declares no semaphore. -/
theorem frame_Reference10Ideal : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem preserves10 : Cert.preserves_Kernel10_Kernel10Ideal := trivial

end

theorem algebraic10 : algebraic_Kernel10Ideal_Reference10Ideal (hKernel10Ideal := Cert.Kernel10Ideal.Gen.facts)
    (hReference10Ideal := Cert.Reference10Ideal.Gen.facts) := by
  intro m g m' g' hpre hm
  refine ⟨fun c => (Cert.Kernel10Ideal.Gen.dats m 0 c).arrAt 2 Cert.Kernel10Ideal.cfg0.N, Cert.Kernel10Ideal.Value.run_blocks m g,
    (θ_run (Cert.Reference10Ideal.defs (F := Ideal)) _ _).mono (fun r h c => ⟨?_, (h c).2⟩) (Cert.Reference10Ideal.Value.run m' g')⟩
  refine (h c).1.trans ?_
  obtain ⟨m0, m1⟩ := hm c
  funext j
  obtain ⟨x, y, rfl⟩ : ∃ (x : Fin 8192) (y : Fin 5632), j = ix2 x y := ⟨j 0, j 1, eq_ix2 j⟩
  refine Eq.trans ?_ (Cert.UpForward.value_at m c x y).symm
  rw [m0, m1]
  pointwise
  try rfl

end Cert.Proof

end
-- ==== Proof.BranchForward.lean ====
/-
  The projection of a branch: a product, one grid step a block of rows.
-/
module

public import proofs.«01_k».proof.Defs
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Products
import Idealize.ShloMosaic.Lib.StableHlo.ReadAt

@[expose] public section

set_option maxRecDepth 16384

noncomputable section

namespace Cert.BranchForward

open Idealize.ShloMosaic Idealize.ShloMosaic.TcCoe Idealize.SL.Sem Cert.Kernel11Ideal Cert.Kernel11Ideal.Gen Cert.Products

theorem only (x0 : Vec Ideal S1024x1024 .bf16) (x1 : Vec Ideal S1024x1024 .bf16) : out0_2 (F := Ideal) x0 x1 = k0_pay1 x0 x1 := by
  unfold out0_2
  rw [View.canon_unit_zero (by decide), View.ld_unit_zero (by decide), View.ld_unit_zero (by decide)]

theorem pay1_at (x0 : Vec Ideal S1024x1024 .bf16) (x1 : Vec Ideal S1024x1024 .bf16) (x : Fin 1024) (y : Fin 1024) :
    (k0_pay1 x0 x1 : FVec Ideal S1024x1024 .f32) (ix2 x y) = ∑ k : Fin 1024, x0 (ix2 x k) * x1 (ix2 k y) := by
  unfold k0_pay1
  pointwise
  try simp

variable (m : (ℓ : Loc nD τ sig) → Buf (Elt Ideal) ℓ) (c : Dev nD)

theorem index_at : ∀ t : Fin cfg0.N, win0_0.index t = ![t.val, 0] ∧ win0_1.index t = ![0, 0] ∧ win0_2.index t = ![t.val, 0] :=
  (by decide +kernel : ∀ t : Fin grid0.N, _)

/-- The two factors as the call takes them. -/
abbrev A : FVec Ideal S8192x1024 .bf16 := V m c main_v0
abbrev B : FVec Ideal S1024x1024 .bf16 := V m c main_v1

/-- The blocks of a grid step. -/
def bA (t : Fin cfg0.N) : FVec Ideal S1024x1024 .bf16 := iblk m c 0 t
def bB (t : Fin cfg0.N) : FVec Ideal S1024x1024 .bf16 := iblk m c 1 t

/-- The result of the call, at an index. -/
theorem result_at (r : Fin 8192) (y : Fin 1024) :
    @Eq EReal (((dats m 0 c).arrAt 2 cfg0.N : Vec Ideal S8192x1024 .f32) (ix2 r y)) (∑ k : Fin 1024, A m c (ix2 r k) * B m c (ix2 k y)) := by
  have hN : cfg0.N = 8 := N_0
  have hr : r.val / 1024 < cfg0.N := by omega
  have hd : 1024 * (r.val / 1024) + r.val % 1024 = r.val := by omega
  have e := congrFun (Value.blocks2 m c ⟨r.val / 1024, hr⟩ (flush0_2 _)) (ix2 ⟨r.val % 1024, by omega⟩ y)
  have e1 : ((cfg0.win 2).blk ⟨r.val / 1024, hr⟩).view.read (Elt Ideal) ((dats m 0 c).arrAt 2 cfg0.N) (ix2 ⟨r.val % 1024, by omega⟩ y)
      = ((dats m 0 c).arrAt 2 cfg0.N : Vec Ideal S8192x1024 .f32) (ix2 r y) := by
    blk_ext [index_at ⟨r.val / 1024, hr⟩, hd]
  rw [e1] at e
  refine e.trans ?_
  rw [Value.flushed2]
  refine (congrFun (only (bA m c ⟨r.val / 1024, hr⟩) (bB m c ⟨r.val / 1024, hr⟩)) (ix2 ⟨r.val % 1024, by omega⟩ y)).trans ?_
  rw [pay1_at]
  refine Finset.sum_congr rfl fun k _ => congrArg₂ (· * ·) ?_ ?_
  · unfold bA
    blk_ext [iblk, index_at ⟨r.val / 1024, hr⟩, hd]
  · unfold bB
    blk_ext [iblk, index_at ⟨r.val / 1024, hr⟩]

/-- The two factors as the arguments give them. -/
abbrev inA : FVec Ideal S8192x1024 .f32 := m ((c.tc : Thread nD τ).loc main_arg0)
abbrev inB : FVec Ideal S1024x1024 .f32 := m ((c.tc : Thread nD τ).loc main_arg1)

theorem A_at (r : Fin 8192) (k : Fin 1024) : A m c (ix2 r k) = inA m c (ix2 r k) := by
  unfold A V
  after_reads_simp
  pointwise

theorem B_at (r : Fin 1024) (k : Fin 1024) : B m c (ix2 r k) = inB m c (ix2 r k) := by
  unfold B V
  after_reads_simp
  pointwise

theorem value_at (r : Fin 8192) (y : Fin 1024) :
    @Eq EReal (((dats m 0 c).arrAt 2 cfg0.N : Vec Ideal S8192x1024 .f32) (ix2 r y))
      (∑ k : Fin 1024, inA m c (ix2 r k) * inB m c (ix2 k y)) := by
  rw [result_at]
  exact Finset.sum_congr rfl fun k _ => by rw [A_at, B_at]

end Cert.BranchForward

namespace Cert.Proof

open Idealize.ShloMosaic Idealize.SL.Sem

section

attribute [local instance] Cert.Kernel11.Gen.facts Cert.Kernel11Ideal.Gen.facts Cert.Reference11Ideal.Gen.facts

theorem frame_Kernel11 : Cert.quiescent_Kernel11 := fun m ρ _ => Cert.Kernel11.Gen.frame (F := Bits) m ρ

theorem frame_Kernel11Ideal : Cert.quiescent_Kernel11Ideal := fun m ρ _ => Cert.Kernel11Ideal.Gen.frame (F := Ideal) m ρ

/-- The reference declares no semaphore. -/
theorem frame_Reference11Ideal : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem preserves11 : Cert.preserves_Kernel11_Kernel11Ideal := trivial

end

theorem algebraic11 : algebraic_Kernel11Ideal_Reference11Ideal (hKernel11Ideal := Cert.Kernel11Ideal.Gen.facts)
    (hReference11Ideal := Cert.Reference11Ideal.Gen.facts) := by
  intro m g m' g' hpre hm
  refine ⟨fun c => (Cert.Kernel11Ideal.Gen.dats m 0 c).arrAt 2 Cert.Kernel11Ideal.cfg0.N, Cert.Kernel11Ideal.Value.run_blocks m g,
    (θ_run (Cert.Reference11Ideal.defs (F := Ideal)) _ _).mono (fun r h c => ⟨?_, (h c).2⟩) (Cert.Reference11Ideal.Value.run m' g')⟩
  refine (h c).1.trans ?_
  obtain ⟨m0, m1⟩ := hm c
  funext j
  obtain ⟨x, y, rfl⟩ : ∃ (x : Fin 8192) (y : Fin 1024), j = ix2 x y := ⟨j 0, j 1, eq_ix2 j⟩
  refine Eq.trans ?_ (Cert.BranchForward.value_at m c x y).symm
  rw [m0, m1]
  pointwise
  try rfl

end Cert.Proof

end
-- ==== Proof.OutForward.lean ====
/-
  The output projection, added to the rows that came in.
-/
module

public import proofs.«01_k».proof.Defs
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Products
import Idealize.ShloMosaic.Lib.StableHlo.ReadAt

@[expose] public section

set_option maxRecDepth 16384

noncomputable section

namespace Cert.OutForward

open Idealize.ShloMosaic Idealize.ShloMosaic.TcCoe Idealize.SL.Sem Cert.Kernel12Ideal Cert.Kernel12Ideal.Gen Cert.Products

theorem only (x0 : Vec Ideal S1024x1024 .bf16) (x1 : Vec Ideal S1024x1024 .bf16) (x2 : Vec Ideal S1024x1024 .f32) : out0_3 (F := Ideal) x0 x1 x2 = k0_pay1 x0 x1 x2 := by
  unfold out0_3
  rw [View.canon_unit_zero (by decide), View.ld_unit_zero (by decide), View.ld_unit_zero (by decide), View.ld_unit_zero (by decide)]

theorem pay1_at (x0 : Vec Ideal S1024x1024 .bf16) (x1 : Vec Ideal S1024x1024 .bf16) (x2 : Vec Ideal S1024x1024 .f32) (x : Fin 1024) (y : Fin 1024) :
    (k0_pay1 x0 x1 x2 : FVec Ideal S1024x1024 .f32) (ix2 x y) = (∑ k : Fin 1024, x0 (ix2 x k) * x1 (ix2 k y)) + x2 (ix2 x y) := by
  unfold k0_pay1
  pointwise
  try simp

variable (m : (ℓ : Loc nD τ sig) → Buf (Elt Ideal) ℓ) (c : Dev nD)

theorem index_at : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The two factors as the call takes them. -/
abbrev A : FVec Ideal S8192x1024 .bf16 := V m c main_v0
abbrev B : FVec Ideal S1024x1024 .bf16 := V m c main_v1

/-- The blocks of a grid step. -/
def bA (t : Fin cfg0.N) : FVec Ideal S1024x1024 .bf16 := iblk m c 0 t
def bB (t : Fin cfg0.N) : FVec Ideal S1024x1024 .bf16 := iblk m c 1 t
def bH (t : Fin cfg0.N) : FVec Ideal S1024x1024 .f32 := iblk m c 2 t
abbrev inH : FVec Ideal S8192x1024 .f32 := m ((c.tc : Thread nD τ).loc main_arg2)

/-- The result of the call, at an index. -/
theorem result_at (r : Fin 8192) (y : Fin 1024) :
    @Eq EReal (((dats m 0 c).arrAt 3 cfg0.N : Vec Ideal S8192x1024 .f32) (ix2 r y)) ((∑ k : Fin 1024, A m c (ix2 r k) * B m c (ix2 k y)) + inH m c (ix2 r y)) := by
  have hN : cfg0.N = 8 := N_0
  have hr : r.val / 1024 < cfg0.N := by omega
  have hd : 1024 * (r.val / 1024) + r.val % 1024 = r.val := by omega
  have e := congrFun (Value.blocks3 m c ⟨r.val / 1024, hr⟩ (flush0_3 _)) (ix2 ⟨r.val % 1024, by omega⟩ y)
  have e1 : ((cfg0.win 3).blk ⟨r.val / 1024, hr⟩).view.read (Elt Ideal) ((dats m 0 c).arrAt 3 cfg0.N) (ix2 ⟨r.val % 1024, by omega⟩ y)
      = ((dats m 0 c).arrAt 3 cfg0.N : Vec Ideal S8192x1024 .f32) (ix2 r y) := by
    blk_ext [index_at ⟨r.val / 1024, hr⟩, hd]
  rw [e1] at e
  refine e.trans ?_
  rw [Value.flushed3]
  refine (congrFun (only (bA m c ⟨r.val / 1024, hr⟩) (bB m c ⟨r.val / 1024, hr⟩) (bH m c ⟨r.val / 1024, hr⟩)) (ix2 ⟨r.val % 1024, by omega⟩ y)).trans ?_
  rw [pay1_at]
  refine congrArg₂ (· + ·) ?_ ?_
  · refine Finset.sum_congr rfl fun k _ => congrArg₂ (· * ·) ?_ ?_
    · unfold bA
      blk_ext [iblk, index_at ⟨r.val / 1024, hr⟩, hd]
    · unfold bB
      blk_ext [iblk, index_at ⟨r.val / 1024, hr⟩]
  · refine Eq.trans ?_ (congrFun (V_main_arg2 m c) _)
    unfold bH
    blk_ext [iblk, index_at ⟨r.val / 1024, hr⟩, hd]

/-- The two factors as the arguments give them. -/
abbrev inA : FVec Ideal S8192x1024 .f32 := m ((c.tc : Thread nD τ).loc main_arg0)
abbrev inB : FVec Ideal S1024x1024 .f32 := m ((c.tc : Thread nD τ).loc main_arg1)

theorem A_at (r : Fin 8192) (k : Fin 1024) : A m c (ix2 r k) = inA m c (ix2 r k) := by
  unfold A V
  after_reads_simp
  pointwise

theorem B_at (r : Fin 1024) (k : Fin 1024) : B m c (ix2 r k) = inB m c (ix2 r k) := by
  unfold B V
  after_reads_simp
  pointwise

theorem value_at (r : Fin 8192) (y : Fin 1024) :
    @Eq EReal (((dats m 0 c).arrAt 3 cfg0.N : Vec Ideal S8192x1024 .f32) (ix2 r y))
      ((∑ k : Fin 1024, inA m c (ix2 r k) * inB m c (ix2 k y)) + inH m c (ix2 r y)) := by
  rw [result_at]
  exact congrArg (· + _) <| Finset.sum_congr rfl fun k _ => by rw [A_at, B_at]

end Cert.OutForward

namespace Cert.Proof

open Idealize.ShloMosaic Idealize.SL.Sem

section

attribute [local instance] Cert.Kernel12.Gen.facts Cert.Kernel12Ideal.Gen.facts Cert.Reference12Ideal.Gen.facts

theorem frame_Kernel12 : Cert.quiescent_Kernel12 := fun m ρ _ => Cert.Kernel12.Gen.frame (F := Bits) m ρ

theorem frame_Kernel12Ideal : Cert.quiescent_Kernel12Ideal := fun m ρ _ => Cert.Kernel12Ideal.Gen.frame (F := Ideal) m ρ

/-- The reference declares no semaphore. -/
theorem frame_Reference12Ideal : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

theorem preserves12 : Cert.preserves_Kernel12_Kernel12Ideal := trivial

end

theorem algebraic12 : algebraic_Kernel12Ideal_Reference12Ideal (hKernel12Ideal := Cert.Kernel12Ideal.Gen.facts)
    (hReference12Ideal := Cert.Reference12Ideal.Gen.facts) := by
  intro m g m' g' hpre hm
  refine ⟨fun c => (Cert.Kernel12Ideal.Gen.dats m 0 c).arrAt 3 Cert.Kernel12Ideal.cfg0.N, Cert.Kernel12Ideal.Value.run_blocks m g,
    (θ_run (Cert.Reference12Ideal.defs (F := Ideal)) _ _).mono (fun r h c => ⟨?_, (h c).2⟩) (Cert.Reference12Ideal.Value.run m' g')⟩
  refine (h c).1.trans ?_
  obtain ⟨m0, m1, m2⟩ := hm c
  funext j
  obtain ⟨x, y, rfl⟩ : ∃ (x : Fin 8192) (y : Fin 1024), j = ix2 x y := ⟨j 0, j 1, eq_ix2 j⟩
  refine Eq.trans ?_ (Cert.OutForward.value_at m c x y).symm
  rw [m0, m1, m2]
  pointwise
  exact add_comm _ _

end Cert.Proof

end
-- ==== Proof.DownForward.lean ====
/-
  The down projection, added to the rows that came in.
-/
module

public import proofs.«01_k».proof.Defs
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Products
import Idealize.ShloMosaic.Lib.StableHlo.ReadAt

@[expose] public section

set_option maxRecDepth 16384

noncomputable section

namespace Cert.DownForward

open Idealize.ShloMosaic Idealize.ShloMosaic.TcCoe Idealize.SL.Sem Cert.Kernel13Ideal Cert.Kernel13Ideal.Gen Cert.Products

theorem only (x0 : Vec Ideal S512x2816 .bf16) (x1 : Vec Ideal S2816x1024 .bf16) (x2 : Vec Ideal S512x1024 .f32) : out0_3 (F := Ideal) x0 x1 x2 = k0_pay1 x0 x1 x2 := by
  unfold out0_3
  rw [View.canon_unit_zero (by decide), View.ld_unit_zero (by decide), View.ld_unit_zero (by decide), View.ld_unit_zero (by decide)]

theorem pay1_at (x0 : Vec Ideal S512x2816 .bf16) (x1 : Vec Ideal S2816x1024 .bf16) (x2 : Vec Ideal S512x1024 .f32) (x : Fin 512) (y : Fin 1024) :
    (k0_pay1 x0 x1 x2 : FVec Ideal S512x1024 .f32) (ix2 x y) = (∑ k : Fin 2816, x0 (ix2 x k) * x1 (ix2 k y)) + x2 (ix2 x y) := by
  unfold k0_pay1
  pointwise
  try simp

variable (m : (ℓ : Loc nD τ sig) → Buf (Elt Ideal) ℓ) (c : Dev nD)

theorem index_at : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The two factors as the call takes them. -/
abbrev A : FVec Ideal S8192x2816 .bf16 := V m c main_v0
abbrev B : FVec Ideal S2816x1024 .bf16 := V m c main_v1

/-- The blocks of a grid step. -/
def bA (t : Fin cfg0.N) : FVec Ideal S512x2816 .bf16 := iblk m c 0 t
def bB (t : Fin cfg0.N) : FVec Ideal S2816x1024 .bf16 := iblk m c 1 t
def bH (t : Fin cfg0.N) : FVec Ideal S512x1024 .f32 := iblk m c 2 t
abbrev inH : FVec Ideal S8192x1024 .f32 := m ((c.tc : Thread nD τ).loc main_arg2)

/-- The result of the call, at an index. -/
theorem result_at (r : Fin 8192) (y : Fin 1024) :
    @Eq EReal (((dats m 0 c).arrAt 3 cfg0.N : Vec Ideal S8192x1024 .f32) (ix2 r y)) ((∑ k : Fin 2816, A m c (ix2 r k) * B m c (ix2 k y)) + inH m c (ix2 r y)) := by
  have hN : cfg0.N = 16 := N_0
  have hr : r.val / 512 < cfg0.N := by omega
  have hd : 512 * (r.val / 512) + r.val % 512 = r.val := by omega
  have e := congrFun (Value.blocks3 m c ⟨r.val / 512, hr⟩ (flush0_3 _)) (ix2 ⟨r.val % 512, by omega⟩ y)
  have e1 : ((cfg0.win 3).blk ⟨r.val / 512, hr⟩).view.read (Elt Ideal) ((dats m 0 c).arrAt 3 cfg0.N) (ix2 ⟨r.val % 512, by omega⟩ y)
      = ((dats m 0 c).arrAt 3 cfg0.N : Vec Ideal S8192x1024 .f32) (ix2 r y) := by
    blk_ext [index_at ⟨r.val / 512, hr⟩, hd]
  rw [e1] at e
  refine e.trans ?_
  rw [Value.flushed3]
  refine (congrFun (only (bA m c ⟨r.val / 512, hr⟩) (bB m c ⟨r.val / 512, hr⟩) (bH m c ⟨r.val / 512, hr⟩)) (ix2 ⟨r.val % 512, by omega⟩ y)).trans ?_
  rw [pay1_at]
  refine congrArg₂ (· + ·) ?_ ?_
  · refine Finset.sum_congr rfl fun k _ => congrArg₂ (· * ·) ?_ ?_
    · unfold bA
      blk_ext [iblk, index_at ⟨r.val / 512, hr⟩, hd]
    · unfold bB
      blk_ext [iblk, index_at ⟨r.val / 512, hr⟩]
  · refine Eq.trans ?_ (congrFun (V_main_arg2 m c) _)
    unfold bH
    blk_ext [iblk, index_at ⟨r.val / 512, hr⟩, hd]

/-- The two factors as the arguments give them. -/
abbrev inA : FVec Ideal S8192x2816 .f32 := m ((c.tc : Thread nD τ).loc main_arg0)
abbrev inB : FVec Ideal S2816x1024 .f32 := m ((c.tc : Thread nD τ).loc main_arg1)

theorem A_at (r : Fin 8192) (k : Fin 2816) : A m c (ix2 r k) = inA m c (ix2 r k) := by
  unfold A V
  after_reads_simp
  pointwise

theorem B_at (r : Fin 2816) (k : Fin 1024) : B m c (ix2 r k) = inB m c (ix2 r k) := by
  unfold B V
  after_reads_simp
  pointwise

theorem value_at (r : Fin 8192) (y : Fin 1024) :
    @Eq EReal (((dats m 0 c).arrAt 3 cfg0.N : Vec Ideal S8192x1024 .f32) (ix2 r y))
      ((∑ k : Fin 2816, inA m c (ix2 r k) * inB m c (ix2 k y)) + inH m c (ix2 r y)) := by
  rw [result_at]
  exact congrArg (· + _) <| Finset.sum_congr rfl fun k _ => by rw [A_at, B_at]

end Cert.DownForward

namespace Cert.Proof

open Idealize.ShloMosaic Idealize.SL.Sem

section

attribute [local instance] Cert.Kernel13.Gen.facts Cert.Kernel13Ideal.Gen.facts Cert.Reference13Ideal.Gen.facts

theorem frame_Kernel13 : Cert.quiescent_Kernel13 := fun m ρ _ => Cert.Kernel13.Gen.frame (F := Bits) m ρ

theorem frame_Kernel13Ideal : Cert.quiescent_Kernel13Ideal := fun m ρ _ => Cert.Kernel13Ideal.Gen.frame (F := Ideal) m ρ

/-- The reference declares no semaphore. -/
theorem frame_Reference13Ideal : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem preserves13 : Cert.preserves_Kernel13_Kernel13Ideal := trivial

end

theorem algebraic13 : algebraic_Kernel13Ideal_Reference13Ideal (hKernel13Ideal := Cert.Kernel13Ideal.Gen.facts)
    (hReference13Ideal := Cert.Reference13Ideal.Gen.facts) := by
  intro m g m' g' hpre hm
  refine ⟨fun c => (Cert.Kernel13Ideal.Gen.dats m 0 c).arrAt 3 Cert.Kernel13Ideal.cfg0.N, Cert.Kernel13Ideal.Value.run_blocks m g,
    (θ_run (Cert.Reference13Ideal.defs (F := Ideal)) _ _).mono (fun r h c => ⟨?_, (h c).2⟩) (Cert.Reference13Ideal.Value.run m' g')⟩
  refine (h c).1.trans ?_
  obtain ⟨m0, m1, m2⟩ := hm c
  funext j
  obtain ⟨x, y, rfl⟩ : ∃ (x : Fin 8192) (y : Fin 1024), j = ix2 x y := ⟨j 0, j 1, eq_ix2 j⟩
  refine Eq.trans ?_ (Cert.DownForward.value_at m c x y).symm
  rw [m0, m1, m2]
  pointwise
  exact add_comm _ _

end Cert.Proof

end
-- ==== Proof.BranchLeft.lean ====
/-
  The gradient of the rows that the projection of the first branch takes: a product, one grid step a block of rows.
-/
module

public import proofs.«01_k».proof.Defs
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Products
import Idealize.ShloMosaic.Lib.StableHlo.ReadAt

@[expose] public section

set_option maxRecDepth 16384

noncomputable section

namespace Cert.BranchLeft

open Idealize.ShloMosaic Idealize.ShloMosaic.TcCoe Idealize.SL.Sem Cert.Kernel14Ideal Cert.Kernel14Ideal.Gen Cert.Products

theorem only (x0 : Vec Ideal S1024x1024 .bf16) (x1 : Vec Ideal S1024x1024 .bf16) : out0_2 (F := Ideal) x0 x1 = k0_pay1 x0 x1 := by
  unfold out0_2
  rw [View.canon_unit_zero (by decide), View.ld_unit_zero (by decide), View.ld_unit_zero (by decide)]

theorem pay1_at (x0 : Vec Ideal S1024x1024 .bf16) (x1 : Vec Ideal S1024x1024 .bf16) (x : Fin 1024) (y : Fin 1024) :
    (k0_pay1 x0 x1 : FVec Ideal S1024x1024 .f32) (ix2 x y) = ∑ k : Fin 1024, x0 (ix2 x k) * x1 (ix2 y k) := by
  unfold k0_pay1
  pointwise
  try simp

variable (m : (ℓ : Loc nD τ sig) → Buf (Elt Ideal) ℓ) (c : Dev nD)

theorem index_at : ∀ t : Fin cfg0.N, win0_0.index t = ![t.val, 0] ∧ win0_1.index t = ![0, 0] ∧ win0_2.index t = ![t.val, 0] :=
  (by decide +kernel : ∀ t : Fin grid0.N, _)

/-- The two factors as the call takes them. -/
abbrev A : FVec Ideal S8192x1024 .bf16 := V m c main_v0
abbrev B : FVec Ideal S1024x1024 .bf16 := V m c main_v1

/-- The blocks of a grid step. -/
def bA (t : Fin cfg0.N) : FVec Ideal S1024x1024 .bf16 := iblk m c 0 t
def bB (t : Fin cfg0.N) : FVec Ideal S1024x1024 .bf16 := iblk m c 1 t

/-- The result of the call, at an index. -/
theorem result_at (r : Fin 8192) (y : Fin 1024) :
    @Eq EReal (((dats m 0 c).arrAt 2 cfg0.N : Vec Ideal S8192x1024 .f32) (ix2 r y)) (∑ k : Fin 1024, A m c (ix2 r k) * B m c (ix2 y k)) := by
  have hN : cfg0.N = 8 := N_0
  have hr : r.val / 1024 < cfg0.N := by omega
  have hd : 1024 * (r.val / 1024) + r.val % 1024 = r.val := by omega
  have e := congrFun (Value.blocks2 m c ⟨r.val / 1024, hr⟩ (flush0_2 _)) (ix2 ⟨r.val % 1024, by omega⟩ y)
  have e1 : ((cfg0.win 2).blk ⟨r.val / 1024, hr⟩).view.read (Elt Ideal) ((dats m 0 c).arrAt 2 cfg0.N) (ix2 ⟨r.val % 1024, by omega⟩ y)
      = ((dats m 0 c).arrAt 2 cfg0.N : Vec Ideal S8192x1024 .f32) (ix2 r y) := by
    blk_ext [index_at ⟨r.val / 1024, hr⟩, hd]
  rw [e1] at e
  refine e.trans ?_
  rw [Value.flushed2]
  refine (congrFun (only (bA m c ⟨r.val / 1024, hr⟩) (bB m c ⟨r.val / 1024, hr⟩)) (ix2 ⟨r.val % 1024, by omega⟩ y)).trans ?_
  rw [pay1_at]
  refine Finset.sum_congr rfl fun k _ => congrArg₂ (· * ·) ?_ ?_
  · unfold bA
    blk_ext [iblk, index_at ⟨r.val / 1024, hr⟩, hd]
  · unfold bB
    blk_ext [iblk, index_at ⟨r.val / 1024, hr⟩]

/-- The two factors as the arguments give them. -/
abbrev inA : FVec Ideal S8192x1024 .f32 := m ((c.tc : Thread nD τ).loc main_arg2)
abbrev inB : FVec Ideal S1024x1024 .f32 := m ((c.tc : Thread nD τ).loc main_arg1)

theorem A_at (r : Fin 8192) (k : Fin 1024) : A m c (ix2 r k) = inA m c (ix2 r k) := by
  unfold A V
  after_reads_simp
  pointwise

theorem B_at (r : Fin 1024) (k : Fin 1024) : B m c (ix2 r k) = inB m c (ix2 r k) := by
  unfold B V
  after_reads_simp
  pointwise

theorem value_at (r : Fin 8192) (y : Fin 1024) :
    @Eq EReal (((dats m 0 c).arrAt 2 cfg0.N : Vec Ideal S8192x1024 .f32) (ix2 r y))
      (∑ k : Fin 1024, inA m c (ix2 r k) * inB m c (ix2 y k)) := by
  rw [result_at]
  exact Finset.sum_congr rfl fun k _ => by rw [A_at, B_at]

end Cert.BranchLeft

namespace Cert.Proof

open Idealize.ShloMosaic Idealize.SL.Sem

section

attribute [local instance] Cert.Kernel14.Gen.facts Cert.Kernel14Ideal.Gen.facts Cert.Reference14Ideal.Gen.facts

theorem frame_Kernel14 : Cert.quiescent_Kernel14 := fun m ρ _ => Cert.Kernel14.Gen.frame (F := Bits) m ρ

theorem frame_Kernel14Ideal : Cert.quiescent_Kernel14Ideal := fun m ρ _ => Cert.Kernel14Ideal.Gen.frame (F := Ideal) m ρ

/-- The reference declares no semaphore. -/
theorem frame_Reference14Ideal : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

theorem preserves14 : Cert.preserves_Kernel14_Kernel14Ideal := trivial

end

theorem algebraic14 : algebraic_Kernel14Ideal_Reference14Ideal (hKernel14Ideal := Cert.Kernel14Ideal.Gen.facts)
    (hReference14Ideal := Cert.Reference14Ideal.Gen.facts) := by
  intro m g m' g' hpre hm
  refine ⟨fun c => (Cert.Kernel14Ideal.Gen.dats m 0 c).arrAt 2 Cert.Kernel14Ideal.cfg0.N, Cert.Kernel14Ideal.Value.run_blocks m g,
    (θ_run (Cert.Reference14Ideal.defs (F := Ideal)) _ _).mono (fun r h c => ⟨?_, (h c).2⟩) (Cert.Reference14Ideal.Value.run m' g')⟩
  refine (h c).1.trans ?_
  obtain ⟨m0, m1, m2⟩ := hm c
  funext j
  obtain ⟨x, y, rfl⟩ : ∃ (x : Fin 8192) (y : Fin 1024), j = ix2 x y := ⟨j 0, j 1, eq_ix2 j⟩
  refine Eq.trans ?_ (Cert.BranchLeft.value_at m c x y).symm
  rw [m2, m1]
  pointwise
  try rfl

end Cert.Proof

end
-- ==== Proof.BranchLeftHalf.lean ====
/-
  The gradient of the rows that the projection of the second branch takes: a product, one grid step a block of rows.
-/
module

public import proofs.«01_k».proof.Defs
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Products
import Idealize.ShloMosaic.Lib.StableHlo.ReadAt

@[expose] public section

set_option maxRecDepth 16384

noncomputable section

namespace Cert.BranchLeftHalf

open Idealize.ShloMosaic Idealize.ShloMosaic.TcCoe Idealize.SL.Sem Cert.Kernel15Ideal Cert.Kernel15Ideal.Gen Cert.Products

theorem only (x0 : Vec Ideal S1024x1024 .bf16) (x1 : Vec Ideal S1024x1024 .bf16) : out0_2 (F := Ideal) x0 x1 = k0_pay1 x0 x1 := by
  unfold out0_2
  rw [View.canon_unit_zero (by decide), View.ld_unit_zero (by decide), View.ld_unit_zero (by decide)]

theorem pay1_at (x0 : Vec Ideal S1024x1024 .bf16) (x1 : Vec Ideal S1024x1024 .bf16) (x : Fin 1024) (y : Fin 1024) :
    (k0_pay1 x0 x1 : FVec Ideal S1024x1024 .bf16) (ix2 x y) = ∑ k : Fin 1024, x0 (ix2 x k) * x1 (ix2 y k) := by
  unfold k0_pay1
  pointwise
  try simp

variable (m : (ℓ : Loc nD τ sig) → Buf (Elt Ideal) ℓ) (c : Dev nD)

theorem index_at : ∀ t : Fin cfg0.N, win0_0.index t = ![t.val, 0] ∧ win0_1.index t = ![0, 0] ∧ win0_2.index t = ![t.val, 0] :=
  (by decide +kernel : ∀ t : Fin grid0.N, _)

/-- The two factors as the call takes them. -/
abbrev A : FVec Ideal S8192x1024 .bf16 := V m c main_v0
abbrev B : FVec Ideal S1024x1024 .bf16 := V m c main_v1

/-- The blocks of a grid step. -/
def bA (t : Fin cfg0.N) : FVec Ideal S1024x1024 .bf16 := iblk m c 0 t
def bB (t : Fin cfg0.N) : FVec Ideal S1024x1024 .bf16 := iblk m c 1 t

/-- The result of the call, at an index. -/
theorem result_at (r : Fin 8192) (y : Fin 1024) :
    @Eq EReal (((dats m 0 c).arrAt 2 cfg0.N : Vec Ideal S8192x1024 .bf16) (ix2 r y)) (∑ k : Fin 1024, A m c (ix2 r k) * B m c (ix2 y k)) := by
  have hN : cfg0.N = 8 := N_0
  have hr : r.val / 1024 < cfg0.N := by omega
  have hd : 1024 * (r.val / 1024) + r.val % 1024 = r.val := by omega
  have e := congrFun (Value.blocks2 m c ⟨r.val / 1024, hr⟩ (flush0_2 _)) (ix2 ⟨r.val % 1024, by omega⟩ y)
  have e1 : ((cfg0.win 2).blk ⟨r.val / 1024, hr⟩).view.read (Elt Ideal) ((dats m 0 c).arrAt 2 cfg0.N) (ix2 ⟨r.val % 1024, by omega⟩ y)
      = ((dats m 0 c).arrAt 2 cfg0.N : Vec Ideal S8192x1024 .bf16) (ix2 r y) := by
    blk_ext [index_at ⟨r.val / 1024, hr⟩, hd]
  rw [e1] at e
  refine e.trans ?_
  rw [Value.flushed2]
  refine (congrFun (only (bA m c ⟨r.val / 1024, hr⟩) (bB m c ⟨r.val / 1024, hr⟩)) (ix2 ⟨r.val % 1024, by omega⟩ y)).trans ?_
  rw [pay1_at]
  refine Finset.sum_congr rfl fun k _ => congrArg₂ (· * ·) ?_ ?_
  · unfold bA
    blk_ext [iblk, index_at ⟨r.val / 1024, hr⟩, hd]
  · unfold bB
    blk_ext [iblk, index_at ⟨r.val / 1024, hr⟩]

/-- The two factors as the arguments give them. -/
abbrev inA : FVec Ideal S8192x1024 .f32 := m ((c.tc : Thread nD τ).loc main_arg2)
abbrev inB : FVec Ideal S1024x1024 .f32 := m ((c.tc : Thread nD τ).loc main_arg1)

theorem A_at (r : Fin 8192) (k : Fin 1024) : A m c (ix2 r k) = inA m c (ix2 r k) := by
  unfold A V
  after_reads_simp
  pointwise

theorem B_at (r : Fin 1024) (k : Fin 1024) : B m c (ix2 r k) = inB m c (ix2 r k) := by
  unfold B V
  after_reads_simp
  pointwise

theorem value_at (r : Fin 8192) (y : Fin 1024) :
    @Eq EReal (((dats m 0 c).arrAt 2 cfg0.N : Vec Ideal S8192x1024 .bf16) (ix2 r y))
      (∑ k : Fin 1024, inA m c (ix2 r k) * inB m c (ix2 y k)) := by
  rw [result_at]
  exact Finset.sum_congr rfl fun k _ => by rw [A_at, B_at]

end Cert.BranchLeftHalf

namespace Cert.Proof

open Idealize.ShloMosaic Idealize.SL.Sem

section

attribute [local instance] Cert.Kernel15.Gen.facts Cert.Kernel15Ideal.Gen.facts Cert.Reference15Ideal.Gen.facts

theorem frame_Kernel15 : Cert.quiescent_Kernel15 := fun m ρ _ => Cert.Kernel15.Gen.frame (F := Bits) m ρ

theorem frame_Kernel15Ideal : Cert.quiescent_Kernel15Ideal := fun m ρ _ => Cert.Kernel15Ideal.Gen.frame (F := Ideal) m ρ

/-- The reference declares no semaphore. -/
theorem frame_Reference15Ideal : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

theorem preserves15 : Cert.preserves_Kernel15_Kernel15Ideal := trivial

end

theorem algebraic15 : algebraic_Kernel15Ideal_Reference15Ideal (hKernel15Ideal := Cert.Kernel15Ideal.Gen.facts)
    (hReference15Ideal := Cert.Reference15Ideal.Gen.facts) := by
  intro m g m' g' hpre hm
  refine ⟨fun c => (Cert.Kernel15Ideal.Gen.dats m 0 c).arrAt 2 Cert.Kernel15Ideal.cfg0.N, Cert.Kernel15Ideal.Value.run_blocks m g,
    (θ_run (Cert.Reference15Ideal.defs (F := Ideal)) _ _).mono (fun r h c => ⟨?_, (h c).2⟩) (Cert.Reference15Ideal.Value.run m' g')⟩
  refine (h c).1.trans ?_
  obtain ⟨m0, m1, m2⟩ := hm c
  funext j
  obtain ⟨x, y, rfl⟩ : ∃ (x : Fin 8192) (y : Fin 1024), j = ix2 x y := ⟨j 0, j 1, eq_ix2 j⟩
  refine Eq.trans ?_ (Cert.BranchLeftHalf.value_at m c x y).symm
  rw [m2, m1]
  pointwise
  try rfl

end Cert.Proof

end
-- ==== Proof.BranchRight.lean ====
/-
  The gradient of the weights of a branch: a product summed over four blocks of rows.
-/
module

public import proofs.«01_k».proof.Defs
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Products
import Idealize.ShloMosaic.Lib.StableHlo.ReadAt

@[expose] public section

set_option maxRecDepth 16384

noncomputable section

namespace Cert.BranchRight

open Idealize.ShloMosaic Idealize.ShloMosaic.TcCoe Idealize.SL.Sem Cert.Kernel16Ideal Cert.Kernel16Ideal.Gen Cert.Products

theorem first (c : Dev nD) (t : Fin cfg0.N) (h0 : cond0_0 (grid0.coords t)) (h1 : ¬cond0_1 (grid0.coords t)) (x0 : Vec Ideal S2048x1024 .bf16) (x1 : Vec Ideal S2048x1024 .bf16) :
    out0_A_2 (F := Ideal) c (grid0.coords t) (ms0_0 t) (hs0_0 t) (ms0_1 t) (hs0_1 t) (ms0_2 t) (hs0_2 t) h0 h1 x0 x1 = k0_pay1 x0 x1 := by
  unfold out0_A_2 kernelRun0_A
  dsimp only
  sl_unfold_run_names
  refine (View.read_writes_full _ _ _ _ _).trans ?_
  rw [View.readAt_full, View.readAt_full, (hs0_0 t).read_unread, (hs0_1 t).read_unread]

theorem next (c : Dev nD) (t : Fin cfg0.N) (h0 : ¬cond0_0 (grid0.coords t)) (h1 : cond0_1 (grid0.coords t)) (x0 : Vec Ideal S2048x1024 .bf16) (x1 : Vec Ideal S2048x1024 .bf16) (xo : Vec Ideal S1024x1024 .f32) :
    out0_B_2 (F := Ideal) c (grid0.coords t) (ms0_0 t) (hs0_0 t) (ms0_1 t) (hs0_1 t) (ms0_2 t) (hs0_2 t) h0 h1 x0 x1 xo = k0_pay2 x0 x1 xo := by
  unfold out0_B_2 kernelRun0_B
  dsimp only
  sl_unfold_run_names
  refine (View.read_writes_full _ _ _ _ _).trans ?_
  rw [View.readAt_full, View.readAt_full, View.readAt_full, (hs0_0 t).read_unread, (hs0_1 t).read_unread, (hs0_2 t).read_unread]

theorem pay1_at (x0 : Vec Ideal S2048x1024 .bf16) (x1 : Vec Ideal S2048x1024 .bf16) (x : Fin 1024) (y : Fin 1024) :
    (k0_pay1 x0 x1 : FVec Ideal S1024x1024 .f32) (ix2 x y) = ∑ k : Fin 2048, x0 (ix2 k x) * x1 (ix2 k y) := by
  unfold k0_pay1
  pointwise
  try simp

theorem pay2_at (x0 : Vec Ideal S2048x1024 .bf16) (x1 : Vec Ideal S2048x1024 .bf16) (xo : Vec Ideal S1024x1024 .f32) (x : Fin 1024) (y : Fin 1024) :
    (k0_pay2 x0 x1 xo : FVec Ideal S1024x1024 .f32) (ix2 x y) = xo (ix2 x y) + ∑ k : Fin 2048, x0 (ix2 k x) * x1 (ix2 k y) := by
  rw [← pay1_at]
  unfold k0_pay2
  pointwise

variable (m : (ℓ : Loc nD τ sig) → Buf (Elt Ideal) ℓ) (c : Dev nD)

theorem index_at : ∀ t : Fin cfg0.N, win0_0.index t = ![t.val % 4, t.val / 4] ∧ win0_1.index t = ![t.val % 4, 0] ∧ win0_2.index t = ![t.val / 4, 0] :=
  (by decide +kernel : ∀ t : Fin grid0.N, _)

theorem disjoint2 : ∀ t t' : Fin cfg0.N, (cfg0.win 2).flush t = true → (cfg0.win 2).flush t' = true → t ≠ t' →
    Disjoint ((cfg0.win 2).blk t).view.set ((cfg0.win 2).blk t').view.set := by
  intro t t' hf hf' hne
  refine (cfg0.win 2).disjoint_blk fun h => hne ?_
  have e : win0_2.index t = win0_2.index t' := h
  rw [(index_at t).2.2, (index_at t').2.2] at e
  have e0 : t.val / 4 = t'.val / 4 := congrFun e 0
  have r := (flush0_2 t).1 hf
  have r' := (flush0_2 t').1 hf'
  exact Fin.ext (by omega)

/-- The two factors as the call takes them. -/
abbrev A : FVec Ideal S8192x1024 .bf16 := V m c main_v0
abbrev B : FVec Ideal S8192x1024 .bf16 := V m c main_v1

/-- The blocks of a grid step. -/
def bA (t : Fin cfg0.N) : FVec Ideal S2048x1024 .bf16 := iblk m c 0 t
def bB (t : Fin cfg0.N) : FVec Ideal S2048x1024 .bf16 := iblk m c 1 t

/-- What a grid step adds. -/
def part (x y : ℕ) (n : ℕ) (k : Fin 2048) : EReal :=
  if h : x < 1024 ∧ y < 1024 ∧ 2048 * n + k.val < 8192 then A m c (ix2 ⟨2048 * n + k.val, h.2.2⟩ ⟨x, h.1⟩) * B m c (ix2 ⟨2048 * n + k.val, h.2.2⟩ ⟨y, h.2.1⟩) else 0

theorem part_at (t : Fin cfg0.N) (x : Fin 1024) (y : Fin 1024) (k : Fin 2048) :
    bA m c t (ix2 k x) * bB m c t (ix2 k y)
      = part m c (1024 * (t.val / 4) + x.val) (y.val) (t.val % 4) k := by
  have hN : cfg0.N = 4 := N_0
  have ht := t.isLt
  have e0 : t.val / 4 < 1 := by omega
  unfold part
  rw [dif_pos ⟨by omega, by omega, by omega⟩]
  refine congrArg₂ (· * ·) ?_ ?_
  · unfold bA
    blk_ext [iblk, index_at t]
  · unfold bB
    blk_ext [iblk, index_at t]

theorem outs_at (q j : ℕ) (hj : j < 4) (h : 4 * q + j < cfg0.N) (x : Fin 1024) (y : Fin 1024) :
    (outsAt0 m c (4 * q + j) h : Vec Ideal S1024x1024 .f32) (ix2 x y) = ∑ s ∈ Finset.range (j + 1), ∑ k, part m c (1024 * q + x.val) (y.val) s k := by
  refine (run_sum (J := 4) (fun n h => (outsAt0 m c n h : Vec Ideal S1024x1024 .f32) (ix2 x y))
    (fun n => ∑ k, part m c (1024 * (n / 4) + x.val) (y.val) (n % 4) k) ?_ ?_ q j hj h).trans ?_
  · intro n h h0
    have h1 : ¬ 1 ≤ n := by have h4 : n < 4 := h; omega
    refine (congrFun ((outsAt0_A m c ⟨n, h⟩ h0 h1).trans (first c ⟨n, h⟩ _ _ _ _)) (ix2 x y)).trans ?_
    rw [pay1_at]
    exact Finset.sum_congr rfl fun k _ => part_at m c ⟨n, h⟩ x y k
  · intro n h h0
    have h1 : 1 ≤ n := by have h4 : n < 4 := h; omega
    refine (congrFun ((outsAt0_B m c ⟨n, h⟩ h0 h1).trans (next c ⟨n, h⟩ _ _ _ _ _)) (ix2 x y)).trans ?_
    rw [pay2_at]
    exact congrArg (_ + ·) (Finset.sum_congr rfl fun k _ => part_at m c ⟨n, h⟩ x y k)
  · refine Finset.sum_congr rfl fun s hs => ?_
    have hs' := Finset.mem_range.1 hs
    rw [show (4 * q + s) / 4 = q by omega, show (4 * q + s) % 4 = s by omega]

/-- The result of the call, at an index. -/
theorem result_at (r : Fin 1024) (y : Fin 1024) :
    ((dats m 0 c).arrAt 2 cfg0.N : Vec Ideal S1024x1024 .f32) (ix2 r y) = ∑ k : Fin 8192, A m c (ix2 k r) * B m c (ix2 k y) := by
  have hN : cfg0.N = 4 := N_0
  have hr : 4 * (r.val / 1024) + 3 < cfg0.N := by omega
  have hf : (cfg0.win 2).flush ⟨4 * (r.val / 1024) + 3, hr⟩ = true := (flush0_2 _).2 (by show (4 * (r.val / 1024) + 3) % 4 = 3; omega)
  have e := congrFun ((dats m 0 c).read_blk_arrAt_eq_flushed 2 disjoint2 cfg0.N _ hr hf) (ix2 ⟨r.val % 1024, by omega⟩ y)
  have h0 : (4 * (r.val / 1024) + 3) / 4 = r.val / 1024 := by omega
  have hd : 1024 * (r.val / 1024) + r.val % 1024 = r.val := by omega
  have e1 : ((cfg0.win 2).blk ⟨4 * (r.val / 1024) + 3, hr⟩).view.read (Elt Ideal) ((dats m 0 c).arrAt 2 cfg0.N) (ix2 ⟨r.val % 1024, by omega⟩ y)
      = ((dats m 0 c).arrAt 2 cfg0.N : Vec Ideal S1024x1024 .f32) (ix2 r y) := by
    blk_ext [index_at ⟨4 * (r.val / 1024) + 3, hr⟩, h0, hd]
  rw [e1] at e
  refine e.trans ?_
  rw [Value.flushed2]
  refine (outs_at m c (r.val / 1024) 3 (by omega) hr ⟨r.val % 1024, by omega⟩ y).trans ?_
  refine sum_axis 4 2048 8192 rfl _ _ fun s k h hs => ?_
  unfold part
  dsimp only
  simp only [hd]
  exact dif_pos ⟨r.isLt, y.isLt, h⟩

/-- The two factors as the arguments give them. -/
abbrev inA : FVec Ideal S8192x1024 .f32 := m ((c.tc : Thread nD τ).loc main_arg0)
abbrev inB : FVec Ideal S8192x1024 .f32 := m ((c.tc : Thread nD τ).loc main_arg2)

theorem A_at (r : Fin 8192) (k : Fin 1024) : A m c (ix2 r k) = inA m c (ix2 r k) := by
  unfold A V
  after_reads_simp
  pointwise

theorem B_at (r : Fin 8192) (k : Fin 1024) : B m c (ix2 r k) = inB m c (ix2 r k) := by
  unfold B V
  after_reads_simp
  pointwise

theorem value_at (r : Fin 1024) (y : Fin 1024) :
    @Eq EReal (((dats m 0 c).arrAt 2 cfg0.N : Vec Ideal S1024x1024 .f32) (ix2 r y))
      (∑ k : Fin 8192, inA m c (ix2 k r) * inB m c (ix2 k y)) := by
  rw [result_at]
  exact Finset.sum_congr rfl fun k _ => by rw [A_at, B_at]

end Cert.BranchRight

namespace Cert.Proof

open Idealize.ShloMosaic Idealize.SL.Sem

section

attribute [local instance] Cert.Kernel16.Gen.facts Cert.Kernel16Ideal.Gen.facts Cert.Reference16Ideal.Gen.facts

theorem frame_Kernel16 : Cert.quiescent_Kernel16 := fun m ρ _ => Cert.Kernel16.Gen.frame (F := Bits) m ρ

theorem frame_Kernel16Ideal : Cert.quiescent_Kernel16Ideal := fun m ρ _ => Cert.Kernel16Ideal.Gen.frame (F := Ideal) m ρ

/-- The reference declares no semaphore. -/
theorem frame_Reference16Ideal : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

theorem preserves16 : Cert.preserves_Kernel16_Kernel16Ideal := trivial

end

theorem algebraic16 : algebraic_Kernel16Ideal_Reference16Ideal (hKernel16Ideal := Cert.Kernel16Ideal.Gen.facts)
    (hReference16Ideal := Cert.Reference16Ideal.Gen.facts) := by
  intro m g m' g' hpre hm
  refine ⟨fun c => (Cert.Kernel16Ideal.Gen.dats m 0 c).arrAt 2 Cert.Kernel16Ideal.cfg0.N, Cert.Kernel16Ideal.Value.run_blocks m g,
    (θ_run (Cert.Reference16Ideal.defs (F := Ideal)) _ _).mono (fun r h c => ⟨?_, (h c).2⟩) (Cert.Reference16Ideal.Value.run m' g')⟩
  refine (h c).1.trans ?_
  obtain ⟨m0, m1, m2⟩ := hm c
  funext j
  obtain ⟨x, y, rfl⟩ : ∃ (x : Fin 1024) (y : Fin 1024), j = ix2 x y := ⟨j 0, j 1, eq_ix2 j⟩
  refine Eq.trans ?_ (Cert.BranchRight.value_at m c x y).symm
  rw [m0, m2]
  pointwise
  exact Finset.sum_congr rfl fun k _ => mul_comm _ _

end Cert.Proof

end
-- ==== Proof.AdamIn.lean ====
/-
  The AdamW step of the input weights: three results, element by element.
-/
module

public import proofs.«01_k».proof.Defs
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
import Idealize.ShloMosaic.Lib.StableHlo.ReadAt
public import Idealize.ShloMosaic.Lib.Pipeline.ValueKit

@[expose] public section

set_option maxRecDepth 16384

noncomputable section

namespace Cert.AdamIn

open Idealize.ShloMosaic Idealize.ShloMosaic.TcCoe Idealize.SL.Sem Cert.Kernel17Ideal Cert.Kernel17Ideal.Gen

/-- A constant of the step, by its bits. -/
abbrev lit (b : BitVec 32) : EReal := (Scalar.ofBits .f32 b : Ideal .f32)

/-- The first moment after the step, of the gradient `g` and the moment `m`. -/
def first (g m : EReal) : EReal := lit 0x3F666666#32 * m + lit 0x3DCCCCCD#32 * g

/-- The second moment after the step, of the gradient `g` and the moment `v`. -/
def second (g v : EReal) : EReal := lit 0x3F7FBE77#32 * v + lit 0x3A83126F#32 * (g * g)

/-- The change of the weight `w`. -/
def change (w g m v : EReal) : EReal :=
  lit 0xBA83126F#32 * (Ideal.div (Ideal.div (first g m) (lit 0x3F26BD02#32)) (Ideal.sqrt (Ideal.div (second g v) (lit 0x3C231ACC#32)) + lit 0x322BCC77#32)
    + lit 0x3C23D70A#32 * w)

theorem pay1_at (x1 x2 : Vec Ideal S128x2308 .f32) (p : Fin 128) (l : Fin 2308) :
    (k0_pay1 x1 x2 : FVec Ideal S128x2308 .f32) (ix2 p l) = first (x1 (ix2 p l)) (x2 (ix2 p l)) := by
  unfold k0_pay1 first
  pointwise

theorem pay2_at (x1 x3 : Vec Ideal S128x2308 .f32) (p : Fin 128) (l : Fin 2308) :
    (k0_pay2 x1 x3 : FVec Ideal S128x2308 .f32) (ix2 p l) = second (x1 (ix2 p l)) (x3 (ix2 p l)) := by
  unfold k0_pay2 second
  pointwise

theorem pay3_at (x0 x1 x2 x3 : Vec Ideal S128x2308 .f32) (p : Fin 128) (l : Fin 2308) :
    (k0_pay3 x0 x1 x2 x3 : FVec Ideal S128x2308 .f32) (ix2 p l) = change (x0 (ix2 p l)) (x1 (ix2 p l)) (x2 (ix2 p l)) (x3 (ix2 p l)) := by
  unfold k0_pay3 change
  pointwise
  rw [pay1_at, pay2_at]

theorem index_at : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

variable (m : (ℓ : Loc nD τ sig) → Buf (Elt Ideal) ℓ) (c : Dev nD)

/-- The arguments: the weight, its gradient and the two moments. -/
abbrev in0 : FVec Ideal S1024x2308 .f32 := m ((c.tc : Thread nD τ).loc main_arg0)
abbrev in1 : FVec Ideal S1024x2308 .f32 := m ((c.tc : Thread nD τ).loc main_arg1)
abbrev in2 : FVec Ideal S1024x2308 .f32 := m ((c.tc : Thread nD τ).loc main_arg2)
abbrev in3 : FVec Ideal S1024x2308 .f32 := m ((c.tc : Thread nD τ).loc main_arg3)

/-- The blocks of a grid step. -/
def b0 (t : Fin cfg0.N) : FVec Ideal S128x2308 .f32 := iblk m c 0 t
def b1 (t : Fin cfg0.N) : FVec Ideal S128x2308 .f32 := iblk m c 1 t
def b2 (t : Fin cfg0.N) : FVec Ideal S128x2308 .f32 := iblk m c 2 t
def b3 (t : Fin cfg0.N) : FVec Ideal S128x2308 .f32 := iblk m c 3 t

variable (r : Fin 1024) (l : Fin 2308)

section

variable (t : Fin cfg0.N) (p : Fin 128) (h : 128 * t.val + p.val = r.val)

include h

theorem b0_at : b0 m c t (ix2 p l) = in0 m c (ix2 r l) := by
  refine Eq.trans ?_ (congrFun (V_main_arg0 m c) _)
  unfold b0
  blk_ext [iblk, index_at t, h]

theorem b1_at : b1 m c t (ix2 p l) = in1 m c (ix2 r l) := by
  refine Eq.trans ?_ (congrFun (V_main_arg1 m c) _)
  unfold b1
  blk_ext [iblk, index_at t, h]

theorem b2_at : b2 m c t (ix2 p l) = in2 m c (ix2 r l) := by
  refine Eq.trans ?_ (congrFun (V_main_arg2 m c) _)
  unfold b2
  blk_ext [iblk, index_at t, h]

theorem b3_at : b3 m c t (ix2 p l) = in3 m c (ix2 r l) := by
  refine Eq.trans ?_ (congrFun (V_main_arg3 m c) _)
  unfold b3
  blk_ext [iblk, index_at t, h]

end

theorem value4_at : @Eq EReal (((dats m 0 c).arrAt 4 cfg0.N : Vec Ideal S1024x2308 .f32) (ix2 r l))
    (change (in0 m c (ix2 r l)) (in1 m c (ix2 r l)) (in2 m c (ix2 r l)) (in3 m c (ix2 r l))) := by
  have hN : cfg0.N = 8 := N_0
  have hr : r.val / 128 < cfg0.N := by omega
  have hd : 128 * (r.val / 128) + r.val % 128 = r.val := by omega
  have e := congrFun (Value.blocks4 m c ⟨r.val / 128, hr⟩ (flush0_4 _)) (ix2 ⟨r.val % 128, by omega⟩ l)
  have e1 : ((cfg0.win 4).blk ⟨r.val / 128, hr⟩).view.read (Elt Ideal) ((dats m 0 c).arrAt 4 cfg0.N) (ix2 ⟨r.val % 128, by omega⟩ l)
      = ((dats m 0 c).arrAt 4 cfg0.N : Vec Ideal S1024x2308 .f32) (ix2 r l) := by
    blk_ext [index_at ⟨r.val / 128, hr⟩, hd]
  rw [e1] at e
  refine e.trans ?_
  rw [Value.flushed4]
  show (out0_4 (F := Ideal) (b0 m c ⟨r.val / 128, hr⟩) (b1 m c ⟨r.val / 128, hr⟩) (b2 m c ⟨r.val / 128, hr⟩) (b3 m c ⟨r.val / 128, hr⟩) : Vec Ideal S128x2308 .f32) (ix2 ⟨r.val % 128, by omega⟩ l) = _
  unfold out0_4
  rw [View.canon_unit_zero (by decide), View.ld_unit_zero (by decide), View.ld_unit_zero (by decide), View.ld_unit_zero (by decide), View.ld_unit_zero (by decide), pay3_at]
  rw [b0_at m c r l _ _ hd, b1_at m c r l _ _ hd, b2_at m c r l _ _ hd, b3_at m c r l _ _ hd]

theorem value5_at : @Eq EReal (((dats m 0 c).arrAt 5 cfg0.N : Vec Ideal S1024x2308 .f32) (ix2 r l))
    (first (in1 m c (ix2 r l)) (in2 m c (ix2 r l))) := by
  have hN : cfg0.N = 8 := N_0
  have hr : r.val / 128 < cfg0.N := by omega
  have hd : 128 * (r.val / 128) + r.val % 128 = r.val := by omega
  have e := congrFun (Value.blocks5 m c ⟨r.val / 128, hr⟩ (flush0_5 _)) (ix2 ⟨r.val % 128, by omega⟩ l)
  have e1 : ((cfg0.win 5).blk ⟨r.val / 128, hr⟩).view.read (Elt Ideal) ((dats m 0 c).arrAt 5 cfg0.N) (ix2 ⟨r.val % 128, by omega⟩ l)
      = ((dats m 0 c).arrAt 5 cfg0.N : Vec Ideal S1024x2308 .f32) (ix2 r l) := by
    blk_ext [index_at ⟨r.val / 128, hr⟩, hd]
  rw [e1] at e
  refine e.trans ?_
  rw [Value.flushed5]
  show (out0_5 (F := Ideal) (b0 m c ⟨r.val / 128, hr⟩) (b1 m c ⟨r.val / 128, hr⟩) (b2 m c ⟨r.val / 128, hr⟩) (b3 m c ⟨r.val / 128, hr⟩) : Vec Ideal S128x2308 .f32) (ix2 ⟨r.val % 128, by omega⟩ l) = _
  unfold out0_5
  rw [View.canon_unit_zero (by decide), View.ld_unit_zero (by decide), View.ld_unit_zero (by decide), pay1_at]
  rw [b1_at m c r l _ _ hd, b2_at m c r l _ _ hd]

theorem value6_at : @Eq EReal (((dats m 0 c).arrAt 6 cfg0.N : Vec Ideal S1024x2308 .f32) (ix2 r l))
    (second (in1 m c (ix2 r l)) (in3 m c (ix2 r l))) := by
  have hN : cfg0.N = 8 := N_0
  have hr : r.val / 128 < cfg0.N := by omega
  have hd : 128 * (r.val / 128) + r.val % 128 = r.val := by omega
  have e := congrFun (Value.blocks6 m c ⟨r.val / 128, hr⟩ (flush0_6 _)) (ix2 ⟨r.val % 128, by omega⟩ l)
  have e1 : ((cfg0.win 6).blk ⟨r.val / 128, hr⟩).view.read (Elt Ideal) ((dats m 0 c).arrAt 6 cfg0.N) (ix2 ⟨r.val % 128, by omega⟩ l)
      = ((dats m 0 c).arrAt 6 cfg0.N : Vec Ideal S1024x2308 .f32) (ix2 r l) := by
    blk_ext [index_at ⟨r.val / 128, hr⟩, hd]
  rw [e1] at e
  refine e.trans ?_
  rw [Value.flushed6]
  show (out0_6 (F := Ideal) (b0 m c ⟨r.val / 128, hr⟩) (b1 m c ⟨r.val / 128, hr⟩) (b2 m c ⟨r.val / 128, hr⟩) (b3 m c ⟨r.val / 128, hr⟩) : Vec Ideal S128x2308 .f32) (ix2 ⟨r.val % 128, by omega⟩ l) = _
  unfold out0_6
  rw [View.canon_unit_zero (by decide), View.ld_unit_zero (by decide), View.ld_unit_zero (by decide), pay2_at]
  rw [b1_at m c r l _ _ hd, b3_at m c r l _ _ hd]

end Cert.AdamIn

namespace Cert.Proof

open Idealize.ShloMosaic Idealize.SL.Sem

section

attribute [local instance] Cert.Kernel17.Gen.facts Cert.Kernel17Ideal.Gen.facts Cert.Reference17Ideal.Gen.facts

theorem frame_Kernel17 : Cert.quiescent_Kernel17 := fun m ρ _ => Cert.Kernel17.Gen.frame (F := Bits) m ρ

theorem frame_Kernel17Ideal : Cert.quiescent_Kernel17Ideal := fun m ρ _ => Cert.Kernel17Ideal.Gen.frame (F := Ideal) m ρ

/-- The reference declares no semaphore. -/
theorem frame_Reference17Ideal : Cert.quiescent_Reference17Ideal := fun m ρ _ =>
  (θ_run Cert.Reference17Ideal.defs _ _).mono (fun r h => ⟨fun c => (h c).2.2.2, sem_eq_zero_of_no_sems (by decide) r.2⟩)
    (Cert.Reference17Ideal.Value.run (F := Ideal) m ρ)

theorem preserves17 : Cert.preserves_Kernel17_Kernel17Ideal := trivial

end

theorem algebraic17 : algebraic_Kernel17Ideal_Reference17Ideal (hKernel17Ideal := Cert.Kernel17Ideal.Gen.facts)
    (hReference17Ideal := Cert.Reference17Ideal.Gen.facts) := by
  intro m g m' g' hpre hm
  refine ⟨fun c => (Cert.Kernel17Ideal.Gen.dats m 0 c).arrAt 4 Cert.Kernel17Ideal.cfg0.N, fun c => (Cert.Kernel17Ideal.Gen.dats m 0 c).arrAt 5 Cert.Kernel17Ideal.cfg0.N, fun c => (Cert.Kernel17Ideal.Gen.dats m 0 c).arrAt 6 Cert.Kernel17Ideal.cfg0.N,
    Cert.Kernel17Ideal.Value.run_blocks m g,
    (θ_run (Cert.Reference17Ideal.defs (F := Ideal)) _ _).mono (fun r h c => ⟨?_, ?_, ?_, (h c).2.2.2⟩) (Cert.Reference17Ideal.Value.run m' g')⟩
  · refine ((h c).1).trans ?_
    obtain ⟨m0, m1, m2, m3⟩ := hm c
    funext j
    obtain ⟨x, y, rfl⟩ : ∃ (x : Fin 1024) (y : Fin 2308), j = ix2 x y := ⟨j 0, j 1, eq_ix2 j⟩
    refine Eq.trans ?_ (Cert.AdamIn.value4_at m c x y).symm
    rw [m0, m1, m2, m3]
    unfold Cert.AdamIn.change Cert.AdamIn.first Cert.AdamIn.second
    pointwise
  · refine ((h c).2.1).trans ?_
    obtain ⟨m0, m1, m2, m3⟩ := hm c
    funext j
    obtain ⟨x, y, rfl⟩ : ∃ (x : Fin 1024) (y : Fin 2308), j = ix2 x y := ⟨j 0, j 1, eq_ix2 j⟩
    refine Eq.trans ?_ (Cert.AdamIn.value5_at m c x y).symm
    rw [m1, m2]
    unfold Cert.AdamIn.first
    pointwise
  · refine ((h c).2.2.1).trans ?_
    obtain ⟨m0, m1, m2, m3⟩ := hm c
    funext j
    obtain ⟨x, y, rfl⟩ : ∃ (x : Fin 1024) (y : Fin 2308), j = ix2 x y := ⟨j 0, j 1, eq_ix2 j⟩
    refine Eq.trans ?_ (Cert.AdamIn.value6_at m c x y).symm
    rw [m1, m3]
    unfold Cert.AdamIn.second
    pointwise

end Cert.Proof

end
-- ==== Proof.AdamSquare.lean ====
/-
  The AdamW step of a square weight: three results, element by element.
-/
module

public import proofs.«01_k».proof.Defs
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
import Idealize.ShloMosaic.Lib.StableHlo.ReadAt
public import Idealize.ShloMosaic.Lib.Pipeline.ValueKit

@[expose] public section

set_option maxRecDepth 16384

noncomputable section

namespace Cert.AdamSquare

open Idealize.ShloMosaic Idealize.ShloMosaic.TcCoe Idealize.SL.Sem Cert.Kernel18Ideal Cert.Kernel18Ideal.Gen

/-- A constant of the step, by its bits. -/
abbrev lit (b : BitVec 32) : EReal := (Scalar.ofBits .f32 b : Ideal .f32)

/-- The first moment after the step, of the gradient `g` and the moment `m`. -/
def first (g m : EReal) : EReal := lit 0x3F666666#32 * m + lit 0x3DCCCCCD#32 * g

/-- The second moment after the step, of the gradient `g` and the moment `v`. -/
def second (g v : EReal) : EReal := lit 0x3F7FBE77#32 * v + lit 0x3A83126F#32 * (g * g)

/-- The change of the weight `w`. -/
def change (w g m v : EReal) : EReal :=
  lit 0xBA83126F#32 * (Ideal.div (Ideal.div (first g m) (lit 0x3F26BD02#32)) (Ideal.sqrt (Ideal.div (second g v) (lit 0x3C231ACC#32)) + lit 0x322BCC77#32)
    + lit 0x3C23D70A#32 * w)

theorem pay1_at (x1 x2 : Vec Ideal S32x1024 .f32) (p : Fin 32) (l : Fin 1024) :
    (k0_pay1 x1 x2 : FVec Ideal S32x1024 .f32) (ix2 p l) = first (x1 (ix2 p l)) (x2 (ix2 p l)) := by
  unfold k0_pay1 first
  pointwise

theorem pay2_at (x1 x3 : Vec Ideal S32x1024 .f32) (p : Fin 32) (l : Fin 1024) :
    (k0_pay2 x1 x3 : FVec Ideal S32x1024 .f32) (ix2 p l) = second (x1 (ix2 p l)) (x3 (ix2 p l)) := by
  unfold k0_pay2 second
  pointwise

theorem pay3_at (x0 x1 x2 x3 : Vec Ideal S32x1024 .f32) (p : Fin 32) (l : Fin 1024) :
    (k0_pay3 x0 x1 x2 x3 : FVec Ideal S32x1024 .f32) (ix2 p l) = change (x0 (ix2 p l)) (x1 (ix2 p l)) (x2 (ix2 p l)) (x3 (ix2 p l)) := by
  unfold k0_pay3 change
  pointwise
  rw [pay1_at, pay2_at]

theorem index_at : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

variable (m : (ℓ : Loc nD τ sig) → Buf (Elt Ideal) ℓ) (c : Dev nD)

/-- The arguments: the weight, its gradient and the two moments. -/
abbrev in0 : FVec Ideal S256x1024 .f32 := m ((c.tc : Thread nD τ).loc main_arg0)
abbrev in1 : FVec Ideal S256x1024 .f32 := m ((c.tc : Thread nD τ).loc main_arg1)
abbrev in2 : FVec Ideal S256x1024 .f32 := m ((c.tc : Thread nD τ).loc main_arg2)
abbrev in3 : FVec Ideal S256x1024 .f32 := m ((c.tc : Thread nD τ).loc main_arg3)

/-- The blocks of a grid step. -/
def b0 (t : Fin cfg0.N) : FVec Ideal S32x1024 .f32 := iblk m c 0 t
def b1 (t : Fin cfg0.N) : FVec Ideal S32x1024 .f32 := iblk m c 1 t
def b2 (t : Fin cfg0.N) : FVec Ideal S32x1024 .f32 := iblk m c 2 t
def b3 (t : Fin cfg0.N) : FVec Ideal S32x1024 .f32 := iblk m c 3 t

variable (r : Fin 256) (l : Fin 1024)

section

variable (t : Fin cfg0.N) (p : Fin 32) (h : 32 * t.val + p.val = r.val)

include h

theorem b0_at : b0 m c t (ix2 p l) = in0 m c (ix2 r l) := by
  refine Eq.trans ?_ (congrFun (V_main_arg0 m c) _)
  unfold b0
  blk_ext [iblk, index_at t, h]

theorem b1_at : b1 m c t (ix2 p l) = in1 m c (ix2 r l) := by
  refine Eq.trans ?_ (congrFun (V_main_arg1 m c) _)
  unfold b1
  blk_ext [iblk, index_at t, h]

theorem b2_at : b2 m c t (ix2 p l) = in2 m c (ix2 r l) := by
  refine Eq.trans ?_ (congrFun (V_main_arg2 m c) _)
  unfold b2
  blk_ext [iblk, index_at t, h]

theorem b3_at : b3 m c t (ix2 p l) = in3 m c (ix2 r l) := by
  refine Eq.trans ?_ (congrFun (V_main_arg3 m c) _)
  unfold b3
  blk_ext [iblk, index_at t, h]

end

theorem value4_at : @Eq EReal (((dats m 0 c).arrAt 4 cfg0.N : Vec Ideal S256x1024 .f32) (ix2 r l))
    (change (in0 m c (ix2 r l)) (in1 m c (ix2 r l)) (in2 m c (ix2 r l)) (in3 m c (ix2 r l))) := by
  have hN : cfg0.N = 8 := N_0
  have hr : r.val / 32 < cfg0.N := by omega
  have hd : 32 * (r.val / 32) + r.val % 32 = r.val := by omega
  have e := congrFun (Value.blocks4 m c ⟨r.val / 32, hr⟩ (flush0_4 _)) (ix2 ⟨r.val % 32, by omega⟩ l)
  have e1 : ((cfg0.win 4).blk ⟨r.val / 32, hr⟩).view.read (Elt Ideal) ((dats m 0 c).arrAt 4 cfg0.N) (ix2 ⟨r.val % 32, by omega⟩ l)
      = ((dats m 0 c).arrAt 4 cfg0.N : Vec Ideal S256x1024 .f32) (ix2 r l) := by
    blk_ext [index_at ⟨r.val / 32, hr⟩, hd]
  rw [e1] at e
  refine e.trans ?_
  rw [Value.flushed4]
  show (out0_4 (F := Ideal) (b0 m c ⟨r.val / 32, hr⟩) (b1 m c ⟨r.val / 32, hr⟩) (b2 m c ⟨r.val / 32, hr⟩) (b3 m c ⟨r.val / 32, hr⟩) : Vec Ideal S32x1024 .f32) (ix2 ⟨r.val % 32, by omega⟩ l) = _
  unfold out0_4
  rw [View.canon_unit_zero (by decide), View.ld_unit_zero (by decide), View.ld_unit_zero (by decide), View.ld_unit_zero (by decide), View.ld_unit_zero (by decide), pay3_at]
  rw [b0_at m c r l _ _ hd, b1_at m c r l _ _ hd, b2_at m c r l _ _ hd, b3_at m c r l _ _ hd]

theorem value5_at : @Eq EReal (((dats m 0 c).arrAt 5 cfg0.N : Vec Ideal S256x1024 .f32) (ix2 r l))
    (first (in1 m c (ix2 r l)) (in2 m c (ix2 r l))) := by
  have hN : cfg0.N = 8 := N_0
  have hr : r.val / 32 < cfg0.N := by omega
  have hd : 32 * (r.val / 32) + r.val % 32 = r.val := by omega
  have e := congrFun (Value.blocks5 m c ⟨r.val / 32, hr⟩ (flush0_5 _)) (ix2 ⟨r.val % 32, by omega⟩ l)
  have e1 : ((cfg0.win 5).blk ⟨r.val / 32, hr⟩).view.read (Elt Ideal) ((dats m 0 c).arrAt 5 cfg0.N) (ix2 ⟨r.val % 32, by omega⟩ l)
      = ((dats m 0 c).arrAt 5 cfg0.N : Vec Ideal S256x1024 .f32) (ix2 r l) := by
    blk_ext [index_at ⟨r.val / 32, hr⟩, hd]
  rw [e1] at e
  refine e.trans ?_
  rw [Value.flushed5]
  show (out0_5 (F := Ideal) (b0 m c ⟨r.val / 32, hr⟩) (b1 m c ⟨r.val / 32, hr⟩) (b2 m c ⟨r.val / 32, hr⟩) (b3 m c ⟨r.val / 32, hr⟩) : Vec Ideal S32x1024 .f32) (ix2 ⟨r.val % 32, by omega⟩ l) = _
  unfold out0_5
  rw [View.canon_unit_zero (by decide), View.ld_unit_zero (by decide), View.ld_unit_zero (by decide), pay1_at]
  rw [b1_at m c r l _ _ hd, b2_at m c r l _ _ hd]

theorem value6_at : @Eq EReal (((dats m 0 c).arrAt 6 cfg0.N : Vec Ideal S256x1024 .f32) (ix2 r l))
    (second (in1 m c (ix2 r l)) (in3 m c (ix2 r l))) := by
  have hN : cfg0.N = 8 := N_0
  have hr : r.val / 32 < cfg0.N := by omega
  have hd : 32 * (r.val / 32) + r.val % 32 = r.val := by omega
  have e := congrFun (Value.blocks6 m c ⟨r.val / 32, hr⟩ (flush0_6 _)) (ix2 ⟨r.val % 32, by omega⟩ l)
  have e1 : ((cfg0.win 6).blk ⟨r.val / 32, hr⟩).view.read (Elt Ideal) ((dats m 0 c).arrAt 6 cfg0.N) (ix2 ⟨r.val % 32, by omega⟩ l)
      = ((dats m 0 c).arrAt 6 cfg0.N : Vec Ideal S256x1024 .f32) (ix2 r l) := by
    blk_ext [index_at ⟨r.val / 32, hr⟩, hd]
  rw [e1] at e
  refine e.trans ?_
  rw [Value.flushed6]
  show (out0_6 (F := Ideal) (b0 m c ⟨r.val / 32, hr⟩) (b1 m c ⟨r.val / 32, hr⟩) (b2 m c ⟨r.val / 32, hr⟩) (b3 m c ⟨r.val / 32, hr⟩) : Vec Ideal S32x1024 .f32) (ix2 ⟨r.val % 32, by omega⟩ l) = _
  unfold out0_6
  rw [View.canon_unit_zero (by decide), View.ld_unit_zero (by decide), View.ld_unit_zero (by decide), pay2_at]
  rw [b1_at m c r l _ _ hd, b3_at m c r l _ _ hd]

end Cert.AdamSquare

namespace Cert.Proof

open Idealize.ShloMosaic Idealize.SL.Sem

section

attribute [local instance] Cert.Kernel18.Gen.facts Cert.Kernel18Ideal.Gen.facts Cert.Reference18Ideal.Gen.facts

theorem frame_Kernel18 : Cert.quiescent_Kernel18 := fun m ρ _ => Cert.Kernel18.Gen.frame (F := Bits) m ρ

theorem frame_Kernel18Ideal : Cert.quiescent_Kernel18Ideal := fun m ρ _ => Cert.Kernel18Ideal.Gen.frame (F := Ideal) m ρ

/-- The reference declares no semaphore. -/
theorem frame_Reference18Ideal : Cert.quiescent_Reference18Ideal := fun m ρ _ =>
  (θ_run Cert.Reference18Ideal.defs _ _).mono (fun r h => ⟨fun c => (h c).2.2.2, sem_eq_zero_of_no_sems (by decide) r.2⟩)
    (Cert.Reference18Ideal.Value.run (F := Ideal) m ρ)

theorem preserves18 : Cert.preserves_Kernel18_Kernel18Ideal := trivial

end

theorem algebraic18 : algebraic_Kernel18Ideal_Reference18Ideal (hKernel18Ideal := Cert.Kernel18Ideal.Gen.facts)
    (hReference18Ideal := Cert.Reference18Ideal.Gen.facts) := by
  intro m g m' g' hpre hm
  refine ⟨fun c => (Cert.Kernel18Ideal.Gen.dats m 0 c).arrAt 4 Cert.Kernel18Ideal.cfg0.N, fun c => (Cert.Kernel18Ideal.Gen.dats m 0 c).arrAt 5 Cert.Kernel18Ideal.cfg0.N, fun c => (Cert.Kernel18Ideal.Gen.dats m 0 c).arrAt 6 Cert.Kernel18Ideal.cfg0.N,
    Cert.Kernel18Ideal.Value.run_blocks m g,
    (θ_run (Cert.Reference18Ideal.defs (F := Ideal)) _ _).mono (fun r h c => ⟨?_, ?_, ?_, (h c).2.2.2⟩) (Cert.Reference18Ideal.Value.run m' g')⟩
  · refine ((h c).1).trans ?_
    obtain ⟨m0, m1, m2, m3⟩ := hm c
    funext j
    obtain ⟨x, y, rfl⟩ : ∃ (x : Fin 256) (y : Fin 1024), j = ix2 x y := ⟨j 0, j 1, eq_ix2 j⟩
    refine Eq.trans ?_ (Cert.AdamSquare.value4_at m c x y).symm
    rw [m0, m1, m2, m3]
    unfold Cert.AdamSquare.change Cert.AdamSquare.first Cert.AdamSquare.second
    pointwise
  · refine ((h c).2.1).trans ?_
    obtain ⟨m0, m1, m2, m3⟩ := hm c
    funext j
    obtain ⟨x, y, rfl⟩ : ∃ (x : Fin 256) (y : Fin 1024), j = ix2 x y := ⟨j 0, j 1, eq_ix2 j⟩
    refine Eq.trans ?_ (Cert.AdamSquare.value5_at m c x y).symm
    rw [m1, m2]
    unfold Cert.AdamSquare.first
    pointwise
  · refine ((h c).2.2.1).trans ?_
    obtain ⟨m0, m1, m2, m3⟩ := hm c
    funext j
    obtain ⟨x, y, rfl⟩ : ∃ (x : Fin 256) (y : Fin 1024), j = ix2 x y := ⟨j 0, j 1, eq_ix2 j⟩
    refine Eq.trans ?_ (Cert.AdamSquare.value6_at m c x y).symm
    rw [m1, m3]
    unfold Cert.AdamSquare.second
    pointwise

end Cert.Proof

end
-- ==== Proof.AdamUp.lean ====
/-
  The AdamW step of the up weights: three results, element by element.
-/
module

public import proofs.«01_k».proof.Defs
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
import Idealize.ShloMosaic.Lib.StableHlo.ReadAt
public import Idealize.ShloMosaic.Lib.Pipeline.ValueKit

@[expose] public section

set_option maxRecDepth 16384

noncomputable section

namespace Cert.AdamUp

open Idealize.ShloMosaic Idealize.ShloMosaic.TcCoe Idealize.SL.Sem Cert.Kernel19Ideal Cert.Kernel19Ideal.Gen

/-- A constant of the step, by its bits. -/
abbrev lit (b : BitVec 32) : EReal := (Scalar.ofBits .f32 b : Ideal .f32)

/-- The first moment after the step, of the gradient `g` and the moment `m`. -/
def first (g m : EReal) : EReal := lit 0x3F666666#32 * m + lit 0x3DCCCCCD#32 * g

/-- The second moment after the step, of the gradient `g` and the moment `v`. -/
def second (g v : EReal) : EReal := lit 0x3F7FBE77#32 * v + lit 0x3A83126F#32 * (g * g)

/-- The change of the weight `w`. -/
def change (w g m v : EReal) : EReal :=
  lit 0xBA83126F#32 * (Ideal.div (Ideal.div (first g m) (lit 0x3F26BD02#32)) (Ideal.sqrt (Ideal.div (second g v) (lit 0x3C231ACC#32)) + lit 0x322BCC77#32)
    + lit 0x3C23D70A#32 * w)

theorem pay1_at (x1 x2 : Vec Ideal S128x1408 .f32) (p : Fin 128) (l : Fin 1408) :
    (k0_pay1 x1 x2 : FVec Ideal S128x1408 .f32) (ix2 p l) = first (x1 (ix2 p l)) (x2 (ix2 p l)) := by
  unfold k0_pay1 first
  pointwise

theorem pay2_at (x1 x3 : Vec Ideal S128x1408 .f32) (p : Fin 128) (l : Fin 1408) :
    (k0_pay2 x1 x3 : FVec Ideal S128x1408 .f32) (ix2 p l) = second (x1 (ix2 p l)) (x3 (ix2 p l)) := by
  unfold k0_pay2 second
  pointwise

theorem pay3_at (x0 x1 x2 x3 : Vec Ideal S128x1408 .f32) (p : Fin 128) (l : Fin 1408) :
    (k0_pay3 x0 x1 x2 x3 : FVec Ideal S128x1408 .f32) (ix2 p l) = change (x0 (ix2 p l)) (x1 (ix2 p l)) (x2 (ix2 p l)) (x3 (ix2 p l)) := by
  unfold k0_pay3 change
  pointwise
  rw [pay1_at, pay2_at]

theorem index_at : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

variable (m : (ℓ : Loc nD τ sig) → Buf (Elt Ideal) ℓ) (c : Dev nD)

/-- The arguments: the weight, its gradient and the two moments. -/
abbrev in0 : FVec Ideal S1024x1408 .f32 := m ((c.tc : Thread nD τ).loc main_arg0)
abbrev in1 : FVec Ideal S1024x1408 .f32 := m ((c.tc : Thread nD τ).loc main_arg1)
abbrev in2 : FVec Ideal S1024x1408 .f32 := m ((c.tc : Thread nD τ).loc main_arg2)
abbrev in3 : FVec Ideal S1024x1408 .f32 := m ((c.tc : Thread nD τ).loc main_arg3)

/-- The blocks of a grid step. -/
def b0 (t : Fin cfg0.N) : FVec Ideal S128x1408 .f32 := iblk m c 0 t
def b1 (t : Fin cfg0.N) : FVec Ideal S128x1408 .f32 := iblk m c 1 t
def b2 (t : Fin cfg0.N) : FVec Ideal S128x1408 .f32 := iblk m c 2 t
def b3 (t : Fin cfg0.N) : FVec Ideal S128x1408 .f32 := iblk m c 3 t

variable (r : Fin 1024) (l : Fin 1408)

section

variable (t : Fin cfg0.N) (p : Fin 128) (h : 128 * t.val + p.val = r.val)

include h

theorem b0_at : b0 m c t (ix2 p l) = in0 m c (ix2 r l) := by
  refine Eq.trans ?_ (congrFun (V_main_arg0 m c) _)
  unfold b0
  blk_ext [iblk, index_at t, h]

theorem b1_at : b1 m c t (ix2 p l) = in1 m c (ix2 r l) := by
  refine Eq.trans ?_ (congrFun (V_main_arg1 m c) _)
  unfold b1
  blk_ext [iblk, index_at t, h]

theorem b2_at : b2 m c t (ix2 p l) = in2 m c (ix2 r l) := by
  refine Eq.trans ?_ (congrFun (V_main_arg2 m c) _)
  unfold b2
  blk_ext [iblk, index_at t, h]

theorem b3_at : b3 m c t (ix2 p l) = in3 m c (ix2 r l) := by
  refine Eq.trans ?_ (congrFun (V_main_arg3 m c) _)
  unfold b3
  blk_ext [iblk, index_at t, h]

end

theorem value4_at : @Eq EReal (((dats m 0 c).arrAt 4 cfg0.N : Vec Ideal S1024x1408 .f32) (ix2 r l))
    (change (in0 m c (ix2 r l)) (in1 m c (ix2 r l)) (in2 m c (ix2 r l)) (in3 m c (ix2 r l))) := by
  have hN : cfg0.N = 8 := N_0
  have hr : r.val / 128 < cfg0.N := by omega
  have hd : 128 * (r.val / 128) + r.val % 128 = r.val := by omega
  have e := congrFun (Value.blocks4 m c ⟨r.val / 128, hr⟩ (flush0_4 _)) (ix2 ⟨r.val % 128, by omega⟩ l)
  have e1 : ((cfg0.win 4).blk ⟨r.val / 128, hr⟩).view.read (Elt Ideal) ((dats m 0 c).arrAt 4 cfg0.N) (ix2 ⟨r.val % 128, by omega⟩ l)
      = ((dats m 0 c).arrAt 4 cfg0.N : Vec Ideal S1024x1408 .f32) (ix2 r l) := by
    blk_ext [index_at ⟨r.val / 128, hr⟩, hd]
  rw [e1] at e
  refine e.trans ?_
  rw [Value.flushed4]
  show (out0_4 (F := Ideal) (b0 m c ⟨r.val / 128, hr⟩) (b1 m c ⟨r.val / 128, hr⟩) (b2 m c ⟨r.val / 128, hr⟩) (b3 m c ⟨r.val / 128, hr⟩) : Vec Ideal S128x1408 .f32) (ix2 ⟨r.val % 128, by omega⟩ l) = _
  unfold out0_4
  rw [View.canon_unit_zero (by decide), View.ld_unit_zero (by decide), View.ld_unit_zero (by decide), View.ld_unit_zero (by decide), View.ld_unit_zero (by decide), pay3_at]
  rw [b0_at m c r l _ _ hd, b1_at m c r l _ _ hd, b2_at m c r l _ _ hd, b3_at m c r l _ _ hd]

theorem value5_at : @Eq EReal (((dats m 0 c).arrAt 5 cfg0.N : Vec Ideal S1024x1408 .f32) (ix2 r l))
    (first (in1 m c (ix2 r l)) (in2 m c (ix2 r l))) := by
  have hN : cfg0.N = 8 := N_0
  have hr : r.val / 128 < cfg0.N := by omega
  have hd : 128 * (r.val / 128) + r.val % 128 = r.val := by omega
  have e := congrFun (Value.blocks5 m c ⟨r.val / 128, hr⟩ (flush0_5 _)) (ix2 ⟨r.val % 128, by omega⟩ l)
  have e1 : ((cfg0.win 5).blk ⟨r.val / 128, hr⟩).view.read (Elt Ideal) ((dats m 0 c).arrAt 5 cfg0.N) (ix2 ⟨r.val % 128, by omega⟩ l)
      = ((dats m 0 c).arrAt 5 cfg0.N : Vec Ideal S1024x1408 .f32) (ix2 r l) := by
    blk_ext [index_at ⟨r.val / 128, hr⟩, hd]
  rw [e1] at e
  refine e.trans ?_
  rw [Value.flushed5]
  show (out0_5 (F := Ideal) (b0 m c ⟨r.val / 128, hr⟩) (b1 m c ⟨r.val / 128, hr⟩) (b2 m c ⟨r.val / 128, hr⟩) (b3 m c ⟨r.val / 128, hr⟩) : Vec Ideal S128x1408 .f32) (ix2 ⟨r.val % 128, by omega⟩ l) = _
  unfold out0_5
  rw [View.canon_unit_zero (by decide), View.ld_unit_zero (by decide), View.ld_unit_zero (by decide), pay1_at]
  rw [b1_at m c r l _ _ hd, b2_at m c r l _ _ hd]

theorem value6_at : @Eq EReal (((dats m 0 c).arrAt 6 cfg0.N : Vec Ideal S1024x1408 .f32) (ix2 r l))
    (second (in1 m c (ix2 r l)) (in3 m c (ix2 r l))) := by
  have hN : cfg0.N = 8 := N_0
  have hr : r.val / 128 < cfg0.N := by omega
  have hd : 128 * (r.val / 128) + r.val % 128 = r.val := by omega
  have e := congrFun (Value.blocks6 m c ⟨r.val / 128, hr⟩ (flush0_6 _)) (ix2 ⟨r.val % 128, by omega⟩ l)
  have e1 : ((cfg0.win 6).blk ⟨r.val / 128, hr⟩).view.read (Elt Ideal) ((dats m 0 c).arrAt 6 cfg0.N) (ix2 ⟨r.val % 128, by omega⟩ l)
      = ((dats m 0 c).arrAt 6 cfg0.N : Vec Ideal S1024x1408 .f32) (ix2 r l) := by
    blk_ext [index_at ⟨r.val / 128, hr⟩, hd]
  rw [e1] at e
  refine e.trans ?_
  rw [Value.flushed6]
  show (out0_6 (F := Ideal) (b0 m c ⟨r.val / 128, hr⟩) (b1 m c ⟨r.val / 128, hr⟩) (b2 m c ⟨r.val / 128, hr⟩) (b3 m c ⟨r.val / 128, hr⟩) : Vec Ideal S128x1408 .f32) (ix2 ⟨r.val % 128, by omega⟩ l) = _
  unfold out0_6
  rw [View.canon_unit_zero (by decide), View.ld_unit_zero (by decide), View.ld_unit_zero (by decide), pay2_at]
  rw [b1_at m c r l _ _ hd, b3_at m c r l _ _ hd]

end Cert.AdamUp

namespace Cert.Proof

open Idealize.ShloMosaic Idealize.SL.Sem

section

attribute [local instance] Cert.Kernel19.Gen.facts Cert.Kernel19Ideal.Gen.facts Cert.Reference19Ideal.Gen.facts

theorem frame_Kernel19 : Cert.quiescent_Kernel19 := fun m ρ _ => Cert.Kernel19.Gen.frame (F := Bits) m ρ

theorem frame_Kernel19Ideal : Cert.quiescent_Kernel19Ideal := fun m ρ _ => Cert.Kernel19Ideal.Gen.frame (F := Ideal) m ρ

/-- The reference declares no semaphore. -/
theorem frame_Reference19Ideal : Cert.quiescent_Reference19Ideal := fun m ρ _ =>
  (θ_run Cert.Reference19Ideal.defs _ _).mono (fun r h => ⟨fun c => (h c).2.2.2, sem_eq_zero_of_no_sems (by decide) r.2⟩)
    (Cert.Reference19Ideal.Value.run (F := Ideal) m ρ)

theorem preserves19 : Cert.preserves_Kernel19_Kernel19Ideal := trivial

end

theorem algebraic19 : algebraic_Kernel19Ideal_Reference19Ideal (hKernel19Ideal := Cert.Kernel19Ideal.Gen.facts)
    (hReference19Ideal := Cert.Reference19Ideal.Gen.facts) := by
  intro m g m' g' hpre hm
  refine ⟨fun c => (Cert.Kernel19Ideal.Gen.dats m 0 c).arrAt 4 Cert.Kernel19Ideal.cfg0.N, fun c => (Cert.Kernel19Ideal.Gen.dats m 0 c).arrAt 5 Cert.Kernel19Ideal.cfg0.N, fun c => (Cert.Kernel19Ideal.Gen.dats m 0 c).arrAt 6 Cert.Kernel19Ideal.cfg0.N,
    Cert.Kernel19Ideal.Value.run_blocks m g,
    (θ_run (Cert.Reference19Ideal.defs (F := Ideal)) _ _).mono (fun r h c => ⟨?_, ?_, ?_, (h c).2.2.2⟩) (Cert.Reference19Ideal.Value.run m' g')⟩
  · refine ((h c).1).trans ?_
    obtain ⟨m0, m1, m2, m3⟩ := hm c
    funext j
    obtain ⟨x, y, rfl⟩ : ∃ (x : Fin 1024) (y : Fin 1408), j = ix2 x y := ⟨j 0, j 1, eq_ix2 j⟩
    refine Eq.trans ?_ (Cert.AdamUp.value4_at m c x y).symm
    rw [m0, m1, m2, m3]
    unfold Cert.AdamUp.change Cert.AdamUp.first Cert.AdamUp.second
    pointwise
  · refine ((h c).2.1).trans ?_
    obtain ⟨m0, m1, m2, m3⟩ := hm c
    funext j
    obtain ⟨x, y, rfl⟩ : ∃ (x : Fin 1024) (y : Fin 1408), j = ix2 x y := ⟨j 0, j 1, eq_ix2 j⟩
    refine Eq.trans ?_ (Cert.AdamUp.value5_at m c x y).symm
    rw [m1, m2]
    unfold Cert.AdamUp.first
    pointwise
  · refine ((h c).2.2.1).trans ?_
    obtain ⟨m0, m1, m2, m3⟩ := hm c
    funext j
    obtain ⟨x, y, rfl⟩ : ∃ (x : Fin 1024) (y : Fin 1408), j = ix2 x y := ⟨j 0, j 1, eq_ix2 j⟩
    refine Eq.trans ?_ (Cert.AdamUp.value6_at m c x y).symm
    rw [m1, m3]
    unfold Cert.AdamUp.second
    pointwise

end Cert.Proof

end
-- ==== Proof.AdamDown.lean ====
/-
  The AdamW step of the down weights: three results, element by element.
-/
module

public import proofs.«01_k».proof.Defs
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
import Idealize.ShloMosaic.Lib.StableHlo.ReadAt
public import Idealize.ShloMosaic.Lib.Pipeline.ValueKit

@[expose] public section

set_option maxRecDepth 16384

noncomputable section

namespace Cert.AdamDown

open Idealize.ShloMosaic Idealize.ShloMosaic.TcCoe Idealize.SL.Sem Cert.Kernel20Ideal Cert.Kernel20Ideal.Gen

/-- A constant of the step, by its bits. -/
abbrev lit (b : BitVec 32) : EReal := (Scalar.ofBits .f32 b : Ideal .f32)

/-- The first moment after the step, of the gradient `g` and the moment `m`. -/
def first (g m : EReal) : EReal := lit 0x3F666666#32 * m + lit 0x3DCCCCCD#32 * g

/-- The second moment after the step, of the gradient `g` and the moment `v`. -/
def second (g v : EReal) : EReal := lit 0x3F7FBE77#32 * v + lit 0x3A83126F#32 * (g * g)

/-- The change of the weight `w`. -/
def change (w g m v : EReal) : EReal :=
  lit 0xBA83126F#32 * (Ideal.div (Ideal.div (first g m) (lit 0x3F26BD02#32)) (Ideal.sqrt (Ideal.div (second g v) (lit 0x3C231ACC#32)) + lit 0x322BCC77#32)
    + lit 0x3C23D70A#32 * w)

theorem pay1_at (x1 x2 : Vec Ideal S88x1024 .f32) (p : Fin 88) (l : Fin 1024) :
    (k0_pay1 x1 x2 : FVec Ideal S88x1024 .f32) (ix2 p l) = first (x1 (ix2 p l)) (x2 (ix2 p l)) := by
  unfold k0_pay1 first
  pointwise

theorem pay2_at (x1 x3 : Vec Ideal S88x1024 .f32) (p : Fin 88) (l : Fin 1024) :
    (k0_pay2 x1 x3 : FVec Ideal S88x1024 .f32) (ix2 p l) = second (x1 (ix2 p l)) (x3 (ix2 p l)) := by
  unfold k0_pay2 second
  pointwise

theorem pay3_at (x0 x1 x2 x3 : Vec Ideal S88x1024 .f32) (p : Fin 88) (l : Fin 1024) :
    (k0_pay3 x0 x1 x2 x3 : FVec Ideal S88x1024 .f32) (ix2 p l) = change (x0 (ix2 p l)) (x1 (ix2 p l)) (x2 (ix2 p l)) (x3 (ix2 p l)) := by
  unfold k0_pay3 change
  pointwise
  rw [pay1_at, pay2_at]

theorem index_at : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

variable (m : (ℓ : Loc nD τ sig) → Buf (Elt Ideal) ℓ) (c : Dev nD)

/-- The arguments: the weight, its gradient and the two moments. -/
abbrev in0 : FVec Ideal S704x1024 .f32 := m ((c.tc : Thread nD τ).loc main_arg0)
abbrev in1 : FVec Ideal S704x1024 .f32 := m ((c.tc : Thread nD τ).loc main_arg1)
abbrev in2 : FVec Ideal S704x1024 .f32 := m ((c.tc : Thread nD τ).loc main_arg2)
abbrev in3 : FVec Ideal S704x1024 .f32 := m ((c.tc : Thread nD τ).loc main_arg3)

/-- The blocks of a grid step. -/
def b0 (t : Fin cfg0.N) : FVec Ideal S88x1024 .f32 := iblk m c 0 t
def b1 (t : Fin cfg0.N) : FVec Ideal S88x1024 .f32 := iblk m c 1 t
def b2 (t : Fin cfg0.N) : FVec Ideal S88x1024 .f32 := iblk m c 2 t
def b3 (t : Fin cfg0.N) : FVec Ideal S88x1024 .f32 := iblk m c 3 t

variable (r : Fin 704) (l : Fin 1024)

section

variable (t : Fin cfg0.N) (p : Fin 88) (h : 88 * t.val + p.val = r.val)

include h

theorem b0_at : b0 m c t (ix2 p l) = in0 m c (ix2 r l) := by
  refine Eq.trans ?_ (congrFun (V_main_arg0 m c) _)
  unfold b0
  blk_ext [iblk, index_at t, h]

theorem b1_at : b1 m c t (ix2 p l) = in1 m c (ix2 r l) := by
  refine Eq.trans ?_ (congrFun (V_main_arg1 m c) _)
  unfold b1
  blk_ext [iblk, index_at t, h]

theorem b2_at : b2 m c t (ix2 p l) = in2 m c (ix2 r l) := by
  refine Eq.trans ?_ (congrFun (V_main_arg2 m c) _)
  unfold b2
  blk_ext [iblk, index_at t, h]

theorem b3_at : b3 m c t (ix2 p l) = in3 m c (ix2 r l) := by
  refine Eq.trans ?_ (congrFun (V_main_arg3 m c) _)
  unfold b3
  blk_ext [iblk, index_at t, h]

end

theorem value4_at : @Eq EReal (((dats m 0 c).arrAt 4 cfg0.N : Vec Ideal S704x1024 .f32) (ix2 r l))
    (change (in0 m c (ix2 r l)) (in1 m c (ix2 r l)) (in2 m c (ix2 r l)) (in3 m c (ix2 r l))) := by
  have hN : cfg0.N = 8 := N_0
  have hr : r.val / 88 < cfg0.N := by omega
  have hd : 88 * (r.val / 88) + r.val % 88 = r.val := by omega
  have e := congrFun (Value.blocks4 m c ⟨r.val / 88, hr⟩ (flush0_4 _)) (ix2 ⟨r.val % 88, by omega⟩ l)
  have e1 : ((cfg0.win 4).blk ⟨r.val / 88, hr⟩).view.read (Elt Ideal) ((dats m 0 c).arrAt 4 cfg0.N) (ix2 ⟨r.val % 88, by omega⟩ l)
      = ((dats m 0 c).arrAt 4 cfg0.N : Vec Ideal S704x1024 .f32) (ix2 r l) := by
    blk_ext [index_at ⟨r.val / 88, hr⟩, hd]
  rw [e1] at e
  refine e.trans ?_
  rw [Value.flushed4]
  show (out0_4 (F := Ideal) (b0 m c ⟨r.val / 88, hr⟩) (b1 m c ⟨r.val / 88, hr⟩) (b2 m c ⟨r.val / 88, hr⟩) (b3 m c ⟨r.val / 88, hr⟩) : Vec Ideal S88x1024 .f32) (ix2 ⟨r.val % 88, by omega⟩ l) = _
  unfold out0_4
  rw [View.canon_unit_zero (by decide), View.ld_unit_zero (by decide), View.ld_unit_zero (by decide), View.ld_unit_zero (by decide), View.ld_unit_zero (by decide), pay3_at]
  rw [b0_at m c r l _ _ hd, b1_at m c r l _ _ hd, b2_at m c r l _ _ hd, b3_at m c r l _ _ hd]

theorem value5_at : @Eq EReal (((dats m 0 c).arrAt 5 cfg0.N : Vec Ideal S704x1024 .f32) (ix2 r l))
    (first (in1 m c (ix2 r l)) (in2 m c (ix2 r l))) := by
  have hN : cfg0.N = 8 := N_0
  have hr : r.val / 88 < cfg0.N := by omega
  have hd : 88 * (r.val / 88) + r.val % 88 = r.val := by omega
  have e := congrFun (Value.blocks5 m c ⟨r.val / 88, hr⟩ (flush0_5 _)) (ix2 ⟨r.val % 88, by omega⟩ l)
  have e1 : ((cfg0.win 5).blk ⟨r.val / 88, hr⟩).view.read (Elt Ideal) ((dats m 0 c).arrAt 5 cfg0.N) (ix2 ⟨r.val % 88, by omega⟩ l)
      = ((dats m 0 c).arrAt 5 cfg0.N : Vec Ideal S704x1024 .f32) (ix2 r l) := by
    blk_ext [index_at ⟨r.val / 88, hr⟩, hd]
  rw [e1] at e
  refine e.trans ?_
  rw [Value.flushed5]
  show (out0_5 (F := Ideal) (b0 m c ⟨r.val / 88, hr⟩) (b1 m c ⟨r.val / 88, hr⟩) (b2 m c ⟨r.val / 88, hr⟩) (b3 m c ⟨r.val / 88, hr⟩) : Vec Ideal S88x1024 .f32) (ix2 ⟨r.val % 88, by omega⟩ l) = _
  unfold out0_5
  rw [View.canon_unit_zero (by decide), View.ld_unit_zero (by decide), View.ld_unit_zero (by decide), pay1_at]
  rw [b1_at m c r l _ _ hd, b2_at m c r l _ _ hd]

theorem value6_at : @Eq EReal (((dats m 0 c).arrAt 6 cfg0.N : Vec Ideal S704x1024 .f32) (ix2 r l))
    (second (in1 m c (ix2 r l)) (in3 m c (ix2 r l))) := by
  have hN : cfg0.N = 8 := N_0
  have hr : r.val / 88 < cfg0.N := by omega
  have hd : 88 * (r.val / 88) + r.val % 88 = r.val := by omega
  have e := congrFun (Value.blocks6 m c ⟨r.val / 88, hr⟩ (flush0_6 _)) (ix2 ⟨r.val % 88, by omega⟩ l)
  have e1 : ((cfg0.win 6).blk ⟨r.val / 88, hr⟩).view.read (Elt Ideal) ((dats m 0 c).arrAt 6 cfg0.N) (ix2 ⟨r.val % 88, by omega⟩ l)
      = ((dats m 0 c).arrAt 6 cfg0.N : Vec Ideal S704x1024 .f32) (ix2 r l) := by
    blk_ext [index_at ⟨r.val / 88, hr⟩, hd]
  rw [e1] at e
  refine e.trans ?_
  rw [Value.flushed6]
  show (out0_6 (F := Ideal) (b0 m c ⟨r.val / 88, hr⟩) (b1 m c ⟨r.val / 88, hr⟩) (b2 m c ⟨r.val / 88, hr⟩) (b3 m c ⟨r.val / 88, hr⟩) : Vec Ideal S88x1024 .f32) (ix2 ⟨r.val % 88, by omega⟩ l) = _
  unfold out0_6
  rw [View.canon_unit_zero (by decide), View.ld_unit_zero (by decide), View.ld_unit_zero (by decide), pay2_at]
  rw [b1_at m c r l _ _ hd, b3_at m c r l _ _ hd]

end Cert.AdamDown

namespace Cert.Proof

open Idealize.ShloMosaic Idealize.SL.Sem

section

attribute [local instance] Cert.Kernel20.Gen.facts Cert.Kernel20Ideal.Gen.facts Cert.Reference20Ideal.Gen.facts

theorem frame_Kernel20 : Cert.quiescent_Kernel20 := fun m ρ _ => Cert.Kernel20.Gen.frame (F := Bits) m ρ

theorem frame_Kernel20Ideal : Cert.quiescent_Kernel20Ideal := fun m ρ _ => Cert.Kernel20Ideal.Gen.frame (F := Ideal) m ρ

/-- The reference declares no semaphore. -/
theorem frame_Reference20Ideal : Cert.quiescent_Reference20Ideal := fun m ρ _ =>
  (θ_run Cert.Reference20Ideal.defs _ _).mono (fun r h => ⟨fun c => (h c).2.2.2, sem_eq_zero_of_no_sems (by decide) r.2⟩)
    (Cert.Reference20Ideal.Value.run (F := Ideal) m ρ)

theorem preserves20 : Cert.preserves_Kernel20_Kernel20Ideal := trivial

end

theorem algebraic20 : algebraic_Kernel20Ideal_Reference20Ideal (hKernel20Ideal := Cert.Kernel20Ideal.Gen.facts)
    (hReference20Ideal := Cert.Reference20Ideal.Gen.facts) := by
  intro m g m' g' hpre hm
  refine ⟨fun c => (Cert.Kernel20Ideal.Gen.dats m 0 c).arrAt 4 Cert.Kernel20Ideal.cfg0.N, fun c => (Cert.Kernel20Ideal.Gen.dats m 0 c).arrAt 5 Cert.Kernel20Ideal.cfg0.N, fun c => (Cert.Kernel20Ideal.Gen.dats m 0 c).arrAt 6 Cert.Kernel20Ideal.cfg0.N,
    Cert.Kernel20Ideal.Value.run_blocks m g,
    (θ_run (Cert.Reference20Ideal.defs (F := Ideal)) _ _).mono (fun r h c => ⟨?_, ?_, ?_, (h c).2.2.2⟩) (Cert.Reference20Ideal.Value.run m' g')⟩
  · refine ((h c).1).trans ?_
    obtain ⟨m0, m1, m2, m3⟩ := hm c
    funext j
    obtain ⟨x, y, rfl⟩ : ∃ (x : Fin 704) (y : Fin 1024), j = ix2 x y := ⟨j 0, j 1, eq_ix2 j⟩
    refine Eq.trans ?_ (Cert.AdamDown.value4_at m c x y).symm
    rw [m0, m1, m2, m3]
    unfold Cert.AdamDown.change Cert.AdamDown.first Cert.AdamDown.second
    pointwise
  · refine ((h c).2.1).trans ?_
    obtain ⟨m0, m1, m2, m3⟩ := hm c
    funext j
    obtain ⟨x, y, rfl⟩ : ∃ (x : Fin 704) (y : Fin 1024), j = ix2 x y := ⟨j 0, j 1, eq_ix2 j⟩
    refine Eq.trans ?_ (Cert.AdamDown.value5_at m c x y).symm
    rw [m1, m2]
    unfold Cert.AdamDown.first
    pointwise
  · refine ((h c).2.2.1).trans ?_
    obtain ⟨m0, m1, m2, m3⟩ := hm c
    funext j
    obtain ⟨x, y, rfl⟩ : ∃ (x : Fin 704) (y : Fin 1024), j = ix2 x y := ⟨j 0, j 1, eq_ix2 j⟩
    refine Eq.trans ?_ (Cert.AdamDown.value6_at m c x y).symm
    rw [m1, m3]
    unfold Cert.AdamDown.second
    pointwise

end Cert.Proof

end
-- ==== Proof.AdamConv.lean ====
/-
  The AdamW step of the convolution weights: three results, element by element.
-/
module

public import proofs.«01_k».proof.Defs
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
import Idealize.ShloMosaic.Lib.StableHlo.ReadAt
public import Idealize.ShloMosaic.Lib.Pipeline.ValueKit

@[expose] public section

set_option maxRecDepth 16384

noncomputable section

namespace Cert.AdamConv

open Idealize.ShloMosaic Idealize.ShloMosaic.TcCoe Idealize.SL.Sem Cert.Kernel21Ideal Cert.Kernel21Ideal.Gen

/-- A constant of the step, by its bits. -/
abbrev lit (b : BitVec 32) : EReal := (Scalar.ofBits .f32 b : Ideal .f32)

/-- The first moment after the step, of the gradient `g` and the moment `m`. -/
def first (g m : EReal) : EReal := lit 0x3F666666#32 * m + lit 0x3DCCCCCD#32 * g

/-- The second moment after the step, of the gradient `g` and the moment `v`. -/
def second (g v : EReal) : EReal := lit 0x3F7FBE77#32 * v + lit 0x3A83126F#32 * (g * g)

/-- The change of the weight `w`. -/
def change (w g m v : EReal) : EReal :=
  lit 0xBA83126F#32 * (Ideal.div (Ideal.div (first g m) (lit 0x3F26BD02#32)) (Ideal.sqrt (Ideal.div (second g v) (lit 0x3C231ACC#32)) + lit 0x322BCC77#32)
    + lit 0x3C23D70A#32 * w)

theorem pay1_at (x1 x2 : Vec Ideal S3x1408 .f32) (p : Fin 3) (l : Fin 1408) :
    (k0_pay1 x1 x2 : FVec Ideal S3x1408 .f32) (ix2 p l) = first (x1 (ix2 p l)) (x2 (ix2 p l)) := by
  unfold k0_pay1 first
  pointwise

theorem pay2_at (x1 x3 : Vec Ideal S3x1408 .f32) (p : Fin 3) (l : Fin 1408) :
    (k0_pay2 x1 x3 : FVec Ideal S3x1408 .f32) (ix2 p l) = second (x1 (ix2 p l)) (x3 (ix2 p l)) := by
  unfold k0_pay2 second
  pointwise

theorem pay3_at (x0 x1 x2 x3 : Vec Ideal S3x1408 .f32) (p : Fin 3) (l : Fin 1408) :
    (k0_pay3 x0 x1 x2 x3 : FVec Ideal S3x1408 .f32) (ix2 p l) = change (x0 (ix2 p l)) (x1 (ix2 p l)) (x2 (ix2 p l)) (x3 (ix2 p l)) := by
  unfold k0_pay3 change
  pointwise
  rw [pay1_at, pay2_at]

theorem index_at : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

variable (m : (ℓ : Loc nD τ sig) → Buf (Elt Ideal) ℓ) (c : Dev nD)

/-- The arguments: the weight, its gradient and the two moments. -/
abbrev in0 : FVec Ideal S3x1408 .f32 := m ((c.tc : Thread nD τ).loc main_arg0)
abbrev in1 : FVec Ideal S3x1408 .f32 := m ((c.tc : Thread nD τ).loc main_arg1)
abbrev in2 : FVec Ideal S3x1408 .f32 := m ((c.tc : Thread nD τ).loc main_arg2)
abbrev in3 : FVec Ideal S3x1408 .f32 := m ((c.tc : Thread nD τ).loc main_arg3)

/-- The blocks of a grid step. -/
def b0 (t : Fin cfg0.N) : FVec Ideal S3x1408 .f32 := iblk m c 0 t
def b1 (t : Fin cfg0.N) : FVec Ideal S3x1408 .f32 := iblk m c 1 t
def b2 (t : Fin cfg0.N) : FVec Ideal S3x1408 .f32 := iblk m c 2 t
def b3 (t : Fin cfg0.N) : FVec Ideal S3x1408 .f32 := iblk m c 3 t

variable (r : Fin 3) (l : Fin 1408)

section

variable (t : Fin cfg0.N) (p : Fin 3) (h : 3 * t.val + p.val = r.val)

include h

theorem b0_at : b0 m c t (ix2 p l) = in0 m c (ix2 r l) := by
  refine Eq.trans ?_ (congrFun (V_main_arg0 m c) _)
  unfold b0
  blk_ext [iblk, index_at t, h]

theorem b1_at : b1 m c t (ix2 p l) = in1 m c (ix2 r l) := by
  refine Eq.trans ?_ (congrFun (V_main_arg1 m c) _)
  unfold b1
  blk_ext [iblk, index_at t, h]

theorem b2_at : b2 m c t (ix2 p l) = in2 m c (ix2 r l) := by
  refine Eq.trans ?_ (congrFun (V_main_arg2 m c) _)
  unfold b2
  blk_ext [iblk, index_at t, h]

theorem b3_at : b3 m c t (ix2 p l) = in3 m c (ix2 r l) := by
  refine Eq.trans ?_ (congrFun (V_main_arg3 m c) _)
  unfold b3
  blk_ext [iblk, index_at t, h]

end

theorem value4_at : @Eq EReal (((dats m 0 c).arrAt 4 cfg0.N : Vec Ideal S3x1408 .f32) (ix2 r l))
    (change (in0 m c (ix2 r l)) (in1 m c (ix2 r l)) (in2 m c (ix2 r l)) (in3 m c (ix2 r l))) := by
  have hN : cfg0.N = 1 := N_0
  have hr : 0 < cfg0.N := by omega
  obtain ⟨t, ht⟩ : ∃ t : Fin cfg0.N, t.val = 0 := ⟨⟨0, hr⟩, rfl⟩
  have hd : 3 * t.val + r.val = r.val := by omega
  have e := congrFun (Value.blocks4 m c t (flush0_4 _)) (ix2 r l)
  have e1 : ((cfg0.win 4).blk t).view.read (Elt Ideal) ((dats m 0 c).arrAt 4 cfg0.N) (ix2 r l)
      = ((dats m 0 c).arrAt 4 cfg0.N : Vec Ideal S3x1408 .f32) (ix2 r l) := by
    blk_ext [index_at t, hd]
  rw [e1] at e
  refine e.trans ?_
  rw [Value.flushed4]
  show (out0_4 (F := Ideal) (b0 m c t) (b1 m c t) (b2 m c t) (b3 m c t) : Vec Ideal S3x1408 .f32) (ix2 r l) = _
  unfold out0_4
  rw [View.canon_unit_zero (by decide), View.ld_unit_zero (by decide), View.ld_unit_zero (by decide), View.ld_unit_zero (by decide), View.ld_unit_zero (by decide), pay3_at]
  rw [b0_at m c r l _ _ hd, b1_at m c r l _ _ hd, b2_at m c r l _ _ hd, b3_at m c r l _ _ hd]

theorem value5_at : @Eq EReal (((dats m 0 c).arrAt 5 cfg0.N : Vec Ideal S3x1408 .f32) (ix2 r l))
    (first (in1 m c (ix2 r l)) (in2 m c (ix2 r l))) := by
  have hN : cfg0.N = 1 := N_0
  have hr : 0 < cfg0.N := by omega
  obtain ⟨t, ht⟩ : ∃ t : Fin cfg0.N, t.val = 0 := ⟨⟨0, hr⟩, rfl⟩
  have hd : 3 * t.val + r.val = r.val := by omega
  have e := congrFun (Value.blocks5 m c t (flush0_5 _)) (ix2 r l)
  have e1 : ((cfg0.win 5).blk t).view.read (Elt Ideal) ((dats m 0 c).arrAt 5 cfg0.N) (ix2 r l)
      = ((dats m 0 c).arrAt 5 cfg0.N : Vec Ideal S3x1408 .f32) (ix2 r l) := by
    blk_ext [index_at t, hd]
  rw [e1] at e
  refine e.trans ?_
  rw [Value.flushed5]
  show (out0_5 (F := Ideal) (b0 m c t) (b1 m c t) (b2 m c t) (b3 m c t) : Vec Ideal S3x1408 .f32) (ix2 r l) = _
  unfold out0_5
  rw [View.canon_unit_zero (by decide), View.ld_unit_zero (by decide), View.ld_unit_zero (by decide), pay1_at]
  rw [b1_at m c r l _ _ hd, b2_at m c r l _ _ hd]

theorem value6_at : @Eq EReal (((dats m 0 c).arrAt 6 cfg0.N : Vec Ideal S3x1408 .f32) (ix2 r l))
    (second (in1 m c (ix2 r l)) (in3 m c (ix2 r l))) := by
  have hN : cfg0.N = 1 := N_0
  have hr : 0 < cfg0.N := by omega
  obtain ⟨t, ht⟩ : ∃ t : Fin cfg0.N, t.val = 0 := ⟨⟨0, hr⟩, rfl⟩
  have hd : 3 * t.val + r.val = r.val := by omega
  have e := congrFun (Value.blocks6 m c t (flush0_6 _)) (ix2 r l)
  have e1 : ((cfg0.win 6).blk t).view.read (Elt Ideal) ((dats m 0 c).arrAt 6 cfg0.N) (ix2 r l)
      = ((dats m 0 c).arrAt 6 cfg0.N : Vec Ideal S3x1408 .f32) (ix2 r l) := by
    blk_ext [index_at t, hd]
  rw [e1] at e
  refine e.trans ?_
  rw [Value.flushed6]
  show (out0_6 (F := Ideal) (b0 m c t) (b1 m c t) (b2 m c t) (b3 m c t) : Vec Ideal S3x1408 .f32) (ix2 r l) = _
  unfold out0_6
  rw [View.canon_unit_zero (by decide), View.ld_unit_zero (by decide), View.ld_unit_zero (by decide), pay2_at]
  rw [b1_at m c r l _ _ hd, b3_at m c r l _ _ hd]

end Cert.AdamConv

namespace Cert.Proof

open Idealize.ShloMosaic Idealize.SL.Sem

section

attribute [local instance] Cert.Kernel21.Gen.facts Cert.Kernel21Ideal.Gen.facts Cert.Reference21Ideal.Gen.facts

theorem frame_Kernel21 : Cert.quiescent_Kernel21 := fun m ρ _ => Cert.Kernel21.Gen.frame (F := Bits) m ρ

theorem frame_Kernel21Ideal : Cert.quiescent_Kernel21Ideal := fun m ρ _ => Cert.Kernel21Ideal.Gen.frame (F := Ideal) m ρ

/-- The reference declares no semaphore. -/
theorem frame_Reference21Ideal : Cert.quiescent_Reference21Ideal := fun m ρ _ =>
  (θ_run Cert.Reference21Ideal.defs _ _).mono (fun r h => ⟨fun c => (h c).2.2.2, sem_eq_zero_of_no_sems (by decide) r.2⟩)
    (Cert.Reference21Ideal.Value.run (F := Ideal) m ρ)

theorem preserves21 : Cert.preserves_Kernel21_Kernel21Ideal := trivial

end

theorem algebraic21 : algebraic_Kernel21Ideal_Reference21Ideal (hKernel21Ideal := Cert.Kernel21Ideal.Gen.facts)
    (hReference21Ideal := Cert.Reference21Ideal.Gen.facts) := by
  intro m g m' g' hpre hm
  refine ⟨fun c => (Cert.Kernel21Ideal.Gen.dats m 0 c).arrAt 4 Cert.Kernel21Ideal.cfg0.N, fun c => (Cert.Kernel21Ideal.Gen.dats m 0 c).arrAt 5 Cert.Kernel21Ideal.cfg0.N, fun c => (Cert.Kernel21Ideal.Gen.dats m 0 c).arrAt 6 Cert.Kernel21Ideal.cfg0.N,
    Cert.Kernel21Ideal.Value.run_blocks m g,
    (θ_run (Cert.Reference21Ideal.defs (F := Ideal)) _ _).mono (fun r h c => ⟨?_, ?_, ?_, (h c).2.2.2⟩) (Cert.Reference21Ideal.Value.run m' g')⟩
  · refine ((h c).1).trans ?_
    obtain ⟨m0, m1, m2, m3⟩ := hm c
    funext j
    obtain ⟨x, y, rfl⟩ : ∃ (x : Fin 3) (y : Fin 1408), j = ix2 x y := ⟨j 0, j 1, eq_ix2 j⟩
    refine Eq.trans ?_ (Cert.AdamConv.value4_at m c x y).symm
    rw [m0, m1, m2, m3]
    unfold Cert.AdamConv.change Cert.AdamConv.first Cert.AdamConv.second
    pointwise
  · refine ((h c).2.1).trans ?_
    obtain ⟨m0, m1, m2, m3⟩ := hm c
    funext j
    obtain ⟨x, y, rfl⟩ : ∃ (x : Fin 3) (y : Fin 1408), j = ix2 x y := ⟨j 0, j 1, eq_ix2 j⟩
    refine Eq.trans ?_ (Cert.AdamConv.value5_at m c x y).symm
    rw [m1, m2]
    unfold Cert.AdamConv.first
    pointwise
  · refine ((h c).2.2.1).trans ?_
    obtain ⟨m0, m1, m2, m3⟩ := hm c
    funext j
    obtain ⟨x, y, rfl⟩ : ∃ (x : Fin 3) (y : Fin 1408), j = ix2 x y := ⟨j 0, j 1, eq_ix2 j⟩
    refine Eq.trans ?_ (Cert.AdamConv.value6_at m c x y).symm
    rw [m1, m3]
    unfold Cert.AdamConv.second
    pointwise

end Cert.Proof

end
-- ==== Proof.AdamSmall.lean ====
/-
  The AdamW step of the small weights: three results, element by element.
-/
module

public import proofs.«01_k».proof.Defs
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
import Idealize.ShloMosaic.Lib.StableHlo.ReadAt
public import Idealize.ShloMosaic.Lib.Pipeline.ValueKit

@[expose] public section

set_option maxRecDepth 16384

noncomputable section

namespace Cert.AdamSmall

open Idealize.ShloMosaic Idealize.ShloMosaic.TcCoe Idealize.SL.Sem Cert.Kernel22Ideal Cert.Kernel22Ideal.Gen

/-- A constant of the step, by its bits. -/
abbrev lit (b : BitVec 32) : EReal := (Scalar.ofBits .f32 b : Ideal .f32)

/-- The first moment after the step, of the gradient `g` and the moment `m`. -/
def first (g m : EReal) : EReal := lit 0x3F666666#32 * m + lit 0x3DCCCCCD#32 * g

/-- The second moment after the step, of the gradient `g` and the moment `v`. -/
def second (g v : EReal) : EReal := lit 0x3F7FBE77#32 * v + lit 0x3A83126F#32 * (g * g)

/-- The change of the weight `w`. -/
def change (w g m v : EReal) : EReal :=
  lit 0xBA83126F#32 * (Ideal.div (Ideal.div (first g m) (lit 0x3F26BD02#32)) (Ideal.sqrt (Ideal.div (second g v) (lit 0x3C231ACC#32)) + lit 0x322BCC77#32)
    + lit 0x3C23D70A#32 * w)

theorem pay1_at (x1 x2 : Vec Ideal S88x128 .f32) (p : Fin 88) (l : Fin 128) :
    (k0_pay1 x1 x2 : FVec Ideal S88x128 .f32) (ix2 p l) = first (x1 (ix2 p l)) (x2 (ix2 p l)) := by
  unfold k0_pay1 first
  pointwise

theorem pay2_at (x1 x3 : Vec Ideal S88x128 .f32) (p : Fin 88) (l : Fin 128) :
    (k0_pay2 x1 x3 : FVec Ideal S88x128 .f32) (ix2 p l) = second (x1 (ix2 p l)) (x3 (ix2 p l)) := by
  unfold k0_pay2 second
  pointwise

theorem pay3_at (x0 x1 x2 x3 : Vec Ideal S88x128 .f32) (p : Fin 88) (l : Fin 128) :
    (k0_pay3 x0 x1 x2 x3 : FVec Ideal S88x128 .f32) (ix2 p l) = change (x0 (ix2 p l)) (x1 (ix2 p l)) (x2 (ix2 p l)) (x3 (ix2 p l)) := by
  unfold k0_pay3 change
  pointwise
  rw [pay1_at, pay2_at]

theorem index_at : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

variable (m : (ℓ : Loc nD τ sig) → Buf (Elt Ideal) ℓ) (c : Dev nD)

/-- The arguments: the weight, its gradient and the two moments. -/
abbrev in0 : FVec Ideal S88x128 .f32 := m ((c.tc : Thread nD τ).loc main_arg0)
abbrev in1 : FVec Ideal S88x128 .f32 := m ((c.tc : Thread nD τ).loc main_arg1)
abbrev in2 : FVec Ideal S88x128 .f32 := m ((c.tc : Thread nD τ).loc main_arg2)
abbrev in3 : FVec Ideal S88x128 .f32 := m ((c.tc : Thread nD τ).loc main_arg3)

/-- The blocks of a grid step. -/
def b0 (t : Fin cfg0.N) : FVec Ideal S88x128 .f32 := iblk m c 0 t
def b1 (t : Fin cfg0.N) : FVec Ideal S88x128 .f32 := iblk m c 1 t
def b2 (t : Fin cfg0.N) : FVec Ideal S88x128 .f32 := iblk m c 2 t
def b3 (t : Fin cfg0.N) : FVec Ideal S88x128 .f32 := iblk m c 3 t

variable (r : Fin 88) (l : Fin 128)

section

variable (t : Fin cfg0.N) (p : Fin 88) (h : 88 * t.val + p.val = r.val)

include h

theorem b0_at : b0 m c t (ix2 p l) = in0 m c (ix2 r l) := by
  refine Eq.trans ?_ (congrFun (V_main_arg0 m c) _)
  unfold b0
  blk_ext [iblk, index_at t, h]

theorem b1_at : b1 m c t (ix2 p l) = in1 m c (ix2 r l) := by
  refine Eq.trans ?_ (congrFun (V_main_arg1 m c) _)
  unfold b1
  blk_ext [iblk, index_at t, h]

theorem b2_at : b2 m c t (ix2 p l) = in2 m c (ix2 r l) := by
  refine Eq.trans ?_ (congrFun (V_main_arg2 m c) _)
  unfold b2
  blk_ext [iblk, index_at t, h]

theorem b3_at : b3 m c t (ix2 p l) = in3 m c (ix2 r l) := by
  refine Eq.trans ?_ (congrFun (V_main_arg3 m c) _)
  unfold b3
  blk_ext [iblk, index_at t, h]

end

theorem value4_at : @Eq EReal (((dats m 0 c).arrAt 4 cfg0.N : Vec Ideal S88x128 .f32) (ix2 r l))
    (change (in0 m c (ix2 r l)) (in1 m c (ix2 r l)) (in2 m c (ix2 r l)) (in3 m c (ix2 r l))) := by
  have hN : cfg0.N = 1 := N_0
  have hr : 0 < cfg0.N := by omega
  obtain ⟨t, ht⟩ : ∃ t : Fin cfg0.N, t.val = 0 := ⟨⟨0, hr⟩, rfl⟩
  have hd : 88 * t.val + r.val = r.val := by omega
  have e := congrFun (Value.blocks4 m c t (flush0_4 _)) (ix2 r l)
  have e1 : ((cfg0.win 4).blk t).view.read (Elt Ideal) ((dats m 0 c).arrAt 4 cfg0.N) (ix2 r l)
      = ((dats m 0 c).arrAt 4 cfg0.N : Vec Ideal S88x128 .f32) (ix2 r l) := by
    blk_ext [index_at t, hd]
  rw [e1] at e
  refine e.trans ?_
  rw [Value.flushed4]
  show (out0_4 (F := Ideal) (b0 m c t) (b1 m c t) (b2 m c t) (b3 m c t) : Vec Ideal S88x128 .f32) (ix2 r l) = _
  unfold out0_4
  rw [View.canon_unit_zero (by decide), View.ld_unit_zero (by decide), View.ld_unit_zero (by decide), View.ld_unit_zero (by decide), View.ld_unit_zero (by decide), pay3_at]
  rw [b0_at m c r l _ _ hd, b1_at m c r l _ _ hd, b2_at m c r l _ _ hd, b3_at m c r l _ _ hd]

theorem value5_at : @Eq EReal (((dats m 0 c).arrAt 5 cfg0.N : Vec Ideal S88x128 .f32) (ix2 r l))
    (first (in1 m c (ix2 r l)) (in2 m c (ix2 r l))) := by
  have hN : cfg0.N = 1 := N_0
  have hr : 0 < cfg0.N := by omega
  obtain ⟨t, ht⟩ : ∃ t : Fin cfg0.N, t.val = 0 := ⟨⟨0, hr⟩, rfl⟩
  have hd : 88 * t.val + r.val = r.val := by omega
  have e := congrFun (Value.blocks5 m c t (flush0_5 _)) (ix2 r l)
  have e1 : ((cfg0.win 5).blk t).view.read (Elt Ideal) ((dats m 0 c).arrAt 5 cfg0.N) (ix2 r l)
      = ((dats m 0 c).arrAt 5 cfg0.N : Vec Ideal S88x128 .f32) (ix2 r l) := by
    blk_ext [index_at t, hd]
  rw [e1] at e
  refine e.trans ?_
  rw [Value.flushed5]
  show (out0_5 (F := Ideal) (b0 m c t) (b1 m c t) (b2 m c t) (b3 m c t) : Vec Ideal S88x128 .f32) (ix2 r l) = _
  unfold out0_5
  rw [View.canon_unit_zero (by decide), View.ld_unit_zero (by decide), View.ld_unit_zero (by decide), pay1_at]
  rw [b1_at m c r l _ _ hd, b2_at m c r l _ _ hd]

theorem value6_at : @Eq EReal (((dats m 0 c).arrAt 6 cfg0.N : Vec Ideal S88x128 .f32) (ix2 r l))
    (second (in1 m c (ix2 r l)) (in3 m c (ix2 r l))) := by
  have hN : cfg0.N = 1 := N_0
  have hr : 0 < cfg0.N := by omega
  obtain ⟨t, ht⟩ : ∃ t : Fin cfg0.N, t.val = 0 := ⟨⟨0, hr⟩, rfl⟩
  have hd : 88 * t.val + r.val = r.val := by omega
  have e := congrFun (Value.blocks6 m c t (flush0_6 _)) (ix2 r l)
  have e1 : ((cfg0.win 6).blk t).view.read (Elt Ideal) ((dats m 0 c).arrAt 6 cfg0.N) (ix2 r l)
      = ((dats m 0 c).arrAt 6 cfg0.N : Vec Ideal S88x128 .f32) (ix2 r l) := by
    blk_ext [index_at t, hd]
  rw [e1] at e
  refine e.trans ?_
  rw [Value.flushed6]
  show (out0_6 (F := Ideal) (b0 m c t) (b1 m c t) (b2 m c t) (b3 m c t) : Vec Ideal S88x128 .f32) (ix2 r l) = _
  unfold out0_6
  rw [View.canon_unit_zero (by decide), View.ld_unit_zero (by decide), View.ld_unit_zero (by decide), pay2_at]
  rw [b1_at m c r l _ _ hd, b3_at m c r l _ _ hd]

end Cert.AdamSmall

namespace Cert.Proof

open Idealize.ShloMosaic Idealize.SL.Sem

section

attribute [local instance] Cert.Kernel22.Gen.facts Cert.Kernel22Ideal.Gen.facts Cert.Reference22Ideal.Gen.facts

theorem frame_Kernel22 : Cert.quiescent_Kernel22 := fun m ρ _ => Cert.Kernel22.Gen.frame (F := Bits) m ρ

theorem frame_Kernel22Ideal : Cert.quiescent_Kernel22Ideal := fun m ρ _ => Cert.Kernel22Ideal.Gen.frame (F := Ideal) m ρ

/-- The reference declares no semaphore. -/
theorem frame_Reference22Ideal : Cert.quiescent_Reference22Ideal := fun m ρ _ =>
  (θ_run Cert.Reference22Ideal.defs _ _).mono (fun r h => ⟨fun c => (h c).2.2.2, sem_eq_zero_of_no_sems (by decide) r.2⟩)
    (Cert.Reference22Ideal.Value.run (F := Ideal) m ρ)

theorem preserves22 : Cert.preserves_Kernel22_Kernel22Ideal := trivial

end

theorem algebraic22 : algebraic_Kernel22Ideal_Reference22Ideal (hKernel22Ideal := Cert.Kernel22Ideal.Gen.facts)
    (hReference22Ideal := Cert.Reference22Ideal.Gen.facts) := by
  intro m g m' g' hpre hm
  refine ⟨fun c => (Cert.Kernel22Ideal.Gen.dats m 0 c).arrAt 4 Cert.Kernel22Ideal.cfg0.N, fun c => (Cert.Kernel22Ideal.Gen.dats m 0 c).arrAt 5 Cert.Kernel22Ideal.cfg0.N, fun c => (Cert.Kernel22Ideal.Gen.dats m 0 c).arrAt 6 Cert.Kernel22Ideal.cfg0.N,
    Cert.Kernel22Ideal.Value.run_blocks m g,
    (θ_run (Cert.Reference22Ideal.defs (F := Ideal)) _ _).mono (fun r h c => ⟨?_, ?_, ?_, (h c).2.2.2⟩) (Cert.Reference22Ideal.Value.run m' g')⟩
  · refine ((h c).1).trans ?_
    obtain ⟨m0, m1, m2, m3⟩ := hm c
    funext j
    obtain ⟨x, y, rfl⟩ : ∃ (x : Fin 88) (y : Fin 128), j = ix2 x y := ⟨j 0, j 1, eq_ix2 j⟩
    refine Eq.trans ?_ (Cert.AdamSmall.value4_at m c x y).symm
    rw [m0, m1, m2, m3]
    unfold Cert.AdamSmall.change Cert.AdamSmall.first Cert.AdamSmall.second
    pointwise
  · refine ((h c).2.1).trans ?_
    obtain ⟨m0, m1, m2, m3⟩ := hm c
    funext j
    obtain ⟨x, y, rfl⟩ : ∃ (x : Fin 88) (y : Fin 128), j = ix2 x y := ⟨j 0, j 1, eq_ix2 j⟩
    refine Eq.trans ?_ (Cert.AdamSmall.value5_at m c x y).symm
    rw [m1, m2]
    unfold Cert.AdamSmall.first
    pointwise
  · refine ((h c).2.2.1).trans ?_
    obtain ⟨m0, m1, m2, m3⟩ := hm c
    funext j
    obtain ⟨x, y, rfl⟩ : ∃ (x : Fin 88) (y : Fin 128), j = ix2 x y := ⟨j 0, j 1, eq_ix2 j⟩
    refine Eq.trans ?_ (Cert.AdamSmall.value6_at m c x y).symm
    rw [m1, m3]
    unfold Cert.AdamSmall.second
    pointwise

end Cert.Proof

end
-- ==== Proof.InLeft.lean ====
/-
  The gradient of the rows of the input projection: nine products over blocks of 1024 columns and one over the forget gate's
  columns, added up over ten grid steps.
-/
module

public import proofs.«01_k».proof.Defs
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal.Run
import Idealize.ShloMosaic.Lib.StableHlo.ReadAt
public import Idealize.ShloMosaic.Lib.Pipeline.ValueKit
public import proofs.«01_k».proof.Proof.Products

@[expose] public section

set_option maxRecDepth 16384

noncomputable section

namespace Cert.InLeft

open Idealize.ShloMosaic Idealize.ShloMosaic.TcCoe Idealize.SL.Sem Cert.Kernel23Ideal Cert.Kernel23Ideal.Gen Cert.Products

theorem step0 (c : Dev nD) (t : Fin cfg0.N) (h0 : cond0_0 (grid0.coords t)) (h1 : ¬cond0_1 (grid0.coords t)) (h2 : ¬cond0_2 (grid0.coords t)) (h3 : ¬cond0_3 (grid0.coords t)) (h4 : ¬cond0_4 (grid0.coords t)) (h5 : ¬cond0_5 (grid0.coords t)) (h6 : ¬cond0_6 (grid0.coords t)) (h7 : ¬cond0_7 (grid0.coords t)) (h8 : ¬cond0_8 (grid0.coords t)) (h9 : ¬cond0_9 (grid0.coords t))
    (x0 : Vec Ideal S1024x1024 .bf16) (x1 : Vec Ideal S1024x1024 .bf16) (x2 : Vec Ideal S1024x1024 .bf16) (x3 : Vec Ideal S1024x1024 .bf16) (x4 : Vec Ideal S1024x1024 .bf16) (x5 : Vec Ideal S1024x1024 .bf16) (x6 : Vec Ideal S1024x1024 .bf16) (x7 : Vec Ideal S1024x1024 .bf16) (x8 : Vec Ideal S1024x1024 .bf16) (x9 : Vec Ideal S1024x1024 .bf16) (x10 : Vec Ideal S1024x128 .f32) (x11 : Vec Ideal S1024x128 .bf16) :
    out0_A_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h0 h1 h2 h3 h4 h5 h6 h7 h8 h9 x0 x1 x2 x3 x4 x5 x6 x7 x8 x9 x10 x11 = k0_pay2 x0 x9 := by
  unfold out0_A_12 kernelRun0_A
  dsimp only
  sl_unfold_run_names
  refine (View.read_writes_full _ _ _ _ _).trans ?_
  rw [View.readAt_full, View.readAt_full, (hs0_0 t).read_unread, (hs0_9 t).read_unread]

theorem step1 (c : Dev nD) (t : Fin cfg0.N) (h0 : ¬cond0_0 (grid0.coords t)) (h1 : cond0_1 (grid0.coords t)) (h2 : ¬cond0_2 (grid0.coords t)) (h3 : ¬cond0_3 (grid0.coords t)) (h4 : ¬cond0_4 (grid0.coords t)) (h5 : ¬cond0_5 (grid0.coords t)) (h6 : ¬cond0_6 (grid0.coords t)) (h7 : ¬cond0_7 (grid0.coords t)) (h8 : ¬cond0_8 (grid0.coords t)) (h9 : ¬cond0_9 (grid0.coords t))
    (x0 : Vec Ideal S1024x1024 .bf16) (x1 : Vec Ideal S1024x1024 .bf16) (x2 : Vec Ideal S1024x1024 .bf16) (x3 : Vec Ideal S1024x1024 .bf16) (x4 : Vec Ideal S1024x1024 .bf16) (x5 : Vec Ideal S1024x1024 .bf16) (x6 : Vec Ideal S1024x1024 .bf16) (x7 : Vec Ideal S1024x1024 .bf16) (x8 : Vec Ideal S1024x1024 .bf16) (x9 : Vec Ideal S1024x1024 .bf16) (x10 : Vec Ideal S1024x128 .f32) (x11 : Vec Ideal S1024x128 .bf16) (xo : Vec Ideal S1024x1024 .f32) :
    out0_B_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h0 h1 h2 h3 h4 h5 h6 h7 h8 h9 x0 x1 x2 x3 x4 x5 x6 x7 x8 x9 x10 x11 xo = k0_pay3 xo x1 x9 := by
  unfold out0_B_12 kernelRun0_B
  dsimp only
  sl_unfold_run_names
  refine (View.read_writes_full _ _ _ _ _).trans ?_
  rw [View.readAt_full, View.readAt_full, View.readAt_full, (hs0_12 t).read_unread, (hs0_1 t).read_unread, (hs0_9 t).read_unread]

theorem step2 (c : Dev nD) (t : Fin cfg0.N) (h0 : ¬cond0_0 (grid0.coords t)) (h1 : ¬cond0_1 (grid0.coords t)) (h2 : cond0_2 (grid0.coords t)) (h3 : ¬cond0_3 (grid0.coords t)) (h4 : ¬cond0_4 (grid0.coords t)) (h5 : ¬cond0_5 (grid0.coords t)) (h6 : ¬cond0_6 (grid0.coords t)) (h7 : ¬cond0_7 (grid0.coords t)) (h8 : ¬cond0_8 (grid0.coords t)) (h9 : ¬cond0_9 (grid0.coords t))
    (x0 : Vec Ideal S1024x1024 .bf16) (x1 : Vec Ideal S1024x1024 .bf16) (x2 : Vec Ideal S1024x1024 .bf16) (x3 : Vec Ideal S1024x1024 .bf16) (x4 : Vec Ideal S1024x1024 .bf16) (x5 : Vec Ideal S1024x1024 .bf16) (x6 : Vec Ideal S1024x1024 .bf16) (x7 : Vec Ideal S1024x1024 .bf16) (x8 : Vec Ideal S1024x1024 .bf16) (x9 : Vec Ideal S1024x1024 .bf16) (x10 : Vec Ideal S1024x128 .f32) (x11 : Vec Ideal S1024x128 .bf16) (xo : Vec Ideal S1024x1024 .f32) :
    out0_C_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h0 h1 h2 h3 h4 h5 h6 h7 h8 h9 x0 x1 x2 x3 x4 x5 x6 x7 x8 x9 x10 x11 xo = k0_pay4 xo x2 x9 := by
  unfold out0_C_12 kernelRun0_C
  dsimp only
  sl_unfold_run_names
  refine (View.read_writes_full _ _ _ _ _).trans ?_
  rw [View.readAt_full, View.readAt_full, View.readAt_full, (hs0_12 t).read_unread, (hs0_2 t).read_unread, (hs0_9 t).read_unread]

theorem step3 (c : Dev nD) (t : Fin cfg0.N) (h0 : ¬cond0_0 (grid0.coords t)) (h1 : ¬cond0_1 (grid0.coords t)) (h2 : ¬cond0_2 (grid0.coords t)) (h3 : cond0_3 (grid0.coords t)) (h4 : ¬cond0_4 (grid0.coords t)) (h5 : ¬cond0_5 (grid0.coords t)) (h6 : ¬cond0_6 (grid0.coords t)) (h7 : ¬cond0_7 (grid0.coords t)) (h8 : ¬cond0_8 (grid0.coords t)) (h9 : ¬cond0_9 (grid0.coords t))
    (x0 : Vec Ideal S1024x1024 .bf16) (x1 : Vec Ideal S1024x1024 .bf16) (x2 : Vec Ideal S1024x1024 .bf16) (x3 : Vec Ideal S1024x1024 .bf16) (x4 : Vec Ideal S1024x1024 .bf16) (x5 : Vec Ideal S1024x1024 .bf16) (x6 : Vec Ideal S1024x1024 .bf16) (x7 : Vec Ideal S1024x1024 .bf16) (x8 : Vec Ideal S1024x1024 .bf16) (x9 : Vec Ideal S1024x1024 .bf16) (x10 : Vec Ideal S1024x128 .f32) (x11 : Vec Ideal S1024x128 .bf16) (xo : Vec Ideal S1024x1024 .f32) :
    out0_D_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h0 h1 h2 h3 h4 h5 h6 h7 h8 h9 x0 x1 x2 x3 x4 x5 x6 x7 x8 x9 x10 x11 xo = k0_pay5 xo x3 x9 := by
  unfold out0_D_12 kernelRun0_D
  dsimp only
  sl_unfold_run_names
  refine (View.read_writes_full _ _ _ _ _).trans ?_
  rw [View.readAt_full, View.readAt_full, View.readAt_full, (hs0_12 t).read_unread, (hs0_3 t).read_unread, (hs0_9 t).read_unread]

theorem step4 (c : Dev nD) (t : Fin cfg0.N) (h0 : ¬cond0_0 (grid0.coords t)) (h1 : ¬cond0_1 (grid0.coords t)) (h2 : ¬cond0_2 (grid0.coords t)) (h3 : ¬cond0_3 (grid0.coords t)) (h4 : cond0_4 (grid0.coords t)) (h5 : ¬cond0_5 (grid0.coords t)) (h6 : ¬cond0_6 (grid0.coords t)) (h7 : ¬cond0_7 (grid0.coords t)) (h8 : ¬cond0_8 (grid0.coords t)) (h9 : ¬cond0_9 (grid0.coords t))
    (x0 : Vec Ideal S1024x1024 .bf16) (x1 : Vec Ideal S1024x1024 .bf16) (x2 : Vec Ideal S1024x1024 .bf16) (x3 : Vec Ideal S1024x1024 .bf16) (x4 : Vec Ideal S1024x1024 .bf16) (x5 : Vec Ideal S1024x1024 .bf16) (x6 : Vec Ideal S1024x1024 .bf16) (x7 : Vec Ideal S1024x1024 .bf16) (x8 : Vec Ideal S1024x1024 .bf16) (x9 : Vec Ideal S1024x1024 .bf16) (x10 : Vec Ideal S1024x128 .f32) (x11 : Vec Ideal S1024x128 .bf16) (xo : Vec Ideal S1024x1024 .f32) :
    out0_E_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h0 h1 h2 h3 h4 h5 h6 h7 h8 h9 x0 x1 x2 x3 x4 x5 x6 x7 x8 x9 x10 x11 xo = k0_pay6 xo x4 x9 := by
  unfold out0_E_12 kernelRun0_E
  dsimp only
  sl_unfold_run_names
  refine (View.read_writes_full _ _ _ _ _).trans ?_
  rw [View.readAt_full, View.readAt_full, View.readAt_full, (hs0_12 t).read_unread, (hs0_4 t).read_unread, (hs0_9 t).read_unread]

theorem step5 (c : Dev nD) (t : Fin cfg0.N) (h0 : ¬cond0_0 (grid0.coords t)) (h1 : ¬cond0_1 (grid0.coords t)) (h2 : ¬cond0_2 (grid0.coords t)) (h3 : ¬cond0_3 (grid0.coords t)) (h4 : ¬cond0_4 (grid0.coords t)) (h5 : cond0_5 (grid0.coords t)) (h6 : ¬cond0_6 (grid0.coords t)) (h7 : ¬cond0_7 (grid0.coords t)) (h8 : ¬cond0_8 (grid0.coords t)) (h9 : ¬cond0_9 (grid0.coords t))
    (x0 : Vec Ideal S1024x1024 .bf16) (x1 : Vec Ideal S1024x1024 .bf16) (x2 : Vec Ideal S1024x1024 .bf16) (x3 : Vec Ideal S1024x1024 .bf16) (x4 : Vec Ideal S1024x1024 .bf16) (x5 : Vec Ideal S1024x1024 .bf16) (x6 : Vec Ideal S1024x1024 .bf16) (x7 : Vec Ideal S1024x1024 .bf16) (x8 : Vec Ideal S1024x1024 .bf16) (x9 : Vec Ideal S1024x1024 .bf16) (x10 : Vec Ideal S1024x128 .f32) (x11 : Vec Ideal S1024x128 .bf16) (xo : Vec Ideal S1024x1024 .f32) :
    out0_F_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h0 h1 h2 h3 h4 h5 h6 h7 h8 h9 x0 x1 x2 x3 x4 x5 x6 x7 x8 x9 x10 x11 xo = k0_pay7 xo x5 x9 := by
  unfold out0_F_12 kernelRun0_F
  dsimp only
  sl_unfold_run_names
  refine (View.read_writes_full _ _ _ _ _).trans ?_
  rw [View.readAt_full, View.readAt_full, View.readAt_full, (hs0_12 t).read_unread, (hs0_5 t).read_unread, (hs0_9 t).read_unread]

theorem step6 (c : Dev nD) (t : Fin cfg0.N) (h0 : ¬cond0_0 (grid0.coords t)) (h1 : ¬cond0_1 (grid0.coords t)) (h2 : ¬cond0_2 (grid0.coords t)) (h3 : ¬cond0_3 (grid0.coords t)) (h4 : ¬cond0_4 (grid0.coords t)) (h5 : ¬cond0_5 (grid0.coords t)) (h6 : cond0_6 (grid0.coords t)) (h7 : ¬cond0_7 (grid0.coords t)) (h8 : ¬cond0_8 (grid0.coords t)) (h9 : ¬cond0_9 (grid0.coords t))
    (x0 : Vec Ideal S1024x1024 .bf16) (x1 : Vec Ideal S1024x1024 .bf16) (x2 : Vec Ideal S1024x1024 .bf16) (x3 : Vec Ideal S1024x1024 .bf16) (x4 : Vec Ideal S1024x1024 .bf16) (x5 : Vec Ideal S1024x1024 .bf16) (x6 : Vec Ideal S1024x1024 .bf16) (x7 : Vec Ideal S1024x1024 .bf16) (x8 : Vec Ideal S1024x1024 .bf16) (x9 : Vec Ideal S1024x1024 .bf16) (x10 : Vec Ideal S1024x128 .f32) (x11 : Vec Ideal S1024x128 .bf16) (xo : Vec Ideal S1024x1024 .f32) :
    out0_G_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h0 h1 h2 h3 h4 h5 h6 h7 h8 h9 x0 x1 x2 x3 x4 x5 x6 x7 x8 x9 x10 x11 xo = k0_pay8 xo x6 x9 := by
  unfold out0_G_12 kernelRun0_G
  dsimp only
  sl_unfold_run_names
  refine (View.read_writes_full _ _ _ _ _).trans ?_
  rw [View.readAt_full, View.readAt_full, View.readAt_full, (hs0_12 t).read_unread, (hs0_6 t).read_unread, (hs0_9 t).read_unread]

theorem step7 (c : Dev nD) (t : Fin cfg0.N) (h0 : ¬cond0_0 (grid0.coords t)) (h1 : ¬cond0_1 (grid0.coords t)) (h2 : ¬cond0_2 (grid0.coords t)) (h3 : ¬cond0_3 (grid0.coords t)) (h4 : ¬cond0_4 (grid0.coords t)) (h5 : ¬cond0_5 (grid0.coords t)) (h6 : ¬cond0_6 (grid0.coords t)) (h7 : cond0_7 (grid0.coords t)) (h8 : ¬cond0_8 (grid0.coords t)) (h9 : ¬cond0_9 (grid0.coords t))
    (x0 : Vec Ideal S1024x1024 .bf16) (x1 : Vec Ideal S1024x1024 .bf16) (x2 : Vec Ideal S1024x1024 .bf16) (x3 : Vec Ideal S1024x1024 .bf16) (x4 : Vec Ideal S1024x1024 .bf16) (x5 : Vec Ideal S1024x1024 .bf16) (x6 : Vec Ideal S1024x1024 .bf16) (x7 : Vec Ideal S1024x1024 .bf16) (x8 : Vec Ideal S1024x1024 .bf16) (x9 : Vec Ideal S1024x1024 .bf16) (x10 : Vec Ideal S1024x128 .f32) (x11 : Vec Ideal S1024x128 .bf16) (xo : Vec Ideal S1024x1024 .f32) :
    out0_H_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h0 h1 h2 h3 h4 h5 h6 h7 h8 h9 x0 x1 x2 x3 x4 x5 x6 x7 x8 x9 x10 x11 xo = k0_pay9 xo x7 x9 := by
  unfold out0_H_12 kernelRun0_H
  dsimp only
  sl_unfold_run_names
  refine (View.read_writes_full _ _ _ _ _).trans ?_
  rw [View.readAt_full, View.readAt_full, View.readAt_full, (hs0_12 t).read_unread, (hs0_7 t).read_unread, (hs0_9 t).read_unread]

theorem step8 (c : Dev nD) (t : Fin cfg0.N) (h0 : ¬cond0_0 (grid0.coords t)) (h1 : ¬cond0_1 (grid0.coords t)) (h2 : ¬cond0_2 (grid0.coords t)) (h3 : ¬cond0_3 (grid0.coords t)) (h4 : ¬cond0_4 (grid0.coords t)) (h5 : ¬cond0_5 (grid0.coords t)) (h6 : ¬cond0_6 (grid0.coords t)) (h7 : ¬cond0_7 (grid0.coords t)) (h8 : cond0_8 (grid0.coords t)) (h9 : ¬cond0_9 (grid0.coords t))
    (x0 : Vec Ideal S1024x1024 .bf16) (x1 : Vec Ideal S1024x1024 .bf16) (x2 : Vec Ideal S1024x1024 .bf16) (x3 : Vec Ideal S1024x1024 .bf16) (x4 : Vec Ideal S1024x1024 .bf16) (x5 : Vec Ideal S1024x1024 .bf16) (x6 : Vec Ideal S1024x1024 .bf16) (x7 : Vec Ideal S1024x1024 .bf16) (x8 : Vec Ideal S1024x1024 .bf16) (x9 : Vec Ideal S1024x1024 .bf16) (x10 : Vec Ideal S1024x128 .f32) (x11 : Vec Ideal S1024x128 .bf16) (xo : Vec Ideal S1024x1024 .f32) :
    out0_I_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h0 h1 h2 h3 h4 h5 h6 h7 h8 h9 x0 x1 x2 x3 x4 x5 x6 x7 x8 x9 x10 x11 xo = k0_pay10 xo x8 x9 := by
  unfold out0_I_12 kernelRun0_I
  dsimp only
  sl_unfold_run_names
  refine (View.read_writes_full _ _ _ _ _).trans ?_
  rw [View.readAt_full, View.readAt_full, View.readAt_full, (hs0_12 t).read_unread, (hs0_8 t).read_unread, (hs0_9 t).read_unread]

theorem step9 (c : Dev nD) (t : Fin cfg0.N) (h0 : ¬cond0_0 (grid0.coords t)) (h1 : ¬cond0_1 (grid0.coords t)) (h2 : ¬cond0_2 (grid0.coords t)) (h3 : ¬cond0_3 (grid0.coords t)) (h4 : ¬cond0_4 (grid0.coords t)) (h5 : ¬cond0_5 (grid0.coords t)) (h6 : ¬cond0_6 (grid0.coords t)) (h7 : ¬cond0_7 (grid0.coords t)) (h8 : ¬cond0_8 (grid0.coords t)) (h9 : cond0_9 (grid0.coords t))
    (x0 : Vec Ideal S1024x1024 .bf16) (x1 : Vec Ideal S1024x1024 .bf16) (x2 : Vec Ideal S1024x1024 .bf16) (x3 : Vec Ideal S1024x1024 .bf16) (x4 : Vec Ideal S1024x1024 .bf16) (x5 : Vec Ideal S1024x1024 .bf16) (x6 : Vec Ideal S1024x1024 .bf16) (x7 : Vec Ideal S1024x1024 .bf16) (x8 : Vec Ideal S1024x1024 .bf16) (x9 : Vec Ideal S1024x1024 .bf16) (x10 : Vec Ideal S1024x128 .f32) (x11 : Vec Ideal S1024x128 .bf16) (xo : Vec Ideal S1024x1024 .f32) :
    out0_J_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h0 h1 h2 h3 h4 h5 h6 h7 h8 h9 x0 x1 x2 x3 x4 x5 x6 x7 x8 x9 x10 x11 xo = k0_pay1 xo x10 x11 := by
  unfold out0_J_12 kernelRun0_J
  dsimp only
  sl_unfold_run_names
  refine (View.read_writes_full _ _ _ _ _).trans ?_
  rw [View.readAt_full, View.readAt_full, View.readAt_full, (hs0_12 t).read_unread, (hs0_10 t).read_unread, (hs0_11 t).read_unread]

theorem pay2_at (x0 x1 : Vec Ideal S1024x1024 .bf16) (x y : Fin 1024) :
    (k0_pay2 x0 x1 : FVec Ideal S1024x1024 .f32) (ix2 x y) = ∑ k : Fin 1024, x0 (ix2 x k) * x1 (ix2 y k) := by
  unfold k0_pay2
  pointwise

theorem pay1_at (xo : Vec Ideal S1024x1024 .f32) (x0 : Vec Ideal S1024x128 .f32) (x1 : Vec Ideal S1024x128 .bf16) (x y : Fin 1024) :
    (k0_pay1 xo x0 x1 : FVec Ideal S1024x1024 .f32) (ix2 x y) = xo (ix2 x y) + ∑ k : Fin 128, x0 (ix2 x k) * x1 (ix2 y k) := by
  unfold k0_pay1
  pointwise

theorem pay3_at (xo : Vec Ideal S1024x1024 .f32) (x0 x1 : Vec Ideal S1024x1024 .bf16) (x y : Fin 1024) :
    (k0_pay3 xo x0 x1 : FVec Ideal S1024x1024 .f32) (ix2 x y) = xo (ix2 x y) + ∑ k : Fin 1024, x0 (ix2 x k) * x1 (ix2 y k) := by
  unfold k0_pay3
  pointwise

theorem pay4_at (xo : Vec Ideal S1024x1024 .f32) (x0 x1 : Vec Ideal S1024x1024 .bf16) (x y : Fin 1024) :
    (k0_pay4 xo x0 x1 : FVec Ideal S1024x1024 .f32) (ix2 x y) = xo (ix2 x y) + ∑ k : Fin 1024, x0 (ix2 x k) * x1 (ix2 y k) := by
  unfold k0_pay4
  pointwise

theorem pay5_at (xo : Vec Ideal S1024x1024 .f32) (x0 x1 : Vec Ideal S1024x1024 .bf16) (x y : Fin 1024) :
    (k0_pay5 xo x0 x1 : FVec Ideal S1024x1024 .f32) (ix2 x y) = xo (ix2 x y) + ∑ k : Fin 1024, x0 (ix2 x k) * x1 (ix2 y k) := by
  unfold k0_pay5
  pointwise

theorem pay6_at (xo : Vec Ideal S1024x1024 .f32) (x0 x1 : Vec Ideal S1024x1024 .bf16) (x y : Fin 1024) :
    (k0_pay6 xo x0 x1 : FVec Ideal S1024x1024 .f32) (ix2 x y) = xo (ix2 x y) + ∑ k : Fin 1024, x0 (ix2 x k) * x1 (ix2 y k) := by
  unfold k0_pay6
  pointwise

theorem pay7_at (xo : Vec Ideal S1024x1024 .f32) (x0 x1 : Vec Ideal S1024x1024 .bf16) (x y : Fin 1024) :
    (k0_pay7 xo x0 x1 : FVec Ideal S1024x1024 .f32) (ix2 x y) = xo (ix2 x y) + ∑ k : Fin 1024, x0 (ix2 x k) * x1 (ix2 y k) := by
  unfold k0_pay7
  pointwise

theorem pay8_at (xo : Vec Ideal S1024x1024 .f32) (x0 x1 : Vec Ideal S1024x1024 .bf16) (x y : Fin 1024) :
    (k0_pay8 xo x0 x1 : FVec Ideal S1024x1024 .f32) (ix2 x y) = xo (ix2 x y) + ∑ k : Fin 1024, x0 (ix2 x k) * x1 (ix2 y k) := by
  unfold k0_pay8
  pointwise

theorem pay9_at (xo : Vec Ideal S1024x1024 .f32) (x0 x1 : Vec Ideal S1024x1024 .bf16) (x y : Fin 1024) :
    (k0_pay9 xo x0 x1 : FVec Ideal S1024x1024 .f32) (ix2 x y) = xo (ix2 x y) + ∑ k : Fin 1024, x0 (ix2 x k) * x1 (ix2 y k) := by
  unfold k0_pay9
  pointwise

theorem pay10_at (xo : Vec Ideal S1024x1024 .f32) (x0 x1 : Vec Ideal S1024x1024 .bf16) (x y : Fin 1024) :
    (k0_pay10 xo x0 x1 : FVec Ideal S1024x1024 .f32) (ix2 x y) = xo (ix2 x y) + ∑ k : Fin 1024, x0 (ix2 x k) * x1 (ix2 y k) := by
  unfold k0_pay10
  pointwise

variable (m : (ℓ : Loc nD τ sig) → Buf (Elt Ideal) ℓ) (c : Dev nD)

theorem index_at : ∀ t : Fin cfg0.N, win0_0.index t = ![t.val / 10, 0] ∧ win0_1.index t = ![t.val / 10, 0] ∧ win0_2.index t = ![t.val / 10, 0] ∧ win0_3.index t = ![t.val / 10, 0] ∧ win0_4.index t = ![t.val / 10, 0] ∧ win0_5.index t = ![t.val / 10, 0] ∧ win0_6.index t = ![t.val / 10, 0] ∧ win0_7.index t = ![t.val / 10, 0] ∧ win0_8.index t = ![t.val / 10, 0] ∧ win0_9.index t = ![0, min (t.val % 10) 8] ∧ win0_10.index t = ![t.val / 10, 0] ∧ win0_11.index t = ![0, 0] ∧ win0_12.index t = ![t.val / 10, 0] :=
  (by decide +kernel : ∀ t : Fin grid0.N, _)

theorem disjoint12 : ∀ t t' : Fin cfg0.N, (cfg0.win 12).flush t = true → (cfg0.win 12).flush t' = true → t ≠ t' →
    Disjoint ((cfg0.win 12).blk t).view.set ((cfg0.win 12).blk t').view.set := by
  intro t t' hf hf' hne
  refine (cfg0.win 12).disjoint_blk fun h => hne ?_
  have e : win0_12.index t = win0_12.index t' := h
  rw [(index_at t).2.2.2.2.2.2.2.2.2.2.2.2, (index_at t').2.2.2.2.2.2.2.2.2.2.2.2] at e
  have e0 : t.val / 10 = t'.val / 10 := congrFun e 0
  have r := (flush0_12 t).1 hf
  have r' := (flush0_12 t').1 hf'
  exact Fin.ext (by omega)

/-- The arguments: the weights and the gradient of the projection. -/
abbrev inW : FVec Ideal S1024x9232 .f32 := m ((c.tc : Thread nD τ).loc main_arg1)
abbrev inD : FVec Ideal S8192x9232 .f32 := m ((c.tc : Thread nD τ).loc main_arg2)

/-- The operands of the call. -/
abbrev P0 : FVec Ideal S8192x1024 .bf16 := V m c main_v1
abbrev P1 : FVec Ideal S8192x1024 .bf16 := V m c main_v3
abbrev P2 : FVec Ideal S8192x1024 .bf16 := V m c main_v5
abbrev P3 : FVec Ideal S8192x1024 .bf16 := V m c main_v7
abbrev P4 : FVec Ideal S8192x1024 .bf16 := V m c main_v9
abbrev P5 : FVec Ideal S8192x1024 .bf16 := V m c main_v11
abbrev P6 : FVec Ideal S8192x1024 .bf16 := V m c main_v13
abbrev P7 : FVec Ideal S8192x1024 .bf16 := V m c main_v15
abbrev P8 : FVec Ideal S8192x1024 .bf16 := V m c main_v17
abbrev W : FVec Ideal S1024x9216 .bf16 := V m c main_v21
abbrev XA : FVec Ideal S8192x128 .f32 := V m c main_v28
abbrev XB : FVec Ideal S1024x128 .bf16 := V m c main_v25

theorem P0_at (r : Fin 8192) (k : Fin 1024) : P0 m c (ix2 r k) = inD m c (ix2 r ⟨0 + k.val, by omega⟩) := by
  unfold P0 V
  after_reads_simp
  pointwise

theorem P1_at (r : Fin 8192) (k : Fin 1024) : P1 m c (ix2 r k) = inD m c (ix2 r ⟨1024 + k.val, by omega⟩) := by
  unfold P1 V
  after_reads_simp
  pointwise

theorem P2_at (r : Fin 8192) (k : Fin 1024) : P2 m c (ix2 r k) = inD m c (ix2 r ⟨2048 + k.val, by omega⟩) := by
  unfold P2 V
  after_reads_simp
  pointwise

theorem P3_at (r : Fin 8192) (k : Fin 1024) : P3 m c (ix2 r k) = inD m c (ix2 r ⟨3072 + k.val, by omega⟩) := by
  unfold P3 V
  after_reads_simp
  pointwise

theorem P4_at (r : Fin 8192) (k : Fin 1024) : P4 m c (ix2 r k) = inD m c (ix2 r ⟨4096 + k.val, by omega⟩) := by
  unfold P4 V
  after_reads_simp
  pointwise

theorem P5_at (r : Fin 8192) (k : Fin 1024) : P5 m c (ix2 r k) = inD m c (ix2 r ⟨5120 + k.val, by omega⟩) := by
  unfold P5 V
  after_reads_simp
  pointwise

theorem P6_at (r : Fin 8192) (k : Fin 1024) : P6 m c (ix2 r k) = inD m c (ix2 r ⟨6144 + k.val, by omega⟩) := by
  unfold P6 V
  after_reads_simp
  pointwise

theorem P7_at (r : Fin 8192) (k : Fin 1024) : P7 m c (ix2 r k) = inD m c (ix2 r ⟨7184 + k.val, by omega⟩) := by
  unfold P7 V
  after_reads_simp
  pointwise

theorem P8_at (r : Fin 8192) (k : Fin 1024) : P8 m c (ix2 r k) = inD m c (ix2 r ⟨8208 + k.val, by omega⟩) := by
  unfold P8 V
  after_reads_simp
  pointwise

theorem W_low (y : Fin 1024) (k : Fin 7168) : W m c (ix2 y ⟨k.val, by omega⟩) = inW m c (ix2 y ⟨k.val, by omega⟩) := by
  unfold W V
  after_reads_simp
  pointwise
  after_reads_simp
  pointwise

theorem W_high (y : Fin 1024) (k : Fin 2048) : W m c (ix2 y ⟨7168 + k.val, by omega⟩) = inW m c (ix2 y ⟨7184 + k.val, by omega⟩) := by
  unfold W V
  after_reads_simp
  pointwise
  after_reads_simp
  pointwise

/-- The forget gate's columns: sixteen, and zeros after them. -/
theorem XA_low (r : Fin 8192) (k : Fin 16) : XA m c (ix2 r ⟨k.val, by omega⟩) = inD m c (ix2 r ⟨7168 + k.val, by omega⟩) := by
  unfold XA V
  after_reads_simp
  pointwise

theorem XA_high (r : Fin 8192) (k : Fin 112) : @Eq EReal (XA m c (ix2 r ⟨16 + k.val, by omega⟩)) 0 := by
  unfold XA V
  after_reads_simp
  pointwise

theorem XB_low (y : Fin 1024) (k : Fin 16) : XB m c (ix2 y ⟨k.val, by omega⟩) = inW m c (ix2 y ⟨7168 + k.val, by omega⟩) := by
  unfold XB V
  after_reads_simp
  pointwise
  after_reads_simp
  pointwise

/-- The blocks of a grid step. -/
def bP0 (t : Fin cfg0.N) : FVec Ideal S1024x1024 .bf16 := iblk m c 0 t
def bP1 (t : Fin cfg0.N) : FVec Ideal S1024x1024 .bf16 := iblk m c 1 t
def bP2 (t : Fin cfg0.N) : FVec Ideal S1024x1024 .bf16 := iblk m c 2 t
def bP3 (t : Fin cfg0.N) : FVec Ideal S1024x1024 .bf16 := iblk m c 3 t
def bP4 (t : Fin cfg0.N) : FVec Ideal S1024x1024 .bf16 := iblk m c 4 t
def bP5 (t : Fin cfg0.N) : FVec Ideal S1024x1024 .bf16 := iblk m c 5 t
def bP6 (t : Fin cfg0.N) : FVec Ideal S1024x1024 .bf16 := iblk m c 6 t
def bP7 (t : Fin cfg0.N) : FVec Ideal S1024x1024 .bf16 := iblk m c 7 t
def bP8 (t : Fin cfg0.N) : FVec Ideal S1024x1024 .bf16 := iblk m c 8 t
def bW (t : Fin cfg0.N) : FVec Ideal S1024x1024 .bf16 := iblk m c 9 t
def bXA (t : Fin cfg0.N) : FVec Ideal S1024x128 .f32 := iblk m c 10 t
def bXB (t : Fin cfg0.N) : FVec Ideal S1024x128 .bf16 := iblk m c 11 t

/-- One addend of the product. -/
def term (x y k : ℕ) : EReal :=
  if h : x < 8192 ∧ y < 1024 ∧ k < 9232 then inD m c (ix2 ⟨x, h.1⟩ ⟨k, h.2.2⟩) * inW m c (ix2 ⟨y, h.2.1⟩ ⟨k, h.2.2⟩) else 0

/-- What the grid step `s` of ten adds. -/
def part (x y : ℕ) (s : ℕ) : EReal :=
  if s < 7 then ∑ k : Fin 1024, term m c x y (1024 * s + k.val)
  else if s < 9 then ∑ k : Fin 1024, term m c x y (1024 * s + 16 + k.val)
  else ∑ k : Fin 16, term m c x y (7168 + k.val)

theorem add0 (t : Fin cfg0.N) (hi : t.val % 10 = 0) (x y : Fin 1024) :
    ∑ k : Fin 1024, bP0 m c t (ix2 x k) * bW m c t (ix2 y k) = part m c (1024 * (t.val / 10) + x.val) y.val 0 := by
  have hN : cfg0.N = 80 := N_0
  have ht := t.isLt
  have hm : min (t.val % 10) 8 = 0 := by omega
  refine Eq.trans ?_ (show ∑ k : Fin 1024, term m c (1024 * (t.val / 10) + x.val) y.val (0 + k.val) = _ from rfl)
  refine Finset.sum_congr rfl fun k _ => ?_
  unfold term
  rw [dif_pos ⟨by omega, by omega, by omega⟩]
  refine congrArg₂ (· * ·) ?_ ?_
  · refine Eq.trans ?_ (P0_at m c ⟨1024 * (t.val / 10) + x.val, by omega⟩ k)
    unfold bP0
    blk_ext [iblk, index_at t]
  · refine Eq.trans ?_ ((W_low m c y ⟨0 + k.val, by omega⟩).trans (congrArg (inW m c) (congrArg (ix2 y) (Fin.ext (rfl)))))
    unfold bW
    blk_ext [iblk, index_at t, hm]

theorem add1 (t : Fin cfg0.N) (hi : t.val % 10 = 1) (x y : Fin 1024) :
    ∑ k : Fin 1024, bP1 m c t (ix2 x k) * bW m c t (ix2 y k) = part m c (1024 * (t.val / 10) + x.val) y.val 1 := by
  have hN : cfg0.N = 80 := N_0
  have ht := t.isLt
  have hm : min (t.val % 10) 8 = 1 := by omega
  refine Eq.trans ?_ (show ∑ k : Fin 1024, term m c (1024 * (t.val / 10) + x.val) y.val (1024 + k.val) = _ from rfl)
  refine Finset.sum_congr rfl fun k _ => ?_
  unfold term
  rw [dif_pos ⟨by omega, by omega, by omega⟩]
  refine congrArg₂ (· * ·) ?_ ?_
  · refine Eq.trans ?_ (P1_at m c ⟨1024 * (t.val / 10) + x.val, by omega⟩ k)
    unfold bP1
    blk_ext [iblk, index_at t]
  · refine Eq.trans ?_ ((W_low m c y ⟨1024 + k.val, by omega⟩).trans (congrArg (inW m c) (congrArg (ix2 y) (Fin.ext (rfl)))))
    unfold bW
    blk_ext [iblk, index_at t, hm]

theorem add2 (t : Fin cfg0.N) (hi : t.val % 10 = 2) (x y : Fin 1024) :
    ∑ k : Fin 1024, bP2 m c t (ix2 x k) * bW m c t (ix2 y k) = part m c (1024 * (t.val / 10) + x.val) y.val 2 := by
  have hN : cfg0.N = 80 := N_0
  have ht := t.isLt
  have hm : min (t.val % 10) 8 = 2 := by omega
  refine Eq.trans ?_ (show ∑ k : Fin 1024, term m c (1024 * (t.val / 10) + x.val) y.val (2048 + k.val) = _ from rfl)
  refine Finset.sum_congr rfl fun k _ => ?_
  unfold term
  rw [dif_pos ⟨by omega, by omega, by omega⟩]
  refine congrArg₂ (· * ·) ?_ ?_
  · refine Eq.trans ?_ (P2_at m c ⟨1024 * (t.val / 10) + x.val, by omega⟩ k)
    unfold bP2
    blk_ext [iblk, index_at t]
  · refine Eq.trans ?_ ((W_low m c y ⟨2048 + k.val, by omega⟩).trans (congrArg (inW m c) (congrArg (ix2 y) (Fin.ext (rfl)))))
    unfold bW
    blk_ext [iblk, index_at t, hm]

theorem add3 (t : Fin cfg0.N) (hi : t.val % 10 = 3) (x y : Fin 1024) :
    ∑ k : Fin 1024, bP3 m c t (ix2 x k) * bW m c t (ix2 y k) = part m c (1024 * (t.val / 10) + x.val) y.val 3 := by
  have hN : cfg0.N = 80 := N_0
  have ht := t.isLt
  have hm : min (t.val % 10) 8 = 3 := by omega
  refine Eq.trans ?_ (show ∑ k : Fin 1024, term m c (1024 * (t.val / 10) + x.val) y.val (3072 + k.val) = _ from rfl)
  refine Finset.sum_congr rfl fun k _ => ?_
  unfold term
  rw [dif_pos ⟨by omega, by omega, by omega⟩]
  refine congrArg₂ (· * ·) ?_ ?_
  · refine Eq.trans ?_ (P3_at m c ⟨1024 * (t.val / 10) + x.val, by omega⟩ k)
    unfold bP3
    blk_ext [iblk, index_at t]
  · refine Eq.trans ?_ ((W_low m c y ⟨3072 + k.val, by omega⟩).trans (congrArg (inW m c) (congrArg (ix2 y) (Fin.ext (rfl)))))
    unfold bW
    blk_ext [iblk, index_at t, hm]

theorem add4 (t : Fin cfg0.N) (hi : t.val % 10 = 4) (x y : Fin 1024) :
    ∑ k : Fin 1024, bP4 m c t (ix2 x k) * bW m c t (ix2 y k) = part m c (1024 * (t.val / 10) + x.val) y.val 4 := by
  have hN : cfg0.N = 80 := N_0
  have ht := t.isLt
  have hm : min (t.val % 10) 8 = 4 := by omega
  refine Eq.trans ?_ (show ∑ k : Fin 1024, term m c (1024 * (t.val / 10) + x.val) y.val (4096 + k.val) = _ from rfl)
  refine Finset.sum_congr rfl fun k _ => ?_
  unfold term
  rw [dif_pos ⟨by omega, by omega, by omega⟩]
  refine congrArg₂ (· * ·) ?_ ?_
  · refine Eq.trans ?_ (P4_at m c ⟨1024 * (t.val / 10) + x.val, by omega⟩ k)
    unfold bP4
    blk_ext [iblk, index_at t]
  · refine Eq.trans ?_ ((W_low m c y ⟨4096 + k.val, by omega⟩).trans (congrArg (inW m c) (congrArg (ix2 y) (Fin.ext (rfl)))))
    unfold bW
    blk_ext [iblk, index_at t, hm]

theorem add5 (t : Fin cfg0.N) (hi : t.val % 10 = 5) (x y : Fin 1024) :
    ∑ k : Fin 1024, bP5 m c t (ix2 x k) * bW m c t (ix2 y k) = part m c (1024 * (t.val / 10) + x.val) y.val 5 := by
  have hN : cfg0.N = 80 := N_0
  have ht := t.isLt
  have hm : min (t.val % 10) 8 = 5 := by omega
  refine Eq.trans ?_ (show ∑ k : Fin 1024, term m c (1024 * (t.val / 10) + x.val) y.val (5120 + k.val) = _ from rfl)
  refine Finset.sum_congr rfl fun k _ => ?_
  unfold term
  rw [dif_pos ⟨by omega, by omega, by omega⟩]
  refine congrArg₂ (· * ·) ?_ ?_
  · refine Eq.trans ?_ (P5_at m c ⟨1024 * (t.val / 10) + x.val, by omega⟩ k)
    unfold bP5
    blk_ext [iblk, index_at t]
  · refine Eq.trans ?_ ((W_low m c y ⟨5120 + k.val, by omega⟩).trans (congrArg (inW m c) (congrArg (ix2 y) (Fin.ext (rfl)))))
    unfold bW
    blk_ext [iblk, index_at t, hm]

theorem add6 (t : Fin cfg0.N) (hi : t.val % 10 = 6) (x y : Fin 1024) :
    ∑ k : Fin 1024, bP6 m c t (ix2 x k) * bW m c t (ix2 y k) = part m c (1024 * (t.val / 10) + x.val) y.val 6 := by
  have hN : cfg0.N = 80 := N_0
  have ht := t.isLt
  have hm : min (t.val % 10) 8 = 6 := by omega
  refine Eq.trans ?_ (show ∑ k : Fin 1024, term m c (1024 * (t.val / 10) + x.val) y.val (6144 + k.val) = _ from rfl)
  refine Finset.sum_congr rfl fun k _ => ?_
  unfold term
  rw [dif_pos ⟨by omega, by omega, by omega⟩]
  refine congrArg₂ (· * ·) ?_ ?_
  · refine Eq.trans ?_ (P6_at m c ⟨1024 * (t.val / 10) + x.val, by omega⟩ k)
    unfold bP6
    blk_ext [iblk, index_at t]
  · refine Eq.trans ?_ ((W_low m c y ⟨6144 + k.val, by omega⟩).trans (congrArg (inW m c) (congrArg (ix2 y) (Fin.ext (rfl)))))
    unfold bW
    blk_ext [iblk, index_at t, hm]

theorem add7 (t : Fin cfg0.N) (hi : t.val % 10 = 7) (x y : Fin 1024) :
    ∑ k : Fin 1024, bP7 m c t (ix2 x k) * bW m c t (ix2 y k) = part m c (1024 * (t.val / 10) + x.val) y.val 7 := by
  have hN : cfg0.N = 80 := N_0
  have ht := t.isLt
  have hm : min (t.val % 10) 8 = 7 := by omega
  refine Eq.trans ?_ (show ∑ k : Fin 1024, term m c (1024 * (t.val / 10) + x.val) y.val (7184 + k.val) = _ from rfl)
  refine Finset.sum_congr rfl fun k _ => ?_
  unfold term
  rw [dif_pos ⟨by omega, by omega, by omega⟩]
  refine congrArg₂ (· * ·) ?_ ?_
  · refine Eq.trans ?_ (P7_at m c ⟨1024 * (t.val / 10) + x.val, by omega⟩ k)
    unfold bP7
    blk_ext [iblk, index_at t]
  · refine Eq.trans ?_ ((W_high m c y ⟨0 + k.val, by omega⟩).trans (congrArg (inW m c) (congrArg (ix2 y) (Fin.ext (by show 7184 + (0 + k.val) = 7184 + k.val; omega)))))
    unfold bW
    blk_ext [iblk, index_at t, hm]

theorem add8 (t : Fin cfg0.N) (hi : t.val % 10 = 8) (x y : Fin 1024) :
    ∑ k : Fin 1024, bP8 m c t (ix2 x k) * bW m c t (ix2 y k) = part m c (1024 * (t.val / 10) + x.val) y.val 8 := by
  have hN : cfg0.N = 80 := N_0
  have ht := t.isLt
  have hm : min (t.val % 10) 8 = 8 := by omega
  refine Eq.trans ?_ (show ∑ k : Fin 1024, term m c (1024 * (t.val / 10) + x.val) y.val (8208 + k.val) = _ from rfl)
  refine Finset.sum_congr rfl fun k _ => ?_
  unfold term
  rw [dif_pos ⟨by omega, by omega, by omega⟩]
  refine congrArg₂ (· * ·) ?_ ?_
  · refine Eq.trans ?_ (P8_at m c ⟨1024 * (t.val / 10) + x.val, by omega⟩ k)
    unfold bP8
    blk_ext [iblk, index_at t]
  · refine Eq.trans ?_ ((W_high m c y ⟨1024 + k.val, by omega⟩).trans (congrArg (inW m c) (congrArg (ix2 y) (Fin.ext (by show 7184 + (1024 + k.val) = 8208 + k.val; omega)))))
    unfold bW
    blk_ext [iblk, index_at t, hm]

theorem add9 (t : Fin cfg0.N) (x y : Fin 1024) :
    ∑ k : Fin 128, bXA m c t (ix2 x k) * bXB m c t (ix2 y k) = part m c (1024 * (t.val / 10) + x.val) y.val 9 := by
  have hN : cfg0.N = 80 := N_0
  have ht := t.isLt
  refine Eq.trans ?_ (show ∑ k : Fin 16, term m c (1024 * (t.val / 10) + x.val) y.val (7168 + k.val) = _ from rfl)
  have ha : ∀ k : Fin 128, bXA m c t (ix2 x k) = XA m c (ix2 ⟨1024 * (t.val / 10) + x.val, by omega⟩ k) := fun k => by
    unfold bXA
    blk_ext [iblk, index_at t]
  have hb : ∀ k : Fin 128, bXB m c t (ix2 y k) = XB m c (ix2 y k) := fun k => by
    unfold bXB
    blk_ext [iblk, index_at t]
  refine (Fin.sum_univ_add (a := 16) (b := 112) (fun k : Fin 128 => bXA m c t (ix2 x k) * bXB m c t (ix2 y k))).trans ?_
  refine (congrArg₂ (· + ·) (Finset.sum_congr rfl fun k _ => ?_) (Finset.sum_eq_zero fun k _ => ?_)).trans (add_zero _)
  · unfold term
    rw [dif_pos ⟨by omega, by omega, by omega⟩, ha, hb]
    exact congrArg₂ (· * ·) (XA_low m c _ k) (XB_low m c y k)
  · rw [ha]
    refine (congrArg (· * bXB m c t (ix2 y (Fin.natAdd 16 k))) (XA_high m c ⟨1024 * (t.val / 10) + x.val, by omega⟩ k)).trans ?_
    exact zero_mul _

theorem outs_at (q j : ℕ) (hj : j < 10) (h : 10 * q + j < cfg0.N) (x y : Fin 1024) :
    (outsAt0 m c (10 * q + j) h : Vec Ideal S1024x1024 .f32) (ix2 x y) = ∑ s ∈ Finset.range (j + 1), part m c (1024 * q + x.val) y.val s := by
  refine (run_sum (J := 10) (fun n h => (outsAt0 m c n h : Vec Ideal S1024x1024 .f32) (ix2 x y))
    (fun n => part m c (1024 * (n / 10) + x.val) y.val (n % 10)) ?_ ?_ q j hj h).trans ?_
  · intro n h h0
    refine (congrFun ((outsAt0_A m c ⟨n, h⟩ h0 (by show ¬ n % 10 = 1; omega) (by show ¬ n % 10 = 2; omega) (by show ¬ n % 10 = 3; omega) (by show ¬ n % 10 = 4; omega) (by show ¬ n % 10 = 5; omega) (by show ¬ n % 10 = 6; omega) (by show ¬ n % 10 = 7; omega) (by show ¬ n % 10 = 8; omega) (by show ¬ n % 10 = 9; omega)).trans
      (step0 c ⟨n, h⟩ _ _ _ _ _ _ _ _ _ _ _ _ _ _ _ _ _ _ _ _ _ _)) (ix2 x y)).trans ?_
    rw [pay2_at]
    show _ = part m c (1024 * (n / 10) + x.val) y.val (n % 10)
    rw [h0]
    exact add0 m c ⟨n, h⟩ h0 x y
  · intro n h h0
    show _ = _ + part m c (1024 * (n / 10) + x.val) y.val (n % 10)
    have hc : n % 10 = 1 ∨ n % 10 = 2 ∨ n % 10 = 3 ∨ n % 10 = 4 ∨ n % 10 = 5 ∨ n % 10 = 6 ∨ n % 10 = 7 ∨ n % 10 = 8 ∨ n % 10 = 9 := by omega
    rcases hc with hi | hi | hi | hi | hi | hi | hi | hi | hi
    · refine (congrFun ((outsAt0_B m c ⟨n, h⟩ (by show ¬ n % 10 = 0; omega) hi (by show ¬ n % 10 = 2; omega) (by show ¬ n % 10 = 3; omega) (by show ¬ n % 10 = 4; omega) (by show ¬ n % 10 = 5; omega) (by show ¬ n % 10 = 6; omega) (by show ¬ n % 10 = 7; omega) (by show ¬ n % 10 = 8; omega) (by show ¬ n % 10 = 9; omega)).trans
        (step1 c ⟨n, h⟩ _ _ _ _ _ _ _ _ _ _ _ _ _ _ _ _ _ _ _ _ _ _ _)) (ix2 x y)).trans ?_
      rw [pay3_at, hi]
      exact congrArg (_ + ·) (add1 m c ⟨n, h⟩ hi x y)
    · refine (congrFun ((outsAt0_C m c ⟨n, h⟩ (by show ¬ n % 10 = 0; omega) (by show ¬ n % 10 = 1; omega) hi (by show ¬ n % 10 = 3; omega) (by show ¬ n % 10 = 4; omega) (by show ¬ n % 10 = 5; omega) (by show ¬ n % 10 = 6; omega) (by show ¬ n % 10 = 7; omega) (by show ¬ n % 10 = 8; omega) (by show ¬ n % 10 = 9; omega)).trans
        (step2 c ⟨n, h⟩ _ _ _ _ _ _ _ _ _ _ _ _ _ _ _ _ _ _ _ _ _ _ _)) (ix2 x y)).trans ?_
      rw [pay4_at, hi]
      exact congrArg (_ + ·) (add2 m c ⟨n, h⟩ hi x y)
    · refine (congrFun ((outsAt0_D m c ⟨n, h⟩ (by show ¬ n % 10 = 0; omega) (by show ¬ n % 10 = 1; omega) (by show ¬ n % 10 = 2; omega) hi (by show ¬ n % 10 = 4; omega) (by show ¬ n % 10 = 5; omega) (by show ¬ n % 10 = 6; omega) (by show ¬ n % 10 = 7; omega) (by show ¬ n % 10 = 8; omega) (by show ¬ n % 10 = 9; omega)).trans
        (step3 c ⟨n, h⟩ _ _ _ _ _ _ _ _ _ _ _ _ _ _ _ _ _ _ _ _ _ _ _)) (ix2 x y)).trans ?_
      rw [pay5_at, hi]
      exact congrArg (_ + ·) (add3 m c ⟨n, h⟩ hi x y)
    · refine (congrFun ((outsAt0_E m c ⟨n, h⟩ (by show ¬ n % 10 = 0; omega) (by show ¬ n % 10 = 1; omega) (by show ¬ n % 10 = 2; omega) (by show ¬ n % 10 = 3; omega) hi (by show ¬ n % 10 = 5; omega) (by show ¬ n % 10 = 6; omega) (by show ¬ n % 10 = 7; omega) (by show ¬ n % 10 = 8; omega) (by show ¬ n % 10 = 9; omega)).trans
        (step4 c ⟨n, h⟩ _ _ _ _ _ _ _ _ _ _ _ _ _ _ _ _ _ _ _ _ _ _ _)) (ix2 x y)).trans ?_
      rw [pay6_at, hi]
      exact congrArg (_ + ·) (add4 m c ⟨n, h⟩ hi x y)
    · refine (congrFun ((outsAt0_F m c ⟨n, h⟩ (by show ¬ n % 10 = 0; omega) (by show ¬ n % 10 = 1; omega) (by show ¬ n % 10 = 2; omega) (by show ¬ n % 10 = 3; omega) (by show ¬ n % 10 = 4; omega) hi (by show ¬ n % 10 = 6; omega) (by show ¬ n % 10 = 7; omega) (by show ¬ n % 10 = 8; omega) (by show ¬ n % 10 = 9; omega)).trans
        (step5 c ⟨n, h⟩ _ _ _ _ _ _ _ _ _ _ _ _ _ _ _ _ _ _ _ _ _ _ _)) (ix2 x y)).trans ?_
      rw [pay7_at, hi]
      exact congrArg (_ + ·) (add5 m c ⟨n, h⟩ hi x y)
    · refine (congrFun ((outsAt0_G m c ⟨n, h⟩ (by show ¬ n % 10 = 0; omega) (by show ¬ n % 10 = 1; omega) (by show ¬ n % 10 = 2; omega) (by show ¬ n % 10 = 3; omega) (by show ¬ n % 10 = 4; omega) (by show ¬ n % 10 = 5; omega) hi (by show ¬ n % 10 = 7; omega) (by show ¬ n % 10 = 8; omega) (by show ¬ n % 10 = 9; omega)).trans
        (step6 c ⟨n, h⟩ _ _ _ _ _ _ _ _ _ _ _ _ _ _ _ _ _ _ _ _ _ _ _)) (ix2 x y)).trans ?_
      rw [pay8_at, hi]
      exact congrArg (_ + ·) (add6 m c ⟨n, h⟩ hi x y)
    · refine (congrFun ((outsAt0_H m c ⟨n, h⟩ (by show ¬ n % 10 = 0; omega) (by show ¬ n % 10 = 1; omega) (by show ¬ n % 10 = 2; omega) (by show ¬ n % 10 = 3; omega) (by show ¬ n % 10 = 4; omega) (by show ¬ n % 10 = 5; omega) (by show ¬ n % 10 = 6; omega) hi (by show ¬ n % 10 = 8; omega) (by show ¬ n % 10 = 9; omega)).trans
        (step7 c ⟨n, h⟩ _ _ _ _ _ _ _ _ _ _ _ _ _ _ _ _ _ _ _ _ _ _ _)) (ix2 x y)).trans ?_
      rw [pay9_at, hi]
      exact congrArg (_ + ·) (add7 m c ⟨n, h⟩ hi x y)
    · refine (congrFun ((outsAt0_I m c ⟨n, h⟩ (by show ¬ n % 10 = 0; omega) (by show ¬ n % 10 = 1; omega) (by show ¬ n % 10 = 2; omega) (by show ¬ n % 10 = 3; omega) (by show ¬ n % 10 = 4; omega) (by show ¬ n % 10 = 5; omega) (by show ¬ n % 10 = 6; omega) (by show ¬ n % 10 = 7; omega) hi (by show ¬ n % 10 = 9; omega)).trans
        (step8 c ⟨n, h⟩ _ _ _ _ _ _ _ _ _ _ _ _ _ _ _ _ _ _ _ _ _ _ _)) (ix2 x y)).trans ?_
      rw [pay10_at, hi]
      exact congrArg (_ + ·) (add8 m c ⟨n, h⟩ hi x y)
    · refine (congrFun ((outsAt0_J m c ⟨n, h⟩ (by show ¬ n % 10 = 0; omega) (by show ¬ n % 10 = 1; omega) (by show ¬ n % 10 = 2; omega) (by show ¬ n % 10 = 3; omega) (by show ¬ n % 10 = 4; omega) (by show ¬ n % 10 = 5; omega) (by show ¬ n % 10 = 6; omega) (by show ¬ n % 10 = 7; omega) (by show ¬ n % 10 = 8; omega) hi).trans
        (step9 c ⟨n, h⟩ _ _ _ _ _ _ _ _ _ _ _ _ _ _ _ _ _ _ _ _ _ _ _)) (ix2 x y)).trans ?_
      rw [pay1_at, hi]
      exact congrArg (_ + ·) (add9 m c ⟨n, h⟩ x y)
  · refine Finset.sum_congr rfl fun s hs => ?_
    have hs' := Finset.mem_range.1 hs
    rw [show (10 * q + s) / 10 = q by omega, show (10 * q + s) % 10 = s by omega]

/-- The ten parts are the product over all the columns. -/
theorem parts_sum (x y : ℕ) : ∑ s ∈ Finset.range 10, part m c x y s = ∑ k ∈ Finset.range 9232, term m c x y k := by
  have h7 : ∑ s ∈ Finset.range 7, part m c x y s = ∑ k ∈ Finset.range 7168, term m c x y k := by
    rw [← sum_blocks 1024 (term m c x y) 7]
    exact Finset.sum_congr rfl fun s hs => if_pos (Finset.mem_range.1 hs)
  have h2 : part m c x y 7 + part m c x y 8 = ∑ k ∈ Finset.range 2048, term m c x y (7184 + k) := by
    have e := sum_blocks 1024 (fun k => term m c x y (7184 + k)) 2
    rw [Finset.sum_range_succ, Finset.sum_range_one] at e
    refine Eq.trans ?_ e
    refine congrArg₂ (· + ·) ?_ ?_
    · exact Eq.trans (show part m c x y 7 = ∑ k : Fin 1024, term m c x y (1024 * 7 + 16 + k.val) from rfl)
        <| Finset.sum_congr rfl fun (k : Fin 1024) _ => congrArg (term m c x y) (show 1024 * 7 + 16 + k.val = 7184 + (1024 * 0 + k.val) by omega)
    · exact Eq.trans (show part m c x y 8 = ∑ k : Fin 1024, term m c x y (1024 * 8 + 16 + k.val) from rfl)
        <| Finset.sum_congr rfl fun (k : Fin 1024) _ => congrArg (term m c x y) (show 1024 * 8 + 16 + k.val = 7184 + (1024 * 1 + k.val) by omega)
  have h9 : part m c x y 9 = ∑ k ∈ Finset.range 16, term m c x y (7168 + k) :=
    Fin.sum_univ_eq_sum_range (fun k => term m c x y (7168 + k)) 16
  have e : ∑ k ∈ Finset.range 9232, term m c x y k
      = (∑ k ∈ Finset.range 7168, term m c x y k + ∑ k ∈ Finset.range 16, term m c x y (7168 + k)) + ∑ k ∈ Finset.range 2048, term m c x y (7184 + k) := by
    rw [← Finset.sum_range_add, ← Finset.sum_range_add]
  rw [e, Finset.sum_range_succ, Finset.sum_range_succ, Finset.sum_range_succ, h7, add_assoc (∑ k ∈ Finset.range 7168, term m c x y k) (part m c x y 7), h2, h9,
    add_assoc, add_assoc, add_comm (∑ k ∈ Finset.range 2048, _)]

/-- The result of the call, at an index. -/
theorem value_at (r : Fin 8192) (y : Fin 1024) :
    @Eq EReal (((dats m 0 c).arrAt 12 cfg0.N : Vec Ideal S8192x1024 .f32) (ix2 r y))
      (∑ k : Fin 9232, inD m c (ix2 r k) * inW m c (ix2 y k)) := by
  have hN : cfg0.N = 80 := N_0
  have hr : 10 * (r.val / 1024) + 9 < cfg0.N := by omega
  have hf : (cfg0.win 12).flush ⟨10 * (r.val / 1024) + 9, hr⟩ = true := (flush0_12 _).2 (by show (10 * (r.val / 1024) + 9) % 10 = 9; omega)
  have e := congrFun ((dats m 0 c).read_blk_arrAt_eq_flushed 12 disjoint12 cfg0.N _ hr hf) (ix2 ⟨r.val % 1024, by omega⟩ y)
  have h0 : (10 * (r.val / 1024) + 9) / 10 = r.val / 1024 := by omega
  have hd : 1024 * (r.val / 1024) + r.val % 1024 = r.val := by omega
  have e1 : ((cfg0.win 12).blk ⟨10 * (r.val / 1024) + 9, hr⟩).view.read (Elt Ideal) ((dats m 0 c).arrAt 12 cfg0.N) (ix2 ⟨r.val % 1024, by omega⟩ y)
      = ((dats m 0 c).arrAt 12 cfg0.N : Vec Ideal S8192x1024 .f32) (ix2 r y) := by
    blk_ext [index_at ⟨10 * (r.val / 1024) + 9, hr⟩, h0, hd]
  rw [e1] at e
  refine e.trans ?_
  rw [Value.flushed12]
  refine (outs_at m c (r.val / 1024) 9 (by omega) hr ⟨r.val % 1024, by omega⟩ y).trans ?_
  rw [parts_sum, ← Fin.sum_univ_eq_sum_range (fun k => term m c (1024 * (r.val / 1024) + r.val % 1024) y.val k) 9232]
  refine Finset.sum_congr rfl fun k _ => ?_
  unfold term
  simp only [hd]
  exact dif_pos ⟨r.isLt, y.isLt, k.isLt⟩

end Cert.InLeft

namespace Cert.Proof

open Idealize.ShloMosaic Idealize.SL.Sem

section

attribute [local instance] Cert.Kernel23.Gen.facts Cert.Kernel23Ideal.Gen.facts Cert.Reference23Ideal.Gen.facts

theorem frame_Kernel23 : Cert.quiescent_Kernel23 := fun m ρ _ => Cert.Kernel23.Gen.frame (F := Bits) m ρ

theorem frame_Kernel23Ideal : Cert.quiescent_Kernel23Ideal := fun m ρ _ => Cert.Kernel23Ideal.Gen.frame (F := Ideal) m ρ

/-- The reference declares no semaphore. -/
theorem frame_Reference23Ideal : Cert.quiescent_Reference23Ideal := fun m ρ _ =>
  (θ_run Cert.Reference23Ideal.defs _ _).mono (fun r h => ⟨fun c => (h c).2, sem_eq_zero_of_no_sems (by decide) r.2⟩)
    (Cert.Reference23Ideal.Value.run (F := Ideal) m ρ)

theorem preserves23 : Cert.preserves_Kernel23_Kernel23Ideal := trivial

end

theorem algebraic23 : algebraic_Kernel23Ideal_Reference23Ideal (hKernel23Ideal := Cert.Kernel23Ideal.Gen.facts)
    (hReference23Ideal := Cert.Reference23Ideal.Gen.facts) := by
  intro m g m' g' hpre hm
  refine ⟨fun c => (Cert.Kernel23Ideal.Gen.dats m 0 c).arrAt 12 Cert.Kernel23Ideal.cfg0.N, Cert.Kernel23Ideal.Value.run_blocks m g,
    (θ_run (Cert.Reference23Ideal.defs (F := Ideal)) _ _).mono (fun r h c => ⟨?_, (h c).2⟩) (Cert.Reference23Ideal.Value.run m' g')⟩
  refine (h c).1.trans ?_
  obtain ⟨m0, m1, m2⟩ := hm c
  funext j
  obtain ⟨x, y, rfl⟩ : ∃ (x : Fin 8192) (y : Fin 1024), j = ix2 x y := ⟨j 0, j 1, eq_ix2 j⟩
  refine Eq.trans ?_ (Cert.InLeft.value_at m c x y).symm
  rw [m2, m1]
  pointwise
  try rfl

end Cert.Proof

end
-- ==== Proof.Norm.lean ====
/-
  The gradient of a row's normalisation, on extended reals.
-/
module

public import Idealize.ShloMosaic.Lib.Pointwise

@[expose] public section

noncomputable section

namespace Cert.Norm

open Idealize.ShloMosaic

theorem width : Ideal.ofBits .f32 0x44800000#32 = ((1024 : ℝ) : EReal) := by
  simp [Ideal.ofBits, Ideal.ieee, -EReal.coe_mul]
  norm_num

theorem half : Ideal.ofBits .f32 0xBF000000#32 = ((-(1 / 2) : ℝ) : EReal) := by
  simp [Ideal.ofBits, Ideal.ieee, -EReal.coe_mul]
  norm_num

theorem small_pos : 0 < Ideal.ofBits .f32 0x358637BD#32 := by
  have e : ∃ r : ℝ, 0 < r ∧ Ideal.ofBits .f32 0x358637BD#32 = ((r : ℝ) : EReal) := by
    refine ⟨8796093 / 8796093022208, by norm_num, ?_⟩
    simp [Ideal.ofBits, Ideal.ieee, -EReal.coe_mul]
    norm_num
  obtain ⟨r, hr, e⟩ := e
  rw [e]
  exact_mod_cast hr

theorem square_nonneg (x : EReal) : 0 ≤ x * x := by
  rcases le_total 0 x with h | h
  · exact mul_nonneg h h
  · have h' : 0 ≤ -x := EReal.neg_nonneg.2 h
    have e := mul_nonneg h' h'
    rwa [neg_mul_neg] at e

/-- What the root is taken of. -/
def mean (x : Fin 1024 → EReal) : EReal :=
  Ideal.div (∑ k, x k * x k) (Ideal.ofBits .f32 0x44800000#32) + Ideal.ofBits .f32 0x358637BD#32

theorem mean_pos (x : Fin 1024 → EReal) : 0 < mean x := by
  unfold mean
  rw [width, Ideal.div_coe (by norm_num), add_comm]
  refine EReal.add_pos_of_pos_of_nonneg small_pos (mul_nonneg (Finset.sum_nonneg fun k _ => square_nonneg _) ?_)
  exact_mod_cast (by norm_num : (0 : ℝ) ≤ 1 / 1024)

/-- The inverse root is a real number, and divided once more it is that number's cube. -/
theorem root (v : EReal) (hv : 0 < v) : ∃ c : ℝ, 0 ≤ c ∧ Ideal.rsqrt v = (c : EReal) ∧ Ideal.div (Ideal.rsqrt v) v = ((c * c * c : ℝ) : EReal) := by
  induction v using EReal.rec with
  | bot => exact absurd hv (by simp)
  | top =>
    refine ⟨0, le_refl 0, by simp, ?_⟩
    rw [Ideal.rsqrt_top]
    simp [Ideal.div]
  | coe r =>
    have hr : 0 < r := by exact_mod_cast hv
    refine ⟨(Real.sqrt r)⁻¹, inv_nonneg.2 (Real.sqrt_nonneg r), ?_, ?_⟩
    · rw [Ideal.rsqrt_coe, if_neg (not_lt.2 hr.le), if_neg hr.ne']
    · rw [Ideal.rsqrt_coe, if_neg (not_lt.2 hr.le), if_neg hr.ne', Ideal.div_coe hr.ne', ← EReal.coe_mul]
      congr 1
      rw [mul_assoc, ← mul_inv, Real.mul_self_sqrt hr.le, one_div]

theorem sum_mul_real {n : ℕ} (f : Fin n → EReal) (c : ℝ) (hc : 0 ≤ c) : ∑ k, f k * (c : EReal) = (∑ k, f k) * (c : EReal) := by
  have h (s : Finset (Fin n)) : ∑ k ∈ s, f k * (c : EReal) = (∑ k ∈ s, f k) * (c : EReal) := by
    induction s using Finset.induction_on with
    | empty => simp
    | insert a s ha ih =>
      rw [Finset.sum_insert ha, Finset.sum_insert ha, ih,
        EReal.right_distrib_of_nonneg_of_ne_top (by exact_mod_cast hc) (EReal.coe_ne_top c)]
  exact h Finset.univ

theorem twice (y : EReal) : y + y = y * ((2 : ℝ) : EReal) := by
  induction y using EReal.rec with
  | bot => rw [EReal.bot_mul_coe_of_pos (by norm_num)]; rfl
  | top => rw [EReal.top_mul_coe_of_pos (by norm_num)]; rfl
  | coe r => rw [← EReal.coe_add, ← EReal.coe_mul, mul_two]

/-- The gradient of the rows, as the kernel computes it and as differentiation writes it. -/
theorem rows (x a : Fin 1024 → EReal) (h : EReal) (j : Fin 1024) :
    Ideal.rsqrt (mean x) * (a j - x j * Ideal.rsqrt (mean x)
        * Ideal.div (∑ k, a k * (x k * Ideal.rsqrt (mean x))) (Ideal.ofBits .f32 0x44800000#32)) + h
      = a j * Ideal.rsqrt (mean x)
        + x j * Ideal.div ((∑ k, x k * a k) * (Ideal.ofBits .f32 0xBF000000#32 * Ideal.div (Ideal.rsqrt (mean x)) (mean x))) (Ideal.ofBits .f32 0x44800000#32)
        + Ideal.div ((∑ k, x k * a k) * (Ideal.ofBits .f32 0xBF000000#32 * Ideal.div (Ideal.rsqrt (mean x)) (mean x))) (Ideal.ofBits .f32 0x44800000#32) * x j
        + h := by
  obtain ⟨c, hc, e1, e2⟩ := root (mean x) (mean_pos x)
  rw [e2, e1, width, half, Ideal.div_coe (by norm_num), Ideal.div_coe (by norm_num)]
  have hs : ∑ k, a k * (x k * (c : EReal)) = (∑ k, x k * a k) * (c : EReal) := by
    rw [← sum_mul_real _ c hc]
    exact Finset.sum_congr rfl fun k _ => by rw [← mul_assoc, mul_comm (a k)]
  rw [hs]
  generalize ∑ k, x k * a k = T
  generalize x j = z
  generalize a j = b
  refine congrArg (fun t : EReal => t + h) ?_
  rw [sub_eq_add_neg, EReal.left_distrib_of_nonneg_of_ne_top (by exact_mod_cast hc) (EReal.coe_ne_top c), add_assoc,
    mul_comm (T * _ * _) z, twice, mul_comm b]
  refine congrArg (fun t : EReal => (c : EReal) * b + t) ?_
  rw [mul_neg]
  have k1 : (c : EReal) * (z * (c : EReal) * (T * (c : EReal) * ((1 / 1024 : ℝ) : EReal)))
      = z * T * ((c * c * c * (1 / 1024) : ℝ) : EReal) := by
    simp only [EReal.coe_mul]
    ac_rfl
  have k2 : z * (T * (((-(1 / 2) : ℝ) : EReal) * ((c * c * c : ℝ) : EReal)) * ((1 / 1024 : ℝ) : EReal)) * ((2 : ℝ) : EReal)
      = z * T * ((-(c * c * c * (1 / 1024)) : ℝ) : EReal) := by
    rw [show (-(c * c * c * (1 / 1024)) : ℝ) = -(1 / 2) * (c * c * c) * (1 / 1024) * 2 by ring]
    simp only [EReal.coe_mul]
    ac_rfl
  rw [k1, k2, EReal.coe_neg, mul_neg]

end Cert.Norm

end
-- ==== Proof.NormGrad.lean ====
/-
  The gradient of the normalisation before the mixer: the gradient of the rows, and that of the gain summed over thirty-two blocks of rows.
-/
module

public import proofs.«01_k».proof.Defs
public import proofs.«01_k».proof.Proof.Gen.Kernel27.Frame
public import proofs.«01_k».proof.Proof.Gen.Kernel27Ideal.Frame
public import proofs.«01_k».proof.Proof.Gen.Kernel27Ideal.Value
public import proofs.«01_k».proof.Proof.Gen.Reference27Ideal.Run
public import proofs.«01_k».proof.Proof.Products
public import proofs.«01_k».proof.Proof.Norm
import Idealize.ShloMosaic.Lib.StableHlo.ReadAt

@[expose] public section

set_option maxRecDepth 16384

noncomputable section

namespace Cert.NormGrad

open Idealize.ShloMosaic Idealize.ShloMosaic.TcCoe Idealize.SL.Sem Cert.Kernel27Ideal Cert.Kernel27Ideal.Gen Cert.Products Cert.Norm

theorem rows_first (c : Dev nD) (t : Fin cfg0.N) (h0 : cond0_0 (grid0.coords t)) (x0 : Vec Ideal S256x1024 .f32) (x1 : Vec Ideal S1x1024 .f32) (x2 : Vec Ideal S256x1024 .f32) (x3 : Vec Ideal S256x1024 .f32) :
    out0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) h0 x0 x1 x2 x3 = k0_pay3 x0 x1 x2 x3 := by
  unfold out0_A_4 kernelRun0_A
  dsimp only
  sl_unfold_run_names
  refine (View.read_writes_full _ _ _ _ _).trans ?_
  rw [View.readAt_full, View.readAt_full, View.readAt_full, View.readAt_full, (hs0_0 t).read_unread, (hs0_1 t).read_unread, (hs0_2 t).read_unread, (hs0_3 t).read_unread]

theorem rows_next (c : Dev nD) (t : Fin cfg0.N) (h0 : ¬cond0_0 (grid0.coords t)) (x0 : Vec Ideal S256x1024 .f32) (x1 : Vec Ideal S1x1024 .f32) (x2 : Vec Ideal S256x1024 .f32) (x3 : Vec Ideal S256x1024 .f32) (xo : Vec Ideal S1x1024 .f32) :
    out0_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) h0 x0 x1 x2 x3 xo = k0_pay3 x0 x1 x2 x3 := by
  unfold out0_B_4 kernelRun0_B
  dsimp only
  sl_unfold_run_names
  refine (View.read_writes_full _ _ _ _ _).trans ?_
  rw [View.readAt_full, View.readAt_full, View.readAt_full, View.readAt_full, (hs0_0 t).read_unread, (hs0_1 t).read_unread, (hs0_2 t).read_unread, (hs0_3 t).read_unread]

theorem gain_first (c : Dev nD) (t : Fin cfg0.N) (h0 : cond0_0 (grid0.coords t)) (x0 : Vec Ideal S256x1024 .f32) (x1 : Vec Ideal S1x1024 .f32) (x2 : Vec Ideal S256x1024 .f32) (x3 : Vec Ideal S256x1024 .f32) :
    out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) h0 x0 x1 x2 x3 = k0_pay5 x0 x2 (k0_pay4 (F := Ideal)) := by
  unfold out0_A_5 kernelRun0_A
  dsimp only
  sl_unfold_run_names
  refine (View.read_writes_full _ _ _ _ _).trans ?_
  rw [View.readAt_full, View.readAt_full, (hs0_0 t).read_unread, (hs0_2 t).read_unread]
  rw [View.readCov_full]

theorem gain_next (c : Dev nD) (t : Fin cfg0.N) (h0 : ¬cond0_0 (grid0.coords t)) (x0 : Vec Ideal S256x1024 .f32) (x1 : Vec Ideal S1x1024 .f32) (x2 : Vec Ideal S256x1024 .f32) (x3 : Vec Ideal S256x1024 .f32) (xo : Vec Ideal S1x1024 .f32) :
    out0_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) h0 x0 x1 x2 x3 xo = k0_pay5 x0 x2 xo := by
  unfold out0_B_5 kernelRun0_B
  dsimp only
  sl_unfold_run_names
  refine (View.read_writes_full _ _ _ _ _).trans ?_
  rw [View.readAt_full, View.readAt_full, View.readAt_full, (hs0_0 t).read_unread, (hs0_2 t).read_unread, (hs0_5 t).read_unread]

theorem pay3_at (x0 : Vec Ideal S256x1024 .f32) (x1 : Vec Ideal S1x1024 .f32) (x2 : Vec Ideal S256x1024 .f32) (x3 : Vec Ideal S256x1024 .f32) (x : Fin 256) (y : Fin 1024) :
    @Eq EReal ((k0_pay3 x0 x1 x2 x3 : FVec Ideal S256x1024 .f32) (ix2 x y))
      (Ideal.rsqrt (mean fun k => x0 (ix2 x k)) * (x2 (ix2 x y) * x1 (ix2 0 y) - x0 (ix2 x y) * Ideal.rsqrt (mean fun k => x0 (ix2 x k))
        * Ideal.div (∑ k, x2 (ix2 x k) * x1 (ix2 0 k) * (x0 (ix2 x k) * Ideal.rsqrt (mean fun k => x0 (ix2 x k)))) (Ideal.ofBits .f32 0x44800000#32)) + x3 (ix2 x y)) := by
  unfold k0_pay3 k0_pay2 k0_pay1 mean
  pointwise
  try simp

theorem pay5_at (x0 x2 : Vec Ideal S256x1024 .f32) (xo : Vec Ideal S1x1024 .f32) (y : Fin 1024) :
    @Eq EReal ((k0_pay5 x0 x2 xo : FVec Ideal S1x1024 .f32) (ix2 0 y))
      (xo (ix2 0 y) + ∑ k : Fin 256, x2 (ix2 k y) * (x0 (ix2 k y) * Ideal.rsqrt (mean fun l => x0 (ix2 k l)))) := by
  unfold k0_pay5 k0_pay2 k0_pay1 mean
  pointwise
  try simp

theorem pay4_at (y : Fin 1024) : @Eq EReal ((k0_pay4 : FVec Ideal S1x1024 .f32) (ix2 0 y)) 0 := by
  unfold k0_pay4
  pointwise

variable (m : (ℓ : Loc nD τ sig) → Buf (Elt Ideal) ℓ) (c : Dev nD)

theorem index_at : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![0, 0] :=
  (by decide +kernel : ∀ t : Fin grid0.N, _)

theorem disjoint5 : ∀ t t' : Fin cfg0.N, (cfg0.win 5).flush t = true → (cfg0.win 5).flush t' = true → t ≠ t' →
    Disjoint ((cfg0.win 5).blk t).view.set ((cfg0.win 5).blk t').view.set := by
  intro t t' hf hf' hne
  have r := (flush0_5 t).1 hf
  have r' := (flush0_5 t').1 hf'
  have hN : cfg0.N = 32 := N_0
  exact absurd (Fin.ext (by omega)) hne

/-- The arguments. -/
abbrev X : FVec Ideal S8192x1024 .f32 := m ((c.tc : Thread nD τ).loc main_arg0)
abbrev W : FVec Ideal S1x1024 .f32 := m ((c.tc : Thread nD τ).loc main_arg1)
abbrev D : FVec Ideal S8192x1024 .f32 := m ((c.tc : Thread nD τ).loc main_arg2)
abbrev H : FVec Ideal S8192x1024 .f32 := m ((c.tc : Thread nD τ).loc main_arg3)

/-- The blocks of a grid step. -/
def bX (t : Fin cfg0.N) : FVec Ideal S256x1024 .f32 := iblk m c 0 t
def bW (t : Fin cfg0.N) : FVec Ideal S1x1024 .f32 := iblk m c 1 t
def bD (t : Fin cfg0.N) : FVec Ideal S256x1024 .f32 := iblk m c 2 t
def bH (t : Fin cfg0.N) : FVec Ideal S256x1024 .f32 := iblk m c 3 t

theorem bX_at (t : Fin cfg0.N) (x : Fin 256) (y : Fin 1024) (h : 256 * t.val + x.val < 8192) : bX m c t (ix2 x y) = X m c (ix2 ⟨256 * t.val + x.val, h⟩ y) := by
  unfold bX X
  rw [← V_main_arg0 m c]
  blk_ext [iblk, index_at t]

theorem bW_at (t : Fin cfg0.N) (y : Fin 1024) : bW m c t (ix2 0 y) = W m c (ix2 0 y) := by
  unfold bW W
  rw [← V_main_arg1 m c]
  blk_ext [iblk, index_at t]

theorem bD_at (t : Fin cfg0.N) (x : Fin 256) (y : Fin 1024) (h : 256 * t.val + x.val < 8192) : bD m c t (ix2 x y) = D m c (ix2 ⟨256 * t.val + x.val, h⟩ y) := by
  unfold bD D
  rw [← V_main_arg2 m c]
  blk_ext [iblk, index_at t]

theorem bH_at (t : Fin cfg0.N) (x : Fin 256) (y : Fin 1024) (h : 256 * t.val + x.val < 8192) : bH m c t (ix2 x y) = H m c (ix2 ⟨256 * t.val + x.val, h⟩ y) := by
  unfold bH H
  rw [← V_main_arg3 m c]
  blk_ext [iblk, index_at t]

/-- What the first result holds after a grid step. -/
theorem rows_outs (t : Fin cfg0.N) : (outsAt0 m c t.val t.isLt).1 = k0_pay3 (F := Ideal) (bX m c t) (bW m c t) (bD m c t) (bH m c t) := by
  by_cases h0 : t.val % 32 = 0
  · have e := congrArg Prod.fst (outsAt0_A m c t h0)
    dsimp only at e
    exact (e.trans (rows_first c t _ _ _ _ _)).trans rfl
  · have e := congrArg Prod.fst (outsAt0_B m c t h0)
    dsimp only at e
    exact (e.trans (rows_next c t _ _ _ _ _ _)).trans rfl

/-- What the second result holds after a grid step. -/
theorem gain_outs_first (t : Fin cfg0.N) (h0 : t.val % 32 = 0) : (outsAt0 m c t.val t.isLt).2 = k0_pay5 (F := Ideal) (bX m c t) (bD m c t) (k0_pay4 (F := Ideal)) := by
  have e := congrArg Prod.snd (outsAt0_A m c t h0)
  dsimp only at e
  exact (e.trans (gain_first c t _ _ _ _ _)).trans rfl

theorem gain_outs_next (t : Fin cfg0.N) (h0 : ¬t.val % 32 = 0) : (outsAt0 m c t.val t.isLt).2
    = k0_pay5 (F := Ideal) (bX m c t) (bD m c t) (outsAt0 m c (t.val - 1) (Nat.lt_of_le_of_lt (Nat.sub_le _ _) t.isLt)).2 := by
  have e := congrArg Prod.snd (outsAt0_B m c t h0)
  dsimp only at e
  exact (e.trans (gain_next c t _ _ _ _ _ _)).trans rfl

/-- The root of a row. -/
def rt (r : Fin 8192) : EReal := Ideal.rsqrt (mean fun k => X m c (ix2 r k))

theorem value4_at (r : Fin 8192) (y : Fin 1024) :
    @Eq EReal (((dats m 0 c).arrAt 4 cfg0.N : Vec Ideal S8192x1024 .f32) (ix2 r y))
      (rt m c r * (D m c (ix2 r y) * W m c (ix2 0 y) - X m c (ix2 r y) * rt m c r
        * Ideal.div (∑ k, D m c (ix2 r k) * W m c (ix2 0 k) * (X m c (ix2 r k) * rt m c r)) (Ideal.ofBits .f32 0x44800000#32)) + H m c (ix2 r y)) := by
  have hN : cfg0.N = 32 := N_0
  have hr : r.val / 256 < cfg0.N := by omega
  have hd : 256 * (r.val / 256) + r.val % 256 = r.val := by omega
  have hr' : (⟨256 * (r.val / 256) + r.val % 256, by omega⟩ : Fin 8192) = r := Fin.ext hd
  have e := congrFun (Value.blocks4 m c ⟨r.val / 256, hr⟩ (flush0_4 _)) (ix2 ⟨r.val % 256, by omega⟩ y)
  have e1 : ((cfg0.win 4).blk ⟨r.val / 256, hr⟩).view.read (Elt Ideal) ((dats m 0 c).arrAt 4 cfg0.N) (ix2 ⟨r.val % 256, by omega⟩ y)
      = ((dats m 0 c).arrAt 4 cfg0.N : Vec Ideal S8192x1024 .f32) (ix2 r y) := by
    blk_ext [index_at ⟨r.val / 256, hr⟩, hd]
  rw [e1] at e
  refine e.trans ?_
  rw [Value.flushed4]
  refine (congrFun (rows_outs m c ⟨r.val / 256, hr⟩) (ix2 ⟨r.val % 256, by omega⟩ y)).trans ?_
  have hX (k : Fin 1024) : bX m c ⟨r.val / 256, hr⟩ (ix2 ⟨r.val % 256, by omega⟩ k) = X m c (ix2 r k) := by
    rw [bX_at m c _ _ _ (by show 256 * (r.val / 256) + r.val % 256 < 8192; omega)]
    exact congrArg (fun q => X m c (ix2 q k)) hr'
  have hD (k : Fin 1024) : bD m c ⟨r.val / 256, hr⟩ (ix2 ⟨r.val % 256, by omega⟩ k) = D m c (ix2 r k) := by
    rw [bD_at m c _ _ _ (by show 256 * (r.val / 256) + r.val % 256 < 8192; omega)]
    exact congrArg (fun q => D m c (ix2 q k)) hr'
  have hH (k : Fin 1024) : bH m c ⟨r.val / 256, hr⟩ (ix2 ⟨r.val % 256, by omega⟩ k) = H m c (ix2 r k) := by
    rw [bH_at m c _ _ _ (by show 256 * (r.val / 256) + r.val % 256 < 8192; omega)]
    exact congrArg (fun q => H m c (ix2 q k)) hr'
  rw [pay3_at]
  unfold rt
  simp only [hX, hD, hH, bW_at]

/-- What a grid step adds to the gain's gradient. -/
def part (y : Fin 1024) (n : ℕ) (k : Fin 256) : EReal :=
  if h : 256 * n + k.val < 8192 then D m c (ix2 ⟨256 * n + k.val, h⟩ y) * (X m c (ix2 ⟨256 * n + k.val, h⟩ y) * rt m c ⟨256 * n + k.val, h⟩) else 0

theorem part_at (t : Fin cfg0.N) (y : Fin 1024) (k : Fin 256) :
    bD m c t (ix2 k y) * (bX m c t (ix2 k y) * Ideal.rsqrt (mean fun l => bX m c t (ix2 k l))) = part m c y t.val k := by
  have hN : cfg0.N = 32 := N_0
  have ht := t.isLt
  have h : 256 * t.val + k.val < 8192 := by omega
  unfold part rt
  rw [dif_pos h]
  simp only [bX_at m c t k _ h, bD_at m c t k _ h]

theorem gain_outs (n : ℕ) (h : n < cfg0.N) (y : Fin 1024) :
    @Eq EReal (((outsAt0 m c n h).2 : Vec Ideal S1x1024 .f32) (ix2 0 y)) (∑ s ∈ Finset.range (n + 1), ∑ k, part m c y s k) := by
  have hN : cfg0.N = 32 := N_0
  have e := run_sum (J := 32) (N := cfg0.N) (fun n h => ((outsAt0 m c n h).2 : Vec Ideal S1x1024 .f32) (ix2 0 y))
    (fun n => ∑ k, part m c y n k) (fun n h h0 => ?_) (fun n h h0 => ?_) 0 n (by omega) (by omega)
  · simpa using e
  · refine (congrFun (gain_outs_first m c ⟨n, h⟩ h0) (ix2 0 y)).trans ?_
    refine (pay5_at (bX m c ⟨n, h⟩) (bD m c ⟨n, h⟩) _ y).trans ?_
    rw [pay4_at, zero_add]
    exact Finset.sum_congr rfl fun k _ => part_at m c ⟨n, h⟩ y k
  · refine (congrFun (gain_outs_next m c ⟨n, h⟩ h0) (ix2 0 y)).trans ?_
    refine (pay5_at (bX m c ⟨n, h⟩) (bD m c ⟨n, h⟩) _ y).trans ?_
    exact congrArg (_ + ·) (Finset.sum_congr rfl fun k _ => part_at m c ⟨n, h⟩ y k)

theorem value5_at (y : Fin 1024) :
    @Eq EReal (((dats m 0 c).arrAt 5 cfg0.N : Vec Ideal S1x1024 .f32) (ix2 0 y))
      (∑ r : Fin 8192, D m c (ix2 r y) * (X m c (ix2 r y) * rt m c r)) := by
  have hN : cfg0.N = 32 := N_0
  obtain ⟨t, ht⟩ : ∃ t : Fin cfg0.N, t.val = 31 := ⟨⟨31, by omega⟩, rfl⟩
  have hf : (cfg0.win 5).flush t = true := (flush0_5 t).2 (by omega)
  have e := congrFun ((dats m 0 c).read_blk_arrAt_eq_flushed 5 disjoint5 cfg0.N t t.isLt hf) (ix2 0 y)
  have e1 : ((cfg0.win 5).blk t).view.read (Elt Ideal) ((dats m 0 c).arrAt 5 cfg0.N) (ix2 0 y)
      = ((dats m 0 c).arrAt 5 cfg0.N : Vec Ideal S1x1024 .f32) (ix2 0 y) := by
    blk_ext [index_at t]
  rw [e1] at e
  refine e.trans ?_
  rw [Value.flushed5]
  refine (gain_outs m c t.val t.isLt y).trans ?_
  rw [ht]
  refine sum_axis 32 256 8192 rfl _ _ fun s k h hs => ?_
  unfold part
  exact dif_pos h

end Cert.NormGrad

namespace Cert.Proof

open Idealize.ShloMosaic Idealize.SL.Sem

section

attribute [local instance] Cert.Kernel27.Gen.facts Cert.Kernel27Ideal.Gen.facts Cert.Reference27Ideal.Gen.facts

theorem frame_Kernel27 : Cert.quiescent_Kernel27 := fun m ρ _ => Cert.Kernel27.Gen.frame (F := Bits) m ρ

theorem frame_Kernel27Ideal : Cert.quiescent_Kernel27Ideal := fun m ρ _ => Cert.Kernel27Ideal.Gen.frame (F := Ideal) m ρ

/-- The reference declares no semaphore. -/
theorem frame_Reference27Ideal : Cert.quiescent_Reference27Ideal := fun m ρ _ =>
  (θ_run Cert.Reference27Ideal.defs _ _).mono (fun r h => ⟨fun c => (h c).2.2, sem_eq_zero_of_no_sems (by decide) r.2⟩)
    (Cert.Reference27Ideal.Value.run (F := Ideal) m ρ)

theorem preserves27 : Cert.preserves_Kernel27_Kernel27Ideal := trivial

end

theorem algebraic27 : algebraic_Kernel27Ideal_Reference27Ideal (hKernel27Ideal := Cert.Kernel27Ideal.Gen.facts)
    (hReference27Ideal := Cert.Reference27Ideal.Gen.facts) := by
  intro m g m' g' hpre hm
  refine ⟨fun c => (Cert.Kernel27Ideal.Gen.dats m 0 c).arrAt 4 Cert.Kernel27Ideal.cfg0.N, fun c => (Cert.Kernel27Ideal.Gen.dats m 0 c).arrAt 5 Cert.Kernel27Ideal.cfg0.N,
    Cert.Kernel27Ideal.Value.run_blocks m g,
    (θ_run (Cert.Reference27Ideal.defs (F := Ideal)) _ _).mono (fun r h c => ⟨?_, ?_, (h c).2.2⟩) (Cert.Reference27Ideal.Value.run m' g')⟩
  · refine ((h c).1).trans ?_
    obtain ⟨m0, m1, m2, m3⟩ := hm c
    funext j
    obtain ⟨x, y, rfl⟩ : ∃ (x : Fin 8192) (y : Fin 1024), j = ix2 x y := ⟨j 0, j 1, eq_ix2 j⟩
    refine Eq.trans ?_ (Cert.NormGrad.value4_at m c x y).symm
    rw [m0, m1, m2, m3]
    refine Eq.trans ?_ (Cert.Norm.rows (fun k => Cert.NormGrad.X m c (ix2 x k)) (fun k => Cert.NormGrad.D m c (ix2 x k) * Cert.NormGrad.W m c (ix2 0 k)) (Cert.NormGrad.H m c (ix2 x y)) y).symm
    unfold Cert.Norm.mean
    pointwise
    simp only [Finset.univ_unique, Finset.sum_singleton]
  · refine ((h c).2.1).trans ?_
    obtain ⟨m0, m1, m2, m3⟩ := hm c
    funext j
    obtain ⟨x, y, rfl⟩ : ∃ (x : Fin 1) (y : Fin 1024), j = ix2 x y := ⟨j 0, j 1, eq_ix2 j⟩
    obtain rfl : x = 0 := Subsingleton.elim _ _
    refine Eq.trans ?_ (Cert.NormGrad.value5_at m c y).symm
    rw [m0, m2]
    unfold Cert.NormGrad.rt Cert.Norm.mean
    pointwise
    exact Finset.sum_congr rfl fun k _ => mul_comm _ _

end Cert.Proof

end
-- ==== Proof.ForgetRight.lean ====
/-
  The gradient of the forget gate's weights: a product summed over four blocks of rows.
-/
module

public import proofs.«01_k».proof.Defs
public import proofs.«01_k».proof.Proof.Gen.Kernel26.Frame
public import proofs.«01_k».proof.Proof.Gen.Kernel26Ideal.Frame
public import proofs.«01_k».proof.Proof.Gen.Kernel26Ideal.Value
public import proofs.«01_k».proof.Proof.Gen.Reference26Ideal.Run
public import proofs.«01_k».proof.Proof.Products
import Idealize.ShloMosaic.Lib.StableHlo.ReadAt

@[expose] public section

set_option maxRecDepth 16384

noncomputable section

namespace Cert.ForgetRight

open Idealize.ShloMosaic Idealize.ShloMosaic.TcCoe Idealize.SL.Sem Cert.Kernel26Ideal Cert.Kernel26Ideal.Gen Cert.Products

theorem first (c : Dev nD) (t : Fin cfg0.N) (h0 : cond0_0 (grid0.coords t)) (h1 : ¬cond0_1 (grid0.coords t)) (x0 : Vec Ideal S1024x2048 .bf16) (x1 : Vec Ideal S2048x128 .f32) :
    out0_A_2 (F := Ideal) c (grid0.coords t) (ms0_0 t) (hs0_0 t) (ms0_1 t) (hs0_1 t) (ms0_2 t) (hs0_2 t) h0 h1 x0 x1 = k0_pay1 x0 x1 := by
  unfold out0_A_2 kernelRun0_A
  dsimp only
  sl_unfold_run_names
  refine (View.read_writes_full _ _ _ _ _).trans ?_
  rw [View.readAt_full, View.readAt_full, (hs0_0 t).read_unread, (hs0_1 t).read_unread]

theorem next (c : Dev nD) (t : Fin cfg0.N) (h0 : ¬cond0_0 (grid0.coords t)) (h1 : cond0_1 (grid0.coords t)) (x0 : Vec Ideal S1024x2048 .bf16) (x1 : Vec Ideal S2048x128 .f32) (xo : Vec Ideal S1024x128 .f32) :
    out0_B_2 (F := Ideal) c (grid0.coords t) (ms0_0 t) (hs0_0 t) (ms0_1 t) (hs0_1 t) (ms0_2 t) (hs0_2 t) h0 h1 x0 x1 xo = k0_pay2 x0 x1 xo := by
  unfold out0_B_2 kernelRun0_B
  dsimp only
  sl_unfold_run_names
  refine (View.read_writes_full _ _ _ _ _).trans ?_
  rw [View.readAt_full, View.readAt_full, View.readAt_full, (hs0_0 t).read_unread, (hs0_1 t).read_unread, (hs0_2 t).read_unread]

theorem pay1_at (x0 : Vec Ideal S1024x2048 .bf16) (x1 : Vec Ideal S2048x128 .f32) (x : Fin 1024) (y : Fin 128) :
    (k0_pay1 x0 x1 : FVec Ideal S1024x128 .f32) (ix2 x y) = ∑ k : Fin 2048, x0 (ix2 x k) * x1 (ix2 k y) := by
  unfold k0_pay1
  pointwise
  try simp

theorem pay2_at (x0 : Vec Ideal S1024x2048 .bf16) (x1 : Vec Ideal S2048x128 .f32) (xo : Vec Ideal S1024x128 .f32) (x : Fin 1024) (y : Fin 128) :
    (k0_pay2 x0 x1 xo : FVec Ideal S1024x128 .f32) (ix2 x y) = xo (ix2 x y) + ∑ k : Fin 2048, x0 (ix2 x k) * x1 (ix2 k y) := by
  rw [← pay1_at]
  unfold k0_pay2
  pointwise

variable (m : (ℓ : Loc nD τ sig) → Buf (Elt Ideal) ℓ) (c : Dev nD)

theorem index_at : ∀ t : Fin cfg0.N, win0_0.index t = ![t.val / 4, t.val % 4] ∧ win0_1.index t = ![t.val % 4, 0] ∧ win0_2.index t = ![t.val / 4, 0] :=
  (by decide +kernel : ∀ t : Fin grid0.N, _)

theorem disjoint2 : ∀ t t' : Fin cfg0.N, (cfg0.win 2).flush t = true → (cfg0.win 2).flush t' = true → t ≠ t' →
    Disjoint ((cfg0.win 2).blk t).view.set ((cfg0.win 2).blk t').view.set := by
  intro t t' hf hf' hne
  refine (cfg0.win 2).disjoint_blk fun h => hne ?_
  have e : win0_2.index t = win0_2.index t' := h
  rw [(index_at t).2.2, (index_at t').2.2] at e
  have e0 : t.val / 4 = t'.val / 4 := congrFun e 0
  have r := (flush0_2 t).1 hf
  have r' := (flush0_2 t').1 hf'
  exact Fin.ext (by omega)

/-- The two factors as the call takes them. -/
abbrev A : FVec Ideal S1024x8192 .bf16 := V m c main_v1
abbrev B : FVec Ideal S8192x128 .f32 := V m c main_arg2

/-- The blocks of a grid step. -/
def bA (t : Fin cfg0.N) : FVec Ideal S1024x2048 .bf16 := iblk m c 0 t
def bB (t : Fin cfg0.N) : FVec Ideal S2048x128 .f32 := iblk m c 1 t

/-- What a grid step adds. -/
def part (x y : ℕ) (n : ℕ) (k : Fin 2048) : EReal :=
  if h : x < 1024 ∧ y < 128 ∧ 2048 * n + k.val < 8192 then A m c (ix2 ⟨x, h.1⟩ ⟨2048 * n + k.val, h.2.2⟩) * B m c (ix2 ⟨2048 * n + k.val, h.2.2⟩ ⟨y, h.2.1⟩) else 0

theorem part_at (t : Fin cfg0.N) (x : Fin 1024) (y : Fin 128) (k : Fin 2048) :
    bA m c t (ix2 x k) * bB m c t (ix2 k y)
      = part m c (1024 * (t.val / 4) + x.val) (y.val) (t.val % 4) k := by
  have hN : cfg0.N = 4 := N_0
  have ht := t.isLt
  have e0 : t.val / 4 < 1 := by omega
  unfold part
  rw [dif_pos ⟨by omega, by omega, by omega⟩]
  refine congrArg₂ (· * ·) ?_ ?_
  · unfold bA
    blk_ext [iblk, index_at t]
  · unfold bB
    blk_ext [iblk, index_at t]

theorem outs_at (q j : ℕ) (hj : j < 4) (h : 4 * q + j < cfg0.N) (x : Fin 1024) (y : Fin 128) :
    (outsAt0 m c (4 * q + j) h : Vec Ideal S1024x128 .f32) (ix2 x y) = ∑ s ∈ Finset.range (j + 1), ∑ k, part m c (1024 * q + x.val) (y.val) s k := by
  refine (run_sum (J := 4) (fun n h => (outsAt0 m c n h : Vec Ideal S1024x128 .f32) (ix2 x y))
    (fun n => ∑ k, part m c (1024 * (n / 4) + x.val) (y.val) (n % 4) k) ?_ ?_ q j hj h).trans ?_
  · intro n h h0
    have h1 : ¬ 1 ≤ n := by have h4 : n < 4 := h; omega
    refine (congrFun ((outsAt0_A m c ⟨n, h⟩ h0 h1).trans (first c ⟨n, h⟩ _ _ _ _)) (ix2 x y)).trans ?_
    rw [pay1_at]
    exact Finset.sum_congr rfl fun k _ => part_at m c ⟨n, h⟩ x y k
  · intro n h h0
    have h1 : 1 ≤ n := by have h4 : n < 4 := h; omega
    refine (congrFun ((outsAt0_B m c ⟨n, h⟩ h0 h1).trans (next c ⟨n, h⟩ _ _ _ _ _)) (ix2 x y)).trans ?_
    rw [pay2_at]
    exact congrArg (_ + ·) (Finset.sum_congr rfl fun k _ => part_at m c ⟨n, h⟩ x y k)
  · refine Finset.sum_congr rfl fun s hs => ?_
    have hs' := Finset.mem_range.1 hs
    rw [show (4 * q + s) / 4 = q by omega, show (4 * q + s) % 4 = s by omega]

/-- The result of the call, at an index. -/
theorem result_at (r : Fin 1024) (y : Fin 128) :
    ((dats m 0 c).arrAt 2 cfg0.N : Vec Ideal S1024x128 .f32) (ix2 r y) = ∑ k : Fin 8192, A m c (ix2 r k) * B m c (ix2 k y) := by
  have hN : cfg0.N = 4 := N_0
  have hr : 4 * (r.val / 1024) + 3 < cfg0.N := by omega
  have hf : (cfg0.win 2).flush ⟨4 * (r.val / 1024) + 3, hr⟩ = true := (flush0_2 _).2 (by show (4 * (r.val / 1024) + 3) % 4 = 3; omega)
  have e := congrFun ((dats m 0 c).read_blk_arrAt_eq_flushed 2 disjoint2 cfg0.N _ hr hf) (ix2 ⟨r.val % 1024, by omega⟩ y)
  have h0 : (4 * (r.val / 1024) + 3) / 4 = r.val / 1024 := by omega
  have hd : 1024 * (r.val / 1024) + r.val % 1024 = r.val := by omega
  have e1 : ((cfg0.win 2).blk ⟨4 * (r.val / 1024) + 3, hr⟩).view.read (Elt Ideal) ((dats m 0 c).arrAt 2 cfg0.N) (ix2 ⟨r.val % 1024, by omega⟩ y)
      = ((dats m 0 c).arrAt 2 cfg0.N : Vec Ideal S1024x128 .f32) (ix2 r y) := by
    blk_ext [index_at ⟨4 * (r.val / 1024) + 3, hr⟩, h0, hd]
  rw [e1] at e
  refine e.trans ?_
  rw [Value.flushed2]
  refine (outs_at m c (r.val / 1024) 3 (by omega) hr ⟨r.val % 1024, by omega⟩ y).trans ?_
  refine sum_axis 4 2048 8192 rfl _ _ fun s k h hs => ?_
  unfold part
  dsimp only
  simp only [hd]
  exact dif_pos ⟨r.isLt, y.isLt, h⟩

/-- The two factors as the arguments give them. -/
abbrev inA : FVec Ideal S8192x1024 .f32 := m ((c.tc : Thread nD τ).loc main_arg0)
abbrev inB : FVec Ideal S8192x128 .f32 := m ((c.tc : Thread nD τ).loc main_arg2)

theorem A_at (r : Fin 1024) (k : Fin 8192) : A m c (ix2 r k) = inA m c (ix2 k r) := by
  unfold A V
  after_reads_simp
  pointwise

theorem B_at (r : Fin 8192) (k : Fin 128) : B m c (ix2 r k) = inB m c (ix2 r k) := by
  exact congrFun (V_main_arg2 m c) _

theorem value_at (r : Fin 1024) (y : Fin 128) :
    @Eq EReal (((dats m 0 c).arrAt 2 cfg0.N : Vec Ideal S1024x128 .f32) (ix2 r y))
      (∑ k : Fin 8192, inA m c (ix2 k r) * inB m c (ix2 k y)) := by
  rw [result_at]
  exact Finset.sum_congr rfl fun k _ => by rw [A_at, B_at]

end Cert.ForgetRight

namespace Cert.Proof

open Idealize.ShloMosaic Idealize.SL.Sem

section

attribute [local instance] Cert.Kernel26.Gen.facts Cert.Kernel26Ideal.Gen.facts Cert.Reference26Ideal.Gen.facts

theorem frame_Kernel26 : Cert.quiescent_Kernel26 := fun m ρ _ => Cert.Kernel26.Gen.frame (F := Bits) m ρ

theorem frame_Kernel26Ideal : Cert.quiescent_Kernel26Ideal := fun m ρ _ => Cert.Kernel26Ideal.Gen.frame (F := Ideal) m ρ

/-- The reference declares no semaphore. -/
theorem frame_Reference26Ideal : Cert.quiescent_Reference26Ideal := fun m ρ _ =>
  (θ_run Cert.Reference26Ideal.defs _ _).mono (fun r h => ⟨fun c => (h c).2, sem_eq_zero_of_no_sems (by decide) r.2⟩)
    (Cert.Reference26Ideal.Value.run (F := Ideal) m ρ)

theorem preserves26 : Cert.preserves_Kernel26_Kernel26Ideal := trivial

end

theorem algebraic26 : algebraic_Kernel26Ideal_Reference26Ideal (hKernel26Ideal := Cert.Kernel26Ideal.Gen.facts)
    (hReference26Ideal := Cert.Reference26Ideal.Gen.facts) := by
  intro m g m' g' hpre hm
  refine ⟨fun c => (Cert.Kernel26Ideal.Gen.dats m 0 c).arrAt 2 Cert.Kernel26Ideal.cfg0.N, Cert.Kernel26Ideal.Value.run_blocks m g,
    (θ_run (Cert.Reference26Ideal.defs (F := Ideal)) _ _).mono (fun r h c => ⟨?_, (h c).2⟩) (Cert.Reference26Ideal.Value.run m' g')⟩
  refine (h c).1.trans ?_
  obtain ⟨m0, m1, m2⟩ := hm c
  funext j
  obtain ⟨x, y, rfl⟩ : ∃ (x : Fin 1024) (y : Fin 128), j = ix2 x y := ⟨j 0, j 1, eq_ix2 j⟩
  refine Eq.trans ?_ (Cert.ForgetRight.value_at m c x y).symm
  rw [m0, m2]
  pointwise
  exact Finset.sum_congr rfl fun k _ => mul_comm _ _

end Cert.Proof

end
-- ==== Proof.ForgetForward.lean ====
/-
  The forget gate's columns of the input projection: a product, one grid step a block of rows.
-/
module

public import proofs.«01_k».proof.Defs
public import proofs.«01_k».proof.Proof.Gen.Kernel25.Frame
public import proofs.«01_k».proof.Proof.Gen.Kernel25Ideal.Frame
public import proofs.«01_k».proof.Proof.Gen.Kernel25Ideal.Value
public import proofs.«01_k».proof.Proof.Gen.Reference25Ideal.Run
public import proofs.«01_k».proof.Proof.Products
import Idealize.ShloMosaic.Lib.StableHlo.ReadAt

@[expose] public section

set_option maxRecDepth 16384

noncomputable section

namespace Cert.ForgetForward

open Idealize.ShloMosaic Idealize.ShloMosaic.TcCoe Idealize.SL.Sem Cert.Kernel25Ideal Cert.Kernel25Ideal.Gen Cert.Products

theorem only (x0 : Vec Ideal S1024x1024 .bf16) (x1 : Vec Ideal S1024x128 .bf16) : out0_2 (F := Ideal) x0 x1 = k0_pay1 x0 x1 := by
  unfold out0_2
  rw [View.canon_unit_zero (by decide), View.ld_unit_zero (by decide), View.ld_unit_zero (by decide)]

theorem pay1_at (x0 : Vec Ideal S1024x1024 .bf16) (x1 : Vec Ideal S1024x128 .bf16) (x : Fin 1024) (y : Fin 128) :
    (k0_pay1 x0 x1 : FVec Ideal S1024x128 .f32) (ix2 x y) = ∑ k : Fin 1024, x0 (ix2 x k) * x1 (ix2 k y) := by
  unfold k0_pay1
  pointwise
  try simp

variable (m : (ℓ : Loc nD τ sig) → Buf (Elt Ideal) ℓ) (c : Dev nD)

theorem index_at : ∀ t : Fin cfg0.N, win0_0.index t = ![t.val, 0] ∧ win0_1.index t = ![0, 0] ∧ win0_2.index t = ![t.val, 0] :=
  (by decide +kernel : ∀ t : Fin grid0.N, _)

/-- The two factors as the call takes them. -/
abbrev A : FVec Ideal S8192x1024 .bf16 := V m c main_v0
abbrev B : FVec Ideal S1024x128 .bf16 := V m c main_v1

/-- The blocks of a grid step. -/
def bA (t : Fin cfg0.N) : FVec Ideal S1024x1024 .bf16 := iblk m c 0 t
def bB (t : Fin cfg0.N) : FVec Ideal S1024x128 .bf16 := iblk m c 1 t

/-- The result of the call, at an index. -/
theorem result_at (r : Fin 8192) (y : Fin 128) :
    @Eq EReal (((dats m 0 c).arrAt 2 cfg0.N : Vec Ideal S8192x128 .f32) (ix2 r y)) (∑ k : Fin 1024, A m c (ix2 r k) * B m c (ix2 k y)) := by
  have hN : cfg0.N = 8 := N_0
  have hr : r.val / 1024 < cfg0.N := by omega
  have hd : 1024 * (r.val / 1024) + r.val % 1024 = r.val := by omega
  have e := congrFun (Value.blocks2 m c ⟨r.val / 1024, hr⟩ (flush0_2 _)) (ix2 ⟨r.val % 1024, by omega⟩ y)
  have e1 : ((cfg0.win 2).blk ⟨r.val / 1024, hr⟩).view.read (Elt Ideal) ((dats m 0 c).arrAt 2 cfg0.N) (ix2 ⟨r.val % 1024, by omega⟩ y)
      = ((dats m 0 c).arrAt 2 cfg0.N : Vec Ideal S8192x128 .f32) (ix2 r y) := by
    blk_ext [index_at ⟨r.val / 1024, hr⟩, hd]
  rw [e1] at e
  refine e.trans ?_
  rw [Value.flushed2]
  refine (congrFun (only (bA m c ⟨r.val / 1024, hr⟩) (bB m c ⟨r.val / 1024, hr⟩)) (ix2 ⟨r.val % 1024, by omega⟩ y)).trans ?_
  rw [pay1_at]
  refine Finset.sum_congr rfl fun k _ => congrArg₂ (· * ·) ?_ ?_
  · unfold bA
    blk_ext [iblk, index_at ⟨r.val / 1024, hr⟩, hd]
  · unfold bB
    blk_ext [iblk, index_at ⟨r.val / 1024, hr⟩]

/-- The two factors as the arguments give them. -/
abbrev inA : FVec Ideal S8192x1024 .f32 := m ((c.tc : Thread nD τ).loc main_arg0)
abbrev inB : FVec Ideal S1024x128 .f32 := m ((c.tc : Thread nD τ).loc main_arg1)

theorem A_at (r : Fin 8192) (k : Fin 1024) : A m c (ix2 r k) = inA m c (ix2 r k) := by
  unfold A V
  after_reads_simp
  pointwise

theorem B_at (r : Fin 1024) (k : Fin 128) : B m c (ix2 r k) = inB m c (ix2 r k) := by
  unfold B V
  after_reads_simp
  pointwise

theorem value_at (r : Fin 8192) (y : Fin 128) :
    @Eq EReal (((dats m 0 c).arrAt 2 cfg0.N : Vec Ideal S8192x128 .f32) (ix2 r y))
      (∑ k : Fin 1024, inA m c (ix2 r k) * inB m c (ix2 k y)) := by
  rw [result_at]
  exact Finset.sum_congr rfl fun k _ => by rw [A_at, B_at]

end Cert.ForgetForward

namespace Cert.Proof

open Idealize.ShloMosaic Idealize.SL.Sem

section

attribute [local instance] Cert.Kernel25.Gen.facts Cert.Kernel25Ideal.Gen.facts Cert.Reference25Ideal.Gen.facts

theorem frame_Kernel25 : Cert.quiescent_Kernel25 := fun m ρ _ => Cert.Kernel25.Gen.frame (F := Bits) m ρ

theorem frame_Kernel25Ideal : Cert.quiescent_Kernel25Ideal := fun m ρ _ => Cert.Kernel25Ideal.Gen.frame (F := Ideal) m ρ

/-- The reference declares no semaphore. -/
theorem frame_Reference25Ideal : Cert.quiescent_Reference25Ideal := fun m ρ _ =>
  (θ_run Cert.Reference25Ideal.defs _ _).mono (fun r h => ⟨fun c => (h c).2, sem_eq_zero_of_no_sems (by decide) r.2⟩)
    (Cert.Reference25Ideal.Value.run (F := Ideal) m ρ)

theorem preserves25 : Cert.preserves_Kernel25_Kernel25Ideal := trivial

end

theorem algebraic25 : algebraic_Kernel25Ideal_Reference25Ideal (hKernel25Ideal := Cert.Kernel25Ideal.Gen.facts)
    (hReference25Ideal := Cert.Reference25Ideal.Gen.facts) := by
  intro m g m' g' hpre hm
  refine ⟨fun c => (Cert.Kernel25Ideal.Gen.dats m 0 c).arrAt 2 Cert.Kernel25Ideal.cfg0.N, Cert.Kernel25Ideal.Value.run_blocks m g,
    (θ_run (Cert.Reference25Ideal.defs (F := Ideal)) _ _).mono (fun r h c => ⟨?_, (h c).2⟩) (Cert.Reference25Ideal.Value.run m' g')⟩
  refine (h c).1.trans ?_
  obtain ⟨m0, m1⟩ := hm c
  funext j
  obtain ⟨x, y, rfl⟩ : ∃ (x : Fin 8192) (y : Fin 128), j = ix2 x y := ⟨j 0, j 1, eq_ix2 j⟩
  refine Eq.trans ?_ (Cert.ForgetForward.value_at m c x y).symm
  rw [m0, m1]
  pointwise
  try rfl

end Cert.Proof

end
-- ==== Proof.InForward.lean ====
/-
  The input projection without the columns of the forget gate: a product, one grid step a block of rows and a block of columns.
-/
module

public import proofs.«01_k».proof.Defs
public import proofs.«01_k».proof.Proof.Gen.Kernel24.Frame
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Products
import Idealize.ShloMosaic.Lib.StableHlo.ReadAt

@[expose] public section

set_option maxRecDepth 16384

noncomputable section

namespace Cert.InForward

open Idealize.ShloMosaic Idealize.ShloMosaic.TcCoe Idealize.SL.Sem Cert.Kernel24Ideal Cert.Kernel24Ideal.Gen Cert.Products

theorem only (x0 : Vec Ideal S1024x1024 .bf16) (x1 : Vec Ideal S1024x1024 .bf16) : out0_2 (F := Ideal) x0 x1 = k0_pay1 x0 x1 := by
  unfold out0_2
  rw [View.canon_unit_zero (by decide), View.ld_unit_zero (by decide), View.ld_unit_zero (by decide)]

theorem pay1_at (x0 : Vec Ideal S1024x1024 .bf16) (x1 : Vec Ideal S1024x1024 .bf16) (x : Fin 1024) (y : Fin 1024) :
    (k0_pay1 x0 x1 : FVec Ideal S1024x1024 .f32) (ix2 x y) = ∑ k : Fin 1024, x0 (ix2 x k) * x1 (ix2 k y) := by
  unfold k0_pay1
  pointwise
  try simp

variable (m : (ℓ : Loc nD τ sig) → Buf (Elt Ideal) ℓ) (c : Dev nD)

theorem index_at : ∀ t : Fin cfg0.N, win0_0.index t = ![t.val / 9, 0] ∧ win0_1.index t = ![0, t.val % 9] ∧ win0_2.index t = ![t.val / 9, t.val % 9] :=
  (by decide +kernel : ∀ t : Fin grid0.N, _)

/-- The two factors as the call takes them. -/
abbrev A : FVec Ideal S8192x1024 .bf16 := V m c main_v0
abbrev B : FVec Ideal S1024x9216 .bf16 := V m c main_v1

/-- The blocks of a grid step. -/
def bA (t : Fin cfg0.N) : FVec Ideal S1024x1024 .bf16 := iblk m c 0 t
def bB (t : Fin cfg0.N) : FVec Ideal S1024x1024 .bf16 := iblk m c 1 t

/-- The result of the call, at an index. -/
theorem result_at (r : Fin 8192) (y : Fin 9216) :
    @Eq EReal (((dats m 0 c).arrAt 2 cfg0.N : Vec Ideal S8192x9216 .f32) (ix2 r y)) (∑ k : Fin 1024, A m c (ix2 r k) * B m c (ix2 k y)) := by
  have hN : cfg0.N = 72 := N_0
  have hr : 9 * (r.val / 1024) + y.val / 1024 < cfg0.N := by omega
  have hd : 1024 * (r.val / 1024) + r.val % 1024 = r.val := by omega
  have h1 : (9 * (r.val / 1024) + y.val / 1024) / 9 = r.val / 1024 := by omega
  have h2 : (9 * (r.val / 1024) + y.val / 1024) % 9 = y.val / 1024 := by omega
  have hy : 1024 * (y.val / 1024) + y.val % 1024 = y.val := by omega
  have e := congrFun (Value.blocks2 m c ⟨9 * (r.val / 1024) + y.val / 1024, hr⟩ (flush0_2 _)) (ix2 ⟨r.val % 1024, by omega⟩ ⟨y.val % 1024, by omega⟩)
  have e1 : ((cfg0.win 2).blk ⟨9 * (r.val / 1024) + y.val / 1024, hr⟩).view.read (Elt Ideal) ((dats m 0 c).arrAt 2 cfg0.N) (ix2 ⟨r.val % 1024, by omega⟩ ⟨y.val % 1024, by omega⟩)
      = ((dats m 0 c).arrAt 2 cfg0.N : Vec Ideal S8192x9216 .f32) (ix2 r y) := by
    blk_ext [index_at ⟨9 * (r.val / 1024) + y.val / 1024, hr⟩, h1, h2, hd, hy]
  rw [e1] at e
  refine e.trans ?_
  rw [Value.flushed2]
  refine (congrFun (only (bA m c ⟨9 * (r.val / 1024) + y.val / 1024, hr⟩) (bB m c ⟨9 * (r.val / 1024) + y.val / 1024, hr⟩)) (ix2 ⟨r.val % 1024, by omega⟩ ⟨y.val % 1024, by omega⟩)).trans ?_
  rw [pay1_at]
  refine Finset.sum_congr rfl fun k _ => congrArg₂ (· * ·) ?_ ?_
  · unfold bA
    blk_ext [iblk, index_at ⟨9 * (r.val / 1024) + y.val / 1024, hr⟩, h1, hd]
  · unfold bB
    blk_ext [iblk, index_at ⟨9 * (r.val / 1024) + y.val / 1024, hr⟩, h1, h2, hy]

/-- The two factors as the arguments give them. -/
abbrev inA : FVec Ideal S8192x1024 .f32 := m ((c.tc : Thread nD τ).loc main_arg0)
abbrev inB : FVec Ideal S1024x9216 .f32 := m ((c.tc : Thread nD τ).loc main_arg1)

theorem A_at (r : Fin 8192) (k : Fin 1024) : A m c (ix2 r k) = inA m c (ix2 r k) := by
  unfold A V
  after_reads_simp
  pointwise

theorem B_at (r : Fin 1024) (k : Fin 9216) : B m c (ix2 r k) = inB m c (ix2 r k) := by
  unfold B V
  after_reads_simp
  pointwise

theorem value_at (r : Fin 8192) (y : Fin 9216) :
    @Eq EReal (((dats m 0 c).arrAt 2 cfg0.N : Vec Ideal S8192x9216 .f32) (ix2 r y))
      (∑ k : Fin 1024, inA m c (ix2 r k) * inB m c (ix2 k y)) := by
  rw [result_at]
  exact Finset.sum_congr rfl fun k _ => by rw [A_at, B_at]

end Cert.InForward

namespace Cert.Proof

open Idealize.ShloMosaic Idealize.SL.Sem

section

attribute [local instance] Cert.Kernel24.Gen.facts Cert.Kernel24Ideal.Gen.facts Cert.Reference24Ideal.Gen.facts

theorem frame_Kernel24 : Cert.quiescent_Kernel24 := fun m ρ _ => Cert.Kernel24.Gen.frame (F := Bits) m ρ

theorem frame_Kernel24Ideal : Cert.quiescent_Kernel24Ideal := fun m ρ _ => Cert.Kernel24Ideal.Gen.frame (F := Ideal) m ρ

/-- The reference declares no semaphore. -/
theorem frame_Reference24Ideal : Cert.quiescent_Reference24Ideal := fun m ρ _ =>
  (θ_run Cert.Reference24Ideal.defs _ _).mono (fun r h => ⟨fun c => (h c).2, sem_eq_zero_of_no_sems (by decide) r.2⟩)
    (Cert.Reference24Ideal.Value.run (F := Ideal) m ρ)

theorem preserves24 : Cert.preserves_Kernel24_Kernel24Ideal := trivial

end

theorem algebraic24 : algebraic_Kernel24Ideal_Reference24Ideal (hKernel24Ideal := Cert.Kernel24Ideal.Gen.facts)
    (hReference24Ideal := Cert.Reference24Ideal.Gen.facts) := by
  intro m g m' g' hpre hm
  refine ⟨fun c => (Cert.Kernel24Ideal.Gen.dats m 0 c).arrAt 2 Cert.Kernel24Ideal.cfg0.N, Cert.Kernel24Ideal.Value.run_blocks m g,
    (θ_run (Cert.Reference24Ideal.defs (F := Ideal)) _ _).mono (fun r h c => ⟨?_, (h c).2⟩) (Cert.Reference24Ideal.Value.run m' g')⟩
  refine (h c).1.trans ?_
  obtain ⟨m0, m1⟩ := hm c
  funext j
  obtain ⟨x, y, rfl⟩ : ∃ (x : Fin 8192) (y : Fin 9216), j = ix2 x y := ⟨j 0, j 1, eq_ix2 j⟩
  refine Eq.trans ?_ (Cert.InForward.value_at m c x y).symm
  rw [m0, m1]
  pointwise
  try rfl

end Cert.Proof

end
-- ==== Proof.HeadNorm.lean ====
/-
  The normalisation of the heads of the recurrent mixer, and its output gate.
-/
module

public import proofs.«01_k».proof.Defs
public import proofs.«01_k».proof.Proof.Gen.Kernel31.Frame
public import proofs.«01_k».proof.Proof.Gen.Kernel31Ideal.Frame
public import proofs.«01_k».proof.Proof.Gen.Kernel31Ideal.Value
public import proofs.«01_k».proof.Proof.Gen.Reference31Ideal.Run
public import proofs.«01_k».proof.Proof.Merge
import Idealize.ShloMosaic.Lib.StableHlo.ReadAt
public import Idealize.ShloMosaic.Lib.Pipeline.ValueKit

@[expose] public section

set_option maxRecDepth 16384

noncomputable section

namespace Cert.HeadNorm

open Idealize.ShloMosaic Idealize.ShloMosaic.TcCoe Idealize.SL.Sem Cert.Kernel31Ideal Cert.Kernel31Ideal.Gen
open Cert.Merge (gate)

/-- What the root is taken of. -/
def mean (x : Fin 128 → EReal) : EReal :=
  Ideal.div (∑ k, x k * x k) (Ideal.ofBits .f32 0x43000000#32) + Ideal.ofBits .f32 0x358637BD#32

/-- An entry of a head: the entry, its head's entries, the gate's entry and the gain. -/
def entry (x : Fin 128 → EReal) (l : Fin 128) (a g : EReal) : EReal := x l * Ideal.rsqrt (mean x) * g * (a * gate a)

/-- The lane of a head. -/
abbrev lane (h : Fin 8) (l : Fin 128) : Fin 1024 := ⟨128 * h.val + l.val, by omega⟩

/-- A piece has, at a row and a lane, the entry of a head. -/
def At (x0 x1 : Vec Ideal S256x1024 .f32) (x2 : Vec Ideal S1x128 .f32) (p : Fin 256) (l : Fin 128) (h : Fin 8) (v : FVec Ideal S256x128 .f32) : Prop :=
  @Eq EReal (v (ix2 p l)) (entry (fun k => x0 (ix2 p (lane h k))) l (x1 (ix2 p (lane h l))) (x2 (ix2 0 l)))

/-- The eight pieces are the eight heads. -/
theorem heads (x0 x1 : Vec Ideal S256x1024 .f32) (x2 : Vec Ideal S1x128 .f32) (p : Fin 256) (l : Fin 128) :
    At x0 x1 x2 p l 0 (k0_pay2 x0 x1 x2) ∧
    At x0 x1 x2 p l 1 (k0_pay6 (k0_pay3 x1) (k0_pay4 x0 x2) (k0_pay5 x1)) ∧
    At x0 x1 x2 p l 2 (k0_pay7 x0 x1 x2) ∧
    At x0 x1 x2 p l 3 (k0_pay12 (k0_pay8 x1) (k0_pay9 x0 x2) (k0_pay10 x1) (k0_pay11 (F := Ideal))) ∧
    At x0 x1 x2 p l 4 (k0_pay13 x0 x1 x2) ∧
    At x0 x1 x2 p l 5 (k0_pay17 (F := Ideal) (k0_pay14 x1) (k0_pay15 x0 x2) (k0_pay16 x1) (1 : EReal)) ∧
    At x0 x1 x2 p l 6 (k0_pay18 x0 x1 x2) ∧
    At x0 x1 x2 p l 7 (mulf (k0_pay20 x0 x2) (mulf (k0_pay19 x1) (k0_pay21 x1))) := by
  unfold At k0_pay21 k0_pay20 k0_pay19 k0_pay18 k0_pay17 k0_pay16 k0_pay15 k0_pay14 k0_pay13 k0_pay12 k0_pay11 k0_pay10 k0_pay9 k0_pay8 k0_pay7 k0_pay6
    k0_pay5 k0_pay4 k0_pay3 k0_pay2 entry mean gate
  refine ⟨?_, ?_, ?_, ?_, ?_, ?_, ?_, ?_⟩
  all_goals
    pointwise
    try simp [lane]

theorem pay_at (x0 x1 : Vec Ideal S256x1024 .f32) (x2 : Vec Ideal S1x128 .f32) (p : Fin 256) (h : Fin 8) (l : Fin 128) :
    @Eq EReal ((k0_pay1 (k0_pay2 x0 x1 x2) (k0_pay6 (k0_pay3 x1) (k0_pay4 x0 x2) (k0_pay5 x1)) (k0_pay7 x0 x1 x2) (k0_pay12 (k0_pay8 x1) (k0_pay9 x0 x2) (k0_pay10 x1) (k0_pay11 (F := Ideal))) (k0_pay13 x0 x1 x2) (k0_pay17 (k0_pay14 x1) (k0_pay15 x0 x2) (k0_pay16 x1) (Scalar.ofBits .f32 0x3F800000#32)) (k0_pay18 x0 x1 x2) (k0_pay19 x1) (k0_pay20 x0 x2) (k0_pay21 x1) : FVec Ideal S256x1024 .bf16) (ix2 p (lane h l)))
      (entry (fun k => x0 (ix2 p (lane h k))) l (x1 (ix2 p (lane h l))) (x2 (ix2 0 l))) := by
  obtain ⟨a0, a1, a2, a3, a4, a5, a6, a7⟩ := heads x0 x1 x2 p l
  unfold k0_pay1
  fin_cases h
  all_goals
    pointwise
    repeat rw [dif_neg (by omega)]
    try rw [dif_pos (by omega)]
    try simp only [Nat.sub_sub, Nat.reduceAdd, Nat.add_sub_cancel_left]
  exacts [a0, a1, a2, a3, a4, a5, a6, a7]

theorem index_at : ∀ t : Fin cfg0.N, win0_0.index t = ![t.val, 0] ∧ win0_1.index t = ![t.val, 3] ∧ win0_2.index t = ![0, 0] ∧ win0_3.index t = ![t.val, 0] :=
  (by decide +kernel : ∀ t : Fin grid0.N, _)

variable (m : (ℓ : Loc nD τ sig) → Buf (Elt Ideal) ℓ) (c : Dev nD)

/-- The arguments. -/
abbrev X : FVec Ideal S8192x1024 .f32 := m ((c.tc : Thread nD τ).loc main_arg0)
abbrev proj : FVec Ideal S8192x9216 .f32 := m ((c.tc : Thread nD τ).loc main_arg1)
abbrev W : FVec Ideal S1x128 .f32 := m ((c.tc : Thread nD τ).loc main_arg2)

/-- The blocks of a grid step. -/
def bX (t : Fin cfg0.N) : FVec Ideal S256x1024 .f32 := iblk m c 0 t
def bP (t : Fin cfg0.N) : FVec Ideal S256x1024 .f32 := iblk m c 1 t
def bW (t : Fin cfg0.N) : FVec Ideal S1x128 .f32 := iblk m c 2 t

variable (r : Fin 8192)

theorem bX_at (t : Fin cfg0.N) (p : Fin 256) (h : 256 * t.val + p.val = r.val) (l : Fin 1024) : bX m c t (ix2 p l) = X m c (ix2 r l) := by
  refine Eq.trans ?_ (congrFun (V_main_arg0 m c) _)
  unfold bX
  blk_ext [iblk, index_at t, h]

theorem bP_at (t : Fin cfg0.N) (p : Fin 256) (h : 256 * t.val + p.val = r.val) (l : Fin 1024) : bP m c t (ix2 p l) = proj m c (ix2 r (⟨3072 + l.val, by omega⟩ : Fin 9216)) := by
  refine Eq.trans ?_ (congrFun (V_main_arg1 m c) _)
  unfold bP
  blk_ext [iblk, index_at t, h]

theorem bW_at (t : Fin cfg0.N) (l : Fin 128) : bW m c t (ix2 0 l) = W m c (ix2 0 l) := by
  refine Eq.trans ?_ (congrFun (V_main_arg2 m c) _)
  unfold bW
  blk_ext [iblk, index_at t]

theorem value3_at (h : Fin 8) (l : Fin 128) : @Eq EReal (((dats m 0 c).arrAt 3 cfg0.N : Vec Ideal S8192x1024 .bf16) (ix2 r (lane h l)))
    (entry (fun k => X m c (ix2 r (lane h k))) l (proj m c (ix2 r ⟨3072 + (128 * h.val + l.val), by omega⟩)) (W m c (ix2 0 l))) := by
  have hN : cfg0.N = 32 := N_0
  have hr : r.val / 256 < cfg0.N := by omega
  have hd : 256 * (r.val / 256) + r.val % 256 = r.val := by omega
  have hp : r.val % 256 < 256 := by omega
  have e := congrFun (Value.blocks3 m c ⟨r.val / 256, hr⟩ (flush0_3 _)) (ix2 ⟨r.val % 256, hp⟩ (lane h l))
  have e1 : ((cfg0.win 3).blk ⟨r.val / 256, hr⟩).view.read (Elt Ideal) ((dats m 0 c).arrAt 3 cfg0.N) (ix2 ⟨r.val % 256, hp⟩ (lane h l))
      = ((dats m 0 c).arrAt 3 cfg0.N : Vec Ideal S8192x1024 .bf16) (ix2 r (lane h l)) := by
    blk_ext [index_at ⟨r.val / 256, hr⟩, hd]
  rw [e1] at e
  refine e.trans ?_
  rw [Value.flushed3]
  show (out0_3 (F := Ideal) (bX m c ⟨r.val / 256, hr⟩) (bP m c ⟨r.val / 256, hr⟩) (bW m c ⟨r.val / 256, hr⟩) : Vec Ideal S256x1024 .bf16) (ix2 ⟨r.val % 256, hp⟩ (lane h l)) = _
  unfold out0_3
  rw [View.canon_unit_zero (by decide), View.ld_unit_zero (by decide), View.ld_unit_zero (by decide), View.ld_unit_zero (by decide)]
  rw [pay_at]
  simp only [bX_at m c r ⟨r.val / 256, hr⟩ ⟨r.val % 256, hp⟩ hd, bP_at m c r ⟨r.val / 256, hr⟩ ⟨r.val % 256, hp⟩ hd, bW_at]

end Cert.HeadNorm

namespace Cert.Proof

open Idealize.ShloMosaic Idealize.SL.Sem

section

attribute [local instance] Cert.Kernel31.Gen.facts Cert.Kernel31Ideal.Gen.facts Cert.Reference31Ideal.Gen.facts

theorem frame_Kernel31 : Cert.quiescent_Kernel31 := fun m ρ _ => Cert.Kernel31.Gen.frame (F := Bits) m ρ

theorem frame_Kernel31Ideal : Cert.quiescent_Kernel31Ideal := fun m ρ _ => Cert.Kernel31Ideal.Gen.frame (F := Ideal) m ρ

/-- The reference declares no semaphore. -/
theorem frame_Reference31Ideal : Cert.quiescent_Reference31Ideal := fun m ρ _ =>
  (θ_run Cert.Reference31Ideal.defs _ _).mono (fun r h => ⟨fun c => (h c).2, sem_eq_zero_of_no_sems (by decide) r.2⟩)
    (Cert.Reference31Ideal.Value.run (F := Ideal) m ρ)

theorem preserves31 : Cert.preserves_Kernel31_Kernel31Ideal := trivial

end

theorem algebraic31 : algebraic_Kernel31Ideal_Reference31Ideal (hKernel31Ideal := Cert.Kernel31Ideal.Gen.facts)
    (hReference31Ideal := Cert.Reference31Ideal.Gen.facts) := by
  intro m g m' g' hpre hm
  refine ⟨fun c => (Cert.Kernel31Ideal.Gen.dats m 0 c).arrAt 3 Cert.Kernel31Ideal.cfg0.N,
    Cert.Kernel31Ideal.Value.run_blocks m g,
    (θ_run (Cert.Reference31Ideal.defs (F := Ideal)) _ _).mono (fun r h c => ⟨?_, (h c).2⟩) (Cert.Reference31Ideal.Value.run m' g')⟩
  refine ((h c).1).trans ?_
  obtain ⟨m0, m1, m2⟩ := hm c
  funext j
  obtain ⟨x, y, rfl⟩ : ∃ (x : Fin 8192) (y : Fin 1024), j = ix2 x y := ⟨j 0, j 1, eq_ix2 j⟩
  obtain ⟨d, l, rfl⟩ : ∃ (d : Fin 8) (l : Fin 128), y = Cert.HeadNorm.lane d l :=
    ⟨⟨y.val / 128, by omega⟩, ⟨y.val % 128, by omega⟩, Fin.ext (by show y.val = 128 * (y.val / 128) + y.val % 128; omega)⟩
  refine Eq.trans ?_ (Cert.HeadNorm.value3_at m c x d l).symm
  rw [m0, m1, m2]
  unfold Cert.HeadNorm.entry Cert.HeadNorm.mean Cert.Merge.gate
  pointwise
  have h1 : (128 * d.val + l.val) / 128 * 128 = 128 * d.val := by omega
  have h2 : (128 * d.val + l.val) % 128 = l.val := by omega
  simp only [h1, h2]

end Cert.Proof

end
-- ==== Proof.Conv.lean ====
/-
  The gradient of the rows before the convolution.
-/
module

public import proofs.«01_k».proof.Defs
public import proofs.«01_k».proof.Proof.Gen.Kernel32.Frame
public import proofs.«01_k».proof.Proof.Gen.Kernel32Ideal.Frame
public import proofs.«01_k».proof.Proof.Gen.Kernel32Ideal.Value
public import proofs.«01_k».proof.Proof.Gen.Reference32Ideal.Run
public import proofs.«01_k».proof.Proof.Products
import Idealize.ShloMosaic.Lib.StableHlo.ReadAt
public import Idealize.ShloMosaic.Lib.Pipeline.ValueKit

@[expose] public section

set_option maxRecDepth 16384

noncomputable section

namespace Cert.Conv

open Idealize.ShloMosaic Idealize.ShloMosaic.TcCoe Idealize.SL.Sem Cert.Kernel32Ideal Cert.Kernel32Ideal.Gen Cert.Products

/-- The products of the gradient with the two factors, side by side, of a block of rows and the eight rows behind it. -/
def both (i : grid0.Coords) (x2 : Vec Ideal S256x2816 .bf16) (x3 : Vec Ideal S8x2816 .bf16) (x4 : Vec Ideal S256x2816 .bf16) (x5 : Vec Ideal S8x2816 .bf16) (x6 : Vec Ideal S256x2816 .bf16) (x7 : Vec Ideal S8x2816 .bf16) : FVec Ideal S264x5632 .f32 :=
  k0_pay11 (k0_pay2 x4) (k0_pay3 x5) (k0_pay9 i x2 x3) (k0_pay10 i x2 x3 x6 x7)

/-- The result's block. -/
def block (i : grid0.Coords) (x2 : Vec Ideal S256x2816 .bf16) (x3 : Vec Ideal S8x2816 .bf16) (x4 : Vec Ideal S256x2816 .bf16) (x5 : Vec Ideal S8x2816 .bf16) (x6 : Vec Ideal S256x2816 .bf16) (x7 : Vec Ideal S8x2816 .bf16) (x8 : Vec Ideal S8x5632 .f32) : FVec Ideal S256x5632 .bf16 :=
  k0_pay14 (k0_pay2 x4) (k0_pay3 x5) (k0_pay4 x8) (k0_pay9 i x2 x3) (k0_pay10 i x2 x3 x6 x7)

theorem rows_first (c : Dev nD) (t : Fin cfg0.N) (h0 : cond0_0 (grid0.coords t)) (x0 : Vec Ideal S256x5632 .f32) (x1 : Vec Ideal S8x5632 .f32) (x2 : Vec Ideal S256x2816 .bf16) (x3 : Vec Ideal S8x2816 .bf16) (x4 : Vec Ideal S256x2816 .bf16) (x5 : Vec Ideal S8x2816 .bf16) (x6 : Vec Ideal S256x2816 .bf16) (x7 : Vec Ideal S8x2816 .bf16) (x8 : Vec Ideal S8x5632 .f32) :
    out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) h0 x0 x1 x2 x3 x4 x5 x6 x7 x8 = block (grid0.coords t) x2 x3 x4 x5 x6 x7 x8 := by
  unfold out0_A_9 kernelRun0_A block
  dsimp only
  sl_unfold_run_names
  refine (View.read_writes_full _ _ _ _ _).trans ?_
  rw [View.readAt_full, View.readAt_full, View.readAt_full, View.readAt_full, View.readAt_full, View.readAt_full, View.readAt_full, (hs0_2 t).read_unread, (hs0_3 t).read_unread, (hs0_4 t).read_unread, (hs0_5 t).read_unread, (hs0_6 t).read_unread, (hs0_7 t).read_unread, (hs0_8 t).read_unread]

theorem rows_next (c : Dev nD) (t : Fin cfg0.N) (h0 : ¬cond0_0 (grid0.coords t)) (x0 : Vec Ideal S256x5632 .f32) (x1 : Vec Ideal S8x5632 .f32) (x2 : Vec Ideal S256x2816 .bf16) (x3 : Vec Ideal S8x2816 .bf16) (x4 : Vec Ideal S256x2816 .bf16) (x5 : Vec Ideal S8x2816 .bf16) (x6 : Vec Ideal S256x2816 .bf16) (x7 : Vec Ideal S8x2816 .bf16) (x8 : Vec Ideal S8x5632 .f32) (xo : Vec Ideal S8x5632 .f32) (xp : Vec Ideal S1x5632 .f32) :
    out0_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) h0 x0 x1 x2 x3 x4 x5 x6 x7 x8 xo xp = block (grid0.coords t) x2 x3 x4 x5 x6 x7 x8 := by
  unfold out0_B_9 kernelRun0_B block
  dsimp only
  sl_unfold_run_names
  refine (View.read_writes_full _ _ _ _ _).trans ?_
  rw [View.readAt_full, View.readAt_full, View.readAt_full, View.readAt_full, View.readAt_full, View.readAt_full, View.readAt_full, (hs0_2 t).read_unread, (hs0_3 t).read_unread, (hs0_4 t).read_unread, (hs0_5 t).read_unread, (hs0_6 t).read_unread, (hs0_7 t).read_unread, (hs0_8 t).read_unread]

theorem block_at (i : grid0.Coords) (x2 : Vec Ideal S256x2816 .bf16) (x3 : Vec Ideal S8x2816 .bf16) (x4 : Vec Ideal S256x2816 .bf16) (x5 : Vec Ideal S8x2816 .bf16) (x6 : Vec Ideal S256x2816 .bf16) (x7 : Vec Ideal S8x2816 .bf16) (x8 : Vec Ideal S8x5632 .f32) (p : Fin 256) (l : Fin 5632) :
    @Eq EReal (block i x2 x3 x4 x5 x6 x7 x8 (ix2 p l))
      (x8 (ix2 2 l) * both i x2 x3 x4 x5 x6 x7 (ix2 ⟨p.val, by omega⟩ l) + x8 (ix2 1 l) * both i x2 x3 x4 x5 x6 x7 (ix2 ⟨p.val + 1, by omega⟩ l)
        + x8 (ix2 0 l) * both i x2 x3 x4 x5 x6 x7 (ix2 ⟨p.val + 2, by omega⟩ l)) := by
  unfold both block k0_pay14 k0_pay12
  generalize k0_pay11 (k0_pay2 x4) (k0_pay3 x5) (k0_pay9 i x2 x3) (k0_pay10 i x2 x3 x6 x7) = w
  unfold k0_pay4
  pointwise
  have h1 : (p.val + 264 - 263) % 264 = p.val + 1 := by omega
  have h2 : (p.val + 264 - 262) % 264 = p.val + 2 := by omega
  simp only [h1, h2]

/-- One of the two products at a row: of the block, or of the rows behind it; behind the last block the gradient counts as zero. -/
def side (b : BitVec 1) (x2 : Vec Ideal S256x2816 .bf16) (x3 : Vec Ideal S8x2816 .bf16) (x6 : Vec Ideal S256x2816 .bf16) (x7 : Vec Ideal S8x2816 .bf16) (q : Fin 264) (l : Fin 2816) : EReal :=
  (if h : q.val < 256 then x2 (ix2 ⟨q.val, h⟩ l) else Scalar.select b (0 : EReal) (x3 (ix2 ⟨q.val - 256, by omega⟩ l)))
    * (if h : q.val < 256 then x6 (ix2 ⟨q.val, h⟩ l) else x7 (ix2 ⟨q.val - 256, by omega⟩ l))

theorem both_at (i : grid0.Coords) (x2 : Vec Ideal S256x2816 .bf16) (x3 : Vec Ideal S8x2816 .bf16) (x4 : Vec Ideal S256x2816 .bf16) (x5 : Vec Ideal S8x2816 .bf16) (x6 : Vec Ideal S256x2816 .bf16) (x7 : Vec Ideal S8x2816 .bf16) (q : Fin 264) (l : Fin 5632) :
    @Eq EReal (both i x2 x3 x4 x5 x6 x7 (ix2 q l))
      (if h : l.val < 2816 then side (Scalar.cmpi .eq (BitVec.ofNat 32 (i 0).val) 31#32) x2 x3 x6 x7 q ⟨l.val, h⟩
        else side (Scalar.cmpi .eq (BitVec.ofNat 32 (i 0).val) 31#32) x2 x3 x4 x5 q ⟨l.val - 2816, by omega⟩) := by
  unfold both k0_pay11 k0_pay10 k0_pay9 k0_pay3 k0_pay2 side
  pointwise

theorem index_at : ∀ t : Fin cfg0.N, win0_2.index t = ![t.val, 0] ∧ win0_4.index t = ![t.val, 0] ∧ win0_6.index t = ![t.val, 0] ∧ win0_8.index t = ![0, 0] ∧ win0_9.index t = ![t.val, 0] :=
  (by decide +kernel : ∀ t : Fin grid0.N, _)

theorem next_at : ∀ t : Fin cfg0.N, t.val < 31 → win0_3.index t = ![32 * (t.val + 1), 0] ∧ win0_5.index t = ![32 * (t.val + 1), 0] ∧ win0_7.index t = ![32 * (t.val + 1), 0] :=
  (by decide +kernel : ∀ t : Fin grid0.N, _)

theorem last_at : ∀ t : Fin cfg0.N, (Scalar.cmpi .eq (BitVec.ofNat 32 (grid0.coords t 0).val) 31#32 = 1#1) = (t.val = 31) :=
  (by decide +kernel : ∀ t : Fin grid0.N, _)

variable (m : (ℓ : Loc nD τ sig) → Buf (Elt Ideal) ℓ) (c : Dev nD)

/-- The arguments: the gradient, the two factors and the taps. -/
abbrev D : FVec Ideal S8192x2816 .f32 := m ((c.tc : Thread nD τ).loc main_arg1)
abbrev L : FVec Ideal S8192x2816 .f32 := m ((c.tc : Thread nD τ).loc main_arg2)
abbrev G : FVec Ideal S8192x2816 .f32 := m ((c.tc : Thread nD τ).loc main_arg3)
abbrev W : FVec Ideal S3x5632 .f32 := m ((c.tc : Thread nD τ).loc main_arg4)

/-- The call's operands. -/
abbrev hD : FVec Ideal S8192x2816 .bf16 := V m c main_v2
abbrev hL : FVec Ideal S8192x2816 .bf16 := V m c main_v3
abbrev hG : FVec Ideal S8192x2816 .bf16 := V m c main_v4
abbrev hW : FVec Ideal S8x5632 .f32 := V m c main_v1

theorem hD_at (r : Fin 8192) (k : Fin 2816) : hD m c (ix2 r k) = D m c (ix2 r k) := by
  unfold hD V
  after_reads_simp
  pointwise

theorem hL_at (r : Fin 8192) (k : Fin 2816) : hL m c (ix2 r k) = L m c (ix2 r k) := by
  unfold hL V
  after_reads_simp
  pointwise

theorem hG_at (r : Fin 8192) (k : Fin 2816) : hG m c (ix2 r k) = G m c (ix2 r k) := by
  unfold hG V
  after_reads_simp
  pointwise

theorem hW_at (l : Fin 5632) : hW m c (ix2 2 l) = W m c (ix2 2 l) ∧ hW m c (ix2 1 l) = W m c (ix2 1 l) ∧ hW m c (ix2 0 l) = W m c (ix2 0 l) := by
  unfold hW V
  after_reads_simp
  refine ⟨?_, ?_, ?_⟩ <;> pointwise

/-- The blocks of a grid step, and the eight rows behind each. -/
def bD (t : Fin cfg0.N) : FVec Ideal S256x2816 .bf16 := iblk m c 2 t
def afterD (t : Fin cfg0.N) : FVec Ideal S8x2816 .bf16 := iblk m c 3 t
def bL (t : Fin cfg0.N) : FVec Ideal S256x2816 .bf16 := iblk m c 4 t
def afterL (t : Fin cfg0.N) : FVec Ideal S8x2816 .bf16 := iblk m c 5 t
def bG (t : Fin cfg0.N) : FVec Ideal S256x2816 .bf16 := iblk m c 6 t
def afterG (t : Fin cfg0.N) : FVec Ideal S8x2816 .bf16 := iblk m c 7 t
def bW (t : Fin cfg0.N) : FVec Ideal S8x5632 .f32 := iblk m c 8 t

variable (r : Fin 8192)

theorem bD_at (t : Fin cfg0.N) (p : Fin 256) (h : 256 * t.val + p.val = r.val) (k : Fin 2816) : bD m c t (ix2 p k) = D m c (ix2 r k) := by
  refine Eq.trans ?_ (hD_at m c r k)
  unfold bD
  blk_ext [iblk, index_at t, h]

theorem afterD_at (t : Fin cfg0.N) (p : Fin 8) (ht : t.val < 31) (h : 256 * (t.val + 1) + p.val = r.val) (k : Fin 2816) : afterD m c t (ix2 p k) = D m c (ix2 r k) := by
  have hi := next_at t ht
  obtain ⟨n, hn⟩ : ∃ n, n = 32 * (t.val + 1) := ⟨_, rfl⟩
  have h8 : 8 * n + p.val = r.val := by omega
  rw [← hn] at hi
  refine Eq.trans ?_ (hD_at m c r k)
  unfold afterD
  blk_ext [iblk, hi, h8]

theorem bL_at (t : Fin cfg0.N) (p : Fin 256) (h : 256 * t.val + p.val = r.val) (k : Fin 2816) : bL m c t (ix2 p k) = L m c (ix2 r k) := by
  refine Eq.trans ?_ (hL_at m c r k)
  unfold bL
  blk_ext [iblk, index_at t, h]

theorem afterL_at (t : Fin cfg0.N) (p : Fin 8) (ht : t.val < 31) (h : 256 * (t.val + 1) + p.val = r.val) (k : Fin 2816) : afterL m c t (ix2 p k) = L m c (ix2 r k) := by
  have hi := next_at t ht
  obtain ⟨n, hn⟩ : ∃ n, n = 32 * (t.val + 1) := ⟨_, rfl⟩
  have h8 : 8 * n + p.val = r.val := by omega
  rw [← hn] at hi
  refine Eq.trans ?_ (hL_at m c r k)
  unfold afterL
  blk_ext [iblk, hi, h8]

theorem bG_at (t : Fin cfg0.N) (p : Fin 256) (h : 256 * t.val + p.val = r.val) (k : Fin 2816) : bG m c t (ix2 p k) = G m c (ix2 r k) := by
  refine Eq.trans ?_ (hG_at m c r k)
  unfold bG
  blk_ext [iblk, index_at t, h]

theorem afterG_at (t : Fin cfg0.N) (p : Fin 8) (ht : t.val < 31) (h : 256 * (t.val + 1) + p.val = r.val) (k : Fin 2816) : afterG m c t (ix2 p k) = G m c (ix2 r k) := by
  have hi := next_at t ht
  obtain ⟨n, hn⟩ : ∃ n, n = 32 * (t.val + 1) := ⟨_, rfl⟩
  have h8 : 8 * n + p.val = r.val := by omega
  rw [← hn] at hi
  refine Eq.trans ?_ (hG_at m c r k)
  unfold afterG
  blk_ext [iblk, hi, h8]

theorem bW_at (t : Fin cfg0.N) (j : Fin 8) (l : Fin 5632) : bW m c t (ix2 j l) = hW m c (ix2 j l) := by
  unfold bW
  blk_ext [iblk, index_at t]

/-- The two products at a row, side by side; zero behind the last row. -/
def F (n : ℕ) (l : Fin 5632) : EReal :=
  if h : n < 8192 then
    if k : l.val < 2816 then D m c (ix2 ⟨n, h⟩ ⟨l.val, k⟩) * G m c (ix2 ⟨n, h⟩ ⟨l.val, k⟩)
    else D m c (ix2 ⟨n, h⟩ ⟨l.val - 2816, by omega⟩) * L m c (ix2 ⟨n, h⟩ ⟨l.val - 2816, by omega⟩)
  else 0

theorem both_block (t : Fin cfg0.N) (q : Fin 264) (l : Fin 5632) :
    @Eq EReal (both (grid0.coords t) (bD m c t) (afterD m c t) (bL m c t) (afterL m c t) (bG m c t) (afterG m c t) (ix2 q l)) (F m c (256 * t.val + q.val) l) := by
  have hN : cfg0.N = 32 := N_0
  have ht := t.isLt
  rw [both_at]
  unfold F side
  by_cases hq : q.val < 256
  · have hn : 256 * t.val + q.val < 8192 := by omega
    simp only [dif_pos hq, dif_pos hn, bD_at m c ⟨256 * t.val + q.val, hn⟩ t ⟨q.val, hq⟩ rfl, bL_at m c ⟨256 * t.val + q.val, hn⟩ t ⟨q.val, hq⟩ rfl,
      bG_at m c ⟨256 * t.val + q.val, hn⟩ t ⟨q.val, hq⟩ rfl]
  · by_cases hl : t.val = 31
    · have hn : ¬256 * t.val + q.val < 8192 := by omega
      have hb : Scalar.cmpi .eq (BitVec.ofNat 32 (grid0.coords t 0).val) 31#32 = (1 : BitVec 1) := (last_at t).mpr hl
      simp only [dif_neg hq, dif_neg hn, Scalar.select, if_pos hb, zero_mul, dite_eq_ite, ite_self]
    · have hn : 256 * t.val + q.val < 8192 := by omega
      have hk : 256 * (t.val + 1) + (q.val - 256) = 256 * t.val + q.val := by omega
      have hb : ¬Scalar.cmpi .eq (BitVec.ofNat 32 (grid0.coords t 0).val) 31#32 = (1 : BitVec 1) := fun e => hl ((last_at t).mp e)
      simp only [dif_neg hq, dif_pos hn, Scalar.select, if_neg hb, afterD_at m c ⟨256 * t.val + q.val, hn⟩ t ⟨q.val - 256, by omega⟩ (by omega) hk,
        afterL_at m c ⟨256 * t.val + q.val, hn⟩ t ⟨q.val - 256, by omega⟩ (by omega) hk, afterG_at m c ⟨256 * t.val + q.val, hn⟩ t ⟨q.val - 256, by omega⟩ (by omega) hk]

/-- What the first result holds after a grid step. -/
theorem rows_outs (t : Fin cfg0.N) : (outsAt0 m c t.val t.isLt).1
    = block (grid0.coords t) (bD m c t) (afterD m c t) (bL m c t) (afterL m c t) (bG m c t) (afterG m c t) (bW m c t) := by
  by_cases h0 : t.val % 32 = 0
  · have e := congrArg Prod.fst (outsAt0_A m c t h0)
    dsimp only at e
    exact (e.trans (rows_first c t _ _ _ _ _ _ _ _ _ _)).trans rfl
  · have e := congrArg Prod.fst (outsAt0_B m c t h0)
    dsimp only at e
    exact (e.trans (rows_next c t _ _ _ _ _ _ _ _ _ _ _ _)).trans rfl

theorem value9_at (l : Fin 5632) :
    @Eq EReal (((dats m 0 c).arrAt 9 cfg0.N : Vec Ideal S8192x5632 .bf16) (ix2 r l))
      (W m c (ix2 2 l) * F m c r.val l + W m c (ix2 1 l) * F m c (r.val + 1) l + W m c (ix2 0 l) * F m c (r.val + 2) l) := by
  have hN : cfg0.N = 32 := N_0
  have hr : r.val / 256 < cfg0.N := by omega
  have hp : r.val % 256 < 256 := by omega
  have hd : 256 * (r.val / 256) + r.val % 256 = r.val := by omega
  have e := congrFun (Value.blocks9 m c ⟨r.val / 256, hr⟩ (flush0_9 _)) (ix2 ⟨r.val % 256, hp⟩ l)
  have e1 : ((cfg0.win 9).blk ⟨r.val / 256, hr⟩).view.read (Elt Ideal) ((dats m 0 c).arrAt 9 cfg0.N) (ix2 ⟨r.val % 256, hp⟩ l)
      = ((dats m 0 c).arrAt 9 cfg0.N : Vec Ideal S8192x5632 .bf16) (ix2 r l) := by
    blk_ext [index_at ⟨r.val / 256, hr⟩, hd]
  rw [e1] at e
  refine e.trans ?_
  rw [Value.flushed9]
  refine (congrFun (rows_outs m c ⟨r.val / 256, hr⟩) (ix2 ⟨r.val % 256, hp⟩ l)).trans ?_
  rw [block_at, both_block, both_block, both_block]
  obtain ⟨w2, w1, w0⟩ := hW_at m c l
  simp only [bW_at, w2, w1, w0, ← Nat.add_assoc, hd]

end Cert.Conv

namespace Cert.Proof

open Idealize.ShloMosaic Idealize.SL.Sem

section

attribute [local instance] Cert.Kernel32.Gen.facts Cert.Kernel32Ideal.Gen.facts Cert.Reference32Ideal.Gen.facts

theorem frame_Kernel32 : Cert.quiescent_Kernel32 := fun m ρ _ => Cert.Kernel32.Gen.frame (F := Bits) m ρ

theorem frame_Kernel32Ideal : Cert.quiescent_Kernel32Ideal := fun m ρ _ => Cert.Kernel32Ideal.Gen.frame (F := Ideal) m ρ

/-- The reference declares no semaphore. -/
theorem frame_Reference32Ideal : Cert.quiescent_Reference32Ideal := fun m ρ _ =>
  (θ_run Cert.Reference32Ideal.defs _ _).mono (fun r h => ⟨fun c => (h c).2, sem_eq_zero_of_no_sems (by decide) r.2⟩)
    (Cert.Reference32Ideal.Value.run (F := Ideal) m ρ)

theorem preserves32 : Cert.preserves_Kernel32_Kernel32Ideal := trivial

end

set_option maxHeartbeats 1600000 in
theorem algebraic32 : algebraic_Kernel32Ideal_Reference32Ideal (hKernel32Ideal := Cert.Kernel32Ideal.Gen.facts)
    (hReference32Ideal := Cert.Reference32Ideal.Gen.facts) := by
  intro m g m' g' hpre hm
  refine ⟨fun c => (Cert.Kernel32Ideal.Gen.dats m 0 c).arrAt 9 Cert.Kernel32Ideal.cfg0.N,
    (θ_run (Cert.Kernel32Ideal.defs (F := Ideal)) _ _).mono (fun r h c => ⟨(h c).1, (h c).2.2.2⟩) (Cert.Kernel32Ideal.Value.run_blocks m g),
    (θ_run (Cert.Reference32Ideal.defs (F := Ideal)) _ _).mono (fun r h c => ⟨?_, (h c).2⟩) (Cert.Reference32Ideal.Value.run m' g')⟩
  refine ((h c).1).trans ?_
  clear h
  obtain ⟨m0, m1, m2, m3, m4⟩ := hm c
  funext j
  obtain ⟨x, y, rfl⟩ : ∃ (x : Fin 8192) (y : Fin 5632), j = ix2 x y := ⟨j 0, j 1, eq_ix2 j⟩
  refine Eq.trans ?_ (Cert.Conv.value9_at m c x y).symm
  rw [m1, m2, m3, m4]
  unfold Cert.Conv.F
  pointwise
  have e1 : x.val + 2 - 1 = x.val + 1 := by omega
  have e2 : 2 + x.val = x.val + 2 := by omega
  by_cases h1 : x.val + 1 < 8192
  · have c1 : 1 ≤ 2 + x.val ∧ 2 + x.val - 1 < 8192 := by omega
    rw [dif_pos c1, dif_pos h1]
    by_cases h2 : x.val + 2 < 8192
    · have c2 : 2 + x.val < 8192 := by omega
      rw [dif_pos c2, dif_pos h2]
      simp only [e2, e1] <;> rfl
    · have c2 : ¬2 + x.val < 8192 := by omega
      rw [dif_neg c2, dif_neg h2]
      simp only [e2, e1, mul_zero] <;> rfl
  · have c1 : ¬(1 ≤ 2 + x.val ∧ 2 + x.val - 1 < 8192) := by omega
    have c2 : ¬2 + x.val < 8192 := by omega
    have h2 : ¬x.val + 2 < 8192 := by omega
    rw [dif_neg c1, dif_neg h1, dif_neg c2, dif_neg h2]
    simp only [mul_zero] <;> rfl

end Cert.Proof

end
-- ==== Proof.Final.lean ====
/-
  The last normalisation and the loss: the gradient of the rows, that of the gain and the loss, the last two summed over thirty-two blocks of rows.
-/
module

public import proofs.«01_k».proof.Defs
public import proofs.«01_k».proof.Proof.Gen.Kernel30.Frame
public import proofs.«01_k».proof.Proof.Gen.Kernel30Ideal.Frame
public import proofs.«01_k».proof.Proof.Gen.Kernel30Ideal.Value
public import proofs.«01_k».proof.Proof.Gen.Reference30Ideal.Run
public import proofs.«01_k».proof.Proof.Products
public import proofs.«01_k».proof.Proof.Norm
import Idealize.ShloMosaic.Lib.StableHlo.ReadAt
public import Idealize.ShloMosaic.Lib.Pipeline.ValueKit

@[expose] public section

set_option maxRecDepth 16384

noncomputable section

namespace Cert.Final

open Idealize.ShloMosaic Idealize.ShloMosaic.TcCoe Idealize.SL.Sem Cert.Kernel30Ideal Cert.Kernel30Ideal.Gen Cert.Products Cert.Norm

/-- The constants: the inverse of the width, a half and two. -/
theorem inverse : Ideal.ofBits .f32 0x3A800000#32 = ((1 / 1024 : ℝ) : EReal) := by
  simp [Ideal.ofBits, Ideal.ieee, -EReal.coe_mul]
  norm_num

theorem one_half : Ideal.ofBits .f32 0x3F000000#32 = ((1 / 2 : ℝ) : EReal) := by
  simp [Ideal.ofBits, Ideal.ieee, -EReal.coe_mul]
  norm_num

theorem two : Ideal.ofBits .f32 0x40000000#32 = ((2 : ℝ) : EReal) := by
  simp [Ideal.ofBits, Ideal.ieee, -EReal.coe_mul]
  try norm_num

theorem share (a : EReal) : a * Ideal.ofBits .f32 0x3A800000#32 = Ideal.div a (Ideal.ofBits .f32 0x44800000#32) := by
  rw [width, Ideal.div_coe (by norm_num), inverse]

/-- The gradient that reaches the normalised rows, as differentiation writes it and as the kernel computes it. -/
theorem seed (e : EReal) : Ideal.div (Ideal.ofBits .f32 0x3F000000#32 * 1) (Ideal.ofBits .f32 0x44800000#32) * (Ideal.ofBits .f32 0x40000000#32 * e)
    = e * Ideal.ofBits .f32 0x3A800000#32 := by
  rw [width, Ideal.div_coe (by norm_num), one_half, two, inverse, mul_one, ← mul_assoc, ← EReal.coe_mul, ← EReal.coe_mul, mul_comm]
  norm_num

theorem rows_first (c : Dev nD) (t : Fin cfg0.N) (h0 : cond0_0 (grid0.coords t)) (x0 x1 : Vec Ideal S256x1024 .f32) (x2 : Vec Ideal S1x1024 .f32) :
    out0_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) h0 x0 x1 x2 = k0_pay9 x0 x1 x2 := by
  unfold out0_A_3 kernelRun0_A
  dsimp only
  sl_unfold_run_names
  refine (View.read_writes_full _ _ _ _ _).trans ?_
  rw [View.readAt_full, View.readAt_full, View.readAt_full, (hs0_0 t).read_unread, (hs0_1 t).read_unread, (hs0_2 t).read_unread]

theorem rows_next (c : Dev nD) (t : Fin cfg0.N) (h0 : ¬cond0_0 (grid0.coords t)) (x0 x1 : Vec Ideal S256x1024 .f32) (x2 : Vec Ideal S1x1024 .f32) (xa : Vec Ideal S1x1024 .f32) (xb : Vec Ideal S1x128 .f32) :
    out0_B_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) h0 x0 x1 x2 xa xb = k0_pay9 x0 x1 x2 := by
  unfold out0_B_3 kernelRun0_B
  dsimp only
  sl_unfold_run_names
  refine (View.read_writes_full _ _ _ _ _).trans ?_
  rw [View.readAt_full, View.readAt_full, View.readAt_full, (hs0_0 t).read_unread, (hs0_1 t).read_unread, (hs0_2 t).read_unread]

theorem gain_first (c : Dev nD) (t : Fin cfg0.N) (h0 : cond0_0 (grid0.coords t)) (x0 x1 : Vec Ideal S256x1024 .f32) (x2 : Vec Ideal S1x1024 .f32) :
    out0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) h0 x0 x1 x2 = k0_pay3 (k0_pay11 x0 x1 x2) (k0_pay1 (F := Ideal)) := by
  unfold out0_A_4 kernelRun0_A
  dsimp only
  sl_unfold_run_names
  refine (View.read_writes_full _ _ _ _ _).trans ?_
  rw [View.readAt_full, View.readAt_full, View.readAt_full, (hs0_0 t).read_unread, (hs0_1 t).read_unread, (hs0_2 t).read_unread]
  rw [View.readCov_full]

theorem gain_next (c : Dev nD) (t : Fin cfg0.N) (h0 : ¬cond0_0 (grid0.coords t)) (x0 x1 : Vec Ideal S256x1024 .f32) (x2 : Vec Ideal S1x1024 .f32) (xa : Vec Ideal S1x1024 .f32) (xb : Vec Ideal S1x128 .f32) :
    out0_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) h0 x0 x1 x2 xa xb = k0_pay3 (k0_pay11 x0 x1 x2) xa := by
  unfold out0_B_4 kernelRun0_B
  dsimp only
  sl_unfold_run_names
  refine (View.read_writes_full _ _ _ _ _).trans ?_
  rw [View.readAt_full, View.readAt_full, View.readAt_full, View.readAt_full, (hs0_0 t).read_unread, (hs0_1 t).read_unread, (hs0_2 t).read_unread, (hs0_4 t).read_unread]

theorem loss_first (c : Dev nD) (t : Fin cfg0.N) (h0 : cond0_0 (grid0.coords t)) (x0 x1 : Vec Ideal S256x1024 .f32) (x2 : Vec Ideal S1x1024 .f32) :
    out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) h0 x0 x1 x2 = k0_pay4 (k0_pay10 x0 x1 x2) (k0_pay2 (F := Ideal)) := by
  unfold out0_A_5 kernelRun0_A
  dsimp only
  sl_unfold_run_names
  refine (View.read_writes_full _ _ _ _ _).trans ?_
  rw [View.readAt_full, View.readAt_full, View.readAt_full, (hs0_0 t).read_unread, (hs0_1 t).read_unread, (hs0_2 t).read_unread]
  rw [View.readCov_full]

theorem loss_next (c : Dev nD) (t : Fin cfg0.N) (h0 : ¬cond0_0 (grid0.coords t)) (x0 x1 : Vec Ideal S256x1024 .f32) (x2 : Vec Ideal S1x1024 .f32) (xa : Vec Ideal S1x1024 .f32) (xb : Vec Ideal S1x128 .f32) :
    out0_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) h0 x0 x1 x2 xa xb = k0_pay4 (k0_pay10 x0 x1 x2) xb := by
  unfold out0_B_5 kernelRun0_B
  dsimp only
  sl_unfold_run_names
  refine (View.read_writes_full _ _ _ _ _).trans ?_
  rw [View.readAt_full, View.readAt_full, View.readAt_full, View.readAt_full, (hs0_0 t).read_unread, (hs0_1 t).read_unread, (hs0_2 t).read_unread, (hs0_5 t).read_unread]

/-- The error of an entry, and the gradient that reaches it. -/
def er (x t g : Fin 1024 → EReal) (y : Fin 1024) : EReal := x y * Ideal.rsqrt (mean x) * g y - t y

def dy (x t g : Fin 1024 → EReal) (y : Fin 1024) : EReal := er x t g y * Ideal.ofBits .f32 0x3A800000#32

theorem pay7_at (x0 x1 : Vec Ideal S256x1024 .f32) (x2 : Vec Ideal S1x1024 .f32) (x : Fin 256) (y : Fin 1024) :
    @Eq EReal ((k0_pay7 x0 x1 x2 : FVec Ideal S256x1024 .f32) (ix2 x y)) (er (fun k => x0 (ix2 x k)) (fun k => x1 (ix2 x k)) (fun k => x2 (ix2 0 k)) y) := by
  unfold k0_pay7 k0_pay6 k0_pay5 er mean
  pointwise
  try simp

theorem pay8_at (x0 x1 : Vec Ideal S256x1024 .f32) (x2 : Vec Ideal S1x1024 .f32) (x : Fin 256) (y : Fin 1024) :
    @Eq EReal ((k0_pay8 x0 x1 x2 : FVec Ideal S256x1024 .f32) (ix2 x y)) (dy (fun k => x0 (ix2 x k)) (fun k => x1 (ix2 x k)) (fun k => x2 (ix2 0 k)) y) := by
  unfold k0_pay8 dy
  pointwise
  rw [pay7_at]

theorem pay6_at (x0 : Vec Ideal S256x1024 .f32) (x : Fin 256) (y : Fin 1024) :
    @Eq EReal ((k0_pay6 x0 : FVec Ideal S256x1024 .f32) (ix2 x y)) (x0 (ix2 x y) * Ideal.rsqrt (mean fun k => x0 (ix2 x k))) := by
  unfold k0_pay6 k0_pay5 mean
  pointwise
  try simp

theorem pay5_at (x0 : Vec Ideal S256x1024 .f32) (x : Fin 256) :
    @Eq EReal ((k0_pay5 x0 : FVec Ideal S256x1 .f32) (ix2 x 0)) (Ideal.rsqrt (mean fun k => x0 (ix2 x k))) := by
  unfold k0_pay5 mean
  pointwise
  try simp

theorem pay9_at (x0 x1 : Vec Ideal S256x1024 .f32) (x2 : Vec Ideal S1x1024 .f32) (x : Fin 256) (y : Fin 1024) :
    @Eq EReal ((k0_pay9 x0 x1 x2 : FVec Ideal S256x1024 .f32) (ix2 x y))
      (Ideal.rsqrt (mean fun k => x0 (ix2 x k)) * (dy (fun k => x0 (ix2 x k)) (fun k => x1 (ix2 x k)) (fun k => x2 (ix2 0 k)) y * x2 (ix2 0 y) - x0 (ix2 x y) * Ideal.rsqrt (mean fun k => x0 (ix2 x k))
        * Ideal.div (∑ l, dy (fun k => x0 (ix2 x k)) (fun k => x1 (ix2 x k)) (fun k => x2 (ix2 0 k)) l * x2 (ix2 0 l) * (x0 (ix2 x l) * Ideal.rsqrt (mean fun k => x0 (ix2 x k)))) (Ideal.ofBits .f32 0x44800000#32))) := by
  unfold k0_pay9
  pointwise
  simp [pay5_at, pay6_at, pay8_at]

theorem pay10_at (x0 x1 : Vec Ideal S256x1024 .f32) (x2 : Vec Ideal S1x1024 .f32) (xo : Vec Ideal S1x128 .f32) (z : Fin 128) :
    @Eq EReal ((k0_pay4 (k0_pay10 x0 x1 x2) xo : FVec Ideal S1x128 .f32) (ix2 0 z))
      (xo (ix2 0 z) + Ideal.ofBits .f32 0x3F000000#32 * ∑ x : Fin 256, (∑ l, er (fun k => x0 (ix2 x k)) (fun k => x1 (ix2 x k)) (fun k => x2 (ix2 0 k)) l
        * er (fun k => x0 (ix2 x k)) (fun k => x1 (ix2 x k)) (fun k => x2 (ix2 0 k)) l) * Ideal.ofBits .f32 0x3A800000#32) := by
  unfold k0_pay4 k0_pay10
  pointwise
  simp [pay7_at]

theorem pay11_at (x0 x1 : Vec Ideal S256x1024 .f32) (x2 : Vec Ideal S1x1024 .f32) (xo : Vec Ideal S1x1024 .f32) (y : Fin 1024) :
    @Eq EReal ((k0_pay3 (k0_pay11 x0 x1 x2) xo : FVec Ideal S1x1024 .f32) (ix2 0 y))
      (xo (ix2 0 y) + ∑ x : Fin 256, dy (fun k => x0 (ix2 x k)) (fun k => x1 (ix2 x k)) (fun k => x2 (ix2 0 k)) y * (x0 (ix2 x y) * Ideal.rsqrt (mean fun k => x0 (ix2 x k)))) := by
  unfold k0_pay3 k0_pay11
  pointwise
  simp [pay6_at, pay8_at]

theorem pay1_at (y : Fin 1024) : @Eq EReal ((k0_pay1 : FVec Ideal S1x1024 .f32) (ix2 0 y)) 0 := by
  unfold k0_pay1
  pointwise

theorem pay2_at (z : Fin 128) : @Eq EReal ((k0_pay2 : FVec Ideal S1x128 .f32) (ix2 0 z)) 0 := by
  unfold k0_pay2
  pointwise

variable (m : (ℓ : Loc nD τ sig) → Buf (Elt Ideal) ℓ) (c : Dev nD)

theorem index_at : ∀ t : Fin cfg0.N, win0_0.index t = ![t.val, 0] ∧ win0_1.index t = ![t.val, 0] ∧ win0_2.index t = ![0, 0] ∧ win0_3.index t = ![t.val, 0] ∧ win0_4.index t = ![0, 0] ∧ win0_5.index t = ![0, 0] :=
  (by decide +kernel : ∀ t : Fin grid0.N, _)

theorem disjoint4 : ∀ t t' : Fin cfg0.N, (cfg0.win 4).flush t = true → (cfg0.win 4).flush t' = true → t ≠ t' →
    Disjoint ((cfg0.win 4).blk t).view.set ((cfg0.win 4).blk t').view.set := by
  intro t t' hf hf' hne
  have r := (flush0_4 t).1 hf
  have r' := (flush0_4 t').1 hf'
  have hN : cfg0.N = 32 := N_0
  exact absurd (Fin.ext (by omega)) hne

theorem disjoint5 : ∀ t t' : Fin cfg0.N, (cfg0.win 5).flush t = true → (cfg0.win 5).flush t' = true → t ≠ t' →
    Disjoint ((cfg0.win 5).blk t).view.set ((cfg0.win 5).blk t').view.set := by
  intro t t' hf hf' hne
  have r := (flush0_5 t).1 hf
  have r' := (flush0_5 t').1 hf'
  have hN : cfg0.N = 32 := N_0
  exact absurd (Fin.ext (by omega)) hne

/-- The arguments. -/
abbrev X : FVec Ideal S8192x1024 .f32 := m ((c.tc : Thread nD τ).loc main_arg0)
abbrev T : FVec Ideal S8192x1024 .f32 := m ((c.tc : Thread nD τ).loc main_arg1)
abbrev W : FVec Ideal S1x1024 .f32 := m ((c.tc : Thread nD τ).loc main_arg2)

/-- The blocks of a grid step. -/
def bX (t : Fin cfg0.N) : FVec Ideal S256x1024 .f32 := iblk m c 0 t
def bT (t : Fin cfg0.N) : FVec Ideal S256x1024 .f32 := iblk m c 1 t
def bW (t : Fin cfg0.N) : FVec Ideal S1x1024 .f32 := iblk m c 2 t

theorem bX_at (r : Fin 8192) (t : Fin cfg0.N) (p : Fin 256) (h : 256 * t.val + p.val = r.val) (l : Fin 1024) : bX m c t (ix2 p l) = X m c (ix2 r l) := by
  refine Eq.trans ?_ (congrFun (V_main_arg0 m c) _)
  unfold bX
  blk_ext [iblk, index_at t, h]

theorem bT_at (r : Fin 8192) (t : Fin cfg0.N) (p : Fin 256) (h : 256 * t.val + p.val = r.val) (l : Fin 1024) : bT m c t (ix2 p l) = T m c (ix2 r l) := by
  refine Eq.trans ?_ (congrFun (V_main_arg1 m c) _)
  unfold bT
  blk_ext [iblk, index_at t, h]

theorem bW_at (t : Fin cfg0.N) (l : Fin 1024) : bW m c t (ix2 0 l) = W m c (ix2 0 l) := by
  refine Eq.trans ?_ (congrFun (V_main_arg2 m c) _)
  unfold bW
  blk_ext [iblk, index_at t]

/-- What the first result holds after a grid step. -/
theorem rows_outs (t : Fin cfg0.N) : (outsAt0 m c t.val t.isLt).1 = k0_pay9 (F := Ideal) (bX m c t) (bT m c t) (bW m c t) := by
  by_cases h0 : t.val % 32 = 0
  · have e := congrArg Prod.fst (outsAt0_A m c t h0)
    dsimp only at e
    exact (e.trans (rows_first c t _ _ _ _)).trans rfl
  · have e := congrArg Prod.fst (outsAt0_B m c t h0)
    dsimp only at e
    exact (e.trans (rows_next c t _ _ _ _ _ _)).trans rfl

/-- What the second result holds after a grid step. -/
theorem gain_outs_first (t : Fin cfg0.N) (h0 : t.val % 32 = 0) : (outsAt0 m c t.val t.isLt).2.1 = k0_pay3 (F := Ideal) (k0_pay11 (bX m c t) (bT m c t) (bW m c t)) (k0_pay1 (F := Ideal)) := by
  have e := congrArg (fun q => q.2.1) (outsAt0_A m c t h0)
  dsimp only at e
  exact (e.trans (gain_first c t _ _ _ _)).trans rfl

theorem gain_outs_next (t : Fin cfg0.N) (h0 : ¬t.val % 32 = 0) : (outsAt0 m c t.val t.isLt).2.1
    = k0_pay3 (F := Ideal) (k0_pay11 (bX m c t) (bT m c t) (bW m c t)) (outsAt0 m c (t.val - 1) (Nat.lt_of_le_of_lt (Nat.sub_le _ _) t.isLt)).2.1 := by
  have e := congrArg (fun q => q.2.1) (outsAt0_B m c t h0)
  dsimp only at e
  exact (e.trans (gain_next c t _ _ _ _ _ _)).trans rfl

/-- What the third result holds after a grid step. -/
theorem loss_outs_first (t : Fin cfg0.N) (h0 : t.val % 32 = 0) : (outsAt0 m c t.val t.isLt).2.2 = k0_pay4 (F := Ideal) (k0_pay10 (bX m c t) (bT m c t) (bW m c t)) (k0_pay2 (F := Ideal)) := by
  have e := congrArg (fun q => q.2.2) (outsAt0_A m c t h0)
  dsimp only at e
  exact (e.trans (loss_first c t _ _ _ _)).trans rfl

theorem loss_outs_next (t : Fin cfg0.N) (h0 : ¬t.val % 32 = 0) : (outsAt0 m c t.val t.isLt).2.2
    = k0_pay4 (F := Ideal) (k0_pay10 (bX m c t) (bT m c t) (bW m c t)) (outsAt0 m c (t.val - 1) (Nat.lt_of_le_of_lt (Nat.sub_le _ _) t.isLt)).2.2 := by
  have e := congrArg (fun q => q.2.2) (outsAt0_B m c t h0)
  dsimp only at e
  exact (e.trans (loss_next c t _ _ _ _ _ _)).trans rfl

/-- The root of a row, its errors and the gradients that reach it. -/
def rt (r : Fin 8192) : EReal := Ideal.rsqrt (mean fun k => X m c (ix2 r k))

def error (r : Fin 8192) (y : Fin 1024) : EReal := er (fun k => X m c (ix2 r k)) (fun k => T m c (ix2 r k)) (fun k => W m c (ix2 0 k)) y

def grad (r : Fin 8192) (y : Fin 1024) : EReal := dy (fun k => X m c (ix2 r k)) (fun k => T m c (ix2 r k)) (fun k => W m c (ix2 0 k)) y

theorem value3_at (r : Fin 8192) (y : Fin 1024) :
    @Eq EReal (((dats m 0 c).arrAt 3 cfg0.N : Vec Ideal S8192x1024 .f32) (ix2 r y))
      (rt m c r * (grad m c r y * W m c (ix2 0 y) - X m c (ix2 r y) * rt m c r
        * Ideal.div (∑ k, grad m c r k * W m c (ix2 0 k) * (X m c (ix2 r k) * rt m c r)) (Ideal.ofBits .f32 0x44800000#32))) := by
  have hN : cfg0.N = 32 := N_0
  have hr : r.val / 256 < cfg0.N := by omega
  have hd : 256 * (r.val / 256) + r.val % 256 = r.val := by omega
  have hp : r.val % 256 < 256 := by omega
  have e := congrFun (Value.blocks3 m c ⟨r.val / 256, hr⟩ (flush0_3 _)) (ix2 ⟨r.val % 256, hp⟩ y)
  have e1 : ((cfg0.win 3).blk ⟨r.val / 256, hr⟩).view.read (Elt Ideal) ((dats m 0 c).arrAt 3 cfg0.N) (ix2 ⟨r.val % 256, hp⟩ y)
      = ((dats m 0 c).arrAt 3 cfg0.N : Vec Ideal S8192x1024 .f32) (ix2 r y) := by
    blk_ext [index_at ⟨r.val / 256, hr⟩, hd]
  rw [e1] at e
  refine e.trans ?_
  rw [Value.flushed3]
  refine (congrFun (rows_outs m c ⟨r.val / 256, hr⟩) (ix2 ⟨r.val % 256, hp⟩ y)).trans ?_
  rw [pay9_at]
  unfold rt grad
  simp only [bX_at m c r ⟨r.val / 256, hr⟩ ⟨r.val % 256, hp⟩ hd, bT_at m c r ⟨r.val / 256, hr⟩ ⟨r.val % 256, hp⟩ hd, bW_at]

/-- What a row adds to the gain's gradient and to the loss. -/
def gainRow (y : Fin 1024) (r : Fin 8192) : EReal := grad m c r y * (X m c (ix2 r y) * rt m c r)

def lossRow (r : Fin 8192) : EReal := (∑ l, error m c r l * error m c r l) * Ideal.ofBits .f32 0x3A800000#32 * Ideal.ofBits .f32 0x3F000000#32

/-- A value of the rows, at a row of a block. -/
def part (f : Fin 8192 → EReal) (n : ℕ) (k : Fin 256) : EReal := if h : 256 * n + k.val < 8192 then f ⟨256 * n + k.val, h⟩ else 0

theorem gain_part (t : Fin cfg0.N) (y : Fin 1024) :
    ∑ x : Fin 256, dy (fun k => bX m c t (ix2 x k)) (fun k => bT m c t (ix2 x k)) (fun k => bW m c t (ix2 0 k)) y * (bX m c t (ix2 x y) * Ideal.rsqrt (mean fun k => bX m c t (ix2 x k)))
      = ∑ k, part (gainRow m c y) t.val k := by
  have hN : cfg0.N = 32 := N_0
  have ht := t.isLt
  refine Finset.sum_congr rfl fun x _ => ?_
  have h : 256 * t.val + x.val < 8192 := by omega
  unfold part gainRow grad rt
  rw [dif_pos h]
  simp only [bX_at m c ⟨256 * t.val + x.val, h⟩ t x rfl, bT_at m c ⟨256 * t.val + x.val, h⟩ t x rfl, bW_at]

theorem loss_part (t : Fin cfg0.N) :
    Ideal.ofBits .f32 0x3F000000#32 * ∑ x : Fin 256, (∑ l, er (fun k => bX m c t (ix2 x k)) (fun k => bT m c t (ix2 x k)) (fun k => bW m c t (ix2 0 k)) l
        * er (fun k => bX m c t (ix2 x k)) (fun k => bT m c t (ix2 x k)) (fun k => bW m c t (ix2 0 k)) l) * Ideal.ofBits .f32 0x3A800000#32
      = ∑ k, part (lossRow m c) t.val k := by
  have hN : cfg0.N = 32 := N_0
  have ht := t.isLt
  rw [mul_comm, one_half, ← sum_mul_real _ _ (by norm_num)]
  refine Finset.sum_congr rfl fun x _ => ?_
  have h : 256 * t.val + x.val < 8192 := by omega
  unfold part lossRow error
  rw [dif_pos h, one_half]
  simp only [bX_at m c ⟨256 * t.val + x.val, h⟩ t x rfl, bT_at m c ⟨256 * t.val + x.val, h⟩ t x rfl, bW_at]

theorem gain_outs (n : ℕ) (h : n < cfg0.N) (y : Fin 1024) :
    @Eq EReal (((outsAt0 m c n h).2.1 : Vec Ideal S1x1024 .f32) (ix2 0 y)) (∑ s ∈ Finset.range (n + 1), ∑ k, part (gainRow m c y) s k) := by
  have hN : cfg0.N = 32 := N_0
  have e := run_sum (J := 32) (N := cfg0.N) (fun n h => ((outsAt0 m c n h).2.1 : Vec Ideal S1x1024 .f32) (ix2 0 y))
    (fun n => ∑ k, part (gainRow m c y) n k) (fun n h h0 => ?_) (fun n h h0 => ?_) 0 n (by omega) (by omega)
  · simpa using e
  · refine (congrFun (gain_outs_first m c ⟨n, h⟩ h0) (ix2 0 y)).trans ?_
    refine (pay11_at (bX m c ⟨n, h⟩) (bT m c ⟨n, h⟩) (bW m c ⟨n, h⟩) _ y).trans ?_
    rw [pay1_at, zero_add]
    exact gain_part m c ⟨n, h⟩ y
  · refine (congrFun (gain_outs_next m c ⟨n, h⟩ h0) (ix2 0 y)).trans ?_
    refine (pay11_at (bX m c ⟨n, h⟩) (bT m c ⟨n, h⟩) (bW m c ⟨n, h⟩) _ y).trans ?_
    exact congrArg (_ + ·) (gain_part m c ⟨n, h⟩ y)

theorem value4_at (y : Fin 1024) :
    @Eq EReal (((dats m 0 c).arrAt 4 cfg0.N : Vec Ideal S1x1024 .f32) (ix2 0 y)) (∑ r : Fin 8192, gainRow m c y r) := by
  have hN : cfg0.N = 32 := N_0
  obtain ⟨t, ht⟩ : ∃ t : Fin cfg0.N, t.val = 31 := ⟨⟨31, by omega⟩, rfl⟩
  have hf : (cfg0.win 4).flush t = true := (flush0_4 t).2 (by omega)
  have e := congrFun ((dats m 0 c).read_blk_arrAt_eq_flushed 4 disjoint4 cfg0.N t t.isLt hf) (ix2 0 y)
  have e1 : ((cfg0.win 4).blk t).view.read (Elt Ideal) ((dats m 0 c).arrAt 4 cfg0.N) (ix2 0 y)
      = ((dats m 0 c).arrAt 4 cfg0.N : Vec Ideal S1x1024 .f32) (ix2 0 y) := by
    blk_ext [index_at t]
  rw [e1] at e
  refine e.trans ?_
  rw [Value.flushed4]
  refine (gain_outs m c t.val t.isLt y).trans ?_
  rw [ht]
  refine sum_axis 32 256 8192 rfl _ _ fun s k h hs => ?_
  unfold part
  exact dif_pos h

theorem loss_outs (n : ℕ) (h : n < cfg0.N) (z : Fin 128) :
    @Eq EReal (((outsAt0 m c n h).2.2 : Vec Ideal S1x128 .f32) (ix2 0 z)) (∑ s ∈ Finset.range (n + 1), ∑ k, part (lossRow m c) s k) := by
  have hN : cfg0.N = 32 := N_0
  have e := run_sum (J := 32) (N := cfg0.N) (fun n h => ((outsAt0 m c n h).2.2 : Vec Ideal S1x128 .f32) (ix2 0 z))
    (fun n => ∑ k, part (lossRow m c) n k) (fun n h h0 => ?_) (fun n h h0 => ?_) 0 n (by omega) (by omega)
  · simpa using e
  · refine (congrFun (loss_outs_first m c ⟨n, h⟩ h0) (ix2 0 z)).trans ?_
    refine (pay10_at (bX m c ⟨n, h⟩) (bT m c ⟨n, h⟩) (bW m c ⟨n, h⟩) _ z).trans ?_
    rw [pay2_at, zero_add]
    exact loss_part m c ⟨n, h⟩
  · refine (congrFun (loss_outs_next m c ⟨n, h⟩ h0) (ix2 0 z)).trans ?_
    refine (pay10_at (bX m c ⟨n, h⟩) (bT m c ⟨n, h⟩) (bW m c ⟨n, h⟩) _ z).trans ?_
    exact congrArg (_ + ·) (loss_part m c ⟨n, h⟩)

theorem value5_at (z : Fin 128) :
    @Eq EReal (((dats m 0 c).arrAt 5 cfg0.N : Vec Ideal S1x128 .f32) (ix2 0 z)) (∑ r : Fin 8192, lossRow m c r) := by
  have hN : cfg0.N = 32 := N_0
  obtain ⟨t, ht⟩ : ∃ t : Fin cfg0.N, t.val = 31 := ⟨⟨31, by omega⟩, rfl⟩
  have hf : (cfg0.win 5).flush t = true := (flush0_5 t).2 (by omega)
  have e := congrFun ((dats m 0 c).read_blk_arrAt_eq_flushed 5 disjoint5 cfg0.N t t.isLt hf) (ix2 0 z)
  have e1 : ((cfg0.win 5).blk t).view.read (Elt Ideal) ((dats m 0 c).arrAt 5 cfg0.N) (ix2 0 z)
      = ((dats m 0 c).arrAt 5 cfg0.N : Vec Ideal S1x128 .f32) (ix2 0 z) := by
    blk_ext [index_at t]
  rw [e1] at e
  refine e.trans ?_
  rw [Value.flushed5]
  refine (loss_outs m c t.val t.isLt z).trans ?_
  rw [ht]
  refine sum_axis 32 256 8192 rfl _ _ fun s k h hs => ?_
  unfold part
  exact dif_pos h

end Cert.Final

namespace Cert.Proof

open Idealize.ShloMosaic Idealize.SL.Sem

section

attribute [local instance] Cert.Kernel30.Gen.facts Cert.Kernel30Ideal.Gen.facts Cert.Reference30Ideal.Gen.facts

theorem frame_Kernel30 : Cert.quiescent_Kernel30 := fun m ρ _ => Cert.Kernel30.Gen.frame (F := Bits) m ρ

theorem frame_Kernel30Ideal : Cert.quiescent_Kernel30Ideal := fun m ρ _ => Cert.Kernel30Ideal.Gen.frame (F := Ideal) m ρ

/-- The reference declares no semaphore. -/
theorem frame_Reference30Ideal : Cert.quiescent_Reference30Ideal := fun m ρ _ =>
  (θ_run Cert.Reference30Ideal.defs _ _).mono (fun r h => ⟨fun c => (h c).2.2.2, sem_eq_zero_of_no_sems (by decide) r.2⟩)
    (Cert.Reference30Ideal.Value.run (F := Ideal) m ρ)

theorem preserves30 : Cert.preserves_Kernel30_Kernel30Ideal := trivial

end

theorem algebraic30 : algebraic_Kernel30Ideal_Reference30Ideal (hKernel30Ideal := Cert.Kernel30Ideal.Gen.facts)
    (hReference30Ideal := Cert.Reference30Ideal.Gen.facts) := by
  intro m g m' g' hpre hm
  refine ⟨fun c => (Cert.Kernel30Ideal.Gen.dats m 0 c).arrAt 3 Cert.Kernel30Ideal.cfg0.N, fun c => (Cert.Kernel30Ideal.Gen.dats m 0 c).arrAt 4 Cert.Kernel30Ideal.cfg0.N,
    fun c => (Cert.Kernel30Ideal.Gen.dats m 0 c).arrAt 5 Cert.Kernel30Ideal.cfg0.N,
    Cert.Kernel30Ideal.Value.run_blocks m g,
    (θ_run (Cert.Reference30Ideal.defs (F := Ideal)) _ _).mono (fun r h c => ⟨?_, ?_, ?_, (h c).2.2.2⟩) (Cert.Reference30Ideal.Value.run m' g')⟩
  · refine ((h c).1).trans ?_
    obtain ⟨m0, m1, m2⟩ := hm c
    funext j
    obtain ⟨x, y, rfl⟩ : ∃ (x : Fin 8192) (y : Fin 1024), j = ix2 x y := ⟨j 0, j 1, eq_ix2 j⟩
    refine Eq.trans ?_ (Cert.Final.value3_at m c x y).symm
    unfold Cert.Reference30Ideal.Value.res_main_v48
    rw [m0, m1, m2]
    have e := Cert.Norm.rows (fun k => Cert.Final.X m c (ix2 x k)) (fun k => Cert.Final.grad m c x k * Cert.Final.W m c (ix2 0 k)) 0 y
    rw [add_zero, add_zero] at e
    refine Eq.trans ?_ e.symm
    unfold Cert.Final.grad Cert.Final.dy
    simp only [← Cert.Final.seed]
    unfold Cert.Final.er Cert.Norm.mean
    pointwise
    simp [Finset.univ_unique, Finset.sum_singleton]
  · refine ((h c).2.1).trans ?_
    obtain ⟨m0, m1, m2⟩ := hm c
    funext j
    obtain ⟨x, y, rfl⟩ : ∃ (x : Fin 1) (y : Fin 1024), j = ix2 x y := ⟨j 0, j 1, eq_ix2 j⟩
    obtain rfl : x = 0 := Subsingleton.elim _ _
    refine Eq.trans ?_ (Cert.Final.value4_at m c y).symm
    rw [m0, m1, m2]
    unfold Cert.Final.gainRow Cert.Final.grad Cert.Final.dy
    simp only [← Cert.Final.seed]
    unfold Cert.Final.rt Cert.Final.er Cert.Norm.mean
    pointwise
    exact Finset.sum_congr rfl fun k _ => mul_comm _ _
  · refine ((h c).2.2.1).trans ?_
    obtain ⟨m0, m1, m2⟩ := hm c
    funext j
    obtain ⟨x, y, rfl⟩ : ∃ (x : Fin 1) (y : Fin 128), j = ix2 x y := ⟨j 0, j 1, eq_ix2 j⟩
    obtain rfl : x = 0 := Subsingleton.elim _ _
    refine Eq.trans ?_ (Cert.Final.value5_at m c y).symm
    rw [m0, m1, m2]
    unfold Cert.Final.lossRow
    rw [Cert.Final.one_half, Cert.Norm.sum_mul_real _ _ (by norm_num), mul_comm, ← Cert.Final.one_half]
    simp only [Cert.Final.share]
    unfold Cert.Final.error Cert.Final.er Cert.Norm.mean
    pointwise

end Cert.Proof

end
-- ==== Proof.NormForward.lean ====
/-
  The normalisation: the rows, and the same transposed.
-/
module

public import proofs.«01_k».proof.Defs
public import proofs.«01_k».proof.Proof.Gen.Kernel29.Frame
public import proofs.«01_k».proof.Proof.Gen.Kernel29Ideal.Frame
public import proofs.«01_k».proof.Proof.Gen.Kernel29Ideal.Value
public import proofs.«01_k».proof.Proof.Gen.Reference29Ideal.Run
public import proofs.«01_k».proof.Proof.Norm
import Idealize.ShloMosaic.Lib.StableHlo.ReadAt
public import Idealize.ShloMosaic.Lib.Pipeline.ValueKit

@[expose] public section

set_option maxRecDepth 16384

noncomputable section

namespace Cert.NormForward

open Idealize.ShloMosaic Idealize.ShloMosaic.TcCoe Idealize.SL.Sem Cert.Kernel29Ideal Cert.Kernel29Ideal.Gen Cert.Norm

theorem index_at : ∀ t : Fin cfg0.N, win0_0.index t = ![t.val, 0] ∧ win0_1.index t = ![0, 0] ∧ win0_2.index t = ![t.val, 0] ∧ win0_3.index t = ![0, t.val] :=
  (by decide +kernel : ∀ t : Fin grid0.N, _)

variable (m : (ℓ : Loc nD τ sig) → Buf (Elt Ideal) ℓ) (c : Dev nD)

/-- The arguments. -/
abbrev X : FVec Ideal S8192x1024 .f32 := m ((c.tc : Thread nD τ).loc main_arg0)
abbrev W : FVec Ideal S1x1024 .f32 := m ((c.tc : Thread nD τ).loc main_arg1)

/-- The blocks of a grid step. -/
def bX (t : Fin cfg0.N) : FVec Ideal S256x1024 .f32 := iblk m c 0 t
def bW (t : Fin cfg0.N) : FVec Ideal S1x1024 .f32 := iblk m c 1 t

variable (r : Fin 8192) (l : Fin 1024)

theorem bX_at (t : Fin cfg0.N) (p : Fin 256) (h : 256 * t.val + p.val = r.val) : bX m c t (ix2 p l) = X m c (ix2 r l) := by
  refine Eq.trans ?_ (congrFun (V_main_arg0 m c) _)
  unfold bX
  blk_ext [iblk, index_at t, h]

theorem bW_at (t : Fin cfg0.N) : bW m c t (ix2 0 l) = W m c (ix2 0 l) := by
  refine Eq.trans ?_ (congrFun (V_main_arg1 m c) _)
  unfold bW
  blk_ext [iblk, index_at t]

/-- An entry of the normalised rows. -/
def norm : EReal := X m c (ix2 r l) * Ideal.rsqrt (mean fun k => X m c (ix2 r k)) * W m c (ix2 0 l)

theorem norm_block (t : Fin cfg0.N) (p : Fin 256) (h : 256 * t.val + p.val = r.val) :
    bX m c t (ix2 p l) * Ideal.rsqrt (mean fun k => bX m c t (ix2 p k)) * bW m c t (ix2 0 l) = norm m c r l := by
  unfold norm
  simp only [bX_at m c r _ t p h, bW_at]

theorem value2_at : @Eq EReal (((dats m 0 c).arrAt 2 cfg0.N : Vec Ideal S8192x1024 .bf16) (ix2 r l)) (norm m c r l) := by
  have hN : cfg0.N = 32 := N_0
  have hr : r.val / 256 < cfg0.N := by omega
  have hd : 256 * (r.val / 256) + r.val % 256 = r.val := by omega
  have e := congrFun (Value.blocks2 m c ⟨r.val / 256, hr⟩ (flush0_2 _)) (ix2 ⟨r.val % 256, by omega⟩ l)
  have e1 : ((cfg0.win 2).blk ⟨r.val / 256, hr⟩).view.read (Elt Ideal) ((dats m 0 c).arrAt 2 cfg0.N) (ix2 ⟨r.val % 256, by omega⟩ l)
      = ((dats m 0 c).arrAt 2 cfg0.N : Vec Ideal S8192x1024 .bf16) (ix2 r l) := by
    blk_ext [index_at ⟨r.val / 256, hr⟩, hd]
  rw [e1] at e
  refine e.trans ?_
  rw [Value.flushed2]
  show (out0_2 (F := Ideal) (bX m c ⟨r.val / 256, hr⟩) (bW m c ⟨r.val / 256, hr⟩) : Vec Ideal S256x1024 .bf16) (ix2 ⟨r.val % 256, by omega⟩ l) = _
  unfold out0_2
  rw [View.canon_unit_zero (by decide), View.ld_unit_zero (by decide), View.ld_unit_zero (by decide)]
  rw [← norm_block m c r l ⟨r.val / 256, hr⟩ ⟨r.val % 256, by omega⟩ hd]
  unfold mean k0_pay2 k0_pay1
  pointwise

theorem value3_at : @Eq EReal (((dats m 0 c).arrAt 3 cfg0.N : Vec Ideal S1024x8192 .bf16) (ix2 l r)) (norm m c r l) := by
  have hN : cfg0.N = 32 := N_0
  have hr : r.val / 256 < cfg0.N := by omega
  have hd : 256 * (r.val / 256) + r.val % 256 = r.val := by omega
  have e := congrFun (Value.blocks3 m c ⟨r.val / 256, hr⟩ (flush0_3 _)) (ix2 l ⟨r.val % 256, by omega⟩)
  have e1 : ((cfg0.win 3).blk ⟨r.val / 256, hr⟩).view.read (Elt Ideal) ((dats m 0 c).arrAt 3 cfg0.N) (ix2 l ⟨r.val % 256, by omega⟩)
      = ((dats m 0 c).arrAt 3 cfg0.N : Vec Ideal S1024x8192 .bf16) (ix2 l r) := by
    blk_ext [index_at ⟨r.val / 256, hr⟩, hd]
  rw [e1] at e
  refine e.trans ?_
  rw [Value.flushed3]
  show (out0_3 (F := Ideal) (bX m c ⟨r.val / 256, hr⟩) (bW m c ⟨r.val / 256, hr⟩) : Vec Ideal S1024x256 .bf16) (ix2 l ⟨r.val % 256, by omega⟩) = _
  unfold out0_3
  rw [View.canon_unit_zero (by decide), View.ld_unit_zero (by decide), View.ld_unit_zero (by decide)]
  rw [← norm_block m c r l ⟨r.val / 256, hr⟩ ⟨r.val % 256, by omega⟩ hd]
  unfold mean k0_pay3 k0_pay1
  pointwise

end Cert.NormForward

namespace Cert.Proof

open Idealize.ShloMosaic Idealize.SL.Sem

section

attribute [local instance] Cert.Kernel29.Gen.facts Cert.Kernel29Ideal.Gen.facts Cert.Reference29Ideal.Gen.facts

theorem frame_Kernel29 : Cert.quiescent_Kernel29 := fun m ρ _ => Cert.Kernel29.Gen.frame (F := Bits) m ρ

theorem frame_Kernel29Ideal : Cert.quiescent_Kernel29Ideal := fun m ρ _ => Cert.Kernel29Ideal.Gen.frame (F := Ideal) m ρ

/-- The reference declares no semaphore. -/
theorem frame_Reference29Ideal : Cert.quiescent_Reference29Ideal := fun m ρ _ =>
  (θ_run Cert.Reference29Ideal.defs _ _).mono (fun r h => ⟨fun c => (h c).2.2, sem_eq_zero_of_no_sems (by decide) r.2⟩)
    (Cert.Reference29Ideal.Value.run (F := Ideal) m ρ)

theorem preserves29 : Cert.preserves_Kernel29_Kernel29Ideal := trivial

end

theorem algebraic29 : algebraic_Kernel29Ideal_Reference29Ideal (hKernel29Ideal := Cert.Kernel29Ideal.Gen.facts)
    (hReference29Ideal := Cert.Reference29Ideal.Gen.facts) := by
  intro m g m' g' hpre hm
  refine ⟨fun c => (Cert.Kernel29Ideal.Gen.dats m 0 c).arrAt 2 Cert.Kernel29Ideal.cfg0.N, fun c => (Cert.Kernel29Ideal.Gen.dats m 0 c).arrAt 3 Cert.Kernel29Ideal.cfg0.N,
    Cert.Kernel29Ideal.Value.run_blocks m g,
    (θ_run (Cert.Reference29Ideal.defs (F := Ideal)) _ _).mono (fun r h c => ⟨?_, ?_, (h c).2.2⟩) (Cert.Reference29Ideal.Value.run m' g')⟩
  · refine ((h c).1).trans ?_
    obtain ⟨m0, m1⟩ := hm c
    funext j
    obtain ⟨x, y, rfl⟩ : ∃ (x : Fin 8192) (y : Fin 1024), j = ix2 x y := ⟨j 0, j 1, eq_ix2 j⟩
    refine Eq.trans ?_ (Cert.NormForward.value2_at m c x y).symm
    unfold Cert.NormForward.norm Cert.Norm.mean
    rw [m0, m1]
    pointwise
  · refine ((h c).2.1).trans ?_
    obtain ⟨m0, m1⟩ := hm c
    funext j
    obtain ⟨x, y, rfl⟩ : ∃ (x : Fin 1024) (y : Fin 8192), j = ix2 x y := ⟨j 0, j 1, eq_ix2 j⟩
    refine Eq.trans ?_ (Cert.NormForward.value3_at m c y x).symm
    unfold Cert.NormForward.norm Cert.Norm.mean
    rw [m0, m1]
    pointwise

end Cert.Proof

end
-- ==== Proof.MergeForward.lean ====
/-
  The merge of the two branches under their gates, element by element.
-/
module

public import proofs.«01_k».proof.Defs
public import proofs.«01_k».proof.Proof.Gen.Kernel28.Frame
public import proofs.«01_k».proof.Proof.Gen.Kernel28Ideal.Frame
public import proofs.«01_k».proof.Proof.Gen.Kernel28Ideal.Value
public import proofs.«01_k».proof.Proof.Gen.Reference28Ideal.Run
public import proofs.«01_k».proof.Proof.Merge
import Idealize.ShloMosaic.Lib.StableHlo.ReadAt
public import Idealize.ShloMosaic.Lib.Pipeline.ValueKit

@[expose] public section

set_option maxRecDepth 16384

noncomputable section

namespace Cert.MergeForward

open Idealize.ShloMosaic Idealize.ShloMosaic.TcCoe Idealize.SL.Sem Cert.Kernel28Ideal Cert.Kernel28Ideal.Gen
open Cert.Merge (gate)

theorem index_at : ∀ t : Fin cfg0.N, win0_0.index t = ![t.val, 0] ∧ win0_1.index t = ![t.val, 0] ∧ win0_2.index t = ![t.val, 7]
    ∧ win0_3.index t = ![t.val, 8] ∧ win0_4.index t = ![t.val, 0] :=
  (by decide +kernel : ∀ t : Fin grid0.N, _)

variable (m : (ℓ : Loc nD τ sig) → Buf (Elt Ideal) ℓ) (c : Dev nD)

/-- The arguments. -/
abbrev pa : FVec Ideal S8192x1024 .f32 := m ((c.tc : Thread nD τ).loc main_arg0)
abbrev pb : FVec Ideal S8192x1024 .f32 := m ((c.tc : Thread nD τ).loc main_arg1)
abbrev proj : FVec Ideal S8192x9216 .f32 := m ((c.tc : Thread nD τ).loc main_arg2)

/-- The blocks of a grid step. -/
def b0 (t : Fin cfg0.N) : FVec Ideal S256x1024 .f32 := iblk m c 0 t
def b1 (t : Fin cfg0.N) : FVec Ideal S256x1024 .f32 := iblk m c 1 t
def b2 (t : Fin cfg0.N) : FVec Ideal S256x1024 .f32 := iblk m c 2 t
def b3 (t : Fin cfg0.N) : FVec Ideal S256x1024 .f32 := iblk m c 3 t

variable (r : Fin 8192) (l : Fin 1024)

section

variable (t : Fin cfg0.N) (p : Fin 256) (h : 256 * t.val + p.val = r.val)

include h

theorem b0_at : b0 m c t (ix2 p l) = pa m c (ix2 r (l : Fin 1024)) := by
  refine Eq.trans ?_ (congrFun (V_main_arg0 m c) _)
  unfold b0
  blk_ext [iblk, index_at t, h]

theorem b1_at : b1 m c t (ix2 p l) = pb m c (ix2 r (l : Fin 1024)) := by
  refine Eq.trans ?_ (congrFun (V_main_arg1 m c) _)
  unfold b1
  blk_ext [iblk, index_at t, h]

theorem b2_at : b2 m c t (ix2 p l) = proj m c (ix2 r (⟨7168 + l.val, by omega⟩ : Fin 9216)) := by
  refine Eq.trans ?_ (congrFun (V_main_arg2 m c) _)
  unfold b2
  blk_ext [iblk, index_at t, h]

theorem b3_at : b3 m c t (ix2 p l) = proj m c (ix2 r (⟨8192 + l.val, by omega⟩ : Fin 9216)) := by
  refine Eq.trans ?_ (congrFun (V_main_arg2 m c) _)
  unfold b3
  blk_ext [iblk, index_at t, h]

end

theorem value4_at : @Eq EReal (((dats m 0 c).arrAt 4 cfg0.N : Vec Ideal S8192x1024 .bf16) (ix2 r l))
    (gate (proj m c (ix2 r ⟨7168 + l.val, by omega⟩)) * pa m c (ix2 r l) + gate (proj m c (ix2 r ⟨8192 + l.val, by omega⟩)) * pb m c (ix2 r l)) := by
  have hN : cfg0.N = 32 := N_0
  have hr : r.val / 256 < cfg0.N := by omega
  have hd : 256 * (r.val / 256) + r.val % 256 = r.val := by omega
  have e := congrFun (Value.blocks4 m c ⟨r.val / 256, hr⟩ (flush0_4 _)) (ix2 ⟨r.val % 256, by omega⟩ l)
  have e1 : ((cfg0.win 4).blk ⟨r.val / 256, hr⟩).view.read (Elt Ideal) ((dats m 0 c).arrAt 4 cfg0.N) (ix2 ⟨r.val % 256, by omega⟩ l)
      = ((dats m 0 c).arrAt 4 cfg0.N : Vec Ideal S8192x1024 .bf16) (ix2 r l) := by
    blk_ext [index_at ⟨r.val / 256, hr⟩, hd]
  rw [e1] at e
  refine e.trans ?_
  rw [Value.flushed4]
  show (out0_4 (F := Ideal) (b0 m c ⟨r.val / 256, hr⟩) (b1 m c ⟨r.val / 256, hr⟩) (b2 m c ⟨r.val / 256, hr⟩) (b3 m c ⟨r.val / 256, hr⟩) : Vec Ideal S256x1024 .bf16) (ix2 ⟨r.val % 256, by omega⟩ l) = _
  unfold out0_4
  rw [View.canon_unit_zero (by decide), View.ld_unit_zero (by decide), View.ld_unit_zero (by decide), View.ld_unit_zero (by decide), View.ld_unit_zero (by decide)]
  have hp : r.val % 256 < 256 := by omega
  rw [← b0_at m c r l ⟨r.val / 256, hr⟩ ⟨r.val % 256, hp⟩ hd, ← b1_at m c r l ⟨r.val / 256, hr⟩ ⟨r.val % 256, hp⟩ hd, ← b2_at m c r l ⟨r.val / 256, hr⟩ ⟨r.val % 256, hp⟩ hd, ← b3_at m c r l ⟨r.val / 256, hr⟩ ⟨r.val % 256, hp⟩ hd]
  unfold gate k0_pay1
  pointwise
  simp

end Cert.MergeForward

namespace Cert.Proof

open Idealize.ShloMosaic Idealize.SL.Sem

section

attribute [local instance] Cert.Kernel28.Gen.facts Cert.Kernel28Ideal.Gen.facts Cert.Reference28Ideal.Gen.facts

theorem frame_Kernel28 : Cert.quiescent_Kernel28 := fun m ρ _ => Cert.Kernel28.Gen.frame (F := Bits) m ρ

theorem frame_Kernel28Ideal : Cert.quiescent_Kernel28Ideal := fun m ρ _ => Cert.Kernel28Ideal.Gen.frame (F := Ideal) m ρ

/-- The reference declares no semaphore. -/
theorem frame_Reference28Ideal : Cert.quiescent_Reference28Ideal := fun m ρ _ =>
  (θ_run Cert.Reference28Ideal.defs _ _).mono (fun r h => ⟨fun c => (h c).2, sem_eq_zero_of_no_sems (by decide) r.2⟩)
    (Cert.Reference28Ideal.Value.run (F := Ideal) m ρ)

theorem preserves28 : Cert.preserves_Kernel28_Kernel28Ideal := trivial

end

theorem algebraic28 : algebraic_Kernel28Ideal_Reference28Ideal (hKernel28Ideal := Cert.Kernel28Ideal.Gen.facts)
    (hReference28Ideal := Cert.Reference28Ideal.Gen.facts) := by
  intro m g m' g' hpre hm
  refine ⟨fun c => (Cert.Kernel28Ideal.Gen.dats m 0 c).arrAt 4 Cert.Kernel28Ideal.cfg0.N,
    Cert.Kernel28Ideal.Value.run_blocks m g,
    (θ_run (Cert.Reference28Ideal.defs (F := Ideal)) _ _).mono (fun r h c => ⟨?_, (h c).2⟩) (Cert.Reference28Ideal.Value.run m' g')⟩
  refine ((h c).1).trans ?_
  obtain ⟨m0, m1, m2⟩ := hm c
  funext j
  obtain ⟨x, y, rfl⟩ : ∃ (x : Fin 8192) (y : Fin 1024), j = ix2 x y := ⟨j 0, j 1, eq_ix2 j⟩
  refine Eq.trans ?_ (Cert.MergeForward.value4_at m c x y).symm
  rw [m0, m1, m2]
  unfold Cert.Merge.gate
  pointwise

end Cert.Proof

end
-- ==== Proof.lean ====
/-
  The claims: the frames of the three programs, the ideal program's named constant, and the equality of the kernel with the reference.
-/
module

public import proofs.«01_k».proof.Proof.Frames
public import proofs.«01_k».proof.Proof.Finish
public import proofs.«01_k».proof.Proof.InRight
public import proofs.«01_k».proof.Proof.OutRight
public import proofs.«01_k».proof.Proof.OutLeft
public import proofs.«01_k».proof.Proof.DownRight
public import proofs.«01_k».proof.Proof.DownLeft
public import proofs.«01_k».proof.Proof.UpRight
public import proofs.«01_k».proof.Proof.UpLeft
public import proofs.«01_k».proof.Proof.Merge
public import proofs.«01_k».proof.Proof.UpForward
public import proofs.«01_k».proof.Proof.BranchForward
public import proofs.«01_k».proof.Proof.OutForward
public import proofs.«01_k».proof.Proof.DownForward
public import proofs.«01_k».proof.Proof.BranchLeft
public import proofs.«01_k».proof.Proof.BranchLeftHalf
public import proofs.«01_k».proof.Proof.BranchRight
public import proofs.«01_k».proof.Proof.AdamIn
public import proofs.«01_k».proof.Proof.AdamSquare
public import proofs.«01_k».proof.Proof.AdamUp
public import proofs.«01_k».proof.Proof.AdamDown
public import proofs.«01_k».proof.Proof.AdamConv
public import proofs.«01_k».proof.Proof.AdamSmall
public import proofs.«01_k».proof.Proof.InLeft
public import proofs.«01_k».proof.Proof.NormGrad
public import proofs.«01_k».proof.Proof.ForgetRight
public import proofs.«01_k».proof.Proof.ForgetForward
public import proofs.«01_k».proof.Proof.InForward
public import proofs.«01_k».proof.Proof.HeadNorm
public import proofs.«01_k».proof.Proof.Conv
public import proofs.«01_k».proof.Proof.Final
public import proofs.«01_k».proof.Proof.NormForward
public import proofs.«01_k».proof.Proof.MergeForward

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  facts_finite,
  frame_Kernel, frame_KernelIdeal, fun m g _ => frame_KernelIdeal m g trivial,
  frame_ReferenceIdeal, fun m g _ => frame_ReferenceIdeal m g trivial,
  frame_Kernel2, frame_Kernel2Ideal, frame_Reference2Ideal,
  frame_Kernel3, frame_Kernel3Ideal, frame_Reference3Ideal,
  frame_Kernel4, frame_Kernel4Ideal, frame_Reference4Ideal,
  frame_Kernel5, frame_Kernel5Ideal, frame_Reference5Ideal,
  frame_Kernel6, frame_Kernel6Ideal, frame_Reference6Ideal,
  frame_Kernel7, frame_Kernel7Ideal, frame_Reference7Ideal,
  frame_Kernel8, frame_Kernel8Ideal, frame_Reference8Ideal,
  frame_Kernel9, frame_Kernel9Ideal, frame_Reference9Ideal,
  frame_Kernel10, frame_Kernel10Ideal, frame_Reference10Ideal,
  frame_Kernel11, frame_Kernel11Ideal, frame_Reference11Ideal,
  frame_Kernel12, frame_Kernel12Ideal, frame_Reference12Ideal,
  frame_Kernel13, frame_Kernel13Ideal, frame_Reference13Ideal,
  frame_Kernel14, frame_Kernel14Ideal, frame_Reference14Ideal,
  frame_Kernel15, frame_Kernel15Ideal, frame_Reference15Ideal,
  frame_Kernel16, frame_Kernel16Ideal, frame_Reference16Ideal,
  frame_Kernel17, frame_Kernel17Ideal, frame_Reference17Ideal,
  frame_Kernel18, frame_Kernel18Ideal, frame_Reference18Ideal,
  frame_Kernel19, frame_Kernel19Ideal, frame_Reference19Ideal,
  frame_Kernel20, frame_Kernel20Ideal, frame_Reference20Ideal,
  frame_Kernel21, frame_Kernel21Ideal, frame_Reference21Ideal,
  frame_Kernel22, frame_Kernel22Ideal, frame_Reference22Ideal,
  frame_Kernel23, frame_Kernel23Ideal, frame_Reference23Ideal,
  frame_Kernel24, frame_Kernel24Ideal, frame_Reference24Ideal,
  frame_Kernel25, frame_Kernel25Ideal, frame_Reference25Ideal,
  frame_Kernel26, frame_Kernel26Ideal, frame_Reference26Ideal,
  frame_Kernel27, frame_Kernel27Ideal, frame_Reference27Ideal,
  frame_Kernel28, frame_Kernel28Ideal, frame_Reference28Ideal,
  frame_Kernel29, frame_Kernel29Ideal, frame_Reference29Ideal,
  frame_Kernel30, frame_Kernel30Ideal, frame_Reference30Ideal,
  frame_Kernel31, frame_Kernel31Ideal, frame_Reference31Ideal,
  frame_Kernel32, frame_Kernel32Ideal, frame_Reference32Ideal,
  preserves, algebraic,
  preserves2, algebraic2,
  preserves3, algebraic3,
  preserves4, algebraic4,
  preserves5, algebraic5,
  preserves6, algebraic6,
  preserves7, algebraic7,
  preserves8, algebraic8,
  preserves9, algebraic9,
  preserves10, algebraic10,
  preserves11, algebraic11,
  preserves12, algebraic12,
  preserves13, algebraic13,
  preserves14, algebraic14,
  preserves15, algebraic15,
  preserves16, algebraic16,
  preserves17, algebraic17,
  preserves18, algebraic18,
  preserves19, algebraic19,
  preserves20, algebraic20,
  preserves21, algebraic21,
  preserves22, algebraic22,
  preserves23, algebraic23,
  preserves24, algebraic24,
  preserves25, algebraic25,
  preserves26, algebraic26,
  preserves27, algebraic27,
  preserves28, algebraic28,
  preserves29, algebraic29,
  preserves30, algebraic30,
  preserves31, algebraic31,
  preserves32, algebraic32⟩

end Cert.Proof

end
